-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Kernel46Ideal_finite46 [hPre_finite46 : Cert.Pre_finite46.Facts] (m : (ℓ : Loc Cert.Kernel46Ideal.nD Cert.Kernel46Ideal.τ Cert.Kernel46Ideal.sig) → Buf (Elt Ideal) ℓ) : Prop :=
  ∀ c : Dev Cert.Kernel46Ideal.nD,
    (Cert.Pre_finite46.fn (F := Ideal) (m ((c.tc : Thread Cert.Kernel46Ideal.nD Cert.Kernel46Ideal.τ).loc Cert.Kernel46Ideal.main_arg0)) (m ((c.tc : Thread Cert.Kernel46Ideal.nD Cert.Kernel46Ideal.τ).loc Cert.Kernel46Ideal.main_arg1)) (m ((c.tc : Thread Cert.Kernel46Ideal.nD Cert.Kernel46Ideal.τ).loc Cert.Kernel46Ideal.main_arg2))) = (fun _ => 1#1)

def Pre_Reference46Ideal (m : (ℓ : Loc Cert.Reference46Ideal.nD Cert.Reference46Ideal.τ Cert.Reference46Ideal.sig) → Buf (Elt Ideal) ℓ) : Prop :=
  True

def Pre_Reference46Ideal_finite46 [hPre_finite46 : Cert.Pre_finite46.Facts] (m : (ℓ : Loc Cert.Reference46Ideal.nD Cert.Reference46Ideal.τ Cert.Reference46Ideal.sig) → Buf (Elt Ideal) ℓ) : Prop :=
  ∀ c : Dev Cert.Reference46Ideal.nD,
    (Cert.Pre_finite46.fn (F := Ideal) (m ((c.tc : Thread Cert.Reference46Ideal.nD Cert.Reference46Ideal.τ).loc Cert.Reference46Ideal.main_arg0)) (m ((c.tc : Thread Cert.Reference46Ideal.nD Cert.Reference46Ideal.τ).loc Cert.Reference46Ideal.main_arg1)) (m ((c.tc : Thread Cert.Reference46Ideal.nD Cert.Reference46Ideal.τ).loc Cert.Reference46Ideal.main_arg2))) = (fun _ => 1#1)

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3)
      ∧ r.2.mem ((c.tc : Thread Cert.Kernel34.nD Cert.Kernel34.τ).loc Cert.Kernel34.main_arg4) = m ((c.tc : Thread Cert.Kernel34.nD Cert.Kernel34.τ).loc Cert.Kernel34.main_arg4))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
      ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3)
      ∧ r.2.mem ((c.tc : Thread Cert.Reference34Ideal.nD Cert.Reference34Ideal.τ).loc Cert.Reference34Ideal.main_arg4) = m ((c.tc : Thread Cert.Reference34Ideal.nD Cert.Reference34Ideal.τ).loc Cert.Reference34Ideal.main_arg4))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2)
      ∧ r.2.mem ((c.tc : Thread Cert.Kernel43.nD Cert.Kernel43.τ).loc Cert.Kernel43.main_arg3) = m ((c.tc : Thread Cert.Kernel43.nD Cert.Kernel43.τ).loc Cert.Kernel43.main_arg3))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
      ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2)
      ∧ r.2.mem ((c.tc : Thread Cert.Reference43Ideal.nD Cert.Reference43Ideal.τ).loc Cert.Reference43Ideal.main_arg3) = m ((c.tc : Thread Cert.Reference43Ideal.nD Cert.Reference43Ideal.τ).loc Cert.Reference43Ideal.main_arg3))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1)
      ∧ r.2.mem ((c.tc : Thread Cert.Kernel46.nD Cert.Kernel46.τ).loc Cert.Kernel46.main_arg2) = m ((c.tc : Thread Cert.Kernel46.nD Cert.Kernel46.τ).loc Cert.Kernel46.main_arg2))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
      ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2))
      ∧ r.2.sem = fun _ => 0)

def quiescent_Kernel46Ideal_pre_finite46 [hKernel46Ideal : Cert.Kernel46Ideal.Facts] [hPre_finite46 : Cert.Pre_finite46.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal_finite46 m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
      ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1)
      ∧ r.2.mem ((c.tc : Thread Cert.Reference46Ideal.nD Cert.Reference46Ideal.τ).loc Cert.Reference46Ideal.main_arg2) = m ((c.tc : Thread Cert.Reference46Ideal.nD Cert.Reference46Ideal.τ).loc Cert.Reference46Ideal.main_arg2))
      ∧ r.2.sem = fun _ => 0)

def quiescent_Reference46Ideal_pre_finite46 [hReference46Ideal : Cert.Reference46Ideal.Facts] [hPre_finite46 : Cert.Pre_finite46.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal_finite46 m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1)
      ∧ r.2.mem ((c.tc : Thread Cert.Reference46Ideal.nD Cert.Reference46Ideal.τ).loc Cert.Reference46Ideal.main_arg2) = m ((c.tc : Thread Cert.Reference46Ideal.nD Cert.Reference46Ideal.τ).loc Cert.Reference46Ideal.main_arg2))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0)
      ∧ r.2.mem ((c.tc : Thread Cert.Kernel47.nD Cert.Kernel47.τ).loc Cert.Kernel47.main_arg1) = m ((c.tc : Thread Cert.Kernel47.nD Cert.Kernel47.τ).loc Cert.Kernel47.main_arg1)
      ∧ r.2.mem ((c.tc : Thread Cert.Kernel47.nD Cert.Kernel47.τ).loc Cert.Kernel47.main_arg2) = m ((c.tc : Thread Cert.Kernel47.nD Cert.Kernel47.τ).loc Cert.Kernel47.main_arg2))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
      ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1)
      ∧ r.2.mem ((c.tc : Thread Cert.Reference47Ideal.nD Cert.Reference47Ideal.τ).loc Cert.Reference47Ideal.main_arg2) = m ((c.tc : Thread Cert.Reference47Ideal.nD Cert.Reference47Ideal.τ).loc Cert.Reference47Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)) (v2 : (c : Dev Cert.KernelIdeal.nD) → Buf (Elt Ideal) ((c.tc : Thread Cert.KernelIdeal.nD Cert.KernelIdeal.τ).loc Cert.KernelIdeal.main_v52_2)) (v3 : (c : Dev Cert.KernelIdeal.nD) → Buf (Elt Ideal) ((c.tc : Thread Cert.KernelIdeal.nD Cert.KernelIdeal.τ).loc Cert.KernelIdeal.main_v52_3)) (v4 : (c : Dev Cert.KernelIdeal.nD) → Buf (Elt Ideal) ((c.tc : Thread Cert.KernelIdeal.nD Cert.KernelIdeal.τ).loc Cert.KernelIdeal.main_v52_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_v52_2) = v2 c
          ∧ r.2.mem ((c.tc : Thread Cert.KernelIdeal.nD Cert.KernelIdeal.τ).loc Cert.KernelIdeal.main_v52_3) = v3 c
          ∧ r.2.mem ((c.tc : Thread Cert.KernelIdeal.nD Cert.KernelIdeal.τ).loc Cert.KernelIdeal.main_v52_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_v94) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_v28) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_v9) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v2_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_v2_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v75) = v0 c
          ∧ r.2.mem ((c.tc : Thread Cert.Reference4Ideal.nD Cert.Reference4Ideal.τ).loc Cert.Reference4Ideal.main_v54) = v1 c
          ∧ r.2.mem ((c.tc : Thread Cert.Reference4Ideal.nD Cert.Reference4Ideal.τ).loc Cert.Reference4Ideal.main_v58) = v2 c
          ∧ r.2.mem ((c.tc : Thread Cert.Reference4Ideal.nD Cert.Reference4Ideal.τ).loc Cert.Reference4Ideal.main_v37) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)) (v3 : (c : Dev Cert.Kernel6Ideal.nD) → Buf (Elt Ideal) ((c.tc : Thread Cert.Kernel6Ideal.nD Cert.Kernel6Ideal.τ).loc Cert.Kernel6Ideal.main_v1_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_v1_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_v29) = v1 c
          ∧ r.2.mem ((c.tc : Thread Cert.Reference6Ideal.nD Cert.Reference6Ideal.τ).loc Cert.Reference6Ideal.main_v26) = v2 c
          ∧ r.2.mem ((c.tc : Thread Cert.Reference6Ideal.nD Cert.Reference6Ideal.τ).loc Cert.Reference6Ideal.main_v35) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v15_0)) (v1 : (c : Dev Cert.Kernel11Ideal.nD) → Buf (Elt Ideal) ((c.tc : Thread Cert.Kernel11Ideal.nD Cert.Kernel11Ideal.τ).loc Cert.Kernel11Ideal.main_v15_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v15_0) = v0 c
          ∧ r.2.mem ((c.tc : Thread Cert.Kernel11Ideal.nD Cert.Kernel11Ideal.τ).loc Cert.Kernel11Ideal.main_v15_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_v15) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_v5) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v26) = v1 c
          ∧ r.2.mem ((c.tc : Thread Cert.Reference13Ideal.nD Cert.Reference13Ideal.τ).loc Cert.Reference13Ideal.main_v7) = v2 c
          ∧ r.2.mem ((c.tc : Thread Cert.Reference13Ideal.nD Cert.Reference13Ideal.τ).loc Cert.Reference13Ideal.main_v13) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_v26) = v1 c
          ∧ r.2.mem ((c.tc : Thread Cert.Reference14Ideal.nD Cert.Reference14Ideal.τ).loc Cert.Reference14Ideal.main_v7) = v2 c
          ∧ r.2.mem ((c.tc : Thread Cert.Reference14Ideal.nD Cert.Reference14Ideal.τ).loc Cert.Reference14Ideal.main_v13) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v26) = v1 c
          ∧ r.2.mem ((c.tc : Thread Cert.Reference15Ideal.nD Cert.Reference15Ideal.τ).loc Cert.Reference15Ideal.main_v7) = v2 c
          ∧ r.2.mem ((c.tc : Thread Cert.Reference15Ideal.nD Cert.Reference15Ideal.τ).loc Cert.Reference15Ideal.main_v13) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_v27) = v1 c
          ∧ r.2.mem ((c.tc : Thread Cert.Reference16Ideal.nD Cert.Reference16Ideal.τ).loc Cert.Reference16Ideal.main_v8) = v2 c
          ∧ r.2.mem ((c.tc : Thread Cert.Reference16Ideal.nD Cert.Reference16Ideal.τ).loc Cert.Reference16Ideal.main_v14) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_v27) = v1 c
          ∧ r.2.mem ((c.tc : Thread Cert.Reference17Ideal.nD Cert.Reference17Ideal.τ).loc Cert.Reference17Ideal.main_v8) = v2 c
          ∧ r.2.mem ((c.tc : Thread Cert.Reference17Ideal.nD Cert.Reference17Ideal.τ).loc Cert.Reference17Ideal.main_v14) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_v27) = v1 c
          ∧ r.2.mem ((c.tc : Thread Cert.Reference18Ideal.nD Cert.Reference18Ideal.τ).loc Cert.Reference18Ideal.main_v8) = v2 c
          ∧ r.2.mem ((c.tc : Thread Cert.Reference18Ideal.nD Cert.Reference18Ideal.τ).loc Cert.Reference18Ideal.main_v14) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_v27) = v1 c
          ∧ r.2.mem ((c.tc : Thread Cert.Reference19Ideal.nD Cert.Reference19Ideal.τ).loc Cert.Reference19Ideal.main_v8) = v2 c
          ∧ r.2.mem ((c.tc : Thread Cert.Reference19Ideal.nD Cert.Reference19Ideal.τ).loc Cert.Reference19Ideal.main_v14) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_v27) = v1 c
          ∧ r.2.mem ((c.tc : Thread Cert.Reference20Ideal.nD Cert.Reference20Ideal.τ).loc Cert.Reference20Ideal.main_v8) = v2 c
          ∧ r.2.mem ((c.tc : Thread Cert.Reference20Ideal.nD Cert.Reference20Ideal.τ).loc Cert.Reference20Ideal.main_v14) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_v27) = v1 c
          ∧ r.2.mem ((c.tc : Thread Cert.Reference21Ideal.nD Cert.Reference21Ideal.τ).loc Cert.Reference21Ideal.main_v8) = v2 c
          ∧ r.2.mem ((c.tc : Thread Cert.Reference21Ideal.nD Cert.Reference21Ideal.τ).loc Cert.Reference21Ideal.main_v14) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_v27) = v1 c
          ∧ r.2.mem ((c.tc : Thread Cert.Reference22Ideal.nD Cert.Reference22Ideal.τ).loc Cert.Reference22Ideal.main_v8) = v2 c
          ∧ r.2.mem ((c.tc : Thread Cert.Reference22Ideal.nD Cert.Reference22Ideal.τ).loc Cert.Reference22Ideal.main_v14) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_v27) = v1 c
          ∧ r.2.mem ((c.tc : Thread Cert.Reference23Ideal.nD Cert.Reference23Ideal.τ).loc Cert.Reference23Ideal.main_v8) = v2 c
          ∧ r.2.mem ((c.tc : Thread Cert.Reference23Ideal.nD Cert.Reference23Ideal.τ).loc Cert.Reference23Ideal.main_v14) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_v27) = v1 c
          ∧ r.2.mem ((c.tc : Thread Cert.Reference24Ideal.nD Cert.Reference24Ideal.τ).loc Cert.Reference24Ideal.main_v8) = v2 c
          ∧ r.2.mem ((c.tc : Thread Cert.Reference24Ideal.nD Cert.Reference24Ideal.τ).loc Cert.Reference24Ideal.main_v14) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v3) = v0 c
          ∧ r.2.mem ((c.tc : Thread Cert.Reference25Ideal.nD Cert.Reference25Ideal.τ).loc Cert.Reference25Ideal.main_v27) = v1 c
          ∧ r.2.mem ((c.tc : Thread Cert.Reference25Ideal.nD Cert.Reference25Ideal.τ).loc Cert.Reference25Ideal.main_v8) = v2 c
          ∧ r.2.mem ((c.tc : Thread Cert.Reference25Ideal.nD Cert.Reference25Ideal.τ).loc Cert.Reference25Ideal.main_v14) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v7) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v7) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v6) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v6) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v15)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v15) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v3) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v15)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v15) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v3) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v1) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v2) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v1) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v3) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)
      ∧ m' ((c.tc : Thread Cert.Reference34Ideal.nD Cert.Reference34Ideal.τ).loc Cert.Reference34Ideal.main_arg4) = m ((c.tc : Thread Cert.Kernel34Ideal.nD Cert.Kernel34Ideal.τ).loc Cert.Kernel34Ideal.main_arg4)) →
    ∃ (v0 : (c : Dev Cert.Kernel34Ideal.nD) → Buf (Elt Ideal) ((c.tc : Thread Cert.Kernel34Ideal.nD Cert.Kernel34Ideal.τ).loc Cert.Kernel34Ideal.main_v1_0)) (v1 : (c : Dev Cert.Kernel34Ideal.nD) → Buf (Elt Ideal) ((c.tc : Thread Cert.Kernel34Ideal.nD Cert.Kernel34Ideal.τ).loc Cert.Kernel34Ideal.main_v1_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v1_0) = v0 c
          ∧ r.2.mem ((c.tc : Thread Cert.Kernel34Ideal.nD Cert.Kernel34Ideal.τ).loc Cert.Kernel34Ideal.main_v1_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
          ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v18) = v0 c
          ∧ r.2.mem ((c.tc : Thread Cert.Reference34Ideal.nD Cert.Reference34Ideal.τ).loc Cert.Reference34Ideal.main_v19) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3)
          ∧ r.2.mem ((c.tc : Thread Cert.Reference34Ideal.nD Cert.Reference34Ideal.τ).loc Cert.Reference34Ideal.main_arg4) = m' ((c.tc : Thread Cert.Reference34Ideal.nD Cert.Reference34Ideal.τ).loc Cert.Reference34Ideal.main_arg4))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v15)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v15) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v8) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)) (v3 : (c : Dev Cert.Kernel36Ideal.nD) → Buf (Elt Ideal) ((c.tc : Thread Cert.Kernel36Ideal.nD Cert.Kernel36Ideal.τ).loc Cert.Kernel36Ideal.main_v0_3)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_v0_3) = v3 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v50) = v0 c
          ∧ r.2.mem ((c.tc : Thread Cert.Reference36Ideal.nD Cert.Reference36Ideal.τ).loc Cert.Reference36Ideal.main_v30) = v1 c
          ∧ r.2.mem ((c.tc : Thread Cert.Reference36Ideal.nD Cert.Reference36Ideal.τ).loc Cert.Reference36Ideal.main_v33) = v2 c
          ∧ r.2.mem ((c.tc : Thread Cert.Reference36Ideal.nD Cert.Reference36Ideal.τ).loc Cert.Reference36Ideal.main_v51) = v3 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)) →
    ∃ (v0 : (c : Dev Cert.Kernel37Ideal.nD) → Buf (Elt Ideal) ((c.tc : Thread Cert.Kernel37Ideal.nD Cert.Kernel37Ideal.τ).loc Cert.Kernel37Ideal.main_v1_0)) (v1 : (c : Dev Cert.Kernel37Ideal.nD) → Buf (Elt Ideal) ((c.tc : Thread Cert.Kernel37Ideal.nD Cert.Kernel37Ideal.τ).loc Cert.Kernel37Ideal.main_v1_1)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v1_0) = v0 c
          ∧ r.2.mem ((c.tc : Thread Cert.Kernel37Ideal.nD Cert.Kernel37Ideal.τ).loc Cert.Kernel37Ideal.main_v1_1) = v1 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v12) = v0 c
          ∧ r.2.mem ((c.tc : Thread Cert.Reference37Ideal.nD Cert.Reference37Ideal.τ).loc Cert.Reference37Ideal.main_v13) = v1 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v6) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)) →
    ∃ (v0 : (c : Dev Cert.Kernel39Ideal.nD) → Buf (Elt Ideal) ((c.tc : Thread Cert.Kernel39Ideal.nD Cert.Kernel39Ideal.τ).loc Cert.Kernel39Ideal.main_v1)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v1) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v3) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)) →
    ∃ (v0 : (c : Dev Cert.Kernel40Ideal.nD) → Buf (Elt Ideal) ((c.tc : Thread Cert.Kernel40Ideal.nD Cert.Kernel40Ideal.τ).loc Cert.Kernel40Ideal.main_v15)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v15) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v4) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)) →
    ∃ (v0 : (c : Dev Cert.Kernel41Ideal.nD) → Buf (Elt Ideal) ((c.tc : Thread Cert.Kernel41Ideal.nD Cert.Kernel41Ideal.τ).loc Cert.Kernel41Ideal.main_v0)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v7) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)) →
    ∃ (v0 : (c : Dev Cert.Kernel42Ideal.nD) → Buf (Elt Ideal) ((c.tc : Thread Cert.Kernel42Ideal.nD Cert.Kernel42Ideal.τ).loc Cert.Kernel42Ideal.main_v0_1)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0_1) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v14) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)
      ∧ m' ((c.tc : Thread Cert.Reference43Ideal.nD Cert.Reference43Ideal.τ).loc Cert.Reference43Ideal.main_arg3) = m ((c.tc : Thread Cert.Kernel43Ideal.nD Cert.Kernel43Ideal.τ).loc Cert.Kernel43Ideal.main_arg3)) →
    ∃ (v0 : (c : Dev Cert.Kernel43Ideal.nD) → Buf (Elt Ideal) ((c.tc : Thread Cert.Kernel43Ideal.nD Cert.Kernel43Ideal.τ).loc Cert.Kernel43Ideal.main_v0_0)) (v1 : (c : Dev Cert.Kernel43Ideal.nD) → Buf (Elt Ideal) ((c.tc : Thread Cert.Kernel43Ideal.nD Cert.Kernel43Ideal.τ).loc Cert.Kernel43Ideal.main_v0_1)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0_0) = v0 c
          ∧ r.2.mem ((c.tc : Thread Cert.Kernel43Ideal.nD Cert.Kernel43Ideal.τ).loc Cert.Kernel43Ideal.main_v0_1) = v1 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
          ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v12) = v0 c
          ∧ r.2.mem ((c.tc : Thread Cert.Reference43Ideal.nD Cert.Reference43Ideal.τ).loc Cert.Reference43Ideal.main_v25) = v1 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2)
          ∧ r.2.mem ((c.tc : Thread Cert.Reference43Ideal.nD Cert.Reference43Ideal.τ).loc Cert.Reference43Ideal.main_arg3) = m' ((c.tc : Thread Cert.Reference43Ideal.nD Cert.Reference43Ideal.τ).loc Cert.Reference43Ideal.main_arg3))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)) →
    ∃ (v0 : (c : Dev Cert.Kernel44Ideal.nD) → Buf (Elt Ideal) ((c.tc : Thread Cert.Kernel44Ideal.nD Cert.Kernel44Ideal.τ).loc Cert.Kernel44Ideal.main_v0)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0) = v0 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v23) = v0 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)) →
    ∃ (v0 : (c : Dev Cert.Kernel45Ideal.nD) → Buf (Elt Ideal) ((c.tc : Thread Cert.Kernel45Ideal.nD Cert.Kernel45Ideal.τ).loc Cert.Kernel45Ideal.main_v0)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0) = v0 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v10) = v0 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1))

def preserves_Kernel46_Kernel46Ideal : Prop :=
  True

def algebraic_Kernel46Ideal_Reference46Ideal_pre_finite46 [hKernel46Ideal : Cert.Kernel46Ideal.Facts] [hReference46Ideal : Cert.Reference46Ideal.Facts] [hPre_finite46 : Cert.Pre_finite46.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal_finite46 m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)
      ∧ m' ((c.tc : Thread Cert.Reference46Ideal.nD Cert.Reference46Ideal.τ).loc Cert.Reference46Ideal.main_arg2) = m ((c.tc : Thread Cert.Kernel46Ideal.nD Cert.Kernel46Ideal.τ).loc Cert.Kernel46Ideal.main_arg2)) →
    ∃ (v0 : (c : Dev Cert.Kernel46Ideal.nD) → Buf (Elt Ideal) ((c.tc : Thread Cert.Kernel46Ideal.nD Cert.Kernel46Ideal.τ).loc Cert.Kernel46Ideal.main_v0_0)) (v1 : (c : Dev Cert.Kernel46Ideal.nD) → Buf (Elt Ideal) ((c.tc : Thread Cert.Kernel46Ideal.nD Cert.Kernel46Ideal.τ).loc Cert.Kernel46Ideal.main_v0_1)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v0_0) = v0 c
          ∧ r.2.mem ((c.tc : Thread Cert.Kernel46Ideal.nD Cert.Kernel46Ideal.τ).loc Cert.Kernel46Ideal.main_v0_1) = v1 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
          ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v25) = v0 c
          ∧ r.2.mem ((c.tc : Thread Cert.Reference46Ideal.nD Cert.Reference46Ideal.τ).loc Cert.Reference46Ideal.main_v14) = v1 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1)
          ∧ r.2.mem ((c.tc : Thread Cert.Reference46Ideal.nD Cert.Reference46Ideal.τ).loc Cert.Reference46Ideal.main_arg2) = m' ((c.tc : Thread Cert.Reference46Ideal.nD Cert.Reference46Ideal.τ).loc Cert.Reference46Ideal.main_arg2))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)
      ∧ m' ((c.tc : Thread Cert.Reference47Ideal.nD Cert.Reference47Ideal.τ).loc Cert.Reference47Ideal.main_arg1) = m ((c.tc : Thread Cert.Kernel47Ideal.nD Cert.Kernel47Ideal.τ).loc Cert.Kernel47Ideal.main_arg1)
      ∧ m' ((c.tc : Thread Cert.Reference47Ideal.nD Cert.Reference47Ideal.τ).loc Cert.Reference47Ideal.main_arg2) = m ((c.tc : Thread Cert.Kernel47Ideal.nD Cert.Kernel47Ideal.τ).loc Cert.Kernel47Ideal.main_arg2)) →
    ∃ (v0 : (c : Dev Cert.Kernel47Ideal.nD) → Buf (Elt Ideal) ((c.tc : Thread Cert.Kernel47Ideal.nD Cert.Kernel47Ideal.τ).loc Cert.Kernel47Ideal.main_v0_0)) (v1 : (c : Dev Cert.Kernel47Ideal.nD) → Buf (Elt Ideal) ((c.tc : Thread Cert.Kernel47Ideal.nD Cert.Kernel47Ideal.τ).loc Cert.Kernel47Ideal.main_v0_1)) (v2 : (c : Dev Cert.Kernel47Ideal.nD) → Buf (Elt Ideal) ((c.tc : Thread Cert.Kernel47Ideal.nD Cert.Kernel47Ideal.τ).loc Cert.Kernel47Ideal.main_v0_2)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v0_0) = v0 c
          ∧ r.2.mem ((c.tc : Thread Cert.Kernel47Ideal.nD Cert.Kernel47Ideal.τ).loc Cert.Kernel47Ideal.main_v0_1) = v1 c
          ∧ r.2.mem ((c.tc : Thread Cert.Kernel47Ideal.nD Cert.Kernel47Ideal.τ).loc Cert.Kernel47Ideal.main_v0_2) = v2 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
          ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
          ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v69) = v0 c
          ∧ r.2.mem ((c.tc : Thread Cert.Reference47Ideal.nD Cert.Reference47Ideal.τ).loc Cert.Reference47Ideal.main_v70) = v1 c
          ∧ r.2.mem ((c.tc : Thread Cert.Reference47Ideal.nD Cert.Reference47Ideal.τ).loc Cert.Reference47Ideal.main_v71) = v2 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0)
          ∧ r.2.mem ((c.tc : Thread Cert.Reference47Ideal.nD Cert.Reference47Ideal.τ).loc Cert.Reference47Ideal.main_arg1) = m' ((c.tc : Thread Cert.Reference47Ideal.nD Cert.Reference47Ideal.τ).loc Cert.Reference47Ideal.main_arg1)
          ∧ r.2.mem ((c.tc : Thread Cert.Reference47Ideal.nD Cert.Reference47Ideal.τ).loc Cert.Reference47Ideal.main_arg2) = m' ((c.tc : Thread Cert.Reference47Ideal.nD Cert.Reference47Ideal.τ).loc Cert.Reference47Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hPre_finite : Cert.Pre_finite.Facts) (hPre_finite46 : Cert.Pre_finite46.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Kernel46Ideal_pre_finite46 (hKernel46Ideal := hKernel46Ideal) (hPre_finite46 := hPre_finite46)
    ∧ quiescent_Reference46Ideal (hReference46Ideal := hReference46Ideal)
    ∧ quiescent_Reference46Ideal_pre_finite46 (hReference46Ideal := hReference46Ideal) (hPre_finite46 := hPre_finite46)
    ∧ quiescent_Kernel47 (hKernel47 := hKernel47)
    ∧ quiescent_Kernel47Ideal (hKernel47Ideal := hKernel47Ideal)
    ∧ quiescent_Reference47Ideal (hReference47Ideal := hReference47Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal_pre_finite46 (hKernel46Ideal := hKernel46Ideal) (hReference46Ideal := hReference46Ideal) (hPre_finite46 := hPre_finite46)
    ∧ preserves_Kernel47_Kernel47Ideal
    ∧ algebraic_Kernel47Ideal_Reference47Ideal (hKernel47Ideal := hKernel47Ideal) (hReference47Ideal := hReference47Ideal)
-- ==== Pre_finite.lean ====
abbrev S4096x1536 : Shape := ⟨2, ![4096, 1536]⟩
abbrev S4096x128 : Shape := ⟨2, ![4096, 128]⟩
abbrev S4096x512 : Shape := ⟨2, ![4096, 512]⟩
abbrev S_ : Shape := ⟨0, ![]⟩

class Facts : Prop where
  bitsLt_bf16_f32 : FTy.bits .bf16 < FTy.bits .f32
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x1536 .bf16) (main_arg1 : FVec F S4096x128 .f32) (main_arg2 : FVec F S4096x512 .f32) : IVec S_ 1 :=
  let main_v0 : FVec F S4096x1536 .f32 := (extf .f32 · bitsLt_bf16_f32) main_arg0
  let main_v1 : FVec F S4096x1536 .f32 := Host.absf main_v0
  let main_cst : FVec F S_ .f32 := constant S_ .f32 0x7F800000#32
  let main_v2 : FVec F S4096x1536 .f32 := broadcastInDim S4096x1536 ![] bcast_S_S4096x1536 main_cst
  let main_v3 : IVec S4096x1536 1 := cmpf .olt main_v1 main_v2
  let main_c : IVec S_ 1 := constantI S_ 1 1#1
  let main_v4 : IVec S_ 1 := (fun x v => Host.reduce IntOp.andi x v reducesTo_S4096x1536_S_d0_1 h_S_) main_v3 main_c
  let main_v5 : FVec F S4096x128 .f32 := Host.absf main_arg1
  let main_cst_0 : FVec F S_ .f32 := constant S_ .f32 0x7F800000#32
  let main_v6 : FVec F S4096x128 .f32 := broadcastInDim S4096x128 ![] bcast_S_S4096x128 main_cst_0
  let main_v7 : IVec S4096x128 1 := cmpf .olt main_v5 main_v6
  let main_c_1 : IVec S_ 1 := constantI S_ 1 1#1
  let main_v8 : IVec S_ 1 := (fun x v => Host.reduce IntOp.andi x v reducesTo_S4096x128_S_d0_1 h_S_) main_v7 main_c_1
  let main_v9 : IVec S_ 1 := andi main_v4 main_v8
  let main_v10 : FVec F S4096x512 .f32 := Host.absf main_arg2
  let main_cst_2 : FVec F S_ .f32 := constant S_ .f32 0x7F800000#32
  let main_v11 : FVec F S4096x512 .f32 := broadcastInDim S4096x512 ![] bcast_S_S4096x512 main_cst_2
  let main_v12 : IVec S4096x512 1 := cmpf .olt main_v10 main_v11
  let main_c_3 : IVec S_ 1 := constantI S_ 1 1#1
  let main_v13 : IVec S_ 1 := (fun x v => Host.reduce IntOp.andi x v reducesTo_S4096x512_S_d0_1 h_S_) main_v12 main_c_3
  let main_v14 : IVec S_ 1 := andi main_v9 main_v13
  main_v14
-- ==== Pre_finite46.lean ====
abbrev S4096x1920 : Shape := ⟨2, ![4096, 1920]⟩
abbrev S1x1920 : Shape := ⟨2, ![1, 1920]⟩
abbrev S_ : Shape := ⟨0, ![]⟩

class Facts : Prop where
  bitsLt_bf16_f32 : FTy.bits .bf16 < FTy.bits .f32
  bcast_S_S4096x1920 : S_.BroadcastsInDim S4096x1920 (![] : Fin 0 → Fin S4096x1920.rank)
  reducesTo_S4096x1920_S_d0_1 : S4096x1920.ReducesTo [0, 1] S_
  h_S_ : 0 < S_.numel

variable [Facts]

def fn {F : FTy → Type} [FloatOps F] (main_arg0 : FVec F S4096x1920 .bf16) (main_arg1 : FVec F S1x1920 .f32) (main_arg2 : FVec F S4096x1920 .bf16) : IVec S_ 1 :=
  let main_v0 : FVec F S4096x1920 .f32 := (extf .f32 · bitsLt_bf16_f32) main_arg2
  let main_v1 : FVec F S4096x1920 .f32 := Host.absf main_v0
  let main_cst : FVec F S_ .f32 := constant S_ .f32 0x7F800000#32
  let main_v2 : FVec F S4096x1920 .f32 := broadcastInDim S4096x1920 ![] bcast_S_S4096x1920 main_cst
  let main_v3 : IVec S4096x1920 1 := cmpf .olt main_v1 main_v2
  let main_c : IVec S_ 1 := constantI S_ 1 1#1
  let main_v4 : IVec S_ 1 := (fun x v => Host.reduce IntOp.andi x v reducesTo_S4096x1920_S_d0_1 h_S_) main_v3 main_c
  main_v4
-- ==== Kernel.lean ====
abbrev S4096x1536 : Shape := ⟨2, ![4096, 1536]⟩
abbrev S4096x128 : Shape := ⟨2, ![4096, 128]⟩
abbrev S4096x512 : Shape := ⟨2, ![4096, 512]⟩
abbrev S4096x8 : Shape := ⟨2, ![4096, 8]⟩
abbrev S2x2048x8 : Shape := ⟨3, ![2, 2048, 8]⟩
abbrev S2x8x2048 : Shape := ⟨3, ![2, 8, 2048]⟩
abbrev S2x2048x8x64 : Shape := ⟨4, ![2, 2048, 8, 64]⟩
abbrev S2x8x2048x2048 : Shape := ⟨4, ![2, 8, 2048, 2048]⟩
abbrev S_ : Shape := ⟨0, ![]⟩
abbrev S2x8x2048x1 : Shape := ⟨4, ![2, 8, 2048, 1]⟩
abbrev S2x8x1x2048 : Shape := ⟨4, ![2, 8, 1, 2048]⟩
abbrev S2048x2048 : Shape := ⟨2, ![2048, 2048]⟩
abbrev S2x8x64x2048 : Shape := ⟨4, ![2, 8, 64, 2048]⟩
abbrev S2x4x2x2048 : Shape := ⟨4, ![2, 4, 2, 2048]⟩
abbrev S2x2048x4x2 : Shape := ⟨4, ![2, 2048, 4, 2]⟩
abbrev S2x2048x4x128 : Shape := ⟨4, ![2, 2048, 4, 128]⟩
abbrev S512x128 : Shape := ⟨2, ![512, 128]⟩
abbrev S2048x128 : Shape := ⟨2, ![2048, 128]⟩
abbrev S1x8x2048 : Shape := ⟨3, ![1, 8, 2048]⟩
abbrev S1x128 : Shape := ⟨2, ![1, 128]⟩
abbrev S512 : Shape := ⟨1, ![512]⟩
abbrev S512x1 : Shape := ⟨2, ![512, 1]⟩
abbrev S512x512 : Shape := ⟨2, ![512, 512]⟩
abbrev S1x8x512 : Shape := ⟨3, ![1, 8, 512]⟩
abbrev S8x512 : Shape := ⟨2, ![8, 512]⟩
abbrev S1x512 : Shape := ⟨2, ![1, 512]⟩
abbrev S2048 : Shape := ⟨1, ![2048]⟩
abbrev S2048x1 : Shape := ⟨2, ![2048, 1]⟩

abbrev nBuf : Space → Nat
  | .hbm => 81
  | .vmem => 28
  | .smem => 0
  | _ => 0

abbrev bufTy : (tb : Table) → Fin (tcTables nBuf tb) → BufTy
  | .hbm, ⟨0, _⟩ => ⟨S4096x1536, .bf16⟩
  | .hbm, ⟨1, _⟩ => ⟨S4096x128, .f32⟩
  | .hbm, ⟨2, _⟩ => ⟨S4096x512, .f32⟩
  | .hbm, ⟨3, _⟩ => ⟨S4096x8, .f32⟩
  | .hbm, ⟨4, _⟩ => ⟨S2x2048x8, .f32⟩
  | .hbm, ⟨5, _⟩ => ⟨S2x8x2048, .f32⟩
  | .hbm, ⟨6, _⟩ => ⟨S4096x1536, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x8, .f32⟩
  | .hbm, ⟨11, _⟩ => ⟨S2x2048x8, .f32⟩
  | .hbm, ⟨12, _⟩ => ⟨S2x2048x8x64, .f32⟩
  | .hbm, ⟨13, _⟩ => ⟨S2x2048x8x64, .f32⟩
  | .hbm, ⟨14, _⟩ => ⟨S2x2048x8x64, .f32⟩
  | .hbm, ⟨15, _⟩ => ⟨S2x8x2048x2048, .f32⟩
  | .hbm, ⟨16, _⟩ => ⟨S_, .f32⟩
  | .hbm, ⟨17, _⟩ => ⟨S2x8x2048x2048, .f32⟩
  | .hbm, ⟨18, _⟩ => ⟨S2x8x2048x2048, .f32⟩
  | .hbm, ⟨19, _⟩ => ⟨S2x8x2048, .f32⟩
  | .hbm, ⟨20, _⟩ => ⟨S2x8x2048, .f32⟩
  | .hbm, ⟨21, _⟩ => ⟨S2x8x2048x1, .f32⟩
  | .hbm, ⟨22, _⟩ => ⟨S2x8x1x2048, .f32⟩
  | .hbm, ⟨23, _⟩ => ⟨S2x8x2048x2048, .f32⟩
  | .hbm, ⟨24, _⟩ => ⟨S2x8x2048x2048, .f32⟩
  | .hbm, ⟨25, _⟩ => ⟨S2x8x2048x2048, .f32⟩
  | .hbm, ⟨26, _⟩ => ⟨S_, .i1⟩
  | .hbm, ⟨27, _⟩ => ⟨S2048x2048, .i1⟩
  | .hbm, ⟨28, _⟩ => ⟨S2048x2048, .i32⟩
  | .hbm, ⟨29, _⟩ => ⟨S_, .i32⟩
  | .hbm, ⟨30, _⟩ => ⟨S2048x2048, .i32⟩
  | .hbm, ⟨31, _⟩ => ⟨S2048x2048, .i32⟩
  | .hbm, ⟨32, _⟩ => ⟨S2048x2048, .i32⟩
  | .hbm, ⟨33, _⟩ => ⟨S2048x2048, .i1⟩
  | .hbm, ⟨34, _⟩ => ⟨S_, .i1⟩
  | .hbm, ⟨35, _⟩ => ⟨S2048x2048, .i1⟩
  | .hbm, ⟨36, _⟩ => ⟨S2048x2048, .i1⟩
  | .hbm, ⟨37, _⟩ => ⟨S2x8x2048x2048, .f32⟩
  | .hbm, ⟨38, _⟩ => ⟨S_, .f32⟩
  | .hbm, ⟨39, _⟩ => ⟨S_, .f32⟩
  | .hbm, ⟨40, _⟩ => ⟨S2x8x2048x2048, .i1⟩
  | .hbm, ⟨41, _⟩ => ⟨S2x8x2048x2048, .f32⟩
  | .hbm, ⟨42, _⟩ => ⟨S2x8x2048x2048, .f32⟩
  | .hbm, ⟨43, _⟩ => ⟨S_, .f32⟩
  | .hbm, ⟨44, _⟩ => ⟨S2x8x2048, .f32⟩
  | .hbm, ⟨45, _⟩ => ⟨S_, .f32⟩
  | .hbm, ⟨46, _⟩ => ⟨S2x8x2048, .f32⟩
  | .hbm, ⟨47, _⟩ => ⟨S2x8x2048, .f32⟩
  | .hbm, ⟨48, _⟩ => ⟨S2x8x2048x1, .f32⟩
  | .hbm, ⟨49, _⟩ => ⟨S2x8x2048x2048, .f32⟩
  | .hbm, ⟨50, _⟩ => ⟨S2x8x2048x2048, .f32⟩
  | .hbm, ⟨51, _⟩ => ⟨S2x8x2048x2048, .f32⟩
  | .hbm, ⟨52, _⟩ => ⟨S_, .f32⟩
  | .hbm, ⟨53, _⟩ => ⟨S2x8x2048, .f32⟩
  | .hbm, ⟨54, _⟩ => ⟨S2x8x2048x1, .f32⟩
  | .hbm, ⟨55, _⟩ => ⟨S2x8x2048x2048, .f32⟩
  | .hbm, ⟨56, _⟩ => ⟨S2x8x2048x2048, .f32⟩
  | .hbm, ⟨57, _⟩ => ⟨S2x8x64x2048, .f32⟩
  | .hbm, ⟨58, _⟩ => ⟨S2x2048x8x64, .f32⟩
  | .hbm, ⟨59, _⟩ => ⟨S_, .f32⟩
  | .hbm, ⟨60, _⟩ => ⟨S2x8x2048, .f32⟩
  | .hbm, ⟨61, _⟩ => ⟨S2x8x2048x1, .f32⟩
  | .hbm, ⟨62, _⟩ => ⟨S2x8x2048x2048, .f32⟩
  | .hbm, ⟨63, _⟩ => ⟨S2x8x2048x2048, .f32⟩
  | .hbm, ⟨64, _⟩ => ⟨S2x8x2048x2048, .f32⟩
  | .hbm, ⟨65, _⟩ => ⟨S_, .f32⟩
  | .hbm, ⟨66, _⟩ => ⟨S2x8x2048, .f32⟩
  | .hbm, ⟨67, _⟩ => ⟨S2x8x2048, .f32⟩
  | .hbm, ⟨68, _⟩ => ⟨S2x8x2048, .f32⟩
  | .hbm, ⟨69, _⟩ => ⟨S2x4x2x2048, .f32⟩
  | .hbm, ⟨70, _⟩ => ⟨S2x2048x4x2, .f32⟩
  | .hbm, ⟨71, _⟩ => ⟨S_, .i32⟩
  | .hbm, ⟨72, _⟩ => ⟨S_, .f32⟩
  | .hbm, ⟨73, _⟩ => ⟨S2x2048x4x128, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S4096x512, .f32⟩
  | .hbm, ⟨78, _⟩ => ⟨S4096x512, .f32⟩
  | .hbm, ⟨79, _⟩ => ⟨S4096x512, .f32⟩
  | .hbm, ⟨80, _⟩ => ⟨S4096x512, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .f32⟩
  | .local _ .vmem, ⟨7, _⟩ => ⟨S512x128, .f32⟩
  | .local _ .vmem, ⟨8, _⟩ => ⟨S1x8x2048, .f32⟩
  | .local _ .vmem, ⟨9, _⟩ => ⟨S1x8x2048, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S512x128, .f32⟩
  | .local _ .vmem, ⟨23, _⟩ => ⟨S512x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c : Ref sig .tc := ⟨.hbm, 26, rfl⟩
abbrev main_v22 : Ref sig .tc := ⟨.hbm, 27, rfl⟩
abbrev main_call0_v0 : Ref sig .tc := ⟨.hbm, 28, rfl⟩
abbrev main_call0_c : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_0 : Ref sig .tc := ⟨.hbm, 34, rfl⟩
abbrev main_call0_v5 : Ref sig .tc := ⟨.hbm, 35, rfl⟩
abbrev main_v23 : Ref sig .tc := ⟨.hbm, 36, rfl⟩
abbrev main_v24 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v25 : Ref sig .tc := ⟨.hbm, 42, rfl⟩
abbrev main_cst_1 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_6 : Ref sig .tc := ⟨.hbm, 71, rfl⟩
abbrev main_call2_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52_0 : Ref sig .tc := ⟨.hbm, 76, rfl⟩
abbrev main_v52_1 : Ref sig .tc := ⟨.hbm, 77, rfl⟩
abbrev main_v52_2 : Ref sig .tc := ⟨.hbm, 78, rfl⟩
abbrev main_v52_3 : Ref sig .tc := ⟨.hbm, 79, rfl⟩
abbrev main_v52_4 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![2, 4, 4], ![false, false, false]⟩

@[reducible] def k0_t1_loop (i : grid0.Coords) : Scf.Loop 32 :=
  let c0_i32_43 : BitVec 32 := 0#32
  let arg2 : BitVec 32 := BitVec.ofNat 32 (i 2).val
  let v113 : BitVec 32 := Scalar.subi arg2 c0_i32_43
  let c1_i32_44 : BitVec 32 := 1#32
  let v115 : BitVec 32 := Scalar.divsi v113 c1_i32_44
  let v116 : BitVec 32 := Scalar.muli v115 c1_i32_44
  let v117 : BitVec 32 := Scalar.addi c0_i32_43 v116
  let c1_i32_45 : BitVec 32 := 1#32
  ⟨c0_i32_43, v117, c1_i32_45⟩
def k0_mult1 (i : grid0.Coords) (k0_t1 : Fin (k0_t1_loop i).trips) : BitVec 32 :=
  let c0_i32_43 : BitVec 32 := 0#32
  let c1_i32_45 : BitVec 32 := 1#32
  let arg18 : BitVec 32 := Scf.iv c0_i32_43 c1_i32_45 k0_t1
  let c512_i32_96 : BitVec 32 := 512#32
  let v268 : BitVec 32 := Scalar.muli arg18 c512_i32_96
  v268
def k0_off1 (i : grid0.Coords) (k0_t1 : Fin (k0_t1_loop i).trips) : Fin 2 → Nat :=
  let c0_i32_43 : BitVec 32 := 0#32
  let c1_i32_45 : BitVec 32 := 1#32
  let arg18 : BitVec 32 := Scf.iv c0_i32_43 c1_i32_45 k0_t1
  let c512_i32_96 : BitVec 32 := 512#32
  let v268 : BitVec 32 := Scalar.muli arg18 c512_i32_96
  let v269 : BitVec 32 := v268
  let v270 : Index := Scalar.indexCast v269
  let c0_97 : Index := 0#32
  ![v270.toNat, 0]
def k0_off2 (i : grid0.Coords) (k0_t1 : Fin (k0_t1_loop i).trips) : Fin 3 → Nat :=
  let c0_99 : Index := 0#32
  let c0_100 : Index := 0#32
  let c0_i32_43 : BitVec 32 := 0#32
  let c1_i32_45 : BitVec 32 := 1#32
  let arg18 : BitVec 32 := Scf.iv c0_i32_43 c1_i32_45 k0_t1
  let c512_i32_96 : BitVec 32 := 512#32
  let v268 : BitVec 32 := Scalar.muli arg18 c512_i32_96
  let v269 : BitVec 32 := v268
  let v274 : Index := Scalar.indexCast v269
  ![0, 0, v274.toNat]
@[reducible] def k0_t2_loop (i : grid0.Coords) : Scf.Loop 32 :=
  let c0_i32_43 : BitVec 32 := 0#32
  let arg2 : BitVec 32 := BitVec.ofNat 32 (i 2).val
  let v113 : BitVec 32 := Scalar.subi arg2 c0_i32_43
  let c1_i32_44 : BitVec 32 := 1#32
  let v115 : BitVec 32 := Scalar.divsi v113 c1_i32_44
  let v116 : BitVec 32 := Scalar.muli v115 c1_i32_44
  let v117 : BitVec 32 := Scalar.addi c0_i32_43 v116
  let v114 : BitVec 32 := Scalar.addi c0_i32_43 v113
  let c1_i32_46 : BitVec 32 := 1#32
  ⟨v117, v114, c1_i32_46⟩
def k0_mult2 (i : grid0.Coords) (k0_t2 : Fin (k0_t2_loop i).trips) : BitVec 32 :=
  let c0_i32_43 : BitVec 32 := 0#32
  let arg2 : BitVec 32 := BitVec.ofNat 32 (i 2).val
  let v113 : BitVec 32 := Scalar.subi arg2 c0_i32_43
  let c1_i32_44 : BitVec 32 := 1#32
  let v115 : BitVec 32 := Scalar.divsi v113 c1_i32_44
  let v116 : BitVec 32 := Scalar.muli v115 c1_i32_44
  let v117 : BitVec 32 := Scalar.addi c0_i32_43 v116
  let c1_i32_46 : BitVec 32 := 1#32
  let arg18 : BitVec 32 := Scf.iv v117 c1_i32_46 k0_t2
  let c512_i32_96 : BitVec 32 := 512#32
  let v268 : BitVec 32 := Scalar.muli arg18 c512_i32_96
  v268
def k0_off3 (i : grid0.Coords) (k0_t2 : Fin (k0_t2_loop i).trips) : Fin 2 → Nat :=
  let c0_i32_43 : BitVec 32 := 0#32
  let arg2 : BitVec 32 := BitVec.ofNat 32 (i 2).val
  let v113 : BitVec 32 := Scalar.subi arg2 c0_i32_43
  let c1_i32_44 : BitVec 32 := 1#32
  let v115 : BitVec 32 := Scalar.divsi v113 c1_i32_44
  let v116 : BitVec 32 := Scalar.muli v115 c1_i32_44
  let v117 : BitVec 32 := Scalar.addi c0_i32_43 v116
  let c1_i32_46 : BitVec 32 := 1#32
  let arg18 : BitVec 32 := Scf.iv v117 c1_i32_46 k0_t2
  let c512_i32_96 : BitVec 32 := 512#32
  let v268 : BitVec 32 := Scalar.muli arg18 c512_i32_96
  let v269 : BitVec 32 := v268
  let v270 : Index := Scalar.indexCast v269
  let c0_97 : Index := 0#32
  ![v270.toNat, 0]
def k0_off4 (i : grid0.Coords) (k0_t2 : Fin (k0_t2_loop i).trips) : Fin 3 → Nat :=
  let c0_99 : Index := 0#32
  let c0_100 : Index := 0#32
  let c0_i32_43 : BitVec 32 := 0#32
  let arg2 : BitVec 32 := BitVec.ofNat 32 (i 2).val
  let v113 : BitVec 32 := Scalar.subi arg2 c0_i32_43
  let c1_i32_44 : BitVec 32 := 1#32
  let v115 : BitVec 32 := Scalar.divsi v113 c1_i32_44
  let v116 : BitVec 32 := Scalar.muli v115 c1_i32_44
  let v117 : BitVec 32 := Scalar.addi c0_i32_43 v116
  let c1_i32_46 : BitVec 32 := 1#32
  let arg18 : BitVec 32 := Scf.iv v117 c1_i32_46 k0_t2
  let c512_i32_96 : BitVec 32 := 512#32
  let v268 : BitVec 32 := Scalar.muli arg18 c512_i32_96
  let v269 : BitVec 32 := v268
  let v274 : Index := Scalar.indexCast v269
  ![0, 0, v274.toNat]
def k0_mult3 (i : grid0.Coords) : BitVec 32 :=
  let arg2 : BitVec 32 := BitVec.ofNat 32 (i 2).val
  let c512_i32 : BitVec 32 := 512#32
  let v120 : BitVec 32 := Scalar.muli arg2 c512_i32
  v120
def k0_off5 (i : grid0.Coords) : Fin 2 → Nat :=
  let arg2 : BitVec 32 := BitVec.ofNat 32 (i 2).val
  let c512_i32 : BitVec 32 := 512#32
  let v120 : BitVec 32 := Scalar.muli arg2 c512_i32
  let v121 : BitVec 32 := v120
  let v122 : Index := Scalar.indexCast v121
  let c0_47 : Index := 0#32
  ![v122.toNat, 0]
def k0_off6 (i : grid0.Coords) : Fin 3 → Nat :=
  let c0_49 : Index := 0#32
  let c0_50 : Index := 0#32
  let arg2 : BitVec 32 := BitVec.ofNat 32 (i 2).val
  let c512_i32 : BitVec 32 := 512#32
  let v120 : BitVec 32 := Scalar.muli arg2 c512_i32
  let v121 : BitVec 32 := v120
  let v126 : Index := Scalar.indexCast v121
  ![0, 0, v126.toNat]
def k0_cond2 (i : grid0.Coords) : BitVec 1 :=
  let arg2 : BitVec 32 := BitVec.ofNat 32 (i 2).val
  let c3_i32 : BitVec 32 := 3#32
  let v265 : BitVec 1 := Scalar.cmpi .eq arg2 c3_i32
  let v266 : BitVec 32 := Scalar.extui v265
  let c0_i32_95 : BitVec 32 := 0#32
  let v267 : BitVec 1 := Scalar.cmpi .ne v266 c0_i32_95
  v267

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S4096x1536 : Shape := ⟨2, ![4096, 1536]⟩
abbrev S4096x128 : Shape := ⟨2, ![4096, 128]⟩
abbrev S4096x512 : Shape := ⟨2, ![4096, 512]⟩
abbrev S4096x8 : Shape := ⟨2, ![4096, 8]⟩
abbrev S2x2048x8 : Shape := ⟨3, ![2, 2048, 8]⟩
abbrev S2x2048x8x64 : Shape := ⟨4, ![2, 2048, 8, 64]⟩
abbrev S2x8x2048x2048 : Shape := ⟨4, ![2, 8, 2048, 2048]⟩
abbrev S_ : Shape := ⟨0, ![]⟩
abbrev S2x8x2048 : Shape := ⟨3, ![2, 8, 2048]⟩
abbrev S2x8x2048x1 : Shape := ⟨4, ![2, 8, 2048, 1]⟩
abbrev S2x8x1x2048 : Shape := ⟨4, ![2, 8, 1, 2048]⟩
abbrev S2048x2048 : Shape := ⟨2, ![2048, 2048]⟩
abbrev S2x8x64x2048 : Shape := ⟨4, ![2, 8, 64, 2048]⟩
abbrev S2x8x2048x64 : Shape := ⟨4, ![2, 8, 2048, 64]⟩
abbrev S4096x4x2 : Shape := ⟨3, ![4096, 4, 2]⟩
abbrev S4096x4x128 : Shape := ⟨3, ![4096, 4, 128]⟩

abbrev nBuf : Space → Nat
  | .hbm => 137
  | .vmem => 0
  | .smem => 0
  | _ => 0

abbrev hbmTy0_0 (i : Nat) : BufTy := match i % 128 with
  | 0 => ⟨S4096x1536, .bf16⟩
  | 1 => ⟨S4096x128, .f32⟩
  | 2 => ⟨S4096x512, .f32⟩
  | 3 => ⟨S4096x1536, .f32⟩
  | 4 => ⟨S4096x512, .f32⟩
  | 5 => ⟨S4096x512, .f32⟩
  | 6 => ⟨S4096x512, .f32⟩
  | 7 => ⟨S4096x8, .f32⟩
  | 8 => ⟨S2x2048x8, .f32⟩
  | 9 => ⟨S2x2048x8x64, .f32⟩
  | 10 => ⟨S2x2048x8x64, .f32⟩
  | 11 => ⟨S2x2048x8x64, .f32⟩
  | 12 => ⟨S2x8x2048x2048, .f32⟩
  | 13 => ⟨S_, .f32⟩
  | 14 => ⟨S2x8x2048x2048, .f32⟩
  | 15 => ⟨S2x8x2048x2048, .f32⟩
  | 16 => ⟨S2x8x2048, .f32⟩
  | 17 => ⟨S2x8x2048, .f32⟩
  | 18 => ⟨S2x8x2048x1, .f32⟩
  | 19 => ⟨S2x8x1x2048, .f32⟩
  | 20 => ⟨S2x8x2048x2048, .f32⟩
  | 21 => ⟨S2x8x2048x2048, .f32⟩
  | 22 => ⟨S2x8x2048x2048, .f32⟩
  | 23 => ⟨S_, .i1⟩
  | 24 => ⟨S2048x2048, .i1⟩
  | 25 => ⟨S2048x2048, .i32⟩
  | 26 => ⟨S_, .i32⟩
  | 27 => ⟨S2048x2048, .i32⟩
  | 28 => ⟨S2048x2048, .i32⟩
  | 29 => ⟨S2048x2048, .i32⟩
  | 30 => ⟨S2048x2048, .i1⟩
  | 31 => ⟨S_, .i1⟩
  | 32 => ⟨S2048x2048, .i1⟩
  | 33 => ⟨S2048x2048, .i1⟩
  | 34 => ⟨S2x8x2048x2048, .f32⟩
  | 35 => ⟨S_, .f32⟩
  | 36 => ⟨S_, .f32⟩
  | 37 => ⟨S2x8x2048x2048, .i1⟩
  | 38 => ⟨S2x8x2048x2048, .f32⟩
  | 39 => ⟨S2x8x2048x2048, .f32⟩
  | 40 => ⟨S_, .f32⟩
  | 41 => ⟨S2x8x2048x2048, .f32⟩
  | 42 => ⟨S_, .f32⟩
  | 43 => ⟨S2x8x2048, .f32⟩
  | 44 => ⟨S2x8x2048x1, .f32⟩
  | 45 => ⟨S2x8x2048x2048, .f32⟩
  | 46 => ⟨S2x8x2048x2048, .i1⟩
  | 47 => ⟨S2x8x2048x2048, .f32⟩
  | 48 => ⟨S_, .f32⟩
  | 49 => ⟨S2x8x2048, .f32⟩
  | 50 => ⟨S_, .f32⟩
  | 51 => ⟨S2x8x2048, .f32⟩
  | 52 => ⟨S2x8x2048, .f32⟩
  | 53 => ⟨S_, .f32⟩
  | 54 => ⟨S2x8x2048, .f32⟩
  | 55 => ⟨S2x8x2048, .i1⟩
  | 56 => ⟨S_, .f32⟩
  | 57 => ⟨S2x8x2048, .f32⟩
  | 58 => ⟨S2x8x2048, .i1⟩
  | 59 => ⟨S_, .f32⟩
  | 60 => ⟨S2x8x2048, .f32⟩
  | 61 => ⟨S_, .f32⟩
  | 62 => ⟨S2x8x2048, .f32⟩
  | 63 => ⟨S_, .f32⟩
  | 64 => ⟨S2x8x2048, .f32⟩
  | 65 => ⟨S2x8x2048, .f32⟩
  | 66 => ⟨S2x8x2048, .f32⟩
  | 67 => ⟨S2x8x2048x1, .f32⟩
  | 68 => ⟨S2x8x2048x2048, .f32⟩
  | 69 => ⟨S2x8x2048x2048, .f32⟩
  | 70 => ⟨S2x8x2048x2048, .f32⟩
  | 71 => ⟨S_, .f32⟩
  | 72 => ⟨S2x8x2048, .f32⟩
  | 73 => ⟨S2x8x2048x1, .f32⟩
  | 74 => ⟨S2x8x2048x2048, .f32⟩
  | 75 => ⟨S2x8x2048x2048, .f32⟩
  | 76 => ⟨S2x8x2048x1, .f32⟩
  | 77 => ⟨S_, .f32⟩
  | 78 => ⟨S2x8x2048x1, .f32⟩
  | 79 => ⟨S2x8x2048x1, .f32⟩
  | 80 => ⟨S2x8x64x2048, .f32⟩
  | 81 => ⟨S2x2048x8x64, .f32⟩
  | 82 => ⟨S2x2048x8x64, .f32⟩
  | 83 => ⟨S2x8x64x2048, .f32⟩
  | 84 => ⟨S2x8x2048x2048, .f32⟩
  | 85 => ⟨S2x8x64x2048, .f32⟩
  | 86 => ⟨S2x2048x8x64, .f32⟩
  | 87 => ⟨S2x8x2048x2048, .f32⟩
  | 88 => ⟨S2x8x2048x2048, .f32⟩
  | 89 => ⟨S2x8x2048x2048, .f32⟩
  | 90 => ⟨S_, .f32⟩
  | 91 => ⟨S2x8x2048, .f32⟩
  | 92 => ⟨S2x8x2048x1, .f32⟩
  | 93 => ⟨S2x8x2048x1, .f32⟩
  | 94 => ⟨S2x8x2048x2048, .f32⟩
  | 95 => ⟨S2x8x2048x2048, .f32⟩
  | 96 => ⟨S_, .f32⟩
  | 97 => ⟨S2x8x2048, .f32⟩
  | 98 => ⟨S2x8x2048x2048, .f32⟩
  | 99 => ⟨S2x8x2048x2048, .f32⟩
  | 100 => ⟨S2x8x2048x2048, .f32⟩
  | 101 => ⟨S_, .f32⟩
  | 102 => ⟨S2x8x2048x2048, .f32⟩
  | 103 => ⟨S2x8x2048x2048, .f32⟩
  | 104 => ⟨S_, .f32⟩
  | 105 => ⟨S2x8x2048, .f32⟩
  | 106 => ⟨S2x8x2048x1, .f32⟩
  | 107 => ⟨S2x8x2048x2048, .f32⟩
  | 108 => ⟨S_, .f32⟩
  | 109 => ⟨S2x8x2048, .f32⟩
  | 110 => ⟨S2x8x1x2048, .f32⟩
  | 111 => ⟨S_, .f32⟩
  | 112 => ⟨S2x8x2048, .f32⟩
  | 113 => ⟨S_, .f32⟩
  | 114 => ⟨S2x8x2048, .f32⟩
  | 115 => ⟨S2x2048x8, .f32⟩
  | 116 => ⟨S2x2048x8, .f32⟩
  | 117 => ⟨S_, .f32⟩
  | 118 => ⟨S2x8x2048x2048, .f32⟩
  | 119 => ⟨S2x8x2048x2048, .f32⟩
  | 120 => ⟨S2x8x2048x64, .f32⟩
  | 121 => ⟨S2x2048x8x64, .f32⟩
  | 122 => ⟨S2x8x2048x64, .f32⟩
  | 123 => ⟨S2x2048x8x64, .f32⟩
  | 124 => ⟨S4096x512, .f32⟩
  | 125 => ⟨S4096x512, .f32⟩
  | 126 => ⟨S4096x512, .f32⟩
  | 127 => ⟨S4096x4x2, .f32⟩
  | _ => ⟨S4096x1536, .bf16⟩

abbrev hbmTy0_1 (i : Nat) : BufTy := match i % 128 with
  | 0 => ⟨S_, .i32⟩
  | 1 => ⟨S_, .f32⟩
  | 2 => ⟨S4096x4x128, .f32⟩
  | 3 => ⟨S4096x512, .f32⟩
  | 4 => ⟨S4096x4x2, .f32⟩
  | 5 => ⟨S_, .i32⟩
  | 6 => ⟨S_, .f32⟩
  | 7 => ⟨S4096x4x128, .f32⟩
  | 8 => ⟨S4096x512, .f32⟩
  | _ => ⟨S4096x1536, .bf16⟩

abbrev hbmTy (i : Nat) : BufTy := match i / 128 with
  | 0 => hbmTy0_0 i
  | 1 => hbmTy0_1 i
  | _ => ⟨S4096x1536, .bf16⟩

abbrev bufTy : (tb : Table) → Fin (tcTables nBuf tb) → BufTy
  | .hbm, ⟨i, _⟩ => hbmTy i
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c : Ref sig .tc := ⟨.hbm, 23, rfl⟩
abbrev main_v19 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_0 : Ref sig .tc := ⟨.hbm, 31, rfl⟩
abbrev main_call0_v5 : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_call1_v0 : Ref sig .tc := ⟨.hbm, 36, rfl⟩
abbrev main_v22_1 : Ref sig .tc := ⟨.hbm, 37, rfl⟩
abbrev main_call1_v2 : Ref sig .tc := ⟨.hbm, 38, rfl⟩
abbrev main_v22_0 : Ref sig .tc := ⟨.hbm, 39, rfl⟩
abbrev main_call1_cst : Ref sig .tc := ⟨.hbm, 40, rfl⟩
abbrev main_v22_2 : Ref sig .tc := ⟨.hbm, 41, rfl⟩
abbrev main_cst_1 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_10 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_11 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_12 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_call2_cst : Ref sig .tc := ⟨.hbm, 101, rfl⟩
abbrev main_call2_v0 : Ref sig .tc := ⟨.hbm, 102, rfl⟩
abbrev main_v70 : Ref sig .tc := ⟨.hbm, 103, rfl⟩
abbrev main_cst_13 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_14 : Ref sig .tc := ⟨.hbm, 108, rfl⟩
abbrev main_v74 : Ref sig .tc := ⟨.hbm, 109, rfl⟩
abbrev main_v75 : Ref sig .tc := ⟨.hbm, 110, rfl⟩
abbrev main_cst_15 : Ref sig .tc := ⟨.hbm, 111, rfl⟩
abbrev main_v76 : Ref sig .tc := ⟨.hbm, 112, rfl⟩
abbrev main_cst_16 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_17 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_c_18 : Ref sig .tc := ⟨.hbm, 128, rfl⟩
abbrev main_call3_v0 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_c_19 : Ref sig .tc := ⟨.hbm, 133, rfl⟩
abbrev main_call4_v0 : Ref sig .tc := ⟨.hbm, 134, rfl⟩
abbrev main_v93 : Ref sig .tc := ⟨.hbm, 135, rfl⟩
abbrev main_v94 : Ref sig .tc := ⟨.hbm, 136, rfl⟩

abbrev nD : Nat := 1
abbrev τ : Topo := Topo.v7x

variable {F : FTy → Type} [FloatOps F]
-- ==== Kernel2.lean ====
abbrev S4096x1536 : Shape := ⟨2, ![4096, 1536]⟩
abbrev S4096x128 : Shape := ⟨2, ![4096, 128]⟩
abbrev S4096x1920 : Shape := ⟨2, ![4096, 1920]⟩
abbrev S4096x512 : Shape := ⟨2, ![4096, 512]⟩
abbrev S4096x3072 : Shape := ⟨2, ![4096, 3072]⟩
abbrev S1024x6920 : Shape := ⟨2, ![1024, 6920]⟩
abbrev S4096x1024 : Shape := ⟨2, ![4096, 1024]⟩
abbrev S1x1024 : Shape := ⟨2, ![1, 1024]⟩
abbrev S6920x1024 : Shape := ⟨2, ![6920, 1024]⟩
abbrev S1536x1024 : Shape := ⟨2, ![1536, 1024]⟩
abbrev S64x1024 : Shape := ⟨2, ![64, 1024]⟩
abbrev S_ : Shape := ⟨0, ![]⟩
abbrev S128x1024 : Shape := ⟨2, ![128, 1024]⟩
abbrev S1920x1024 : Shape := ⟨2, ![1920, 1024]⟩
abbrev S8x1024 : Shape := ⟨2, ![8, 1024]⟩
abbrev S120x1024 : Shape := ⟨2, ![120, 1024]⟩
abbrev S512x1024 : Shape := ⟨2, ![512, 1024]⟩
abbrev S3072x1024 : Shape := ⟨2, ![3072, 1024]⟩
abbrev S256x1536 : Shape := ⟨2, ![256, 1536]⟩
abbrev S256x128 : Shape := ⟨2, ![256, 128]⟩
abbrev S256x1920 : Shape := ⟨2, ![256, 1920]⟩
abbrev S256x512 : Shape := ⟨2, ![256, 512]⟩
abbrev S256x3072 : Shape := ⟨2, ![256, 3072]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 29
  | .vmem => 23
  | .smem => 0
  | _ => 0

abbrev bufTy : (tb : Table) → Fin (tcTables nBuf tb) → BufTy
  | .hbm, ⟨0, _⟩ => ⟨S4096x1536, .bf16⟩
  | .hbm, ⟨1, _⟩ => ⟨S4096x128, .bf16⟩
  | .hbm, ⟨2, _⟩ => ⟨S4096x1920, .bf16⟩
  | .hbm, ⟨3, _⟩ => ⟨S4096x512, .bf16⟩
  | .hbm, ⟨4, _⟩ => ⟨S4096x3072, .bf16⟩
  | .hbm, ⟨5, _⟩ => ⟨S1024x6920, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S6920x1024, .f32⟩
  | .hbm, ⟨10, _⟩ => ⟨S6920x1024, .bf16⟩
  | .hbm, ⟨11, _⟩ => ⟨S1536x1024, .bf16⟩
  | .hbm, ⟨12, _⟩ => ⟨S64x1024, .bf16⟩
  | .hbm, ⟨13, _⟩ => ⟨S_, .bf16⟩
  | .hbm, ⟨14, _⟩ => ⟨S64x1024, .bf16⟩
  | .hbm, ⟨15, _⟩ => ⟨S64x1024, .bf16⟩
  | .hbm, ⟨16, _⟩ => ⟨S_, .bf16⟩
  | .hbm, ⟨17, _⟩ => ⟨S64x1024, .bf16⟩
  | .hbm, ⟨18, _⟩ => ⟨S128x1024, .bf16⟩
  | .hbm, ⟨19, _⟩ => ⟨S1920x1024, .bf16⟩
  | .hbm, ⟨20, _⟩ => ⟨S1536x1024, .bf16⟩
  | .hbm, ⟨21, _⟩ => ⟨S8x1024, .bf16⟩
  | .hbm, ⟨22, _⟩ => ⟨S_, .bf16⟩
  | .hbm, ⟨23, _⟩ => ⟨S120x1024, .bf16⟩
  | .hbm, ⟨24, _⟩ => ⟨S128x1024, .bf16⟩
  | .hbm, ⟨25, _⟩ => ⟨S512x1024, .bf16⟩
  | .hbm, ⟨26, _⟩ => ⟨S3072x1024, .bf16⟩
  | .hbm, ⟨27, _⟩ => ⟨S4096x1024, .f32⟩
  | .hbm, ⟨28, _⟩ => ⟨S1x1024, .f32⟩
  | .local _ .vmem, ⟨0, _⟩ => ⟨S256x1536, .bf16⟩
  | .local _ .vmem, ⟨1, _⟩ => ⟨S256x1536, .bf16⟩
  | .local _ .vmem, ⟨2, _⟩ => ⟨S256x128, .bf16⟩
  | .local _ .vmem, ⟨3, _⟩ => ⟨S256x128, .bf16⟩
  | .local _ .vmem, ⟨4, _⟩ => ⟨S256x1920, .bf16⟩
  | .local _ .vmem, ⟨5, _⟩ => ⟨S256x1920, .bf16⟩
  | .local _ .vmem, ⟨6, _⟩ => ⟨S256x512, .bf16⟩
  | .local _ .vmem, ⟨7, _⟩ => ⟨S256x512, .bf16⟩
  | .local _ .vmem, ⟨8, _⟩ => ⟨S256x3072, .bf16⟩
  | .local _ .vmem, ⟨9, _⟩ => ⟨S256x3072, .bf16⟩
  | .local _ .vmem, ⟨10, _⟩ => ⟨S1536x1024, .bf16⟩
  | .local _ .vmem, ⟨11, _⟩ => ⟨S128x1024, .bf16⟩
  | .local _ .vmem, ⟨12, _⟩ => ⟨S1920x1024, .bf16⟩
  | .local _ .vmem, ⟨13, _⟩ => ⟨S512x1024, .bf16⟩
  | .local _ .vmem, ⟨14, _⟩ => ⟨S3072x1024, .bf16⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S1x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1920 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1920x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3072x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference2Ideal.lean ====
abbrev S4096x1536 : Shape := ⟨2, ![4096, 1536]⟩
abbrev S4096x128 : Shape := ⟨2, ![4096, 128]⟩
abbrev S4096x1920 : Shape := ⟨2, ![4096, 1920]⟩
abbrev S4096x512 : Shape := ⟨2, ![4096, 512]⟩
abbrev S4096x3072 : Shape := ⟨2, ![4096, 3072]⟩
abbrev S1024x6920 : Shape := ⟨2, ![1024, 6920]⟩
abbrev S4096x1024 : Shape := ⟨2, ![4096, 1024]⟩
abbrev S1x1024 : Shape := ⟨2, ![1, 1024]⟩
abbrev S4096x8 : Shape := ⟨2, ![4096, 8]⟩
abbrev S4096x64 : Shape := ⟨2, ![4096, 64]⟩
abbrev S4096x6920 : Shape := ⟨2, ![4096, 6920]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x128, .bf16⟩
  | .hbm, ⟨2, _⟩ => ⟨S4096x1920, .bf16⟩
  | .hbm, ⟨3, _⟩ => ⟨S4096x512, .bf16⟩
  | .hbm, ⟨4, _⟩ => ⟨S4096x3072, .bf16⟩
  | .hbm, ⟨5, _⟩ => ⟨S1024x6920, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1536, .bf16⟩
  | .hbm, ⟨10, _⟩ => ⟨S4096x128, .bf16⟩
  | .hbm, ⟨11, _⟩ => ⟨S4096x128, .bf16⟩
  | .hbm, ⟨12, _⟩ => ⟨S4096x128, .bf16⟩
  | .hbm, ⟨13, _⟩ => ⟨S4096x8, .bf16⟩
  | .hbm, ⟨14, _⟩ => ⟨S4096x64, .bf16⟩
  | .hbm, ⟨15, _⟩ => ⟨S4096x64, .bf16⟩
  | .hbm, ⟨16, _⟩ => ⟨S4096x6920, .bf16⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x6920, .f32⟩
  | .hbm, ⟨37, _⟩ => ⟨S4096x6920, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Kernel3.lean ====
abbrev S4096x1024 : Shape := ⟨2, ![4096, 1024]⟩
abbrev S2816x1024 : Shape := ⟨2, ![2816, 1024]⟩
abbrev S4096x2816 : Shape := ⟨2, ![4096, 2816]⟩
abbrev S256x1024 : Shape := ⟨2, ![256, 1024]⟩
abbrev S256x2816 : Shape := ⟨2, ![256, 2816]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .f32⟩
  | .hbm, ⟨2, _⟩ => ⟨S4096x2816, .bf16⟩
  | .hbm, ⟨3, _⟩ => ⟨S4096x2816, .bf16⟩
  | .hbm, ⟨4, _⟩ => ⟨S2816x1024, .bf16⟩
  | .hbm, ⟨5, _⟩ => ⟨S4096x2816, .bf16⟩
  | .hbm, ⟨6, _⟩ => ⟨S4096x2816, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .f32⟩
  | .hbm, ⟨2, _⟩ => ⟨S4096x2816, .bf16⟩
  | .hbm, ⟨3, _⟩ => ⟨S4096x2816, .bf16⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .bf16⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel4.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S2816x1024 : Shape := ⟨2, ![2816, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 19
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S2816x1024, .f32⟩
  | .hbm, ⟨9, _⟩ => ⟨S2816x1024, .bf16⟩
  | .hbm, ⟨10, _⟩ => ⟨S4096x1024, .bf16⟩
  | .hbm, ⟨11, _⟩ => ⟨S4096x1024, .f32⟩
  | .hbm, ⟨12, _⟩ => ⟨S1x1024, .f32⟩
  | .hbm, ⟨13, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference4Ideal.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 100
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x2816, .f32⟩
  | .hbm, ⟨48, _⟩ => ⟨S4096x2816, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S4096x1024, .f32⟩
  | .hbm, ⟨87, _⟩ => ⟨S4096x1024, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_13 : Ref sig .tc := ⟨.hbm, 89, rfl⟩
abbrev main_v67 : Ref sig .tc := ⟨.hbm, 90, rfl⟩
abbrev main_v68 : Ref sig .tc := ⟨.hbm, 91, rfl⟩
abbrev main_cst_14 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S2048x2816 : Shape := ⟨2, ![2048, 2816]⟩
abbrev S2048x512 : Shape := ⟨2, ![2048, 512]⟩
abbrev S2816x512 : Shape := ⟨2, ![2816, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x2816, .bf16⟩
  | .local _ .vmem, ⟨1, _⟩ => ⟨S2048x2816, .bf16⟩
  | .local _ .vmem, ⟨2, _⟩ => ⟨S2048x512, .bf16⟩
  | .local _ .vmem, ⟨3, _⟩ => ⟨S2048x512, .bf16⟩
  | .local _ .vmem, ⟨4, _⟩ => ⟨S2816x512, .bf16⟩
  | .local _ .vmem, ⟨5, _⟩ => ⟨S2816x512, .bf16⟩
  | .local _ .vmem, ⟨6, _⟩ => ⟨S2816x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S4096x3072 : Shape := ⟨2, ![4096, 3072]⟩
abbrev S256x1024 : Shape := ⟨2, ![256, 1024]⟩
abbrev S256x3072 : Shape := ⟨2, ![256, 3072]⟩

abbrev nBuf : Space → Nat
  | .hbm => 11
  | .vmem => 19
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x3072, .bf16⟩
  | .hbm, ⟨6, _⟩ => ⟨S1024x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x3072, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x3072, .bf16⟩
  | .local _ .vmem, ⟨10, _⟩ => ⟨S256x3072, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x3072, .bf16⟩
  | .local _ .vmem, ⟨18, _⟩ => ⟨S256x3072, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S4096x1024 : Shape := ⟨2, ![4096, 1024]⟩
abbrev S1024x1024 : Shape := ⟨2, ![1024, 1024]⟩
abbrev S4096x3072 : Shape := ⟨2, ![4096, 3072]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x3072, .bf16⟩
  | .hbm, ⟨6, _⟩ => ⟨S4096x3072, .f32⟩
  | .hbm, ⟨7, _⟩ => ⟨S4096x3072, .f32⟩
  | .hbm, ⟨8, _⟩ => ⟨S4096x3072, .f32⟩
  | .hbm, ⟨9, _⟩ => ⟨S_, .f32⟩
  | .hbm, ⟨10, _⟩ => ⟨S4096x3072, .f32⟩
  | .hbm, ⟨11, _⟩ => ⟨S4096x3072, .f32⟩
  | .hbm, ⟨12, _⟩ => ⟨S_, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S4096x3072, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | .hbm, ⟨36, _⟩ => ⟨S4096x1024, .f32⟩
  | .hbm, ⟨37, _⟩ => ⟨S4096x1024, .f32⟩
  | .hbm, ⟨38, _⟩ => ⟨S4096x1024, .bf16⟩
  | .hbm, ⟨39, _⟩ => ⟨S4096x1024, .f32⟩
  | .hbm, ⟨40, _⟩ => ⟨S4096x1024, .f32⟩
  | .hbm, ⟨41, _⟩ => ⟨S4096x1024, .bf16⟩
  | .hbm, ⟨42, _⟩ => ⟨S4096x3072, .f32⟩
  | .hbm, ⟨43, _⟩ => ⟨S4096x3072, .f32⟩
  | .hbm, ⟨44, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Kernel8.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .f32⟩
  | .hbm, ⟨2, _⟩ => ⟨S2816x1024, .f32⟩
  | .hbm, ⟨3, _⟩ => ⟨S2816x1024, .bf16⟩
  | .hbm, ⟨4, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x1024 : Shape := ⟨2, ![4096, 1024]⟩
abbrev S1024x2816 : Shape := ⟨2, ![1024, 2816]⟩
abbrev S4096x2816 : Shape := ⟨2, ![4096, 2816]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .f32⟩
  | .hbm, ⟨2, _⟩ => ⟨S4096x1024, .f32⟩
  | .hbm, ⟨3, _⟩ => ⟨S4096x2816, .f32⟩
  | .hbm, ⟨4, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S4096x2816 : Shape := ⟨2, ![4096, 2816]⟩
abbrev S1024x2816 : Shape := ⟨2, ![1024, 2816]⟩
abbrev S2816x1024 : Shape := ⟨2, ![2816, 1024]⟩
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .f32⟩
  | .hbm, ⟨2, _⟩ => ⟨S2816x1024, .f32⟩
  | .hbm, ⟨3, _⟩ => ⟨S2816x1024, .bf16⟩
  | .hbm, ⟨4, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x2816 : Shape := ⟨2, ![4096, 2816]⟩
abbrev S1024x2816 : Shape := ⟨2, ![1024, 2816]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .f32⟩
  | .hbm, ⟨2, _⟩ => ⟨S_, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4096x3072 : Shape := ⟨2, ![4096, 3072]⟩
abbrev S4096x1024 : Shape := ⟨2, ![4096, 1024]⟩
abbrev S3072x1024 : Shape := ⟨2, ![3072, 1024]⟩
abbrev S2048x3072 : Shape := ⟨2, ![2048, 3072]⟩
abbrev S2048x512 : Shape := ⟨2, ![2048, 512]⟩
abbrev S3072x512 : Shape := ⟨2, ![3072, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3072x1024, .bf16⟩
  | .local _ .vmem, ⟨0, _⟩ => ⟨S2048x3072, .bf16⟩
  | .local _ .vmem, ⟨1, _⟩ => ⟨S2048x3072, .bf16⟩
  | .local _ .vmem, ⟨2, _⟩ => ⟨S2048x512, .bf16⟩
  | .local _ .vmem, ⟨3, _⟩ => ⟨S2048x512, .bf16⟩
  | .local _ .vmem, ⟨4, _⟩ => ⟨S3072x512, .bf16⟩
  | .local _ .vmem, ⟨5, _⟩ => ⟨S3072x512, .bf16⟩
  | .local _ .vmem, ⟨6, _⟩ => ⟨S3072x512, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3072x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S4096x3072 : Shape := ⟨2, ![4096, 3072]⟩
abbrev S4096x1024 : Shape := ⟨2, ![4096, 1024]⟩
abbrev S_ : Shape := ⟨0, ![]⟩
abbrev S1024x3072 : Shape := ⟨2, ![1024, 3072]⟩
abbrev S3072x1024 : Shape := ⟨2, ![3072, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S3072x1024, .f32⟩
  | .hbm, ⟨10, _⟩ => ⟨S3072x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S4096x1024 : Shape := ⟨2, ![4096, 1024]⟩
abbrev S1x1024 : Shape := ⟨2, ![1, 1024]⟩
abbrev S1024x6920 : Shape := ⟨2, ![1024, 6920]⟩
abbrev S6920x1024 : Shape := ⟨2, ![6920, 1024]⟩
abbrev S1536x1024 : Shape := ⟨2, ![1536, 1024]⟩
abbrev S64x1024 : Shape := ⟨2, ![64, 1024]⟩
abbrev S_ : Shape := ⟨0, ![]⟩
abbrev S128x1024 : Shape := ⟨2, ![128, 1024]⟩
abbrev S1920x1024 : Shape := ⟨2, ![1920, 1024]⟩
abbrev S8x1024 : Shape := ⟨2, ![8, 1024]⟩
abbrev S120x1024 : Shape := ⟨2, ![120, 1024]⟩
abbrev S512x1024 : Shape := ⟨2, ![512, 1024]⟩
abbrev S3072x1024 : Shape := ⟨2, ![3072, 1024]⟩
abbrev S4096x3072 : Shape := ⟨2, ![4096, 3072]⟩
abbrev S512x3072 : Shape := ⟨2, ![512, 3072]⟩
abbrev S512 : Shape := ⟨1, ![512]⟩
abbrev S512x1 : Shape := ⟨2, ![512, 1]⟩

abbrev nBuf : Space → Nat
  | .hbm => 23
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6920, .f32⟩
  | .hbm, ⟨3, _⟩ => ⟨S6920x1024, .f32⟩
  | .hbm, ⟨4, _⟩ => ⟨S6920x1024, .bf16⟩
  | .hbm, ⟨5, _⟩ => ⟨S1536x1024, .bf16⟩
  | .hbm, ⟨6, _⟩ => ⟨S64x1024, .bf16⟩
  | .hbm, ⟨7, _⟩ => ⟨S_, .bf16⟩
  | .hbm, ⟨8, _⟩ => ⟨S64x1024, .bf16⟩
  | .hbm, ⟨9, _⟩ => ⟨S64x1024, .bf16⟩
  | .hbm, ⟨10, _⟩ => ⟨S_, .bf16⟩
  | .hbm, ⟨11, _⟩ => ⟨S64x1024, .bf16⟩
  | .hbm, ⟨12, _⟩ => ⟨S128x1024, .bf16⟩
  | .hbm, ⟨13, _⟩ => ⟨S1920x1024, .bf16⟩
  | .hbm, ⟨14, _⟩ => ⟨S1536x1024, .bf16⟩
  | .hbm, ⟨15, _⟩ => ⟨S8x1024, .bf16⟩
  | .hbm, ⟨16, _⟩ => ⟨S_, .bf16⟩
  | .hbm, ⟨17, _⟩ => ⟨S120x1024, .bf16⟩
  | .hbm, ⟨18, _⟩ => ⟨S128x1024, .bf16⟩
  | .hbm, ⟨19, _⟩ => ⟨S512x1024, .bf16⟩
  | .hbm, ⟨20, _⟩ => ⟨S3072x1024, .bf16⟩
  | .hbm, ⟨21, _⟩ => ⟨S4096x3072, .bf16⟩
  | .hbm, ⟨22, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3072x1024, .bf16⟩
  | .local _ .vmem, ⟨4, _⟩ => ⟨S512x3072, .bf16⟩
  | .local _ .vmem, ⟨5, _⟩ => ⟨S512x3072, .bf16⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== Reference11Ideal.lean ====
abbrev S4096x1024 : Shape := ⟨2, ![4096, 1024]⟩
abbrev S1x1024 : Shape := ⟨2, ![1, 1024]⟩
abbrev S1024x6920 : Shape := ⟨2, ![1024, 6920]⟩
abbrev S_ : Shape := ⟨0, ![]⟩
abbrev S4096 : Shape := ⟨1, ![4096]⟩
abbrev S4096x1 : Shape := ⟨2, ![4096, 1]⟩
abbrev S1024x3072 : Shape := ⟨2, ![1024, 3072]⟩
abbrev S4096x3072 : Shape := ⟨2, ![4096, 3072]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6920, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x3072, .f32⟩
  | .hbm, ⟨19, _⟩ => ⟨S4096x3072, .f32⟩
  | .hbm, ⟨20, _⟩ => ⟨S4096x3072, .bf16⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel12.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .f32⟩
  | .hbm, ⟨3, _⟩ => ⟨S2816x1024, .bf16⟩
  | .hbm, ⟨4, _⟩ => ⟨S4096x1024, .f32⟩
  | .hbm, ⟨5, _⟩ => ⟨S4096x2816, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S512x2816, .bf16⟩
  | .local _ .vmem, ⟨8, _⟩ => ⟨S512x2816, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== Reference12Ideal.lean ====
abbrev S4096x2816 : Shape := ⟨2, ![4096, 2816]⟩
abbrev S2816x1024 : Shape := ⟨2, ![2816, 1024]⟩
abbrev S_ : Shape := ⟨0, ![]⟩
abbrev S4096x1024 : Shape := ⟨2, ![4096, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x1024, .f32⟩
  | .hbm, ⟨16, _⟩ => ⟨S4096x2816, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel13.lean ====
abbrev S8x16x1024 : Shape := ⟨3, ![8, 16, 1024]⟩
abbrev S1x16x1024 : Shape := ⟨3, ![1, 16, 1024]⟩
abbrev S16x1024 : Shape := ⟨2, ![16, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x16x1024, .bf16⟩
  | .hbm, ⟨1, _⟩ => ⟨S1x16x1024, .f32⟩
  | .hbm, ⟨2, _⟩ => ⟨S1x16x1024, .f32⟩
  | .hbm, ⟨3, _⟩ => ⟨S1x16x1024, .f32⟩
  | .hbm, ⟨4, _⟩ => ⟨S1x16x1024, .f32⟩
  | .hbm, ⟨5, _⟩ => ⟨S1x16x1024, .f32⟩
  | .hbm, ⟨6, _⟩ => ⟨S1x16x1024, .f32⟩
  | .hbm, ⟨7, _⟩ => ⟨S1x16x1024, .f32⟩
  | .local _ .vmem, ⟨0, _⟩ => ⟨S8x16x1024, .bf16⟩
  | .local _ .vmem, ⟨1, _⟩ => ⟨S1x16x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x16x1024, .f32⟩
  | .local _ .vmem, ⟨7, _⟩ => ⟨S1x16x1024, .f32⟩
  | _, _ => ⟨S8x16x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x16x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference13Ideal.lean ====
abbrev S8x16x1024 : Shape := ⟨3, ![8, 16, 1024]⟩
abbrev S1x16x1024 : Shape := ⟨3, ![1, 16, 1024]⟩
abbrev S_ : Shape := ⟨0, ![]⟩
abbrev S16x1024 : Shape := ⟨2, ![16, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x16x1024, .bf16⟩
  | .hbm, ⟨1, _⟩ => ⟨S1x16x1024, .f32⟩
  | .hbm, ⟨2, _⟩ => ⟨S1x16x1024, .f32⟩
  | .hbm, ⟨3, _⟩ => ⟨S1x16x1024, .f32⟩
  | .hbm, ⟨4, _⟩ => ⟨S8x16x1024, .f32⟩
  | .hbm, ⟨5, _⟩ => ⟨S_, .f32⟩
  | .hbm, ⟨6, _⟩ => ⟨S16x1024, .f32⟩
  | .hbm, ⟨7, _⟩ => ⟨S1x16x1024, .f32⟩
  | .hbm, ⟨8, _⟩ => ⟨S_, .f32⟩
  | .hbm, ⟨9, _⟩ => ⟨S1x16x1024, .f32⟩
  | .hbm, ⟨10, _⟩ => ⟨S1x16x1024, .f32⟩
  | .hbm, ⟨11, _⟩ => ⟨S_, .f32⟩
  | .hbm, ⟨12, _⟩ => ⟨S1x16x1024, .f32⟩
  | .hbm, ⟨13, _⟩ => ⟨S1x16x1024, .f32⟩
  | .hbm, ⟨14, _⟩ => ⟨S1x16x1024, .f32⟩
  | .hbm, ⟨15, _⟩ => ⟨S_, .f32⟩
  | .hbm, ⟨16, _⟩ => ⟨S1x16x1024, .f32⟩
  | .hbm, ⟨17, _⟩ => ⟨S1x16x1024, .f32⟩
  | .hbm, ⟨18, _⟩ => ⟨S1x16x1024, .f32⟩
  | .hbm, ⟨19, _⟩ => ⟨S_, .f32⟩
  | .hbm, ⟨20, _⟩ => ⟨S1x16x1024, .f32⟩
  | .hbm, ⟨21, _⟩ => ⟨S1x16x1024, .f32⟩
  | .hbm, ⟨22, _⟩ => ⟨S1x16x1024, .f32⟩
  | .hbm, ⟨23, _⟩ => ⟨S_, .f32⟩
  | .hbm, ⟨24, _⟩ => ⟨S1x16x1024, .f32⟩
  | .hbm, ⟨25, _⟩ => ⟨S1x16x1024, .f32⟩
  | .hbm, ⟨26, _⟩ => ⟨S_, .f32⟩
  | .hbm, ⟨27, _⟩ => ⟨S1x16x1024, .f32⟩
  | .hbm, ⟨28, _⟩ => ⟨S1x16x1024, .f32⟩
  | .hbm, ⟨29, _⟩ => ⟨S1x16x1024, .f32⟩
  | .hbm, ⟨30, _⟩ => ⟨S_, .f32⟩
  | .hbm, ⟨31, _⟩ => ⟨S1x16x1024, .f32⟩
  | .hbm, ⟨32, _⟩ => ⟨S1x16x1024, .f32⟩
  | .hbm, ⟨33, _⟩ => ⟨S1x16x1024, .f32⟩
  | .hbm, ⟨34, _⟩ => ⟨S_, .f32⟩
  | .hbm, ⟨35, _⟩ => ⟨S1x16x1024, .f32⟩
  | .hbm, ⟨36, _⟩ => ⟨S1x16x1024, .f32⟩
  | .hbm, ⟨37, _⟩ => ⟨S1x16x1024, .f32⟩
  | .hbm, ⟨38, _⟩ => ⟨S_, .f32⟩
  | .hbm, ⟨39, _⟩ => ⟨S1x16x1024, .f32⟩
  | .hbm, ⟨40, _⟩ => ⟨S1x16x1024, .f32⟩
  | _, _ => ⟨S8x16x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel14.lean ====
abbrev S8x865x1024 : Shape := ⟨3, ![8, 865, 1024]⟩
abbrev S1x865x1024 : Shape := ⟨3, ![1, 865, 1024]⟩
abbrev S8x865x128 : Shape := ⟨3, ![8, 865, 128]⟩
abbrev S1x865x128 : Shape := ⟨3, ![1, 865, 128]⟩
abbrev S865x128 : Shape := ⟨2, ![865, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x865x1024, .bf16⟩
  | .hbm, ⟨1, _⟩ => ⟨S1x865x1024, .f32⟩
  | .hbm, ⟨2, _⟩ => ⟨S1x865x1024, .f32⟩
  | .hbm, ⟨3, _⟩ => ⟨S1x865x1024, .f32⟩
  | .hbm, ⟨4, _⟩ => ⟨S1x865x1024, .f32⟩
  | .hbm, ⟨5, _⟩ => ⟨S1x865x1024, .f32⟩
  | .hbm, ⟨6, _⟩ => ⟨S1x865x1024, .f32⟩
  | .hbm, ⟨7, _⟩ => ⟨S1x865x1024, .f32⟩
  | .local _ .vmem, ⟨0, _⟩ => ⟨S8x865x128, .bf16⟩
  | .local _ .vmem, ⟨1, _⟩ => ⟨S8x865x128, .bf16⟩
  | .local _ .vmem, ⟨2, _⟩ => ⟨S1x865x128, .f32⟩
  | .local _ .vmem, ⟨3, _⟩ => ⟨S1x865x128, .f32⟩
  | .local _ .vmem, ⟨4, _⟩ => ⟨S1x865x128, .f32⟩
  | .local _ .vmem, ⟨5, _⟩ => ⟨S1x865x128, .f32⟩
  | .local _ .vmem, ⟨6, _⟩ => ⟨S1x865x128, .f32⟩
  | .local _ .vmem, ⟨7, _⟩ => ⟨S1x865x128, .f32⟩
  | .local _ .vmem, ⟨8, _⟩ => ⟨S1x865x128, .f32⟩
  | .local _ .vmem, ⟨9, _⟩ => ⟨S1x865x128, .f32⟩
  | .local _ .vmem, ⟨10, _⟩ => ⟨S1x865x128, .f32⟩
  | .local _ .vmem, ⟨11, _⟩ => ⟨S1x865x128, .f32⟩
  | .local _ .vmem, ⟨12, _⟩ => ⟨S1x865x128, .f32⟩
  | .local _ .vmem, ⟨13, _⟩ => ⟨S1x865x128, .f32⟩
  | .local _ .vmem, ⟨14, _⟩ => ⟨S1x865x128, .f32⟩
  | .local _ .vmem, ⟨15, _⟩ => ⟨S1x865x128, .f32⟩
  | _, _ => ⟨S8x865x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x865x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x865x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x865x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x865x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x865x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x865x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x865x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x865x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S8x865x1024 : Shape := ⟨3, ![8, 865, 1024]⟩
abbrev S1x865x1024 : Shape := ⟨3, ![1, 865, 1024]⟩
abbrev S_ : Shape := ⟨0, ![]⟩
abbrev S865x1024 : Shape := ⟨2, ![865, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x865x1024, .bf16⟩
  | .hbm, ⟨1, _⟩ => ⟨S1x865x1024, .f32⟩
  | .hbm, ⟨2, _⟩ => ⟨S1x865x1024, .f32⟩
  | .hbm, ⟨3, _⟩ => ⟨S1x865x1024, .f32⟩
  | .hbm, ⟨4, _⟩ => ⟨S8x865x1024, .f32⟩
  | .hbm, ⟨5, _⟩ => ⟨S_, .f32⟩
  | .hbm, ⟨6, _⟩ => ⟨S865x1024, .f32⟩
  | .hbm, ⟨7, _⟩ => ⟨S1x865x1024, .f32⟩
  | .hbm, ⟨8, _⟩ => ⟨S_, .f32⟩
  | .hbm, ⟨9, _⟩ => ⟨S1x865x1024, .f32⟩
  | .hbm, ⟨10, _⟩ => ⟨S1x865x1024, .f32⟩
  | .hbm, ⟨11, _⟩ => ⟨S_, .f32⟩
  | .hbm, ⟨12, _⟩ => ⟨S1x865x1024, .f32⟩
  | .hbm, ⟨13, _⟩ => ⟨S1x865x1024, .f32⟩
  | .hbm, ⟨14, _⟩ => ⟨S1x865x1024, .f32⟩
  | .hbm, ⟨15, _⟩ => ⟨S_, .f32⟩
  | .hbm, ⟨16, _⟩ => ⟨S1x865x1024, .f32⟩
  | .hbm, ⟨17, _⟩ => ⟨S1x865x1024, .f32⟩
  | .hbm, ⟨18, _⟩ => ⟨S1x865x1024, .f32⟩
  | .hbm, ⟨19, _⟩ => ⟨S_, .f32⟩
  | .hbm, ⟨20, _⟩ => ⟨S1x865x1024, .f32⟩
  | .hbm, ⟨21, _⟩ => ⟨S1x865x1024, .f32⟩
  | .hbm, ⟨22, _⟩ => ⟨S1x865x1024, .f32⟩
  | .hbm, ⟨23, _⟩ => ⟨S_, .f32⟩
  | .hbm, ⟨24, _⟩ => ⟨S1x865x1024, .f32⟩
  | .hbm, ⟨25, _⟩ => ⟨S1x865x1024, .f32⟩
  | .hbm, ⟨26, _⟩ => ⟨S_, .f32⟩
  | .hbm, ⟨27, _⟩ => ⟨S1x865x1024, .f32⟩
  | .hbm, ⟨28, _⟩ => ⟨S1x865x1024, .f32⟩
  | .hbm, ⟨29, _⟩ => ⟨S1x865x1024, .f32⟩
  | .hbm, ⟨30, _⟩ => ⟨S_, .f32⟩
  | .hbm, ⟨31, _⟩ => ⟨S1x865x1024, .f32⟩
  | .hbm, ⟨32, _⟩ => ⟨S1x865x1024, .f32⟩
  | .hbm, ⟨33, _⟩ => ⟨S1x865x1024, .f32⟩
  | .hbm, ⟨34, _⟩ => ⟨S_, .f32⟩
  | .hbm, ⟨35, _⟩ => ⟨S1x865x1024, .f32⟩
  | .hbm, ⟨36, _⟩ => ⟨S1x865x1024, .f32⟩
  | .hbm, ⟨37, _⟩ => ⟨S1x865x1024, .f32⟩
  | .hbm, ⟨38, _⟩ => ⟨S_, .f32⟩
  | .hbm, ⟨39, _⟩ => ⟨S1x865x1024, .f32⟩
  | .hbm, ⟨40, _⟩ => ⟨S1x865x1024, .f32⟩
  | _, _ => ⟨S8x865x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel15.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference15Ideal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel16.lean ====
abbrev S8x704x1024 : Shape := ⟨3, ![8, 704, 1024]⟩
abbrev S1x352x1024 : Shape := ⟨3, ![1, 352, 1024]⟩
abbrev S8x32x1024 : Shape := ⟨3, ![8, 32, 1024]⟩
abbrev S1x32x1024 : Shape := ⟨3, ![1, 32, 1024]⟩
abbrev S32x1024 : Shape := ⟨2, ![32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S8x704x1024 : Shape := ⟨3, ![8, 704, 1024]⟩
abbrev S1x352x1024 : Shape := ⟨3, ![1, 352, 1024]⟩
abbrev S8x352x1024 : Shape := ⟨3, ![8, 352, 1024]⟩
abbrev S_ : Shape := ⟨0, ![]⟩
abbrev S352x1024 : Shape := ⟨2, ![352, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S8x352x1024, .bf16⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S1x352x1024, .f32⟩
  | .hbm, ⟨9, _⟩ => ⟨S_, .f32⟩
  | .hbm, ⟨10, _⟩ => ⟨S1x352x1024, .f32⟩
  | .hbm, ⟨11, _⟩ => ⟨S1x352x1024, .f32⟩
  | .hbm, ⟨12, _⟩ => ⟨S_, .f32⟩
  | .hbm, ⟨13, _⟩ => ⟨S1x352x1024, .f32⟩
  | .hbm, ⟨14, _⟩ => ⟨S1x352x1024, .f32⟩
  | .hbm, ⟨15, _⟩ => ⟨S1x352x1024, .f32⟩
  | .hbm, ⟨16, _⟩ => ⟨S_, .f32⟩
  | .hbm, ⟨17, _⟩ => ⟨S1x352x1024, .f32⟩
  | .hbm, ⟨18, _⟩ => ⟨S1x352x1024, .f32⟩
  | .hbm, ⟨19, _⟩ => ⟨S1x352x1024, .f32⟩
  | .hbm, ⟨20, _⟩ => ⟨S_, .f32⟩
  | .hbm, ⟨21, _⟩ => ⟨S1x352x1024, .f32⟩
  | .hbm, ⟨22, _⟩ => ⟨S1x352x1024, .f32⟩
  | .hbm, ⟨23, _⟩ => ⟨S1x352x1024, .f32⟩
  | .hbm, ⟨24, _⟩ => ⟨S_, .f32⟩
  | .hbm, ⟨25, _⟩ => ⟨S1x352x1024, .f32⟩
  | .hbm, ⟨26, _⟩ => ⟨S1x352x1024, .f32⟩
  | .hbm, ⟨27, _⟩ => ⟨S_, .f32⟩
  | .hbm, ⟨28, _⟩ => ⟨S1x352x1024, .f32⟩
  | .hbm, ⟨29, _⟩ => ⟨S1x352x1024, .f32⟩
  | .hbm, ⟨30, _⟩ => ⟨S1x352x1024, .f32⟩
  | .hbm, ⟨31, _⟩ => ⟨S_, .f32⟩
  | .hbm, ⟨32, _⟩ => ⟨S1x352x1024, .f32⟩
  | .hbm, ⟨33, _⟩ => ⟨S1x352x1024, .f32⟩
  | .hbm, ⟨34, _⟩ => ⟨S1x352x1024, .f32⟩
  | .hbm, ⟨35, _⟩ => ⟨S_, .f32⟩
  | .hbm, ⟨36, _⟩ => ⟨S1x352x1024, .f32⟩
  | .hbm, ⟨37, _⟩ => ⟨S1x352x1024, .f32⟩
  | .hbm, ⟨38, _⟩ => ⟨S1x352x1024, .f32⟩
  | .hbm, ⟨39, _⟩ => ⟨S_, .f32⟩
  | .hbm, ⟨40, _⟩ => ⟨S1x352x1024, .f32⟩
  | .hbm, ⟨41, _⟩ => ⟨S1x352x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel17.lean ====
abbrev S8x704x1024 : Shape := ⟨3, ![8, 704, 1024]⟩
abbrev S1x352x1024 : Shape := ⟨3, ![1, 352, 1024]⟩
abbrev S8x32x1024 : Shape := ⟨3, ![8, 32, 1024]⟩
abbrev S1x32x1024 : Shape := ⟨3, ![1, 32, 1024]⟩
abbrev S32x1024 : Shape := ⟨2, ![32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S8x704x1024 : Shape := ⟨3, ![8, 704, 1024]⟩
abbrev S1x352x1024 : Shape := ⟨3, ![1, 352, 1024]⟩
abbrev S8x352x1024 : Shape := ⟨3, ![8, 352, 1024]⟩
abbrev S_ : Shape := ⟨0, ![]⟩
abbrev S352x1024 : Shape := ⟨2, ![352, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S8x352x1024, .bf16⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S1x352x1024, .f32⟩
  | .hbm, ⟨9, _⟩ => ⟨S_, .f32⟩
  | .hbm, ⟨10, _⟩ => ⟨S1x352x1024, .f32⟩
  | .hbm, ⟨11, _⟩ => ⟨S1x352x1024, .f32⟩
  | .hbm, ⟨12, _⟩ => ⟨S_, .f32⟩
  | .hbm, ⟨13, _⟩ => ⟨S1x352x1024, .f32⟩
  | .hbm, ⟨14, _⟩ => ⟨S1x352x1024, .f32⟩
  | .hbm, ⟨15, _⟩ => ⟨S1x352x1024, .f32⟩
  | .hbm, ⟨16, _⟩ => ⟨S_, .f32⟩
  | .hbm, ⟨17, _⟩ => ⟨S1x352x1024, .f32⟩
  | .hbm, ⟨18, _⟩ => ⟨S1x352x1024, .f32⟩
  | .hbm, ⟨19, _⟩ => ⟨S1x352x1024, .f32⟩
  | .hbm, ⟨20, _⟩ => ⟨S_, .f32⟩
  | .hbm, ⟨21, _⟩ => ⟨S1x352x1024, .f32⟩
  | .hbm, ⟨22, _⟩ => ⟨S1x352x1024, .f32⟩
  | .hbm, ⟨23, _⟩ => ⟨S1x352x1024, .f32⟩
  | .hbm, ⟨24, _⟩ => ⟨S_, .f32⟩
  | .hbm, ⟨25, _⟩ => ⟨S1x352x1024, .f32⟩
  | .hbm, ⟨26, _⟩ => ⟨S1x352x1024, .f32⟩
  | .hbm, ⟨27, _⟩ => ⟨S_, .f32⟩
  | .hbm, ⟨28, _⟩ => ⟨S1x352x1024, .f32⟩
  | .hbm, ⟨29, _⟩ => ⟨S1x352x1024, .f32⟩
  | .hbm, ⟨30, _⟩ => ⟨S1x352x1024, .f32⟩
  | .hbm, ⟨31, _⟩ => ⟨S_, .f32⟩
  | .hbm, ⟨32, _⟩ => ⟨S1x352x1024, .f32⟩
  | .hbm, ⟨33, _⟩ => ⟨S1x352x1024, .f32⟩
  | .hbm, ⟨34, _⟩ => ⟨S1x352x1024, .f32⟩
  | .hbm, ⟨35, _⟩ => ⟨S_, .f32⟩
  | .hbm, ⟨36, _⟩ => ⟨S1x352x1024, .f32⟩
  | .hbm, ⟨37, _⟩ => ⟨S1x352x1024, .f32⟩
  | .hbm, ⟨38, _⟩ => ⟨S1x352x1024, .f32⟩
  | .hbm, ⟨39, _⟩ => ⟨S_, .f32⟩
  | .hbm, ⟨40, _⟩ => ⟨S1x352x1024, .f32⟩
  | .hbm, ⟨41, _⟩ => ⟨S1x352x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel18.lean ====
abbrev S8x480x1024 : Shape := ⟨3, ![8, 480, 1024]⟩
abbrev S1x352x1024 : Shape := ⟨3, ![1, 352, 1024]⟩
abbrev S8x32x1024 : Shape := ⟨3, ![8, 32, 1024]⟩
abbrev S1x32x1024 : Shape := ⟨3, ![1, 32, 1024]⟩
abbrev S32x1024 : Shape := ⟨2, ![32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x480x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | _, _ => ⟨S8x480x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S8x480x1024 : Shape := ⟨3, ![8, 480, 1024]⟩
abbrev S1x352x1024 : Shape := ⟨3, ![1, 352, 1024]⟩
abbrev S8x352x1024 : Shape := ⟨3, ![8, 352, 1024]⟩
abbrev S_ : Shape := ⟨0, ![]⟩
abbrev S352x1024 : Shape := ⟨2, ![352, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x480x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S8x352x1024, .bf16⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S1x352x1024, .f32⟩
  | .hbm, ⟨9, _⟩ => ⟨S_, .f32⟩
  | .hbm, ⟨10, _⟩ => ⟨S1x352x1024, .f32⟩
  | .hbm, ⟨11, _⟩ => ⟨S1x352x1024, .f32⟩
  | .hbm, ⟨12, _⟩ => ⟨S_, .f32⟩
  | .hbm, ⟨13, _⟩ => ⟨S1x352x1024, .f32⟩
  | .hbm, ⟨14, _⟩ => ⟨S1x352x1024, .f32⟩
  | .hbm, ⟨15, _⟩ => ⟨S1x352x1024, .f32⟩
  | .hbm, ⟨16, _⟩ => ⟨S_, .f32⟩
  | .hbm, ⟨17, _⟩ => ⟨S1x352x1024, .f32⟩
  | .hbm, ⟨18, _⟩ => ⟨S1x352x1024, .f32⟩
  | .hbm, ⟨19, _⟩ => ⟨S1x352x1024, .f32⟩
  | .hbm, ⟨20, _⟩ => ⟨S_, .f32⟩
  | .hbm, ⟨21, _⟩ => ⟨S1x352x1024, .f32⟩
  | .hbm, ⟨22, _⟩ => ⟨S1x352x1024, .f32⟩
  | .hbm, ⟨23, _⟩ => ⟨S1x352x1024, .f32⟩
  | .hbm, ⟨24, _⟩ => ⟨S_, .f32⟩
  | .hbm, ⟨25, _⟩ => ⟨S1x352x1024, .f32⟩
  | .hbm, ⟨26, _⟩ => ⟨S1x352x1024, .f32⟩
  | .hbm, ⟨27, _⟩ => ⟨S_, .f32⟩
  | .hbm, ⟨28, _⟩ => ⟨S1x352x1024, .f32⟩
  | .hbm, ⟨29, _⟩ => ⟨S1x352x1024, .f32⟩
  | .hbm, ⟨30, _⟩ => ⟨S1x352x1024, .f32⟩
  | .hbm, ⟨31, _⟩ => ⟨S_, .f32⟩
  | .hbm, ⟨32, _⟩ => ⟨S1x352x1024, .f32⟩
  | .hbm, ⟨33, _⟩ => ⟨S1x352x1024, .f32⟩
  | .hbm, ⟨34, _⟩ => ⟨S1x352x1024, .f32⟩
  | .hbm, ⟨35, _⟩ => ⟨S_, .f32⟩
  | .hbm, ⟨36, _⟩ => ⟨S1x352x1024, .f32⟩
  | .hbm, ⟨37, _⟩ => ⟨S1x352x1024, .f32⟩
  | .hbm, ⟨38, _⟩ => ⟨S1x352x1024, .f32⟩
  | .hbm, ⟨39, _⟩ => ⟨S_, .f32⟩
  | .hbm, ⟨40, _⟩ => ⟨S1x352x1024, .f32⟩
  | .hbm, ⟨41, _⟩ => ⟨S1x352x1024, .f32⟩
  | _, _ => ⟨S8x480x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel19.lean ====
abbrev S8x480x1024 : Shape := ⟨3, ![8, 480, 1024]⟩
abbrev S1x128x1024 : Shape := ⟨3, ![1, 128, 1024]⟩
abbrev S8x32x1024 : Shape := ⟨3, ![8, 32, 1024]⟩
abbrev S1x32x1024 : Shape := ⟨3, ![1, 32, 1024]⟩
abbrev S32x1024 : Shape := ⟨2, ![32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x480x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | _, _ => ⟨S8x480x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S8x480x1024 : Shape := ⟨3, ![8, 480, 1024]⟩
abbrev S1x128x1024 : Shape := ⟨3, ![1, 128, 1024]⟩
abbrev S8x128x1024 : Shape := ⟨3, ![8, 128, 1024]⟩
abbrev S_ : Shape := ⟨0, ![]⟩
abbrev S128x1024 : Shape := ⟨2, ![128, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x480x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .bf16⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S1x128x1024, .f32⟩
  | .hbm, ⟨9, _⟩ => ⟨S_, .f32⟩
  | .hbm, ⟨10, _⟩ => ⟨S1x128x1024, .f32⟩
  | .hbm, ⟨11, _⟩ => ⟨S1x128x1024, .f32⟩
  | .hbm, ⟨12, _⟩ => ⟨S_, .f32⟩
  | .hbm, ⟨13, _⟩ => ⟨S1x128x1024, .f32⟩
  | .hbm, ⟨14, _⟩ => ⟨S1x128x1024, .f32⟩
  | .hbm, ⟨15, _⟩ => ⟨S1x128x1024, .f32⟩
  | .hbm, ⟨16, _⟩ => ⟨S_, .f32⟩
  | .hbm, ⟨17, _⟩ => ⟨S1x128x1024, .f32⟩
  | .hbm, ⟨18, _⟩ => ⟨S1x128x1024, .f32⟩
  | .hbm, ⟨19, _⟩ => ⟨S1x128x1024, .f32⟩
  | .hbm, ⟨20, _⟩ => ⟨S_, .f32⟩
  | .hbm, ⟨21, _⟩ => ⟨S1x128x1024, .f32⟩
  | .hbm, ⟨22, _⟩ => ⟨S1x128x1024, .f32⟩
  | .hbm, ⟨23, _⟩ => ⟨S1x128x1024, .f32⟩
  | .hbm, ⟨24, _⟩ => ⟨S_, .f32⟩
  | .hbm, ⟨25, _⟩ => ⟨S1x128x1024, .f32⟩
  | .hbm, ⟨26, _⟩ => ⟨S1x128x1024, .f32⟩
  | .hbm, ⟨27, _⟩ => ⟨S_, .f32⟩
  | .hbm, ⟨28, _⟩ => ⟨S1x128x1024, .f32⟩
  | .hbm, ⟨29, _⟩ => ⟨S1x128x1024, .f32⟩
  | .hbm, ⟨30, _⟩ => ⟨S1x128x1024, .f32⟩
  | .hbm, ⟨31, _⟩ => ⟨S_, .f32⟩
  | .hbm, ⟨32, _⟩ => ⟨S1x128x1024, .f32⟩
  | .hbm, ⟨33, _⟩ => ⟨S1x128x1024, .f32⟩
  | .hbm, ⟨34, _⟩ => ⟨S1x128x1024, .f32⟩
  | .hbm, ⟨35, _⟩ => ⟨S_, .f32⟩
  | .hbm, ⟨36, _⟩ => ⟨S1x128x1024, .f32⟩
  | .hbm, ⟨37, _⟩ => ⟨S1x128x1024, .f32⟩
  | .hbm, ⟨38, _⟩ => ⟨S1x128x1024, .f32⟩
  | .hbm, ⟨39, _⟩ => ⟨S_, .f32⟩
  | .hbm, ⟨40, _⟩ => ⟨S1x128x1024, .f32⟩
  | .hbm, ⟨41, _⟩ => ⟨S1x128x1024, .f32⟩
  | _, _ => ⟨S8x480x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel20.lean ====
abbrev S8x1536x128 : Shape := ⟨3, ![8, 1536, 128]⟩
abbrev S1x512x128 : Shape := ⟨3, ![1, 512, 128]⟩
abbrev S8x128x128 : Shape := ⟨3, ![8, 128, 128]⟩
abbrev S1x128x128 : Shape := ⟨3, ![1, 128, 128]⟩
abbrev S128x128 : Shape := ⟨2, ![128, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x1536x128, .bf16⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S1x512x128, .f32⟩
  | .hbm, ⟨5, _⟩ => ⟨S1x512x128, .f32⟩
  | .hbm, ⟨6, _⟩ => ⟨S1x512x128, .f32⟩
  | .hbm, ⟨7, _⟩ => ⟨S1x512x128, .f32⟩
  | .local _ .vmem, ⟨0, _⟩ => ⟨S8x128x128, .bf16⟩
  | .local _ .vmem, ⟨1, _⟩ => ⟨S8x128x128, .bf16⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | _, _ => ⟨S8x1536x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S8x1536x128 : Shape := ⟨3, ![8, 1536, 128]⟩
abbrev S1x512x128 : Shape := ⟨3, ![1, 512, 128]⟩
abbrev S8x512x128 : Shape := ⟨3, ![8, 512, 128]⟩
abbrev S_ : Shape := ⟨0, ![]⟩
abbrev S512x128 : Shape := ⟨2, ![512, 128]⟩

abbrev nBuf : Space → Nat
  | .hbm => 42
  | .vmem => 0
  | .smem => 0
  | _ => 0

abbrev bufTy : (tb : Table) → Fin (tcTables nBuf tb) → BufTy
  | .hbm, ⟨0, _⟩ => ⟨S8x1536x128, .bf16⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S8x512x128, .bf16⟩
  | .hbm, ⟨5, _⟩ => ⟨S8x512x128, .f32⟩
  | .hbm, ⟨6, _⟩ => ⟨S_, .f32⟩
  | .hbm, ⟨7, _⟩ => ⟨S512x128, .f32⟩
  | .hbm, ⟨8, _⟩ => ⟨S1x512x128, .f32⟩
  | .hbm, ⟨9, _⟩ => ⟨S_, .f32⟩
  | .hbm, ⟨10, _⟩ => ⟨S1x512x128, .f32⟩
  | .hbm, ⟨11, _⟩ => ⟨S1x512x128, .f32⟩
  | .hbm, ⟨12, _⟩ => ⟨S_, .f32⟩
  | .hbm, ⟨13, _⟩ => ⟨S1x512x128, .f32⟩
  | .hbm, ⟨14, _⟩ => ⟨S1x512x128, .f32⟩
  | .hbm, ⟨15, _⟩ => ⟨S1x512x128, .f32⟩
  | .hbm, ⟨16, _⟩ => ⟨S_, .f32⟩
  | .hbm, ⟨17, _⟩ => ⟨S1x512x128, .f32⟩
  | .hbm, ⟨18, _⟩ => ⟨S1x512x128, .f32⟩
  | .hbm, ⟨19, _⟩ => ⟨S1x512x128, .f32⟩
  | .hbm, ⟨20, _⟩ => ⟨S_, .f32⟩
  | .hbm, ⟨21, _⟩ => ⟨S1x512x128, .f32⟩
  | .hbm, ⟨22, _⟩ => ⟨S1x512x128, .f32⟩
  | .hbm, ⟨23, _⟩ => ⟨S1x512x128, .f32⟩
  | .hbm, ⟨24, _⟩ => ⟨S_, .f32⟩
  | .hbm, ⟨25, _⟩ => ⟨S1x512x128, .f32⟩
  | .hbm, ⟨26, _⟩ => ⟨S1x512x128, .f32⟩
  | .hbm, ⟨27, _⟩ => ⟨S_, .f32⟩
  | .hbm, ⟨28, _⟩ => ⟨S1x512x128, .f32⟩
  | .hbm, ⟨29, _⟩ => ⟨S1x512x128, .f32⟩
  | .hbm, ⟨30, _⟩ => ⟨S1x512x128, .f32⟩
  | .hbm, ⟨31, _⟩ => ⟨S_, .f32⟩
  | .hbm, ⟨32, _⟩ => ⟨S1x512x128, .f32⟩
  | .hbm, ⟨33, _⟩ => ⟨S1x512x128, .f32⟩
  | .hbm, ⟨34, _⟩ => ⟨S1x512x128, .f32⟩
  | .hbm, ⟨35, _⟩ => ⟨S_, .f32⟩
  | .hbm, ⟨36, _⟩ => ⟨S1x512x128, .f32⟩
  | .hbm, ⟨37, _⟩ => ⟨S1x512x128, .f32⟩
  | .hbm, ⟨38, _⟩ => ⟨S1x512x128, .f32⟩
  | .hbm, ⟨39, _⟩ => ⟨S_, .f32⟩
  | .hbm, ⟨40, _⟩ => ⟨S1x512x128, .f32⟩
  | .hbm, ⟨41, _⟩ => ⟨S1x512x128, .f32⟩
  | _, _ => ⟨S8x1536x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel21.lean ====
abbrev S8x1536x128 : Shape := ⟨3, ![8, 1536, 128]⟩
abbrev S1x512x128 : Shape := ⟨3, ![1, 512, 128]⟩
abbrev S8x128x128 : Shape := ⟨3, ![8, 128, 128]⟩
abbrev S1x128x128 : Shape := ⟨3, ![1, 128, 128]⟩
abbrev S128x128 : Shape := ⟨2, ![128, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x1536x128, .bf16⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S1x512x128, .f32⟩
  | .hbm, ⟨5, _⟩ => ⟨S1x512x128, .f32⟩
  | .hbm, ⟨6, _⟩ => ⟨S1x512x128, .f32⟩
  | .hbm, ⟨7, _⟩ => ⟨S1x512x128, .f32⟩
  | .local _ .vmem, ⟨0, _⟩ => ⟨S8x128x128, .bf16⟩
  | .local _ .vmem, ⟨1, _⟩ => ⟨S8x128x128, .bf16⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | _, _ => ⟨S8x1536x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S8x1536x128 : Shape := ⟨3, ![8, 1536, 128]⟩
abbrev S1x512x128 : Shape := ⟨3, ![1, 512, 128]⟩
abbrev S8x512x128 : Shape := ⟨3, ![8, 512, 128]⟩
abbrev S_ : Shape := ⟨0, ![]⟩
abbrev S512x128 : Shape := ⟨2, ![512, 128]⟩

abbrev nBuf : Space → Nat
  | .hbm => 42
  | .vmem => 0
  | .smem => 0
  | _ => 0

abbrev bufTy : (tb : Table) → Fin (tcTables nBuf tb) → BufTy
  | .hbm, ⟨0, _⟩ => ⟨S8x1536x128, .bf16⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S8x512x128, .bf16⟩
  | .hbm, ⟨5, _⟩ => ⟨S8x512x128, .f32⟩
  | .hbm, ⟨6, _⟩ => ⟨S_, .f32⟩
  | .hbm, ⟨7, _⟩ => ⟨S512x128, .f32⟩
  | .hbm, ⟨8, _⟩ => ⟨S1x512x128, .f32⟩
  | .hbm, ⟨9, _⟩ => ⟨S_, .f32⟩
  | .hbm, ⟨10, _⟩ => ⟨S1x512x128, .f32⟩
  | .hbm, ⟨11, _⟩ => ⟨S1x512x128, .f32⟩
  | .hbm, ⟨12, _⟩ => ⟨S_, .f32⟩
  | .hbm, ⟨13, _⟩ => ⟨S1x512x128, .f32⟩
  | .hbm, ⟨14, _⟩ => ⟨S1x512x128, .f32⟩
  | .hbm, ⟨15, _⟩ => ⟨S1x512x128, .f32⟩
  | .hbm, ⟨16, _⟩ => ⟨S_, .f32⟩
  | .hbm, ⟨17, _⟩ => ⟨S1x512x128, .f32⟩
  | .hbm, ⟨18, _⟩ => ⟨S1x512x128, .f32⟩
  | .hbm, ⟨19, _⟩ => ⟨S1x512x128, .f32⟩
  | .hbm, ⟨20, _⟩ => ⟨S_, .f32⟩
  | .hbm, ⟨21, _⟩ => ⟨S1x512x128, .f32⟩
  | .hbm, ⟨22, _⟩ => ⟨S1x512x128, .f32⟩
  | .hbm, ⟨23, _⟩ => ⟨S1x512x128, .f32⟩
  | .hbm, ⟨24, _⟩ => ⟨S_, .f32⟩
  | .hbm, ⟨25, _⟩ => ⟨S1x512x128, .f32⟩
  | .hbm, ⟨26, _⟩ => ⟨S1x512x128, .f32⟩
  | .hbm, ⟨27, _⟩ => ⟨S_, .f32⟩
  | .hbm, ⟨28, _⟩ => ⟨S1x512x128, .f32⟩
  | .hbm, ⟨29, _⟩ => ⟨S1x512x128, .f32⟩
  | .hbm, ⟨30, _⟩ => ⟨S1x512x128, .f32⟩
  | .hbm, ⟨31, _⟩ => ⟨S_, .f32⟩
  | .hbm, ⟨32, _⟩ => ⟨S1x512x128, .f32⟩
  | .hbm, ⟨33, _⟩ => ⟨S1x512x128, .f32⟩
  | .hbm, ⟨34, _⟩ => ⟨S1x512x128, .f32⟩
  | .hbm, ⟨35, _⟩ => ⟨S_, .f32⟩
  | .hbm, ⟨36, _⟩ => ⟨S1x512x128, .f32⟩
  | .hbm, ⟨37, _⟩ => ⟨S1x512x128, .f32⟩
  | .hbm, ⟨38, _⟩ => ⟨S1x512x128, .f32⟩
  | .hbm, ⟨39, _⟩ => ⟨S_, .f32⟩
  | .hbm, ⟨40, _⟩ => ⟨S1x512x128, .f32⟩
  | .hbm, ⟨41, _⟩ => ⟨S1x512x128, .f32⟩
  | _, _ => ⟨S8x1536x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel22.lean ====
abbrev S8x1536x128 : Shape := ⟨3, ![8, 1536, 128]⟩
abbrev S1x512x128 : Shape := ⟨3, ![1, 512, 128]⟩
abbrev S8x128x128 : Shape := ⟨3, ![8, 128, 128]⟩
abbrev S1x128x128 : Shape := ⟨3, ![1, 128, 128]⟩
abbrev S128x128 : Shape := ⟨2, ![128, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x1536x128, .bf16⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S1x512x128, .f32⟩
  | .hbm, ⟨5, _⟩ => ⟨S1x512x128, .f32⟩
  | .hbm, ⟨6, _⟩ => ⟨S1x512x128, .f32⟩
  | .hbm, ⟨7, _⟩ => ⟨S1x512x128, .f32⟩
  | .local _ .vmem, ⟨0, _⟩ => ⟨S8x128x128, .bf16⟩
  | .local _ .vmem, ⟨1, _⟩ => ⟨S8x128x128, .bf16⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | _, _ => ⟨S8x1536x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S8x1536x128 : Shape := ⟨3, ![8, 1536, 128]⟩
abbrev S1x512x128 : Shape := ⟨3, ![1, 512, 128]⟩
abbrev S8x512x128 : Shape := ⟨3, ![8, 512, 128]⟩
abbrev S_ : Shape := ⟨0, ![]⟩
abbrev S512x128 : Shape := ⟨2, ![512, 128]⟩

abbrev nBuf : Space → Nat
  | .hbm => 42
  | .vmem => 0
  | .smem => 0
  | _ => 0

abbrev bufTy : (tb : Table) → Fin (tcTables nBuf tb) → BufTy
  | .hbm, ⟨0, _⟩ => ⟨S8x1536x128, .bf16⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S8x512x128, .bf16⟩
  | .hbm, ⟨5, _⟩ => ⟨S8x512x128, .f32⟩
  | .hbm, ⟨6, _⟩ => ⟨S_, .f32⟩
  | .hbm, ⟨7, _⟩ => ⟨S512x128, .f32⟩
  | .hbm, ⟨8, _⟩ => ⟨S1x512x128, .f32⟩
  | .hbm, ⟨9, _⟩ => ⟨S_, .f32⟩
  | .hbm, ⟨10, _⟩ => ⟨S1x512x128, .f32⟩
  | .hbm, ⟨11, _⟩ => ⟨S1x512x128, .f32⟩
  | .hbm, ⟨12, _⟩ => ⟨S_, .f32⟩
  | .hbm, ⟨13, _⟩ => ⟨S1x512x128, .f32⟩
  | .hbm, ⟨14, _⟩ => ⟨S1x512x128, .f32⟩
  | .hbm, ⟨15, _⟩ => ⟨S1x512x128, .f32⟩
  | .hbm, ⟨16, _⟩ => ⟨S_, .f32⟩
  | .hbm, ⟨17, _⟩ => ⟨S1x512x128, .f32⟩
  | .hbm, ⟨18, _⟩ => ⟨S1x512x128, .f32⟩
  | .hbm, ⟨19, _⟩ => ⟨S1x512x128, .f32⟩
  | .hbm, ⟨20, _⟩ => ⟨S_, .f32⟩
  | .hbm, ⟨21, _⟩ => ⟨S1x512x128, .f32⟩
  | .hbm, ⟨22, _⟩ => ⟨S1x512x128, .f32⟩
  | .hbm, ⟨23, _⟩ => ⟨S1x512x128, .f32⟩
  | .hbm, ⟨24, _⟩ => ⟨S_, .f32⟩
  | .hbm, ⟨25, _⟩ => ⟨S1x512x128, .f32⟩
  | .hbm, ⟨26, _⟩ => ⟨S1x512x128, .f32⟩
  | .hbm, ⟨27, _⟩ => ⟨S_, .f32⟩
  | .hbm, ⟨28, _⟩ => ⟨S1x512x128, .f32⟩
  | .hbm, ⟨29, _⟩ => ⟨S1x512x128, .f32⟩
  | .hbm, ⟨30, _⟩ => ⟨S1x512x128, .f32⟩
  | .hbm, ⟨31, _⟩ => ⟨S_, .f32⟩
  | .hbm, ⟨32, _⟩ => ⟨S1x512x128, .f32⟩
  | .hbm, ⟨33, _⟩ => ⟨S1x512x128, .f32⟩
  | .hbm, ⟨34, _⟩ => ⟨S1x512x128, .f32⟩
  | .hbm, ⟨35, _⟩ => ⟨S_, .f32⟩
  | .hbm, ⟨36, _⟩ => ⟨S1x512x128, .f32⟩
  | .hbm, ⟨37, _⟩ => ⟨S1x512x128, .f32⟩
  | .hbm, ⟨38, _⟩ => ⟨S1x512x128, .f32⟩
  | .hbm, ⟨39, _⟩ => ⟨S_, .f32⟩
  | .hbm, ⟨40, _⟩ => ⟨S1x512x128, .f32⟩
  | .hbm, ⟨41, _⟩ => ⟨S1x512x128, .f32⟩
  | _, _ => ⟨S8x1536x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel23.lean ====
abbrev S8x256x64 : Shape := ⟨3, ![8, 256, 64]⟩
abbrev S1x64x64 : Shape := ⟨3, ![1, 64, 64]⟩
abbrev S8x64x64 : Shape := ⟨3, ![8, 64, 64]⟩
abbrev S64x64 : Shape := ⟨2, ![64, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x256x64, .bf16⟩
  | .hbm, ⟨1, _⟩ => ⟨S1x64x64, .f32⟩
  | .hbm, ⟨2, _⟩ => ⟨S1x64x64, .f32⟩
  | .hbm, ⟨3, _⟩ => ⟨S1x64x64, .f32⟩
  | .hbm, ⟨4, _⟩ => ⟨S1x64x64, .f32⟩
  | .hbm, ⟨5, _⟩ => ⟨S1x64x64, .f32⟩
  | .hbm, ⟨6, _⟩ => ⟨S1x64x64, .f32⟩
  | .hbm, ⟨7, _⟩ => ⟨S1x64x64, .f32⟩
  | .local _ .vmem, ⟨0, _⟩ => ⟨S8x64x64, .bf16⟩
  | .local _ .vmem, ⟨1, _⟩ => ⟨S1x64x64, .f32⟩
  | .local _ .vmem, ⟨2, _⟩ => ⟨S1x64x64, .f32⟩
  | .local _ .vmem, ⟨3, _⟩ => ⟨S1x64x64, .f32⟩
  | .local _ .vmem, ⟨4, _⟩ => ⟨S1x64x64, .f32⟩
  | .local _ .vmem, ⟨5, _⟩ => ⟨S1x64x64, .f32⟩
  | .local _ .vmem, ⟨6, _⟩ => ⟨S1x64x64, .f32⟩
  | .local _ .vmem, ⟨7, _⟩ => ⟨S1x64x64, .f32⟩
  | _, _ => ⟨S8x256x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x64x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference23Ideal.lean ====
abbrev S8x256x64 : Shape := ⟨3, ![8, 256, 64]⟩
abbrev S1x64x64 : Shape := ⟨3, ![1, 64, 64]⟩
abbrev S8x64x64 : Shape := ⟨3, ![8, 64, 64]⟩
abbrev S_ : Shape := ⟨0, ![]⟩
abbrev S64x64 : Shape := ⟨2, ![64, 64]⟩

abbrev nBuf : Space → Nat
  | .hbm => 42
  | .vmem => 0
  | .smem => 0
  | _ => 0

abbrev bufTy : (tb : Table) → Fin (tcTables nBuf tb) → BufTy
  | .hbm, ⟨0, _⟩ => ⟨S8x256x64, .bf16⟩
  | .hbm, ⟨1, _⟩ => ⟨S1x64x64, .f32⟩
  | .hbm, ⟨2, _⟩ => ⟨S1x64x64, .f32⟩
  | .hbm, ⟨3, _⟩ => ⟨S1x64x64, .f32⟩
  | .hbm, ⟨4, _⟩ => ⟨S8x64x64, .bf16⟩
  | .hbm, ⟨5, _⟩ => ⟨S8x64x64, .f32⟩
  | .hbm, ⟨6, _⟩ => ⟨S_, .f32⟩
  | .hbm, ⟨7, _⟩ => ⟨S64x64, .f32⟩
  | .hbm, ⟨8, _⟩ => ⟨S1x64x64, .f32⟩
  | .hbm, ⟨9, _⟩ => ⟨S_, .f32⟩
  | .hbm, ⟨10, _⟩ => ⟨S1x64x64, .f32⟩
  | .hbm, ⟨11, _⟩ => ⟨S1x64x64, .f32⟩
  | .hbm, ⟨12, _⟩ => ⟨S_, .f32⟩
  | .hbm, ⟨13, _⟩ => ⟨S1x64x64, .f32⟩
  | .hbm, ⟨14, _⟩ => ⟨S1x64x64, .f32⟩
  | .hbm, ⟨15, _⟩ => ⟨S1x64x64, .f32⟩
  | .hbm, ⟨16, _⟩ => ⟨S_, .f32⟩
  | .hbm, ⟨17, _⟩ => ⟨S1x64x64, .f32⟩
  | .hbm, ⟨18, _⟩ => ⟨S1x64x64, .f32⟩
  | .hbm, ⟨19, _⟩ => ⟨S1x64x64, .f32⟩
  | .hbm, ⟨20, _⟩ => ⟨S_, .f32⟩
  | .hbm, ⟨21, _⟩ => ⟨S1x64x64, .f32⟩
  | .hbm, ⟨22, _⟩ => ⟨S1x64x64, .f32⟩
  | .hbm, ⟨23, _⟩ => ⟨S1x64x64, .f32⟩
  | .hbm, ⟨24, _⟩ => ⟨S_, .f32⟩
  | .hbm, ⟨25, _⟩ => ⟨S1x64x64, .f32⟩
  | .hbm, ⟨26, _⟩ => ⟨S1x64x64, .f32⟩
  | .hbm, ⟨27, _⟩ => ⟨S_, .f32⟩
  | .hbm, ⟨28, _⟩ => ⟨S1x64x64, .f32⟩
  | .hbm, ⟨29, _⟩ => ⟨S1x64x64, .f32⟩
  | .hbm, ⟨30, _⟩ => ⟨S1x64x64, .f32⟩
  | .hbm, ⟨31, _⟩ => ⟨S_, .f32⟩
  | .hbm, ⟨32, _⟩ => ⟨S1x64x64, .f32⟩
  | .hbm, ⟨33, _⟩ => ⟨S1x64x64, .f32⟩
  | .hbm, ⟨34, _⟩ => ⟨S1x64x64, .f32⟩
  | .hbm, ⟨35, _⟩ => ⟨S_, .f32⟩
  | .hbm, ⟨36, _⟩ => ⟨S1x64x64, .f32⟩
  | .hbm, ⟨37, _⟩ => ⟨S1x64x64, .f32⟩
  | .hbm, ⟨38, _⟩ => ⟨S1x64x64, .f32⟩
  | .hbm, ⟨39, _⟩ => ⟨S_, .f32⟩
  | .hbm, ⟨40, _⟩ => ⟨S1x64x64, .f32⟩
  | .hbm, ⟨41, _⟩ => ⟨S1x64x64, .f32⟩
  | _, _ => ⟨S8x256x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel24.lean ====
abbrev S8x256x64 : Shape := ⟨3, ![8, 256, 64]⟩
abbrev S1x64x64 : Shape := ⟨3, ![1, 64, 64]⟩
abbrev S8x64x64 : Shape := ⟨3, ![8, 64, 64]⟩
abbrev S64x64 : Shape := ⟨2, ![64, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x256x64, .bf16⟩
  | .hbm, ⟨1, _⟩ => ⟨S1x64x64, .f32⟩
  | .hbm, ⟨2, _⟩ => ⟨S1x64x64, .f32⟩
  | .hbm, ⟨3, _⟩ => ⟨S1x64x64, .f32⟩
  | .hbm, ⟨4, _⟩ => ⟨S1x64x64, .f32⟩
  | .hbm, ⟨5, _⟩ => ⟨S1x64x64, .f32⟩
  | .hbm, ⟨6, _⟩ => ⟨S1x64x64, .f32⟩
  | .hbm, ⟨7, _⟩ => ⟨S1x64x64, .f32⟩
  | .local _ .vmem, ⟨0, _⟩ => ⟨S8x64x64, .bf16⟩
  | .local _ .vmem, ⟨1, _⟩ => ⟨S1x64x64, .f32⟩
  | .local _ .vmem, ⟨2, _⟩ => ⟨S1x64x64, .f32⟩
  | .local _ .vmem, ⟨3, _⟩ => ⟨S1x64x64, .f32⟩
  | .local _ .vmem, ⟨4, _⟩ => ⟨S1x64x64, .f32⟩
  | .local _ .vmem, ⟨5, _⟩ => ⟨S1x64x64, .f32⟩
  | .local _ .vmem, ⟨6, _⟩ => ⟨S1x64x64, .f32⟩
  | .local _ .vmem, ⟨7, _⟩ => ⟨S1x64x64, .f32⟩
  | _, _ => ⟨S8x256x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x64x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference24Ideal.lean ====
abbrev S8x256x64 : Shape := ⟨3, ![8, 256, 64]⟩
abbrev S1x64x64 : Shape := ⟨3, ![1, 64, 64]⟩
abbrev S8x64x64 : Shape := ⟨3, ![8, 64, 64]⟩
abbrev S_ : Shape := ⟨0, ![]⟩
abbrev S64x64 : Shape := ⟨2, ![64, 64]⟩

abbrev nBuf : Space → Nat
  | .hbm => 42
  | .vmem => 0
  | .smem => 0
  | _ => 0

abbrev bufTy : (tb : Table) → Fin (tcTables nBuf tb) → BufTy
  | .hbm, ⟨0, _⟩ => ⟨S8x256x64, .bf16⟩
  | .hbm, ⟨1, _⟩ => ⟨S1x64x64, .f32⟩
  | .hbm, ⟨2, _⟩ => ⟨S1x64x64, .f32⟩
  | .hbm, ⟨3, _⟩ => ⟨S1x64x64, .f32⟩
  | .hbm, ⟨4, _⟩ => ⟨S8x64x64, .bf16⟩
  | .hbm, ⟨5, _⟩ => ⟨S8x64x64, .f32⟩
  | .hbm, ⟨6, _⟩ => ⟨S_, .f32⟩
  | .hbm, ⟨7, _⟩ => ⟨S64x64, .f32⟩
  | .hbm, ⟨8, _⟩ => ⟨S1x64x64, .f32⟩
  | .hbm, ⟨9, _⟩ => ⟨S_, .f32⟩
  | .hbm, ⟨10, _⟩ => ⟨S1x64x64, .f32⟩
  | .hbm, ⟨11, _⟩ => ⟨S1x64x64, .f32⟩
  | .hbm, ⟨12, _⟩ => ⟨S_, .f32⟩
  | .hbm, ⟨13, _⟩ => ⟨S1x64x64, .f32⟩
  | .hbm, ⟨14, _⟩ => ⟨S1x64x64, .f32⟩
  | .hbm, ⟨15, _⟩ => ⟨S1x64x64, .f32⟩
  | .hbm, ⟨16, _⟩ => ⟨S_, .f32⟩
  | .hbm, ⟨17, _⟩ => ⟨S1x64x64, .f32⟩
  | .hbm, ⟨18, _⟩ => ⟨S1x64x64, .f32⟩
  | .hbm, ⟨19, _⟩ => ⟨S1x64x64, .f32⟩
  | .hbm, ⟨20, _⟩ => ⟨S_, .f32⟩
  | .hbm, ⟨21, _⟩ => ⟨S1x64x64, .f32⟩
  | .hbm, ⟨22, _⟩ => ⟨S1x64x64, .f32⟩
  | .hbm, ⟨23, _⟩ => ⟨S1x64x64, .f32⟩
  | .hbm, ⟨24, _⟩ => ⟨S_, .f32⟩
  | .hbm, ⟨25, _⟩ => ⟨S1x64x64, .f32⟩
  | .hbm, ⟨26, _⟩ => ⟨S1x64x64, .f32⟩
  | .hbm, ⟨27, _⟩ => ⟨S_, .f32⟩
  | .hbm, ⟨28, _⟩ => ⟨S1x64x64, .f32⟩
  | .hbm, ⟨29, _⟩ => ⟨S1x64x64, .f32⟩
  | .hbm, ⟨30, _⟩ => ⟨S1x64x64, .f32⟩
  | .hbm, ⟨31, _⟩ => ⟨S_, .f32⟩
  | .hbm, ⟨32, _⟩ => ⟨S1x64x64, .f32⟩
  | .hbm, ⟨33, _⟩ => ⟨S1x64x64, .f32⟩
  | .hbm, ⟨34, _⟩ => ⟨S1x64x64, .f32⟩
  | .hbm, ⟨35, _⟩ => ⟨S_, .f32⟩
  | .hbm, ⟨36, _⟩ => ⟨S1x64x64, .f32⟩
  | .hbm, ⟨37, _⟩ => ⟨S1x64x64, .f32⟩
  | .hbm, ⟨38, _⟩ => ⟨S1x64x64, .f32⟩
  | .hbm, ⟨39, _⟩ => ⟨S_, .f32⟩
  | .hbm, ⟨40, _⟩ => ⟨S1x64x64, .f32⟩
  | .hbm, ⟨41, _⟩ => ⟨S1x64x64, .f32⟩
  | _, _ => ⟨S8x256x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel25.lean ====
abbrev S8x256x64 : Shape := ⟨3, ![8, 256, 64]⟩
abbrev S1x128x64 : Shape := ⟨3, ![1, 128, 64]⟩
abbrev S8x128x64 : Shape := ⟨3, ![8, 128, 64]⟩
abbrev S128x64 : Shape := ⟨2, ![128, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x256x64, .bf16⟩
  | .hbm, ⟨1, _⟩ => ⟨S1x128x64, .f32⟩
  | .hbm, ⟨2, _⟩ => ⟨S1x128x64, .f32⟩
  | .hbm, ⟨3, _⟩ => ⟨S1x128x64, .f32⟩
  | .hbm, ⟨4, _⟩ => ⟨S1x128x64, .f32⟩
  | .hbm, ⟨5, _⟩ => ⟨S1x128x64, .f32⟩
  | .hbm, ⟨6, _⟩ => ⟨S1x128x64, .f32⟩
  | .hbm, ⟨7, _⟩ => ⟨S1x128x64, .f32⟩
  | .local _ .vmem, ⟨0, _⟩ => ⟨S8x128x64, .bf16⟩
  | .local _ .vmem, ⟨1, _⟩ => ⟨S1x128x64, .f32⟩
  | .local _ .vmem, ⟨2, _⟩ => ⟨S1x128x64, .f32⟩
  | .local _ .vmem, ⟨3, _⟩ => ⟨S1x128x64, .f32⟩
  | .local _ .vmem, ⟨4, _⟩ => ⟨S1x128x64, .f32⟩
  | .local _ .vmem, ⟨5, _⟩ => ⟨S1x128x64, .f32⟩
  | .local _ .vmem, ⟨6, _⟩ => ⟨S1x128x64, .f32⟩
  | .local _ .vmem, ⟨7, _⟩ => ⟨S1x128x64, .f32⟩
  | _, _ => ⟨S8x256x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference25Ideal.lean ====
abbrev S8x256x64 : Shape := ⟨3, ![8, 256, 64]⟩
abbrev S1x128x64 : Shape := ⟨3, ![1, 128, 64]⟩
abbrev S8x128x64 : Shape := ⟨3, ![8, 128, 64]⟩
abbrev S_ : Shape := ⟨0, ![]⟩
abbrev S128x64 : Shape := ⟨2, ![128, 64]⟩

abbrev nBuf : Space → Nat
  | .hbm => 42
  | .vmem => 0
  | .smem => 0
  | _ => 0

abbrev bufTy : (tb : Table) → Fin (tcTables nBuf tb) → BufTy
  | .hbm, ⟨0, _⟩ => ⟨S8x256x64, .bf16⟩
  | .hbm, ⟨1, _⟩ => ⟨S1x128x64, .f32⟩
  | .hbm, ⟨2, _⟩ => ⟨S1x128x64, .f32⟩
  | .hbm, ⟨3, _⟩ => ⟨S1x128x64, .f32⟩
  | .hbm, ⟨4, _⟩ => ⟨S8x128x64, .bf16⟩
  | .hbm, ⟨5, _⟩ => ⟨S8x128x64, .f32⟩
  | .hbm, ⟨6, _⟩ => ⟨S_, .f32⟩
  | .hbm, ⟨7, _⟩ => ⟨S128x64, .f32⟩
  | .hbm, ⟨8, _⟩ => ⟨S1x128x64, .f32⟩
  | .hbm, ⟨9, _⟩ => ⟨S_, .f32⟩
  | .hbm, ⟨10, _⟩ => ⟨S1x128x64, .f32⟩
  | .hbm, ⟨11, _⟩ => ⟨S1x128x64, .f32⟩
  | .hbm, ⟨12, _⟩ => ⟨S_, .f32⟩
  | .hbm, ⟨13, _⟩ => ⟨S1x128x64, .f32⟩
  | .hbm, ⟨14, _⟩ => ⟨S1x128x64, .f32⟩
  | .hbm, ⟨15, _⟩ => ⟨S1x128x64, .f32⟩
  | .hbm, ⟨16, _⟩ => ⟨S_, .f32⟩
  | .hbm, ⟨17, _⟩ => ⟨S1x128x64, .f32⟩
  | .hbm, ⟨18, _⟩ => ⟨S1x128x64, .f32⟩
  | .hbm, ⟨19, _⟩ => ⟨S1x128x64, .f32⟩
  | .hbm, ⟨20, _⟩ => ⟨S_, .f32⟩
  | .hbm, ⟨21, _⟩ => ⟨S1x128x64, .f32⟩
  | .hbm, ⟨22, _⟩ => ⟨S1x128x64, .f32⟩
  | .hbm, ⟨23, _⟩ => ⟨S1x128x64, .f32⟩
  | .hbm, ⟨24, _⟩ => ⟨S_, .f32⟩
  | .hbm, ⟨25, _⟩ => ⟨S1x128x64, .f32⟩
  | .hbm, ⟨26, _⟩ => ⟨S1x128x64, .f32⟩
  | .hbm, ⟨27, _⟩ => ⟨S_, .f32⟩
  | .hbm, ⟨28, _⟩ => ⟨S1x128x64, .f32⟩
  | .hbm, ⟨29, _⟩ => ⟨S1x128x64, .f32⟩
  | .hbm, ⟨30, _⟩ => ⟨S1x128x64, .f32⟩
  | .hbm, ⟨31, _⟩ => ⟨S_, .f32⟩
  | .hbm, ⟨32, _⟩ => ⟨S1x128x64, .f32⟩
  | .hbm, ⟨33, _⟩ => ⟨S1x128x64, .f32⟩
  | .hbm, ⟨34, _⟩ => ⟨S1x128x64, .f32⟩
  | .hbm, ⟨35, _⟩ => ⟨S_, .f32⟩
  | .hbm, ⟨36, _⟩ => ⟨S1x128x64, .f32⟩
  | .hbm, ⟨37, _⟩ => ⟨S1x128x64, .f32⟩
  | .hbm, ⟨38, _⟩ => ⟨S1x128x64, .f32⟩
  | .hbm, ⟨39, _⟩ => ⟨S_, .f32⟩
  | .hbm, ⟨40, _⟩ => ⟨S1x128x64, .f32⟩
  | .hbm, ⟨41, _⟩ => ⟨S1x128x64, .f32⟩
  | _, _ => ⟨S8x256x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel26.lean ====
abbrev S4096x1536 : Shape := ⟨2, ![4096, 1536]⟩
abbrev S4096x1024 : Shape := ⟨2, ![4096, 1024]⟩
abbrev S1536x1024 : Shape := ⟨2, ![1536, 1024]⟩
abbrev S2048x1536 : Shape := ⟨2, ![2048, 1536]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S1536x1024, .bf16⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .bf16⟩
  | .local _ .vmem, ⟨5, _⟩ => ⟨S1536x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference26Ideal.lean ====
abbrev S4096x1536 : Shape := ⟨2, ![4096, 1536]⟩
abbrev S4096x1024 : Shape := ⟨2, ![4096, 1024]⟩
abbrev S_ : Shape := ⟨0, ![]⟩
abbrev S1024x1536 : Shape := ⟨2, ![1024, 1536]⟩
abbrev S1536x1024 : Shape := ⟨2, ![1536, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S_, .f32⟩
  | .hbm, ⟨3, _⟩ => ⟨S1024x1536, .f32⟩
  | .hbm, ⟨4, _⟩ => ⟨S4096x1024, .f32⟩
  | .hbm, ⟨5, _⟩ => ⟨S4096x1536, .f32⟩
  | .hbm, ⟨6, _⟩ => ⟨S4096x1536, .f32⟩
  | .hbm, ⟨7, _⟩ => ⟨S1536x1024, .f32⟩
  | .hbm, ⟨8, _⟩ => ⟨S1024x1536, .f32⟩
  | .hbm, ⟨9, _⟩ => ⟨S1536x1024, .f32⟩
  | .hbm, ⟨10, _⟩ => ⟨S1536x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel27.lean ====
abbrev S4096x1920 : Shape := ⟨2, ![4096, 1920]⟩
abbrev S4096x1024 : Shape := ⟨2, ![4096, 1024]⟩
abbrev S1920x1024 : Shape := ⟨2, ![1920, 1024]⟩
abbrev S2048x1920 : Shape := ⟨2, ![2048, 1920]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1920, .bf16⟩
  | .hbm, ⟨1, _⟩ => ⟨S4096x1024, .bf16⟩
  | .hbm, ⟨2, _⟩ => ⟨S1920x1024, .bf16⟩
  | .local _ .vmem, ⟨0, _⟩ => ⟨S2048x1920, .bf16⟩
  | .local _ .vmem, ⟨1, _⟩ => ⟨S2048x1920, .bf16⟩
  | .local _ .vmem, ⟨2, _⟩ => ⟨S2048x1024, .bf16⟩
  | .local _ .vmem, ⟨3, _⟩ => ⟨S2048x1024, .bf16⟩
  | .local _ .vmem, ⟨4, _⟩ => ⟨S1920x1024, .bf16⟩
  | .local _ .vmem, ⟨5, _⟩ => ⟨S1920x1024, .f32⟩
  | _, _ => ⟨S4096x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1920x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference27Ideal.lean ====
abbrev S4096x1920 : Shape := ⟨2, ![4096, 1920]⟩
abbrev S4096x1024 : Shape := ⟨2, ![4096, 1024]⟩
abbrev S_ : Shape := ⟨0, ![]⟩
abbrev S1024x1920 : Shape := ⟨2, ![1024, 1920]⟩
abbrev S1920x1024 : Shape := ⟨2, ![1920, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1920, .bf16⟩
  | .hbm, ⟨1, _⟩ => ⟨S4096x1024, .bf16⟩
  | .hbm, ⟨2, _⟩ => ⟨S_, .f32⟩
  | .hbm, ⟨3, _⟩ => ⟨S1024x1920, .f32⟩
  | .hbm, ⟨4, _⟩ => ⟨S4096x1024, .f32⟩
  | .hbm, ⟨5, _⟩ => ⟨S4096x1920, .f32⟩
  | .hbm, ⟨6, _⟩ => ⟨S4096x1920, .f32⟩
  | .hbm, ⟨7, _⟩ => ⟨S1920x1024, .f32⟩
  | .hbm, ⟨8, _⟩ => ⟨S1024x1920, .f32⟩
  | .hbm, ⟨9, _⟩ => ⟨S1920x1024, .f32⟩
  | .hbm, ⟨10, _⟩ => ⟨S1920x1024, .bf16⟩
  | _, _ => ⟨S4096x1920, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel28.lean ====
abbrev S4096x512 : Shape := ⟨2, ![4096, 512]⟩
abbrev S4096x1024 : Shape := ⟨2, ![4096, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference28Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel29.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference29Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel30.lean ====
abbrev S4096x1024 : Shape := ⟨2, ![4096, 1024]⟩
abbrev S1024x6920 : Shape := ⟨2, ![1024, 6920]⟩
abbrev S6920x1024 : Shape := ⟨2, ![6920, 1024]⟩
abbrev S1536x1024 : Shape := ⟨2, ![1536, 1024]⟩
abbrev S64x1024 : Shape := ⟨2, ![64, 1024]⟩
abbrev S_ : Shape := ⟨0, ![]⟩
abbrev S128x1024 : Shape := ⟨2, ![128, 1024]⟩
abbrev S1920x1024 : Shape := ⟨2, ![1920, 1024]⟩
abbrev S8x1024 : Shape := ⟨2, ![8, 1024]⟩
abbrev S120x1024 : Shape := ⟨2, ![120, 1024]⟩
abbrev S512x1024 : Shape := ⟨2, ![512, 1024]⟩
abbrev S3072x1024 : Shape := ⟨2, ![3072, 1024]⟩
abbrev S4096x1536 : Shape := ⟨2, ![4096, 1536]⟩
abbrev S1024x1024 : Shape := ⟨2, ![1024, 1024]⟩
abbrev S1024x1536 : Shape := ⟨2, ![1024, 1536]⟩

abbrev nBuf : Space → Nat
  | .hbm => 21
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x6920, .f32⟩
  | .hbm, ⟨2, _⟩ => ⟨S6920x1024, .f32⟩
  | .hbm, ⟨3, _⟩ => ⟨S6920x1024, .bf16⟩
  | .hbm, ⟨4, _⟩ => ⟨S1536x1024, .bf16⟩
  | .hbm, ⟨5, _⟩ => ⟨S64x1024, .bf16⟩
  | .hbm, ⟨6, _⟩ => ⟨S_, .bf16⟩
  | .hbm, ⟨7, _⟩ => ⟨S64x1024, .bf16⟩
  | .hbm, ⟨8, _⟩ => ⟨S64x1024, .bf16⟩
  | .hbm, ⟨9, _⟩ => ⟨S_, .bf16⟩
  | .hbm, ⟨10, _⟩ => ⟨S64x1024, .bf16⟩
  | .hbm, ⟨11, _⟩ => ⟨S128x1024, .bf16⟩
  | .hbm, ⟨12, _⟩ => ⟨S1920x1024, .bf16⟩
  | .hbm, ⟨13, _⟩ => ⟨S1536x1024, .bf16⟩
  | .hbm, ⟨14, _⟩ => ⟨S8x1024, .bf16⟩
  | .hbm, ⟨15, _⟩ => ⟨S_, .bf16⟩
  | .hbm, ⟨16, _⟩ => ⟨S120x1024, .bf16⟩
  | .hbm, ⟨17, _⟩ => ⟨S128x1024, .bf16⟩
  | .hbm, ⟨18, _⟩ => ⟨S512x1024, .bf16⟩
  | .hbm, ⟨19, _⟩ => ⟨S3072x1024, .bf16⟩
  | .hbm, ⟨20, _⟩ => ⟨S4096x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S1024x1536, .bf16⟩
  | .local _ .vmem, ⟨4, _⟩ => ⟨S1024x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference30Ideal.lean ====
abbrev S4096x1024 : Shape := ⟨2, ![4096, 1024]⟩
abbrev S1024x6920 : Shape := ⟨2, ![1024, 6920]⟩
abbrev S1024x1536 : Shape := ⟨2, ![1024, 1536]⟩
abbrev S4096x1536 : Shape := ⟨2, ![4096, 1536]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6920, .f32⟩
  | .hbm, ⟨2, _⟩ => ⟨S4096x1024, .f32⟩
  | .hbm, ⟨3, _⟩ => ⟨S1024x1536, .f32⟩
  | .hbm, ⟨4, _⟩ => ⟨S4096x1536, .f32⟩
  | .hbm, ⟨5, _⟩ => ⟨S4096x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel31.lean ====
abbrev S4096x1024 : Shape := ⟨2, ![4096, 1024]⟩
abbrev S1024x6920 : Shape := ⟨2, ![1024, 6920]⟩
abbrev S6920x1024 : Shape := ⟨2, ![6920, 1024]⟩
abbrev S1536x1024 : Shape := ⟨2, ![1536, 1024]⟩
abbrev S64x1024 : Shape := ⟨2, ![64, 1024]⟩
abbrev S_ : Shape := ⟨0, ![]⟩
abbrev S128x1024 : Shape := ⟨2, ![128, 1024]⟩
abbrev S1920x1024 : Shape := ⟨2, ![1920, 1024]⟩
abbrev S8x1024 : Shape := ⟨2, ![8, 1024]⟩
abbrev S120x1024 : Shape := ⟨2, ![120, 1024]⟩
abbrev S512x1024 : Shape := ⟨2, ![512, 1024]⟩
abbrev S3072x1024 : Shape := ⟨2, ![3072, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 21
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x6920, .f32⟩
  | .hbm, ⟨2, _⟩ => ⟨S6920x1024, .f32⟩
  | .hbm, ⟨3, _⟩ => ⟨S6920x1024, .bf16⟩
  | .hbm, ⟨4, _⟩ => ⟨S1536x1024, .bf16⟩
  | .hbm, ⟨5, _⟩ => ⟨S64x1024, .bf16⟩
  | .hbm, ⟨6, _⟩ => ⟨S_, .bf16⟩
  | .hbm, ⟨7, _⟩ => ⟨S64x1024, .bf16⟩
  | .hbm, ⟨8, _⟩ => ⟨S64x1024, .bf16⟩
  | .hbm, ⟨9, _⟩ => ⟨S_, .bf16⟩
  | .hbm, ⟨10, _⟩ => ⟨S64x1024, .bf16⟩
  | .hbm, ⟨11, _⟩ => ⟨S128x1024, .bf16⟩
  | .hbm, ⟨12, _⟩ => ⟨S1920x1024, .bf16⟩
  | .hbm, ⟨13, _⟩ => ⟨S1536x1024, .bf16⟩
  | .hbm, ⟨14, _⟩ => ⟨S8x1024, .bf16⟩
  | .hbm, ⟨15, _⟩ => ⟨S_, .bf16⟩
  | .hbm, ⟨16, _⟩ => ⟨S120x1024, .bf16⟩
  | .hbm, ⟨17, _⟩ => ⟨S128x1024, .bf16⟩
  | .hbm, ⟨18, _⟩ => ⟨S512x1024, .bf16⟩
  | .hbm, ⟨19, _⟩ => ⟨S3072x1024, .bf16⟩
  | .hbm, ⟨20, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference31Ideal.lean ====
abbrev S4096x1024 : Shape := ⟨2, ![4096, 1024]⟩
abbrev S1024x6920 : Shape := ⟨2, ![1024, 6920]⟩
abbrev S1024x512 : Shape := ⟨2, ![1024, 512]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6920, .f32⟩
  | .hbm, ⟨2, _⟩ => ⟨S4096x1024, .f32⟩
  | .hbm, ⟨3, _⟩ => ⟨S1024x512, .f32⟩
  | .hbm, ⟨4, _⟩ => ⟨S4096x512, .f32⟩
  | .hbm, ⟨5, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel32.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S512x1024, .bf16⟩
  | .hbm, ⟨3, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference32Ideal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x512, .f32⟩
  | .hbm, ⟨3, _⟩ => ⟨S4096x1024, .f32⟩
  | .hbm, ⟨4, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel33.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .f32⟩
  | .hbm, ⟨2, _⟩ => ⟨S512x1024, .bf16⟩
  | .hbm, ⟨3, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference33Ideal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .f32⟩
  | .hbm, ⟨2, _⟩ => ⟨S_, .f32⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel34.lean ====
abbrev S4096x1024 : Shape := ⟨2, ![4096, 1024]⟩
abbrev S4096x3072 : Shape := ⟨2, ![4096, 3072]⟩
abbrev S1024x1024 : Shape := ⟨2, ![1024, 1024]⟩
abbrev S512x1024 : Shape := ⟨2, ![512, 1024]⟩
abbrev S512x3072 : Shape := ⟨2, ![512, 3072]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x3072, .bf16⟩
  | .hbm, ⟨4, _⟩ => ⟨S1024x1024, .f32⟩
  | .hbm, ⟨5, _⟩ => ⟨S1024x1024, .bf16⟩
  | .hbm, ⟨6, _⟩ => ⟨S4096x1024, .f32⟩
  | .hbm, ⟨7, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== Reference34Ideal.lean ====
abbrev S4096x1024 : Shape := ⟨2, ![4096, 1024]⟩
abbrev S4096x3072 : Shape := ⟨2, ![4096, 3072]⟩
abbrev S1024x1024 : Shape := ⟨2, ![1024, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x3072, .bf16⟩
  | .hbm, ⟨4, _⟩ => ⟨S1024x1024, .f32⟩
  | .hbm, ⟨5, _⟩ => ⟨S4096x3072, .f32⟩
  | .hbm, ⟨6, _⟩ => ⟨S4096x3072, .f32⟩
  | .hbm, ⟨7, _⟩ => ⟨S4096x3072, .f32⟩
  | .hbm, ⟨8, _⟩ => ⟨S_, .f32⟩
  | .hbm, ⟨9, _⟩ => ⟨S4096x3072, .f32⟩
  | .hbm, ⟨10, _⟩ => ⟨S4096x3072, .f32⟩
  | .hbm, ⟨11, _⟩ => ⟨S_, .f32⟩
  | .hbm, ⟨12, _⟩ => ⟨S4096x3072, .f32⟩
  | .hbm, ⟨13, _⟩ => ⟨S4096x3072, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel35.lean ====
abbrev S4096x1024 : Shape := ⟨2, ![4096, 1024]⟩
abbrev S1024x6920 : Shape := ⟨2, ![1024, 6920]⟩
abbrev S6920x1024 : Shape := ⟨2, ![6920, 1024]⟩
abbrev S1536x1024 : Shape := ⟨2, ![1536, 1024]⟩
abbrev S64x1024 : Shape := ⟨2, ![64, 1024]⟩
abbrev S_ : Shape := ⟨0, ![]⟩
abbrev S128x1024 : Shape := ⟨2, ![128, 1024]⟩
abbrev S1920x1024 : Shape := ⟨2, ![1920, 1024]⟩
abbrev S8x1024 : Shape := ⟨2, ![8, 1024]⟩
abbrev S120x1024 : Shape := ⟨2, ![120, 1024]⟩
abbrev S512x1024 : Shape := ⟨2, ![512, 1024]⟩
abbrev S3072x1024 : Shape := ⟨2, ![3072, 1024]⟩
abbrev S4096x1920 : Shape := ⟨2, ![4096, 1920]⟩
abbrev S1024x1024 : Shape := ⟨2, ![1024, 1024]⟩
abbrev S1024x1920 : Shape := ⟨2, ![1024, 1920]⟩

abbrev nBuf : Space → Nat
  | .hbm => 21
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x6920, .f32⟩
  | .hbm, ⟨2, _⟩ => ⟨S6920x1024, .f32⟩
  | .hbm, ⟨3, _⟩ => ⟨S6920x1024, .bf16⟩
  | .hbm, ⟨4, _⟩ => ⟨S1536x1024, .bf16⟩
  | .hbm, ⟨5, _⟩ => ⟨S64x1024, .bf16⟩
  | .hbm, ⟨6, _⟩ => ⟨S_, .bf16⟩
  | .hbm, ⟨7, _⟩ => ⟨S64x1024, .bf16⟩
  | .hbm, ⟨8, _⟩ => ⟨S64x1024, .bf16⟩
  | .hbm, ⟨9, _⟩ => ⟨S_, .bf16⟩
  | .hbm, ⟨10, _⟩ => ⟨S64x1024, .bf16⟩
  | .hbm, ⟨11, _⟩ => ⟨S128x1024, .bf16⟩
  | .hbm, ⟨12, _⟩ => ⟨S1920x1024, .bf16⟩
  | .hbm, ⟨13, _⟩ => ⟨S1536x1024, .bf16⟩
  | .hbm, ⟨14, _⟩ => ⟨S8x1024, .bf16⟩
  | .hbm, ⟨15, _⟩ => ⟨S_, .bf16⟩
  | .hbm, ⟨16, _⟩ => ⟨S120x1024, .bf16⟩
  | .hbm, ⟨17, _⟩ => ⟨S128x1024, .bf16⟩
  | .hbm, ⟨18, _⟩ => ⟨S512x1024, .bf16⟩
  | .hbm, ⟨19, _⟩ => ⟨S3072x1024, .bf16⟩
  | .hbm, ⟨20, _⟩ => ⟨S4096x1920, .bf16⟩
  | .local _ .vmem, ⟨0, _⟩ => ⟨S1024x1024, .bf16⟩
  | .local _ .vmem, ⟨1, _⟩ => ⟨S1024x1024, .bf16⟩
  | .local _ .vmem, ⟨2, _⟩ => ⟨S1920x1024, .bf16⟩
  | .local _ .vmem, ⟨3, _⟩ => ⟨S1024x1920, .bf16⟩
  | .local _ .vmem, ⟨4, _⟩ => ⟨S1024x1920, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1920x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1920 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference35Ideal.lean ====
abbrev S4096x1024 : Shape := ⟨2, ![4096, 1024]⟩
abbrev S1024x6920 : Shape := ⟨2, ![1024, 6920]⟩
abbrev S1024x1792 : Shape := ⟨2, ![1024, 1792]⟩
abbrev S4096x1792 : Shape := ⟨2, ![4096, 1792]⟩
abbrev S_ : Shape := ⟨0, ![]⟩
abbrev S4096x64 : Shape := ⟨2, ![4096, 64]⟩
abbrev S4096x1600 : Shape := ⟨2, ![4096, 1600]⟩
abbrev S4096x128 : Shape := ⟨2, ![4096, 128]⟩
abbrev S4096x1920 : Shape := ⟨2, ![4096, 1920]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6920, .f32⟩
  | .hbm, ⟨2, _⟩ => ⟨S4096x1024, .f32⟩
  | .hbm, ⟨3, _⟩ => ⟨S1024x1792, .f32⟩
  | .hbm, ⟨4, _⟩ => ⟨S4096x1792, .f32⟩
  | .hbm, ⟨5, _⟩ => ⟨S_, .f32⟩
  | .hbm, ⟨6, _⟩ => ⟨S4096x64, .f32⟩
  | .hbm, ⟨7, _⟩ => ⟨S4096x1600, .f32⟩
  | .hbm, ⟨8, _⟩ => ⟨S4096x64, .f32⟩
  | .hbm, ⟨9, _⟩ => ⟨S4096x128, .f32⟩
  | .hbm, ⟨10, _⟩ => ⟨S4096x1920, .f32⟩
  | .hbm, ⟨11, _⟩ => ⟨S4096x1920, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel36.lean ====
abbrev S4096x1024 : Shape := ⟨2, ![4096, 1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1x1 : Shape := ⟨3, ![1, 1, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S4096x1024, .f32⟩
  | .hbm, ⟨6, _⟩ => ⟨S1x1024, .f32⟩
  | .hbm, ⟨7, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference36Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x1 : Shape := ⟨2, ![1, 1]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .bf16⟩
  | .hbm, ⟨71, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Kernel37.lean ====
abbrev S512x1024 : Shape := ⟨2, ![512, 1024]⟩
abbrev S1x1024 : Shape := ⟨2, ![1, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x1024, .f32⟩
  | .hbm, ⟨3, _⟩ => ⟨S1024x1024, .bf16⟩
  | .hbm, ⟨4, _⟩ => ⟨S512x1024, .f32⟩
  | .hbm, ⟨5, _⟩ => ⟨S512x1024, .bf16⟩
  | .local _ .vmem, ⟨0, _⟩ => ⟨S512x1024, .f32⟩
  | .local _ .vmem, ⟨1, _⟩ => ⟨S1x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]
-- ==== Reference37Ideal.lean ====
abbrev S512x1024 : Shape := ⟨2, ![512, 1024]⟩
abbrev S1x1024 : Shape := ⟨2, ![1, 1024]⟩
abbrev S1024x1024 : Shape := ⟨2, ![1024, 1024]⟩
abbrev S_ : Shape := ⟨0, ![]⟩
abbrev S512 : Shape := ⟨1, ![512]⟩
abbrev S512x1 : Shape := ⟨2, ![512, 1]⟩

abbrev nBuf : Space → Nat
  | .hbm => 20
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x1024, .f32⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel38.lean ====
abbrev S512x1024 : Shape := ⟨2, ![512, 1024]⟩
abbrev S1024x1024 : Shape := ⟨2, ![1024, 1024]⟩

abbrev nBuf : Space → Nat
  | .hbm => 3
  | .vmem => 4
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference38Ideal.lean ====
abbrev S512x1024 : Shape := ⟨2, ![512, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S_, .f32⟩
  | .hbm, ⟨3, _⟩ => ⟨S1024x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel39.lean ====
abbrev S512x1024 : Shape := ⟨2, ![512, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S512x1024, .bf16⟩
  | .hbm, ⟨1, _⟩ => ⟨S1024x1024, .f32⟩
  | .hbm, ⟨2, _⟩ => ⟨S1024x1024, .bf16⟩
  | .hbm, ⟨3, _⟩ => ⟨S512x1024, .f32⟩
  | .local _ .vmem, ⟨0, _⟩ => ⟨S512x1024, .bf16⟩
  | .local _ .vmem, ⟨1, _⟩ => ⟨S1024x1024, .bf16⟩
  | .local _ .vmem, ⟨2, _⟩ => ⟨S512x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference39Ideal.lean ====
abbrev S512x1024 : Shape := ⟨2, ![512, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x1024, .f32⟩
  | .hbm, ⟨2, _⟩ => ⟨S_, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel40.lean ====
abbrev S4096x1024 : Shape := ⟨2, ![4096, 1024]⟩
abbrev S1024x6920 : Shape := ⟨2, ![1024, 6920]⟩
abbrev S6920x1024 : Shape := ⟨2, ![6920, 1024]⟩
abbrev S1536x1024 : Shape := ⟨2, ![1536, 1024]⟩
abbrev S64x1024 : Shape := ⟨2, ![64, 1024]⟩
abbrev S_ : Shape := ⟨0, ![]⟩
abbrev S128x1024 : Shape := ⟨2, ![128, 1024]⟩
abbrev S1920x1024 : Shape := ⟨2, ![1920, 1024]⟩
abbrev S8x1024 : Shape := ⟨2, ![8, 1024]⟩
abbrev S120x1024 : Shape := ⟨2, ![120, 1024]⟩
abbrev S512x1024 : Shape := ⟨2, ![512, 1024]⟩
abbrev S3072x1024 : Shape := ⟨2, ![3072, 1024]⟩
abbrev S4096x128 : Shape := ⟨2, ![4096, 128]⟩
abbrev S1024x1024 : Shape := ⟨2, ![1024, 1024]⟩
abbrev S1024x128 : Shape := ⟨2, ![1024, 128]⟩

abbrev nBuf : Space → Nat
  | .hbm => 21
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x6920, .f32⟩
  | .hbm, ⟨2, _⟩ => ⟨S6920x1024, .f32⟩
  | .hbm, ⟨3, _⟩ => ⟨S6920x1024, .bf16⟩
  | .hbm, ⟨4, _⟩ => ⟨S1536x1024, .bf16⟩
  | .hbm, ⟨5, _⟩ => ⟨S64x1024, .bf16⟩
  | .hbm, ⟨6, _⟩ => ⟨S_, .bf16⟩
  | .hbm, ⟨7, _⟩ => ⟨S64x1024, .bf16⟩
  | .hbm, ⟨8, _⟩ => ⟨S64x1024, .bf16⟩
  | .hbm, ⟨9, _⟩ => ⟨S_, .bf16⟩
  | .hbm, ⟨10, _⟩ => ⟨S64x1024, .bf16⟩
  | .hbm, ⟨11, _⟩ => ⟨S128x1024, .bf16⟩
  | .hbm, ⟨12, _⟩ => ⟨S1920x1024, .bf16⟩
  | .hbm, ⟨13, _⟩ => ⟨S1536x1024, .bf16⟩
  | .hbm, ⟨14, _⟩ => ⟨S8x1024, .bf16⟩
  | .hbm, ⟨15, _⟩ => ⟨S_, .bf16⟩
  | .hbm, ⟨16, _⟩ => ⟨S120x1024, .bf16⟩
  | .hbm, ⟨17, _⟩ => ⟨S128x1024, .bf16⟩
  | .hbm, ⟨18, _⟩ => ⟨S512x1024, .bf16⟩
  | .hbm, ⟨19, _⟩ => ⟨S3072x1024, .bf16⟩
  | .hbm, ⟨20, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference40Ideal.lean ====
abbrev S4096x1024 : Shape := ⟨2, ![4096, 1024]⟩
abbrev S1024x6920 : Shape := ⟨2, ![1024, 6920]⟩
abbrev S1024x8 : Shape := ⟨2, ![1024, 8]⟩
abbrev S4096x8 : Shape := ⟨2, ![4096, 8]⟩
abbrev S_ : Shape := ⟨0, ![]⟩
abbrev S4096x120 : Shape := ⟨2, ![4096, 120]⟩
abbrev S4096x128 : Shape := ⟨2, ![4096, 128]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6920, .f32⟩
  | .hbm, ⟨2, _⟩ => ⟨S4096x1024, .f32⟩
  | .hbm, ⟨3, _⟩ => ⟨S1024x8, .f32⟩
  | .hbm, ⟨4, _⟩ => ⟨S4096x8, .f32⟩
  | .hbm, ⟨5, _⟩ => ⟨S_, .f32⟩
  | .hbm, ⟨6, _⟩ => ⟨S4096x120, .f32⟩
  | .hbm, ⟨7, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel41.lean ====
abbrev S4096x128 : Shape := ⟨2, ![4096, 128]⟩
abbrev S4096x1024 : Shape := ⟨2, ![4096, 1024]⟩
abbrev S128x1024 : Shape := ⟨2, ![128, 1024]⟩
abbrev S2048x128 : Shape := ⟨2, ![2048, 128]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .bf16⟩
  | .hbm, ⟨1, _⟩ => ⟨S4096x1024, .bf16⟩
  | .hbm, ⟨2, _⟩ => ⟨S128x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .bf16⟩
  | .local _ .vmem, ⟨5, _⟩ => ⟨S128x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference41Ideal.lean ====
abbrev S4096x128 : Shape := ⟨2, ![4096, 128]⟩
abbrev S4096x1024 : Shape := ⟨2, ![4096, 1024]⟩
abbrev S_ : Shape := ⟨0, ![]⟩
abbrev S1024x128 : Shape := ⟨2, ![1024, 128]⟩
abbrev S128x1024 : Shape := ⟨2, ![128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x1024, .bf16⟩
  | .hbm, ⟨2, _⟩ => ⟨S_, .f32⟩
  | .hbm, ⟨3, _⟩ => ⟨S1024x128, .f32⟩
  | .hbm, ⟨4, _⟩ => ⟨S4096x1024, .f32⟩
  | .hbm, ⟨5, _⟩ => ⟨S4096x128, .f32⟩
  | .hbm, ⟨6, _⟩ => ⟨S4096x128, .f32⟩
  | .hbm, ⟨7, _⟩ => ⟨S128x1024, .f32⟩
  | .hbm, ⟨8, _⟩ => ⟨S1024x128, .f32⟩
  | .hbm, ⟨9, _⟩ => ⟨S128x1024, .f32⟩
  | .hbm, ⟨10, _⟩ => ⟨S128x1024, .bf16⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel42.lean ====
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024 : Shape := ⟨1, ![1024]⟩

abbrev nBuf : Space → Nat
  | .hbm => 5
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .f32⟩
  | .hbm, ⟨3, _⟩ => ⟨S512x1024, .f32⟩
  | .hbm, ⟨4, _⟩ => ⟨S1x1024, .f32⟩
  | .local _ .vmem, ⟨0, _⟩ => ⟨S512x1024, .f32⟩
  | .local _ .vmem, ⟨1, _⟩ => ⟨S1x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference42Ideal.lean ====
abbrev S512x1024 : Shape := ⟨2, ![512, 1024]⟩
abbrev S1x1024 : Shape := ⟨2, ![1, 1024]⟩
abbrev S_ : Shape := ⟨0, ![]⟩
abbrev S512 : Shape := ⟨1, ![512]⟩
abbrev S512x1 : Shape := ⟨2, ![512, 1]⟩
abbrev S1024 : Shape := ⟨1, ![1024]⟩

abbrev nBuf : Space → Nat
  | .hbm => 22
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S1024, .f32⟩
  | .hbm, ⟨21, _⟩ => ⟨S1x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel43.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference43Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel44.lean ====
abbrev S4096x512 : Shape := ⟨2, ![4096, 512]⟩
abbrev S512x1024 : Shape := ⟨2, ![512, 1024]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 3
  | .vmem => 8
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x512, .bf16⟩
  | .local _ .vmem, ⟨0, _⟩ => ⟨S1024x128, .bf16⟩
  | .local _ .vmem, ⟨1, _⟩ => ⟨S1024x128, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1024x128, .bf16⟩
  | .local _ .vmem, ⟨7, _⟩ => ⟨S1024x128, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference44Ideal.lean ====
abbrev S4096x512 : Shape := ⟨2, ![4096, 512]⟩
abbrev S512x1024 : Shape := ⟨2, ![512, 1024]⟩
abbrev S2x2048x4x128 : Shape := ⟨4, ![2, 2048, 4, 128]⟩
abbrev S512x512 : Shape := ⟨2, ![512, 512]⟩
abbrev S2x256x4x128 : Shape := ⟨4, ![2, 256, 4, 128]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x512, .f32⟩
  | .hbm, ⟨3, _⟩ => ⟨S2x2048x4x128, .f32⟩
  | .hbm, ⟨4, _⟩ => ⟨S512x512, .f32⟩
  | .hbm, ⟨5, _⟩ => ⟨S2x256x4x128, .f32⟩
  | .hbm, ⟨6, _⟩ => ⟨S512x512, .f32⟩
  | .hbm, ⟨7, _⟩ => ⟨S2x256x4x128, .f32⟩
  | .hbm, ⟨8, _⟩ => ⟨S2x4x2048x256, .f32⟩
  | .hbm, ⟨9, _⟩ => ⟨S_, .f32⟩
  | .hbm, ⟨10, _⟩ => ⟨S2x4x2048x256, .f32⟩
  | .hbm, ⟨11, _⟩ => ⟨S2x4x2048x256, .f32⟩
  | .hbm, ⟨12, _⟩ => ⟨S_, .f32⟩
  | .hbm, ⟨13, _⟩ => ⟨S2x4x2048, .f32⟩
  | .hbm, ⟨14, _⟩ => ⟨S_, .f32⟩
  | .hbm, ⟨15, _⟩ => ⟨S2x4x2048, .f32⟩
  | .hbm, ⟨16, _⟩ => ⟨S2x4x2048, .f32⟩
  | .hbm, ⟨17, _⟩ => ⟨S2x4x2048x1, .f32⟩
  | .hbm, ⟨18, _⟩ => ⟨S2x4x2048x256, .f32⟩
  | .hbm, ⟨19, _⟩ => ⟨S2x4x2048x256, .f32⟩
  | .hbm, ⟨20, _⟩ => ⟨S2x4x2048x256, .f32⟩
  | .hbm, ⟨21, _⟩ => ⟨S_, .f32⟩
  | .hbm, ⟨22, _⟩ => ⟨S2x4x2048, .f32⟩
  | .hbm, ⟨23, _⟩ => ⟨S2x4x2048x1, .f32⟩
  | .hbm, ⟨24, _⟩ => ⟨S2x4x2048x256, .f32⟩
  | .hbm, ⟨25, _⟩ => ⟨S2x4x2048x256, .f32⟩
  | .hbm, ⟨26, _⟩ => ⟨S2x4x128x2048, .f32⟩
  | .hbm, ⟨27, _⟩ => ⟨S2x2048x4x128, .f32⟩
  | .hbm, ⟨28, _⟩ => ⟨S4096x512, .f32⟩
  | .hbm, ⟨29, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel45.lean ====
abbrev S4096x1920 : Shape := ⟨2, ![4096, 1920]⟩
abbrev S1x1920 : Shape := ⟨2, ![1, 1920]⟩
abbrev S2048x384 : Shape := ⟨2, ![2048, 384]⟩
abbrev S1x384 : Shape := ⟨2, ![1, 384]⟩

abbrev nBuf : Space → Nat
  | .hbm => 3
  | .vmem => 6
  | .smem => 0
  | _ => 0

abbrev bufTy : (tb : Table) → Fin (tcTables nBuf tb) → BufTy
  | .hbm, ⟨0, _⟩ => ⟨S4096x1920, .bf16⟩
  | .hbm, ⟨1, _⟩ => ⟨S1x1920, .f32⟩
  | .hbm, ⟨2, _⟩ => ⟨S4096x1920, .bf16⟩
  | .local _ .vmem, ⟨0, _⟩ => ⟨S2048x384, .bf16⟩
  | .local _ .vmem, ⟨1, _⟩ => ⟨S2048x384, .bf16⟩
  | .local _ .vmem, ⟨2, _⟩ => ⟨S1x384, .f32⟩
  | .local _ .vmem, ⟨3, _⟩ => ⟨S1x384, .f32⟩
  | .local _ .vmem, ⟨4, _⟩ => ⟨S2048x384, .bf16⟩
  | .local _ .vmem, ⟨5, _⟩ => ⟨S2048x384, .bf16⟩
  | _, _ => ⟨S4096x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference45Ideal.lean ====
abbrev S4096x1920 : Shape := ⟨2, ![4096, 1920]⟩
abbrev S1x1920 : Shape := ⟨2, ![1, 1920]⟩
abbrev S2x2048x1920 : Shape := ⟨3, ![2, 2048, 1920]⟩
abbrev S_ : Shape := ⟨0, ![]⟩
abbrev S2x1x1920 : Shape := ⟨3, ![2, 1, 1920]⟩
abbrev S2x2047x1920 : Shape := ⟨3, ![2, 2047, 1920]⟩

abbrev nBuf : Space → Nat
  | .hbm => 14
  | .vmem => 0
  | .smem => 0
  | _ => 0

abbrev bufTy : (tb : Table) → Fin (tcTables nBuf tb) → BufTy
  | .hbm, ⟨0, _⟩ => ⟨S4096x1920, .bf16⟩
  | .hbm, ⟨1, _⟩ => ⟨S1x1920, .f32⟩
  | .hbm, ⟨2, _⟩ => ⟨S4096x1920, .f32⟩
  | .hbm, ⟨3, _⟩ => ⟨S2x2048x1920, .f32⟩
  | .hbm, ⟨4, _⟩ => ⟨S_, .f32⟩
  | .hbm, ⟨5, _⟩ => ⟨S2x1x1920, .f32⟩
  | .hbm, ⟨6, _⟩ => ⟨S2x2047x1920, .f32⟩
  | .hbm, ⟨7, _⟩ => ⟨S2x2048x1920, .f32⟩
  | .hbm, ⟨8, _⟩ => ⟨S4096x1920, .f32⟩
  | .hbm, ⟨9, _⟩ => ⟨S4096x1920, .f32⟩
  | .hbm, ⟨10, _⟩ => ⟨S4096x1920, .f32⟩
  | .hbm, ⟨11, _⟩ => ⟨S4096x1920, .f32⟩
  | .hbm, ⟨12, _⟩ => ⟨S4096x1920, .f32⟩
  | .hbm, ⟨13, _⟩ => ⟨S4096x1920, .bf16⟩
  | _, _ => ⟨S4096x1920, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel46.lean ====
abbrev S4096x1920 : Shape := ⟨2, ![4096, 1920]⟩
abbrev S1x1920 : Shape := ⟨2, ![1, 1920]⟩
abbrev S2048x384 : Shape := ⟨2, ![2048, 384]⟩
abbrev S1x384 : Shape := ⟨2, ![1, 384]⟩
abbrev S384 : Shape := ⟨1, ![384]⟩

abbrev nBuf : Space → Nat
  | .hbm => 5
  | .vmem => 10
  | .smem => 0
  | _ => 0

abbrev bufTy : (tb : Table) → Fin (tcTables nBuf tb) → BufTy
  | .hbm, ⟨0, _⟩ => ⟨S4096x1920, .bf16⟩
  | .hbm, ⟨1, _⟩ => ⟨S1x1920, .f32⟩
  | .hbm, ⟨2, _⟩ => ⟨S4096x1920, .bf16⟩
  | .hbm, ⟨3, _⟩ => ⟨S4096x1920, .bf16⟩
  | .hbm, ⟨4, _⟩ => ⟨S1x1920, .f32⟩
  | .local _ .vmem, ⟨0, _⟩ => ⟨S2048x384, .bf16⟩
  | .local _ .vmem, ⟨1, _⟩ => ⟨S2048x384, .bf16⟩
  | .local _ .vmem, ⟨2, _⟩ => ⟨S1x384, .f32⟩
  | .local _ .vmem, ⟨3, _⟩ => ⟨S1x384, .f32⟩
  | .local _ .vmem, ⟨4, _⟩ => ⟨S2048x384, .bf16⟩
  | .local _ .vmem, ⟨5, _⟩ => ⟨S2048x384, .bf16⟩
  | .local _ .vmem, ⟨6, _⟩ => ⟨S2048x384, .bf16⟩
  | .local _ .vmem, ⟨7, _⟩ => ⟨S2048x384, .bf16⟩
  | .local _ .vmem, ⟨8, _⟩ => ⟨S1x384, .f32⟩
  | .local _ .vmem, ⟨9, _⟩ => ⟨S1x384, .f32⟩
  | _, _ => ⟨S4096x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![5, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference46Ideal.lean ====
abbrev S4096x1920 : Shape := ⟨2, ![4096, 1920]⟩
abbrev S1x1920 : Shape := ⟨2, ![1, 1920]⟩
abbrev S2x2048x1920 : Shape := ⟨3, ![2, 2048, 1920]⟩
abbrev S_ : Shape := ⟨0, ![]⟩
abbrev S2x1x1920 : Shape := ⟨3, ![2, 1, 1920]⟩
abbrev S2x2047x1920 : Shape := ⟨3, ![2, 2047, 1920]⟩
abbrev S1920 : Shape := ⟨1, ![1920]⟩

abbrev nBuf : Space → Nat
  | .hbm => 33
  | .vmem => 0
  | .smem => 0
  | _ => 0

abbrev bufTy : (tb : Table) → Fin (tcTables nBuf tb) → BufTy
  | .hbm, ⟨0, _⟩ => ⟨S4096x1920, .bf16⟩
  | .hbm, ⟨1, _⟩ => ⟨S1x1920, .f32⟩
  | .hbm, ⟨2, _⟩ => ⟨S4096x1920, .bf16⟩
  | .hbm, ⟨3, _⟩ => ⟨S4096x1920, .f32⟩
  | .hbm, ⟨4, _⟩ => ⟨S2x2048x1920, .f32⟩
  | .hbm, ⟨5, _⟩ => ⟨S_, .f32⟩
  | .hbm, ⟨6, _⟩ => ⟨S2x1x1920, .f32⟩
  | .hbm, ⟨7, _⟩ => ⟨S2x2047x1920, .f32⟩
  | .hbm, ⟨8, _⟩ => ⟨S2x2048x1920, .f32⟩
  | .hbm, ⟨9, _⟩ => ⟨S_, .f32⟩
  | .hbm, ⟨10, _⟩ => ⟨S2x1x1920, .f32⟩
  | .hbm, ⟨11, _⟩ => ⟨S4096x1920, .f32⟩
  | .hbm, ⟨12, _⟩ => ⟨S4096x1920, .f32⟩
  | .hbm, ⟨13, _⟩ => ⟨S4096x1920, .f32⟩
  | .hbm, ⟨14, _⟩ => ⟨S4096x1920, .f32⟩
  | .hbm, ⟨15, _⟩ => ⟨S4096x1920, .f32⟩
  | .hbm, ⟨16, _⟩ => ⟨S4096x1920, .f32⟩
  | .hbm, ⟨17, _⟩ => ⟨S4096x1920, .f32⟩
  | .hbm, ⟨18, _⟩ => ⟨S_, .f32⟩
  | .hbm, ⟨19, _⟩ => ⟨S1920, .f32⟩
  | .hbm, ⟨20, _⟩ => ⟨S1x1920, .f32⟩
  | .hbm, ⟨21, _⟩ => ⟨S4096x1920, .f32⟩
  | .hbm, ⟨22, _⟩ => ⟨S4096x1920, .f32⟩
  | .hbm, ⟨23, _⟩ => ⟨S4096x1920, .f32⟩
  | .hbm, ⟨24, _⟩ => ⟨S4096x1920, .f32⟩
  | .hbm, ⟨25, _⟩ => ⟨S2x2048x1920, .f32⟩
  | .hbm, ⟨26, _⟩ => ⟨S2x1x1920, .f32⟩
  | .hbm, ⟨27, _⟩ => ⟨S2x2047x1920, .f32⟩
  | .hbm, ⟨28, _⟩ => ⟨S_, .f32⟩
  | .hbm, ⟨29, _⟩ => ⟨S2x2048x1920, .f32⟩
  | .hbm, ⟨30, _⟩ => ⟨S4096x1920, .f32⟩
  | .hbm, ⟨31, _⟩ => ⟨S4096x1920, .f32⟩
  | .hbm, ⟨32, _⟩ => ⟨S4096x1920, .bf16⟩
  | _, _ => ⟨S4096x1920, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel47.lean ====
abbrev S4096x512 : Shape := ⟨2, ![4096, 512]⟩
abbrev S512x1024 : Shape := ⟨2, ![512, 1024]⟩
abbrev S512x512 : Shape := ⟨2, ![512, 512]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 6
  | .vmem => 14
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x512, .f32⟩
  | .hbm, ⟨3, _⟩ => ⟨S4096x512, .bf16⟩
  | .hbm, ⟨4, _⟩ => ⟨S512x512, .f32⟩
  | .hbm, ⟨5, _⟩ => ⟨S512x512, .f32⟩
  | .local _ .vmem, ⟨0, _⟩ => ⟨S1024x128, .bf16⟩
  | .local _ .vmem, ⟨1, _⟩ => ⟨S1024x128, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1024x128, .f32⟩
  | .local _ .vmem, ⟨7, _⟩ => ⟨S1024x128, .f32⟩
  | .local _ .vmem, ⟨8, _⟩ => ⟨S1024x128, .bf16⟩
  | .local _ .vmem, ⟨9, _⟩ => ⟨S1024x128, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference47Ideal.lean ====
abbrev S4096x512 : Shape := ⟨2, ![4096, 512]⟩
abbrev S512x1024 : Shape := ⟨2, ![512, 1024]⟩
abbrev S2x2048x4x128 : Shape := ⟨4, ![2, 2048, 4, 128]⟩
abbrev S512x512 : Shape := ⟨2, ![512, 512]⟩
abbrev S2x256x4x128 : Shape := ⟨4, ![2, 256, 4, 128]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x4x128x256 : Shape := ⟨4, ![2, 4, 128, 256]⟩
abbrev S2x4x256x128 : Shape := ⟨4, ![2, 4, 256, 128]⟩
abbrev S2x4x2048x128 : Shape := ⟨4, ![2, 4, 2048, 128]⟩

abbrev nBuf : Space → Nat
  | .hbm => 91
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x512, .f32⟩
  | .hbm, ⟨3, _⟩ => ⟨S4096x512, .f32⟩
  | .hbm, ⟨4, _⟩ => ⟨S2x2048x4x128, .f32⟩
  | .hbm, ⟨5, _⟩ => ⟨S512x512, .f32⟩
  | .hbm, ⟨6, _⟩ => ⟨S2x256x4x128, .f32⟩
  | .hbm, ⟨7, _⟩ => ⟨S512x512, .f32⟩
  | .hbm, ⟨8, _⟩ => ⟨S2x256x4x128, .f32⟩
  | .hbm, ⟨9, _⟩ => ⟨S2x4x2048x256, .f32⟩
  | .hbm, ⟨10, _⟩ => ⟨S_, .f32⟩
  | .hbm, ⟨11, _⟩ => ⟨S2x4x2048x256, .f32⟩
  | .hbm, ⟨12, _⟩ => ⟨S2x4x2048x256, .f32⟩
  | .hbm, ⟨13, _⟩ => ⟨S_, .f32⟩
  | .hbm, ⟨14, _⟩ => ⟨S2x4x2048, .f32⟩
  | .hbm, ⟨15, _⟩ => ⟨S2x4x2048x1, .f32⟩
  | .hbm, ⟨16, _⟩ => ⟨S2x4x2048x256, .f32⟩
  | .hbm, ⟨17, _⟩ => ⟨S2x4x2048x256, .i1⟩
  | .hbm, ⟨18, _⟩ => ⟨S2x4x2048x256, .f32⟩
  | .hbm, ⟨19, _⟩ => ⟨S_, .f32⟩
  | .hbm, ⟨20, _⟩ => ⟨S2x4x2048, .f32⟩
  | .hbm, ⟨21, _⟩ => ⟨S_, .f32⟩
  | .hbm, ⟨22, _⟩ => ⟨S2x4x2048, .f32⟩
  | .hbm, ⟨23, _⟩ => ⟨S2x4x2048, .f32⟩
  | .hbm, ⟨24, _⟩ => ⟨S_, .f32⟩
  | .hbm, ⟨25, _⟩ => ⟨S2x4x2048, .f32⟩
  | .hbm, ⟨26, _⟩ => ⟨S2x4x2048, .i1⟩
  | .hbm, ⟨27, _⟩ => ⟨S_, .f32⟩
  | .hbm, ⟨28, _⟩ => ⟨S2x4x2048, .f32⟩
  | .hbm, ⟨29, _⟩ => ⟨S2x4x2048, .i1⟩
  | .hbm, ⟨30, _⟩ => ⟨S_, .f32⟩
  | .hbm, ⟨31, _⟩ => ⟨S2x4x2048, .f32⟩
  | .hbm, ⟨32, _⟩ => ⟨S_, .f32⟩
  | .hbm, ⟨33, _⟩ => ⟨S2x4x2048, .f32⟩
  | .hbm, ⟨34, _⟩ => ⟨S_, .f32⟩
  | .hbm, ⟨35, _⟩ => ⟨S2x4x2048, .f32⟩
  | .hbm, ⟨36, _⟩ => ⟨S2x4x2048, .f32⟩
  | .hbm, ⟨37, _⟩ => ⟨S2x4x2048, .f32⟩
  | .hbm, ⟨38, _⟩ => ⟨S2x4x2048x1, .f32⟩
  | .hbm, ⟨39, _⟩ => ⟨S2x4x2048x256, .f32⟩
  | .hbm, ⟨40, _⟩ => ⟨S2x4x2048x256, .f32⟩
  | .hbm, ⟨41, _⟩ => ⟨S2x4x2048x256, .f32⟩
  | .hbm, ⟨42, _⟩ => ⟨S_, .f32⟩
  | .hbm, ⟨43, _⟩ => ⟨S2x4x2048, .f32⟩
  | .hbm, ⟨44, _⟩ => ⟨S2x4x2048x1, .f32⟩
  | .hbm, ⟨45, _⟩ => ⟨S2x4x2048x256, .f32⟩
  | .hbm, ⟨46, _⟩ => ⟨S2x4x2048x256, .f32⟩
  | .hbm, ⟨47, _⟩ => ⟨S2x4x2048x1, .f32⟩
  | .hbm, ⟨48, _⟩ => ⟨S_, .f32⟩
  | .hbm, ⟨49, _⟩ => ⟨S2x4x2048x1, .f32⟩
  | .hbm, ⟨50, _⟩ => ⟨S2x4x2048x1, .f32⟩
  | .hbm, ⟨51, _⟩ => ⟨S2x4x128x2048, .f32⟩
  | .hbm, ⟨52, _⟩ => ⟨S2x2048x4x128, .f32⟩
  | .hbm, ⟨53, _⟩ => ⟨S4096x512, .f32⟩
  | .hbm, ⟨54, _⟩ => ⟨S2x2048x4x128, .f32⟩
  | .hbm, ⟨55, _⟩ => ⟨S2x4x128x2048, .f32⟩
  | .hbm, ⟨56, _⟩ => ⟨S2x4x2048x256, .f32⟩
  | .hbm, ⟨57, _⟩ => ⟨S2x4x128x256, .f32⟩
  | .hbm, ⟨58, _⟩ => ⟨S2x256x4x128, .f32⟩
  | .hbm, ⟨59, _⟩ => ⟨S2x4x2048x256, .f32⟩
  | .hbm, ⟨60, _⟩ => ⟨S2x4x2048x256, .f32⟩
  | .hbm, ⟨61, _⟩ => ⟨S2x4x2048x256, .f32⟩
  | .hbm, ⟨62, _⟩ => ⟨S_, .f32⟩
  | .hbm, ⟨63, _⟩ => ⟨S2x4x2048, .f32⟩
  | .hbm, ⟨64, _⟩ => ⟨S2x4x2048x1, .f32⟩
  | .hbm, ⟨65, _⟩ => ⟨S2x4x2048x1, .f32⟩
  | .hbm, ⟨66, _⟩ => ⟨S2x4x2048x256, .f32⟩
  | .hbm, ⟨67, _⟩ => ⟨S2x4x2048x256, .f32⟩
  | .hbm, ⟨68, _⟩ => ⟨S_, .f32⟩
  | .hbm, ⟨69, _⟩ => ⟨S2x4x2048, .f32⟩
  | .hbm, ⟨70, _⟩ => ⟨S2x4x2048x256, .f32⟩
  | .hbm, ⟨71, _⟩ => ⟨S2x4x2048x256, .f32⟩
  | .hbm, ⟨72, _⟩ => ⟨S2x4x2048x256, .f32⟩
  | .hbm, ⟨73, _⟩ => ⟨S_, .f32⟩
  | .hbm, ⟨74, _⟩ => ⟨S2x4x2048x256, .f32⟩
  | .hbm, ⟨75, _⟩ => ⟨S2x4x2048x256, .f32⟩
  | .hbm, ⟨76, _⟩ => ⟨S2x4x256x128, .f32⟩
  | .hbm, ⟨77, _⟩ => ⟨S2x256x4x128, .f32⟩
  | .hbm, ⟨78, _⟩ => ⟨S2x4x2048x128, .f32⟩
  | .hbm, ⟨79, _⟩ => ⟨S2x2048x4x128, .f32⟩
  | .hbm, ⟨80, _⟩ => ⟨S512x512, .f32⟩
  | .hbm, ⟨81, _⟩ => ⟨S_, .f32⟩
  | .hbm, ⟨82, _⟩ => ⟨S512x1024, .f32⟩
  | .hbm, ⟨83, _⟩ => ⟨S512x512, .f32⟩
  | .hbm, ⟨84, _⟩ => ⟨S_, .f32⟩
  | .hbm, ⟨85, _⟩ => ⟨S512x1024, .f32⟩
  | .hbm, ⟨86, _⟩ => ⟨S512x1024, .f32⟩
  | .hbm, ⟨87, _⟩ => ⟨S4096x512, .f32⟩
  | .hbm, ⟨88, _⟩ => ⟨S4096x512, .bf16⟩
  | .hbm, ⟨89, _⟩ => ⟨S512x512, .f32⟩
  | .hbm, ⟨90, _⟩ => ⟨S512x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩

abbrev nD : Nat := 1
abbrev τ : Topo := Topo.v7x

variable {F : FTy → Type} [FloatOps F]
-- ==== Proof.Plain.lean ====
/-
  The attention and its derivative as arrays, stage by stage, as the plain program writes them.
-/
module

public import proofs.«01_k».proof.Proof.Gen.ReferenceIdeal.Run

@[expose] public section

set_option maxRecDepth 16384

noncomputable section

namespace Cert.Fox.Plain

open Idealize.ShloMosaic Idealize.ShloMosaic.TcCoe Idealize.SL Idealize.SL.Sem Cert.ReferenceIdeal Cert.ReferenceIdeal.Gen

variable {F : FTy → Type} [FloatOps F]

/-! ### The arguments by heads -/

def qHeads (A : Vec F S4096x1536 .bf16) : Vec F S2x2048x8x64 .f32 :=
  shapeCast S2x2048x8x64 (extractStridedSlice S4096x512 ![0, 0] (extf .f32 A bitsLt_bf16_f32) slices_S4096x1536_S4096x512_0_0)
    shapeCasts_S4096x512_S2x2048x8x64

def kHeads (A : Vec F S4096x1536 .bf16) : Vec F S2x2048x8x64 .f32 :=
  shapeCast S2x2048x8x64 (extractStridedSlice S4096x512 ![0, 512] (extf .f32 A bitsLt_bf16_f32) slices_S4096x1536_S4096x512_0_512)
    shapeCasts_S4096x512_S2x2048x8x64

def vHeads (A : Vec F S4096x1536 .bf16) : Vec F S2x2048x8x64 .f32 :=
  shapeCast S2x2048x8x64 (extractStridedSlice S4096x512 ![0, 1024] (extf .f32 A bitsLt_bf16_f32) slices_S4096x1536_S4096x512_0_1024)
    shapeCasts_S4096x512_S2x2048x8x64

def gates (A : Vec F S4096x128 .f32) : Vec F S2x2048x8 .f32 :=
  shapeCast S2x2048x8 (extractStridedSlice S4096x8 ![0, 0] A slices_S4096x128_S4096x8_0_0) shapeCasts_S4096x8_S2x2048x8

def gateRows (A : Vec F S4096x128 .f32) : Vec F S2x8x2048 .f32 :=
  transpose S2x8x2048 [0, 2, 1] (gates A) transposes_S2x2048x8_S2x8x2048_0_2_1

def outHeads (A : Vec F S4096x512 .f32) : Vec F S2x2048x8x64 .f32 := shapeCast S2x2048x8x64 A shapeCasts_S4096x512_S2x2048x8x64

/-! ### Scores and probabilities -/

/-- The keys that a query reads. -/
def causal : IVec S2x8x2048x2048 1 :=
  broadcastInDim S2x8x2048x2048 ![2, 3] bcast_S2048x2048_S2x8x2048x2048_2_3
    (select (cmpi .sge (addi (iotaInDim S2048x2048 32 0) (broadcastInDim S2048x2048 ![] bcast_S_S2048x2048 (constantI S_ 32 0#32)))
        (iotaInDim S2048x2048 32 1))
      (broadcastInDim S2048x2048 ![] bcast_S_S2048x2048 (constantI S_ 1 1#1))
      (broadcastInDim S2048x2048 ![] bcast_S_S2048x2048 (constantI S_ 1 0#1)))

/-- An array of one element a query, for every key. -/
def overKeys (x : Vec F S2x8x2048 .f32) : Vec F S2x8x2048x2048 .f32 :=
  broadcastInDim S2x8x2048x2048 ![0, 1, 2, 3] bcast_S2x8x2048x1_S2x8x2048x2048_0_1_2_3
    (broadcastInDim S2x8x2048x1 ![0, 1, 2] bcast_S2x8x2048_S2x8x2048x1_0_1_2 x)

def score (A : Vec F S4096x1536 .bf16) (B : Vec F S4096x128 .f32) : Vec F S2x8x2048x2048 .f32 :=
  select causal
    (addf
      (mulf (Host.dotGeneral dot_S2x2048x8x64_S2x2048x8x64_S2x8x2048x2048_3_3_1_1_02_02 none (qHeads A) (kHeads A))
        (broadcastInDim S2x8x2048x2048 ![] bcast_S_S2x8x2048x2048 (constant S_ .f32 0x3E000000#32)))
      (subf (overKeys (gateRows B))
        (broadcastInDim S2x8x2048x2048 ![0, 1, 2, 3] bcast_S2x8x1x2048_S2x8x2048x2048_0_1_2_3
          (broadcastInDim S2x8x1x2048 ![0, 1, 3] bcast_S2x8x2048_S2x8x1x2048_0_1_3 (gateRows B)))))
    (broadcastInDim S2x8x2048x2048 ![] bcast_S_S2x8x2048x2048 (constant S_ .f32 0xFF800000#32))

def rowMax (s : Vec F S2x8x2048x2048 .f32) : Vec F S2x8x2048 .f32 :=
  Host.reduce FloatOps.maximumf s (constant S_ .f32 0xFF800000#32) reducesTo_S2x8x2048x2048_S2x8x2048_d3 h_S_

def sumKeys (s : Vec F S2x8x2048x2048 .f32) : Vec F S2x8x2048 .f32 :=
  Host.reduceAdd s (constant S_ .f32 0x00000000#32) reducesTo_S2x8x2048x2048_S2x8x2048_d3 h_S_

/-- The exponentials of the scores over the largest one `x` of a query. -/
def expo (s : Vec F S2x8x2048x2048 .f32) (x : Vec F S2x8x2048 .f32) : Vec F S2x8x2048x2048 .f32 := Host.exp (subf s (overKeys x))

/-- The largest score of a query, no less than the least number. -/
def guarded (x : Vec F S2x8x2048 .f32) : Vec F S2x8x2048 .f32 :=
  maximumf (broadcastInDim S2x8x2048 ![] bcast_S_S2x8x2048 (constant S_ .f32 0xFF800000#32)) x

def weights (A : Vec F S4096x1536 .bf16) (B : Vec F S4096x128 .f32) : Vec F S2x8x2048x2048 .f32 :=
  expo (score A B) (guarded (rowMax (score A B)))

def prob (A : Vec F S4096x1536 .bf16) (B : Vec F S4096x128 .f32) : Vec F S2x8x2048x2048 .f32 :=
  Host.divf (weights A B) (overKeys (sumKeys (weights A B)))

/-- The attention's result. -/
def context (A : Vec F S4096x1536 .bf16) (B : Vec F S4096x128 .f32) : Vec F S4096x512 .f32 :=
  shapeCast S4096x512
    (transpose S2x2048x8x64 [0, 3, 1, 2]
      (Host.dotGeneral dot_S2x2048x8x64_S2x8x2048x2048_S2x8x64x2048_1_3_3_2_02_01 none (vHeads A) (prob A B))
      transposes_S2x8x64x2048_S2x2048x8x64_0_3_1_2)
    shapeCasts_S2x2048x8x64_S4096x512

/-- The logarithm of the sum of the exponentials. -/
def logSum (A : Vec F S4096x1536 .bf16) (B : Vec F S4096x128 .f32) : Vec F S2x8x2048 .f32 :=
  addf (rowMax (score A B)) (Host.log (sumKeys (expo (score A B) (rowMax (score A B)))))

/-! ### The derivative -/

def outRows (D : Vec F S4096x512 .f32) : Vec F S2x8x64x2048 .f32 :=
  transpose S2x8x64x2048 [0, 2, 3, 1] (outHeads D) transposes_S2x2048x8x64_S2x8x64x2048_0_2_3_1

/-- The derivative of the probabilities. -/
def dprob (A : Vec F S4096x1536 .bf16) (D : Vec F S4096x512 .f32) : Vec F S2x8x2048x2048 .f32 :=
  Host.dotGeneral dot_S2x8x64x2048_S2x2048x8x64_S2x8x2048x2048_2_3_3_1_01_02 none (outRows D) (vHeads A)

/-- One over the square of a query's sum. -/
def invSquare (A : Vec F S4096x1536 .bf16) (B : Vec F S4096x128 .f32) : Vec F S2x8x2048x1 .f32 :=
  Host.divf (broadcastInDim S2x8x2048x1 ![] bcast_S_S2x8x2048x1 (constant S_ .f32 0x3F800000#32))
    (mulf (broadcastInDim S2x8x2048x1 ![0, 1, 2] bcast_S2x8x2048_S2x8x2048x1_0_1_2 (sumKeys (weights A B)))
      (broadcastInDim S2x8x2048x1 ![0, 1, 2] bcast_S2x8x2048_S2x8x2048x1_0_1_2 (sumKeys (weights A B))))

/-- The derivative of a query's sum. -/
def dsum (A : Vec F S4096x1536 .bf16) (B : Vec F S4096x128 .f32) (D : Vec F S4096x512 .f32) : Vec F S2x8x2048 .f32 :=
  Host.reduceAdd
    (Host.negf (shapeCast S2x8x2048x1
      (sumKeys (mulf (mulf (dprob A D)
          (broadcastInDim S2x8x2048x2048 ![0, 1, 2, 3] bcast_S2x8x2048x1_S2x8x2048x2048_0_1_2_3 (invSquare A B)))
        (weights A B)))
      shapeCasts_S2x8x2048_S2x8x2048x1))
    (constant S_ .f32 0x00000000#32) reducesTo_S2x8x2048x1_S2x8x2048_d3 h_S_

/-- The derivative of the scores. -/
def dscore (A : Vec F S4096x1536 .bf16) (B : Vec F S4096x128 .f32) (D : Vec F S4096x512 .f32) : Vec F S2x8x2048x2048 .f32 :=
  select causal
    (mulf
      (addf (Host.divf (dprob A D) (overKeys (sumKeys (weights A B))))
        (broadcastInDim S2x8x2048x2048 ![0, 1, 2] bcast_S2x8x2048_S2x8x2048x2048_0_1_2 (dsum A B D)))
      (weights A B))
    (broadcastInDim S2x8x2048x2048 ![] bcast_S_S2x8x2048x2048 (constant S_ .f32 0x00000000#32))

def scaled (A : Vec F S4096x1536 .bf16) (B : Vec F S4096x128 .f32) (D : Vec F S4096x512 .f32) : Vec F S2x8x2048x2048 .f32 :=
  mulf (dscore A B D) (broadcastInDim S2x8x2048x2048 ![] bcast_S_S2x8x2048x2048 (constant S_ .f32 0x3E000000#32))

def dq (A : Vec F S4096x1536 .bf16) (B : Vec F S4096x128 .f32) (D : Vec F S4096x512 .f32) : Vec F S4096x512 .f32 :=
  shapeCast S4096x512 (transpose S2x2048x8x64 [0, 2, 1, 3]
    (Host.dotGeneral dot_S2x8x2048x2048_S2x2048x8x64_S2x8x2048x64_3_1_2_3_01_02 none (scaled A B D) (kHeads A))
    transposes_S2x8x2048x64_S2x2048x8x64_0_2_1_3) shapeCasts_S2x2048x8x64_S4096x512

def dk (A : Vec F S4096x1536 .bf16) (B : Vec F S4096x128 .f32) (D : Vec F S4096x512 .f32) : Vec F S4096x512 .f32 :=
  shapeCast S4096x512 (transpose S2x2048x8x64 [0, 2, 1, 3]
    (Host.dotGeneral dot_S2x8x2048x2048_S2x2048x8x64_S2x8x2048x64_2_1_3_3_01_02 none (scaled A B D) (qHeads A))
    transposes_S2x8x2048x64_S2x2048x8x64_0_2_1_3) shapeCasts_S2x2048x8x64_S4096x512

def dv (A : Vec F S4096x1536 .bf16) (B : Vec F S4096x128 .f32) (D : Vec F S4096x512 .f32) : Vec F S4096x512 .f32 :=
  shapeCast S4096x512 (transpose S2x2048x8x64 [0, 3, 1, 2]
    (Host.dotGeneral dot_S2x8x64x2048_S2x8x2048x2048_S2x8x64x2048_3_2_2_3_01_01 none (outRows D) (prob A B))
    transposes_S2x8x64x2048_S2x2048x8x64_0_3_1_2) shapeCasts_S2x2048x8x64_S4096x512

/-- A gradient of the gates in the lanes the kernel writes it to. -/
def gateLanes (x : Vec F S2x8x2048 .f32) : Vec F S4096x512 .f32 :=
  shapeCast S4096x512
    (pad S4096x4x128 ![0, 0, 0] ![0, 0, 126] ![0, 0, 0]
      (shapeCast S4096x4x2 (transpose S2x2048x8 [0, 2, 1] x transposes_S2x8x2048_S2x2048x8_0_2_1) shapeCasts_S2x2048x8_S4096x4x2)
      (sitofp .f32 (constantI S_ 32 0#32)) pads_S4096x4x2_S4096x4x128_000_000_01260 h_S_)
    shapeCasts_S4096x4x128_S4096x512

def dcq (A : Vec F S4096x1536 .bf16) (B : Vec F S4096x128 .f32) (D : Vec F S4096x512 .f32) : Vec F S4096x512 .f32 :=
  gateLanes (Host.reduceAdd (shapeCast S2x8x2048x1 (sumKeys (dscore A B D)) shapeCasts_S2x8x2048_S2x8x2048x1)
    (constant S_ .f32 0x00000000#32) reducesTo_S2x8x2048x1_S2x8x2048_d3 h_S_)

def dck (A : Vec F S4096x1536 .bf16) (B : Vec F S4096x128 .f32) (D : Vec F S4096x512 .f32) : Vec F S4096x512 .f32 :=
  gateLanes (Host.reduceAdd
    (shapeCast S2x8x1x2048
      (Host.reduceAdd (Host.negf (dscore A B D)) (constant S_ .f32 0x00000000#32) reducesTo_S2x8x2048x2048_S2x8x2048_d2 h_S_)
      shapeCasts_S2x8x2048_S2x8x1x2048)
    (constant S_ .f32 0x00000000#32) reducesTo_S2x8x1x2048_S2x8x2048_d2 h_S_)

/-! ### They are what the plain program returns -/

variable (m : (ℓ : Loc nD τ sig) → Buf (Elt F) ℓ) (c : Dev nD)

theorem out_dq : Value.res_out0 m c = dq (m ((c : Thread nD τ).loc main_arg0)) (m ((c : Thread nD τ).loc main_arg1)) (m ((c : Thread nD τ).loc main_arg2)) := by
  unfold Value.res_out0 Value.res_main_v86
  rfl

theorem out_dk : Value.res_out1 m c = dk (m ((c : Thread nD τ).loc main_arg0)) (m ((c : Thread nD τ).loc main_arg1)) (m ((c : Thread nD τ).loc main_arg2)) := by
  unfold Value.res_out1 Value.res_main_v87
  rfl

theorem out_dv : Value.res_out2 m c = dv (m ((c : Thread nD τ).loc main_arg0)) (m ((c : Thread nD τ).loc main_arg1)) (m ((c : Thread nD τ).loc main_arg2)) := by
  unfold Value.res_out2 Value.res_main_v88
  rfl

theorem out_dcq : Value.res_out3 m c = dcq (m ((c : Thread nD τ).loc main_arg0)) (m ((c : Thread nD τ).loc main_arg1)) (m ((c : Thread nD τ).loc main_arg2)) := by
  unfold Value.res_out3 Value.res_main_v91
  rfl

theorem out_dck : Value.res_out4 m c = dck (m ((c : Thread nD τ).loc main_arg0)) (m ((c : Thread nD τ).loc main_arg1)) (m ((c : Thread nD τ).loc main_arg2)) := by
  unfold Value.res_out4 Value.res_main_v94
  rfl

end Cert.Fox.Plain

end
-- ==== Proof.Step.lean ====
/-
  One grid point of the kernel as a function of the blocks it loads: the 128-lane accumulators of dq for the two
  heads of a pair, and the 2048-row accumulators of dv, dk of head 0 and dk of head 1, changed 512 rows at a time.
  No memory is mentioned here.
-/
module

public import proofs.«01_k».proof.Proof.Gen.KernelIdeal.Value
public import Idealize.ShloMosaic.Lib.Pointwise

@[expose] public section

noncomputable section

namespace Cert.Fox

open Idealize.ShloMosaic Cert.KernelIdeal Cert.KernelIdeal.Gen

variable {F : FTy → Type} [FloatOps F] [Named F]

/-- Row `y` of the `j`-th 512 rows. -/
def rowAt (j : Fin 4) (y : Fin 512) : Fin 2048 := ⟨512 * j.val + y.val, by omega⟩

/-- The `j`-th 512 rows of 2048. -/
def getRows {α : Type} (j : Fin 4) (X : S2048x128.Idx → α) : S512x128.Idx → α :=
  fun y => X (ix2 (n0 := 2048) (n1 := 128) (rowAt j (y 0)) (y 1))

/-- The `j`-th 512 columns of the key gates. -/
def getCols {α : Type} (j : Fin 4) (X : S1x8x2048.Idx → α) : S1x8x512.Idx → α :=
  fun y => X (ix3 (n0 := 1) (n1 := 8) (n2 := 2048) (y 0) (y 1) (rowAt j (y 2)))

/-- `X` with its `j`-th 512 rows replaced. -/
def putRows {α : Type} (j : Fin 4) (w : S512x128.Idx → α) (X : S2048x128.Idx → α) : S2048x128.Idx → α :=
  fun y => if h : 512 * j.val ≤ (y 0).val ∧ (y 0).val < 512 * j.val + 512 then
    w (ix2 (n0 := 512) (n1 := 128) ⟨(y 0).val - 512 * j.val, by omega⟩ (y 1)) else X y

/-- The blocks a grid point loads once: queries, the attention's output, its log-sum-exp, the output's gradient, the
    query gates, and the pair of heads as a word. -/
structure Loaded (F : FTy → Type) where
  pair : BitVec 32
  q : Vec F S512x128 .bf16
  o : Vec F S512x128 .f32
  lse : Vec F S512x128 .f32
  dout : Vec F S512x128 .f32
  gate : Vec F S512x128 .f32

/-- The arrays of all keys of a sequence: keys, values, key gates. -/
structure Keys (F : FTy → Type) where
  k : Vec F S2048x128 .bf16
  v : Vec F S2048x128 .bf16
  gate : Vec F S1x8x2048 .f32

/-- What a grid point accumulates. -/
structure Acc (F : FTy → Type) where
  dq0 : FVec F S512x128 .f32
  dq1 : FVec F S512x128 .f32
  dv : Vec F S2048x128 .f32
  dk0 : Vec F S2048x128 .f32
  dk1 : Vec F S2048x128 .f32

namespace Loaded

variable (L : Loaded F)

/-- The scaled queries of head 0 (1), zero in the other head's lanes; and the same with one in the other's lanes. -/
def q0 : FVec F S512x128 .bf16 := k0_pay31 k0_pay27 (k0_pay29 L.q) (Scalar.ofBits .f32 0x00000000#32)
def q1 : FVec F S512x128 .bf16 := k0_pay32 k0_pay28 (k0_pay29 L.q)
def q0one : FVec F S512x128 .bf16 := k0_pay33 k0_pay27 (k0_pay29 L.q)
def q1one : FVec F S512x128 .bf16 := k0_pay34 k0_pay28 (k0_pay29 L.q)
/-- The output's gradient in the lanes of one head. -/
def do0 : Vec F S512x128 .f32 := k0_pay35 k0_pay27 L.dout
def do1 : Vec F S512x128 .f32 := k0_pay36 k0_pay28 L.dout
/-- The sum over one head's lanes of the output times its gradient. -/
def del0 : FVec F S512x1 .f32 := k0_pay37 k0_pay27 L.dout (k0_pay30 L.o)
def del1 : FVec F S512x1 .f32 := k0_pay38 k0_pay28 L.dout (k0_pay30 L.o)
/-- The log-sum-exp of one head. -/
def lse0 : FVec F S512x1 .f32 := k0_pay39 L.lse
def lse1 : FVec F S512x1 .f32 := k0_pay41 (k0_pay40 L.lse) (iota .tc S512x128 32 [1] iota_S512x128_d1_w32)
/-- The query gates of one head. -/
def gate0 : FVec F S512x1 .f32 := k0_pay42 L.pair L.gate
def gate1 : FVec F S512x1 .f32 := k0_pay43 L.pair L.gate

end Loaded

/-- A block of keys wholly before the block of queries. -/
def before (L : Loaded F) (K : Keys F) (j : Fin 4) (s : Acc F) : Acc F where
  dq0 := k0_pay8 k0_pay27 s.dq0 (getRows j K.k)
    (k0_pay4 L.pair L.q0 L.do0 L.del0 L.lse0 L.gate0 (getRows j K.k) (getRows j K.v) (getCols j K.gate))
  dq1 := k0_pay47 k0_pay28 s.dq1 (getRows j K.k)
    (k0_pay10 L.pair L.q1 L.do1 L.del1 L.lse1 L.gate1 (getRows j K.k) (getRows j K.v) (k0_pay2 (getCols j K.gate)))
  dv := putRows j (k0_pay11 L.pair L.q1 L.do1 L.lse1 L.gate1 (getRows j K.k) (k0_pay2 (getCols j K.gate))
    (k0_pay5 L.pair L.q0 L.do0 L.lse0 L.gate0 (getRows j K.k) (getCols j K.gate) (getRows j s.dv))) s.dv
  dk0 := putRows j (k0_pay7 L.q0one (getRows j s.dk0)
    (k0_pay6 L.pair L.q0 L.do0 L.del0 L.lse0 L.gate0 (getRows j K.k) (getRows j K.v) (getCols j K.gate))) s.dk0
  dk1 := putRows j (k0_pay46 L.q1one
    (k0_pay10 L.pair L.q1 L.do1 L.del1 L.lse1 L.gate1 (getRows j K.k) (getRows j K.v) (k0_pay2 (getCols j K.gate)))
    (getRows j s.dk1)) s.dk1

/-- The block of keys at the block of queries itself, masked above the diagonal. -/
def diagonal (L : Loaded F) (K : Keys F) (j : Fin 4) (s : Acc F) : Acc F where
  dq0 := k0_pay56 k0_pay27 s.dq0 (getRows j K.k)
    (k0_pay52 L.pair L.q0 L.do0 L.del0 L.lse0 L.gate0 k0_pay44 (getRows j K.k) (getRows j K.v) (getCols j K.gate))
  dq1 := k0_pay61 k0_pay28 s.dq1 (getRows j K.k)
    (k0_pay58 L.pair L.q1 L.do1 L.del1 L.lse1 L.gate1 k0_pay44 (getRows j K.k) (getRows j K.v)
      (k0_pay50 (getCols j K.gate)))
  dv := putRows j (k0_pay59 L.pair L.q1 L.do1 L.lse1 L.gate1 k0_pay44 (getRows j K.k) (k0_pay50 (getCols j K.gate))
    (k0_pay53 L.pair L.q0 L.do0 L.lse0 L.gate0 k0_pay44 (getRows j K.k) (getCols j K.gate) (getRows j s.dv))) s.dv
  dk0 := putRows j (k0_pay55 L.q0one (getRows j s.dk0)
    (k0_pay54 L.pair L.q0 L.do0 L.del0 L.lse0 L.gate0 k0_pay44 (getRows j K.k) (getRows j K.v) (getCols j K.gate))
    (constant S512x128 .f32 0x00000000#32)) s.dk0
  dk1 := putRows j (k0_pay60 L.q1one
    (k0_pay58 L.pair L.q1 L.do1 L.del1 L.lse1 L.gate1 k0_pay44 (getRows j K.k) (getRows j K.v)
      (k0_pay50 (getCols j K.gate)))
    (getRows j s.dk1)) s.dk1

/-- The first `n` blocks of keys, one after the other. -/
def blocks (L : Loaded F) (K : Keys F) (s : Acc F) : ℕ → Acc F
  | 0 => s
  | n + 1 => if h : n < 4 then before L K ⟨n, h⟩ (blocks L K s n) else blocks L K s n

/-- A grid point: the blocks of keys before query block `i`, then block `i`; dq starts at zero. -/
def point (L : Loaded F) (K : Keys F) (i : Fin 4) (dv dk0 dk1 : Vec F S2048x128 .f32) : Acc F :=
  diagonal L K i (blocks L K ⟨k0_pay45, k0_pay45, dv, dk0, dk1⟩ i.val)

/-- The gradient of the queries that the point stores: the lanes of either head, scaled. -/
def dqOut (s : Acc F) : FVec F S512x128 .f32 :=
  mulf (select (broadcastTo S512x128 (shapeCast S1x128 k0_pay27 shapeCasts_S1x128_S1x128) broadcasts_S1x128_S512x128)
    s.dq0 s.dq1) (broadcast S512x128 (Scalar.ofBits .f32 0x3E000000#32))

/-- The gradient of the query gates that the point stores. -/
def dcqOut (s : Acc F) : FVec F S512x128 .f32 :=
  k0_pay1 (k0_pay63 (iota .tc S1x128 32 [1] iota_S1x128_d1_w32)) (k0_pay64 s.dq0)
    (k0_pay65 (iota .tc S1x128 32 [1] iota_S1x128_d1_w32))
    (multiReduction .add [1] S512
      (select (cmpi .eq (iota .tc S512x128 32 [1] iota_S512x128_d1_w32) (broadcast S512x128 0#32)) s.dq1
        (broadcast S512x128 (Scalar.ofBits .f32 0x00000000#32)))
      0x00000000#32 reduces_S512x128_S512 (.inl rfl) rfl)

end Cert.Fox

end
-- ==== Proof.Scalars.lean ====
/-
  One grid point over the extended reals: its scaled queries, gates, probabilities and score gradients as sums, and the
  kernel's vectors read at an index as these.
-/
module

public import proofs.«01_k».proof.Proof.Step
public import Idealize.ShloMosaic.Lib.Pointwise

@[expose] public section

set_option maxRecDepth 16384

noncomputable section

namespace Cert.Fox

open Idealize.ShloMosaic Idealize.ShloMosaic.TcCoe Idealize.SL Idealize.SL.Sem Cert.KernelIdeal Cert.KernelIdeal.Gen

/-! ### Words -/

theorem pay27_apply (l : Fin 128) : k0_pay27 (ix2 0 l) = if l.val / 64 = 0 then 1#1 else 0#1 := by
  revert l
  decide +kernel

theorem pay28_apply (l : Fin 128) : k0_pay28 (ix2 0 l) = if l.val / 64 = 1 then 1#1 else 0#1 := by
  revert l
  decide +kernel

theorem select_one_if (P : Prop) [Decidable P] (a b : EReal) :
    Scalar.select (if P then 1#1 else 0#1) a b = if P then a else b := by
  by_cases h : P
  · rw [if_pos h, if_pos h]; rfl
  · rw [if_neg h, if_neg h]; rfl

theorem cmpi_eq_nat (x n : ℕ) (hx : x < 2 ^ 32) (hn : n < 2 ^ 32) :
    IntOp.cmpi .eq (BitVec.ofNat 32 x) (BitVec.ofNat 32 n) = if x = n then 1#1 else 0#1 := by
  by_cases h : x = n
  · subst h
    rw [if_pos rfl]
    simp [IntOp.cmpi]
  · rw [if_neg h]
    have : ¬ BitVec.ofNat 32 x = BitVec.ofNat 32 n := by
      intro e
      have := congrArg BitVec.toNat e
      rw [BitVec.toNat_ofNat, BitVec.toNat_ofNat, Nat.mod_eq_of_lt hx, Nat.mod_eq_of_lt hn] at this
      exact h this
    have e : (BitVec.ofNat 32 x == BitVec.ofNat 32 n) = false := beq_eq_false_iff_ne.mpr this
    simp only [IntOp.cmpi, e]
    rfl

/-- The lane picked by a comparison with its number. -/
theorem sum_pick {N : ℕ} (hN : N ≤ 2 ^ 32) (n : Fin N) (f : Fin N → EReal) :
    ∑ x : Fin N, Scalar.select (IntOp.cmpi .eq (BitVec.ofNat 32 x.val) (BitVec.ofNat 32 n.val)) (f x) 0 = f n := by
  have e : ∀ x : Fin N, Scalar.select (IntOp.cmpi .eq (BitVec.ofNat 32 x.val) (BitVec.ofNat 32 n.val)) (f x) 0
      = if x = n then f x else 0 := by
    intro x
    rw [cmpi_eq_nat _ _ (lt_of_lt_of_le x.isLt hN) (lt_of_lt_of_le n.isLt hN), select_one_if]
    by_cases h : x = n
    · rw [if_pos h, if_pos (congrArg Fin.val h)]
    · rw [if_neg h, if_neg (fun h' => h (Fin.ext h'))]
  simp only [e, Finset.sum_ite_eq', Finset.mem_univ, if_true]

theorem sle_nat (c r : Fin 512) :
    IntOp.cmpi .sle (BitVec.ofNat 32 c.val) (BitVec.ofNat 32 r.val) = if c.val ≤ r.val then 1#1 else 0#1 := by
  have hc := c.isLt
  have hr := r.isLt
  have e : (BitVec.ofNat 32 c.val).sle (BitVec.ofNat 32 r.val) = decide (c.val ≤ r.val) := by
    have t : ∀ n : ℕ, n < 512 → (BitVec.ofNat 32 n).toInt = (n : ℤ) := by
      intro n hn
      rw [BitVec.toInt_eq_toNat_of_lt] <;> rw [BitVec.toNat_ofNat, Nat.mod_eq_of_lt (by omega)]
      omega
    rw [BitVec.sle_eq_decide, t _ hc, t _ hr]
    simp
  unfold IntOp.cmpi
  by_cases h : c.val ≤ r.val
  · simp [e, h]
  · simp [e, h]

/-! ### The scalars of a point -/

/-- The scale of the queries. -/
def eighth : EReal := Ideal.ofBits FTy.bf16 15872#16

/-- The head a pair of heads' half names. -/
def head (p : Fin 4) (e : Fin 2) : Fin 8 := ⟨2 * p.val + e.val, by omega⟩

def headLane (p : Fin 4) (e : Fin 2) : Fin 128 := ⟨2 * p.val + e.val, by omega⟩

def halfLane (e : Fin 2) : Fin 128 := ⟨e.val, by omega⟩

variable (L : Loaded Ideal) (K : Keys Ideal)

def qOf (e : Fin 2) (r : Fin 512) (l : Fin 128) : EReal := if l.val / 64 = e.val then L.q (ix2 r l) * eighth else 0

def qOneOf (e : Fin 2) (r : Fin 512) (l : Fin 128) : EReal := if l.val / 64 = e.val then L.q (ix2 r l) * eighth else 1

def doOf (e : Fin 2) (r : Fin 512) (l : Fin 128) : EReal := if l.val / 64 = e.val then L.dout (ix2 r l) else 0

def delOf (e : Fin 2) (r : Fin 512) : EReal :=
  ∑ x : Fin 128, doOf L e r x * L.o (ix2 r x)

def lseOf (e : Fin 2) (r : Fin 512) : EReal := L.lse (ix2 r (halfLane e))

/-- The score of a query of the block against a key. -/
def scoreOf (p : Fin 4) (e : Fin 2) (r : Fin 512) (C : Fin 2048) : EReal :=
  ∑ x : Fin 128, qOf L e r x * K.k (ix2 C x) + L.gate (ix2 r (headLane p e)) - K.gate (ix3 0 (head p e) C)

/-- Its probability: a key after the query has none. -/
def probOf (p i : Fin 4) (e : Fin 2) (r : Fin 512) (C : Fin 2048) : EReal :=
  Ideal.exp ((if C.val ≤ 512 * i.val + r.val then scoreOf L K p e r C else ⊥) - lseOf L e r)

/-- The gradient of the score. -/
def dsOf (p i : Fin 4) (e : Fin 2) (r : Fin 512) (C : Fin 2048) : EReal :=
  probOf L K p i e r C * (∑ x : Fin 128, doOf L e r x * K.v (ix2 C x) - delOf L e r)

/-! ### The loaded vectors at an index -/

theorem q0_apply (r : Fin 512) (l : Fin 128) : L.q0 (ix2 r l) = qOf L 0 r l := by
  pointwise [Loaded.q0, k0_pay31, k0_pay29]
  rw [pay27_apply, select_one_if]
  rfl

theorem q1_apply (r : Fin 512) (l : Fin 128) : L.q1 (ix2 r l) = qOf L 1 r l := by
  pointwise [Loaded.q1, k0_pay32, k0_pay29]
  rw [pay28_apply, select_one_if]
  rfl

theorem q0one_apply (r : Fin 512) (l : Fin 128) : L.q0one (ix2 r l) = qOneOf L 0 r l := by
  pointwise [Loaded.q0one, k0_pay33, k0_pay29]
  rw [pay27_apply, select_one_if]
  rfl

theorem q1one_apply (r : Fin 512) (l : Fin 128) : L.q1one (ix2 r l) = qOneOf L 1 r l := by
  pointwise [Loaded.q1one, k0_pay34, k0_pay29]
  rw [pay28_apply, select_one_if]
  rfl

theorem do0_apply (r : Fin 512) (l : Fin 128) : L.do0 (ix2 r l) = doOf L 0 r l := by
  pointwise [Loaded.do0, k0_pay35]
  rw [pay27_apply, select_one_if]
  rfl

theorem do1_apply (r : Fin 512) (l : Fin 128) : L.do1 (ix2 r l) = doOf L 1 r l := by
  pointwise [Loaded.do1, k0_pay36]
  rw [pay28_apply, select_one_if]
  rfl

theorem del0_apply (r : Fin 512) : L.del0 (ix2 r 0) = delOf L 0 r := by
  pointwise [Loaded.del0, k0_pay37, k0_pay30]
  exact Finset.sum_congr rfl fun x _ => congrArg (· * L.o (ix2 r x)) (do0_apply L r x)

theorem del1_apply (r : Fin 512) : L.del1 (ix2 r 0) = delOf L 1 r := by
  pointwise [Loaded.del1, k0_pay38, k0_pay30]
  exact Finset.sum_congr rfl fun x _ => congrArg (· * L.o (ix2 r x)) (do1_apply L r x)

theorem lse0_apply (r : Fin 512) : L.lse0 (ix2 r 0) = lseOf L 0 r := by
  pointwise [Loaded.lse0, k0_pay39, k0_pay40]
  exact sum_pick (by decide) (halfLane 0) fun x => L.lse (ix2 r x)

theorem lse1_apply (r : Fin 512) : L.lse1 (ix2 r 0) = lseOf L 1 r := by
  pointwise [Loaded.lse1, k0_pay41, k0_pay40]
  exact sum_pick (by decide) (halfLane 1) fun x => L.lse (ix2 r x)

theorem word0 (p : Fin 4) : Scalar.addi (Scalar.muli (2#32) (BitVec.ofNat 32 p.val)) 0#32 = BitVec.ofNat 32 (2 * p.val + 0) := by
  revert p
  decide

theorem word1 (p : Fin 4) : Scalar.addi (Scalar.muli (2#32) (BitVec.ofNat 32 p.val)) 1#32 = BitVec.ofNat 32 (2 * p.val + 1) := by
  revert p
  decide

variable {L} in
theorem gate0_apply {p : Fin 4} (hp : L.pair = BitVec.ofNat 32 p.val) (r : Fin 512) : L.gate0 (ix2 r 0) = L.gate (ix2 r (headLane p 0)) := by
  pointwise [Loaded.gate0, k0_pay42]
  rw [hp, word0]
  exact sum_pick (by decide) (headLane p 0) fun x => L.gate (ix2 r x)

variable {L} in
theorem gate1_apply {p : Fin 4} (hp : L.pair = BitVec.ofNat 32 p.val) (r : Fin 512) : L.gate1 (ix2 r 0) = L.gate (ix2 r (headLane p 1)) := by
  pointwise [Loaded.gate1, k0_pay43]
  rw [hp, word1]
  exact sum_pick (by decide) (headLane p 1) fun x => L.gate (ix2 r x)

/-! ### Probabilities and score gradients of a block of keys -/

theorem rows_apply (j : Fin 4) (X : S2048x128.Idx → EReal) (c : Fin 512) (x : Fin 128) :
    getRows j X (ix2 c x) = X (ix2 (rowAt j c) x) := rfl

theorem cols_apply (j : Fin 4) (X : S1x8x2048.Idx → EReal) (x : Fin 8) (c : Fin 512) :
    getCols j X (ix3 0 x c) = X (ix3 0 x (rowAt j c)) := rfl

variable {L}

theorem before_ok {i j : Fin 4} (h : j.val < i.val) (r c : Fin 512) : (rowAt j c).val ≤ 512 * i.val + r.val := by
  show 512 * j.val + c.val ≤ _
  omega

theorem p0_before {p i j : Fin 4} (hp : L.pair = BitVec.ofNat 32 p.val) (h : j.val < i.val) (r c : Fin 512) :
    k0_pay3 L.pair L.q0 L.lse0 L.gate0 (getRows j K.k) (getCols j K.gate) (ix2 r c) = probOf L K p i 0 r (rowAt j c) := by
  unfold probOf scoreOf
  rw [if_pos (before_ok h r c)]
  pointwise [k0_pay3, k0_pay2]
  simp only [q0_apply, lse0_apply, gate0_apply hp, rows_apply, cols_apply]
  rw [hp, word0]
  exact congrArg (fun t => Ideal.exp (_ - t - _)) (sum_pick (by decide) (head p 0) fun x => K.gate (ix3 0 x (rowAt j c)))

theorem p1_before {p i j : Fin 4} (hp : L.pair = BitVec.ofNat 32 p.val) (h : j.val < i.val) (r c : Fin 512) :
    k0_pay9 L.pair L.q1 L.lse1 L.gate1 (getRows j K.k) (k0_pay2 (getCols j K.gate)) (ix2 r c) = probOf L K p i 1 r (rowAt j c) := by
  unfold probOf scoreOf
  rw [if_pos (before_ok h r c)]
  pointwise [k0_pay9, k0_pay2]
  simp only [q1_apply, lse1_apply, gate1_apply hp, rows_apply, cols_apply]
  rw [hp, word1]
  exact congrArg (fun t => Ideal.exp (_ - t - _)) (sum_pick (by decide) (head p 1) fun x => K.gate (ix3 0 x (rowAt j c)))

theorem diag_if (i : Fin 4) (r c : Fin 512) (a : EReal) :
    Scalar.select (IntOp.cmpi .sle (BitVec.ofNat 32 c.val) (BitVec.ofNat 32 r.val)) a (Named.named (F := Ideal) (φ := .f32) κ "mask" 4048155338#32 : EReal)
      = if (rowAt i c).val ≤ 512 * i.val + r.val then a else ⊥ := by
  rw [sle_nat, select_one_if]
  have e : (Named.named (F := Ideal) (φ := .f32) κ "mask" 4048155338#32 : EReal) = ⊥ := rfl
  have h : (rowAt i c).val ≤ 512 * i.val + r.val ↔ c.val ≤ r.val := by
    show 512 * i.val + c.val ≤ _ ↔ _
    omega
  simp only [e, h]

theorem p0_diag {p i : Fin 4} (hp : L.pair = BitVec.ofNat 32 p.val) (r c : Fin 512) :
    k0_pay51 L.pair L.q0 L.lse0 L.gate0 k0_pay44 (getRows i K.k) (getCols i K.gate) (ix2 r c) = probOf L K p i 0 r (rowAt i c) := by
  unfold probOf scoreOf
  rw [← diag_if]
  pointwise [k0_pay51, k0_pay50, k0_pay44]
  simp only [q0_apply, lse0_apply, gate0_apply hp, rows_apply, cols_apply]
  rw [hp, word0]
  exact congrArg (fun t => Ideal.exp (Scalar.select _ (_ - t) _ - _)) (sum_pick (by decide) (head p 0) fun x => K.gate (ix3 0 x (rowAt i c)))

theorem p1_diag {p i : Fin 4} (hp : L.pair = BitVec.ofNat 32 p.val) (r c : Fin 512) :
    k0_pay57 L.pair L.q1 L.lse1 L.gate1 k0_pay44 (getRows i K.k) (k0_pay50 (getCols i K.gate)) (ix2 r c) = probOf L K p i 1 r (rowAt i c) := by
  unfold probOf scoreOf
  rw [← diag_if]
  pointwise [k0_pay57, k0_pay50, k0_pay44]
  simp only [q1_apply, lse1_apply, gate1_apply hp, rows_apply, cols_apply]
  rw [hp, word1]
  exact congrArg (fun t => Ideal.exp (Scalar.select _ (_ - t) _ - _)) (sum_pick (by decide) (head p 1) fun x => K.gate (ix3 0 x (rowAt i c)))

end Cert.Fox

end
-- ==== Proof.Blocks.lean ====
/-
  What one block of keys adds to the gradients at a grid point, element by element, and the whole point as sums over all
  the keys of the sequence.
-/
module

public import proofs.«01_k».proof.Proof.Scalars

@[expose] public section

set_option maxRecDepth 16384

noncomputable section

namespace Cert.Fox

open Idealize.ShloMosaic Idealize.ShloMosaic.TcCoe Idealize.SL Idealize.SL.Sem Cert.KernelIdeal Cert.KernelIdeal.Gen

variable {L : Loaded Ideal} {K : Keys Ideal} {p i j : Fin 4}

/-! ### Score gradients -/

theorem ds0_before (hp : L.pair = BitVec.ofNat 32 p.val) (h : j.val < i.val) (r c : Fin 512) :
    k0_pay4 L.pair L.q0 L.do0 L.del0 L.lse0 L.gate0 (getRows j K.k) (getRows j K.v) (getCols j K.gate) (ix2 r c)
      = dsOf L K p i 0 r (rowAt j c) := by
  unfold dsOf
  rw [← p0_before K hp h r c]
  pointwise [k0_pay4]
  simp only [do0_apply, del0_apply, rows_apply]

theorem ds1_before (hp : L.pair = BitVec.ofNat 32 p.val) (h : j.val < i.val) (r c : Fin 512) :
    k0_pay10 L.pair L.q1 L.do1 L.del1 L.lse1 L.gate1 (getRows j K.k) (getRows j K.v) (k0_pay2 (getCols j K.gate)) (ix2 r c)
      = dsOf L K p i 1 r (rowAt j c) := by
  unfold dsOf
  rw [← p1_before K hp h r c]
  pointwise [k0_pay10]
  simp only [do1_apply, del1_apply, rows_apply]

theorem ds0_diag (hp : L.pair = BitVec.ofNat 32 p.val) (r c : Fin 512) :
    k0_pay52 L.pair L.q0 L.do0 L.del0 L.lse0 L.gate0 k0_pay44 (getRows i K.k) (getRows i K.v) (getCols i K.gate) (ix2 r c)
      = dsOf L K p i 0 r (rowAt i c) := by
  unfold dsOf
  rw [← p0_diag K hp r c]
  pointwise [k0_pay52]
  simp only [do0_apply, del0_apply, rows_apply]

theorem ds1_diag (hp : L.pair = BitVec.ofNat 32 p.val) (r c : Fin 512) :
    k0_pay58 L.pair L.q1 L.do1 L.del1 L.lse1 L.gate1 k0_pay44 (getRows i K.k) (getRows i K.v) (k0_pay50 (getCols i K.gate)) (ix2 r c)
      = dsOf L K p i 1 r (rowAt i c) := by
  unfold dsOf
  rw [← p1_diag K hp r c]
  pointwise [k0_pay58]
  simp only [do1_apply, del1_apply, rows_apply]

/-! ### Keys, or ones in the other head's lanes -/

/-- The keys in one head's lanes and ones in the other's. -/
def kOneOf (K : Keys Ideal) (e : Fin 2) (C : Fin 2048) (l : Fin 128) : EReal := if l.val / 64 = e.val then K.k (ix2 C l) else 1

/-! ### The gradient of the queries -/

theorem pay8_apply (a : FVec Ideal S512x128 .f32) (k : Vec Ideal S512x128 .bf16) (d : FVec Ideal S512x512 .f32) (r : Fin 512) (l : Fin 128) :
    k0_pay8 k0_pay27 a k d (ix2 r l) = a (ix2 r l) + ∑ c : Fin 512, d (ix2 r c) * (if l.val / 64 = 0 then k (ix2 c l) else 1) := by
  pointwise [k0_pay8]
  simp only [pay27_apply, select_one_if]

theorem pay47_apply (a : FVec Ideal S512x128 .f32) (k : Vec Ideal S512x128 .bf16) (d : FVec Ideal S512x512 .f32) (r : Fin 512) (l : Fin 128) :
    k0_pay47 k0_pay28 a k d (ix2 r l) = a (ix2 r l) + ∑ c : Fin 512, d (ix2 r c) * (if l.val / 64 = 1 then k (ix2 c l) else 1) := by
  pointwise [k0_pay47]
  simp only [pay28_apply, select_one_if]

theorem pay56_apply (a : FVec Ideal S512x128 .f32) (k : Vec Ideal S512x128 .bf16) (d : FVec Ideal S512x512 .f32) (r : Fin 512) (l : Fin 128) :
    k0_pay56 k0_pay27 a k d (ix2 r l) = a (ix2 r l) + ∑ c : Fin 512, d (ix2 r c) * (if l.val / 64 = 0 then k (ix2 c l) else 1) := by
  pointwise [k0_pay56]
  simp only [pay27_apply, select_one_if]

theorem pay61_apply (a : FVec Ideal S512x128 .f32) (k : Vec Ideal S512x128 .bf16) (d : FVec Ideal S512x512 .f32) (r : Fin 512) (l : Fin 128) :
    k0_pay61 k0_pay28 a k d (ix2 r l) = a (ix2 r l) + ∑ c : Fin 512, d (ix2 r c) * (if l.val / 64 = 1 then k (ix2 c l) else 1) := by
  pointwise [k0_pay61]
  simp only [pay28_apply, select_one_if]
/-! ### The gradients of values and keys -/

theorem pay5_apply (w : BitVec 32) (q : FVec Ideal S512x128 .bf16) (d : Vec Ideal S512x128 .f32) (lse g : FVec Ideal S512x1 .f32)
    (k : Vec Ideal S512x128 .bf16) (ck : Vec Ideal S1x8x512 .f32) (a : Vec Ideal S512x128 .f32) (c : Fin 512) (l : Fin 128) :
    k0_pay5 w q d lse g k ck a (ix2 c l) = a (ix2 c l) + ∑ r : Fin 512, k0_pay3 w q lse g k ck (ix2 r c) * d (ix2 r l) := by
  pointwise [k0_pay5]

theorem pay11_apply (w : BitVec 32) (q : FVec Ideal S512x128 .bf16) (d : Vec Ideal S512x128 .f32) (lse g : FVec Ideal S512x1 .f32)
    (k : Vec Ideal S512x128 .bf16) (ck : FVec Ideal S8x512 .f32) (a : Vec Ideal S512x128 .f32) (c : Fin 512) (l : Fin 128) :
    k0_pay11 w q d lse g k ck a (ix2 c l) = a (ix2 c l) + ∑ r : Fin 512, k0_pay9 w q lse g k ck (ix2 r c) * d (ix2 r l) := by
  pointwise [k0_pay11]

theorem pay53_apply (w : BitVec 32) (q : FVec Ideal S512x128 .bf16) (d : Vec Ideal S512x128 .f32) (lse g : FVec Ideal S512x1 .f32)
    (o : IVec S512x512 1) (k : Vec Ideal S512x128 .bf16) (ck : Vec Ideal S1x8x512 .f32) (a : Vec Ideal S512x128 .f32) (c : Fin 512) (l : Fin 128) :
    k0_pay53 w q d lse g o k ck a (ix2 c l) = a (ix2 c l) + ∑ r : Fin 512, k0_pay51 w q lse g o k ck (ix2 r c) * d (ix2 r l) := by
  pointwise [k0_pay53]

theorem pay59_apply (w : BitVec 32) (q : FVec Ideal S512x128 .bf16) (d : Vec Ideal S512x128 .f32) (lse g : FVec Ideal S512x1 .f32)
    (o : IVec S512x512 1) (k : Vec Ideal S512x128 .bf16) (ck : FVec Ideal S8x512 .f32) (a : Vec Ideal S512x128 .f32) (c : Fin 512) (l : Fin 128) :
    k0_pay59 w q d lse g o k ck a (ix2 c l) = a (ix2 c l) + ∑ r : Fin 512, k0_pay57 w q lse g o k ck (ix2 r c) * d (ix2 r l) := by
  pointwise [k0_pay59]

theorem pay7_apply (q : FVec Ideal S512x128 .bf16) (a : Vec Ideal S512x128 .f32) (d : FVec Ideal S512x512 .bf16) (c : Fin 512) (l : Fin 128) :
    k0_pay7 q a d (ix2 c l) = a (ix2 c l) + ∑ r : Fin 512, d (ix2 r c) * q (ix2 r l) := by
  pointwise [k0_pay7]

theorem pay46_apply (q : FVec Ideal S512x128 .bf16) (a : Vec Ideal S512x128 .f32) (d : FVec Ideal S512x512 .f32) (c : Fin 512) (l : Fin 128) :
    k0_pay46 q d a (ix2 c l) = a (ix2 c l) + ∑ r : Fin 512, d (ix2 r c) * q (ix2 r l) := by
  pointwise [k0_pay46]

theorem pay55_apply (q : FVec Ideal S512x128 .bf16) (a : Vec Ideal S512x128 .f32) (d : FVec Ideal S512x512 .bf16) (c : Fin 512) (l : Fin 128) :
    k0_pay55 q a d (constant S512x128 .f32 0x00000000#32) (ix2 c l) = a (ix2 c l) + ∑ r : Fin 512, d (ix2 r c) * q (ix2 r l) := by
  pointwise [k0_pay55]

theorem pay60_apply (q : FVec Ideal S512x128 .bf16) (a : Vec Ideal S512x128 .f32) (d : FVec Ideal S512x512 .f32) (c : Fin 512) (l : Fin 128) :
    k0_pay60 q d a (ix2 c l) = a (ix2 c l) + ∑ r : Fin 512, d (ix2 r c) * q (ix2 r l) := by
  pointwise [k0_pay60]

/-! ### One block -/

/-- What one key adds to the gradient of the queries. -/
def dqTerm (L : Loaded Ideal) (K : Keys Ideal) (p i : Fin 4) (e : Fin 2) (r : Fin 512) (l : Fin 128) (C : Fin 2048) : EReal :=
  dsOf L K p i e r C * kOneOf K e C l

/-- What the block of queries adds to the gradient of a value. -/
def dvTerm (L : Loaded Ideal) (K : Keys Ideal) (p i : Fin 4) (l : Fin 128) (C : Fin 2048) : EReal :=
  ∑ r : Fin 512, probOf L K p i 0 r C * doOf L 0 r l + ∑ r : Fin 512, probOf L K p i 1 r C * doOf L 1 r l

/-- What it adds to the accumulator of a key. -/
def dkTerm (L : Loaded Ideal) (K : Keys Ideal) (p i : Fin 4) (e : Fin 2) (l : Fin 128) (C : Fin 2048) : EReal :=
  ∑ r : Fin 512, dsOf L K p i e r C * qOneOf L e r l

/-- The block of keys `j` taken into account by `s'` over `s`. -/
structure Adds (L : Loaded Ideal) (K : Keys Ideal) (p i j : Fin 4) (s s' : Acc Ideal) : Prop where
  dq0 : ∀ r l, s'.dq0 (ix2 r l) = s.dq0 (ix2 r l) + ∑ c : Fin 512, dqTerm L K p i 0 r l (rowAt j c)
  dq1 : ∀ r l, s'.dq1 (ix2 r l) = s.dq1 (ix2 r l) + ∑ c : Fin 512, dqTerm L K p i 1 r l (rowAt j c)
  dv : ∀ (C : Fin 2048) (l : Fin 128), s'.dv (ix2 C l) = s.dv (ix2 C l) + if 512 * j.val ≤ C.val ∧ C.val < 512 * j.val + 512 then dvTerm L K p i l C else 0
  dk0 : ∀ (C : Fin 2048) (l : Fin 128), s'.dk0 (ix2 C l) = s.dk0 (ix2 C l) + if 512 * j.val ≤ C.val ∧ C.val < 512 * j.val + 512 then dkTerm L K p i 0 l C else 0
  dk1 : ∀ (C : Fin 2048) (l : Fin 128), s'.dk1 (ix2 C l) = s.dk1 (ix2 C l) + if 512 * j.val ≤ C.val ∧ C.val < 512 * j.val + 512 then dkTerm L K p i 1 l C else 0

theorem rowAt_sub {C : Fin 2048} (h : 512 * j.val ≤ C.val ∧ C.val < 512 * j.val + 512) :
    rowAt j (⟨C.val - 512 * j.val, by omega⟩ : Fin 512) = C := by
  refine Fin.ext ?_
  show 512 * j.val + (C.val - 512 * j.val) = C.val
  omega

theorem put_apply {w : Vec Ideal S512x128 .f32} {X : Vec Ideal S2048x128 .f32} {C : Fin 2048} {l : Fin 128} {t : EReal}
    (h : ∀ c : Fin 512, rowAt j c = C → w (ix2 c l) = X (ix2 C l) + t) :
    putRows j w X (ix2 C l) = X (ix2 C l) + if 512 * j.val ≤ C.val ∧ C.val < 512 * j.val + 512 then t else 0 := by
  by_cases hC : 512 * j.val ≤ C.val ∧ C.val < 512 * j.val + 512
  · rw [if_pos hC]
    exact (dif_pos hC).trans (h _ (rowAt_sub hC))
  · rw [if_neg hC, add_zero]
    exact dif_neg hC

theorem before_adds (hp : L.pair = BitVec.ofNat 32 p.val) (h : j.val < i.val) (s : Acc Ideal) : Adds L K p i j s (before L K j s) where
  dq0 r l := by
    refine (pay8_apply _ _ _ r l).trans ?_
    simp only [ds0_before hp h, rows_apply]
    rfl
  dq1 r l := by
    refine (pay47_apply _ _ _ r l).trans ?_
    simp only [ds1_before hp h, rows_apply]
    rfl
  dv C l := by
    refine put_apply fun c hc => ?_
    subst hc
    refine (pay11_apply _ _ _ _ _ _ _ _ c l).trans ?_
    rw [pay5_apply]
    simp only [p0_before K hp h, p1_before K hp h, do0_apply, do1_apply, rows_apply, add_assoc]
    rfl
  dk0 C l := by
    refine put_apply fun c hc => ?_
    subst hc
    refine (pay7_apply _ _ _ c l).trans ?_
    have e : ∀ r, k0_pay6 L.pair L.q0 L.do0 L.del0 L.lse0 L.gate0 (getRows j K.k) (getRows j K.v) (getCols j K.gate) (ix2 r c) = dsOf L K p i 0 r (rowAt j c) := fun r => ds0_before hp h r c
    simp only [e, q0one_apply, rows_apply]
    rfl
  dk1 C l := by
    refine put_apply fun c hc => ?_
    subst hc
    refine (pay46_apply _ _ _ c l).trans ?_
    simp only [ds1_before hp h, q1one_apply, rows_apply]
    rfl

theorem diag_adds (hp : L.pair = BitVec.ofNat 32 p.val) (s : Acc Ideal) : Adds L K p i i s (diagonal L K i s) where
  dq0 r l := by
    refine (pay56_apply _ _ _ r l).trans ?_
    simp only [ds0_diag hp, rows_apply]
    rfl
  dq1 r l := by
    refine (pay61_apply _ _ _ r l).trans ?_
    simp only [ds1_diag hp, rows_apply]
    rfl
  dv C l := by
    refine put_apply fun c hc => ?_
    subst hc
    refine (pay59_apply _ _ _ _ _ _ _ _ _ c l).trans ?_
    rw [pay53_apply]
    simp only [p0_diag K hp, p1_diag K hp, do0_apply, do1_apply, rows_apply, add_assoc]
    rfl
  dk0 C l := by
    refine put_apply fun c hc => ?_
    subst hc
    refine (pay55_apply _ _ _ c l).trans ?_
    have e : ∀ r, k0_pay54 L.pair L.q0 L.do0 L.del0 L.lse0 L.gate0 k0_pay44 (getRows i K.k) (getRows i K.v) (getCols i K.gate) (ix2 r c) = dsOf L K p i 0 r (rowAt i c) := fun r => ds0_diag hp r c
    simp only [e, q0one_apply, rows_apply]
    rfl
  dk1 C l := by
    refine put_apply fun c hc => ?_
    subst hc
    refine (pay60_apply _ _ _ c l).trans ?_
    simp only [ds1_diag hp, q1one_apply, rows_apply]
    rfl

end Cert.Fox

end
-- ==== Proof.Point.lean ====
/-
  A whole grid point of the gated attention's gradient, element by element, as sums over all the keys of the sequence.
-/
module

public import proofs.«01_k».proof.Proof.Blocks

@[expose] public section

set_option maxRecDepth 16384

noncomputable section

namespace Cert.Fox

open Idealize.ShloMosaic Idealize.ShloMosaic.TcCoe Idealize.SL Idealize.SL.Sem Cert.KernelIdeal Cert.KernelIdeal.Gen

variable {L : Loaded Ideal} {K : Keys Ideal} {p i j : Fin 4}

/-! ### Keys after the query -/

theorem prob_after (e : Fin 2) (r : Fin 512) (C : Fin 2048) (h : 512 * i.val + r.val < C.val) : probOf L K p i e r C = 0 := by
  unfold probOf
  rw [if_neg (by omega), sub_eq_add_neg, EReal.bot_add]
  rfl

theorem dqTerm_after (e : Fin 2) (r : Fin 512) (l : Fin 128) (C : Fin 2048) (h : 512 * i.val + 512 ≤ C.val) :
    dqTerm L K p i e r l C = 0 := by
  unfold dqTerm dsOf
  rw [prob_after e r C (by omega), zero_mul, zero_mul]

theorem dvTerm_after (l : Fin 128) (C : Fin 2048) (h : 512 * i.val + 512 ≤ C.val) : dvTerm L K p i l C = 0 := by
  unfold dvTerm
  have z : ∀ e (r : Fin 512), probOf L K p i e r C = 0 := fun e r => prob_after e r C (by omega)
  simp only [z, zero_mul, Finset.sum_const_zero, add_zero]

theorem dkTerm_after (e : Fin 2) (l : Fin 128) (C : Fin 2048) (h : 512 * i.val + 512 ≤ C.val) : dkTerm L K p i e l C = 0 := by
  unfold dkTerm dsOf
  have z : ∀ (r : Fin 512), probOf L K p i e r C = 0 := fun r => prob_after e r C (by omega)
  simp only [z, zero_mul, Finset.sum_const_zero]

/-! ### The first blocks of keys -/

theorem sum_block (f : Fin 2048 → EReal) (j : Fin 4) :
    ∑ C : Fin 2048, (if 512 * j.val ≤ C.val ∧ C.val < 512 * j.val + 512 then f C else 0) = ∑ c : Fin 512, f (rowAt j c) := by
  rw [← Finset.sum_filter]
  refine (Finset.sum_bij (fun (c : Fin 512) _ => rowAt j c) ?_ ?_ ?_ fun _ _ => rfl).symm
  · intro c _
    refine Finset.mem_filter.mpr ⟨Finset.mem_univ _, ?_⟩
    show 512 * j.val ≤ 512 * j.val + c.val ∧ 512 * j.val + c.val < 512 * j.val + 512
    omega
  · intro a _ b _ h
    have h' : 512 * j.val + a.val = 512 * j.val + b.val := congrArg Fin.val h
    exact Fin.ext (by omega)
  · intro C hC
    exact ⟨_, Finset.mem_univ _, rowAt_sub (Finset.mem_filter.mp hC).2⟩

/-- An array of the keys' rows cut to the first `n` blocks. -/
def upto (n : ℕ) (f : Fin 2048 → EReal) (C : Fin 2048) : EReal := if C.val < 512 * n then f C else 0

theorem upto_succ (f : Fin 2048 → EReal) (j : Fin 4) (C : Fin 2048) :
    upto (j.val + 1) f C = upto j.val f C + if 512 * j.val ≤ C.val ∧ C.val < 512 * j.val + 512 then f C else 0 := by
  unfold upto
  by_cases h : C.val < 512 * j.val
  · rw [if_pos (by omega), if_pos h, if_neg (by omega), add_zero]
  · by_cases h' : C.val < 512 * j.val + 512
    · rw [if_pos (by omega), if_neg h, if_pos ⟨by omega, h'⟩, zero_add]
    · rw [if_neg (by omega), if_neg h, if_neg (by omega), add_zero]

theorem sum_upto_succ (f : Fin 2048 → EReal) (j : Fin 4) :
    ∑ C, upto (j.val + 1) f C = ∑ C, upto j.val f C + ∑ c : Fin 512, f (rowAt j c) := by
  rw [← sum_block f j, ← Finset.sum_add_distrib]
  exact Finset.sum_congr rfl fun C _ => upto_succ f j C

theorem upto_all {f : Fin 2048 → EReal} {n : ℕ} (h : ∀ C : Fin 2048, 512 * n ≤ C.val → f C = 0) (C : Fin 2048) : upto n f C = f C := by
  unfold upto
  by_cases hC : C.val < 512 * n
  · rw [if_pos hC]
  · rw [if_neg hC, h C (by omega)]

/-- The first `n` blocks of keys taken into account by `s'` over `s`. -/
structure Upto (L : Loaded Ideal) (K : Keys Ideal) (p i : Fin 4) (n : ℕ) (s s' : Acc Ideal) : Prop where
  dq0 : ∀ r l, s'.dq0 (ix2 r l) = s.dq0 (ix2 r l) + ∑ C, upto n (dqTerm L K p i 0 r l) C
  dq1 : ∀ r l, s'.dq1 (ix2 r l) = s.dq1 (ix2 r l) + ∑ C, upto n (dqTerm L K p i 1 r l) C
  dv : ∀ (C : Fin 2048) (l : Fin 128), s'.dv (ix2 C l) = s.dv (ix2 C l) + upto n (dvTerm L K p i l) C
  dk0 : ∀ (C : Fin 2048) (l : Fin 128), s'.dk0 (ix2 C l) = s.dk0 (ix2 C l) + upto n (dkTerm L K p i 0 l) C
  dk1 : ∀ (C : Fin 2048) (l : Fin 128), s'.dk1 (ix2 C l) = s.dk1 (ix2 C l) + upto n (dkTerm L K p i 1 l) C

theorem upto_zero (f : Fin 2048 → EReal) (C : Fin 2048) : upto 0 f C = 0 := if_neg (by omega)

theorem Upto.zero (s : Acc Ideal) : Upto L K p i 0 s s where
  dq0 r l := by simp only [upto_zero, Finset.sum_const_zero, add_zero]
  dq1 r l := by simp only [upto_zero, Finset.sum_const_zero, add_zero]
  dv C l := by simp only [upto_zero, add_zero]
  dk0 C l := by simp only [upto_zero, add_zero]
  dk1 C l := by simp only [upto_zero, add_zero]

theorem Upto.step {s s' s'' : Acc Ideal} (h : Upto L K p i j.val s s') (h' : Adds L K p i j s' s'') : Upto L K p i (j.val + 1) s s'' where
  dq0 r l := by rw [h'.dq0, h.dq0, sum_upto_succ, add_assoc]
  dq1 r l := by rw [h'.dq1, h.dq1, sum_upto_succ, add_assoc]
  dv C l := by rw [h'.dv, h.dv, upto_succ, add_assoc]
  dk0 C l := by rw [h'.dk0, h.dk0, upto_succ, add_assoc]
  dk1 C l := by rw [h'.dk1, h.dk1, upto_succ, add_assoc]

theorem upto_blocks (hp : L.pair = BitVec.ofNat 32 p.val) (s : Acc Ideal) (n : ℕ) (h : n ≤ i.val) : Upto L K p i n s (blocks L K s n) := by
  induction n with
  | zero => exact .zero s
  | succ n ih =>
    have hn : n < 4 := by omega
    have e : blocks L K s (n + 1) = before L K ⟨n, hn⟩ (blocks L K s n) := dif_pos hn
    rw [e]
    exact (ih (by omega)).step (j := ⟨n, hn⟩) (before_adds hp (by show n < i.val; omega) _)

/-! ### The point -/

theorem upto_point (hp : L.pair = BitVec.ofNat 32 p.val) (dv dk0 dk1 : Vec Ideal S2048x128 .f32) :
    Upto L K p i (i.val + 1) ⟨k0_pay45, k0_pay45, dv, dk0, dk1⟩ (point L K i dv dk0 dk1) :=
  (upto_blocks hp _ i.val le_rfl).step (diag_adds hp _)

theorem pay45_apply (r : Fin 512) (l : Fin 128) : (k0_pay45 : FVec Ideal S512x128 .f32) (ix2 r l) = 0 := by
  pointwise [k0_pay45]

variable {dv dk0 dk1 : Vec Ideal S2048x128 .f32}

theorem point_dq0 (hp : L.pair = BitVec.ofNat 32 p.val) (r : Fin 512) (l : Fin 128) :
    (point L K i dv dk0 dk1).dq0 (ix2 r l) = ∑ C, dqTerm L K p i 0 r l C := by
  refine ((upto_point hp dv dk0 dk1).dq0 r l).trans ?_
  show k0_pay45 (ix2 r l) + _ = _
  rw [pay45_apply, zero_add]
  exact Finset.sum_congr rfl fun C _ => upto_all (fun C h => dqTerm_after 0 r l C (by omega)) C

theorem point_dq1 (hp : L.pair = BitVec.ofNat 32 p.val) (r : Fin 512) (l : Fin 128) :
    (point L K i dv dk0 dk1).dq1 (ix2 r l) = ∑ C, dqTerm L K p i 1 r l C := by
  refine ((upto_point hp dv dk0 dk1).dq1 r l).trans ?_
  show k0_pay45 (ix2 r l) + _ = _
  rw [pay45_apply, zero_add]
  exact Finset.sum_congr rfl fun C _ => upto_all (fun C h => dqTerm_after 1 r l C (by omega)) C

theorem point_dv (hp : L.pair = BitVec.ofNat 32 p.val) (C : Fin 2048) (l : Fin 128) :
    (point L K i dv dk0 dk1).dv (ix2 C l) = dv (ix2 C l) + dvTerm L K p i l C := by
  rw [(upto_point hp dv dk0 dk1).dv, upto_all fun C h => dvTerm_after l C (by omega)]

theorem point_dk0 (hp : L.pair = BitVec.ofNat 32 p.val) (C : Fin 2048) (l : Fin 128) :
    (point L K i dv dk0 dk1).dk0 (ix2 C l) = dk0 (ix2 C l) + dkTerm L K p i 0 l C := by
  rw [(upto_point hp dv dk0 dk1).dk0, upto_all fun C h => dkTerm_after 0 l C (by omega)]

theorem point_dk1 (hp : L.pair = BitVec.ofNat 32 p.val) (C : Fin 2048) (l : Fin 128) :
    (point L K i dv dk0 dk1).dk1 (ix2 C l) = dk1 (ix2 C l) + dkTerm L K p i 1 l C := by
  rw [(upto_point hp dv dk0 dk1).dk1, upto_all fun C h => dkTerm_after 1 l C (by omega)]

/-! ### What the point stores -/

theorem dqOut_apply (s : Acc Ideal) (r : Fin 512) (l : Fin 128) :
    dqOut s (ix2 r l) = (if l.val / 64 = 0 then s.dq0 (ix2 r l) else s.dq1 (ix2 r l)) * Ideal.ofBits FTy.f32 0x3E000000#32 := by
  pointwise [dqOut, pay27_apply]
  rw [select_one_if]

theorem dcqOut_apply (s : Acc Ideal) (r : Fin 512) (l : Fin 128) :
    dcqOut s (ix2 r l) = if l.val = 0 then s.dq0 (ix2 r 64) else if l.val = 1 then s.dq1 (ix2 r 0) else 0 := by
  have e0 := sum_pick (N := 128) (by decide) 64 fun x => s.dq0 (ix2 r x)
  have e1 := sum_pick (N := 128) (by decide) 0 fun x => s.dq1 (ix2 r x)
  pointwise [dcqOut, k0_pay1, k0_pay63, k0_pay64, k0_pay65]
  rw [show (0#32 : BitVec 32) = BitVec.ofNat 32 0 from rfl, show (1#32 : BitVec 32) = BitVec.ofNat 32 1 from rfl,
    cmpi_eq_nat _ _ (by omega) (by omega), cmpi_eq_nat _ _ (by omega) (by omega), select_one_if, select_one_if]
  exact congr (congrArg _ e0) (congrArg (fun t => if l.val = 1 then t else (0 : EReal)) e1)

theorem pay22_apply (a b : Vec Ideal S2048x128 .f32) (C : Fin 2048) (l : Fin 128) :
    k0_pay22 k0_pay27 a b (ix2 C l) = if l.val / 64 = 0 then a (ix2 C l) else b (ix2 C l) := by
  pointwise [k0_pay22, pay27_apply]
  rw [select_one_if]

theorem pay23_apply (a b : Vec Ideal S2048x128 .f32) (C : Fin 2048) (l : Fin 128) :
    k0_pay23 (iota .tc S1x128 32 [1] iota_S1x128_d1_w32) a b (ix2 C l)
      = if l.val = 0 then 0 - a (ix2 C 64) else if l.val = 1 then 0 - b (ix2 C 0) else 0 := by
  have e0 := sum_pick (N := 128) (by decide) 64 fun x => a (ix2 C x)
  have e1 := sum_pick (N := 128) (by decide) 0 fun x => b (ix2 C x)
  pointwise [k0_pay23]
  rw [show (0#32 : BitVec 32) = BitVec.ofNat 32 0 from rfl, show (1#32 : BitVec 32) = BitVec.ofNat 32 1 from rfl,
    cmpi_eq_nat _ _ (by omega) (by omega), cmpi_eq_nat _ _ (by omega) (by omega), select_one_if, select_one_if]
  exact congr (congrArg _ (congrArg (0 - ·) e0)) (congrArg (fun t => if l.val = 1 then 0 - t else (0 : EReal)) e1)

theorem pay24_apply (C : Fin 2048) (l : Fin 128) : (k0_pay24 : FVec Ideal S2048x128 .f32) (ix2 C l) = 0 := by
  pointwise [k0_pay24]

theorem pay25_apply (C : Fin 2048) (l : Fin 128) : (k0_pay25 : FVec Ideal S2048x128 .f32) (ix2 C l) = 0 := by
  pointwise [k0_pay25]

theorem pay26_apply (C : Fin 2048) (l : Fin 128) : (k0_pay26 : FVec Ideal S2048x128 .f32) (ix2 C l) = 0 := by
  pointwise [k0_pay26]

end Cert.Fox

end
-- ==== Proof.Loop.lean ====
/-
  The kernel's loop over the blocks of keys before a block of queries, read as the steps of `Cert.Fox.blocks`: what each
  trip yields and stores, and the state before each trip.
-/
module

public import proofs.«01_k».proof.Proof.Step
public import Idealize.ShloMosaic.Lib.WritesUnit

@[expose] public section

set_option maxRecDepth 16384

noncomputable section

namespace Cert.Fox

open Idealize.ShloMosaic Idealize.ShloMosaic.TcCoe Idealize.SL Idealize.SL.Sem Cert.KernelIdeal Cert.KernelIdeal.Gen

variable {F : FTy → Type} [FloatOps F] [Named F]

/-! ### Rows of a buffer -/

theorem ld_rows {Val : EltTy → Type} {e : EltTy} (X : S2048x128.Idx → Val e) {off : Fin 2 → ℕ}
    (inb : ∀ a, off a + S512x128.size a ≤ S2048x128.size a) (j : Fin 4) (h : off = ![512 * j.val, 0]) :
    View.ld X (Rect.unit (s := S2048x128) off S512x128.size inb) = getRows j X := by
  subst h
  funext y
  refine congrArg X (funext fun a => Fin.ext ?_)
  match a with
  | ⟨0, _⟩ => exact congrArg (512 * j.val + ·) (Nat.one_mul _)
  | ⟨1, _⟩ => exact (Nat.zero_add _).trans (Nat.one_mul _)

theorem ld_cols {Val : EltTy → Type} {e : EltTy} (X : S1x8x2048.Idx → Val e) {off : Fin 3 → ℕ}
    (inb : ∀ a, off a + S1x8x512.size a ≤ S1x8x2048.size a) (j : Fin 4) (h : off = ![0, 0, 512 * j.val]) :
    View.ld X (Rect.unit (s := S1x8x2048) off S1x8x512.size inb) = getCols j X := by
  subst h
  funext y
  refine congrArg X (funext fun a => Fin.ext ?_)
  match a with
  | ⟨0, _⟩ => exact (Nat.zero_add _).trans (Nat.one_mul _)
  | ⟨1, _⟩ => exact (Nat.zero_add _).trans (Nat.one_mul _)
  | ⟨2, _⟩ => exact congrArg (512 * j.val + ·) (Nat.one_mul _)

theorem read_put {κ : Kind} {sp : Space} {e : EltTy} {Val : EltTy → Type} (v : View sig κ sp S2048x128 e)
    (f : v.ty.Contents Val) {off : Fin 2 → ℕ} (inb : ∀ a, off a + S512x128.size a ≤ S2048x128.size a)
    (w : S512x128.Idx → Val e) (l : List (View.Piece Val S2048x128 e)) (j : Fin 4) (h : off = ![512 * j.val, 0]) :
    v.read Val (v.writes Val f ((⟨Rect.unit (s := S2048x128) off S512x128.size inb, w⟩ : View.Piece Val S2048x128 e) :: l))
      = putRows j w (v.read Val (v.writes Val f l)) := by
  funext y
  unfold putRows
  by_cases hy : 512 * j.val ≤ (y 0).val ∧ (y 0).val < 512 * j.val + 512
  · rw [dif_pos hy]
    refine View.read_writes_cons_rows_of_mem v f inb w l y _ h ?_ rfl
    show (y 0).val = 512 * j.val + ((y 0).val - 512 * j.val)
    omega
  · rw [dif_neg hy]
    exact View.read_writes_cons_rows_of_not_mem v f inb w l y h (W := 512) rfl (by omega)

theorem put_put {α : Type} (j : Fin 4) (w w' : S512x128.Idx → α) (X : S2048x128.Idx → α) :
    putRows j w (putRows j w' X) = putRows j w X := by
  funext y
  unfold putRows
  by_cases hy : 512 * j.val ≤ (y 0).val ∧ (y 0).val < 512 * j.val + 512
  · rw [dif_pos hy, dif_pos hy]
  · rw [dif_neg hy, dif_neg hy, dif_neg hy]

/-! ### The loop's bounds -/

theorem trips_eq (i : grid0.Coords) : (k0_t1_loop i).trips = (i 2).val := by
  have h : ∀ n : Fin 4, Scf.trips (0#32) (Scalar.addi 0#32 (Scalar.muli (Scalar.divsi (Scalar.subi (BitVec.ofNat 32 n.val) 0#32) 1#32) 1#32)) 1#32 = n.val := by
    decide
  exact h (i 2)

theorem trips2_eq (i : grid0.Coords) : (k0_t2_loop i).trips = 0 := by
  have h : ∀ n : Fin 4, Scf.trips (Scalar.addi 0#32 (Scalar.muli (Scalar.divsi (Scalar.subi (BitVec.ofNat 32 n.val) 0#32) 1#32) 1#32)) (Scalar.addi 0#32 (Scalar.subi (BitVec.ofNat 32 n.val) 0#32)) 1#32 = 0 := by
    decide
  exact h (i 2)

theorem off1_eq (i : grid0.Coords) (k : Fin (k0_t1_loop i).trips) (j : Fin 4) (h : k.val = j.val) :
    k0_off1 i k = ![512 * j.val, 0] := by
  have e : ∀ j : Fin 4, BitVec.toNat (Scalar.indexCast (Scalar.muli (Scf.iv 0#32 1#32 j.val) 512#32)) = 512 * j.val := by
    decide
  show ![BitVec.toNat (Scalar.indexCast (Scalar.muli (Scf.iv 0#32 1#32 k.val) 512#32)), 0] = _
  rw [h, e]

theorem off2_eq (i : grid0.Coords) (k : Fin (k0_t1_loop i).trips) (j : Fin 4) (h : k.val = j.val) :
    k0_off2 i k = ![0, 0, 512 * j.val] := by
  have e : ∀ j : Fin 4, BitVec.toNat (Scalar.indexCast (Scalar.muli (Scf.iv 0#32 1#32 j.val) 512#32)) = 512 * j.val := by
    decide
  show ![0, 0, BitVec.toNat (Scalar.indexCast (Scalar.muli (Scf.iv 0#32 1#32 k.val) 512#32))] = _
  rw [h, e]

theorem off5_eq (i : grid0.Coords) : k0_off5 i = ![512 * (i 2 : Fin 4).val, 0] := by
  have e : ∀ j : Fin 4, BitVec.toNat (Scalar.indexCast (Scalar.muli (BitVec.ofNat 32 j.val) 512#32)) = 512 * j.val := by
    decide
  show ![BitVec.toNat (Scalar.indexCast (Scalar.muli (BitVec.ofNat 32 (i 2 : Fin 4).val) 512#32)), 0] = _
  exact congrArg (fun n : ℕ => ![n, 0]) (e (i 2))

theorem off6_eq (i : grid0.Coords) : k0_off6 i = ![0, 0, 512 * (i 2 : Fin 4).val] := by
  have e : ∀ j : Fin 4, BitVec.toNat (Scalar.indexCast (Scalar.muli (BitVec.ofNat 32 j.val) 512#32)) = 512 * j.val := by
    decide
  show ![0, 0, BitVec.toNat (Scalar.indexCast (Scalar.muli (BitVec.ofNat 32 (i 2 : Fin 4).val) 512#32))] = _
  exact congrArg (fun n : ℕ => ![0, 0, n]) (e (i 2))

/-! ### One trip -/

section Trip

variable (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x128 .f32) (harg6 : arg6.IsWhole) (arg7 : Memref sig .tc .vmem S1x8x2048 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S512x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole) (w : BitVec 32) (L : Loaded F)
  (X4 : BufTy.Contents (Elt F) arg4.view.ty) (X5 : BufTy.Contents (Elt F) arg5.view.ty) (X7 : BufTy.Contents (Elt F) arg7.view.ty)

/-- The rows of keys, values and key gates the buffers hold. -/
def keysOf (arg4 : Memref sig .tc .vmem S2048x128 .bf16) (arg5 : Memref sig .tc .vmem S2048x128 .bf16)
    (arg7 : Memref sig .tc .vmem S1x8x2048 .f32) (X4 : BufTy.Contents (Elt F) arg4.view.ty)
    (X5 : BufTy.Contents (Elt F) arg5.view.ty) (X7 : BufTy.Contents (Elt F) arg7.view.ty) : Keys F :=
  ⟨arg4.view.read (Elt F) X4, arg5.view.read (Elt F) X5, arg7.view.read (Elt F) X7⟩

theorem trip_eq (k : Fin (k0_t1_loop i).trips) (j : Fin 4) (h : k.val = j.val)
    (acc : FVec F S512x128 .f32 × FVec F S512x128 .f32) (f13 : BufTy.Contents (Elt F) arg13.view.ty)
    (f16 : BufTy.Contents (Elt F) arg16.view.ty) (f17 : BufTy.Contents (Elt F) arg17.view.ty) :
    (⟨(tripR_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 L.pair w k0_pay27 k0_pay28 L.q0 L.q1 L.q0one L.q1one L.do0 L.do1 L.del0 L.del1 L.lse0 (k0_pay40 L.lse) (iota .tc S512x128 32 [1] iota_S512x128_d1_w32) L.gate L.gate X4 X5 X7 k acc f13 f16 f17).1, (tripR_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 L.pair w k0_pay27 k0_pay28 L.q0 L.q1 L.q0one L.q1one L.do0 L.do1 L.del0 L.del1 L.lse0 (k0_pay40 L.lse) (iota .tc S512x128 32 [1] iota_S512x128_d1_w32) L.gate L.gate X4 X5 X7 k acc f13 f16 f17).2,
      arg13.view.read (Elt F) (arg13.view.writes (Elt F) f13 (tripL_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 L.pair w k0_pay27 k0_pay28 L.q0 L.q1 L.q0one L.q1one L.do0 L.do1 L.del0 L.del1 L.lse0 (k0_pay40 L.lse) (iota .tc S512x128 32 [1] iota_S512x128_d1_w32) L.gate L.gate X4 X5 X7 k acc f13 f16 f17).1),
      arg16.view.read (Elt F) (arg16.view.writes (Elt F) f16 (tripL_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 L.pair w k0_pay27 k0_pay28 L.q0 L.q1 L.q0one L.q1one L.do0 L.do1 L.del0 L.del1 L.lse0 (k0_pay40 L.lse) (iota .tc S512x128 32 [1] iota_S512x128_d1_w32) L.gate L.gate X4 X5 X7 k acc f13 f16 f17).2.1),
      arg17.view.read (Elt F) (arg17.view.writes (Elt F) f17 (tripL_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 L.pair w k0_pay27 k0_pay28 L.q0 L.q1 L.q0one L.q1one L.do0 L.do1 L.del0 L.del1 L.lse0 (k0_pay40 L.lse) (iota .tc S512x128 32 [1] iota_S512x128_d1_w32) L.gate L.gate X4 X5 X7 k acc f13 f16 f17).2.2)⟩ : Acc F)
    = before L (keysOf arg4 arg5 arg7 X4 X5 X7) j
        ⟨acc.1, acc.2, arg13.view.read (Elt F) f13, arg16.view.read (Elt F) f16, arg17.view.read (Elt F) f17⟩ := by
  have h1 := off1_eq i k j h
  have h2 := off2_eq i k j h
  have eK : View.ld (arg4.view.read (Elt F) X4) (Rect.unit (s := S2048x128) (k0_off1 i k) S512x128.size (k0_off1_inb i k)) = getRows j (arg4.view.read (Elt F) X4) := ld_rows _ _ j h1
  have eV : View.ld (arg5.view.read (Elt F) X5) (Rect.unit (s := S2048x128) (k0_off1 i k) S512x128.size (k0_off1_inb i k)) = getRows j (arg5.view.read (Elt F) X5) := ld_rows _ _ j h1
  have eC : View.ld (arg7.view.read (Elt F) X7) (Rect.unit (s := S1x8x2048) (k0_off2 i k) S1x8x512.size (k0_off2_inb i k)) = getCols j (arg7.view.read (Elt F) X7) := ld_cols _ _ j h2
  have e13 : View.ld (arg13.view.read (Elt F) f13) (Rect.unit (s := S2048x128) (k0_off1 i k) S512x128.size (k0_off1_inb i k)) = getRows j (arg13.view.read (Elt F) f13) := ld_rows _ _ j h1
  have e16 : View.ld (arg16.view.read (Elt F) f16) (Rect.unit (s := S2048x128) (k0_off1 i k) S512x128.size (k0_off1_inb i k)) = getRows j (arg16.view.read (Elt F) f16) := ld_rows _ _ j h1
  have e17 : View.ld (arg17.view.read (Elt F) f17) (Rect.unit (s := S2048x128) (k0_off1 i k) S512x128.size (k0_off1_inb i k)) = getRows j (arg17.view.read (Elt F) f17) := ld_rows _ _ j h1
  unfold before keysOf tripR_k0_t1 tripL_k0_t1 trip_k0_t1
  rw [Acc.mk.injEq]
  refine ⟨?_, ?_, ?_, ?_, ?_⟩
  · rw [← eK, ← eV, ← eC]; rfl
  · rw [← eK, ← eV, ← eC]; rfl
  · refine (read_put _ _ (k0_off1_inb i k) _ _ j h1).trans ?_
    rw [← eK, ← eC, ← e13]
    refine (congrArg (putRows j _) (read_put _ _ (k0_off1_inb i k) _ _ j h1)).trans ?_
    refine (put_put _ _ _ _).trans ?_
    refine congrArg (putRows j · _) ?_
    exact congrArg (k0_pay11 L.pair L.q1 L.do1 L.lse1 L.gate1 _ _)
      (View.readCov_cons_toLoadRect arg13.view (Rect.unit (s := S2048x128) (k0_off1 i k) S512x128.size (k0_off1_inb i k)) _ [])
  · refine (read_put _ _ (k0_off1_inb i k) _ _ j h1).trans ?_
    rw [← eK, ← eV, ← eC, ← e16]; rfl
  · refine (read_put _ _ (k0_off1_inb i k) _ _ j h1).trans ?_
    rw [← eK, ← eV, ← eC, ← e17]; rfl

/-- What a loop state amounts to: the carried pair, and the three buffers as they read under the pieces stored. -/
def accOf (arg13 : Memref sig .tc .vmem S2048x128 .f32) (arg16 : Memref sig .tc .vmem S2048x128 .f32)
    (arg17 : Memref sig .tc .vmem S2048x128 .f32) (G13 : BufTy.Contents (Elt F) arg13.view.ty)
    (G16 : BufTy.Contents (Elt F) arg16.view.ty) (G17 : BufTy.Contents (Elt F) arg17.view.ty)
    (st : (FVec F S512x128 .f32 × FVec F S512x128 .f32) × List (View.Piece (Elt F) S2048x128 .f32) ×
      List (View.Piece (Elt F) S2048x128 .f32) × List (View.Piece (Elt F) S2048x128 .f32)) : Acc F :=
  ⟨st.1.1, st.1.2, arg13.view.read (Elt F) (arg13.view.writes (Elt F) G13 st.2.1),
    arg16.view.read (Elt F) (arg16.view.writes (Elt F) G16 st.2.2.1),
    arg17.view.read (Elt F) (arg17.view.writes (Elt F) G17 st.2.2.2)⟩

theorem loop_eq (init : FVec F S512x128 .f32 × FVec F S512x128 .f32) (G13 : BufTy.Contents (Elt F) arg13.view.ty)
    (G16 : BufTy.Contents (Elt F) arg16.view.ty) (G17 : BufTy.Contents (Elt F) arg17.view.ty) :
    ∀ n : ℕ, n ≤ (k0_t1_loop i).trips →
      accOf arg13 arg16 arg17 G13 G16 G17 (st_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 L.pair w k0_pay27 k0_pay28 L.q0 L.q1 L.q0one L.q1one L.do0 L.do1 L.del0 L.del1 L.lse0 (k0_pay40 L.lse) (iota .tc S512x128 32 [1] iota_S512x128_d1_w32) L.gate L.gate X4 X5 X7 G13 G16 G17 init n)
        = blocks L (keysOf arg4 arg5 arg7 X4 X5 X7)
            ⟨init.1, init.2, arg13.view.read (Elt F) G13, arg16.view.read (Elt F) G16, arg17.view.read (Elt F) G17⟩ n
  | 0, _ => by
      rfl
  | n + 1, hn => by
      have hi : (i 2 : Fin 4).val < 4 := (i 2 : Fin 4).isLt
      have ht := trips_eq i
      have h4 : n < 4 := by omega
      have ih := loop_eq init G13 G16 G17 n (by omega)
      have e := st_k0_t1_succ (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 L.pair w k0_pay27 k0_pay28 L.q0 L.q1 L.q0one L.q1one L.do0 L.do1 L.del0 L.del1 L.lse0 (k0_pay40 L.lse) (iota .tc S512x128 32 [1] iota_S512x128_d1_w32) L.gate L.gate X4 X5 X7 G13 G16 G17 init ⟨n, by omega⟩
      refine (congrArg (accOf arg13 arg16 arg17 G13 G16 G17) e).trans ?_
      refine Eq.trans ?_ (dif_pos h4).symm
      rw [← ih]
      refine Eq.trans ?_ (trip_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 w L X4 X5 X7 ⟨n, by omega⟩ ⟨n, h4⟩ rfl _ _ _ _)
      unfold accOf
      simp only [View.writes_append]

end Trip

end Cert.Fox

end
-- ==== Proof.Run.lean ====
/-
  What a grid point leaves in its buffers: the loop over the blocks of keys before, the masked block on the diagonal, and
  at the last block of queries the two arrays read off the accumulators.
-/
module

public import proofs.«01_k».proof.Proof.Loop
public import Idealize.ShloMosaic.Lib.Pipeline.ValueKit

@[expose] public section

set_option maxRecDepth 16384

noncomputable section

namespace Cert.Fox

open Idealize.ShloMosaic Idealize.ShloMosaic.TcCoe Idealize.SL Idealize.SL.Sem Cert.KernelIdeal Cert.KernelIdeal.Gen

variable {F : FTy → Type} [FloatOps F] [Named F]

/-- The rectangle of the whole block. -/
abbrev whole512 : Rect S512x128 := Rect.unit (s := S512x128) ![0, 0] S512x128.size inb_S512x128_S512x128_0_0

abbrev whole2048 : Rect S2048x128 := Rect.unit (s := S2048x128) ![0, 0] S2048x128.size inb_S2048x128_S2048x128_0_0

/-- The rows of the keys at the block of queries. -/
abbrev rowsOf (i : grid0.Coords) : Rect S2048x128 := Rect.unit (s := S2048x128) (k0_off5 i) S512x128.size (k0_off5_inb i)

abbrev colsOf (i : grid0.Coords) : Rect S1x8x2048 := Rect.unit (s := S1x8x2048) (k0_off6 i) S1x8x512.size (k0_off6_inb i)

/-- A grid point's loaded blocks, from the blocks of its arrays. -/
def loaded (i : grid0.Coords) (x0 : Vec F S512x128 .bf16) (x3 x5 x6 x7 : Vec F S512x128 .f32) : Loaded F :=
  ⟨BitVec.ofNat 32 (i 1).val, x0, x5, x6, x7, x3⟩

theorem readAt_whole {e : EltTy} (m : Memref sig .tc .vmem S512x128 e) (h : m.IsWhole) (x : Vec F S512x128 e) :
    View.readAt (Elt F) m.view whole512.toLoadRect (h.unread x) = x := by
  have e1 : View.readAt (Elt F) m.view whole512.toLoadRect (h.unread x) = View.ld (m.view.read (Elt F) (h.unread x)) whole512 := rfl
  rw [e1, h.read_unread]
  exact View.ld_unit_lit _ _ (by decide)

section Diagonal

variable (i : grid0.Coords) (L : Loaded F) (arg4 : Memref sig .tc .vmem S2048x128 .bf16)
  (arg5 : Memref sig .tc .vmem S2048x128 .bf16) (arg7 : Memref sig .tc .vmem S1x8x2048 .f32)
  (X4 : BufTy.Contents (Elt F) arg4.view.ty) (X5 : BufTy.Contents (Elt F) arg5.view.ty) (X7 : BufTy.Contents (Elt F) arg7.view.ty)
  (m : Memref sig .tc .vmem S2048x128 .f32) (f : BufTy.Contents (Elt F) m.view.ty) (l : List (View.Piece (Elt F) S2048x128 .f32))
  (a0 a1 : FVec F S512x128 .f32)

/-- The first head's share of the values' gradient. -/
def dvHalf : Vec F S512x128 .f32 :=
  k0_pay53 L.pair L.q0 L.do0 L.lse0 L.gate0 k0_pay44 (View.ld (arg4.view.read (Elt F) X4) (rowsOf i))
    (View.ld (arg7.view.read (Elt F) X7) (colsOf i)) (View.ld (m.view.read (Elt F) (m.view.writes (Elt F) f l)) (rowsOf i))

/-- The pieces stored to the gradient of the values. -/
def dvPieces : List (View.Piece (Elt F) S2048x128 .f32) :=
  ⟨rowsOf i, k0_pay59 L.pair L.q1 L.do1 L.lse1 L.gate1 k0_pay44 (View.ld (arg4.view.read (Elt F) X4) (rowsOf i))
    (k0_pay50 (View.ld (arg7.view.read (Elt F) X7) (colsOf i)))
    (m.view.readCov (⟨rowsOf i, dvHalf i L arg4 arg7 X4 X7 m f l⟩ :: l) (rowsOf i).toLoadRect)⟩ ::
  ⟨rowsOf i, dvHalf i L arg4 arg7 X4 X7 m f l⟩ :: l

/-- The pieces stored to the first head's accumulator. -/
def dk0Pieces : List (View.Piece (Elt F) S2048x128 .f32) :=
  ⟨rowsOf i, k0_pay55 L.q0one (View.ld (m.view.read (Elt F) (m.view.writes (Elt F) f l)) (rowsOf i))
    (k0_pay54 L.pair L.q0 L.do0 L.del0 L.lse0 L.gate0 k0_pay44 (View.ld (arg4.view.read (Elt F) X4) (rowsOf i))
      (View.ld (arg5.view.read (Elt F) X5) (rowsOf i)) (View.ld (arg7.view.read (Elt F) X7) (colsOf i)))
    (constant S512x128 .f32 0x00000000#32)⟩ :: l

/-- The pieces stored to the second head's accumulator. -/
def dk1Pieces : List (View.Piece (Elt F) S2048x128 .f32) :=
  ⟨rowsOf i, k0_pay60 L.q1one
    (k0_pay58 L.pair L.q1 L.do1 L.del1 L.lse1 L.gate1 k0_pay44 (View.ld (arg4.view.read (Elt F) X4) (rowsOf i))
      (View.ld (arg5.view.read (Elt F) X5) (rowsOf i)) (k0_pay50 (View.ld (arg7.view.read (Elt F) X7) (colsOf i))))
    (View.ld (m.view.read (Elt F) (m.view.writes (Elt F) f l)) (rowsOf i))⟩ :: l

/-- The gradients of the queries after the diagonal block. -/
def dqLast : FVec F S512x128 .f32 × FVec F S512x128 .f32 :=
  (k0_pay56 k0_pay27 a0 (View.ld (arg4.view.read (Elt F) X4) (rowsOf i))
    (k0_pay52 L.pair L.q0 L.do0 L.del0 L.lse0 L.gate0 k0_pay44 (View.ld (arg4.view.read (Elt F) X4) (rowsOf i))
      (View.ld (arg5.view.read (Elt F) X5) (rowsOf i)) (View.ld (arg7.view.read (Elt F) X7) (colsOf i))),
   k0_pay61 k0_pay28 a1 (View.ld (arg4.view.read (Elt F) X4) (rowsOf i))
    (k0_pay58 L.pair L.q1 L.do1 L.del1 L.lse1 L.gate1 k0_pay44 (View.ld (arg4.view.read (Elt F) X4) (rowsOf i))
      (View.ld (arg5.view.read (Elt F) X5) (rowsOf i)) (k0_pay50 (View.ld (arg7.view.read (Elt F) X7) (colsOf i)))))

/-- What the point has accumulated after the diagonal block, as its buffers read. -/
def finalAcc (m13 m16 m17 : Memref sig .tc .vmem S2048x128 .f32) (f13 : BufTy.Contents (Elt F) m13.view.ty)
    (f16 : BufTy.Contents (Elt F) m16.view.ty) (f17 : BufTy.Contents (Elt F) m17.view.ty)
    (st : (FVec F S512x128 .f32 × FVec F S512x128 .f32) × List (View.Piece (Elt F) S2048x128 .f32) ×
      List (View.Piece (Elt F) S2048x128 .f32) × List (View.Piece (Elt F) S2048x128 .f32)) : Acc F :=
  ⟨(dqLast i L arg4 arg5 arg7 X4 X5 X7 st.1.1 st.1.2).1, (dqLast i L arg4 arg5 arg7 X4 X5 X7 st.1.1 st.1.2).2,
    m13.view.read (Elt F) (m13.view.writes (Elt F) f13 (dvPieces i L arg4 arg7 X4 X7 m13 f13 st.2.1)),
    m16.view.read (Elt F) (m16.view.writes (Elt F) f16 (dk0Pieces i L arg4 arg5 arg7 X4 X5 X7 m16 f16 st.2.2.1)),
    m17.view.read (Elt F) (m17.view.writes (Elt F) f17 (dk1Pieces i L arg4 arg5 arg7 X4 X5 X7 m17 f17 st.2.2.2))⟩

theorem finalAcc_eq (m13 m16 m17 : Memref sig .tc .vmem S2048x128 .f32) (f13 : BufTy.Contents (Elt F) m13.view.ty)
    (f16 : BufTy.Contents (Elt F) m16.view.ty) (f17 : BufTy.Contents (Elt F) m17.view.ty)
    (st : (FVec F S512x128 .f32 × FVec F S512x128 .f32) × List (View.Piece (Elt F) S2048x128 .f32) ×
      List (View.Piece (Elt F) S2048x128 .f32) × List (View.Piece (Elt F) S2048x128 .f32)) :
    finalAcc i L arg4 arg5 arg7 X4 X5 X7 m13 m16 m17 f13 f16 f17 st
    = diagonal L (keysOf arg4 arg5 arg7 X4 X5 X7) (i 2) (accOf m13 m16 m17 f13 f16 f17 st) := by
  have h1 := off5_eq i
  have h2 := off6_eq i
  have eK : View.ld (arg4.view.read (Elt F) X4) (rowsOf i) = getRows (i 2) (arg4.view.read (Elt F) X4) := ld_rows _ _ (i 2) h1
  have eV : View.ld (arg5.view.read (Elt F) X5) (rowsOf i) = getRows (i 2) (arg5.view.read (Elt F) X5) := ld_rows _ _ (i 2) h1
  have eC : View.ld (arg7.view.read (Elt F) X7) (colsOf i) = getCols (i 2) (arg7.view.read (Elt F) X7) := ld_cols _ _ (i 2) h2
  have eM : ∀ (m : Memref sig .tc .vmem S2048x128 .f32) f l, View.ld (m.view.read (Elt F) (m.view.writes (Elt F) f l)) (rowsOf i)
      = getRows (i 2) (m.view.read (Elt F) (m.view.writes (Elt F) f l)) := fun m f l => ld_rows _ _ (i 2) h1
  unfold finalAcc diagonal keysOf dqLast dvPieces dk0Pieces dk1Pieces dvHalf accOf
  rw [Acc.mk.injEq]
  refine ⟨?_, ?_, ?_, ?_, ?_⟩
  · simp only [eK, eV, eC]
  · simp only [eK, eV, eC]
  · refine (read_put _ _ (k0_off5_inb i) _ _ (i 2) h1).trans ?_
    refine (congrArg (putRows (i 2) _) (read_put _ _ (k0_off5_inb i) _ _ (i 2) h1)).trans ?_
    refine (put_put _ _ _ _).trans ?_
    refine congrArg (putRows (i 2) · _) ?_
    refine (congrArg (k0_pay59 L.pair L.q1 L.do1 L.lse1 L.gate1 k0_pay44 _ _)
      (View.readCov_cons_toLoadRect m13.view (rowsOf i) _ st.2.1)).trans ?_
    simp only [eK, eC, eM]
  · refine (read_put _ _ (k0_off5_inb i) _ _ (i 2) h1).trans ?_
    simp only [eK, eV, eC, eM]
  · refine (read_put _ _ (k0_off5_inb i) _ _ (i 2) h1).trans ?_
    simp only [eK, eV, eC, eM]

end Diagonal

theorem out_whole512 {κ : Kind} {sp : Space} {e : EltTy} (v : View sig κ sp S512x128 e) (w : Vec F S512x128 e) :
    v.read (Elt F) (v.writes (Elt F) v.junk [⟨whole512, w⟩]) = w :=
  (View.read_writes_junk_eq_canon v _).trans (View.canon_cons_unit_lit _ w [] (by decide))

theorem out_whole2048 {κ : Kind} {sp : Space} {e : EltTy} (v : View sig κ sp S2048x128 e) (w : Vec F S2048x128 e) :
    v.read (Elt F) (v.writes (Elt F) v.junk [⟨whole2048, w⟩]) = w :=
  (View.read_writes_junk_eq_canon v _).trans (View.canon_cons_unit_lit _ w [] (by decide))

theorem readAt_whole2048 {e : EltTy} (m : Memref sig .tc .vmem S2048x128 e) (x : m.view.ty.Contents (Elt F)) :
    View.readAt (Elt F) m.view whole2048.toLoadRect x = m.view.read (Elt F) x := by
  have e1 : View.readAt (Elt F) m.view whole2048.toLoadRect x = View.ld (m.view.read (Elt F) x) whole2048 := rfl
  rw [e1]
  exact View.ld_unit_lit _ _ (by decide)

theorem read_junk_writes {κ κ' : Kind} {sp sp' : Space} {e : EltTy} {S : Shape} (v : View sig κ sp S e) (v' : View sig κ' sp' S e)
    (l : List (View.Piece (Elt F) S e)) :
    v.read (Elt F) (v.writes (Elt F) v.junk l) = v'.read (Elt F) (v'.writes (Elt F) v'.junk l) :=
  (View.read_writes_junk_eq_canon v _).trans (View.read_writes_junk_eq_canon v' _).symm

theorem keysOf_unread (arg4 : Memref sig .tc .vmem S2048x128 .bf16) (harg4 : arg4.IsWhole) (arg5 : Memref sig .tc .vmem S2048x128 .bf16)
    (harg5 : arg5.IsWhole) (arg7 : Memref sig .tc .vmem S1x8x2048 .f32) (harg7 : arg7.IsWhole) (x1 x2 : Vec F S2048x128 .bf16)
    (x4 : Vec F S1x8x2048 .f32) :
    keysOf arg4 arg5 arg7 (harg4.unread x1) (harg5.unread x2) (harg7.unread x4) = ⟨x1, x2, x4⟩ := by
  unfold keysOf
  simp only [Memref.IsWhole.read_unread]

section Point

variable (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x128 .f32) (harg6 : arg6.IsWhole) (arg7 : Memref sig .tc .vmem S1x8x2048 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S512x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole)
  (x0 : Vec F S512x128 .bf16) (x1 : Vec F S2048x128 .bf16) (x2 : Vec F S2048x128 .bf16) (x3 : Vec F S512x128 .f32)
  (x4 : Vec F S1x8x2048 .f32) (x5 : Vec F S512x128 .f32) (x6 : Vec F S512x128 .f32) (x7 : Vec F S512x128 .f32)

/-- The loaded blocks as read from the buffers. -/
def loadedAt (i : grid0.Coords) (arg3 : Memref sig .tc .vmem S512x128 .bf16) (harg3 : arg3.IsWhole)
    (arg6 : Memref sig .tc .vmem S512x128 .f32) (harg6 : arg6.IsWhole) (arg8 : Memref sig .tc .vmem S512x128 .f32) (harg8 : arg8.IsWhole)
    (arg9 : Memref sig .tc .vmem S512x128 .f32) (harg9 : arg9.IsWhole) (arg10 : Memref sig .tc .vmem S512x128 .f32) (harg10 : arg10.IsWhole)
    (x0 : Vec F S512x128 .bf16) (x3 x5 x6 x7 : Vec F S512x128 .f32) : Loaded F :=
  ⟨BitVec.ofNat 32 (i 1).val, View.readAt (Elt F) arg3.view whole512.toLoadRect (harg3.unread x0),
    View.readAt (Elt F) arg8.view whole512.toLoadRect (harg8.unread x5), View.readAt (Elt F) arg9.view whole512.toLoadRect (harg9.unread x6),
    View.readAt (Elt F) arg10.view whole512.toLoadRect (harg10.unread x7), View.readAt (Elt F) arg6.view whole512.toLoadRect (harg6.unread x3)⟩

theorem loadedAt_eq : loadedAt i arg3 harg3 arg6 harg6 arg8 harg8 arg9 harg9 arg10 harg10 x0 x3 x5 x6 x7 = loaded i x0 x3 x5 x6 x7 := by
  unfold loadedAt loaded
  simp only [readAt_whole]

/-- The first loop's last state, from the contents it starts at. -/
def one (f13 : BufTy.Contents (Elt F) arg13.view.ty) (f16 : BufTy.Contents (Elt F) arg16.view.ty) (f17 : BufTy.Contents (Elt F) arg17.view.ty) :
    (FVec F S512x128 .f32 × FVec F S512x128 .f32) × List (View.Piece (Elt F) S2048x128 .f32) ×
      List (View.Piece (Elt F) S2048x128 .f32) × List (View.Piece (Elt F) S2048x128 .f32) :=
  st_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (loadedAt i arg3 harg3 arg6 harg6 arg8 harg8 arg9 harg9 arg10 harg10 x0 x3 x5 x6 x7).pair (BitVec.ofNat 32 (i 2).val) k0_pay27 k0_pay28 (loadedAt i arg3 harg3 arg6 harg6 arg8 harg8 arg9 harg9 arg10 harg10 x0 x3 x5 x6 x7).q0 (loadedAt i arg3 harg3 arg6 harg6 arg8 harg8 arg9 harg9 arg10 harg10 x0 x3 x5 x6 x7).q1 (loadedAt i arg3 harg3 arg6 harg6 arg8 harg8 arg9 harg9 arg10 harg10 x0 x3 x5 x6 x7).q0one (loadedAt i arg3 harg3 arg6 harg6 arg8 harg8 arg9 harg9 arg10 harg10 x0 x3 x5 x6 x7).q1one (loadedAt i arg3 harg3 arg6 harg6 arg8 harg8 arg9 harg9 arg10 harg10 x0 x3 x5 x6 x7).do0 (loadedAt i arg3 harg3 arg6 harg6 arg8 harg8 arg9 harg9 arg10 harg10 x0 x3 x5 x6 x7).do1 (loadedAt i arg3 harg3 arg6 harg6 arg8 harg8 arg9 harg9 arg10 harg10 x0 x3 x5 x6 x7).del0 (loadedAt i arg3 harg3 arg6 harg6 arg8 harg8 arg9 harg9 arg10 harg10 x0 x3 x5 x6 x7).del1 (loadedAt i arg3 harg3 arg6 harg6 arg8 harg8 arg9 harg9 arg10 harg10 x0 x3 x5 x6 x7).lse0 (k0_pay40 (loadedAt i arg3 harg3 arg6 harg6 arg8 harg8 arg9 harg9 arg10 harg10 x0 x3 x5 x6 x7).lse) (iota .tc S512x128 32 [1] iota_S512x128_d1_w32) (loadedAt i arg3 harg3 arg6 harg6 arg8 harg8 arg9 harg9 arg10 harg10 x0 x3 x5 x6 x7).gate (loadedAt i arg3 harg3 arg6 harg6 arg8 harg8 arg9 harg9 arg10 harg10 x0 x3 x5 x6 x7).gate (harg4.unread x1) (harg5.unread x2) (harg7.unread x4) f13 f16 f17 (k0_pay45, k0_pay45) (k0_t1_loop i).trips

/-- The second loop's last state: it runs no trip. -/
def two (f13 : BufTy.Contents (Elt F) arg13.view.ty) (f16 : BufTy.Contents (Elt F) arg16.view.ty) (f17 : BufTy.Contents (Elt F) arg17.view.ty)
    (a0 a1 : FVec F S512x128 .f32) :
    (FVec F S512x128 .f32 × FVec F S512x128 .f32) × List (View.Piece (Elt F) S2048x128 .f32) ×
      List (View.Piece (Elt F) S2048x128 .f32) × List (View.Piece (Elt F) S2048x128 .f32) :=
  st_k0_t2 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (loadedAt i arg3 harg3 arg6 harg6 arg8 harg8 arg9 harg9 arg10 harg10 x0 x3 x5 x6 x7).pair (BitVec.ofNat 32 (i 2).val) k0_pay27 k0_pay28 (loadedAt i arg3 harg3 arg6 harg6 arg8 harg8 arg9 harg9 arg10 harg10 x0 x3 x5 x6 x7).q0 (loadedAt i arg3 harg3 arg6 harg6 arg8 harg8 arg9 harg9 arg10 harg10 x0 x3 x5 x6 x7).q1 (loadedAt i arg3 harg3 arg6 harg6 arg8 harg8 arg9 harg9 arg10 harg10 x0 x3 x5 x6 x7).q0one (loadedAt i arg3 harg3 arg6 harg6 arg8 harg8 arg9 harg9 arg10 harg10 x0 x3 x5 x6 x7).q1one (loadedAt i arg3 harg3 arg6 harg6 arg8 harg8 arg9 harg9 arg10 harg10 x0 x3 x5 x6 x7).do0 (loadedAt i arg3 harg3 arg6 harg6 arg8 harg8 arg9 harg9 arg10 harg10 x0 x3 x5 x6 x7).do1 (loadedAt i arg3 harg3 arg6 harg6 arg8 harg8 arg9 harg9 arg10 harg10 x0 x3 x5 x6 x7).del0 (loadedAt i arg3 harg3 arg6 harg6 arg8 harg8 arg9 harg9 arg10 harg10 x0 x3 x5 x6 x7).del1 (loadedAt i arg3 harg3 arg6 harg6 arg8 harg8 arg9 harg9 arg10 harg10 x0 x3 x5 x6 x7).lse0 (k0_pay40 (loadedAt i arg3 harg3 arg6 harg6 arg8 harg8 arg9 harg9 arg10 harg10 x0 x3 x5 x6 x7).lse) (iota .tc S512x128 32 [1] iota_S512x128_d1_w32) (loadedAt i arg3 harg3 arg6 harg6 arg8 harg8 arg9 harg9 arg10 harg10 x0 x3 x5 x6 x7).gate (loadedAt i arg3 harg3 arg6 harg6 arg8 harg8 arg9 harg9 arg10 harg10 x0 x3 x5 x6 x7).gate (Scalar.addi 0#32 (Scalar.muli (Scalar.divsi (Scalar.subi (BitVec.ofNat 32 (i 2).val) 0#32) 1#32) 1#32)) (harg4.unread x1) (harg5.unread x2) (harg7.unread x4) f13 f16 f17 (a0, a1) (k0_t2_loop i).trips

theorem two_eq (f13 : BufTy.Contents (Elt F) arg13.view.ty) (f16 : BufTy.Contents (Elt F) arg16.view.ty)
    (f17 : BufTy.Contents (Elt F) arg17.view.ty) (a0 a1 : FVec F S512x128 .f32) :
    two c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 f13 f16 f17 a0 a1 = ((a0, a1), [], [], []) := by
  unfold two
  rw [trips2_eq]
  rfl

/-- The state after both loops, where the first left `s` and the lists `l` are what it and the stores before it stored. -/
def after (f13 : BufTy.Contents (Elt F) arg13.view.ty) (f16 : BufTy.Contents (Elt F) arg16.view.ty) (f17 : BufTy.Contents (Elt F) arg17.view.ty)
    (a : FVec F S512x128 .f32 × FVec F S512x128 .f32) (l13 l16 l17 : List (View.Piece (Elt F) S2048x128 .f32)) :
    (FVec F S512x128 .f32 × FVec F S512x128 .f32) × List (View.Piece (Elt F) S2048x128 .f32) ×
      List (View.Piece (Elt F) S2048x128 .f32) × List (View.Piece (Elt F) S2048x128 .f32) :=
  ((two c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (arg13.view.writes (Elt F) f13 l13) (arg16.view.writes (Elt F) f16 l16) (arg17.view.writes (Elt F) f17 l17) a.1 a.2).1,
   (two c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (arg13.view.writes (Elt F) f13 l13) (arg16.view.writes (Elt F) f16 l16) (arg17.view.writes (Elt F) f17 l17) a.1 a.2).2.1 ++ l13,
   (two c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (arg13.view.writes (Elt F) f13 l13) (arg16.view.writes (Elt F) f16 l16) (arg17.view.writes (Elt F) f17 l17) a.1 a.2).2.2.1 ++ l16,
   (two c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (arg13.view.writes (Elt F) f13 l13) (arg16.view.writes (Elt F) f16 l16) (arg17.view.writes (Elt F) f17 l17) a.1 a.2).2.2.2 ++ l17)

theorem after_eq (f13 : BufTy.Contents (Elt F) arg13.view.ty) (f16 : BufTy.Contents (Elt F) arg16.view.ty) (f17 : BufTy.Contents (Elt F) arg17.view.ty)
    (a : FVec F S512x128 .f32 × FVec F S512x128 .f32) (l13 l16 l17 : List (View.Piece (Elt F) S2048x128 .f32)) :
    after c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 f13 f16 f17 a l13 l16 l17 = (a, l13, l16, l17) := by
  unfold after
  rw [two_eq]
  rfl

end Point

end Cert.Fox

end
-- ==== Proof.RunA.lean ====
/-
  A grid point at the first block of queries, where the accumulators start at zero: what its buffers end with.
-/
module

public import proofs.«01_k».proof.Proof.Run

@[expose] public section

set_option maxRecDepth 16384

noncomputable section

namespace Cert.Fox

open Idealize.ShloMosaic Idealize.ShloMosaic.TcCoe Idealize.SL Idealize.SL.Sem Cert.KernelIdeal Cert.KernelIdeal.Gen

variable {F : FTy → Type} [FloatOps F] [Named F]

attribute [local irreducible] st_k0_t1 st_k0_t2

section CaseA

variable (c : Dev nD) (i : grid0.Coords) (arg3 : Memref sig .tc .vmem S512x128 .bf16) (harg3 : arg3.IsWhole)
  (arg4 : Memref sig .tc .vmem S2048x128 .bf16) (harg4 : arg4.IsWhole) (arg5 : Memref sig .tc .vmem S2048x128 .bf16) (harg5 : arg5.IsWhole)
  (arg6 : Memref sig .tc .vmem S512x128 .f32) (harg6 : arg6.IsWhole) (arg7 : Memref sig .tc .vmem S1x8x2048 .f32) (harg7 : arg7.IsWhole)
  (arg8 : Memref sig .tc .vmem S512x128 .f32) (harg8 : arg8.IsWhole) (arg9 : Memref sig .tc .vmem S512x128 .f32) (harg9 : arg9.IsWhole)
  (arg10 : Memref sig .tc .vmem S512x128 .f32) (harg10 : arg10.IsWhole) (arg11 : Memref sig .tc .vmem S512x128 .f32) (harg11 : arg11.IsWhole)
  (arg12 : Memref sig .tc .vmem S2048x128 .f32) (harg12 : arg12.IsWhole) (arg13 : Memref sig .tc .vmem S2048x128 .f32)
  (harg13 : arg13.IsWhole) (arg14 : Memref sig .tc .vmem S512x128 .f32) (harg14 : arg14.IsWhole)
  (arg15 : Memref sig .tc .vmem S2048x128 .f32) (harg15 : arg15.IsWhole) (arg16 : Memref sig .tc .vmem S2048x128 .f32)
  (harg16 : arg16.IsWhole) (arg17 : Memref sig .tc .vmem S2048x128 .f32) (harg17 : arg17.IsWhole) (hc0 : cond0_0 i) (hc1 : ¬cond0_1 i)
  (x0 : Vec F S512x128 .bf16) (x1 : Vec F S2048x128 .bf16) (x2 : Vec F S2048x128 .bf16) (x3 : Vec F S512x128 .f32)
  (x4 : Vec F S1x8x2048 .f32) (x5 : Vec F S512x128 .f32) (x6 : Vec F S512x128 .f32) (x7 : Vec F S512x128 .f32)

/-- The state after both loops. -/
def afterA : (FVec F S512x128 .f32 × FVec F S512x128 .f32) × List (View.Piece (Elt F) S2048x128 .f32) ×
      List (View.Piece (Elt F) S2048x128 .f32) × List (View.Piece (Elt F) S2048x128 .f32) :=
  after c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 arg13.view.junk arg16.view.junk arg17.view.junk
    (one c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (arg13.view.writes (Elt F) arg13.view.junk [⟨whole2048, k0_pay24⟩]) (arg16.view.writes (Elt F) arg16.view.junk [⟨whole2048, k0_pay25⟩]) (arg17.view.writes (Elt F) arg17.view.junk [⟨whole2048, k0_pay26⟩])).1
    ((one c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (arg13.view.writes (Elt F) arg13.view.junk [⟨whole2048, k0_pay24⟩]) (arg16.view.writes (Elt F) arg16.view.junk [⟨whole2048, k0_pay25⟩]) (arg17.view.writes (Elt F) arg17.view.junk [⟨whole2048, k0_pay26⟩])).2.1 ++ [⟨whole2048, k0_pay24⟩])
    ((one c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (arg13.view.writes (Elt F) arg13.view.junk [⟨whole2048, k0_pay24⟩]) (arg16.view.writes (Elt F) arg16.view.junk [⟨whole2048, k0_pay25⟩]) (arg17.view.writes (Elt F) arg17.view.junk [⟨whole2048, k0_pay26⟩])).2.2.1 ++ [⟨whole2048, k0_pay25⟩])
    ((one c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (arg13.view.writes (Elt F) arg13.view.junk [⟨whole2048, k0_pay24⟩]) (arg16.view.writes (Elt F) arg16.view.junk [⟨whole2048, k0_pay25⟩]) (arg17.view.writes (Elt F) arg17.view.junk [⟨whole2048, k0_pay26⟩])).2.2.2 ++ [⟨whole2048, k0_pay26⟩])

/-- What the point has accumulated. -/
def finalA : Acc F :=
  finalAcc i (loadedAt i arg3 harg3 arg6 harg6 arg8 harg8 arg9 harg9 arg10 harg10 x0 x3 x5 x6 x7) arg4 arg5 arg7 (harg4.unread x1) (harg5.unread x2) (harg7.unread x4) arg13 arg16 arg17 arg13.view.junk arg16.view.junk arg17.view.junk (afterA c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7)

theorem finalA_eq :
    (finalA c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7) = point (loaded i x0 x3 x5 x6 x7) ⟨x1, x2, x4⟩ (i 2) k0_pay24 k0_pay25 k0_pay26 := by
  unfold finalA point
  rw [finalAcc_eq, keysOf_unread, loadedAt_eq]
  refine congrArg (diagonal (loaded i x0 x3 x5 x6 x7) ⟨x1, x2, x4⟩ (i 2)) ?_
  have e : (afterA c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7) = _ := after_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 arg13.view.junk arg16.view.junk arg17.view.junk _ _ _ _
  rw [e]
  refine Eq.trans ?_ ((loop_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) (loadedAt i arg3 harg3 arg6 harg6 arg8 harg8 arg9 harg9 arg10 harg10 x0 x3 x5 x6 x7) (harg4.unread x1) (harg5.unread x2) (harg7.unread x4) (k0_pay45, k0_pay45) (arg13.view.writes (Elt F) arg13.view.junk [⟨whole2048, k0_pay24⟩]) (arg16.view.writes (Elt F) arg16.view.junk [⟨whole2048, k0_pay25⟩]) (arg17.view.writes (Elt F) arg17.view.junk [⟨whole2048, k0_pay26⟩]) (k0_t1_loop i).trips le_rfl).trans ?_)
  · unfold accOf one
    simp only [View.writes_append]
  · rw [trips_eq, keysOf_unread, loadedAt_eq]
    simp only [out_whole2048]
    try rfl

theorem runA_dv :
    (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7).2.2.1 = dvPieces i (loadedAt i arg3 harg3 arg6 harg6 arg8 harg8 arg9 harg9 arg10 harg10 x0 x3 x5 x6 x7) arg4 arg7 (harg4.unread x1) (harg7.unread x4) arg13 arg13.view.junk (afterA c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7).2.1 := by
  rfl

theorem runA_dk0 :
    (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7).2.2.2.2.2.1 = dk0Pieces i (loadedAt i arg3 harg3 arg6 harg6 arg8 harg8 arg9 harg9 arg10 harg10 x0 x3 x5 x6 x7) arg4 arg5 arg7 (harg4.unread x1) (harg5.unread x2) (harg7.unread x4) arg16 arg16.view.junk (afterA c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7).2.2.1 := by
  rfl

theorem runA_dk1 :
    (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7).2.2.2.2.2.2.1 = dk1Pieces i (loadedAt i arg3 harg3 arg6 harg6 arg8 harg8 arg9 harg9 arg10 harg10 x0 x3 x5 x6 x7) arg4 arg5 arg7 (harg4.unread x1) (harg5.unread x2) (harg7.unread x4) arg17 arg17.view.junk (afterA c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7).2.2.2 := by
  rfl

theorem runA_dq :
    (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7).1 = [⟨whole512, dqOut (finalA c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7)⟩] := by
  rfl

theorem runA_dcq :
    (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7).2.2.2.1 = [⟨whole512, dcqOut (finalA c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7)⟩] := by
  rfl

theorem outA_dq : out0_A_8 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 = dqOut (point (loaded i x0 x3 x5 x6 x7) ⟨x1, x2, x4⟩ (i 2) k0_pay24 k0_pay25 k0_pay26) := by
  rw [← finalA_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7]
  unfold out0_A_8
  rw [runA_dq]
  exact out_whole512 _ _

theorem outA_dcq : out0_A_11 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 = dcqOut (point (loaded i x0 x3 x5 x6 x7) ⟨x1, x2, x4⟩ (i 2) k0_pay24 k0_pay25 k0_pay26) := by
  rw [← finalA_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7]
  unfold out0_A_11
  rw [runA_dcq]
  exact out_whole512 _ _

theorem outA_dv : out0_A_10 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 = (point (loaded i x0 x3 x5 x6 x7) ⟨x1, x2, x4⟩ (i 2) k0_pay24 k0_pay25 k0_pay26).dv := by
  rw [← finalA_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7]
  unfold out0_A_10
  rw [runA_dv]
  exact read_junk_writes _ _ _

theorem outA_dk0 : sout0_A_0 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 = (point (loaded i x0 x3 x5 x6 x7) ⟨x1, x2, x4⟩ (i 2) k0_pay24 k0_pay25 k0_pay26).dk0 := by
  rw [← finalA_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7]
  unfold sout0_A_0
  rw [runA_dk0]
  exact read_junk_writes _ _ _

theorem outA_dk1 : sout0_A_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 = (point (loaded i x0 x3 x5 x6 x7) ⟨x1, x2, x4⟩ (i 2) k0_pay24 k0_pay25 k0_pay26).dk1 := by
  rw [← finalA_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7]
  unfold sout0_A_1
  rw [runA_dk1]
  exact read_junk_writes _ _ _

end CaseA

end Cert.Fox

end
-- ==== Proof.RunB.lean ====
/-
  A grid point at a block of queries in the middle: what its buffers end with.
-/
module

public import proofs.«01_k».proof.Proof.Run

@[expose] public section

set_option maxRecDepth 16384

noncomputable section

namespace Cert.Fox

open Idealize.ShloMosaic Idealize.ShloMosaic.TcCoe Idealize.SL Idealize.SL.Sem Cert.KernelIdeal Cert.KernelIdeal.Gen

variable {F : FTy → Type} [FloatOps F] [Named F]

attribute [local irreducible] st_k0_t1 st_k0_t2

section CaseB

variable (c : Dev nD) (i : grid0.Coords) (arg3 : Memref sig .tc .vmem S512x128 .bf16) (harg3 : arg3.IsWhole)
  (arg4 : Memref sig .tc .vmem S2048x128 .bf16) (harg4 : arg4.IsWhole) (arg5 : Memref sig .tc .vmem S2048x128 .bf16) (harg5 : arg5.IsWhole)
  (arg6 : Memref sig .tc .vmem S512x128 .f32) (harg6 : arg6.IsWhole) (arg7 : Memref sig .tc .vmem S1x8x2048 .f32) (harg7 : arg7.IsWhole)
  (arg8 : Memref sig .tc .vmem S512x128 .f32) (harg8 : arg8.IsWhole) (arg9 : Memref sig .tc .vmem S512x128 .f32) (harg9 : arg9.IsWhole)
  (arg10 : Memref sig .tc .vmem S512x128 .f32) (harg10 : arg10.IsWhole) (arg11 : Memref sig .tc .vmem S512x128 .f32) (harg11 : arg11.IsWhole)
  (arg12 : Memref sig .tc .vmem S2048x128 .f32) (harg12 : arg12.IsWhole) (arg13 : Memref sig .tc .vmem S2048x128 .f32)
  (harg13 : arg13.IsWhole) (arg14 : Memref sig .tc .vmem S512x128 .f32) (harg14 : arg14.IsWhole)
  (arg15 : Memref sig .tc .vmem S2048x128 .f32) (harg15 : arg15.IsWhole) (arg16 : Memref sig .tc .vmem S2048x128 .f32)
  (harg16 : arg16.IsWhole) (arg17 : Memref sig .tc .vmem S2048x128 .f32) (harg17 : arg17.IsWhole) (hc0 : ¬cond0_0 i) (hc1 : ¬cond0_1 i)
  (x0 : Vec F S512x128 .bf16) (x1 : Vec F S2048x128 .bf16) (x2 : Vec F S2048x128 .bf16) (x3 : Vec F S512x128 .f32)
  (x4 : Vec F S1x8x2048 .f32) (x5 : Vec F S512x128 .f32) (x6 : Vec F S512x128 .f32) (x7 : Vec F S512x128 .f32) (xo10 : Vec F S2048x128 .f32)
  (xs0 : Vec F S2048x128 .f32) (xs1 : Vec F S2048x128 .f32)

/-- The state after both loops. -/
def afterB : (FVec F S512x128 .f32 × FVec F S512x128 .f32) × List (View.Piece (Elt F) S2048x128 .f32) ×
      List (View.Piece (Elt F) S2048x128 .f32) × List (View.Piece (Elt F) S2048x128 .f32) :=
  after c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (harg13.unread xo10) (harg16.unread xs0) (harg17.unread xs1)
    (one c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (harg13.unread xo10) (harg16.unread xs0) (harg17.unread xs1)).1
    (one c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (harg13.unread xo10) (harg16.unread xs0) (harg17.unread xs1)).2.1
    (one c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (harg13.unread xo10) (harg16.unread xs0) (harg17.unread xs1)).2.2.1
    (one c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (harg13.unread xo10) (harg16.unread xs0) (harg17.unread xs1)).2.2.2

/-- What the point has accumulated. -/
def finalB : Acc F :=
  finalAcc i (loadedAt i arg3 harg3 arg6 harg6 arg8 harg8 arg9 harg9 arg10 harg10 x0 x3 x5 x6 x7) arg4 arg5 arg7 (harg4.unread x1) (harg5.unread x2) (harg7.unread x4) arg13 arg16 arg17 (harg13.unread xo10) (harg16.unread xs0) (harg17.unread xs1) (afterB c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1)

theorem finalB_eq :
    (finalB c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1) = point (loaded i x0 x3 x5 x6 x7) ⟨x1, x2, x4⟩ (i 2) xo10 xs0 xs1 := by
  unfold finalB point
  rw [finalAcc_eq, keysOf_unread, loadedAt_eq]
  refine congrArg (diagonal (loaded i x0 x3 x5 x6 x7) ⟨x1, x2, x4⟩ (i 2)) ?_
  have e : (afterB c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1) = _ := after_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (harg13.unread xo10) (harg16.unread xs0) (harg17.unread xs1) _ _ _ _
  rw [e]
  refine Eq.trans ?_ ((loop_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) (loadedAt i arg3 harg3 arg6 harg6 arg8 harg8 arg9 harg9 arg10 harg10 x0 x3 x5 x6 x7) (harg4.unread x1) (harg5.unread x2) (harg7.unread x4) (k0_pay45, k0_pay45) (harg13.unread xo10) (harg16.unread xs0) (harg17.unread xs1) (k0_t1_loop i).trips le_rfl).trans ?_)
  · unfold accOf one
    rfl
  · rw [trips_eq, keysOf_unread, loadedAt_eq]
    simp only [Memref.IsWhole.read_unread]
    try rfl

theorem runB_dv :
    (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo10 xs0 xs1).2.2.1 = dvPieces i (loadedAt i arg3 harg3 arg6 harg6 arg8 harg8 arg9 harg9 arg10 harg10 x0 x3 x5 x6 x7) arg4 arg7 (harg4.unread x1) (harg7.unread x4) arg13 (harg13.unread xo10) (afterB c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1).2.1 := by
  rfl

theorem runB_dk0 :
    (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo10 xs0 xs1).2.2.2.2.2.1 = dk0Pieces i (loadedAt i arg3 harg3 arg6 harg6 arg8 harg8 arg9 harg9 arg10 harg10 x0 x3 x5 x6 x7) arg4 arg5 arg7 (harg4.unread x1) (harg5.unread x2) (harg7.unread x4) arg16 (harg16.unread xs0) (afterB c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1).2.2.1 := by
  rfl

theorem runB_dk1 :
    (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo10 xs0 xs1).2.2.2.2.2.2.1 = dk1Pieces i (loadedAt i arg3 harg3 arg6 harg6 arg8 harg8 arg9 harg9 arg10 harg10 x0 x3 x5 x6 x7) arg4 arg5 arg7 (harg4.unread x1) (harg5.unread x2) (harg7.unread x4) arg17 (harg17.unread xs1) (afterB c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1).2.2.2 := by
  rfl

theorem runB_dq :
    (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo10 xs0 xs1).1 = [⟨whole512, dqOut (finalB c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1)⟩] := by
  rfl

theorem runB_dcq :
    (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo10 xs0 xs1).2.2.2.1 = [⟨whole512, dcqOut (finalB c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1)⟩] := by
  rfl

theorem outB_dq : out0_B_8 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo10 xs0 xs1 = dqOut (point (loaded i x0 x3 x5 x6 x7) ⟨x1, x2, x4⟩ (i 2) xo10 xs0 xs1) := by
  rw [← finalB_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1]
  unfold out0_B_8
  rw [runB_dq]
  exact out_whole512 _ _

theorem outB_dcq : out0_B_11 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo10 xs0 xs1 = dcqOut (point (loaded i x0 x3 x5 x6 x7) ⟨x1, x2, x4⟩ (i 2) xo10 xs0 xs1) := by
  rw [← finalB_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1]
  unfold out0_B_11
  rw [runB_dcq]
  exact out_whole512 _ _

theorem outB_dv : out0_B_10 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo10 xs0 xs1 = (point (loaded i x0 x3 x5 x6 x7) ⟨x1, x2, x4⟩ (i 2) xo10 xs0 xs1).dv := by
  rw [← finalB_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1]
  unfold out0_B_10
  rw [runB_dv]
  rfl

theorem outB_dk0 : sout0_B_0 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo10 xs0 xs1 = (point (loaded i x0 x3 x5 x6 x7) ⟨x1, x2, x4⟩ (i 2) xo10 xs0 xs1).dk0 := by
  rw [← finalB_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1]
  unfold sout0_B_0
  rw [runB_dk0]
  rfl

theorem outB_dk1 : sout0_B_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo10 xs0 xs1 = (point (loaded i x0 x3 x5 x6 x7) ⟨x1, x2, x4⟩ (i 2) xo10 xs0 xs1).dk1 := by
  rw [← finalB_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1]
  unfold sout0_B_1
  rw [runB_dk1]
  rfl

end CaseB

end Cert.Fox

end
-- ==== Proof.RunC.lean ====
/-
  A grid point at the last block of queries, where the two arrays of the keys are stored: what its buffers end with.
-/
module

public import proofs.«01_k».proof.Proof.Run

@[expose] public section

set_option maxRecDepth 16384

noncomputable section

namespace Cert.Fox

open Idealize.ShloMosaic Idealize.ShloMosaic.TcCoe Idealize.SL Idealize.SL.Sem Cert.KernelIdeal Cert.KernelIdeal.Gen

variable {F : FTy → Type} [FloatOps F] [Named F]

attribute [local irreducible] st_k0_t1 st_k0_t2

section CaseC

variable (c : Dev nD) (i : grid0.Coords) (arg3 : Memref sig .tc .vmem S512x128 .bf16) (harg3 : arg3.IsWhole)
  (arg4 : Memref sig .tc .vmem S2048x128 .bf16) (harg4 : arg4.IsWhole) (arg5 : Memref sig .tc .vmem S2048x128 .bf16) (harg5 : arg5.IsWhole)
  (arg6 : Memref sig .tc .vmem S512x128 .f32) (harg6 : arg6.IsWhole) (arg7 : Memref sig .tc .vmem S1x8x2048 .f32) (harg7 : arg7.IsWhole)
  (arg8 : Memref sig .tc .vmem S512x128 .f32) (harg8 : arg8.IsWhole) (arg9 : Memref sig .tc .vmem S512x128 .f32) (harg9 : arg9.IsWhole)
  (arg10 : Memref sig .tc .vmem S512x128 .f32) (harg10 : arg10.IsWhole) (arg11 : Memref sig .tc .vmem S512x128 .f32) (harg11 : arg11.IsWhole)
  (arg12 : Memref sig .tc .vmem S2048x128 .f32) (harg12 : arg12.IsWhole) (arg13 : Memref sig .tc .vmem S2048x128 .f32)
  (harg13 : arg13.IsWhole) (arg14 : Memref sig .tc .vmem S512x128 .f32) (harg14 : arg14.IsWhole)
  (arg15 : Memref sig .tc .vmem S2048x128 .f32) (harg15 : arg15.IsWhole) (arg16 : Memref sig .tc .vmem S2048x128 .f32)
  (harg16 : arg16.IsWhole) (arg17 : Memref sig .tc .vmem S2048x128 .f32) (harg17 : arg17.IsWhole) (hc0 : ¬cond0_0 i) (hc1 : cond0_1 i)
  (x0 : Vec F S512x128 .bf16) (x1 : Vec F S2048x128 .bf16) (x2 : Vec F S2048x128 .bf16) (x3 : Vec F S512x128 .f32)
  (x4 : Vec F S1x8x2048 .f32) (x5 : Vec F S512x128 .f32) (x6 : Vec F S512x128 .f32) (x7 : Vec F S512x128 .f32) (xo10 : Vec F S2048x128 .f32)
  (xs0 : Vec F S2048x128 .f32) (xs1 : Vec F S2048x128 .f32)

/-- The state after both loops. -/
def afterC : (FVec F S512x128 .f32 × FVec F S512x128 .f32) × List (View.Piece (Elt F) S2048x128 .f32) ×
      List (View.Piece (Elt F) S2048x128 .f32) × List (View.Piece (Elt F) S2048x128 .f32) :=
  after c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (harg13.unread xo10) (harg16.unread xs0) (harg17.unread xs1)
    (one c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (harg13.unread xo10) (harg16.unread xs0) (harg17.unread xs1)).1
    (one c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (harg13.unread xo10) (harg16.unread xs0) (harg17.unread xs1)).2.1
    (one c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (harg13.unread xo10) (harg16.unread xs0) (harg17.unread xs1)).2.2.1
    (one c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (harg13.unread xo10) (harg16.unread xs0) (harg17.unread xs1)).2.2.2

/-- What the point has accumulated. -/
def finalC : Acc F :=
  finalAcc i (loadedAt i arg3 harg3 arg6 harg6 arg8 harg8 arg9 harg9 arg10 harg10 x0 x3 x5 x6 x7) arg4 arg5 arg7 (harg4.unread x1) (harg5.unread x2) (harg7.unread x4) arg13 arg16 arg17 (harg13.unread xo10) (harg16.unread xs0) (harg17.unread xs1) (afterC c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1)

theorem finalC_eq :
    (finalC c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1) = point (loaded i x0 x3 x5 x6 x7) ⟨x1, x2, x4⟩ (i 2) xo10 xs0 xs1 := by
  unfold finalC point
  rw [finalAcc_eq, keysOf_unread, loadedAt_eq]
  refine congrArg (diagonal (loaded i x0 x3 x5 x6 x7) ⟨x1, x2, x4⟩ (i 2)) ?_
  have e : (afterC c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1) = _ := after_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (harg13.unread xo10) (harg16.unread xs0) (harg17.unread xs1) _ _ _ _
  rw [e]
  refine Eq.trans ?_ ((loop_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) (loadedAt i arg3 harg3 arg6 harg6 arg8 harg8 arg9 harg9 arg10 harg10 x0 x3 x5 x6 x7) (harg4.unread x1) (harg5.unread x2) (harg7.unread x4) (k0_pay45, k0_pay45) (harg13.unread xo10) (harg16.unread xs0) (harg17.unread xs1) (k0_t1_loop i).trips le_rfl).trans ?_)
  · unfold accOf one
    rfl
  · rw [trips_eq, keysOf_unread, loadedAt_eq]
    simp only [Memref.IsWhole.read_unread]
    try rfl

theorem runC_dv :
    (kernelRun0_C (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo10 xs0 xs1).2.2.1 = dvPieces i (loadedAt i arg3 harg3 arg6 harg6 arg8 harg8 arg9 harg9 arg10 harg10 x0 x3 x5 x6 x7) arg4 arg7 (harg4.unread x1) (harg7.unread x4) arg13 (harg13.unread xo10) (afterC c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1).2.1 := by
  rfl

theorem runC_dk0 :
    (kernelRun0_C (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo10 xs0 xs1).2.2.2.2.2.1 = dk0Pieces i (loadedAt i arg3 harg3 arg6 harg6 arg8 harg8 arg9 harg9 arg10 harg10 x0 x3 x5 x6 x7) arg4 arg5 arg7 (harg4.unread x1) (harg5.unread x2) (harg7.unread x4) arg16 (harg16.unread xs0) (afterC c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1).2.2.1 := by
  rfl

theorem runC_dk1 :
    (kernelRun0_C (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo10 xs0 xs1).2.2.2.2.2.2.1 = dk1Pieces i (loadedAt i arg3 harg3 arg6 harg6 arg8 harg8 arg9 harg9 arg10 harg10 x0 x3 x5 x6 x7) arg4 arg5 arg7 (harg4.unread x1) (harg5.unread x2) (harg7.unread x4) arg17 (harg17.unread xs1) (afterC c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1).2.2.2 := by
  rfl

theorem runC_dq :
    (kernelRun0_C (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo10 xs0 xs1).1 = [⟨whole512, dqOut (finalC c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1)⟩] := by
  rfl

theorem runC_dcq :
    (kernelRun0_C (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo10 xs0 xs1).2.2.2.1 = [⟨whole512, dcqOut (finalC c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1)⟩] := by
  rfl

theorem runC_dk :
    (kernelRun0_C (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo10 xs0 xs1).2.1 = [⟨whole2048, k0_pay22 k0_pay27 (View.readAt (Elt F) arg16.view whole2048.toLoadRect (arg16.view.writes (Elt F) (harg16.unread xs0) (dk0Pieces i (loadedAt i arg3 harg3 arg6 harg6 arg8 harg8 arg9 harg9 arg10 harg10 x0 x3 x5 x6 x7) arg4 arg5 arg7 (harg4.unread x1) (harg5.unread x2) (harg7.unread x4) arg16 (harg16.unread xs0) (afterC c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1).2.2.1)))
      (View.readAt (Elt F) arg17.view whole2048.toLoadRect (arg17.view.writes (Elt F) (harg17.unread xs1) (dk1Pieces i (loadedAt i arg3 harg3 arg6 harg6 arg8 harg8 arg9 harg9 arg10 harg10 x0 x3 x5 x6 x7) arg4 arg5 arg7 (harg4.unread x1) (harg5.unread x2) (harg7.unread x4) arg17 (harg17.unread xs1) (afterC c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1).2.2.2)))⟩] := by
  rfl

theorem runC_dck :
    (kernelRun0_C (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo10 xs0 xs1).2.2.2.2.1 = [⟨whole2048, k0_pay23 (iota .tc S1x128 32 [1] iota_S1x128_d1_w32) (View.readAt (Elt F) arg16.view whole2048.toLoadRect (arg16.view.writes (Elt F) (harg16.unread xs0) (dk0Pieces i (loadedAt i arg3 harg3 arg6 harg6 arg8 harg8 arg9 harg9 arg10 harg10 x0 x3 x5 x6 x7) arg4 arg5 arg7 (harg4.unread x1) (harg5.unread x2) (harg7.unread x4) arg16 (harg16.unread xs0) (afterC c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1).2.2.1)))
      (View.readAt (Elt F) arg17.view whole2048.toLoadRect (arg17.view.writes (Elt F) (harg17.unread xs1) (dk1Pieces i (loadedAt i arg3 harg3 arg6 harg6 arg8 harg8 arg9 harg9 arg10 harg10 x0 x3 x5 x6 x7) arg4 arg5 arg7 (harg4.unread x1) (harg5.unread x2) (harg7.unread x4) arg17 (harg17.unread xs1) (afterC c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1).2.2.2)))⟩] := by
  rfl

theorem outC_dq : out0_C_8 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo10 xs0 xs1 = dqOut (point (loaded i x0 x3 x5 x6 x7) ⟨x1, x2, x4⟩ (i 2) xo10 xs0 xs1) := by
  rw [← finalC_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1]
  unfold out0_C_8
  rw [runC_dq]
  exact out_whole512 _ _

theorem outC_dcq : out0_C_11 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo10 xs0 xs1 = dcqOut (point (loaded i x0 x3 x5 x6 x7) ⟨x1, x2, x4⟩ (i 2) xo10 xs0 xs1) := by
  rw [← finalC_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1]
  unfold out0_C_11
  rw [runC_dcq]
  exact out_whole512 _ _

theorem outC_dv : out0_C_10 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo10 xs0 xs1 = (point (loaded i x0 x3 x5 x6 x7) ⟨x1, x2, x4⟩ (i 2) xo10 xs0 xs1).dv := by
  rw [← finalC_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1]
  unfold out0_C_10
  rw [runC_dv]
  rfl

theorem outC_dk0 : sout0_C_0 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo10 xs0 xs1 = (point (loaded i x0 x3 x5 x6 x7) ⟨x1, x2, x4⟩ (i 2) xo10 xs0 xs1).dk0 := by
  rw [← finalC_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1]
  unfold sout0_C_0
  rw [runC_dk0]
  rfl

theorem outC_dk1 : sout0_C_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo10 xs0 xs1 = (point (loaded i x0 x3 x5 x6 x7) ⟨x1, x2, x4⟩ (i 2) xo10 xs0 xs1).dk1 := by
  rw [← finalC_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1]
  unfold sout0_C_1
  rw [runC_dk1]
  rfl

theorem outC_dk : out0_C_9 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo10 xs0 xs1 = k0_pay22 k0_pay27 (point (loaded i x0 x3 x5 x6 x7) ⟨x1, x2, x4⟩ (i 2) xo10 xs0 xs1).dk0 (point (loaded i x0 x3 x5 x6 x7) ⟨x1, x2, x4⟩ (i 2) xo10 xs0 xs1).dk1 := by
  rw [← finalC_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1]
  unfold out0_C_9
  rw [runC_dk, readAt_whole2048, readAt_whole2048]
  exact out_whole2048 _ _

theorem outC_dck : out0_C_12 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo10 xs0 xs1 = k0_pay23 (iota .tc S1x128 32 [1] iota_S1x128_d1_w32) (point (loaded i x0 x3 x5 x6 x7) ⟨x1, x2, x4⟩ (i 2) xo10 xs0 xs1).dk0 (point (loaded i x0 x3 x5 x6 x7) ⟨x1, x2, x4⟩ (i 2) xo10 xs0 xs1).dk1 := by
  rw [← finalC_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo10 xs0 xs1]
  unfold out0_C_12
  rw [runC_dck, readAt_whole2048, readAt_whole2048]
  exact out_whole2048 _ _

end CaseC

end Cert.Fox

end
-- ==== Proof.Outs.lean ====
/-
  What every grid point of the gated attention's gradient leaves in its buffers: its own sums, and the sums carried over
  the query blocks of one pair of heads.
-/
module

public import proofs.«01_k».proof.Proof.Point
public import proofs.«01_k».proof.Proof.RunA
public import proofs.«01_k».proof.Proof.RunB
public import proofs.«01_k».proof.Proof.RunC
public import proofs.«01_k».proof.Proof.Gen.KernelIdeal.Value
public import Idealize.ShloMosaic.Lib.Pipeline.ValueKit

@[expose] public section

set_option maxRecDepth 16384

noncomputable section

namespace Cert.Fox

open Idealize.ShloMosaic Idealize.ShloMosaic.TcCoe Idealize.SL Idealize.SL.Sem Cert.KernelIdeal Cert.KernelIdeal.Gen

section Generic

variable {F : FTy → Type} [FloatOps F] [Named F]
variable (m : (ℓ : Loc nD τ sig) → Buf (Elt F) ℓ) (c : Dev nD) (t : Fin cfg0.N)

/-- What point `t` reads of the queries. -/
def ptLoaded : Loaded F :=
  loaded (grid0.coords t) (iblk m c 0 t) (iblk m c 3 t) (iblk m c 5 t) (iblk m c 6 t) (iblk m c 7 t)

/-- What it reads of the keys. -/
def ptKeys : Keys F := ⟨iblk m c 1 t, iblk m c 2 t, iblk m c 4 t⟩

/-- The point's run over the accumulators it finds. -/
def ptRun (dv dk0 dk1 : Vec F S2048x128 .f32) : Acc F := point (ptLoaded m c t) (ptKeys m c t) (grid0.coords t 2) dv dk0 dk1

/-- The buffers after the point, when its run ends at `s`. -/
structure Leaves (s : Acc F) : Prop where
  dq : (outsAt0 m c t.val t.isLt).1 = dqOut s
  dv : (outsAt0 m c t.val t.isLt).2.2.1 = s.dv
  dcq : (outsAt0 m c t.val t.isLt).2.2.2.1 = dcqOut s
  dk0 : (outsAt0 m c t.val t.isLt).2.2.2.2.2.1 = s.dk0
  dk1 : (outsAt0 m c t.val t.isLt).2.2.2.2.2.2 = s.dk1

theorem leaves_first (h0 : t.val % 4 = 0) : Leaves m c t (ptRun m c t k0_pay24 k0_pay25 k0_pay26) := by
  have h1 : ¬t.val % 4 = 3 := by omega
  refine ⟨?_, ?_, ?_, ?_, ?_⟩
  · rw [outsAt0_A m c t h0 h1]; dsimp only; rw [outA_dq]; rfl
  · rw [outsAt0_A m c t h0 h1]; dsimp only; rw [outA_dv]; rfl
  · rw [outsAt0_A m c t h0 h1]; dsimp only; rw [outA_dcq]; rfl
  · rw [outsAt0_A m c t h0 h1]; dsimp only; rw [outA_dk0]; rfl
  · rw [outsAt0_A m c t h0 h1]; dsimp only; rw [outA_dk1]; rfl

/-- The point's run over what the point before left. -/
def ptRunOn : Acc F := ptRun m c t (outsAt0 m c (t.val - 1) (Nat.lt_of_le_of_lt (Nat.sub_le _ _) t.isLt)).2.2.1
  (outsAt0 m c (t.val - 1) (Nat.lt_of_le_of_lt (Nat.sub_le _ _) t.isLt)).2.2.2.2.2.1
  (outsAt0 m c (t.val - 1) (Nat.lt_of_le_of_lt (Nat.sub_le _ _) t.isLt)).2.2.2.2.2.2

theorem leaves_between (h0 : ¬t.val % 4 = 0) (h1 : ¬t.val % 4 = 3) : Leaves m c t (ptRunOn m c t) := by
  refine ⟨?_, ?_, ?_, ?_, ?_⟩
  · rw [outsAt0_B m c t h0 h1]; dsimp only; rw [outB_dq]; rfl
  · rw [outsAt0_B m c t h0 h1]; dsimp only; rw [outB_dv]; rfl
  · rw [outsAt0_B m c t h0 h1]; dsimp only; rw [outB_dcq]; rfl
  · rw [outsAt0_B m c t h0 h1]; dsimp only; rw [outB_dk0]; rfl
  · rw [outsAt0_B m c t h0 h1]; dsimp only; rw [outB_dk1]; rfl

theorem leaves_last (h0 : ¬t.val % 4 = 0) (h1 : t.val % 4 = 3) : Leaves m c t (ptRunOn m c t) := by
  refine ⟨?_, ?_, ?_, ?_, ?_⟩
  · rw [outsAt0_C m c t h0 h1]; dsimp only; rw [outC_dq]; rfl
  · rw [outsAt0_C m c t h0 h1]; dsimp only; rw [outC_dv]; rfl
  · rw [outsAt0_C m c t h0 h1]; dsimp only; rw [outC_dcq]; rfl
  · rw [outsAt0_C m c t h0 h1]; dsimp only; rw [outC_dk0]; rfl
  · rw [outsAt0_C m c t h0 h1]; dsimp only; rw [outC_dk1]; rfl

theorem leaves_on (h0 : ¬t.val % 4 = 0) : Leaves m c t (ptRunOn m c t) := by
  by_cases h1 : t.val % 4 = 3
  · exact leaves_last m c t h0 h1
  · exact leaves_between m c t h0 h1

theorem last_dk (h1 : t.val % 4 = 3) : (outsAt0 m c t.val t.isLt).2.1
    = k0_pay22 k0_pay27 (outsAt0 m c t.val t.isLt).2.2.2.2.2.1 (outsAt0 m c t.val t.isLt).2.2.2.2.2.2 := by
  have h0 : ¬t.val % 4 = 0 := by omega
  rw [(leaves_last m c t h0 h1).dk0, (leaves_last m c t h0 h1).dk1]
  rw [outsAt0_C m c t h0 h1]; dsimp only; rw [outC_dk]; rfl

theorem last_dck (h1 : t.val % 4 = 3) : (outsAt0 m c t.val t.isLt).2.2.2.2.1
    = k0_pay23 (iota .tc S1x128 32 [1] iota_S1x128_d1_w32) (outsAt0 m c t.val t.isLt).2.2.2.2.2.1 (outsAt0 m c t.val t.isLt).2.2.2.2.2.2 := by
  have h0 : ¬t.val % 4 = 0 := by omega
  rw [(leaves_last m c t h0 h1).dk0, (leaves_last m c t h0 h1).dk1]
  rw [outsAt0_C m c t h0 h1]; dsimp only; rw [outC_dck]; rfl

end Generic

/-! ### As sums -/

variable (m : (ℓ : Loc nD τ sig) → Buf (Elt Ideal) ℓ) (c : Dev nD)

theorem pair_eq (t : Fin cfg0.N) : (ptLoaded m c t).pair = BitVec.ofNat 32 (grid0.coords t 1).val := rfl

/-- What point `t` adds to a value's gradient. -/
def dvAt (n : ℕ) (j : S2048x128.Idx) : EReal :=
  if h : n < cfg0.N then dvTerm (ptLoaded m c ⟨n, h⟩) (ptKeys m c ⟨n, h⟩) (grid0.coords ⟨n, h⟩ 1) (grid0.coords ⟨n, h⟩ 2) (j 1) (j 0) else 0

/-- What it adds to a key's accumulator. -/
def dkAt (e : Fin 2) (n : ℕ) (j : S2048x128.Idx) : EReal :=
  if h : n < cfg0.N then dkTerm (ptLoaded m c ⟨n, h⟩) (ptKeys m c ⟨n, h⟩) (grid0.coords ⟨n, h⟩ 1) (grid0.coords ⟨n, h⟩ 2) e (j 1) (j 0) else 0

theorem dvAt_eq (t : Fin cfg0.N) (j : S2048x128.Idx) : dvAt m c t.val j
    = dvTerm (ptLoaded m c t) (ptKeys m c t) (grid0.coords t 1) (grid0.coords t 2) (j 1) (j 0) := dif_pos t.isLt

theorem dkAt_eq (e : Fin 2) (t : Fin cfg0.N) (j : S2048x128.Idx) : dkAt m c e t.val j
    = dkTerm (ptLoaded m c t) (ptKeys m c t) (grid0.coords t 1) (grid0.coords t 2) e (j 1) (j 0) := dif_pos t.isLt

theorem carried_dv (t : Fin cfg0.N) (j : S2048x128.Idx) : (outsAt0 m c t.val t.isLt).2.2.1 j
    = 0 + ∑ k ∈ Finset.range (t.val % 4 + 1), dvAt m c (4 * (t.val / 4) + k) j := by
  refine Pipeline.eq_sum_of_reset_step_apply (fun n h => (outsAt0 m c n h).2.2.1) 4 (fun _ => (0 : EReal)) (dvAt m c) (fun t h0 j => ?_) (fun t h0 j => ?_) t j
  · idx_vars j
    rw [(leaves_first m c t h0).dv]
    refine (point_dv (pair_eq m c t) _ _).trans ?_
    rw [pay24_apply]
    exact congrArg _ (dvAt_eq m c t (ix2 j0 j1)).symm
  · idx_vars j
    rw [(leaves_on m c t h0).dv]
    refine (point_dv (pair_eq m c t) _ _).trans ?_
    exact congrArg _ (dvAt_eq m c t (ix2 j0 j1)).symm

theorem carried_dk0 (t : Fin cfg0.N) (j : S2048x128.Idx) : (outsAt0 m c t.val t.isLt).2.2.2.2.2.1 j
    = 0 + ∑ k ∈ Finset.range (t.val % 4 + 1), dkAt m c 0 (4 * (t.val / 4) + k) j := by
  refine Pipeline.eq_sum_of_reset_step_apply (fun n h => (outsAt0 m c n h).2.2.2.2.2.1) 4 (fun _ => (0 : EReal)) (dkAt m c 0) (fun t h0 j => ?_) (fun t h0 j => ?_) t j
  · idx_vars j
    rw [(leaves_first m c t h0).dk0]
    refine (point_dk0 (pair_eq m c t) _ _).trans ?_
    rw [pay25_apply]
    exact congrArg _ (dkAt_eq m c 0 t (ix2 j0 j1)).symm
  · idx_vars j
    rw [(leaves_on m c t h0).dk0]
    refine (point_dk0 (pair_eq m c t) _ _).trans ?_
    exact congrArg _ (dkAt_eq m c 0 t (ix2 j0 j1)).symm

theorem carried_dk1 (t : Fin cfg0.N) (j : S2048x128.Idx) : (outsAt0 m c t.val t.isLt).2.2.2.2.2.2 j
    = 0 + ∑ k ∈ Finset.range (t.val % 4 + 1), dkAt m c 1 (4 * (t.val / 4) + k) j := by
  refine Pipeline.eq_sum_of_reset_step_apply (fun n h => (outsAt0 m c n h).2.2.2.2.2.2) 4 (fun _ => (0 : EReal)) (dkAt m c 1) (fun t h0 j => ?_) (fun t h0 j => ?_) t j
  · idx_vars j
    rw [(leaves_first m c t h0).dk1]
    refine (point_dk1 (pair_eq m c t) _ _).trans ?_
    rw [pay26_apply]
    exact congrArg _ (dkAt_eq m c 1 t (ix2 j0 j1)).symm
  · idx_vars j
    rw [(leaves_on m c t h0).dk1]
    refine (point_dk1 (pair_eq m c t) _ _).trans ?_
    exact congrArg _ (dkAt_eq m c 1 t (ix2 j0 j1)).symm

/-- The sum over the keys of what they add to the queries' accumulator of head `e`. -/
def dqSum (t : Fin cfg0.N) (e : Fin 2) (r : Fin 512) (l : Fin 128) : EReal :=
  ∑ C, dqTerm (ptLoaded m c t) (ptKeys m c t) (grid0.coords t 1) (grid0.coords t 2) e r l C

theorem stored_dq (t : Fin cfg0.N) (r : Fin 512) (l : Fin 128) : (outsAt0 m c t.val t.isLt).1 (ix2 r l)
    = (if l.val / 64 = 0 then dqSum m c t 0 r l else dqSum m c t 1 r l) * Ideal.ofBits FTy.f32 0x3E000000#32 := by
  by_cases h0 : t.val % 4 = 0
  · rw [(leaves_first m c t h0).dq, dqOut_apply]
    exact congrArg (· * _) (congr (congrArg _ (point_dq0 (pair_eq m c t) r l)) (point_dq1 (pair_eq m c t) r l))
  · rw [(leaves_on m c t h0).dq, dqOut_apply]
    exact congrArg (· * _) (congr (congrArg _ (point_dq0 (pair_eq m c t) r l)) (point_dq1 (pair_eq m c t) r l))

theorem stored_dcq (t : Fin cfg0.N) (r : Fin 512) (l : Fin 128) : (outsAt0 m c t.val t.isLt).2.2.2.1 (ix2 r l)
    = if l.val = 0 then dqSum m c t 0 r 64 else if l.val = 1 then dqSum m c t 1 r 0 else 0 := by
  by_cases h0 : t.val % 4 = 0
  · rw [(leaves_first m c t h0).dcq, dcqOut_apply]
    exact congr (congrArg _ (point_dq0 (pair_eq m c t) r 64)) (congrArg (fun x => if l.val = 1 then x else (0 : EReal)) (point_dq1 (pair_eq m c t) r 0))
  · rw [(leaves_on m c t h0).dcq, dcqOut_apply]
    exact congr (congrArg _ (point_dq0 (pair_eq m c t) r 64)) (congrArg (fun x => if l.val = 1 then x else (0 : EReal)) (point_dq1 (pair_eq m c t) r 0))

end Cert.Fox

end
-- ==== Proof.Arrays.lean ====
/-
  What the grid's points read, by batch, head, position and lane of a head, in the arrays of the plain program.
-/
module

public import proofs.«01_k».proof.Proof.Plain
public import proofs.«01_k».proof.Proof.Outs
public import Idealize.ShloMosaic.Lib.Claim
public import Idealize.ShloMosaic.Lib.StableHlo.ReadAt

@[expose] public section

set_option maxRecDepth 16384

noncomputable section

namespace Cert.Fox

open Idealize.ShloMosaic Idealize.ShloMosaic.TcCoe Idealize.SL Idealize.SL.Sem Cert.KernelIdeal Cert.KernelIdeal.Gen

section Generic

variable {F : FTy → Type} [FloatOps F] [Named F]
variable (m : (ℓ : Loc nD τ sig) → Buf (Elt F) ℓ) (c : Dev nD)

/-- The three arguments. -/
abbrev argA : Vec F S4096x1536 .bf16 := m ((c : Thread nD τ).loc main_arg0)
abbrev argB : Vec F S4096x128 .f32 := m ((c : Thread nD τ).loc main_arg1)
abbrev argD : Vec F S4096x512 .f32 := m ((c : Thread nD τ).loc main_arg2)

theorem gates_at : V m c main_v2 = Plain.gateRows (argB m c) := by
  entry_read
  rfl

theorem context_at : V m c main_v50 = Plain.context (argA m c) (argB m c) := by
  unfold V
  after_reads_simp
  simp -implicitDefEqProofs only [StableHlo.TRef.toBuf, StableHlo.TRef.ofBuf, cast_cast, cast_eq]
  rfl

/-- The logarithms in the lanes the kernel reads them from. -/
def logLanes (x : Vec F S2x8x2048 .f32) : Vec F S4096x512 .f32 :=
  shapeCast S4096x512
    (pad S2x2048x4x128 ![0, 0, 0, 0] ![0, 0, 0, 126] ![0, 0, 0, 0]
      (transpose S2x2048x4x2 [0, 3, 1, 2] (shapeCast S2x4x2x2048 x shapeCasts_S2x8x2048_S2x4x2x2048) transposes_S2x4x2x2048_S2x2048x4x2_0_3_1_2)
      (sitofp .f32 (constantI S_ 32 0#32)) pads_S2x2048x4x2_S2x2048x4x128_000_000_000_01260 h_S_)
    shapeCasts_S2x2048x4x128_S4096x512

theorem logs_at : V m c main_v51 = logLanes (Plain.logSum (argA m c) (argB m c)) := by
  unfold V
  after_reads_simp
  simp -implicitDefEqProofs only [StableHlo.TRef.toBuf, StableHlo.TRef.ofBuf, cast_cast, cast_eq]
  rfl

end Generic

/-! ### Places -/

theorem coords_val : ∀ t : Fin cfg0.N, (grid0.coords t 0).val = t.val / 16 ∧ (grid0.coords t 1).val = t.val / 4 % 4 ∧ (grid0.coords t 2).val = t.val % 4 :=
  (by decide +kernel : ∀ t : Fin grid0.N, (grid0.coords t 0).val = t.val / 16 ∧ (grid0.coords t 1).val = t.val / 4 % 4 ∧ (grid0.coords t 2).val = t.val % 4)

theorem place (t : Fin cfg0.N) :
    win0_0.index t = ![t.val / 16 * 4 + t.val % 4, t.val / 4 % 4] ∧ win0_1.index t = ![t.val / 16, 4 + t.val / 4 % 4]
    ∧ win0_2.index t = ![t.val / 16, 8 + t.val / 4 % 4] ∧ win0_3.index t = ![t.val / 16 * 4 + t.val % 4, 0]
    ∧ win0_4.index t = ![t.val / 16, 0, 0] ∧ win0_5.index t = ![t.val / 16 * 4 + t.val % 4, t.val / 4 % 4]
    ∧ win0_6.index t = ![t.val / 16 * 4 + t.val % 4, t.val / 4 % 4] ∧ win0_7.index t = ![t.val / 16 * 4 + t.val % 4, t.val / 4 % 4] :=
  (by decide +kernel : ∀ t : Fin grid0.N,
    win0_0.index t = ![t.val / 16 * 4 + t.val % 4, t.val / 4 % 4] ∧ win0_1.index t = ![t.val / 16, 4 + t.val / 4 % 4]
    ∧ win0_2.index t = ![t.val / 16, 8 + t.val / 4 % 4] ∧ win0_3.index t = ![t.val / 16 * 4 + t.val % 4, 0]
    ∧ win0_4.index t = ![t.val / 16, 0, 0] ∧ win0_5.index t = ![t.val / 16 * 4 + t.val % 4, t.val / 4 % 4]
    ∧ win0_6.index t = ![t.val / 16 * 4 + t.val % 4, t.val / 4 % 4] ∧ win0_7.index t = ![t.val / 16 * 4 + t.val % 4, t.val / 4 % 4]) t

variable (m : (ℓ : Loc nD τ sig) → Buf (Elt Ideal) ℓ) (c : Dev nD) (t : Fin cfg0.N)

/-- The batch member, pair of heads and block of queries of a point. -/
def batchOf : Fin 2 := grid0.coords t 0
def pairOf : Fin 4 := grid0.coords t 1
def blockOf : Fin 4 := grid0.coords t 2

theorem batchOf_val : (batchOf t).val = t.val / 16 := (coords_val t).1
theorem pairOf_val : (pairOf t).val = t.val / 4 % 4 := (coords_val t).2.1
theorem blockOf_val : (blockOf t).val = t.val % 4 := (coords_val t).2.2

/-- The head of a lane of pair `p`, and the lane's number in it. -/
def hd (p : Fin 4) (l : Fin 128) : Fin 8 := ⟨2 * p.val + l.val / 64, by omega⟩
def dm (l : Fin 128) : Fin 64 := ⟨l.val % 64, by omega⟩

/-- The row and the column of the flat arrays. -/
def flatRow (b : Fin 2) (R : Fin 2048) : Fin 4096 := ⟨2048 * b.val + R.val, by omega⟩
def flatCol (h : Fin 8) (d : Fin 64) : Fin 512 := ⟨64 * h.val + d.val, by omega⟩

/-! ### The plain arrays at an index -/

theorem qHeads_apply (A : Vec Ideal S4096x1536 .bf16) (b : Fin 2) (R : Fin 2048) (h : Fin 8) (d : Fin 64) :
    Plain.qHeads A (ix4 b R h d) = A (ix2 (flatRow b R) ⟨64 * h.val + d.val, by omega⟩) := by
  pointwise [Plain.qHeads]
  blk_ext [flatRow]

theorem kHeads_apply (A : Vec Ideal S4096x1536 .bf16) (b : Fin 2) (R : Fin 2048) (h : Fin 8) (d : Fin 64) :
    Plain.kHeads A (ix4 b R h d) = A (ix2 (flatRow b R) ⟨512 + (64 * h.val + d.val), by omega⟩) := by
  pointwise [Plain.kHeads]
  blk_ext [flatRow]

theorem vHeads_apply (A : Vec Ideal S4096x1536 .bf16) (b : Fin 2) (R : Fin 2048) (h : Fin 8) (d : Fin 64) :
    Plain.vHeads A (ix4 b R h d) = A (ix2 (flatRow b R) ⟨1024 + (64 * h.val + d.val), by omega⟩) := by
  pointwise [Plain.vHeads]
  blk_ext [flatRow]

theorem gates_apply (B : Vec Ideal S4096x128 .f32) (b : Fin 2) (R : Fin 2048) (h : Fin 8) :
    Plain.gates B (ix3 b R h) = B (ix2 (flatRow b R) ⟨h.val, by omega⟩) := by
  pointwise [Plain.gates]
  blk_ext [flatRow]

theorem gateRows_apply (B : Vec Ideal S4096x128 .f32) (b : Fin 2) (R : Fin 2048) (h : Fin 8) :
    Plain.gateRows B (ix3 b h R) = Plain.gates B (ix3 b R h) := by
  pointwise [Plain.gateRows]

theorem outHeads_apply (D : Vec Ideal S4096x512 .f32) (b : Fin 2) (R : Fin 2048) (h : Fin 8) (d : Fin 64) :
    Plain.outHeads D (ix4 b R h d) = D (ix2 (flatRow b R) (flatCol h d)) := by
  pointwise [Plain.outHeads]
  blk_ext [flatRow, flatCol]

theorem context_apply (A : Vec Ideal S4096x1536 .bf16) (B : Vec Ideal S4096x128 .f32) (b : Fin 2) (R : Fin 2048) (h : Fin 8) (d : Fin 64) :
    Plain.context A B (ix2 (flatRow b R) (flatCol h d)) = ∑ C : Fin 2048, Plain.vHeads A (ix4 b C h d) * Plain.prob A B (ix4 b h R C) := by
  pointwise [Plain.context]
  refine Finset.sum_congr rfl fun C _ => ?_
  refine congrArg₂ (· * ·) (congrArg _ ?_) (congrArg _ ?_) <;> blk_ext [flatRow, flatCol]

theorem logLanes_apply (x : Vec Ideal S2x8x2048 .f32) (b : Fin 2) (R : Fin 2048) (p : Fin 4) (e : Fin 2) :
    logLanes x (ix2 (flatRow b R) ⟨128 * p.val + e.val, by omega⟩) = x (ix3 b (head p e) R) := by
  pointwise [logLanes]
  have hb : (flatRow b R).val / 2048 < 2 ∧ (flatRow b R).val % 2048 < 2048 ∧ (128 * p.val + e.val) % 128 < 2 := by
    refine ⟨?_, ?_, ?_⟩ <;> (try simp only [flatRow]) <;> omega
  rw [dif_pos hb]
  blk_ext [flatRow, head]

/-! ### What a point reads -/

theorem q_read (r : Fin 512) (l : Fin 128) : (ptLoaded m c t).q (ix2 r l)
    = Plain.qHeads (argA m c) (ix4 (batchOf t) (rowAt (blockOf t) r) (hd (pairOf t) l) (dm l)) := by
  rw [qHeads_apply]
  have h0 := batchOf_val t; have h1 := pairOf_val t; have h2 := blockOf_val t
  show (iblk m c 0 t : Vec Ideal S512x128 .bf16) (ix2 r l) = _
  blk_ext [iblk, V, place t, flatRow, rowAt, hd, dm]

theorem k_read (C : Fin 2048) (l : Fin 128) : (ptKeys m c t).k (ix2 C l)
    = Plain.kHeads (argA m c) (ix4 (batchOf t) C (hd (pairOf t) l) (dm l)) := by
  rw [kHeads_apply]
  have h0 := batchOf_val t; have h1 := pairOf_val t
  show (iblk m c 1 t : Vec Ideal S2048x128 .bf16) (ix2 C l) = _
  blk_ext [iblk, V, place t, flatRow, hd, dm]

theorem v_read (C : Fin 2048) (l : Fin 128) : (ptKeys m c t).v (ix2 C l)
    = Plain.vHeads (argA m c) (ix4 (batchOf t) C (hd (pairOf t) l) (dm l)) := by
  rw [vHeads_apply]
  have h0 := batchOf_val t; have h1 := pairOf_val t
  show (iblk m c 2 t : Vec Ideal S2048x128 .bf16) (ix2 C l) = _
  blk_ext [iblk, V, place t, flatRow, hd, dm]

theorem gate_read (r : Fin 512) (e : Fin 2) : (ptLoaded m c t).gate (ix2 r (headLane (pairOf t) e))
    = Plain.gates (argB m c) (ix3 (batchOf t) (rowAt (blockOf t) r) (head (pairOf t) e)) := by
  rw [gates_apply]
  have h0 := batchOf_val t; have h1 := pairOf_val t; have h2 := blockOf_val t
  show (iblk m c 3 t : Vec Ideal S512x128 .f32) (ix2 r _) = _
  blk_ext [iblk, V, place t, flatRow, rowAt, headLane, head]

theorem keyGate_read (C : Fin 2048) (h : Fin 8) : (ptKeys m c t).gate (ix3 0 h C)
    = Plain.gates (argB m c) (ix3 (batchOf t) C h) := by
  rw [← gateRows_apply, ← gates_at]
  have h0 := batchOf_val t
  show (iblk m c 4 t : Vec Ideal S1x8x2048 .f32) (ix3 0 h C) = _
  blk_ext [iblk, place t]

theorem o_read (r : Fin 512) (l : Fin 128) : (ptLoaded m c t).o (ix2 r l)
    = ∑ C : Fin 2048, Plain.vHeads (argA m c) (ix4 (batchOf t) C (hd (pairOf t) l) (dm l))
        * Plain.prob (argA m c) (argB m c) (ix4 (batchOf t) (hd (pairOf t) l) (rowAt (blockOf t) r) C) := by
  rw [← context_apply, ← context_at]
  have h0 := batchOf_val t; have h1 := pairOf_val t; have h2 := blockOf_val t
  show (iblk m c 5 t : Vec Ideal S512x128 .f32) (ix2 r l) = _
  blk_ext [iblk, place t, flatRow, flatCol, rowAt, hd, dm]

theorem lse_read (r : Fin 512) (e : Fin 2) : (ptLoaded m c t).lse (ix2 r (halfLane e))
    = Plain.logSum (argA m c) (argB m c) (ix3 (batchOf t) (head (pairOf t) e) (rowAt (blockOf t) r)) := by
  rw [← logLanes_apply (Plain.logSum _ _), ← logs_at]
  have h0 := batchOf_val t; have h1 := pairOf_val t; have h2 := blockOf_val t
  show (iblk m c 6 t : Vec Ideal S512x128 .f32) (ix2 r _) = _
  blk_ext [iblk, place t, flatRow, rowAt, halfLane]

theorem dout_read (r : Fin 512) (l : Fin 128) : (ptLoaded m c t).dout (ix2 r l)
    = Plain.outHeads (argD m c) (ix4 (batchOf t) (rowAt (blockOf t) r) (hd (pairOf t) l) (dm l)) := by
  rw [outHeads_apply]
  have h0 := batchOf_val t; have h1 := pairOf_val t; have h2 := blockOf_val t
  show (iblk m c 7 t : Vec Ideal S512x128 .f32) (ix2 r l) = _
  blk_ext [iblk, V, place t, flatRow, flatCol, rowAt, hd, dm]

end Cert.Fox

end
-- ==== Proof.Terms.lean ====
/-
  The probabilities and score gradients that the kernel computes, by batch member, head, query and key.
-/
module

public import proofs.«01_k».proof.Proof.Arrays

@[expose] public section

set_option maxRecDepth 16384

noncomputable section

namespace Cert.Fox

open Idealize.ShloMosaic Idealize.ShloMosaic.TcCoe Idealize.SL Idealize.SL.Sem Cert.KernelIdeal Cert.KernelIdeal.Gen

/-! ### Sums over the lanes of one head -/

/-- Lane `d` of head `e` of the pair. -/
def lane (e : Fin 2) (d : Fin 64) : Fin 128 := ⟨64 * e.val + d.val, by omega⟩

theorem lane_half (e : Fin 2) (d : Fin 64) : (lane e d).val / 64 = e.val := by
  show (64 * e.val + d.val) / 64 = e.val
  omega

theorem hd_lane (p : Fin 4) (e : Fin 2) (d : Fin 64) : hd p (lane e d) = head p e := by
  refine Fin.ext ?_
  show 2 * p.val + (64 * e.val + d.val) / 64 = 2 * p.val + e.val
  omega

theorem dm_lane (e : Fin 2) (d : Fin 64) : dm (lane e d) = d := by
  refine Fin.ext ?_
  show (64 * e.val + d.val) % 64 = d.val
  omega

theorem sum_lanes (e : Fin 2) (f : Fin 128 → EReal) : ∑ x : Fin 128, (if x.val / 64 = e.val then f x else 0) = ∑ d : Fin 64, f (lane e d) := by
  rw [← Finset.sum_filter]
  refine (Finset.sum_bij (fun (d : Fin 64) _ => lane e d) ?_ ?_ ?_ fun _ _ => rfl).symm
  · intro d _
    exact Finset.mem_filter.mpr ⟨Finset.mem_univ _, lane_half e d⟩
  · intro a _ b _ h
    have h' : 64 * e.val + a.val = 64 * e.val + b.val := congrArg Fin.val h
    exact Fin.ext (by omega)
  · intro x hx
    have h := (Finset.mem_filter.mp hx).2
    refine ⟨dm x, Finset.mem_univ _, Fin.ext ?_⟩
    show 64 * e.val + x.val % 64 = x.val
    omega

/-! ### By heads -/

section Terms

variable (A : Vec Ideal S4096x1536 .bf16) (B : Vec Ideal S4096x128 .f32) (D : Vec Ideal S4096x512 .f32)
variable (b : Fin 2) (h : Fin 8) (R C : Fin 2048)

def kScore : EReal :=
  ∑ d : Fin 64, Plain.qHeads A (ix4 b R h d) * eighth * Plain.kHeads A (ix4 b C h d)
    + Plain.gates B (ix3 b R h) - Plain.gates B (ix3 b C h)

def kProb : EReal := Ideal.exp ((if C.val ≤ R.val then kScore A B b h R C else ⊥) - Plain.logSum A B (ix3 b h R))

def kDelta : EReal :=
  ∑ d : Fin 64, Plain.outHeads D (ix4 b R h d) * ∑ C : Fin 2048, Plain.vHeads A (ix4 b C h d) * Plain.prob A B (ix4 b h R C)

def kDs : EReal :=
  kProb A B b h R C * (∑ d : Fin 64, Plain.outHeads D (ix4 b R h d) * Plain.vHeads A (ix4 b C h d) - kDelta A B D b h R)

end Terms

variable (m : (ℓ : Loc nD τ sig) → Buf (Elt Ideal) ℓ) (c : Dev nD) (t : Fin cfg0.N) (e : Fin 2) (r : Fin 512) (C : Fin 2048)

theorem score_ker : scoreOf (ptLoaded m c t) (ptKeys m c t) (pairOf t) e r C
    = kScore (argA m c) (argB m c) (batchOf t) (head (pairOf t) e) (rowAt (blockOf t) r) C := by
  unfold scoreOf kScore qOf
  simp only [ite_mul, zero_mul]
  rw [sum_lanes, gate_read, keyGate_read]
  simp only [q_read, k_read, hd_lane, dm_lane]

theorem prob_ker : probOf (ptLoaded m c t) (ptKeys m c t) (pairOf t) (blockOf t) e r C
    = kProb (argA m c) (argB m c) (batchOf t) (head (pairOf t) e) (rowAt (blockOf t) r) C := by
  unfold probOf kProb lseOf
  rw [score_ker, lse_read]
  rfl

theorem delta_ker : delOf (ptLoaded m c t) e r
    = kDelta (argA m c) (argB m c) (argD m c) (batchOf t) (head (pairOf t) e) (rowAt (blockOf t) r) := by
  unfold delOf kDelta doOf
  simp only [ite_mul, zero_mul]
  rw [sum_lanes]
  simp only [dout_read, o_read, hd_lane, dm_lane]

theorem ds_ker : dsOf (ptLoaded m c t) (ptKeys m c t) (pairOf t) (blockOf t) e r C
    = kDs (argA m c) (argB m c) (argD m c) (batchOf t) (head (pairOf t) e) (rowAt (blockOf t) r) C := by
  unfold dsOf kDs doOf
  rw [prob_ker, delta_ker]
  simp only [ite_mul, zero_mul]
  rw [sum_lanes]
  simp only [dout_read, v_read, hd_lane, dm_lane]

end Cert.Fox

end
-- ==== Proof.Results.lean ====
/-
  The kernel's five result arrays, element by element.
-/
module

public import proofs.«01_k».proof.Proof.Terms

@[expose] public section

set_option maxRecDepth 16384

noncomputable section

namespace Cert.Fox

open Idealize.ShloMosaic Idealize.ShloMosaic.TcCoe Idealize.SL Idealize.SL.Sem Cert.KernelIdeal Cert.KernelIdeal.Gen

/-! ### Sums over all queries -/

theorem sum_rows (f : Fin 2048 → EReal) : ∑ R, f R
    = ∑ r : Fin 512, f (rowAt 0 r) + ∑ r : Fin 512, f (rowAt 1 r) + ∑ r : Fin 512, f (rowAt 2 r) + ∑ r : Fin 512, f (rowAt 3 r) := by
  have e : ∑ R, f R = ∑ R, upto 4 f R := Finset.sum_congr rfl fun R _ => (upto_all (fun C h => absurd C.isLt (by omega)) R).symm
  have h3 : ∑ C, upto 4 f C = ∑ C, upto 3 f C + ∑ r : Fin 512, f (rowAt 3 r) := sum_upto_succ f 3
  have h2 : ∑ C, upto 3 f C = ∑ C, upto 2 f C + ∑ r : Fin 512, f (rowAt 2 r) := sum_upto_succ f 2
  have h1 : ∑ C, upto 2 f C = ∑ C, upto 1 f C + ∑ r : Fin 512, f (rowAt 1 r) := sum_upto_succ f 1
  have h0 : ∑ C, upto 1 f C = ∑ C, upto 0 f C + ∑ r : Fin 512, f (rowAt 0 r) := sum_upto_succ f 0
  have z : ∑ R, upto 0 f R = 0 := by simp only [upto_zero, Finset.sum_const_zero]
  rw [e, h3, h2, h1, h0, z, zero_add]

theorem sum_points {g : ℕ → EReal} {f : Fin 2048 → EReal} {t : Fin cfg0.N} (ht : t.val % 4 = 3)
    (h : ∀ k : Fin 4, g (4 * (t.val / 4) + k.val) = ∑ r : Fin 512, f (rowAt k r)) :
    0 + ∑ k ∈ Finset.range (t.val % 4 + 1), g (4 * (t.val / 4) + k) = ∑ R, f R := by
  rw [ht, zero_add, Finset.sum_range_succ, Finset.sum_range_succ, Finset.sum_range_succ, Finset.sum_range_one, sum_rows]
  exact congrArg₂ (· + ·) (congrArg₂ (· + ·) (congrArg₂ (· + ·) (h 0) (h 1)) (h 2)) (h 3)

/-! ### The carried sums -/

section Formulas

variable (A : Vec Ideal S4096x1536 .bf16) (B : Vec Ideal S4096x128 .f32) (D : Vec Ideal S4096x512 .f32)
variable (b : Fin 2) (p : Fin 4) (l : Fin 128)

/-- A key's accumulator of head `e` at a lane: the gradient of the key, or the sum of the score gradients. -/
def kAcc (e : Fin 2) (C : Fin 2048) : EReal :=
  ∑ R : Fin 2048, kDs A B D b (head p e) R C
    * if l.val / 64 = e.val then Plain.qHeads A (ix4 b R (hd p l) (dm l)) * eighth else 1

def kDv (C : Fin 2048) : EReal :=
  ∑ R : Fin 2048, kProb A B b (hd p l) R C * Plain.outHeads D (ix4 b R (hd p l) (dm l))

/-- A query's accumulator. -/
def qAcc (e : Fin 2) (R : Fin 2048) : EReal :=
  ∑ C : Fin 2048, kDs A B D b (head p e) R C
    * if l.val / 64 = e.val then Plain.kHeads A (ix4 b C (hd p l) (dm l)) else 1

end Formulas

variable (m : (ℓ : Loc nD τ sig) → Buf (Elt Ideal) ℓ) (c : Dev nD) (t : Fin cfg0.N)

theorem dqSum_eq (e : Fin 2) (r : Fin 512) (l : Fin 128) : dqSum m c t e r l
    = qAcc (argA m c) (argB m c) (argD m c) (batchOf t) (pairOf t) l e (rowAt (blockOf t) r) := by
  refine Finset.sum_congr rfl fun C _ => ?_
  show dsOf (ptLoaded m c t) (ptKeys m c t) (pairOf t) (blockOf t) e r C * kOneOf (ptKeys m c t) e C l = _
  unfold kOneOf
  rw [ds_ker, k_read]

theorem dkTerm_eq (e : Fin 2) (l : Fin 128) (C : Fin 2048) : dkTerm (ptLoaded m c t) (ptKeys m c t) (pairOf t) (blockOf t) e l C
    = ∑ r : Fin 512, kDs (argA m c) (argB m c) (argD m c) (batchOf t) (head (pairOf t) e) (rowAt (blockOf t) r) C
        * if l.val / 64 = e.val then Plain.qHeads (argA m c) (ix4 (batchOf t) (rowAt (blockOf t) r) (hd (pairOf t) l) (dm l)) * eighth else 1 := by
  unfold dkTerm qOneOf
  refine Finset.sum_congr rfl fun r _ => ?_
  rw [ds_ker, q_read]

theorem hd_of (p : Fin 4) {e : Fin 2} {l : Fin 128} (h : l.val / 64 = e.val) : hd p l = head p e := by
  refine Fin.ext ?_
  show 2 * p.val + l.val / 64 = 2 * p.val + e.val
  omega

theorem dvTerm_eq (l : Fin 128) (C : Fin 2048) : dvTerm (ptLoaded m c t) (ptKeys m c t) (pairOf t) (blockOf t) l C
    = ∑ r : Fin 512, kProb (argA m c) (argB m c) (batchOf t) (hd (pairOf t) l) (rowAt (blockOf t) r) C
        * Plain.outHeads (argD m c) (ix4 (batchOf t) (rowAt (blockOf t) r) (hd (pairOf t) l) (dm l)) := by
  unfold dvTerm doOf
  have h01 : l.val / 64 = 0 ∨ l.val / 64 = 1 := by omega
  rcases h01 with h | h
  · have e0 : l.val / 64 = (0 : Fin 2).val := h
    have e1 : ¬l.val / 64 = (1 : Fin 2).val := by rw [h]; decide
    simp only [if_pos e0, if_neg e1, mul_zero, Finset.sum_const_zero, add_zero, prob_ker, dout_read, hd_of _ e0]
  · have e0 : l.val / 64 = (1 : Fin 2).val := h
    have e1 : ¬l.val / 64 = (0 : Fin 2).val := by rw [h]; decide
    simp only [if_pos e0, if_neg e1, mul_zero, Finset.sum_const_zero, zero_add, prob_ker, dout_read, hd_of _ e0]

variable {t}

/-- Point `k` of the run of four that ends at `t`. -/
def inRun (t : Fin cfg0.N) (k : Fin 4) : Fin cfg0.N := ⟨4 * (t.val / 4) + k.val, by have := t.isLt; have : cfg0.N = 32 := N_0; omega⟩

theorem inRun_batch (t : Fin cfg0.N) (k : Fin 4) : batchOf (inRun t k) = batchOf t := by
  refine Fin.ext ?_
  rw [batchOf_val, batchOf_val]
  show (4 * (t.val / 4) + k.val) / 16 = t.val / 16
  omega

theorem inRun_pair (t : Fin cfg0.N) (k : Fin 4) : pairOf (inRun t k) = pairOf t := by
  refine Fin.ext ?_
  rw [pairOf_val, pairOf_val]
  show (4 * (t.val / 4) + k.val) / 4 % 4 = t.val / 4 % 4
  omega

theorem inRun_block (t : Fin cfg0.N) (k : Fin 4) : blockOf (inRun t k) = k := by
  refine Fin.ext ?_
  rw [blockOf_val]
  show (4 * (t.val / 4) + k.val) % 4 = k.val
  omega

theorem last_dv (ht : t.val % 4 = 3) (C : Fin 2048) (l : Fin 128) : (outsAt0 m c t.val t.isLt).2.2.1 (ix2 C l)
    = kDv (argA m c) (argB m c) (argD m c) (batchOf t) (pairOf t) l C := by
  rw [carried_dv]
  refine sum_points (g := fun n => dvAt m c n (ix2 C l)) ht fun k => ?_
  refine (dvAt_eq m c (inRun t k) (ix2 C l)).trans ((dvTerm_eq m c (inRun t k) l C).trans ?_)
  rw [inRun_batch, inRun_pair, inRun_block]

theorem last_dk0 (ht : t.val % 4 = 3) (C : Fin 2048) (l : Fin 128) : (outsAt0 m c t.val t.isLt).2.2.2.2.2.1 (ix2 C l)
    = kAcc (argA m c) (argB m c) (argD m c) (batchOf t) (pairOf t) l 0 C := by
  rw [carried_dk0]
  refine sum_points (g := fun n => dkAt m c 0 n (ix2 C l)) ht fun k => ?_
  refine (dkAt_eq m c 0 (inRun t k) (ix2 C l)).trans ((dkTerm_eq m c (inRun t k) 0 l C).trans ?_)
  rw [inRun_batch, inRun_pair, inRun_block]

theorem last_dk1 (ht : t.val % 4 = 3) (C : Fin 2048) (l : Fin 128) : (outsAt0 m c t.val t.isLt).2.2.2.2.2.2 (ix2 C l)
    = kAcc (argA m c) (argB m c) (argD m c) (batchOf t) (pairOf t) l 1 C := by
  rw [carried_dk1]
  refine sum_points (g := fun n => dkAt m c 1 n (ix2 C l)) ht fun k => ?_
  refine (dkAt_eq m c 1 (inRun t k) (ix2 C l)).trans ((dkTerm_eq m c (inRun t k) 1 l C).trans ?_)
  rw [inRun_batch, inRun_pair, inRun_block]

/-! ### The arrays -/

section Arrays

variable (A : Vec Ideal S4096x1536 .bf16) (B : Vec Ideal S4096x128 .f32) (D : Vec Ideal S4096x512 .f32)

/-- The batch member and position of a row, the pair and lane of a column. -/
def bAt (R : Fin 4096) : Fin 2 := ⟨R.val / 2048, by omega⟩
def rAt (R : Fin 4096) : Fin 2048 := ⟨R.val % 2048, by omega⟩
def pAt (x : Fin 512) : Fin 4 := ⟨x.val / 128, by omega⟩
def lAt (x : Fin 512) : Fin 128 := ⟨x.val % 128, by omega⟩

def dqArr : Vec Ideal S4096x512 .f32 := fun j =>
  (if (lAt (j 1)).val / 64 = 0 then qAcc A B D (bAt (j 0)) (pAt (j 1)) (lAt (j 1)) 0 (rAt (j 0))
    else qAcc A B D (bAt (j 0)) (pAt (j 1)) (lAt (j 1)) 1 (rAt (j 0))) * Ideal.ofBits FTy.f32 0x3E000000#32

def dkArr : Vec Ideal S4096x512 .f32 := fun j =>
  if (lAt (j 1)).val / 64 = 0 then kAcc A B D (bAt (j 0)) (pAt (j 1)) (lAt (j 1)) 0 (rAt (j 0))
    else kAcc A B D (bAt (j 0)) (pAt (j 1)) (lAt (j 1)) 1 (rAt (j 0))

def dvArr : Vec Ideal S4096x512 .f32 := fun j => kDv A B D (bAt (j 0)) (pAt (j 1)) (lAt (j 1)) (rAt (j 0))

def dcqArr : Vec Ideal S4096x512 .f32 := fun j =>
  if (lAt (j 1)).val = 0 then qAcc A B D (bAt (j 0)) (pAt (j 1)) 64 0 (rAt (j 0))
    else if (lAt (j 1)).val = 1 then qAcc A B D (bAt (j 0)) (pAt (j 1)) 0 1 (rAt (j 0)) else 0

def dckArr : Vec Ideal S4096x512 .f32 := fun j =>
  if (lAt (j 1)).val = 0 then 0 - kAcc A B D (bAt (j 0)) (pAt (j 1)) 64 0 (rAt (j 0))
    else if (lAt (j 1)).val = 1 then 0 - kAcc A B D (bAt (j 0)) (pAt (j 1)) 0 1 (rAt (j 0)) else 0

end Arrays

/-- Row of the query block's element, key row, and the pair's column. -/
def qRow (t : Fin cfg0.N) (r : Fin 512) : Fin 4096 := flatRow (batchOf t) (rowAt (blockOf t) r)

def colAt (t : Fin cfg0.N) (l : Fin 128) : Fin 512 := ⟨128 * (pairOf t).val + l.val, by have := (pairOf t).isLt; omega⟩

theorem b_flat (b : Fin 2) (R : Fin 2048) : bAt (flatRow b R) = b := Fin.ext (by show (2048 * b.val + R.val) / 2048 = b.val; omega)
theorem r_flat (b : Fin 2) (R : Fin 2048) : rAt (flatRow b R) = R := Fin.ext (by show (2048 * b.val + R.val) % 2048 = R.val; omega)
theorem p_col (l : Fin 128) : pAt (colAt t l) = pairOf t := Fin.ext (by show (128 * (pairOf t).val + l.val) / 128 = (pairOf t).val; omega)
theorem l_col (l : Fin 128) : lAt (colAt t l) = l := Fin.ext (by show (128 * (pairOf t).val + l.val) % 128 = l.val; omega)

theorem placeOut (t : Fin cfg0.N) :
    win0_8.index t = ![t.val / 16 * 4 + t.val % 4, t.val / 4 % 4] ∧ win0_9.index t = ![t.val / 16, t.val / 4 % 4]
    ∧ win0_10.index t = ![t.val / 16, t.val / 4 % 4] ∧ win0_11.index t = ![t.val / 16 * 4 + t.val % 4, t.val / 4 % 4]
    ∧ win0_12.index t = ![t.val / 16, t.val / 4 % 4] :=
  (by decide +kernel : ∀ t : Fin grid0.N,
    win0_8.index t = ![t.val / 16 * 4 + t.val % 4, t.val / 4 % 4] ∧ win0_9.index t = ![t.val / 16, t.val / 4 % 4]
    ∧ win0_10.index t = ![t.val / 16, t.val / 4 % 4] ∧ win0_11.index t = ![t.val / 16 * 4 + t.val % 4, t.val / 4 % 4]
    ∧ win0_12.index t = ![t.val / 16, t.val / 4 % 4]) t

variable (t)

def keyRow (C : Fin 2048) : Fin 4096 := flatRow (batchOf t) C

theorem emb_8 (r : Fin 512) (l : Fin 128) : (win0_8.blk t).view.emb (ix2 r l) = ix2 (qRow t r) (colAt t l) := by
  have h0 := batchOf_val t; have h1 := pairOf_val t; have h2 := blockOf_val t
  blk_ext [placeOut t, qRow, keyRow, colAt, flatRow, rowAt]

theorem emb_11 (r : Fin 512) (l : Fin 128) : (win0_11.blk t).view.emb (ix2 r l) = ix2 (qRow t r) (colAt t l) := by
  have h0 := batchOf_val t; have h1 := pairOf_val t; have h2 := blockOf_val t
  blk_ext [placeOut t, qRow, keyRow, colAt, flatRow, rowAt]

theorem emb_9 (r : Fin 2048) (l : Fin 128) : (win0_9.blk t).view.emb (ix2 r l) = ix2 (keyRow t r) (colAt t l) := by
  have h0 := batchOf_val t; have h1 := pairOf_val t; have h2 := blockOf_val t
  blk_ext [placeOut t, qRow, keyRow, colAt, flatRow, rowAt]

theorem emb_10 (r : Fin 2048) (l : Fin 128) : (win0_10.blk t).view.emb (ix2 r l) = ix2 (keyRow t r) (colAt t l) := by
  have h0 := batchOf_val t; have h1 := pairOf_val t; have h2 := blockOf_val t
  blk_ext [placeOut t, qRow, keyRow, colAt, flatRow, rowAt]

theorem emb_12 (r : Fin 2048) (l : Fin 128) : (win0_12.blk t).view.emb (ix2 r l) = ix2 (keyRow t r) (colAt t l) := by
  have h0 := batchOf_val t; have h1 := pairOf_val t; have h2 := blockOf_val t
  blk_ext [placeOut t, qRow, keyRow, colAt, flatRow, rowAt]

variable {t}

theorem arr_dq : (dats m 0 c).arrAt 8 cfg0.N = dqArr (argA m c) (argB m c) (argD m c) := by
  refine (dats m 0 c).arrAt_eq_of_covers 8 _ (by decide +kernel) fun t hf y => ?_
  blk_simp
  rw [after0_8]
  change S512x128.Idx at y
  idx_vars y
  rw [emb_8]
  refine (stored_dq m c t y0 y1).trans ?_
  rw [dqSum_eq, dqSum_eq]
  show _ = (if (lAt (colAt t y1)).val / 64 = 0 then qAcc _ _ _ (bAt (qRow t y0)) (pAt (colAt t y1)) (lAt (colAt t y1)) 0 (rAt (qRow t y0))
    else qAcc _ _ _ (bAt (qRow t y0)) (pAt (colAt t y1)) (lAt (colAt t y1)) 1 (rAt (qRow t y0))) * _
  unfold qRow
  rw [b_flat, r_flat, p_col, l_col]

theorem arr_dcq : (dats m 0 c).arrAt 11 cfg0.N = dcqArr (argA m c) (argB m c) (argD m c) := by
  refine (dats m 0 c).arrAt_eq_of_covers 11 _ (by decide +kernel) fun t hf y => ?_
  blk_simp
  rw [after0_11]
  change S512x128.Idx at y
  idx_vars y
  rw [emb_11]
  refine (stored_dcq m c t y0 y1).trans ?_
  rw [dqSum_eq, dqSum_eq]
  show _ = if (lAt (colAt t y1)).val = 0 then qAcc _ _ _ (bAt (qRow t y0)) (pAt (colAt t y1)) 64 0 (rAt (qRow t y0))
    else if (lAt (colAt t y1)).val = 1 then qAcc _ _ _ (bAt (qRow t y0)) (pAt (colAt t y1)) 0 1 (rAt (qRow t y0)) else 0
  unfold qRow
  rw [b_flat, r_flat, p_col, l_col]

theorem arr_dv : (dats m 0 c).arrAt 10 cfg0.N = dvArr (argA m c) (argB m c) (argD m c) := by
  refine (dats m 0 c).arrAt_eq_of_covers 10 _ (by decide +kernel) fun t hf y => ?_
  blk_simp
  rw [after0_10]
  change S2048x128.Idx at y
  idx_vars y
  rw [emb_10]
  have ht : t.val % 4 = 3 := flush0_10 t |>.1 hf
  refine (last_dv m c ht y0 y1).trans ?_
  show _ = kDv _ _ _ (bAt (keyRow t y0)) (pAt (colAt t y1)) (lAt (colAt t y1)) (rAt (keyRow t y0))
  unfold keyRow
  rw [b_flat, r_flat, p_col, l_col]

theorem arr_dk : (dats m 0 c).arrAt 9 cfg0.N = dkArr (argA m c) (argB m c) (argD m c) := by
  refine (dats m 0 c).arrAt_eq_of_covers 9 _ (by decide +kernel) fun t hf y => ?_
  blk_simp
  rw [after0_9]
  change S2048x128.Idx at y
  idx_vars y
  rw [emb_9]
  have ht : t.val % 4 = 3 := flush0_9 t |>.1 hf
  have h1 : t.val % 4 = 3 := ht
  rw [last_dk m c t h1]
  refine (pay22_apply _ _ y0 y1).trans ?_
  rw [last_dk0 m c ht, last_dk1 m c ht]
  show _ = if (lAt (colAt t y1)).val / 64 = 0 then kAcc _ _ _ (bAt (keyRow t y0)) (pAt (colAt t y1)) (lAt (colAt t y1)) 0 (rAt (keyRow t y0))
    else kAcc _ _ _ (bAt (keyRow t y0)) (pAt (colAt t y1)) (lAt (colAt t y1)) 1 (rAt (keyRow t y0))
  unfold keyRow
  rw [b_flat, r_flat, p_col, l_col]

theorem arr_dck : (dats m 0 c).arrAt 12 cfg0.N = dckArr (argA m c) (argB m c) (argD m c) := by
  refine (dats m 0 c).arrAt_eq_of_covers 12 _ (by decide +kernel) fun t hf y => ?_
  blk_simp
  rw [after0_12]
  change S2048x128.Idx at y
  idx_vars y
  rw [emb_12]
  have ht : t.val % 4 = 3 := flush0_12 t |>.1 hf
  rw [last_dck m c t ht]
  refine (pay23_apply _ _ y0 y1).trans ?_
  rw [last_dk0 m c ht, last_dk1 m c ht]
  show _ = if (lAt (colAt t y1)).val = 0 then 0 - kAcc _ _ _ (bAt (keyRow t y0)) (pAt (colAt t y1)) 64 0 (rAt (keyRow t y0))
    else if (lAt (colAt t y1)).val = 1 then 0 - kAcc _ _ _ (bAt (keyRow t y0)) (pAt (colAt t y1)) 0 1 (rAt (keyRow t y0)) else 0
  unfold keyRow
  rw [b_flat, r_flat, p_col, l_col]

end Cert.Fox

end
-- ==== Proof.PlainAt.lean ====
/-
  The plain program's arrays, element by element.
-/
module

public import proofs.«01_k».proof.Proof.Arrays

@[expose] public section

set_option maxRecDepth 16384

noncomputable section

namespace Cert.Fox.Plain

open Idealize.ShloMosaic Idealize.ShloMosaic.TcCoe Idealize.SL Idealize.SL.Sem Cert.ReferenceIdeal Cert.ReferenceIdeal.Gen

variable (b : Fin 2) (h : Fin 8) (R C : Fin 2048) (d : Fin 64)

/-! ### Constants -/

theorem ofBits_least : Ideal.ofBits FTy.f32 4286578688#32 = ⊥ := by simp [Ideal.ofBits, Ideal.ieee]

theorem ofBits_eighth : Ideal.ofBits FTy.f32 0x3E000000#32 = (((1 : ℝ) / 8 : ℝ) : EReal) := by
  simp [Ideal.ofBits, Ideal.ieee, -EReal.coe_mul]; norm_num

theorem eighth_eq : eighth = (((1 : ℝ) / 8 : ℝ) : EReal) := by
  simp [eighth, Ideal.ofBits, Ideal.ieee, -EReal.coe_mul]; norm_num

theorem sge_ofNat (x y : ℕ) (hx : x < 2048) (hy : y < 2048) :
    IntOp.cmpi CmpIPredicate.sge (IntOp.addi (BitVec.ofNat 32 x) 0#32) (BitVec.ofNat 32 y) = if y ≤ x then 1#1 else 0#1 := by
  show BitVec.ofBool ((BitVec.ofNat 32 y).sle (BitVec.ofNat 32 x + 0#32)) = _
  rw [BitVec.add_zero]
  have ex : (BitVec.ofNat 32 x).toInt = x := by rw [BitVec.toInt_eq_toNat_cond, BitVec.toNat_ofNat, Nat.mod_eq_of_lt (by omega), if_pos (by omega)]
  have ey : (BitVec.ofNat 32 y).toInt = y := by rw [BitVec.toInt_eq_toNat_cond, BitVec.toNat_ofNat, Nat.mod_eq_of_lt (by omega), if_pos (by omega)]
  unfold BitVec.sle
  rw [ex, ey]
  by_cases h : y ≤ x
  · rw [if_pos h, decide_eq_true (by exact_mod_cast h)]; rfl
  · rw [if_neg h, decide_eq_false (by exact_mod_cast h)]; rfl

/-! ### Arrays -/

theorem causal_apply : causal (ix4 b h R C) = if C.val ≤ R.val then 1#1 else 0#1 := by
  pointwise [causal]
  rw [sge_ofNat _ _ R.isLt C.isLt]
  by_cases h : C.val ≤ R.val
  · rw [if_pos h]; rfl
  · rw [if_neg h]; rfl

theorem overKeys_apply (x : Vec Ideal S2x8x2048 .f32) : overKeys x (ix4 b h R C) = x (ix3 b h R) := by
  pointwise [overKeys]

theorem sumKeys_apply (s : Vec Ideal S2x8x2048x2048 .f32) : sumKeys s (ix3 b h R) = ∑ C : Fin 2048, s (ix4 b h R C) := by
  pointwise [sumKeys]

theorem rowMax_apply (s : Vec Ideal S2x8x2048x2048 .f32) : rowMax s (ix3 b h R) = Finset.univ.fold max ⊥ fun C : Fin 2048 => s (ix4 b h R C) := by
  pointwise [rowMax]
  rw [ofBits_least]

theorem expo_apply (s : Vec Ideal S2x8x2048x2048 .f32) (x : Vec Ideal S2x8x2048 .f32) :
    expo s x (ix4 b h R C) = Ideal.exp (s (ix4 b h R C) - x (ix3 b h R)) := by
  pointwise [expo, overKeys_apply]

theorem guarded_apply (x : Vec Ideal S2x8x2048 .f32) : guarded x (ix3 b h R) = x (ix3 b h R) := by
  pointwise [guarded]
  rw [ofBits_least, max_eq_right bot_le]

theorem add_log_apply (x y : FVec Ideal S2x8x2048 .f32) : (addf x (Host.log y) : FVec Ideal S2x8x2048 .f32) (ix3 b h R) = x (ix3 b h R) + Ideal.log (y (ix3 b h R)) := by
  pointwise []

theorem gateLanes_apply (x : Vec Ideal S2x8x2048 .f32) (p : Fin 4) (l : Fin 128) :
    gateLanes x (ix2 (flatRow b R) ⟨128 * p.val + l.val, by omega⟩)
      = if hl : l.val < 2 then x (ix3 b (head p ⟨l.val, hl⟩) R) else 0 := by
  pointwise [gateLanes]
  by_cases hl : l.val < 2
  · rw [dif_pos hl, dif_pos hl]
    blk_ext [flatRow, head]
  · rw [dif_neg hl, dif_neg hl]
    show ((((0#32 : BitVec 32).toInt : ℝ)) : EReal) = 0
    simp

section Stages

variable (A : Vec Ideal S4096x1536 .bf16) (B : Vec Ideal S4096x128 .f32) (D : Vec Ideal S4096x512 .f32)

theorem score_apply : score A B (ix4 b h R C) = if C.val ≤ R.val then
    (∑ d : Fin 64, qHeads A (ix4 b R h d) * kHeads A (ix4 b C h d)) * Ideal.ofBits FTy.f32 0x3E000000#32
      + (gates B (ix3 b R h) - gates B (ix3 b C h)) else ⊥ := by
  pointwise [score, causal_apply, overKeys_apply, gateRows_apply]
  rw [select_one_if, ofBits_least]

theorem weights_apply : weights A B (ix4 b h R C) = Ideal.exp (score A B (ix4 b h R C) - rowMax (score A B) (ix3 b h R)) := by
  unfold weights
  rw [expo_apply, guarded_apply]

theorem prob_apply : prob A B (ix4 b h R C) = Ideal.div (weights A B (ix4 b h R C)) (∑ C' : Fin 2048, weights A B (ix4 b h R C')) := by
  pointwise [prob, overKeys_apply, sumKeys_apply]

theorem logSum_apply : logSum A B (ix3 b h R) = rowMax (score A B) (ix3 b h R) + Ideal.log (∑ C : Fin 2048, weights A B (ix4 b h R C)) := by
  unfold logSum
  rw [add_log_apply, sumKeys_apply]
  have e (C : Fin 2048) : expo (score A B) (rowMax (score A B)) (ix4 b h R C) = weights A B (ix4 b h R C) :=
    (expo_apply b h R C _ _).trans (weights_apply b h R C A B).symm
  rw [Finset.sum_congr rfl fun C _ => e C]

theorem dprob_apply : dprob A D (ix4 b h R C) = ∑ d : Fin 64, outHeads D (ix4 b R h d) * vHeads A (ix4 b C h d) := by
  pointwise [dprob, outRows]

theorem invSquare_apply : invSquare A B (ix4 b h R 0)
    = Ideal.div 1 ((∑ C : Fin 2048, weights A B (ix4 b h R C)) * (∑ C : Fin 2048, weights A B (ix4 b h R C))) := by
  pointwise [invSquare, sumKeys_apply]

theorem dsum_apply : dsum A B D (ix3 b h R)
    = -∑ C : Fin 2048, dprob A D (ix4 b h R C) * invSquare A B (ix4 b h R 0) * weights A B (ix4 b h R C) := by
  pointwise [dsum, sumKeys_apply]
  exact Fin.sum_univ_one _

theorem dscore_apply : dscore A B D (ix4 b h R C) = if C.val ≤ R.val then
    (Ideal.div (dprob A D (ix4 b h R C)) (∑ C' : Fin 2048, weights A B (ix4 b h R C')) + dsum A B D (ix3 b h R)) * weights A B (ix4 b h R C)
      else 0 := by
  pointwise [dscore, causal_apply, overKeys_apply, sumKeys_apply]
  exact select_one_if _ _ _

theorem dq_apply : dq A B D (ix2 (flatRow b R) (flatCol h d))
    = ∑ C : Fin 2048, dscore A B D (ix4 b h R C) * Ideal.ofBits FTy.f32 0x3E000000#32 * kHeads A (ix4 b C h d) := by
  pointwise [dq, scaled]
  refine Finset.sum_congr rfl fun C _ => ?_
  refine congrArg₂ (· * ·) (congrArg (· * _) (congrArg _ ?_)) (congrArg _ ?_) <;> blk_ext [flatRow, flatCol]

theorem dk_apply : dk A B D (ix2 (flatRow b C) (flatCol h d))
    = ∑ R : Fin 2048, dscore A B D (ix4 b h R C) * Ideal.ofBits FTy.f32 0x3E000000#32 * qHeads A (ix4 b R h d) := by
  pointwise [dk, scaled]
  refine Finset.sum_congr rfl fun R _ => ?_
  refine congrArg₂ (· * ·) (congrArg (· * _) (congrArg _ ?_)) (congrArg _ ?_) <;> blk_ext [flatRow, flatCol]

theorem dv_apply : dv A B D (ix2 (flatRow b C) (flatCol h d))
    = ∑ R : Fin 2048, outHeads D (ix4 b R h d) * prob A B (ix4 b h R C) := by
  pointwise [dv, outRows]
  refine Finset.sum_congr rfl fun R _ => ?_
  refine congrArg₂ (· * ·) (congrArg _ ?_) (congrArg _ ?_) <;> blk_ext [flatRow, flatCol]

theorem dcq_apply (p : Fin 4) (l : Fin 128) : dcq A B D (ix2 (flatRow b R) ⟨128 * p.val + l.val, by omega⟩)
    = if hl : l.val < 2 then ∑ C : Fin 2048, dscore A B D (ix4 b (head p ⟨l.val, hl⟩) R C) else 0 := by
  unfold dcq
  rw [gateLanes_apply]
  refine dite_congr rfl (fun hl => ?_) fun _ => rfl
  pointwise [sumKeys_apply]
  exact Fin.sum_univ_one _

theorem dck_apply (p : Fin 4) (l : Fin 128) : dck A B D (ix2 (flatRow b C) ⟨128 * p.val + l.val, by omega⟩)
    = if hl : l.val < 2 then ∑ R : Fin 2048, -dscore A B D (ix4 b (head p ⟨l.val, hl⟩) R C) else 0 := by
  unfold dck
  rw [gateLanes_apply]
  refine dite_congr rfl (fun hl => ?_) fun _ => rfl
  pointwise []
  exact Fin.sum_univ_one _

end Stages

end Cert.Fox.Plain

end
-- ==== Proof.Reals.lean ====
/-
  Sums, softmax and its derivative over the real numbers, read in the extended reals.
-/
module

public import Idealize.ShloMosaic.PureOps.Ideal
public import Mathlib.Analysis.SpecialFunctions.Log.Basic

@[expose] public section

noncomputable section

namespace Cert.Fox

open Idealize.ShloMosaic

theorem coe_sum {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem coe_sum' {ι : Type*} {s : Finset ι} {g : ι → EReal} {f : ι → ℝ} (h : ∀ i, g i = (f i : EReal)) :
    ∑ i ∈ s, g i = ((∑ i ∈ s, f i : ℝ) : EReal) :=
  (Finset.sum_congr rfl fun i _ => h i).trans (coe_sum s f)

/-- The largest of a family of reals and least elements is real when one of the family is. -/
theorem fold_max_real {n : ℕ} {g : Fin n → EReal} {f : Fin n → ℝ} {p : Fin n → Prop} [DecidablePred p]
    (h : ∀ C, g C = if p C then (f C : EReal) else ⊥) {C₀ : Fin n} (h₀ : p C₀) :
    Finset.univ.fold max ⊥ g = (((Finset.univ.fold max ⊥ g).toReal : ℝ) : EReal) := by
  refine (EReal.coe_toReal ?_ ?_).symm
  · refine ne_of_lt ((Finset.fold_max_lt _).mpr ⟨bot_lt_top, fun C _ => ?_⟩)
    rw [h]
    split
    · exact EReal.coe_lt_top _
    · exact bot_lt_top
  · refine ne_of_gt (lt_of_lt_of_le (b := g C₀) ?_ ((Finset.le_fold_max _).mpr (Or.inr ⟨C₀, Finset.mem_univ _, le_rfl⟩)))
    rw [h, if_pos h₀]
    exact EReal.bot_lt_coe _

/-- The exponential over a real shift of a score, where there is one. -/
theorem exp_shift (p : Prop) [Decidable p] (s M : ℝ) :
    Ideal.exp ((if p then (s : EReal) else ⊥) - (M : EReal)) = ((if p then Real.exp (s - M) else 0 : ℝ) : EReal) := by
  by_cases h : p
  · rw [if_pos h, if_pos h, ← EReal.coe_sub]; rfl
  · rw [if_neg h, if_neg h, EReal.bot_sub]; rfl

/-- The same over the shift and the logarithm of a sum: the quotient. -/
theorem exp_shift_log (p : Prop) [Decidable p] (s M z : ℝ) (hz : 0 < z) :
    Ideal.exp ((if p then (s : EReal) else ⊥) - ((M : EReal) + Ideal.log (z : EReal)))
      = (((if p then Real.exp (s - M) else 0) / z : ℝ) : EReal) := by
  have e : Ideal.log (z : EReal) = ((Real.log z : ℝ) : EReal) := if_neg (not_le.mpr hz)
  rw [e, ← EReal.coe_add, exp_shift]
  congr 1
  by_cases h : p
  · rw [if_pos h, if_pos h, ← sub_sub, Real.exp_sub, Real.exp_log hz]
  · rw [if_neg h, if_neg h, zero_div]

theorem div_real (x : ℝ) {z : ℝ} (hz : 0 < z) : Ideal.div (x : EReal) (z : EReal) = ((x / z : ℝ) : EReal) := by
  rw [Ideal.div_coe hz.ne', ← EReal.coe_mul, mul_one_div]

theorem sum_weights_pos {n : ℕ} (s : Fin n → ℝ) (M : ℝ) {p : Fin n → Prop} [DecidablePred p] {C₀ : Fin n} (h₀ : p C₀) :
    0 < ∑ C, (if p C then Real.exp (s C - M) else 0) := by
  refine Finset.sum_pos' (fun C _ => ?_) ⟨C₀, Finset.mem_univ _, ?_⟩
  · split
    · exact (Real.exp_pos _).le
    · exact le_rfl
  · rw [if_pos h₀]; exact Real.exp_pos _

/-- The derivative of softmax: through the quotient and through its probabilities. -/
theorem dsoftmax {n : ℕ} (w g : Fin n → ℝ) {z : ℝ} (hz : 0 < z) (C : Fin n) :
    (g C / z + -∑ C', g C' * (1 / (z * z)) * w C') * w C = w C / z * (g C - ∑ C', w C' / z * g C') := by
  have e : ∑ C', g C' * (1 / (z * z)) * w C' = (∑ C', w C' / z * g C') / z := by
    rw [Finset.sum_div]
    refine Finset.sum_congr rfl fun C' _ => ?_
    field_simp
  rw [e]
  field_simp
  ring

/-- The products of a result with its derivative, summed by keys or by the result's elements. -/
theorem delta_swap {n k : ℕ} (o : Fin k → ℝ) (v : Fin n → Fin k → ℝ) (p : Fin n → ℝ) :
    ∑ d, o d * ∑ C, v C d * p C = ∑ C, p C * ∑ d, o d * v C d := by
  simp only [Finset.mul_sum]
  rw [Finset.sum_comm]
  refine Finset.sum_congr rfl fun C _ => Finset.sum_congr rfl fun d _ => ?_
  ring

end Cert.Fox

end
-- ==== Proof.Equal.lean ====
/-
  Over real arguments the kernel's results are the plain program's.
-/
module

public import proofs.«01_k».proof.Proof.Results
public import proofs.«01_k».proof.Proof.PlainAt
public import proofs.«01_k».proof.Proof.Reals

@[expose] public section

set_option maxRecDepth 16384

noncomputable section

namespace Cert.Fox

open Idealize.ShloMosaic Idealize.ShloMosaic.TcCoe Idealize.SL Idealize.SL.Sem Cert.KernelIdeal Cert.KernelIdeal.Gen

/-- The arguments are real arrays. -/
structure Reals (A : Vec Ideal S4096x1536 .bf16) (B : Vec Ideal S4096x128 .f32) (D : Vec Ideal S4096x512 .f32)
    (a : S4096x1536.Idx → ℝ) (g : S4096x128.Idx → ℝ) (o : S4096x512.Idx → ℝ) : Prop where
  qkv : ∀ i, A i = ((a i : ℝ) : EReal)
  gate : ∀ i, B i = ((g i : ℝ) : EReal)
  out : ∀ i, D i = ((o i : ℝ) : EReal)

section Defs

variable (a : S4096x1536.Idx → ℝ) (g : S4096x128.Idx → ℝ) (o : S4096x512.Idx → ℝ) (M : ℝ) (b : Fin 2) (h : Fin 8) (R C : Fin 2048) (d : Fin 64)

def rq : ℝ := a (ix2 (flatRow b R) ⟨64 * h.val + d.val, by omega⟩)
def rk : ℝ := a (ix2 (flatRow b C) ⟨512 + (64 * h.val + d.val), by omega⟩)
def rv : ℝ := a (ix2 (flatRow b C) ⟨1024 + (64 * h.val + d.val), by omega⟩)
def rg : ℝ := g (ix2 (flatRow b R) ⟨h.val, by omega⟩)
def ro : ℝ := o (ix2 (flatRow b R) (flatCol h d))

def rScore : ℝ := (∑ d, rq a b h R d * rk a b h C d) * (1 / 8) + (rg g b h R - rg g b h C)

/-- The weights over a shift `M` of the scores, and their sum. -/
def rWeight : ℝ := if C.val ≤ R.val then Real.exp (rScore a g b h R C - M) else 0
def rTotal : ℝ := ∑ C, rWeight a g M b h R C
def rProb : ℝ := rWeight a g M b h R C / rTotal a g M b h R
def rDprob : ℝ := ∑ d, ro o b h R d * rv a b h C d
def rDscore : ℝ := rProb a g M b h R C * (rDprob a o b h R C - ∑ C', rProb a g M b h R C' * rDprob a o b h R C')

theorem rTotal_pos : 0 < rTotal a g M b h R :=
  sum_weights_pos (fun C => rScore a g b h R C) M (p := fun C : Fin 2048 => C.val ≤ R.val) (C₀ := R) le_rfl

end Defs

variable {A : Vec Ideal S4096x1536 .bf16} {B : Vec Ideal S4096x128 .f32} {D : Vec Ideal S4096x512 .f32}
variable {a : S4096x1536.Idx → ℝ} {g : S4096x128.Idx → ℝ} {o : S4096x512.Idx → ℝ} (H : Reals A B D a g o)
variable (b : Fin 2) (h : Fin 8) (R C : Fin 2048) (d : Fin 64)

include H

theorem q_real : Plain.qHeads A (ix4 b R h d) = (rq a b h R d : EReal) := (qHeads_apply A b R h d).trans (H.qkv _)
theorem k_real : Plain.kHeads A (ix4 b C h d) = (rk a b h C d : EReal) := (kHeads_apply A b C h d).trans (H.qkv _)
theorem v_real : Plain.vHeads A (ix4 b C h d) = (rv a b h C d : EReal) := (vHeads_apply A b C h d).trans (H.qkv _)
theorem g_real : Plain.gates B (ix3 b R h) = (rg g b h R : EReal) := (gates_apply B b R h).trans (H.gate _)
theorem o_real : Plain.outHeads D (ix4 b R h d) = (ro o b h R d : EReal) := (outHeads_apply D b R h d).trans (H.out _)

/-! ### The plain program -/

theorem score_real : Plain.score A B (ix4 b h R C) = if C.val ≤ R.val then (rScore a g b h R C : EReal) else ⊥ := by
  rw [Plain.score_apply, Plain.ofBits_eighth, g_real H, g_real H,
    coe_sum' (f := fun d => rq a b h R d * rk a b h C d) fun d => by rw [q_real H, k_real H, EReal.coe_mul],
    ← EReal.coe_mul, ← EReal.coe_sub, ← EReal.coe_add]
  rfl

/-- The largest score of a query. -/
theorem top_real : ∃ M : ℝ, Plain.rowMax (Plain.score A B) (ix3 b h R) = (M : EReal) := by
  rw [Plain.rowMax_apply]
  exact ⟨_, fold_max_real (f := fun C => rScore a g b h R C) (p := fun C : Fin 2048 => C.val ≤ R.val) (fun C => score_real H b h R C) (C₀ := R) le_rfl⟩

variable {R} {M : ℝ} (hM : Plain.rowMax (Plain.score A B) (ix3 b h R) = (M : EReal))

include hM

theorem weight_real : Plain.weights A B (ix4 b h R C) = (rWeight a g M b h R C : EReal) := by
  rw [Plain.weights_apply, hM, score_real H, exp_shift]
  rfl

theorem total_real : ∑ C, Plain.weights A B (ix4 b h R C) = (rTotal a g M b h R : EReal) := coe_sum' fun C => weight_real H b h C hM

theorem prob_real : Plain.prob A B (ix4 b h R C) = (rProb a g M b h R C : EReal) := by
  rw [Plain.prob_apply, total_real H b h hM, weight_real H b h C hM, div_real _ (rTotal_pos a g M b h R)]
  rfl

omit hM in
theorem dprob_real : Plain.dprob A D (ix4 b h R C) = (rDprob a o b h R C : EReal) := by
  rw [Plain.dprob_apply]
  exact coe_sum' fun d => by rw [o_real H, v_real H, EReal.coe_mul]

theorem invSquare_real : Plain.invSquare A B (ix4 b h R 0) = ((1 / (rTotal a g M b h R * rTotal a g M b h R) : ℝ) : EReal) := by
  have hz := rTotal_pos a g M b h R
  rw [Plain.invSquare_apply, total_real H b h hM, ← EReal.coe_mul, ← EReal.coe_one, div_real _ (mul_pos hz hz)]

theorem dsum_real : Plain.dsum A B D (ix3 b h R)
    = ((-∑ C, rDprob a o b h R C * (1 / (rTotal a g M b h R * rTotal a g M b h R)) * rWeight a g M b h R C : ℝ) : EReal) := by
  rw [Plain.dsum_apply, EReal.coe_neg]
  refine congrArg _ (coe_sum' fun C => ?_)
  rw [dprob_real H, invSquare_real H b h hM, weight_real H b h C hM, EReal.coe_mul, EReal.coe_mul]

theorem dscore_real : Plain.dscore A B D (ix4 b h R C) = (rDscore a g o M b h R C : EReal) := by
  have e := dsoftmax (fun C => rWeight a g M b h R C) (fun C => rDprob a o b h R C) (rTotal_pos a g M b h R) C
  rw [Plain.dscore_apply, total_real H b h hM, dprob_real H, dsum_real H b h hM, weight_real H b h C hM,
    div_real _ (rTotal_pos a g M b h R), ← EReal.coe_add, ← EReal.coe_mul, e]
  by_cases hC : C.val ≤ R.val
  · rw [if_pos hC]; rfl
  · have hw : rWeight a g M b h R C = 0 := if_neg hC
    rw [if_neg hC]
    unfold rDscore rProb
    rw [hw, zero_div, zero_mul, EReal.coe_zero]

/-! ### The kernel -/

omit hM in
theorem kScore_real : kScore A B b h R C = (rScore a g b h R C : EReal) := by
  unfold kScore
  rw [g_real H, g_real H,
    coe_sum' (f := fun d => rq a b h R d * (1 / 8) * rk a b h C d) fun d => by
      rw [q_real H, k_real H, Plain.eighth_eq, EReal.coe_mul, EReal.coe_mul],
    ← EReal.coe_add, ← EReal.coe_sub]
  refine congrArg Real.toEReal ?_
  unfold rScore
  rw [Finset.sum_mul, add_sub_assoc]
  refine congrArg (· + _) (Finset.sum_congr rfl fun d _ => ?_)
  ring

theorem kProb_real : kProb A B b h R C = (rProb a g M b h R C : EReal) := by
  unfold kProb
  rw [Plain.logSum_apply, hM, total_real H b h hM, kScore_real H, exp_shift_log _ _ _ _ (rTotal_pos a g M b h R)]
  rfl

theorem kDelta_real : kDelta A B D b h R = ((∑ C, rProb a g M b h R C * rDprob a o b h R C : ℝ) : EReal) := by
  unfold kDelta
  rw [coe_sum' (f := fun d => ro o b h R d * ∑ C, rv a b h C d * rProb a g M b h R C) fun d => by
    rw [coe_sum' (f := fun C => rv a b h C d * rProb a g M b h R C) fun C => by
      rw [v_real H, prob_real H b h C hM, EReal.coe_mul], o_real H, EReal.coe_mul]]
  refine congrArg Real.toEReal ?_
  exact delta_swap (fun d => ro o b h R d) (fun C d => rv a b h C d) fun C => rProb a g M b h R C

theorem kDs_real : kDs A B D b h R C = (rDscore a g o M b h R C : EReal) := by
  unfold kDs
  rw [kProb_real H b h C hM, kDelta_real H b h hM,
    coe_sum' (f := fun d => ro o b h R d * rv a b h C d) fun d => by rw [o_real H, v_real H, EReal.coe_mul],
    ← EReal.coe_sub, ← EReal.coe_mul]
  rfl

/-! ### Their equality -/

omit hM

variable (R)

theorem prob_eq : kProb A B b h R C = Plain.prob A B (ix4 b h R C) := by
  obtain ⟨M, hM⟩ := top_real H b h R
  rw [kProb_real H b h C hM, prob_real H b h C hM]

theorem ds_eq : kDs A B D b h R C = Plain.dscore A B D (ix4 b h R C) := by
  obtain ⟨M, hM⟩ := top_real H b h R
  rw [kDs_real H b h C hM, dscore_real H b h C hM]

theorem dscore_coe : ∃ x : ℝ, Plain.dscore A B D (ix4 b h R C) = (x : EReal) := by
  obtain ⟨M, hM⟩ := top_real H b h R
  exact ⟨_, dscore_real H b h C hM⟩

theorem dq_eq : (∑ C, kDs A B D b h R C * Plain.kHeads A (ix4 b C h d)) * Ideal.ofBits FTy.f32 0x3E000000#32
    = Plain.dq A B D (ix2 (flatRow b R) (flatCol h d)) := by
  obtain ⟨M, hM⟩ := top_real H b h R
  rw [Plain.dq_apply, Plain.ofBits_eighth,
    coe_sum' (f := fun C => rDscore a g o M b h R C * rk a b h C d) fun C => by rw [kDs_real H b h C hM, k_real H, EReal.coe_mul],
    coe_sum' (f := fun C => rDscore a g o M b h R C * (1 / 8) * rk a b h C d) fun C => by
      rw [dscore_real H b h C hM, k_real H, EReal.coe_mul, EReal.coe_mul],
    ← EReal.coe_mul, Finset.sum_mul]
  refine congrArg Real.toEReal ?_
  exact Finset.sum_congr rfl fun C _ => by ring

theorem dk_eq : ∑ R, kDs A B D b h R C * (Plain.qHeads A (ix4 b R h d) * eighth)
    = Plain.dk A B D (ix2 (flatRow b C) (flatCol h d)) := by
  rw [Plain.dk_apply]
  refine Finset.sum_congr rfl fun R _ => ?_
  rw [ds_eq H, Plain.eighth_eq, Plain.ofBits_eighth, mul_assoc, mul_comm (Plain.qHeads A _)]

theorem dv_eq : ∑ R, kProb A B b h R C * Plain.outHeads D (ix4 b R h d) = Plain.dv A B D (ix2 (flatRow b C) (flatCol h d)) := by
  rw [Plain.dv_apply]
  refine Finset.sum_congr rfl fun R _ => ?_
  rw [prob_eq H, mul_comm]

theorem dck_eq : 0 - ∑ R, kDs A B D b h R C * 1 = ∑ R, -Plain.dscore A B D (ix4 b h R C) := by
  choose x hx using fun R => dscore_coe H b h R C
  rw [coe_sum' (f := x) fun R => by rw [mul_one, ds_eq H, hx],
    coe_sum' (f := fun R => -x R) fun R => by rw [hx, EReal.coe_neg], ← EReal.coe_zero, ← EReal.coe_sub, Finset.sum_neg_distrib, zero_sub]

theorem dcq_eq : ∑ C, kDs A B D b h R C * 1 = ∑ C, Plain.dscore A B D (ix4 b h R C) :=
  Finset.sum_congr rfl fun C _ => by rw [mul_one, ds_eq H]

end Cert.Fox

end
-- ==== Proof.Whole.lean ====
/-
  The five arrays as a whole, and what the condition on the arguments says.
-/
module

public import proofs.«01_k».proof.Proof.Equal
public import proofs.«01_k».proof.Proof.Gen.Pre_finite
public import Idealize.ShloMosaic.Lib.ReduceAll

@[expose] public section

set_option maxRecDepth 16384

noncomputable section

namespace Cert.Fox

open Idealize.ShloMosaic Idealize.ShloMosaic.TcCoe Idealize.SL Idealize.SL.Sem Cert.KernelIdeal Cert.KernelIdeal.Gen

/-! ### Columns -/

theorem row_split (X : Fin 4096) : flatRow (bAt X) (rAt X) = X := Fin.ext (by show 2048 * (X.val / 2048) + X.val % 2048 = X.val; omega)

theorem col_split (Y : Fin 512) : ∃ p e d, Y = flatCol (head p e) d := by
  refine ⟨⟨Y.val / 128, by omega⟩, ⟨Y.val / 64 % 2, by omega⟩, ⟨Y.val % 64, by omega⟩, Fin.ext ?_⟩
  show Y.val = 64 * (2 * (Y.val / 128) + Y.val / 64 % 2) + Y.val % 64
  omega

theorem p_flat (p : Fin 4) (e : Fin 2) (d : Fin 64) : pAt (flatCol (head p e) d) = p :=
  Fin.ext (by show (64 * (2 * p.val + e.val) + d.val) / 128 = p.val; omega)

theorem l_flat (p : Fin 4) (e : Fin 2) (d : Fin 64) : lAt (flatCol (head p e) d) = lane e d :=
  Fin.ext (by show (64 * (2 * p.val + e.val) + d.val) % 128 = 64 * e.val + d.val; omega)

theorem gcol_split (Y : Fin 512) : Y = ⟨128 * (pAt Y).val + (lAt Y).val, by omega⟩ :=
  Fin.ext (by show Y.val = 128 * (Y.val / 128) + Y.val % 128; omega)

variable {A : Vec Ideal S4096x1536 .bf16} {B : Vec Ideal S4096x128 .f32} {D : Vec Ideal S4096x512 .f32}

theorem qAcc_in (b : Fin 2) (p : Fin 4) (e : Fin 2) (d : Fin 64) (R : Fin 2048) : qAcc A B D b p (lane e d) e R
    = ∑ C, kDs A B D b (head p e) R C * Plain.kHeads A (ix4 b C (head p e) d) := by
  unfold qAcc
  simp only [if_pos (lane_half e d), hd_lane, dm_lane]

theorem kAcc_in (b : Fin 2) (p : Fin 4) (e : Fin 2) (d : Fin 64) (C : Fin 2048) : kAcc A B D b p (lane e d) e C
    = ∑ R, kDs A B D b (head p e) R C * (Plain.qHeads A (ix4 b R (head p e) d) * eighth) := by
  unfold kAcc
  simp only [if_pos (lane_half e d), hd_lane, dm_lane]

theorem qAcc_off (b : Fin 2) (p : Fin 4) {e : Fin 2} {l : Fin 128} (hl : ¬l.val / 64 = e.val) (R : Fin 2048) : qAcc A B D b p l e R
    = ∑ C, kDs A B D b (head p e) R C * 1 := by
  unfold qAcc
  simp only [if_neg hl]

theorem kAcc_off (b : Fin 2) (p : Fin 4) {e : Fin 2} {l : Fin 128} (hl : ¬l.val / 64 = e.val) (C : Fin 2048) : kAcc A B D b p l e C
    = ∑ R, kDs A B D b (head p e) R C * 1 := by
  unfold kAcc
  simp only [if_neg hl]

/-- Of the two heads' values at a lane of head `e`, that head's. -/
theorem pick_half {α : Type} (f : Fin 2 → α) (e : Fin 2) (d : Fin 64) : (if (lane e d).val / 64 = 0 then f 0 else f 1) = f e := by
  have h := lane_half e d
  match e, h with
  | 0, h => exact if_pos h
  | 1, h => exact if_neg (by rw [h]; decide)

variable {a : S4096x1536.Idx → ℝ} {g : S4096x128.Idx → ℝ} {o : S4096x512.Idx → ℝ} (H : Reals A B D a g o)

include H

theorem dq_whole : dqArr A B D = Plain.dq A B D := by
  funext j
  idx_vars j
  obtain ⟨p, e, d, rfl⟩ := col_split j1
  rw [← row_split j0, ← dq_eq H]
  show (if (lAt (flatCol (head p e) d)).val / 64 = 0
      then qAcc A B D (bAt (flatRow _ _)) (pAt (flatCol (head p e) d)) (lAt (flatCol (head p e) d)) 0 (rAt (flatRow _ _))
      else qAcc A B D (bAt (flatRow _ _)) (pAt (flatCol (head p e) d)) (lAt (flatCol (head p e) d)) 1 (rAt (flatRow _ _))) * _ = _
  rw [b_flat, r_flat, p_flat, l_flat, pick_half fun e' => qAcc A B D (bAt j0) p (lane e d) e' (rAt j0), qAcc_in]

theorem dk_whole : dkArr A B D = Plain.dk A B D := by
  funext j
  idx_vars j
  obtain ⟨p, e, d, rfl⟩ := col_split j1
  rw [← row_split j0, ← dk_eq H]
  show (if (lAt (flatCol (head p e) d)).val / 64 = 0
      then kAcc A B D (bAt (flatRow _ _)) (pAt (flatCol (head p e) d)) (lAt (flatCol (head p e) d)) 0 (rAt (flatRow _ _))
      else kAcc A B D (bAt (flatRow _ _)) (pAt (flatCol (head p e) d)) (lAt (flatCol (head p e) d)) 1 (rAt (flatRow _ _))) = _
  rw [b_flat, r_flat, p_flat, l_flat, pick_half fun e' => kAcc A B D (bAt j0) p (lane e d) e' (rAt j0), kAcc_in]

theorem dv_whole : dvArr A B D = Plain.dv A B D := by
  funext j
  idx_vars j
  obtain ⟨p, e, d, rfl⟩ := col_split j1
  rw [← row_split j0, ← dv_eq H]
  show kDv A B D (bAt (flatRow _ _)) (pAt (flatCol (head p e) d)) (lAt (flatCol (head p e) d)) (rAt (flatRow _ _)) = _
  rw [b_flat, r_flat, p_flat, l_flat]
  unfold kDv
  rw [hd_lane, dm_lane]

theorem dcq_whole : dcqArr A B D = Plain.dcq A B D := by
  funext j
  idx_vars j
  have e : Plain.dcq A B D (ix2 j0 j1) = _ := (congrArg₂ (fun x y => Plain.dcq A B D (ix2 x y)) (row_split j0).symm (gcol_split j1)).trans
    (Plain.dcq_apply (bAt j0) (rAt j0) A B D (pAt j1) (lAt j1))
  refine Eq.trans ?_ e.symm
  show (if (lAt j1).val = 0 then qAcc A B D (bAt j0) (pAt j1) 64 0 (rAt j0)
    else if (lAt j1).val = 1 then qAcc A B D (bAt j0) (pAt j1) 0 1 (rAt j0) else 0) = _
  rw [qAcc_off _ _ (by decide), qAcc_off _ _ (by decide), dcq_eq H, dcq_eq H]
  generalize lAt j1 = l
  by_cases h0 : l.val = 0
  · obtain rfl : l = 0 := Fin.ext h0
    rw [if_pos h0, dif_pos (by decide)]; rfl
  · by_cases h1 : l.val = 1
    · obtain rfl : l = 1 := Fin.ext h1
      rw [if_neg h0, if_pos h1, dif_pos (by decide)]; rfl
    · rw [if_neg h0, if_neg h1, dif_neg (by omega)]

theorem dck_whole : dckArr A B D = Plain.dck A B D := by
  funext j
  idx_vars j
  have e : Plain.dck A B D (ix2 j0 j1) = _ := (congrArg₂ (fun x y => Plain.dck A B D (ix2 x y)) (row_split j0).symm (gcol_split j1)).trans
    (Plain.dck_apply (bAt j0) (rAt j0) A B D (pAt j1) (lAt j1))
  refine Eq.trans ?_ e.symm
  show (if (lAt j1).val = 0 then 0 - kAcc A B D (bAt j0) (pAt j1) 64 0 (rAt j0)
    else if (lAt j1).val = 1 then 0 - kAcc A B D (bAt j0) (pAt j1) 0 1 (rAt j0) else 0) = _
  rw [kAcc_off _ _ (by decide), kAcc_off _ _ (by decide), dck_eq H, dck_eq H]
  generalize lAt j1 = l
  by_cases h0 : l.val = 0
  · obtain rfl : l = 0 := Fin.ext h0
    rw [if_pos h0, dif_pos (by decide)]; rfl
  · by_cases h1 : l.val = 1
    · obtain rfl : l = 1 := Fin.ext h1
      rw [if_neg h0, if_pos h1, dif_pos (by decide)]; rfl
    · rw [if_neg h0, if_neg h1, dif_neg (by omega)]

omit H

/-! ### The condition -/

theorem and_one {x y : BitVec 1} (h : IntOp.andi x y = 1#1) : x = 1#1 ∧ y = 1#1 := by
  revert h; revert x y; decide

/-- An element whose magnitude is below the greatest is a real number. -/
theorem real_of_lt (x : EReal) (h : Ideal.cmp CmpFPredicate.olt (max x (-x)) ⊤ = 1#1) : ∃ r : ℝ, x = (r : EReal) := by
  have h' : max x (-x) < ⊤ := by
    by_contra hx
    rw [show Ideal.cmp CmpFPredicate.olt (max x (-x)) ⊤ = BitVec.ofBool (decide (max x (-x) < ⊤)) from rfl, decide_eq_false hx] at h
    exact absurd h (by decide)
  obtain ⟨h1, h2⟩ := max_lt_iff.mp h'
  refine ⟨x.toReal, (EReal.coe_toReal h1.ne ?_).symm⟩
  rintro rfl
  exact absurd h2 (by rw [EReal.neg_bot]; exact lt_irrefl _)

theorem ofBits_greatest : Ideal.ofBits FTy.f32 2139095040#32 = ⊤ := by simp [Ideal.ofBits, Ideal.ieee]

instance : Subsingleton Cert.Pre_finite.S_.Idx := ⟨fun x y => funext fun a => a.elim0⟩

theorem reals_of (h : Cert.Pre_finite.fn (F := Ideal) A B D = fun _ => 1#1) : ∃ a g o, Reals A B D a g o := by
  have h' := congrFun h ix0
  dsimp only [Cert.Pre_finite.fn] at h'
  obtain ⟨h12, h3⟩ := and_one h'
  obtain ⟨h1, h2⟩ := and_one h12
  have e1 (i) := Host.reduce_andi_all _ _ _ _ _ h1 i
  have e2 (i) := Host.reduce_andi_all _ _ _ _ _ h2 i
  have e3 (i) := Host.reduce_andi_all _ _ _ _ _ h3 i
  have r1 (i) : ∃ r : ℝ, A i = (r : EReal) := real_of_lt _ (by rw [← ofBits_greatest]; exact e1 i)
  have r2 (i) : ∃ r : ℝ, B i = (r : EReal) := real_of_lt _ (by rw [← ofBits_greatest]; exact e2 i)
  have r3 (i) : ∃ r : ℝ, D i = (r : EReal) := real_of_lt _ (by rw [← ofBits_greatest]; exact e3 i)
  choose a ha using r1
  choose g hg using r2
  choose o ho using r3
  exact ⟨a, g, o, ha, hg, ho⟩

end Cert.Fox

end
-- ==== Proof.Norm.lean ====
/-
  The gradient through a root-mean-square norm with a gain, one row at a time: of the row, and the row's part of the gain's.
-/
module

public import Idealize.ShloMosaic.Lib.Pointwise
public import Idealize.ShloMosaic.Lib.Claim
public import Idealize.ShloMosaic.Lib.StableHlo.ReadAt
public import Idealize.ShloMosaic.Lib.Pipeline.ValueKit
public import Idealize.ShloMosaic.Init

@[expose] public section

noncomputable section

namespace Cert.Norm

open Idealize.ShloMosaic

/-- The mean of a row's squares, plus the norm's small constant. -/
def spread {w : ℕ} (x : Fin w → EReal) : EReal :=
  Ideal.div (∑ k, x k * x k) (Ideal.ofBits FTy.f32 1149239296#32) + Ideal.ofBits FTy.f32 897988541#32

/-- What the mean's derivative puts before each element of the row. -/
def pull {w : ℕ} (x u g : Fin w → EReal) : EReal :=
  ∑ _i : Fin 1, Ideal.div
    ((∑ k, x k * (u k * g k)) * (Ideal.ofBits FTy.f32 3204448256#32 * Ideal.div (Ideal.rsqrt (spread x)) (spread x)))
    (Ideal.ofBits FTy.f32 1149239296#32)

/-- The gradient of the row, `u` being that of the norm's result and `g` the gain. -/
def row {w : ℕ} (x u g : Fin w → EReal) (d : Fin w) : EReal :=
  u d * g d * Ideal.rsqrt (spread x) + x d * pull x u g + pull x u g * x d

/-- The row's part of the gain's gradient. -/
def gain {w : ℕ} (x u : Fin w → EReal) (d : Fin w) : EReal := x d * Ideal.rsqrt (spread x) * u d

/-- A sum in two pieces. -/
theorem sum_two {N : ℕ} (m n : ℕ) (h : N = m + n) (f : Fin N → EReal) :
    ∑ i, f i = ∑ i : Fin m, f ⟨i.val, by omega⟩ + ∑ i : Fin n, f ⟨m + i.val, by omega⟩ := by
  subst h
  exact Fin.sum_univ_add f

/-- A stretch of a sum in two pieces. -/
theorem sum_from {M : ℕ} (f : Fin M → EReal) (a n k : ℕ) {N b : ℕ} (hN : N = n + k) (hb : b = a + n) (hM : a + N ≤ M) :
    ∑ i : Fin N, f ⟨a + i.val, by omega⟩ = ∑ i : Fin n, f ⟨a + i.val, by omega⟩ + ∑ i : Fin k, f ⟨b + i.val, by omega⟩ := by
  rw [sum_two n k hN]
  exact congrArg _ (Finset.sum_congr rfl fun i _ => congrArg f (Fin.ext (by dsimp only; omega)))

end Cert.Norm

end
-- ==== Proof.Dx.lean ====
/-
  The gradient through the input projection and the norm before it: what the kernel's operands hold and what one grid point
  computes, element by element.
-/
module

public import proofs.«01_k».proof.Proof.Norm
public import proofs.«01_k».proof.Proof.Gen.Kernel2Ideal.Value

@[expose] public section

set_option maxRecDepth 16384

noncomputable section

namespace Cert.Dx

open Idealize.ShloMosaic Idealize.ShloMosaic.TcCoe Idealize.SL Idealize.SL.Sem Cert.Kernel2Ideal Cert.Kernel2Ideal.Gen

section Generic

variable {F : FTy → Type} [FloatOps F] (w : Vec F S1024x6920 .f32)

/-- The weight, its columns turned into rows. -/
def turned : Vec F S6920x1024 .bf16 := truncf .bf16 (transpose S6920x1024 [1, 0] w transposes_S1024x6920_S6920x1024_1_0) bitsLt_bf16_f32

/-- The five operands made of it. -/
def wq : Vec F S1536x1024 .bf16 := extractStridedSlice S1536x1024 ![0, 0] (turned w) slices_S6920x1024_S1536x1024_0_0
def wf : Vec F S128x1024 .bf16 :=
  concatenate S128x1024 0 [⟨S8x1024, extractStridedSlice S8x1024 ![1536, 0] (turned w) slices_S6920x1024_S8x1024_1536_0⟩,
    ⟨S120x1024, broadcastInDim S120x1024 ![] bcast_S_S120x1024 (constant S_ .bf16 0x0000#16)⟩] concatenates_S8x1024_S120x1024_S128x1024_d0
def joined (a : Vec F S1536x1024 .bf16) (b b' d d' : Vec F S64x1024 .bf16) (e : Vec F S128x1024 .bf16) : Vec F S1920x1024 .bf16 :=
  concatenate S1920x1024 0 [⟨S1536x1024, a⟩, ⟨S64x1024, b⟩, ⟨S64x1024, b'⟩, ⟨S64x1024, d⟩, ⟨S64x1024, d'⟩, ⟨S128x1024, e⟩]
    concatenates_S1536x1024_S64x1024_S64x1024_S64x1024_S64x1024_S128x1024_S1920x1024_d0
def wr : Vec F S1920x1024 .bf16 :=
  joined (extractStridedSlice S1536x1024 ![1544, 0] (turned w) slices_S6920x1024_S1536x1024_1544_0)
    (extractStridedSlice S64x1024 ![3080, 0] (turned w) slices_S6920x1024_S64x1024_3080_0)
    (broadcastInDim S64x1024 ![] bcast_S_S64x1024 (constant S_ .bf16 0x0000#16))
    (extractStridedSlice S64x1024 ![3144, 0] (turned w) slices_S6920x1024_S64x1024_3144_0)
    (broadcastInDim S64x1024 ![] bcast_S_S64x1024 (constant S_ .bf16 0x0000#16))
    (extractStridedSlice S128x1024 ![3208, 0] (turned w) slices_S6920x1024_S128x1024_3208_0)
def we : Vec F S512x1024 .bf16 := extractStridedSlice S512x1024 ![3336, 0] (turned w) slices_S6920x1024_S512x1024_3336_0
def wg : Vec F S3072x1024 .bf16 := extractStridedSlice S3072x1024 ![3848, 0] (turned w) slices_S6920x1024_S3072x1024_3848_0

variable (m : (ℓ : Loc nD τ sig) → Buf (Elt F) ℓ) (c : Dev nD)

/-- The arguments. -/
abbrev argQ : Vec F S4096x1536 .bf16 := m ((c : Thread nD τ).loc main_arg0)
abbrev argF : Vec F S4096x128 .bf16 := m ((c : Thread nD τ).loc main_arg1)
abbrev argR : Vec F S4096x1920 .bf16 := m ((c : Thread nD τ).loc main_arg2)
abbrev argE : Vec F S4096x512 .bf16 := m ((c : Thread nD τ).loc main_arg3)
abbrev argG : Vec F S4096x3072 .bf16 := m ((c : Thread nD τ).loc main_arg4)
abbrev argW : Vec F S1024x6920 .f32 := m ((c : Thread nD τ).loc main_arg5)
abbrev argX : Vec F S4096x1024 .f32 := m ((c : Thread nD τ).loc main_arg6)
abbrev argN : Vec F S1x1024 .f32 := m ((c : Thread nD τ).loc main_arg7)
abbrev argZ : Vec F S4096x1024 .f32 := m ((c : Thread nD τ).loc main_arg8)

theorem wq_at : V m c main_v9 = wq (argW m c) := by
  unfold V
  after_reads_simp
  rfl

theorem wf_at : V m c main_v12 = wf (argW m c) := by
  unfold V
  after_reads_simp
  rfl

theorem wr_at : V m c main_v8 = wr (argW m c) := by
  unfold V
  after_reads_simp
  show joined (StableHlo.upto hostOps0 (fun b => m (c, b)) 10 (Proc.tc.devRef main_v2)) (StableHlo.upto hostOps0 (fun b => m (c, b)) 10 (Proc.tc.devRef main_v3)) (StableHlo.upto hostOps0 (fun b => m (c, b)) 10 (Proc.tc.devRef main_v4)) (StableHlo.upto hostOps0 (fun b => m (c, b)) 10 (Proc.tc.devRef main_v5)) (StableHlo.upto hostOps0 (fun b => m (c, b)) 10 (Proc.tc.devRef main_v6)) (StableHlo.upto hostOps0 (fun b => m (c, b)) 10 (Proc.tc.devRef main_v7)) = _
  after_reads_simp
  rfl

theorem we_at : V m c main_v13 = we (argW m c) := by
  unfold V
  after_reads_simp
  rfl

theorem wg_at : V m c main_v14 = wg (argW m c) := by
  unfold V
  after_reads_simp
  rfl

end Generic

section Weights

variable (w : Vec Ideal S1024x6920 .f32) (d : Fin 1024)

theorem wq_apply (k : Fin 1536) : wq w (ix2 k d) = w (ix2 d ⟨k.val, by omega⟩) := by
  pointwise [wq, turned]

theorem wf_in (k : Fin 8) : wf w (ix2 ⟨k.val, by omega⟩ d) = w (ix2 d ⟨1536 + k.val, by omega⟩) := by
  pointwise [wf, turned]

theorem wf_out (k : Fin 120) : wf w (ix2 ⟨8 + k.val, by omega⟩ d) = 0 := by
  pointwise [wf, turned]

theorem wr_rkv (k : Fin 1536) : wr w (ix2 ⟨k.val, by omega⟩ d) = w (ix2 d ⟨1544 + k.val, by omega⟩) := by
  pointwise [wr, joined, turned]

theorem wr_decay (k : Fin 64) : wr w (ix2 ⟨1536 + k.val, by omega⟩ d) = w (ix2 d ⟨3080 + k.val, by omega⟩) := by
  pointwise [wr, joined, turned]

theorem wr_out1 (k : Fin 64) : wr w (ix2 ⟨1600 + k.val, by omega⟩ d) = 0 := by
  pointwise [wr, joined, turned]
  rw [dif_neg (by omega), dif_neg (by omega), dif_pos (by omega)]

theorem wr_rate (k : Fin 64) : wr w (ix2 ⟨1664 + k.val, by omega⟩ d) = w (ix2 d ⟨3144 + k.val, by omega⟩) := by
  pointwise [wr, joined, turned]
  rw [dif_neg (by omega), dif_neg (by omega), dif_neg (by omega), dif_pos (by omega)]
  exact congrArg (fun i => w (ix2 d i)) (Fin.ext (by dsimp only; omega))

theorem wr_out2 (k : Fin 64) : wr w (ix2 ⟨1728 + k.val, by omega⟩ d) = 0 := by
  pointwise [wr, joined, turned]
  rw [dif_neg (by omega), dif_neg (by omega), dif_neg (by omega), dif_neg (by omega), dif_pos (by omega)]

theorem wr_gate (k : Fin 128) : wr w (ix2 ⟨1792 + k.val, by omega⟩ d) = w (ix2 d ⟨3208 + k.val, by omega⟩) := by
  pointwise [wr, joined, turned]
  rw [dif_neg (by omega), dif_neg (by omega), dif_neg (by omega), dif_neg (by omega), dif_neg (by omega)]
  exact congrArg (fun i => w (ix2 d i)) (Fin.ext (by dsimp only; omega))

theorem we_apply (k : Fin 512) : we w (ix2 k d) = w (ix2 d ⟨3336 + k.val, by omega⟩) := by
  pointwise [we, turned]

theorem wg_apply (k : Fin 3072) : wg w (ix2 k d) = w (ix2 d ⟨3848 + k.val, by omega⟩) := by
  pointwise [wg, turned]

end Weights

/-! ### The body's arithmetic -/

theorem pay1_apply (q : Vec Ideal S256x1536 .bf16) (w1 : Vec Ideal S1536x1024 .bf16) (f : Vec Ideal S256x128 .bf16) (w2 : Vec Ideal S128x1024 .bf16)
    (r : Vec Ideal S256x1920 .bf16) (w3 : Vec Ideal S1920x1024 .bf16) (e : Vec Ideal S256x512 .bf16) (w4 : Vec Ideal S512x1024 .bf16)
    (g : Vec Ideal S256x3072 .bf16) (w5 : Vec Ideal S3072x1024 .bf16) (i : Fin 256) (d : Fin 1024) :
    k0_pay1 q w1 f w2 r w3 e w4 g w5 (ix2 i d)
      = ∑ k : Fin 1536, q (ix2 i k) * w1 (ix2 k d) + ∑ k : Fin 128, f (ix2 i k) * w2 (ix2 k d) + ∑ k : Fin 1920, r (ix2 i k) * w3 (ix2 k d)
        + ∑ k : Fin 512, e (ix2 i k) * w4 (ix2 k d) + ∑ k : Fin 3072, g (ix2 i k) * w5 (ix2 k d) := by
  pointwise [k0_pay1]

theorem pay5_apply (u : Vec Ideal S256x1024 .f32) (x : Vec Ideal S256x1024 .f32) (g : Vec Ideal S1x1024 .f32) (z : Vec Ideal S256x1024 .f32)
    (r : Fin 256) (d : Fin 1024) : k0_pay5 u x g (k0_pay2 x) z (ix2 r d)
      = Norm.row (fun k => x (ix2 r k)) (fun k => u (ix2 r k)) (fun k => g (ix2 0 k)) d + z (ix2 r d) := by
  pointwise [k0_pay5, k0_pay4, k0_pay3, k0_pay2]
  rfl

theorem pay6_apply (d : Fin 1024) : k0_pay6 (F := Ideal) (ix2 0 d) = 0 := by
  pointwise [k0_pay6]

theorem pay7_apply (u : Vec Ideal S256x1024 .f32) (x : Vec Ideal S256x1024 .f32) (g : Vec Ideal S1x1024 .f32)
     (d : Fin 1024) : k0_pay7 u x (k0_pay2 x) g (ix2 0 d)
      = g (ix2 0 d) + ∑ r : Fin 256, Norm.gain (fun k => x (ix2 r k)) (fun k => u (ix2 r k)) d := by
  pointwise [k0_pay7, k0_pay4, k0_pay3, k0_pay2]
  rfl

end Cert.Dx

end
-- ==== Proof.DxPlain.lean ====
/-
  The derivative of the plain input projection and of the norm before it, element by element.
-/
module

public import proofs.«01_k».proof.Proof.Norm
public import proofs.«01_k».proof.Proof.Gen.Reference2Ideal.Run

@[expose] public section

set_option maxRecDepth 16384

noncomputable section

namespace Cert.DxPlain

open Idealize.ShloMosaic Idealize.ShloMosaic.TcCoe Idealize.SL Idealize.SL.Sem Cert.Reference2Ideal Cert.Reference2Ideal.Gen

section Generic

variable {F : FTy → Type} [FloatOps F]

/-- The gradient of the projection's result: the pieces of its columns side by side. -/
def cot (q : Vec F S4096x1536 .bf16) (f : Vec F S4096x128 .bf16) (r : Vec F S4096x1920 .bf16) (e : Vec F S4096x512 .bf16)
    (g : Vec F S4096x3072 .bf16) : Vec F S4096x6920 .bf16 :=
  concatenate S4096x6920 1 [⟨S4096x1536, q⟩, ⟨S4096x8, extractStridedSlice S4096x8 ![0, 0] f slices_S4096x128_S4096x8_0_0⟩,
    ⟨S4096x1536, extractStridedSlice S4096x1536 ![0, 0] r slices_S4096x1920_S4096x1536_0_0⟩,
    ⟨S4096x64, extractStridedSlice S4096x64 ![0, 0] (extractStridedSlice S4096x128 ![0, 1536] r slices_S4096x1920_S4096x128_0_1536) slices_S4096x128_S4096x64_0_0⟩,
    ⟨S4096x64, extractStridedSlice S4096x64 ![0, 0] (extractStridedSlice S4096x128 ![0, 1664] r slices_S4096x1920_S4096x128_0_1664) slices_S4096x128_S4096x64_0_0⟩,
    ⟨S4096x128, extractStridedSlice S4096x128 ![0, 1792] r slices_S4096x1920_S4096x128_0_1792⟩,
    ⟨S4096x512, e⟩, ⟨S4096x3072, g⟩]
    concatenates_S4096x1536_S4096x8_S4096x1536_S4096x64_S4096x64_S4096x128_S4096x512_S4096x3072_S4096x6920_d1

/-- The gradient of the norm's result. -/
def inner (c : Vec F S4096x6920 .bf16) (w : Vec F S1024x6920 .f32) : Vec F S4096x1024 .f32 :=
  Host.dotGeneral dot_S4096x6920_S1024x6920_S4096x1024_1_1_0_0_n_n none (extf .f32 c bitsLt_bf16_f32) w

/-- The gradient of the input, with the other gradient added to it. -/
def dx (u x : Vec F S4096x1024 .f32) (n : Vec F S1x1024 .f32) (z : Vec F S4096x1024 .f32) : Vec F S4096x1024 .f32 :=
  addf (addf (addf (mulf (mulf u (broadcastInDim S4096x1024 ![0, 1] bcast_S1x1024_S4096x1024_0_1 n)) (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf x (broadcastInDim S4096x1024 ![0] bcast_S4096_S4096x1024_0 (Host.reduceAdd (Host.divf (mulf (shapeCast _ (Host.reduceAdd (mulf x (mulf u (broadcastInDim S4096x1024 ![0, 1] bcast_S1x1024_S4096x1024_0_1 n))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf x (mulf u (broadcastInDim S4096x1024 ![0, 1] bcast_S1x1024_S4096x1024_0_1 n))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) x)) z

/-- The gradient of the gain. -/
def dgain (u x : Vec F S4096x1024 .f32) : Vec F S1x1024 .f32 :=
  shapeCast _ (Host.reduceAdd (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) u) (constant S_ .f32 0x00000000#32) reducesTo_S4096x1024_S1024_d0 h_S_) shapeCasts_S1024_S1x1024

variable (m : (ℓ : Loc nD τ sig) → Buf (Elt F) ℓ) (c : Dev nD)

/-- The gradient of the norm's result, from the program's arguments. -/
def innerAt : Vec F S4096x1024 .f32 := inner (cot (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4)))
  (m ((c.tc : Thread nD τ).loc main_arg5))

theorem out_dx : Value.res_main_v45 m c = dx (innerAt m c) (m ((c.tc : Thread nD τ).loc main_arg6)) (m ((c.tc : Thread nD τ).loc main_arg7))
    (m ((c.tc : Thread nD τ).loc main_arg8)) := rfl

end Generic

theorem dx_apply (u x : Vec Ideal S4096x1024 .f32) (n : Vec Ideal S1x1024 .f32) (z : Vec Ideal S4096x1024 .f32) (R : Fin 4096) (d : Fin 1024) :
    dx u x n z (ix2 R d) = Norm.row (fun k => x (ix2 R k)) (fun k => u (ix2 R k)) (fun k => n (ix2 0 k)) d + z (ix2 R d) := by
  pointwise [dx]
  rfl

theorem dgain_apply (u x : Vec Ideal S4096x1024 .f32) (d : Fin 1024) :
    dgain u x (ix2 0 d) = ∑ R : Fin 4096, Norm.gain (fun k => x (ix2 R k)) (fun k => u (ix2 R k)) d := by
  pointwise [dgain]
  rfl

theorem inner_apply (c : Vec Ideal S4096x6920 .bf16) (w : Vec Ideal S1024x6920 .f32) (R : Fin 4096) (d : Fin 1024) :
    inner c w (ix2 R d) = ∑ k : Fin 6920, c (ix2 R k) * w (ix2 d k) := by
  pointwise [inner]

section Pieces

variable (q : Vec Ideal S4096x1536 .bf16) (f : Vec Ideal S4096x128 .bf16) (r : Vec Ideal S4096x1920 .bf16) (e : Vec Ideal S4096x512 .bf16)
variable (g : Vec Ideal S4096x3072 .bf16) (R : Fin 4096)

theorem cot_q (k : Fin 1536) : cot q f r e g (ix2 R ⟨k.val, by omega⟩) = q (ix2 R k) := by
  pointwise [cot]

theorem cot_f (k : Fin 8) : cot q f r e g (ix2 R ⟨1536 + k.val, by omega⟩) = f (ix2 R ⟨k.val, by omega⟩) := by
  pointwise [cot]

theorem cot_r (k : Fin 1536) : cot q f r e g (ix2 R ⟨1544 + k.val, by omega⟩) = r (ix2 R ⟨k.val, by omega⟩) := by
  pointwise [cot]
  rw [dif_neg (by omega), dif_neg (by omega), dif_pos (by omega)]
  exact congrArg (fun i => r (ix2 R i)) (Fin.ext (by dsimp only; omega))

theorem cot_decay (k : Fin 64) : cot q f r e g (ix2 R ⟨3080 + k.val, by omega⟩) = r (ix2 R ⟨1536 + k.val, by omega⟩) := by
  pointwise [cot]
  rw [dif_neg (by omega), dif_neg (by omega), dif_neg (by omega), dif_pos (by omega)]
  exact congrArg (fun i => r (ix2 R i)) (Fin.ext (by dsimp only; omega))

theorem cot_rate (k : Fin 64) : cot q f r e g (ix2 R ⟨3144 + k.val, by omega⟩) = r (ix2 R ⟨1664 + k.val, by omega⟩) := by
  pointwise [cot]
  rw [dif_neg (by omega), dif_neg (by omega), dif_neg (by omega), dif_neg (by omega), dif_pos (by omega)]
  exact congrArg (fun i => r (ix2 R i)) (Fin.ext (by dsimp only; omega))

theorem cot_gate (k : Fin 128) : cot q f r e g (ix2 R ⟨3208 + k.val, by omega⟩) = r (ix2 R ⟨1792 + k.val, by omega⟩) := by
  pointwise [cot]
  rw [dif_neg (by omega), dif_neg (by omega), dif_neg (by omega), dif_neg (by omega), dif_neg (by omega), dif_pos (by omega)]
  exact congrArg (fun i => r (ix2 R i)) (Fin.ext (by dsimp only; omega))

theorem cot_e (k : Fin 512) : cot q f r e g (ix2 R ⟨3336 + k.val, by omega⟩) = e (ix2 R k) := by
  pointwise [cot]
  rw [dif_neg (by omega), dif_neg (by omega), dif_neg (by omega), dif_neg (by omega), dif_neg (by omega), dif_neg (by omega), dif_pos (by omega)]
  exact congrArg (fun i => e (ix2 R i)) (Fin.ext (by dsimp only; omega))

theorem cot_g (k : Fin 3072) : cot q f r e g (ix2 R ⟨3848 + k.val, by omega⟩) = g (ix2 R k) := by
  pointwise [cot]
  rw [dif_neg (by omega), dif_neg (by omega), dif_neg (by omega), dif_neg (by omega), dif_neg (by omega), dif_neg (by omega), dif_neg (by omega)]
  exact congrArg (fun i => g (ix2 R i)) (Fin.ext (by dsimp only; omega))

end Pieces

end Cert.DxPlain

end
-- ==== Proof.DxWhole.lean ====
/-
  The gradient through the input projection and the norm before it: the kernel's two result arrays are the plain ones.
-/
module

public import proofs.«01_k».proof.Proof.Dx
public import proofs.«01_k».proof.Proof.DxPlain

@[expose] public section

set_option maxRecDepth 16384

noncomputable section

namespace Cert.Dx

open Idealize.ShloMosaic Idealize.ShloMosaic.TcCoe Idealize.SL Idealize.SL.Sem Cert.Kernel2Ideal Cert.Kernel2Ideal.Gen

section Sums

variable (q : Vec Ideal S4096x1536 .bf16) (f : Vec Ideal S4096x128 .bf16) (r : Vec Ideal S4096x1920 .bf16) (e : Vec Ideal S4096x512 .bf16)
variable (g : Vec Ideal S4096x3072 .bf16) (w : Vec Ideal S1024x6920 .f32) (R : Fin 4096) (d : Fin 1024)

/-- The plain sum over the weight's columns, piece by piece. -/
theorem plain_pieces : DxPlain.inner (DxPlain.cot q f r e g) w (ix2 R d)
    = ∑ k : Fin 1536, q (ix2 R k) * w (ix2 d ⟨k.val, by omega⟩)
      + (∑ k : Fin 8, f (ix2 R ⟨k.val, by omega⟩) * w (ix2 d ⟨1536 + k.val, by omega⟩)
      + (∑ k : Fin 1536, r (ix2 R ⟨k.val, by omega⟩) * w (ix2 d ⟨1544 + k.val, by omega⟩)
      + (∑ k : Fin 64, r (ix2 R ⟨1536 + k.val, by omega⟩) * w (ix2 d ⟨3080 + k.val, by omega⟩)
      + (∑ k : Fin 64, r (ix2 R ⟨1664 + k.val, by omega⟩) * w (ix2 d ⟨3144 + k.val, by omega⟩)
      + (∑ k : Fin 128, r (ix2 R ⟨1792 + k.val, by omega⟩) * w (ix2 d ⟨3208 + k.val, by omega⟩)
      + (∑ k : Fin 512, e (ix2 R k) * w (ix2 d ⟨3336 + k.val, by omega⟩)
      + ∑ k : Fin 3072, g (ix2 R k) * w (ix2 d ⟨3848 + k.val, by omega⟩))))))) := by
  rw [DxPlain.inner_apply, Norm.sum_two 1536 5384 rfl,
    Norm.sum_from (fun k : Fin 6920 => DxPlain.cot q f r e g (ix2 R k) * w (ix2 d k)) 1536 8 5376 rfl (b := 1544) rfl (by omega),
    Norm.sum_from (fun k : Fin 6920 => DxPlain.cot q f r e g (ix2 R k) * w (ix2 d k)) 1544 1536 3840 rfl (b := 3080) rfl (by omega),
    Norm.sum_from (fun k : Fin 6920 => DxPlain.cot q f r e g (ix2 R k) * w (ix2 d k)) 3080 64 3776 rfl (b := 3144) rfl (by omega),
    Norm.sum_from (fun k : Fin 6920 => DxPlain.cot q f r e g (ix2 R k) * w (ix2 d k)) 3144 64 3712 rfl (b := 3208) rfl (by omega),
    Norm.sum_from (fun k : Fin 6920 => DxPlain.cot q f r e g (ix2 R k) * w (ix2 d k)) 3208 128 3584 rfl (b := 3336) rfl (by omega),
    Norm.sum_from (fun k : Fin 6920 => DxPlain.cot q f r e g (ix2 R k) * w (ix2 d k)) 3336 512 3072 rfl (b := 3848) rfl (by omega)]
  simp only [DxPlain.cot_q, DxPlain.cot_f, DxPlain.cot_r, DxPlain.cot_decay, DxPlain.cot_rate, DxPlain.cot_gate, DxPlain.cot_e, DxPlain.cot_g]

theorem f_pieces : ∑ k : Fin 128, f (ix2 R k) * wf w (ix2 k d)
    = ∑ k : Fin 8, f (ix2 R ⟨k.val, by omega⟩) * w (ix2 d ⟨1536 + k.val, by omega⟩) := by
  rw [Norm.sum_two 8 120 rfl]
  simp only [wf_in, wf_out, mul_zero, Finset.sum_const_zero, add_zero]

theorem r_pieces : ∑ k : Fin 1920, r (ix2 R k) * wr w (ix2 k d)
    = ∑ k : Fin 1536, r (ix2 R ⟨k.val, by omega⟩) * w (ix2 d ⟨1544 + k.val, by omega⟩)
      + (∑ k : Fin 64, r (ix2 R ⟨1536 + k.val, by omega⟩) * w (ix2 d ⟨3080 + k.val, by omega⟩)
      + (∑ k : Fin 64, r (ix2 R ⟨1664 + k.val, by omega⟩) * w (ix2 d ⟨3144 + k.val, by omega⟩)
      + ∑ k : Fin 128, r (ix2 R ⟨1792 + k.val, by omega⟩) * w (ix2 d ⟨3208 + k.val, by omega⟩))) := by
  rw [Norm.sum_two 1536 384 rfl,
    Norm.sum_from (fun k : Fin 1920 => r (ix2 R k) * wr w (ix2 k d)) 1536 64 320 rfl (b := 1600) rfl (by omega),
    Norm.sum_from (fun k : Fin 1920 => r (ix2 R k) * wr w (ix2 k d)) 1600 64 256 rfl (b := 1664) rfl (by omega),
    Norm.sum_from (fun k : Fin 1920 => r (ix2 R k) * wr w (ix2 k d)) 1664 64 192 rfl (b := 1728) rfl (by omega),
    Norm.sum_from (fun k : Fin 1920 => r (ix2 R k) * wr w (ix2 k d)) 1728 64 128 rfl (b := 1792) rfl (by omega)]
  simp only [wr_rkv, wr_decay, wr_out1, wr_rate, wr_out2, wr_gate, mul_zero, Finset.sum_const_zero, zero_add]

/-- The kernel's five products are the plain one. -/
theorem five_products : ∑ k : Fin 1536, q (ix2 R k) * wq w (ix2 k d) + ∑ k : Fin 128, f (ix2 R k) * wf w (ix2 k d)
      + ∑ k : Fin 1920, r (ix2 R k) * wr w (ix2 k d) + ∑ k : Fin 512, e (ix2 R k) * we w (ix2 k d) + ∑ k : Fin 3072, g (ix2 R k) * wg w (ix2 k d)
    = DxPlain.inner (DxPlain.cot q f r e g) w (ix2 R d) := by
  rw [plain_pieces, f_pieces, r_pieces]
  simp only [wq_apply, we_apply, wg_apply, add_assoc]

end Sums

/-! ### The points -/

theorem place : ∀ t : Fin cfg0.N,
    win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0] ∧ win0_7.index t = ![0, 0]
    ∧ win0_8.index t = ![0, 0] ∧ win0_9.index t = ![0, 0] ∧ win0_10.index t = ![t.val, 0] ∧ win0_11.index t = ![0, 0]
    ∧ win0_12.index t = ![t.val, 0] ∧ win0_13.index t = ![t.val, 0] ∧ win0_14.index t = ![0, 0] :=
  (by decide +kernel : ∀ t : Fin grid0.N,
    win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0] ∧ win0_7.index t = ![0, 0]
    ∧ win0_8.index t = ![0, 0] ∧ win0_9.index t = ![0, 0] ∧ win0_10.index t = ![t.val, 0] ∧ win0_11.index t = ![0, 0]
    ∧ win0_12.index t = ![t.val, 0] ∧ win0_13.index t = ![t.val, 0] ∧ win0_14.index t = ![0, 0])

variable (m : (ℓ : Loc nD τ sig) → Buf (Elt Ideal) ℓ) (c : Dev nD) (t : Fin cfg0.N)

/-- The row of the arrays that a row of a point's block is. -/
def rowOf (r : Fin 256) : Fin 4096 := ⟨t.val * 256 + r.val, by have := lt_of_lt_of_eq t.isLt N_0; omega⟩

section Reads

variable (r : Fin 256) (d : Fin 1024)

theorem q_read (k : Fin 1536) : (iblk m c 0 t : Vec Ideal S256x1536 .bf16) (ix2 r k) = argQ m c (ix2 (rowOf t r) k) := by
  blk_ext [iblk, V, place t, rowOf]

theorem f_read (k : Fin 128) : (iblk m c 1 t : Vec Ideal S256x128 .bf16) (ix2 r k) = argF m c (ix2 (rowOf t r) k) := by
  blk_ext [iblk, V, place t, rowOf]

theorem r_read (k : Fin 1920) : (iblk m c 2 t : Vec Ideal S256x1920 .bf16) (ix2 r k) = argR m c (ix2 (rowOf t r) k) := by
  blk_ext [iblk, V, place t, rowOf]

theorem e_read (k : Fin 512) : (iblk m c 3 t : Vec Ideal S256x512 .bf16) (ix2 r k) = argE m c (ix2 (rowOf t r) k) := by
  blk_ext [iblk, V, place t, rowOf]

theorem g_read (k : Fin 3072) : (iblk m c 4 t : Vec Ideal S256x3072 .bf16) (ix2 r k) = argG m c (ix2 (rowOf t r) k) := by
  blk_ext [iblk, V, place t, rowOf]

theorem x_read : (iblk m c 10 t : Vec Ideal S256x1024 .f32) (ix2 r d) = argX m c (ix2 (rowOf t r) d) := by
  blk_ext [iblk, V, place t, rowOf]

theorem n_read : (iblk m c 11 t : Vec Ideal S1x1024 .f32) (ix2 0 d) = argN m c (ix2 0 d) := by
  blk_ext [iblk, V, place t, rowOf]

theorem z_read : (iblk m c 12 t : Vec Ideal S256x1024 .f32) (ix2 r d) = argZ m c (ix2 (rowOf t r) d) := by
  blk_ext [iblk, V, place t, rowOf]

theorem wq_read (k : Fin 1536) : (iblk m c 5 t : Vec Ideal S1536x1024 .bf16) (ix2 k d) = wq (argW m c) (ix2 k d) := by
  rw [← wq_at]
  blk_ext [iblk, place t]

theorem wf_read (k : Fin 128) : (iblk m c 6 t : Vec Ideal S128x1024 .bf16) (ix2 k d) = wf (argW m c) (ix2 k d) := by
  rw [← wf_at]
  blk_ext [iblk, place t]

theorem wr_read (k : Fin 1920) : (iblk m c 7 t : Vec Ideal S1920x1024 .bf16) (ix2 k d) = wr (argW m c) (ix2 k d) := by
  rw [← wr_at]
  blk_ext [iblk, place t]

theorem we_read (k : Fin 512) : (iblk m c 8 t : Vec Ideal S512x1024 .bf16) (ix2 k d) = we (argW m c) (ix2 k d) := by
  rw [← we_at]
  blk_ext [iblk, place t]

theorem wg_read (k : Fin 3072) : (iblk m c 9 t : Vec Ideal S3072x1024 .bf16) (ix2 k d) = wg (argW m c) (ix2 k d) := by
  rw [← wg_at]
  blk_ext [iblk, place t]

end Reads

/-- The plain gradient of the norm's result, of the kernel's arguments. -/
def innerAll : Vec Ideal S4096x1024 .f32 := DxPlain.inner (DxPlain.cot (argQ m c) (argF m c) (argR m c) (argE m c) (argG m c)) (argW m c)

theorem inner_point (r : Fin 256) (d : Fin 1024) :
    k0_pay1 (iblk m c 0 t) (iblk m c 5 t) (iblk m c 1 t) (iblk m c 6 t) (iblk m c 2 t) (iblk m c 7 t) (iblk m c 3 t) (iblk m c 8 t)
      (iblk m c 4 t) (iblk m c 9 t) (ix2 r d) = innerAll m c (ix2 (rowOf t r) d) := by
  unfold innerAll
  rw [← five_products, pay1_apply]
  simp only [q_read, f_read, r_read, e_read, g_read, wq_read, wf_read, wr_read, we_read, wg_read]

/-! ### The result arrays -/

/-- What a point leaves in its block of the input's gradient. -/
theorem dx_point (r : Fin 256) (d : Fin 1024) : (outsAt0 m c t.val t.isLt).1 (ix2 r d)
    = DxPlain.dx (innerAll m c) (argX m c) (argN m c) (argZ m c) (ix2 (rowOf t r) d) := by
  have e : (outsAt0 m c t.val t.isLt).1 (ix2 r d) = k0_pay5 (k0_pay1 (iblk m c 0 t) (iblk m c 5 t) (iblk m c 1 t) (iblk m c 6 t)
      (iblk m c 2 t) (iblk m c 7 t) (iblk m c 3 t) (iblk m c 8 t) (iblk m c 4 t) (iblk m c 9 t)) (iblk m c 10 t) (iblk m c 11 t)
      (k0_pay2 (iblk m c 10 t)) (iblk m c 12 t) (ix2 r d) := by
    by_cases h : t.val % 16 = 0
    · rw [outsAt0_A m c t h]
      frame_out
    · rw [outsAt0_B m c t h]
      frame_out
  rw [e, pay5_apply, DxPlain.dx_apply]
  simp only [inner_point, x_read, n_read, z_read]

/-- One point's part of the gain's gradient. -/
def part (d : Fin 1024) : EReal :=
  ∑ r : Fin 256, Norm.gain (fun k => argX m c (ix2 (rowOf t r) k)) (fun k => innerAll m c (ix2 (rowOf t r) k)) d

theorem part_point (acc : Vec Ideal S1x1024 .f32) (d : Fin 1024) :
    k0_pay7 (k0_pay1 (iblk m c 0 t) (iblk m c 5 t) (iblk m c 1 t) (iblk m c 6 t) (iblk m c 2 t) (iblk m c 7 t) (iblk m c 3 t) (iblk m c 8 t)
      (iblk m c 4 t) (iblk m c 9 t)) (iblk m c 10 t) (k0_pay2 (iblk m c 10 t)) acc (ix2 0 d) = acc (ix2 0 d) + part m c t d := by
  rw [pay7_apply]
  simp only [inner_point, x_read]
  rfl

theorem gain_last (h : t.val + 1 = cfg0.N) (d : Fin 1024) : (outsAt0 m c t.val t.isLt).2 (ix2 0 d)
    = DxPlain.dgain (innerAll m c) (argX m c) (ix2 0 d) := by
  rw [Pipeline.eq_sum_fin_of_reset_step_apply_last (fun n h d => (outsAt0 m c n h).2 (ix2 0 d)) 16 (fun _ => 0) (part m c)
    (fun t h d => by rw [outsAt0_A m c t h]; frame_out; rw [part_point, pay6_apply])
    (fun t h d => by rw [outsAt0_B m c t h]; frame_out; rw [part_point]) (le_of_eq N_0) t h d, zero_add, DxPlain.dgain_apply]
  exact Fin.sum_mul_add_congr fun t r hl => rfl

theorem emb_13 (r : Fin 256) (d : Fin 1024) : (win0_13.blk t).view.emb (ix2 r d) = ix2 (rowOf t r) d := by
  blk_ext [place t, rowOf]

theorem emb_14 (d : Fin 1024) : (win0_14.blk t).view.emb (ix2 0 d) = ix2 0 d := by
  blk_ext [place t]

theorem arr_dx : (dats m 0 c).arrAt 13 cfg0.N = DxPlain.dx (innerAll m c) (argX m c) (argN m c) (argZ m c) := by
  refine (dats m 0 c).arrAt_eq_of_covers 13 _ (by decide +kernel) fun t hf y => ?_
  blk_simp
  rw [after0_13]
  change S256x1024.Idx at y
  idx_vars y
  rw [emb_13]
  exact dx_point m c t y0 y1

theorem arr_gain : (dats m 0 c).arrAt 14 cfg0.N = DxPlain.dgain (innerAll m c) (argX m c) := by
  refine (dats m 0 c).arrAt_eq_of_covers 14 _ (by decide +kernel) fun t hf y => ?_
  blk_simp
  rw [after0_14]
  change S1x1024.Idx at y
  idx_vars y
  obtain rfl : y0 = 0 := Subsingleton.elim _ _
  rw [emb_14]
  have ht := flush0_14 t |>.1 hf
  exact gain_last m c t (by have e : cfg0.N = 16 := N_0; have := lt_of_lt_of_eq t.isLt e; omega) y1

end Cert.Dx

end
-- ==== Proof.DownPlain.lean ====
/-
  The derivative of the plain gated product of the feed-forward layer, element by element.
-/
module

public import proofs.«01_k».proof.Proof.Gen.Reference3Ideal.Run
public import Idealize.ShloMosaic.Lib.Pointwise
public import Idealize.ShloMosaic.Lib.Claim
public import Idealize.ShloMosaic.Init

@[expose] public section

set_option maxRecDepth 16384

noncomputable section

namespace Cert.DownPlain

open Idealize.ShloMosaic Idealize.ShloMosaic.TcCoe Idealize.SL Idealize.SL.Sem Cert.Reference3Ideal Cert.Reference3Ideal.Gen

section Generic

variable {F : FTy → Type} [FloatOps F]
variable (d : Vec F S4096x1024 .bf16) (w : Vec F S2816x1024 .f32) (g u : Vec F S4096x2816 .bf16)

def ones : Vec F S4096x2816 .f32 := broadcastInDim S4096x2816 ![] bcast_S_S4096x2816 (constant S_ .f32 0x3F800000#32)

/-- The logistic function of the gate. -/
def sigs : Vec F S4096x2816 .f32 := Host.divf ones (addf ones (Host.exp (Host.negf (extf .f32 g bitsLt_bf16_f32))))

/-- The gradient of the product of the gated halves. -/
def inner : Vec F S4096x2816 .f32 := Host.dotGeneral dot_S4096x1024_S2816x1024_S4096x2816_1_1_0_0_n_n none (extf .f32 d bitsLt_bf16_f32) w

/-- The gradient of the gate. -/
def dgate : Vec F S4096x2816 .bf16 :=
  truncf .bf16 (addf (mulf (mulf (inner d w) (extf .f32 u bitsLt_bf16_f32)) (sigs g))
    (mulf (mulf (extf .f32 g bitsLt_bf16_f32) (mulf (inner d w) (extf .f32 u bitsLt_bf16_f32))) (mulf (sigs g) (subf ones (sigs g))))) bitsLt_bf16_f32

/-- The gradient of the other half. -/
def dup : Vec F S4096x2816 .bf16 := truncf .bf16 (mulf (mulf (extf .f32 g bitsLt_bf16_f32) (sigs g)) (inner d w)) bitsLt_bf16_f32

end Generic

/-- The logistic function, its denominator written out. -/
def sgm (g : EReal) : EReal := Ideal.div 1 (1 + Ideal.exp (-g))

variable (d : Vec Ideal S4096x1024 .bf16) (w : Vec Ideal S2816x1024 .f32) (g u : Vec Ideal S4096x2816 .bf16) (R : Fin 4096) (l : Fin 2816)

theorem dgate_apply : dgate d w g u (ix2 R l)
    = (∑ x, d (ix2 R x) * w (ix2 l x)) * u (ix2 R l) * sgm (g (ix2 R l))
      + g (ix2 R l) * ((∑ x, d (ix2 R x) * w (ix2 l x)) * u (ix2 R l)) * (sgm (g (ix2 R l)) * (1 - sgm (g (ix2 R l)))) := by
  pointwise [dgate, inner, sigs, ones]
  rfl

theorem dup_apply : dup d w g (ix2 R l) = g (ix2 R l) * sgm (g (ix2 R l)) * ∑ x, d (ix2 R x) * w (ix2 l x) := by
  pointwise [dup, inner, sigs, ones]
  rfl

end Cert.DownPlain

end
-- ==== Proof.Down.lean ====
/-
  The gradient through the gated product of the feed-forward layer, element by element.
-/
module

public import proofs.«01_k».proof.Proof.DownPlain
public import proofs.«01_k».proof.Proof.Gen.Kernel3Ideal.Value
public import Idealize.ShloMosaic.Lib.Claim
public import Idealize.ShloMosaic.Lib.StableHlo.ReadAt
public import Idealize.ShloMosaic.Lib.Pipeline.ValueKit

@[expose] public section

set_option maxRecDepth 16384

noncomputable section

namespace Cert.Down

open Idealize.ShloMosaic Idealize.ShloMosaic.TcCoe Idealize.SL Idealize.SL.Sem Cert.Kernel3Ideal Cert.Kernel3Ideal.Gen

open DownPlain (sgm)

theorem div_one_top : Ideal.div 1 ⊤ = 0 := by
  simp [Ideal.div]

theorem div_one_one : Ideal.div 1 1 = 1 := by
  have := Ideal.div_coe (one_ne_zero (α := ℝ)) 1
  simpa using this

/-- The derivative of the logistic function, in the two ways it is computed. -/
theorem sig_slope (g : EReal) : Ideal.div 1 ((1 + Ideal.exp (-g)) * (1 + Ideal.exp (-g))) * Ideal.exp (-g) = sgm g * (1 - sgm g) := by
  unfold sgm
  induction g using EReal.rec with
  | bot =>
    have e : (1 : EReal) + ⊤ = ⊤ := EReal.add_top_of_ne_bot (EReal.coe_ne_bot 1)
    simp [e, div_one_top]
  | top =>
    have e : (1 : EReal) - 1 = 0 := by
      rw [← EReal.coe_one, ← EReal.coe_sub, sub_self, EReal.coe_zero]
    simp [div_one_one, e]
  | coe g =>
    have hp : 0 < 1 + Real.exp (-g) := by positivity
    have e : (1 : EReal) + Ideal.exp (-(g : EReal)) = ((1 + Real.exp (-g) : ℝ) : EReal) := by
      rw [← EReal.coe_neg, Ideal.exp_coe, EReal.coe_add, EReal.coe_one]
    have e' : Ideal.exp (-(g : EReal)) = ((Real.exp (-g) : ℝ) : EReal) := by
      rw [← EReal.coe_neg, Ideal.exp_coe]
    rw [e, e', ← EReal.coe_mul, Ideal.div_coe (mul_pos hp hp).ne', Ideal.div_coe hp.ne', one_mul, one_mul, ← EReal.coe_one, ← EReal.coe_mul,
      ← EReal.coe_sub, ← EReal.coe_mul]
    congr 1
    field_simp
    ring

/-- The kernel's gradient of the gate, `k` being that of the gated half's product. -/
theorem gate_eq (k g : EReal) : k * Ideal.div 1 (1 + Ideal.exp (0 - g))
      + (0 - (0 - g * k * Ideal.div 1 ((1 + Ideal.exp (0 - g)) * (1 + Ideal.exp (0 - g)))) * Ideal.exp (0 - g))
    = k * sgm g + g * k * (sgm g * (1 - sgm g)) := by
  rw [← sig_slope, zero_sub, zero_sub, zero_sub, EReal.neg_mul, neg_neg, mul_assoc (g * k)]
  rfl

theorem pay6_apply (d : Vec Ideal S256x1024 .bf16) (w : Vec Ideal S2816x1024 .bf16) (g u : Vec Ideal S256x2816 .bf16) (r : Fin 256) (l : Fin 2816) :
    k0_pay6 d w g u (ix2 r l) = (∑ x, d (ix2 r x) * w (ix2 l x)) * u (ix2 r l) * sgm (g (ix2 r l))
      + g (ix2 r l) * ((∑ x, d (ix2 r x) * w (ix2 l x)) * u (ix2 r l)) * (sgm (g (ix2 r l)) * (1 - sgm (g (ix2 r l)))) := by
  pointwise [k0_pay6, k0_pay5, k0_pay4, k0_pay3, k0_pay2, k0_pay1]
  exact gate_eq _ _

theorem pay7_apply (d : Vec Ideal S256x1024 .bf16) (w : Vec Ideal S2816x1024 .bf16) (g : Vec Ideal S256x2816 .bf16) (r : Fin 256) (l : Fin 2816) :
    k0_pay7 d w g (ix2 r l) = g (ix2 r l) * sgm (g (ix2 r l)) * ∑ x, d (ix2 r x) * w (ix2 l x) := by
  pointwise [k0_pay7, k0_pay5, k0_pay4, k0_pay3, k0_pay2, k0_pay1]
  rw [zero_sub]
  rfl

variable (m : (ℓ : Loc nD τ sig) → Buf (Elt Ideal) ℓ) (c : Dev nD) (t : Fin cfg0.N)

/-- The arguments. -/
abbrev argD : Vec Ideal S4096x1024 .bf16 := m ((c : Thread nD τ).loc main_arg0)
abbrev argW : Vec Ideal S2816x1024 .f32 := m ((c : Thread nD τ).loc main_arg1)
abbrev argG : Vec Ideal S4096x2816 .bf16 := m ((c : Thread nD τ).loc main_arg2)
abbrev argU : Vec Ideal S4096x2816 .bf16 := m ((c : Thread nD τ).loc main_arg3)

theorem w_at : (V m c main_v0 : Vec Ideal S2816x1024 .bf16) = argW m c := by
  unfold V
  after_reads_simp
  rfl

theorem place : ∀ t : Fin cfg0.N,
    win0_0.index t = ![t.val, 0] ∧ win0_1.index t = ![0, 0] ∧ win0_2.index t = ![t.val, 0] ∧ win0_3.index t = ![t.val, 0]
    ∧ win0_4.index t = ![t.val, 0] ∧ win0_5.index t = ![t.val, 0] :=
  (by decide +kernel : ∀ t : Fin grid0.N,
    win0_0.index t = ![t.val, 0] ∧ win0_1.index t = ![0, 0] ∧ win0_2.index t = ![t.val, 0] ∧ win0_3.index t = ![t.val, 0]
    ∧ win0_4.index t = ![t.val, 0] ∧ win0_5.index t = ![t.val, 0])

/-- The row of the arrays that a row of a point's block is. -/
def rowOf (r : Fin 256) : Fin 4096 := ⟨t.val * 256 + r.val, by have := lt_of_lt_of_eq t.isLt N_0; omega⟩

theorem d_read (r : Fin 256) (k : Fin 1024) : (iblk m c 0 t : Vec Ideal S256x1024 .bf16) (ix2 r k) = argD m c (ix2 (rowOf t r) k) := by
  blk_ext [iblk, V, place t, rowOf]

theorem w_read (l : Fin 2816) (k : Fin 1024) : (iblk m c 1 t : Vec Ideal S2816x1024 .bf16) (ix2 l k) = argW m c (ix2 l k) := by
  rw [← w_at]
  blk_ext [iblk, place t]

theorem g_read (r : Fin 256) (l : Fin 2816) : (iblk m c 2 t : Vec Ideal S256x2816 .bf16) (ix2 r l) = argG m c (ix2 (rowOf t r) l) := by
  blk_ext [iblk, V, place t, rowOf]

theorem u_read (r : Fin 256) (l : Fin 2816) : (iblk m c 3 t : Vec Ideal S256x2816 .bf16) (ix2 r l) = argU m c (ix2 (rowOf t r) l) := by
  blk_ext [iblk, V, place t, rowOf]

theorem emb_4 (r : Fin 256) (l : Fin 2816) : (win0_4.blk t).view.emb (ix2 r l) = ix2 (rowOf t r) l := by
  blk_ext [place t, rowOf]

theorem emb_5 (r : Fin 256) (l : Fin 2816) : (win0_5.blk t).view.emb (ix2 r l) = ix2 (rowOf t r) l := by
  blk_ext [place t, rowOf]

theorem arr_dgate : (dats m 0 c).arrAt 4 cfg0.N = DownPlain.dgate (argD m c) (argW m c) (argG m c) (argU m c) := by
  refine (dats m 0 c).arrAt_eq_of_covers 4 _ (by decide +kernel) fun t hf y => ?_
  blk_simp
  rw [after0_4]
  change S256x2816.Idx at y
  idx_vars y
  rw [emb_4]
  have e : out0_4 (iblk m c 0 t) (iblk m c 1 t) (iblk m c 2 t) (iblk m c 3 t)
      = k0_pay6 (iblk m c 0 t) (iblk m c 1 t) (iblk m c 2 t) (iblk m c 3 t) := by
    frame_out
  rw [e]
  refine (pay6_apply _ _ _ _ y0 y1).trans ?_
  rw [DownPlain.dgate_apply]
  simp only [d_read, w_read, g_read, u_read]

theorem arr_dup : (dats m 0 c).arrAt 5 cfg0.N = DownPlain.dup (argD m c) (argW m c) (argG m c) := by
  refine (dats m 0 c).arrAt_eq_of_covers 5 _ (by decide +kernel) fun t hf y => ?_
  blk_simp
  rw [after0_5]
  change S256x2816.Idx at y
  idx_vars y
  rw [emb_5]
  have e : out0_5 (iblk m c 0 t) (iblk m c 1 t) (iblk m c 2 t) (iblk m c 3 t) = k0_pay7 (iblk m c 0 t) (iblk m c 1 t) (iblk m c 2 t) := by
    frame_out
  rw [e]
  refine (pay7_apply _ _ _ y0 y1).trans ?_
  rw [DownPlain.dup_apply]
  simp only [d_read, w_read, g_read]

end Cert.Down

end
-- ==== Proof.Up.lean ====
/-
  The gradient through the residual step between the attention and the feed-forward layer: what one grid point computes,
  element by element.
-/
module

public import proofs.«01_k».proof.Proof.Norm
public import proofs.«01_k».proof.Proof.Gen.Kernel4Ideal.Value

@[expose] public section

set_option maxRecDepth 16384

noncomputable section

namespace Cert.Up

open Idealize.ShloMosaic Idealize.ShloMosaic.TcCoe Idealize.SL Idealize.SL.Sem Cert.Kernel4Ideal Cert.Kernel4Ideal.Gen

section Point

variable (a u h y x v z : Vec Ideal S256x1024 .f32) (n p : Vec Ideal S1x1024 .f32) (r : Fin 256) (d : Fin 1024)

theorem pay5_apply (c : Vec Ideal S256x2816 .bf16) (w : Vec Ideal S2816x1024 .bf16) :
    k0_pay5 c w z (ix2 r d) = ∑ k : Fin 2816, c (ix2 r k) * w (ix2 k d) + z (ix2 r d) := by
  pointwise [k0_pay5]

theorem pay10_apply : k0_pay10 y x p (ix2 r d)
    = x (ix2 r d) + y (ix2 r d) * Ideal.rsqrt (Norm.spread (fun k => y (ix2 r k))) * p (ix2 0 d) := by
  pointwise [k0_pay10, k0_pay9, k0_pay7, k0_pay6]
  rfl

/-- The gradient of the residual stream at a point. -/
def dhidPoint : FVec Ideal S256x1024 .f32 := k0_pay16 u n (k0_pay10 y x p) (k0_pay12 y x p) (k0_pay13 y x p) k0_pay14 a

theorem dhidPoint_apply : dhidPoint a u y x n p (ix2 r d)
    = a (ix2 r d) + Norm.row (fun k => k0_pay10 y x p (ix2 r k)) (fun k => u (ix2 r k)) (fun k => n (ix2 0 k)) d := by
  unfold Norm.row
  rw [← add_assoc, ← add_assoc]
  pointwise [dhidPoint, k0_pay16, k0_pay14, k0_pay13, k0_pay12, k0_pay11]
  rfl

theorem pay15_apply : k0_pay15 u (k0_pay10 y x p) (k0_pay12 y x p) (ix2 0 d)
    = ∑ r : Fin 256, Norm.gain (fun k => k0_pay10 y x p (ix2 r k)) (fun k => u (ix2 r k)) d := by
  pointwise [k0_pay15, k0_pay12, k0_pay11]
  rfl

theorem pay18_apply : k0_pay18 u n (k0_pay9 y) (k0_pay10 y x p) (k0_pay12 y x p) (k0_pay13 y x p) k0_pay14 a (ix2 0 d)
    = ∑ r : Fin 256, Norm.gain (fun k => y (ix2 r k)) (fun k => dhidPoint a u y x n p (ix2 r k)) d := by
  pointwise [k0_pay18, k0_pay17, k0_pay9, k0_pay7, k0_pay6]
  rfl

theorem pay19_apply : k0_pay19 u y p n (k0_pay7 y) (k0_pay8 y) (k0_pay10 y x p) (k0_pay12 y x p) (k0_pay13 y x p) k0_pay14 a (ix2 r d)
    = Norm.row (fun k => y (ix2 r k)) (fun k => dhidPoint a u y x n p (ix2 r k)) (fun k => p (ix2 0 k)) d := by
  pointwise [k0_pay19, k0_pay17, k0_pay8, k0_pay7, k0_pay6]
  rfl

theorem pay1_apply : k0_pay1 (F := Ideal) (ix2 0 d) = 0 := by
  pointwise [k0_pay1]

theorem pay2_apply : k0_pay2 (F := Ideal) (ix2 0 d) = 0 := by
  pointwise [k0_pay2]

theorem pay3_apply : k0_pay3 n p (ix2 0 d) = p (ix2 0 d) + n (ix2 0 d) := by
  pointwise [k0_pay3]

theorem pay4_apply : k0_pay4 n p (ix2 0 d) = p (ix2 0 d) + n (ix2 0 d) := by
  pointwise [k0_pay4]

end Point

end Cert.Up

end
-- ==== Proof.UpPlain.lean ====
/-
  The derivative of the plain residual step between the attention and the feed-forward layer, with its two norms, element by element.
-/
module

public import proofs.«01_k».proof.Proof.Norm
public import proofs.«01_k».proof.Proof.Gen.Reference4Ideal.Run

@[expose] public section

set_option maxRecDepth 16384

noncomputable section

namespace Cert.UpPlain

open Idealize.ShloMosaic Idealize.ShloMosaic.TcCoe Idealize.SL Idealize.SL.Sem Cert.Reference4Ideal Cert.Reference4Ideal.Gen

section Generic

variable {F : FTy → Type} [FloatOps F]

/-- The mean of each row's squares, plus the norm's small constant. -/
def spreads (x : Vec F S4096x1024 .f32) : Vec F S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- A gain in every row. -/
def everyRow (n : Vec F S1x1024 .f32) : Vec F S4096x1024 .f32 := broadcastInDim S4096x1024 ![0, 1] bcast_S1x1024_S4096x1024_0_1 n

/-- A row's number in every column. -/
def everyCol (a : Vec F S4096x1 .f32) : Vec F S4096x1024 .f32 := broadcastInDim S4096x1024 ![0, 1] bcast_S4096x1_S4096x1024_0_1 a

/-- The residual stream after the attention: the input plus the norm of the attention's result. -/
def hidden (y x : Vec F S4096x1024 .f32) (p : Vec F S1x1024 .f32) : Vec F S4096x1024 .f32 :=
  addf x (mulf (mulf y (everyCol (Host.rsqrt (spreads y)))) (everyRow p))

/-- The gradient of the second norm's result. -/
def inner (d : Vec F S4096x2816 .bf16) (w : Vec F S1024x2816 .f32) (z : Vec F S4096x1024 .f32) : Vec F S4096x1024 .f32 :=
  addf z (Host.dotGeneral dot_S4096x2816_S1024x2816_S4096x1024_1_1_0_0_n_n none (extf .f32 d bitsLt_bf16_f32) w)

/-- What the mean's derivative puts before each element of a row. -/
def pulls (x u : Vec F S4096x1024 .f32) (n : Vec F S1x1024 .f32) : Vec F S4096x1024 .f32 :=
  broadcastInDim S4096x1024 ![0] bcast_S4096_S4096x1024_0 (Host.reduceAdd (Host.divf (mulf (shapeCast _ (Host.reduceAdd (mulf x (mulf u (everyRow n))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (spreads x)) (spreads x)))) (broadcastInDim S4096x1 ![] bcast_S_S4096x1 (constant S_ .f32 0x44800000#32))) (constant S_ .f32 0x00000000#32) reducesTo_S4096x1_S4096_d1 h_S_)

/-- The gradient of the residual stream, `a` being the part that comes past the second norm. -/
def dhid (a u h : Vec F S4096x1024 .f32) (n : Vec F S1x1024 .f32) : Vec F S4096x1024 .f32 :=
  addf (addf (addf a (mulf (mulf u (everyRow n)) (everyCol (Host.rsqrt (spreads h))))) (mulf h (pulls h u n))) (mulf (pulls h u n) h)

/-- The gradient of the attention's result. -/
def dy (v y : Vec F S4096x1024 .f32) (p : Vec F S1x1024 .f32) : Vec F S4096x1024 .bf16 :=
  truncf .bf16 (addf (addf (mulf (mulf v (everyRow p)) (everyCol (Host.rsqrt (spreads y)))) (mulf y (pulls y v p))) (mulf (pulls y v p) y)) bitsLt_bf16_f32

/-- The gradient of a gain. -/
def dgain (u x : Vec F S4096x1024 .f32) : Vec F S1x1024 .f32 :=
  shapeCast _ (Host.reduceAdd (mulf (mulf x (everyCol (Host.rsqrt (spreads x)))) u) (constant S_ .f32 0x00000000#32) reducesTo_S4096x1024_S1024_d0 h_S_) shapeCasts_S1024_S1x1024

variable (m : (ℓ : Loc nD τ sig) → Buf (Elt F) ℓ) (c : Dev nD)

/-- The residual stream and the gradients at both norms' results, from the program's arguments. -/
def hiddenAt : Vec F S4096x1024 .f32 := hidden (m ((c.tc : Thread nD τ).loc main_arg2)) (m ((c.tc : Thread nD τ).loc main_arg3)) (m ((c.tc : Thread nD τ).loc main_arg4))
def innerAt : Vec F S4096x1024 .f32 := inner (m ((c.tc : Thread nD τ).loc main_arg0)) (m ((c.tc : Thread nD τ).loc main_arg1)) (m ((c.tc : Thread nD τ).loc main_arg7))
def dhidAt : Vec F S4096x1024 .f32 := dhid (m ((c.tc : Thread nD τ).loc main_arg6)) (innerAt m c) (hiddenAt m c) (m ((c.tc : Thread nD τ).loc main_arg5))

theorem out_dhid : Value.res_main_v54 m c = dhidAt m c := rfl

theorem out_dpost : Value.res_main_v58 m c = dgain (shapeCast S4096x1024 (dhidAt m c) shapeCasts_S4096x1024_S4096x1024) (m ((c.tc : Thread nD τ).loc main_arg2)) := rfl

theorem out_dy : Value.res_main_v75 m c = dy (shapeCast S4096x1024 (dhidAt m c) shapeCasts_S4096x1024_S4096x1024) (m ((c.tc : Thread nD τ).loc main_arg2)) (m ((c.tc : Thread nD τ).loc main_arg4)) := rfl

end Generic

theorem same (x : Vec Ideal S4096x1024 .f32) : shapeCast S4096x1024 x shapeCasts_S4096x1024_S4096x1024 = x := by
  funext i
  idx_vars i
  pointwise []

section Apply

variable (a u v x y z : Vec Ideal S4096x1024 .f32) (n p : Vec Ideal S1x1024 .f32) (R : Fin 4096) (d : Fin 1024)

theorem hidden_apply : hidden y x p (ix2 R d)
    = x (ix2 R d) + y (ix2 R d) * Ideal.rsqrt (Norm.spread (fun k => y (ix2 R k))) * p (ix2 0 d) := by
  pointwise [hidden, everyCol, everyRow, spreads]
  rfl

theorem inner_apply (c : Vec Ideal S4096x2816 .bf16) (w : Vec Ideal S1024x2816 .f32) :
    inner c w z (ix2 R d) = z (ix2 R d) + ∑ k : Fin 2816, c (ix2 R k) * w (ix2 d k) := by
  pointwise [inner]

theorem dhid_apply : dhid a u x n (ix2 R d)
    = a (ix2 R d) + Norm.row (fun k => x (ix2 R k)) (fun k => u (ix2 R k)) (fun k => n (ix2 0 k)) d := by
  unfold Norm.row
  rw [← add_assoc, ← add_assoc]
  pointwise [dhid, pulls, everyCol, everyRow, spreads]
  rfl

theorem dy_apply : dy v y p (ix2 R d) = Norm.row (fun k => y (ix2 R k)) (fun k => v (ix2 R k)) (fun k => p (ix2 0 k)) d := by
  pointwise [dy, pulls, everyCol, everyRow, spreads]
  rfl

theorem dgain_apply : dgain u x (ix2 0 d) = ∑ R : Fin 4096, Norm.gain (fun k => x (ix2 R k)) (fun k => u (ix2 R k)) d := by
  pointwise [dgain, everyCol, spreads]
  rfl

end Apply

end Cert.UpPlain

end
-- ==== Proof.UpWhole.lean ====
/-
  The gradient through the residual step between the attention and the feed-forward layer: the kernel's four result arrays
  are the plain ones.
-/
module

public import proofs.«01_k».proof.Proof.Up
public import proofs.«01_k».proof.Proof.UpPlain

@[expose] public section

set_option maxRecDepth 16384

noncomputable section

namespace Cert.Up

open Idealize.ShloMosaic Idealize.ShloMosaic.TcCoe Idealize.SL Idealize.SL.Sem Cert.Kernel4Ideal Cert.Kernel4Ideal.Gen

variable (m : (ℓ : Loc nD τ sig) → Buf (Elt Ideal) ℓ) (c : Dev nD) (t : Fin cfg0.N)

/-- The arguments. -/
abbrev argD : Vec Ideal S4096x2816 .bf16 := m ((c : Thread nD τ).loc main_arg0)
abbrev argW : Vec Ideal S1024x2816 .f32 := m ((c : Thread nD τ).loc main_arg1)
abbrev argY : Vec Ideal S4096x1024 .f32 := m ((c : Thread nD τ).loc main_arg2)
abbrev argX : Vec Ideal S4096x1024 .f32 := m ((c : Thread nD τ).loc main_arg3)
abbrev argP : Vec Ideal S1x1024 .f32 := m ((c : Thread nD τ).loc main_arg4)
abbrev argN : Vec Ideal S1x1024 .f32 := m ((c : Thread nD τ).loc main_arg5)
abbrev argA : Vec Ideal S4096x1024 .f32 := m ((c : Thread nD τ).loc main_arg6)
abbrev argZ : Vec Ideal S4096x1024 .f32 := m ((c : Thread nD τ).loc main_arg7)

/-- The weight, its columns turned into rows. -/
def turned (w : FVec Ideal S1024x2816 .f32) : FVec Ideal S2816x1024 .bf16 :=
  truncf .bf16 (transpose S2816x1024 [1, 0] w transposes_S1024x2816_S2816x1024_1_0) bitsLt_bf16_f32

theorem turned_apply (w : FVec Ideal S1024x2816 .f32) (k : Fin 2816) (d : Fin 1024) : turned w (ix2 k d) = w (ix2 d k) := by
  pointwise [turned]

theorem w_at : V m c main_v1 = turned (argW m c) := by
  unfold V
  after_reads_simp
  rfl

theorem place : ∀ t : Fin cfg0.N,
    win0_0.index t = ![t.val, 0] ∧ win0_1.index t = ![0, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0]
    ∧ win0_8.index t = ![t.val, 0] ∧ win0_9.index t = ![t.val, 0] ∧ win0_10.index t = ![0, 0] ∧ win0_11.index t = ![0, 0] :=
  (by decide +kernel : ∀ t : Fin grid0.N,
    win0_0.index t = ![t.val, 0] ∧ win0_1.index t = ![0, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0]
    ∧ win0_8.index t = ![t.val, 0] ∧ win0_9.index t = ![t.val, 0] ∧ win0_10.index t = ![0, 0] ∧ win0_11.index t = ![0, 0])

/-- The row of the arrays that a row of a point's block is. -/
def rowOf (r : Fin 256) : Fin 4096 := ⟨t.val * 256 + r.val, by have := lt_of_lt_of_eq t.isLt N_0; omega⟩

section Reads

variable (r : Fin 256) (d : Fin 1024) (k : Fin 2816)

theorem d_read : (iblk m c 0 t : Vec Ideal S256x2816 .bf16) (ix2 r k) = argD m c (ix2 (rowOf t r) k) := by
  blk_ext [iblk, V, place t, rowOf]

theorem w_read : (iblk m c 1 t : Vec Ideal S2816x1024 .bf16) (ix2 k d) = argW m c (ix2 d k) := by
  rw [← turned_apply (argW m c) k d, ← w_at]
  blk_ext [iblk, place t]

theorem y_read : (iblk m c 2 t : Vec Ideal S256x1024 .f32) (ix2 r d) = argY m c (ix2 (rowOf t r) d) := by
  blk_ext [iblk, V, place t, rowOf]

theorem x_read : (iblk m c 3 t : Vec Ideal S256x1024 .f32) (ix2 r d) = argX m c (ix2 (rowOf t r) d) := by
  blk_ext [iblk, V, place t, rowOf]

theorem p_read : (iblk m c 4 t : Vec Ideal S1x1024 .f32) (ix2 0 d) = argP m c (ix2 0 d) := by
  blk_ext [iblk, V, place t]

theorem n_read : (iblk m c 5 t : Vec Ideal S1x1024 .f32) (ix2 0 d) = argN m c (ix2 0 d) := by
  blk_ext [iblk, V, place t]

theorem a_read : (iblk m c 6 t : Vec Ideal S256x1024 .f32) (ix2 r d) = argA m c (ix2 (rowOf t r) d) := by
  blk_ext [iblk, V, place t, rowOf]

theorem z_read : (iblk m c 7 t : Vec Ideal S256x1024 .f32) (ix2 r d) = argZ m c (ix2 (rowOf t r) d) := by
  blk_ext [iblk, V, place t, rowOf]

end Reads

/-! ### One point, in the arrays of the plain program -/

/-- The residual stream and the gradients at both norms' results, of the kernel's arguments. -/
def hiddenAll : Vec Ideal S4096x1024 .f32 := UpPlain.hidden (argY m c) (argX m c) (argP m c)
def innerAll : Vec Ideal S4096x1024 .f32 := UpPlain.inner (argD m c) (argW m c) (argZ m c)
def dhidAll : Vec Ideal S4096x1024 .f32 := UpPlain.dhid (argA m c) (innerAll m c) (hiddenAll m c) (argN m c)

/-- A point's blocks of the three. -/
def uBlk : Vec Ideal S256x1024 .f32 := k0_pay5 (iblk m c 0 t) (iblk m c 1 t) (iblk m c 7 t)
def hBlk : Vec Ideal S256x1024 .f32 := k0_pay10 (iblk m c 2 t) (iblk m c 3 t) (iblk m c 4 t)
def dhBlk : Vec Ideal S256x1024 .f32 := dhidPoint (iblk m c 6 t) (uBlk m c t) (iblk m c 2 t) (iblk m c 3 t) (iblk m c 5 t) (iblk m c 4 t)

theorem uBlk_read (r : Fin 256) (d : Fin 1024) : uBlk m c t (ix2 r d) = innerAll m c (ix2 (rowOf t r) d) := by
  unfold innerAll
  rw [UpPlain.inner_apply, add_comm]
  refine (pay5_apply _ r d _ _).trans ?_
  simp only [d_read, w_read, z_read]

theorem hBlk_read (r : Fin 256) (d : Fin 1024) : hBlk m c t (ix2 r d) = hiddenAll m c (ix2 (rowOf t r) d) := by
  unfold hiddenAll
  rw [UpPlain.hidden_apply]
  refine (pay10_apply _ _ _ r d).trans ?_
  simp only [y_read, x_read, p_read]

theorem dhBlk_read (r : Fin 256) (d : Fin 1024) : dhBlk m c t (ix2 r d) = dhidAll m c (ix2 (rowOf t r) d) := by
  unfold dhidAll
  rw [UpPlain.dhid_apply]
  refine (dhidPoint_apply _ _ _ _ _ _ r d).trans ?_
  have e : ∀ k, k0_pay10 (iblk m c 2 t) (iblk m c 3 t) (iblk m c 4 t) (ix2 r k) = hiddenAll m c (ix2 (rowOf t r) k) := hBlk_read m c t r
  simp only [e, a_read, uBlk_read, n_read]

/-- A point's parts of the two gains' gradients. -/
def postPart (d : Fin 1024) : EReal :=
  ∑ r : Fin 256, Norm.gain (fun k => argY m c (ix2 (rowOf t r) k)) (fun k => dhidAll m c (ix2 (rowOf t r) k)) d
def prePart (d : Fin 1024) : EReal :=
  ∑ r : Fin 256, Norm.gain (fun k => hiddenAll m c (ix2 (rowOf t r) k)) (fun k => innerAll m c (ix2 (rowOf t r) k)) d

theorem postPart_point (acc : Vec Ideal S1x1024 .f32) (d : Fin 1024) :
    k0_pay3 (k0_pay18 (uBlk m c t) (iblk m c 5 t) (k0_pay9 (iblk m c 2 t)) (hBlk m c t)
      (k0_pay12 (iblk m c 2 t) (iblk m c 3 t) (iblk m c 4 t)) (k0_pay13 (iblk m c 2 t) (iblk m c 3 t) (iblk m c 4 t)) k0_pay14 (iblk m c 6 t))
      acc (ix2 0 d) = acc (ix2 0 d) + postPart m c t d := by
  refine (pay3_apply _ _ d).trans (congrArg _ ?_)
  refine (pay18_apply _ _ _ _ _ _ d).trans ?_
  have e : ∀ r k, dhidPoint (iblk m c 6 t) (uBlk m c t) (iblk m c 2 t) (iblk m c 3 t) (iblk m c 5 t) (iblk m c 4 t) (ix2 r k)
    = dhidAll m c (ix2 (rowOf t r) k) := dhBlk_read m c t
  simp only [e, y_read]
  rfl

theorem prePart_point (acc : Vec Ideal S1x1024 .f32) (d : Fin 1024) :
    k0_pay4 (k0_pay15 (uBlk m c t) (hBlk m c t) (k0_pay12 (iblk m c 2 t) (iblk m c 3 t) (iblk m c 4 t))) acc (ix2 0 d)
      = acc (ix2 0 d) + prePart m c t d := by
  refine (pay4_apply _ _ d).trans (congrArg _ ?_)
  refine (pay15_apply _ _ _ _ d).trans ?_
  have e : ∀ r k, k0_pay10 (iblk m c 2 t) (iblk m c 3 t) (iblk m c 4 t) (ix2 r k) = hiddenAll m c (ix2 (rowOf t r) k) := hBlk_read m c t
  simp only [e, uBlk_read]
  rfl

/-! ### The result arrays -/

theorem dy_point (r : Fin 256) (d : Fin 1024) : (outsAt0 m c t.val t.isLt).1 (ix2 r d)
    = UpPlain.dy (dhidAll m c) (argY m c) (argP m c) (ix2 (rowOf t r) d) := by
  have e : (outsAt0 m c t.val t.isLt).1 (ix2 r d) = k0_pay19 (uBlk m c t) (iblk m c 2 t) (iblk m c 4 t) (iblk m c 5 t) (k0_pay7 (iblk m c 2 t))
      (k0_pay8 (iblk m c 2 t)) (k0_pay10 (iblk m c 2 t) (iblk m c 3 t) (iblk m c 4 t)) (k0_pay12 (iblk m c 2 t) (iblk m c 3 t) (iblk m c 4 t))
      (k0_pay13 (iblk m c 2 t) (iblk m c 3 t) (iblk m c 4 t)) k0_pay14 (iblk m c 6 t) (ix2 r d) := by
    by_cases h : t.val % 16 = 0
    · rw [outsAt0_A m c t h]
      frame_out
      rfl
    · rw [outsAt0_B m c t h]
      frame_out
      rfl
  rw [e, UpPlain.dy_apply]
  refine (pay19_apply _ _ _ _ _ _ r d).trans ?_
  have e : ∀ k, dhidPoint (iblk m c 6 t) (uBlk m c t) (iblk m c 2 t) (iblk m c 3 t) (iblk m c 5 t) (iblk m c 4 t) (ix2 r k)
    = dhidAll m c (ix2 (rowOf t r) k) := dhBlk_read m c t r
  simp only [e, y_read, p_read]

theorem dx_point (r : Fin 256) (d : Fin 1024) : (outsAt0 m c t.val t.isLt).2.1 (ix2 r d) = dhidAll m c (ix2 (rowOf t r) d) := by
  rw [← dhBlk_read]
  by_cases h : t.val % 16 = 0
  · rw [outsAt0_A m c t h]
    frame_out
    rfl
  · rw [outsAt0_B m c t h]
    frame_out
    rfl

theorem post_last (h : t.val + 1 = cfg0.N) (d : Fin 1024) : (outsAt0 m c t.val t.isLt).2.2.1 (ix2 0 d)
    = UpPlain.dgain (dhidAll m c) (argY m c) (ix2 0 d) := by
  rw [Pipeline.eq_sum_fin_of_reset_step_apply_last (fun n h d => (outsAt0 m c n h).2.2.1 (ix2 0 d)) 16 (fun _ => 0) (postPart m c)
    (fun t h d => by rw [outsAt0_A m c t h]; frame_out; exact (postPart_point m c t _ d).trans (by rw [pay1_apply]))
    (fun t h d => by rw [outsAt0_B m c t h]; frame_out; exact postPart_point m c t _ d) (le_of_eq N_0) t h d, zero_add, UpPlain.dgain_apply]
  exact Fin.sum_mul_add_congr fun t r hl => rfl

theorem pre_last (h : t.val + 1 = cfg0.N) (d : Fin 1024) : (outsAt0 m c t.val t.isLt).2.2.2 (ix2 0 d)
    = UpPlain.dgain (innerAll m c) (hiddenAll m c) (ix2 0 d) := by
  rw [Pipeline.eq_sum_fin_of_reset_step_apply_last (fun n h d => (outsAt0 m c n h).2.2.2 (ix2 0 d)) 16 (fun _ => 0) (prePart m c)
    (fun t h d => by rw [outsAt0_A m c t h]; frame_out; exact (prePart_point m c t _ d).trans (by rw [pay2_apply]))
    (fun t h d => by rw [outsAt0_B m c t h]; frame_out; exact prePart_point m c t _ d) (le_of_eq N_0) t h d, zero_add, UpPlain.dgain_apply]
  exact Fin.sum_mul_add_congr fun t r hl => rfl

theorem emb_8 (r : Fin 256) (d : Fin 1024) : (win0_8.blk t).view.emb (ix2 r d) = ix2 (rowOf t r) d := by
  blk_ext [place t, rowOf]

theorem emb_9 (r : Fin 256) (d : Fin 1024) : (win0_9.blk t).view.emb (ix2 r d) = ix2 (rowOf t r) d := by
  blk_ext [place t, rowOf]

theorem emb_10 (d : Fin 1024) : (win0_10.blk t).view.emb (ix2 0 d) = ix2 0 d := by
  blk_ext [place t]

theorem emb_11 (d : Fin 1024) : (win0_11.blk t).view.emb (ix2 0 d) = ix2 0 d := by
  blk_ext [place t]

theorem arr_dy : (dats m 0 c).arrAt 8 cfg0.N = UpPlain.dy (dhidAll m c) (argY m c) (argP m c) := by
  refine (dats m 0 c).arrAt_eq_of_covers 8 _ (by decide +kernel) fun t hf y => ?_
  blk_simp
  rw [after0_8]
  change S256x1024.Idx at y
  idx_vars y
  rw [emb_8]
  exact dy_point m c t y0 y1

theorem arr_dx : (dats m 0 c).arrAt 9 cfg0.N = dhidAll m c := by
  refine (dats m 0 c).arrAt_eq_of_covers 9 _ (by decide +kernel) fun t hf y => ?_
  blk_simp
  rw [after0_9]
  change S256x1024.Idx at y
  idx_vars y
  rw [emb_9]
  exact dx_point m c t y0 y1

theorem arr_post : (dats m 0 c).arrAt 10 cfg0.N = UpPlain.dgain (dhidAll m c) (argY m c) := by
  refine (dats m 0 c).arrAt_eq_of_covers 10 _ (by decide +kernel) fun t hf y => ?_
  blk_simp
  rw [after0_10]
  change S1x1024.Idx at y
  idx_vars y
  obtain rfl : y0 = 0 := Subsingleton.elim _ _
  rw [emb_10]
  have ht := flush0_10 t |>.1 hf
  exact post_last m c t (by have e : cfg0.N = 16 := N_0; have := lt_of_lt_of_eq t.isLt e; omega) y1

theorem arr_pre : (dats m 0 c).arrAt 11 cfg0.N = UpPlain.dgain (innerAll m c) (hiddenAll m c) := by
  refine (dats m 0 c).arrAt_eq_of_covers 11 _ (by decide +kernel) fun t hf y => ?_
  blk_simp
  rw [after0_11]
  change S1x1024.Idx at y
  idx_vars y
  obtain rfl : y0 = 0 := Subsingleton.elim _ _
  rw [emb_11]
  have ht := flush0_11 t |>.1 hf
  exact pre_last m c t (by have e : cfg0.N = 16 := N_0; have := lt_of_lt_of_eq t.isLt e; omega) y1

end Cert.Up

end
-- ==== Proof.FfnDw.lean ====
/-
  The gradient of a weight of the feed-forward layer: the product of the layer's transposed rows with the gradient at its result.
-/
module

public import proofs.«01_k».proof.Proof.Norm
public import proofs.«01_k».proof.Proof.Gen.Kernel5Ideal.Value
public import proofs.«01_k».proof.Proof.Gen.Reference5Ideal.Run

@[expose] public section

set_option maxRecDepth 16384

noncomputable section

namespace Cert.FfnDw.Plain

open Idealize.ShloMosaic Idealize.ShloMosaic.TcCoe Idealize.SL Idealize.SL.Sem Cert.Reference5Ideal Cert.Reference5Ideal.Gen

/-- The weight's gradient. -/
def dw {F : FTy → Type} [FloatOps F] (h : Vec F S4096x2816 .bf16) (d : Vec F S4096x1024 .bf16) : Vec F S2816x1024 .bf16 :=
  truncf .bf16 (transpose S2816x1024 [1, 0] (Host.dotGeneral dot_S4096x1024_S4096x2816_S1024x2816_0_0_1_1_n_n none (extf .f32 d bitsLt_bf16_f32)
    (extf .f32 h bitsLt_bf16_f32)) transposes_S1024x2816_S2816x1024_1_0) bitsLt_bf16_f32

theorem dw_apply (h : Vec Ideal S4096x2816 .bf16) (d : Vec Ideal S4096x1024 .bf16) (l : Fin 2816) (k : Fin 1024) :
    dw h d (ix2 l k) = ∑ R, h (ix2 R l) * d (ix2 R k) := by
  simp only [mul_comm (h _)]
  pointwise [dw]

end Cert.FfnDw.Plain

namespace Cert.FfnDw

open Idealize.ShloMosaic Idealize.ShloMosaic.TcCoe Idealize.SL Idealize.SL.Sem Cert.Kernel5Ideal Cert.Kernel5Ideal.Gen

theorem pay1_apply (l : Fin 2816) (k : Fin 512) : (k0_pay1 : FVec Ideal S2816x512 .f32) (ix2 l k) = 0 := by
  pointwise [k0_pay1]

theorem pay2_apply (a : Vec Ideal S2816x512 .f32) (h : Vec Ideal S2048x2816 .bf16) (d : Vec Ideal S2048x512 .bf16) (l : Fin 2816) (k : Fin 512) :
    k0_pay2 a h d (ix2 l k) = a (ix2 l k) + ∑ r, h (ix2 r l) * d (ix2 r k) := by
  pointwise [k0_pay2]

theorem pay3_apply (a : Vec Ideal S2816x512 .f32) (l : Fin 2816) (k : Fin 512) : k0_pay3 a (ix2 l k) = a (ix2 l k) := by
  pointwise [k0_pay3]

variable (m : (ℓ : Loc nD τ sig) → Buf (Elt Ideal) ℓ) (c : Dev nD) (t : Fin cfg0.N)

/-- The arguments. -/
abbrev argH : Vec Ideal S4096x2816 .bf16 := m ((c : Thread nD τ).loc main_arg0)
abbrev argD : Vec Ideal S4096x1024 .bf16 := m ((c : Thread nD τ).loc main_arg1)

theorem place : ∀ t : Fin cfg0.N,
    win0_0.index t = ![t.val % 2, 0]
    ∧ win0_1.index t = ![t.val % 2, t.val / 2]
    ∧ win0_2.index t = ![0, t.val / 2] :=
  (by decide +kernel : ∀ t : Fin grid0.N,
    win0_0.index t = ![t.val % 2, 0]
    ∧ win0_1.index t = ![t.val % 2, t.val / 2]
    ∧ win0_2.index t = ![0, t.val / 2])

/-- The row and the column of the arrays that those of a point's blocks are. -/
def rowOf (r : Fin 2048) : Fin 4096 := ⟨t.val % 2 * 2048 + r.val, by omega⟩
def colOf (k : Fin 512) : Fin 1024 := ⟨t.val / 2 * 512 + k.val, by have := lt_of_lt_of_eq t.isLt N_0; omega⟩

theorem h_read (r : Fin 2048) (l : Fin 2816) : (iblk m c 0 t : Vec Ideal S2048x2816 .bf16) (ix2 r l) = argH m c (ix2 (rowOf t r) l) := by
  blk_ext [iblk, V, place t, rowOf]

theorem d_read (r : Fin 2048) (k : Fin 512) : (iblk m c 1 t : Vec Ideal S2048x512 .bf16) (ix2 r k) = argD m c (ix2 (rowOf t r) (colOf t k)) := by
  blk_ext [iblk, V, place t, rowOf, colOf]

theorem emb_2 (l : Fin 2816) (k : Fin 512) : (win0_2.blk t).view.emb (ix2 l k) = ix2 l (colOf t k) := by
  blk_ext [place t, colOf]

/-- A point's part of the sum over the rows. -/
def part (l : Fin 2816) (k : Fin 512) : EReal := ∑ r, argH m c (ix2 (rowOf t r) l) * argD m c (ix2 (rowOf t r) (colOf t k))

theorem step_point (a : Vec Ideal S2816x512 .f32) (l : Fin 2816) (k : Fin 512) :
    k0_pay2 a (iblk m c 0 t) (iblk m c 1 t) (ix2 l k) = a (ix2 l k) + part m c t l k := by
  refine (pay2_apply _ _ _ l k).trans ?_
  simp only [h_read, d_read]
  rfl

/-- A column's first point leaves its part. -/
theorem first (h : t.val % 2 = 0) (l : Fin 2816) (k : Fin 512) : (outsAt0 m c t.val t.isLt).2 (ix2 l k) = part m c t l k := by
  rw [outsAt0_A m c t h (by omega)]
  frame_out
  exact (step_point m c t _ l k).trans (by rw [pay1_apply, zero_add])

/-- Its second stores the sum. -/
theorem last (h : t.val % 2 = 1) (l : Fin 2816) (k : Fin 512) :
    (outsAt0 m c t.val t.isLt).1 (ix2 l k) = Plain.dw (argH m c) (argD m c) (ix2 l (colOf t k)) := by
  have lt : t.val - 1 < cfg0.N := lt_of_le_of_lt (Nat.sub_le _ _) t.isLt
  have f := first m c ⟨t.val - 1, lt⟩ (by dsimp only; omega) l k
  rw [outsAt0_B m c t (by omega) h]
  frame_out
  refine (pay3_apply _ l k).trans ((step_point m c t _ l k).trans ((congrArg (· + part m c t l k) ((congrFun (Memref.IsWhole.read_unread _ _) _).trans f)).trans ?_))
  rw [Plain.dw_apply, Norm.sum_two 2048 2048 rfl]
  refine congrArg₂ _ ?_ ?_
  all_goals
    refine Finset.sum_congr rfl fun r _ => ?_
    refine congrArg₂ (fun i j => argH m c (ix2 i l) * argD m c (ix2 i j)) (Fin.ext ?_) (Fin.ext ?_)
    all_goals
      simp only [rowOf, colOf] <;> omega

theorem arr_dw : (dats m 0 c).arrAt 2 cfg0.N = Plain.dw (argH m c) (argD m c) := by
  refine (dats m 0 c).arrAt_eq_of_covers 2 _ (by decide +kernel) fun t hf y => ?_
  blk_simp
  rw [after0_2]
  change S2816x512.Idx at y
  idx_vars y
  rw [emb_2]
  exact last m c t (flush0_2 t |>.1 hf) y0 y1

end Cert.FfnDw

end
-- ==== Proof.Merge.lean ====
/-
  The gradients of the mixers' results and of their gates, through the product after them.
-/
module

public import proofs.«01_k».proof.Proof.Norm
public import proofs.«01_k».proof.Proof.Gen.Kernel6Ideal.Value
public import proofs.«01_k».proof.Proof.Gen.Reference6Ideal.Run
public import proofs.«01_k».proof.Proof.Down

@[expose] public section

set_option maxRecDepth 16384

noncomputable section

namespace Cert.Merge.Plain

open Idealize.ShloMosaic Idealize.ShloMosaic.TcCoe Idealize.SL Idealize.SL.Sem Cert.DownPlain Cert.Reference6Ideal Cert.Reference6Ideal.Gen

section Generic

variable {F : FTy → Type} [FloatOps F]
variable (d : Vec F S4096x1024 .bf16) (w : Vec F S1024x1024 .f32) (a b e : Vec F S4096x1024 .bf16) (g : Vec F S4096x3072 .bf16)

def ones : Vec F S4096x3072 .f32 := broadcastInDim S4096x3072 ![] bcast_S_S4096x3072 (constant S_ .f32 0x3F800000#32)

/-- The logistic function of the three gates. -/
def sigs : Vec F S4096x3072 .f32 := Host.divf ones (addf ones (Host.exp (Host.negf (extf .f32 g bitsLt_bf16_f32))))

/-- The gradient of the mixers' gated sum. -/
def inner : Vec F S4096x1024 .f32 := Host.dotGeneral dot_S4096x1024_S1024x1024_S4096x1024_1_1_0_0_n_n none (extf .f32 d bitsLt_bf16_f32) w

/-- The gradients of the mixers' results. -/
def dFox : Vec F S4096x1024 .bf16 :=
  truncf .bf16 (mulf (extractStridedSlice S4096x1024 ![0, 0] (sigs g) slices_S4096x3072_S4096x1024_0_0) (inner d w)) bitsLt_bf16_f32
def dRwkv : Vec F S4096x1024 .bf16 :=
  truncf .bf16 (mulf (extractStridedSlice S4096x1024 ![0, 1024] (sigs g) slices_S4096x3072_S4096x1024_0_1024) (inner d w)) bitsLt_bf16_f32
def dMem : Vec F S4096x1024 .bf16 :=
  truncf .bf16 (mulf (extractStridedSlice S4096x1024 ![0, 2048] (sigs g) slices_S4096x3072_S4096x1024_0_2048) (inner d w)) bitsLt_bf16_f32

/-- The gradients of the gates, side by side. -/
def dGate : Vec F S4096x3072 .bf16 :=
  truncf .bf16 (mulf (concatenate S4096x3072 1 [⟨S4096x1024, mulf (inner d w) (extf .f32 a bitsLt_bf16_f32)⟩,
    ⟨S4096x1024, mulf (inner d w) (extf .f32 b bitsLt_bf16_f32)⟩, ⟨S4096x1024, mulf (inner d w) (extf .f32 e bitsLt_bf16_f32)⟩]
    concatenates_S4096x1024_S4096x1024_S4096x1024_S4096x3072_d1) (mulf (sigs g) (subf ones (sigs g)))) bitsLt_bf16_f32

end Generic

/-- The columns of the three gates. -/
def col0 (k : Fin 1024) : Fin 3072 := ⟨k.val, by omega⟩
def col1 (k : Fin 1024) : Fin 3072 := ⟨1024 + k.val, by omega⟩
def col2 (k : Fin 1024) : Fin 3072 := ⟨2048 + k.val, by omega⟩

variable (d : Vec Ideal S4096x1024 .bf16) (w : Vec Ideal S1024x1024 .f32) (a b e : Vec Ideal S4096x1024 .bf16) (g : Vec Ideal S4096x3072 .bf16)
variable (R : Fin 4096) (k : Fin 1024)

theorem dFox_apply : dFox d w g (ix2 R k) = sgm (g (ix2 R (col0 k))) * ∑ x, d (ix2 R x) * w (ix2 k x) := by
  pointwise [dFox, inner, sigs, ones]
  rfl

theorem dRwkv_apply : dRwkv d w g (ix2 R k) = sgm (g (ix2 R (col1 k))) * ∑ x, d (ix2 R x) * w (ix2 k x) := by
  pointwise [dRwkv, inner, sigs, ones]
  rfl

theorem dMem_apply : dMem d w g (ix2 R k) = sgm (g (ix2 R (col2 k))) * ∑ x, d (ix2 R x) * w (ix2 k x) := by
  pointwise [dMem, inner, sigs, ones]
  rfl

/-- A gate's gradient, from its mixer's result. -/
def slope (p y g : EReal) : EReal := p * y * (sgm g * (1 - sgm g))

theorem dGate_apply0 : dGate d w a b e g (ix2 R (col0 k)) = slope (∑ x, d (ix2 R x) * w (ix2 k x)) (a (ix2 R k)) (g (ix2 R (col0 k))) := by
  pointwise [dGate, inner, sigs, ones, col0]
  rfl

theorem dGate_apply1 : dGate d w a b e g (ix2 R (col1 k)) = slope (∑ x, d (ix2 R x) * w (ix2 k x)) (b (ix2 R k)) (g (ix2 R (col1 k))) := by
  pointwise [dGate, inner, sigs, ones, col1]
  rfl

theorem dGate_apply2 : dGate d w a b e g (ix2 R (col2 k)) = slope (∑ x, d (ix2 R x) * w (ix2 k x)) (e (ix2 R k)) (g (ix2 R (col2 k))) := by
  pointwise [dGate, inner, sigs, ones, col2]
  rw [dif_neg (by omega), dif_neg (by omega)]
  exact congrArg (fun i => slope (∑ x, d (ix2 R x) * w (ix2 i x)) (e (ix2 R i)) (g (ix2 R ⟨2048 + k.val, by omega⟩))) (Fin.ext (by dsimp only; omega))

end Cert.Merge.Plain

namespace Cert.Merge

open Idealize.ShloMosaic Idealize.ShloMosaic.TcCoe Idealize.SL Idealize.SL.Sem Cert.DownPlain Cert.Kernel6Ideal Cert.Kernel6Ideal.Gen

variable (d : Vec Ideal S256x1024 .bf16) (w : Vec Ideal S1024x1024 .bf16) (a g : Vec Ideal S256x1024 .bf16) (r : Fin 256) (k : Fin 1024)

/-- The columns of a block of gates that a point reads. -/
def gates0 (x : Vec Ideal S256x3072 .bf16) : Vec Ideal S256x1024 .bf16 := View.ld x r0_2
def gates1 (x : Vec Ideal S256x3072 .bf16) : Vec Ideal S256x1024 .bf16 := View.ld x r0_3
def gates2 (x : Vec Ideal S256x3072 .bf16) : Vec Ideal S256x1024 .bf16 := View.ld x r0_4

theorem at0 : (r0_2.emb (ix2 r k) : S256x3072.Idx) = ix2 r (Plain.col0 k) :=
  funext fun a => Fin.ext (match a with
    | 0 => (by show 0 + 1 * r.val = r.val; omega)
    | 1 => (by show 0 + 1 * k.val = k.val; omega))

theorem at1 : (r0_3.emb (ix2 r k) : S256x3072.Idx) = ix2 r (Plain.col1 k) :=
  funext fun a => Fin.ext (match a with
    | 0 => (by show 0 + 1 * r.val = r.val; omega)
    | 1 => (by show 1024 + 1 * k.val = 1024 + k.val; omega))

theorem at2 : (r0_4.emb (ix2 r k) : S256x3072.Idx) = ix2 r (Plain.col2 k) :=
  funext fun a => Fin.ext (match a with
    | 0 => (by show 0 + 1 * r.val = r.val; omega)
    | 1 => (by show 2048 + 1 * k.val = 2048 + k.val; omega))

/-- The product that a point's stores share. -/
theorem shared (a b e : Vec Ideal S256x1024 .bf16) (x : Vec Ideal S256x3072 .bf16) : k0_pay27 d w a b e x = k0_pay6 d w :=
  congrArg₂ k0_pay6 (View.ld_unit_zero (funext fun a => by fin_cases a <;> rfl) _ d) (View.ld_unit_zero (funext fun a => by fin_cases a <;> rfl) _ w)

theorem whole (a : Vec Ideal S256x1024 .bf16) : View.ld a r0_0 = a := View.ld_unit_zero (funext fun a => by fin_cases a <;> rfl) _ a

theorem fox_apply : k0_pay26 (k0_pay6 d w) (k0_pay13 g) (ix2 r k) = sgm (g (ix2 r k)) * ∑ x, d (ix2 r x) * w (ix2 k x) := by
  pointwise [k0_pay26, k0_pay6, k0_pay13, k0_pay12, k0_pay11]
  rw [zero_sub]
  rfl

theorem rwkv_apply : k0_pay1 (k0_pay23 (k0_pay6 d w) (k0_pay17 g)) (ix2 r k) = sgm (g (ix2 r k)) * ∑ x, d (ix2 r x) * w (ix2 k x) := by
  pointwise [k0_pay1, k0_pay23, k0_pay6, k0_pay17, k0_pay16, k0_pay15]
  rw [zero_sub]
  rfl

theorem mem_apply : k0_pay2 (k0_pay21 (k0_pay6 d w) (k0_pay10 g)) (ix2 r k) = sgm (g (ix2 r k)) * ∑ x, d (ix2 r x) * w (ix2 k x) := by
  pointwise [k0_pay2, k0_pay21, k0_pay6, k0_pay10, k0_pay20, k0_pay19]
  rw [zero_sub]
  rfl

theorem slope_eq (p y g : EReal) :
    0 - (0 - p * y * Ideal.div 1 ((1 + Ideal.exp (0 - g)) * (1 + Ideal.exp (0 - g)))) * Ideal.exp (0 - g) = Plain.slope p y g := by
  unfold Plain.slope
  rw [← Down.sig_slope, zero_sub, zero_sub, zero_sub, EReal.neg_mul, neg_neg, mul_assoc (p * y)]

theorem gate0_apply : k0_pay3 (k0_pay25 (k0_pay6 d w) (k0_pay7 a) (k0_pay11 g) (k0_pay14 g)) (ix2 r k)
    = Plain.slope (∑ x, d (ix2 r x) * w (ix2 k x)) (a (ix2 r k)) (g (ix2 r k)) := by
  pointwise [k0_pay3, k0_pay25, k0_pay6, k0_pay7, k0_pay11, k0_pay14, k0_pay12]
  exact slope_eq _ _ _

theorem gate1_apply : k0_pay4 (k0_pay24 (k0_pay6 d w) (k0_pay8 a) (k0_pay15 g) (k0_pay18 g) (Scalar.ofBits .f32 0x3F800000#32)) (ix2 r k)
    = Plain.slope (∑ x, d (ix2 r x) * w (ix2 k x)) (a (ix2 r k)) (g (ix2 r k)) := by
  pointwise [k0_pay4, k0_pay24, k0_pay6, k0_pay8, k0_pay15, k0_pay18, k0_pay16]
  exact slope_eq _ _ _

theorem gate2_apply : k0_pay5 (k0_pay22 (k0_pay6 d w) (k0_pay9 a) (k0_pay10 g)) (ix2 r k)
    = Plain.slope (∑ x, d (ix2 r x) * w (ix2 k x)) (a (ix2 r k)) (g (ix2 r k)) := by
  pointwise [k0_pay5, k0_pay22, k0_pay6, k0_pay9, k0_pay10, k0_pay20, k0_pay19]
  exact slope_eq _ _ _

variable (m : (ℓ : Loc nD τ sig) → Buf (Elt Ideal) ℓ) (c : Dev nD) (t : Fin cfg0.N)

/-- The arguments. -/
abbrev argD : Vec Ideal S4096x1024 .bf16 := m ((c : Thread nD τ).loc main_arg0)
abbrev argW : Vec Ideal S1024x1024 .f32 := m ((c : Thread nD τ).loc main_arg1)
abbrev argA : Vec Ideal S4096x1024 .bf16 := m ((c : Thread nD τ).loc main_arg2)
abbrev argB : Vec Ideal S4096x1024 .bf16 := m ((c : Thread nD τ).loc main_arg3)
abbrev argC : Vec Ideal S4096x1024 .bf16 := m ((c : Thread nD τ).loc main_arg4)
abbrev argP : Vec Ideal S4096x3072 .bf16 := m ((c : Thread nD τ).loc main_arg5)

theorem w_at : (V m c main_v0 : Vec Ideal S1024x1024 .bf16) = argW m c := by
  unfold V
  after_reads_simp
  rfl

theorem place : ∀ t : Fin cfg0.N,
    win0_0.index t = ![t.val, 0]
    ∧ win0_1.index t = ![0, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0] :=
  (by decide +kernel : ∀ t : Fin grid0.N,
    win0_0.index t = ![t.val, 0]
    ∧ win0_1.index t = ![0, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0])

/-- The row of the arrays that a row of a point's block is. -/
def rowOf (r : Fin 256) : Fin 4096 := ⟨t.val * 256 + r.val, by have := lt_of_lt_of_eq t.isLt N_0; omega⟩

theorem d_read (x : Fin 1024) : (iblk m c 0 t : Vec Ideal S256x1024 .bf16) (ix2 r x) = argD m c (ix2 (rowOf t r) x) := by
  blk_ext [iblk, V, place t, rowOf]

theorem w_read (x : Fin 1024) : (iblk m c 1 t : Vec Ideal S1024x1024 .bf16) (ix2 k x) = argW m c (ix2 k x) := by
  rw [← w_at]
  blk_ext [iblk, place t]

theorem a_read : (iblk m c 2 t : Vec Ideal S256x1024 .bf16) (ix2 r k) = argA m c (ix2 (rowOf t r) k) := by
  blk_ext [iblk, V, place t, rowOf]

theorem b_read : (iblk m c 3 t : Vec Ideal S256x1024 .bf16) (ix2 r k) = argB m c (ix2 (rowOf t r) k) := by
  blk_ext [iblk, V, place t, rowOf]

theorem c_read : (iblk m c 4 t : Vec Ideal S256x1024 .bf16) (ix2 r k) = argC m c (ix2 (rowOf t r) k) := by
  blk_ext [iblk, V, place t, rowOf]

theorem g_read (l : Fin 3072) : (iblk m c 5 t : Vec Ideal S256x3072 .bf16) (ix2 r l) = argP m c (ix2 (rowOf t r) l) := by
  blk_ext [iblk, V, place t, rowOf]

theorem g0_read : gates0 (iblk m c 5 t) (ix2 r k) = argP m c (ix2 (rowOf t r) (Plain.col0 k)) := by
  show (iblk m c 5 t : Vec Ideal S256x3072 .bf16) (r0_2.emb (ix2 r k)) = _
  rw [at0, g_read]

theorem g1_read : gates1 (iblk m c 5 t) (ix2 r k) = argP m c (ix2 (rowOf t r) (Plain.col1 k)) := by
  show (iblk m c 5 t : Vec Ideal S256x3072 .bf16) (r0_3.emb (ix2 r k)) = _
  rw [at1, g_read]

theorem g2_read : gates2 (iblk m c 5 t) (ix2 r k) = argP m c (ix2 (rowOf t r) (Plain.col2 k)) := by
  show (iblk m c 5 t : Vec Ideal S256x3072 .bf16) (r0_4.emb (ix2 r k)) = _
  rw [at2, g_read]

theorem emb_6 : (win0_6.blk t).view.emb (ix2 r k) = ix2 (rowOf t r) k := by
  blk_ext [place t, rowOf]

theorem emb_7 : (win0_7.blk t).view.emb (ix2 r k) = ix2 (rowOf t r) k := by
  blk_ext [place t, rowOf]

theorem emb_8 : (win0_8.blk t).view.emb (ix2 r k) = ix2 (rowOf t r) k := by
  blk_ext [place t, rowOf]

theorem emb_9 (l : Fin 3072) : (win0_9.blk t).view.emb (ix2 r l) = ix2 (rowOf t r) l := by
  blk_ext [place t, rowOf]

theorem arr_fox : (dats m 0 c).arrAt 6 cfg0.N = Plain.dFox (argD m c) (argW m c) (argP m c) := by
  refine (dats m 0 c).arrAt_eq_of_covers 6 _ (by decide +kernel) fun t hf y => ?_
  blk_simp
  rw [after0_6]
  change S256x1024.Idx at y
  idx_vars y
  rw [emb_6]
  have e : out0_6 (iblk m c 0 t) (iblk m c 1 t) (iblk m c 2 t) (iblk m c 3 t) (iblk m c 4 t) (iblk m c 5 t) = k0_pay26 (k0_pay6 (iblk m c 0 t) (iblk m c 1 t)) (k0_pay13 (gates0 (iblk m c 5 t))) := by
    frame_out
    rw [shared]
    rfl
  rw [e]
  refine (fox_apply _ _ _ y0 y1).trans ?_
  rw [Plain.dFox_apply]
  simp only [d_read, w_read, g0_read]

theorem arr_rwkv : (dats m 0 c).arrAt 7 cfg0.N = Plain.dRwkv (argD m c) (argW m c) (argP m c) := by
  refine (dats m 0 c).arrAt_eq_of_covers 7 _ (by decide +kernel) fun t hf y => ?_
  blk_simp
  rw [after0_7]
  change S256x1024.Idx at y
  idx_vars y
  rw [emb_7]
  have e : out0_7 (iblk m c 0 t) (iblk m c 1 t) (iblk m c 2 t) (iblk m c 3 t) (iblk m c 4 t) (iblk m c 5 t) = k0_pay1 (k0_pay23 (k0_pay6 (iblk m c 0 t) (iblk m c 1 t)) (k0_pay17 (gates1 (iblk m c 5 t)))) := by
    frame_out
    rw [shared]
    rfl
  rw [e]
  refine (rwkv_apply _ _ _ y0 y1).trans ?_
  rw [Plain.dRwkv_apply]
  simp only [d_read, w_read, g1_read]

theorem arr_mem : (dats m 0 c).arrAt 8 cfg0.N = Plain.dMem (argD m c) (argW m c) (argP m c) := by
  refine (dats m 0 c).arrAt_eq_of_covers 8 _ (by decide +kernel) fun t hf y => ?_
  blk_simp
  rw [after0_8]
  change S256x1024.Idx at y
  idx_vars y
  rw [emb_8]
  have e : out0_8 (iblk m c 0 t) (iblk m c 1 t) (iblk m c 2 t) (iblk m c 3 t) (iblk m c 4 t) (iblk m c 5 t) = k0_pay2 (k0_pay21 (k0_pay6 (iblk m c 0 t) (iblk m c 1 t)) (k0_pay10 (gates2 (iblk m c 5 t)))) := by
    frame_out
    rw [shared]
    rfl
  rw [e]
  refine (mem_apply _ _ _ y0 y1).trans ?_
  rw [Plain.dMem_apply]
  simp only [d_read, w_read, g2_read]

theorem arr_gate : (dats m 0 c).arrAt 9 cfg0.N = Plain.dGate (argD m c) (argW m c) (argA m c) (argB m c) (argC m c) (argP m c) := by
  refine (dats m 0 c).arrAt_eq_of_covers 9 _ (by decide +kernel) fun t hf y => ?_
  blk_simp
  rw [after0_9]
  change S256x3072.Idx at y
  refine View.canon_apply_of_pieces (fun y => Plain.dGate (argD m c) (argW m c) (argA m c) (argB m c) (argC m c) (argP m c) ((win0_9.blk t).view.emb y))
    _ ?_ y (cover0_9 _ _ _ y)
  simp only [List.forall_mem_cons, shared, whole]
  refine ⟨?_, ?_, ?_, fun _ h => absurd h List.not_mem_nil⟩
  all_goals
    intro x
    change S256x1024.Idx at x
    idx_vars x
  · refine (gate2_apply _ _ _ (gates2 (iblk m c 5 t)) x0 x1).trans ?_
    rw [at2, emb_9, Plain.dGate_apply2]
    simp only [d_read, w_read, c_read, g2_read]
  · refine (gate1_apply _ _ _ (gates1 (iblk m c 5 t)) x0 x1).trans ?_
    rw [at1, emb_9, Plain.dGate_apply1]
    simp only [d_read, w_read, b_read, g1_read]
  · refine (gate0_apply _ _ _ (gates0 (iblk m c 5 t)) x0 x1).trans ?_
    rw [at0, emb_9, Plain.dGate_apply0]
    simp only [d_read, w_read, a_read, g0_read]

end Cert.Merge

end
-- ==== Proof.FfnIn.lean ====
/-
  A product of the normed rows with a weight of the feed-forward layer.
-/
module

public import proofs.«01_k».proof.Proof.Norm
public import proofs.«01_k».proof.Proof.Gen.Kernel8Ideal.Value
public import proofs.«01_k».proof.Proof.Gen.Reference8Ideal.Run

@[expose] public section

set_option maxRecDepth 16384

noncomputable section

namespace Cert.FfnIn.Plain

open Idealize.ShloMosaic Idealize.ShloMosaic.TcCoe Idealize.SL Idealize.SL.Sem Cert.Reference8Ideal Cert.Reference8Ideal.Gen

/-- The product. -/
def prod {F : FTy → Type} [FloatOps F] (u : Vec F S4096x1024 .bf16) (w : Vec F S1024x2816 .f32) : Vec F S4096x2816 .bf16 :=
  truncf .bf16 (Host.dotGeneral dot_S4096x1024_S1024x2816_S4096x2816_1_0_0_1_n_n none (extf .f32 u bitsLt_bf16_f32) w) bitsLt_bf16_f32

theorem prod_apply (u : Vec Ideal S4096x1024 .bf16) (w : Vec Ideal S1024x2816 .f32) (R : Fin 4096) (l : Fin 2816) :
    prod u w (ix2 R l) = ∑ x, u (ix2 R x) * w (ix2 x l) := by
  pointwise [prod]

end Cert.FfnIn.Plain

namespace Cert.FfnIn

open Idealize.ShloMosaic Idealize.ShloMosaic.TcCoe Idealize.SL Idealize.SL.Sem Cert.Kernel8Ideal Cert.Kernel8Ideal.Gen

/-- The weight, its columns turned into rows. -/
def turned (w : FVec Ideal S1024x2816 .f32) : FVec Ideal S2816x1024 .bf16 :=
  truncf .bf16 (transpose S2816x1024 [1, 0] w transposes_S1024x2816_S2816x1024_1_0) bitsLt_bf16_f32

theorem turned_apply (w : FVec Ideal S1024x2816 .f32) (l : Fin 2816) (x : Fin 1024) : turned w (ix2 l x) = w (ix2 x l) := by
  pointwise [turned]

theorem pay1_apply (u : Vec Ideal S1024x1024 .bf16) (w : Vec Ideal S2816x1024 .bf16) (r : Fin 1024) (l : Fin 2816) :
    k0_pay1 u w (ix2 r l) = ∑ x, u (ix2 r x) * w (ix2 l x) := by
  pointwise [k0_pay1]

variable (m : (ℓ : Loc nD τ sig) → Buf (Elt Ideal) ℓ) (c : Dev nD) (t : Fin cfg0.N)

/-- The arguments. -/
abbrev argU : Vec Ideal S4096x1024 .bf16 := m ((c : Thread nD τ).loc main_arg0)
abbrev argW : Vec Ideal S1024x2816 .f32 := m ((c : Thread nD τ).loc main_arg1)

theorem w_at : V m c main_v1 = turned (argW m c) := by
  unfold V
  after_reads_simp
  rfl

theorem place : ∀ t : Fin cfg0.N,
    win0_0.index t = ![t.val, 0]
    ∧ win0_1.index t = ![0, 0]
    ∧ win0_2.index t = ![t.val, 0] :=
  (by decide +kernel : ∀ t : Fin grid0.N,
    win0_0.index t = ![t.val, 0]
    ∧ win0_1.index t = ![0, 0]
    ∧ win0_2.index t = ![t.val, 0])

/-- The row of the arrays that a row of a point's block is. -/
def rowOf (r : Fin 1024) : Fin 4096 := ⟨t.val * 1024 + r.val, by have := lt_of_lt_of_eq t.isLt N_0; omega⟩

theorem u_read (r : Fin 1024) (x : Fin 1024) : (iblk m c 0 t : Vec Ideal S1024x1024 .bf16) (ix2 r x) = argU m c (ix2 (rowOf t r) x) := by
  blk_ext [iblk, V, place t, rowOf]

theorem w_read (l : Fin 2816) (x : Fin 1024) : (iblk m c 1 t : Vec Ideal S2816x1024 .bf16) (ix2 l x) = argW m c (ix2 x l) := by
  rw [← turned_apply (argW m c) l x, ← w_at]
  blk_ext [iblk, place t]

theorem emb_2 (r : Fin 1024) (l : Fin 2816) : (win0_2.blk t).view.emb (ix2 r l) = ix2 (rowOf t r) l := by
  blk_ext [place t, rowOf]

theorem arr_prod : (dats m 0 c).arrAt 2 cfg0.N = Plain.prod (argU m c) (argW m c) := by
  refine (dats m 0 c).arrAt_eq_of_covers 2 _ (by decide +kernel) fun t hf y => ?_
  blk_simp
  rw [after0_2]
  change S1024x2816.Idx at y
  idx_vars y
  rw [emb_2]
  have e : out0_2 (iblk m c 0 t) (iblk m c 1 t) = k0_pay1 (iblk m c 0 t) (iblk m c 1 t) := by
    frame_out
  rw [e]
  refine (pay1_apply _ _ y0 y1).trans ?_
  rw [Plain.prod_apply]
  simp only [u_read, w_read]

end Cert.FfnIn

end
-- ==== Proof.FfnBack.lean ====
/-
  The gradient through the feed-forward layer's gate product.
-/
module

public import proofs.«01_k».proof.Proof.Norm
public import proofs.«01_k».proof.Proof.Gen.Kernel9Ideal.Value
public import proofs.«01_k».proof.Proof.Gen.Reference9Ideal.Run

@[expose] public section

set_option maxRecDepth 16384

noncomputable section

namespace Cert.FfnBack.Plain

open Idealize.ShloMosaic Idealize.ShloMosaic.TcCoe Idealize.SL Idealize.SL.Sem Cert.Reference9Ideal Cert.Reference9Ideal.Gen

/-- The gradient at the product's left side. -/
def back {F : FTy → Type} [FloatOps F] (d : Vec F S4096x2816 .bf16) (w : Vec F S1024x2816 .f32) : Vec F S4096x1024 .f32 :=
  Host.dotGeneral dot_S4096x2816_S1024x2816_S4096x1024_1_1_0_0_n_n none (extf .f32 d bitsLt_bf16_f32) w

theorem back_apply (d : Vec Ideal S4096x2816 .bf16) (w : Vec Ideal S1024x2816 .f32) (R : Fin 4096) (x : Fin 1024) :
    back d w (ix2 R x) = ∑ l, d (ix2 R l) * w (ix2 x l) := by
  pointwise [back]

end Cert.FfnBack.Plain

namespace Cert.FfnBack

open Idealize.ShloMosaic Idealize.ShloMosaic.TcCoe Idealize.SL Idealize.SL.Sem Cert.Kernel9Ideal Cert.Kernel9Ideal.Gen

/-- The weight, its columns turned into rows. -/
def turned (w : FVec Ideal S1024x2816 .f32) : FVec Ideal S2816x1024 .bf16 :=
  truncf .bf16 (transpose S2816x1024 [1, 0] w transposes_S1024x2816_S2816x1024_1_0) bitsLt_bf16_f32

theorem turned_apply (w : FVec Ideal S1024x2816 .f32) (l : Fin 2816) (x : Fin 1024) : turned w (ix2 l x) = w (ix2 x l) := by
  pointwise [turned]

theorem pay1_apply (d : Vec Ideal S1024x2816 .bf16) (w : Vec Ideal S2816x1024 .bf16) (r : Fin 1024) (x : Fin 1024) :
    k0_pay1 d w (ix2 r x) = ∑ l, d (ix2 r l) * w (ix2 l x) := by
  pointwise [k0_pay1]

variable (m : (ℓ : Loc nD τ sig) → Buf (Elt Ideal) ℓ) (c : Dev nD) (t : Fin cfg0.N)

/-- The arguments. -/
abbrev argD : Vec Ideal S4096x2816 .bf16 := m ((c : Thread nD τ).loc main_arg0)
abbrev argW : Vec Ideal S1024x2816 .f32 := m ((c : Thread nD τ).loc main_arg1)

theorem w_at : V m c main_v1 = turned (argW m c) := by
  unfold V
  after_reads_simp
  rfl

theorem place : ∀ t : Fin cfg0.N,
    win0_0.index t = ![t.val, 0]
    ∧ win0_1.index t = ![0, 0]
    ∧ win0_2.index t = ![t.val, 0] :=
  (by decide +kernel : ∀ t : Fin grid0.N,
    win0_0.index t = ![t.val, 0]
    ∧ win0_1.index t = ![0, 0]
    ∧ win0_2.index t = ![t.val, 0])

/-- The row of the arrays that a row of a point's block is. -/
def rowOf (r : Fin 1024) : Fin 4096 := ⟨t.val * 1024 + r.val, by have := lt_of_lt_of_eq t.isLt N_0; omega⟩

theorem d_read (r : Fin 1024) (l : Fin 2816) : (iblk m c 0 t : Vec Ideal S1024x2816 .bf16) (ix2 r l) = argD m c (ix2 (rowOf t r) l) := by
  blk_ext [iblk, V, place t, rowOf]

theorem w_read (l : Fin 2816) (x : Fin 1024) : (iblk m c 1 t : Vec Ideal S2816x1024 .bf16) (ix2 l x) = argW m c (ix2 x l) := by
  rw [← turned_apply (argW m c) l x, ← w_at]
  blk_ext [iblk, place t]

theorem emb_2 (r : Fin 1024) (x : Fin 1024) : (win0_2.blk t).view.emb (ix2 r x) = ix2 (rowOf t r) x := by
  blk_ext [place t, rowOf]

theorem arr_back : (dats m 0 c).arrAt 2 cfg0.N = Plain.back (argD m c) (argW m c) := by
  refine (dats m 0 c).arrAt_eq_of_covers 2 _ (by decide +kernel) fun t hf y => ?_
  blk_simp
  rw [after0_2]
  change S1024x1024.Idx at y
  idx_vars y
  rw [emb_2]
  have e : out0_2 (iblk m c 0 t) (iblk m c 1 t) = k0_pay1 (iblk m c 0 t) (iblk m c 1 t) := by
    frame_out
  rw [e]
  refine (pay1_apply _ _ y0 y1).trans ?_
  rw [Plain.back_apply]
  simp only [d_read, w_read]

end Cert.FfnBack

end
-- ==== Proof.GateDw.lean ====
/-
  The gradient of the mixers' gate projection: the product of the transposed gradient at its result with the normed rows.
-/
module

public import proofs.«01_k».proof.Proof.Norm
public import proofs.«01_k».proof.Proof.Gen.Kernel10Ideal.Value
public import proofs.«01_k».proof.Proof.Gen.Reference10Ideal.Run

@[expose] public section

set_option maxRecDepth 16384

noncomputable section

namespace Cert.GateDw.Plain

open Idealize.ShloMosaic Idealize.ShloMosaic.TcCoe Idealize.SL Idealize.SL.Sem Cert.Reference10Ideal Cert.Reference10Ideal.Gen

/-- The weight's gradient, its columns turned into rows. -/
def dw {F : FTy → Type} [FloatOps F] (h : Vec F S4096x3072 .bf16) (d : Vec F S4096x1024 .bf16) : Vec F S3072x1024 .bf16 :=
  truncf .bf16 (transpose S3072x1024 [1, 0] (transpose S1024x3072 [1, 0] (Host.dotGeneral dot_S4096x3072_S4096x1024_S3072x1024_0_0_1_1_n_n none
    (extf .f32 h bitsLt_bf16_f32) (extf .f32 d bitsLt_bf16_f32)) transposes_S3072x1024_S1024x3072_1_0) transposes_S1024x3072_S3072x1024_1_0) bitsLt_bf16_f32

theorem dw_apply (h : Vec Ideal S4096x3072 .bf16) (d : Vec Ideal S4096x1024 .bf16) (l : Fin 3072) (k : Fin 1024) :
    dw h d (ix2 l k) = ∑ R, h (ix2 R l) * d (ix2 R k) := by
  pointwise [dw]

end Cert.GateDw.Plain

namespace Cert.GateDw

open Idealize.ShloMosaic Idealize.ShloMosaic.TcCoe Idealize.SL Idealize.SL.Sem Cert.Kernel10Ideal Cert.Kernel10Ideal.Gen

theorem pay1_apply (l : Fin 3072) (k : Fin 512) : (k0_pay1 : FVec Ideal S3072x512 .f32) (ix2 l k) = 0 := by
  pointwise [k0_pay1]

theorem pay2_apply (a : Vec Ideal S3072x512 .f32) (h : Vec Ideal S2048x3072 .bf16) (d : Vec Ideal S2048x512 .bf16) (l : Fin 3072) (k : Fin 512) :
    k0_pay2 a h d (ix2 l k) = a (ix2 l k) + ∑ r, h (ix2 r l) * d (ix2 r k) := by
  pointwise [k0_pay2]

theorem pay3_apply (a : Vec Ideal S3072x512 .f32) (l : Fin 3072) (k : Fin 512) : k0_pay3 a (ix2 l k) = a (ix2 l k) := by
  pointwise [k0_pay3]

variable (m : (ℓ : Loc nD τ sig) → Buf (Elt Ideal) ℓ) (c : Dev nD) (t : Fin cfg0.N)

/-- The arguments. -/
abbrev argH : Vec Ideal S4096x3072 .bf16 := m ((c : Thread nD τ).loc main_arg0)
abbrev argD : Vec Ideal S4096x1024 .bf16 := m ((c : Thread nD τ).loc main_arg1)

theorem place : ∀ t : Fin cfg0.N,
    win0_0.index t = ![t.val % 2, 0]
    ∧ win0_1.index t = ![t.val % 2, t.val / 2]
    ∧ win0_2.index t = ![0, t.val / 2] :=
  (by decide +kernel : ∀ t : Fin grid0.N,
    win0_0.index t = ![t.val % 2, 0]
    ∧ win0_1.index t = ![t.val % 2, t.val / 2]
    ∧ win0_2.index t = ![0, t.val / 2])

/-- The row and the column of the arrays that those of a point's blocks are. -/
def rowOf (r : Fin 2048) : Fin 4096 := ⟨t.val % 2 * 2048 + r.val, by omega⟩
def colOf (k : Fin 512) : Fin 1024 := ⟨t.val / 2 * 512 + k.val, by have := lt_of_lt_of_eq t.isLt N_0; omega⟩

theorem h_read (r : Fin 2048) (l : Fin 3072) : (iblk m c 0 t : Vec Ideal S2048x3072 .bf16) (ix2 r l) = argH m c (ix2 (rowOf t r) l) := by
  blk_ext [iblk, V, place t, rowOf]

theorem d_read (r : Fin 2048) (k : Fin 512) : (iblk m c 1 t : Vec Ideal S2048x512 .bf16) (ix2 r k) = argD m c (ix2 (rowOf t r) (colOf t k)) := by
  blk_ext [iblk, V, place t, rowOf, colOf]

theorem emb_2 (l : Fin 3072) (k : Fin 512) : (win0_2.blk t).view.emb (ix2 l k) = ix2 l (colOf t k) := by
  blk_ext [place t, colOf]

/-- A point's part of the sum over the rows. -/
def part (l : Fin 3072) (k : Fin 512) : EReal := ∑ r, argH m c (ix2 (rowOf t r) l) * argD m c (ix2 (rowOf t r) (colOf t k))

theorem step_point (a : Vec Ideal S3072x512 .f32) (l : Fin 3072) (k : Fin 512) :
    k0_pay2 a (iblk m c 0 t) (iblk m c 1 t) (ix2 l k) = a (ix2 l k) + part m c t l k := by
  refine (pay2_apply _ _ _ l k).trans ?_
  simp only [h_read, d_read]
  rfl

/-- A column's first point leaves its part. -/
theorem first (h : t.val % 2 = 0) (l : Fin 3072) (k : Fin 512) : (outsAt0 m c t.val t.isLt).2 (ix2 l k) = part m c t l k := by
  rw [outsAt0_A m c t h (by omega)]
  frame_out
  exact (step_point m c t _ l k).trans (by rw [pay1_apply, zero_add])

/-- Its second stores the sum. -/
theorem last (h : t.val % 2 = 1) (l : Fin 3072) (k : Fin 512) :
    (outsAt0 m c t.val t.isLt).1 (ix2 l k) = Plain.dw (argH m c) (argD m c) (ix2 l (colOf t k)) := by
  have lt : t.val - 1 < cfg0.N := lt_of_le_of_lt (Nat.sub_le _ _) t.isLt
  have f := first m c ⟨t.val - 1, lt⟩ (by dsimp only; omega) l k
  rw [outsAt0_B m c t (by omega) h]
  frame_out
  refine (pay3_apply _ l k).trans ((step_point m c t _ l k).trans ((congrArg (· + part m c t l k) ((congrFun (Memref.IsWhole.read_unread _ _) _).trans f)).trans ?_))
  rw [Plain.dw_apply, Norm.sum_two 2048 2048 rfl]
  refine congrArg₂ _ ?_ ?_
  all_goals
    refine Finset.sum_congr rfl fun r _ => ?_
    refine congrArg₂ (fun i j => argH m c (ix2 i l) * argD m c (ix2 i j)) (Fin.ext ?_) (Fin.ext ?_)
    all_goals
      simp only [rowOf, colOf] <;> omega

theorem arr_dw : (dats m 0 c).arrAt 2 cfg0.N = Plain.dw (argH m c) (argD m c) := by
  refine (dats m 0 c).arrAt_eq_of_covers 2 _ (by decide +kernel) fun t hf y => ?_
  blk_simp
  rw [after0_2]
  change S3072x512.Idx at y
  idx_vars y
  rw [emb_2]
  exact last m c t (flush0_2 t |>.1 hf) y0 y1

end Cert.GateDw

end
-- ==== Proof.ProjGate.lean ====
/-
  The norm before the attention and the mixers' gate projection.
-/
module

public import proofs.«01_k».proof.Proof.Norm
public import proofs.«01_k».proof.Proof.Gen.Kernel11Ideal.Value
public import proofs.«01_k».proof.Proof.Gen.Reference11Ideal.Run

@[expose] public section

set_option maxRecDepth 16384

noncomputable section

namespace Cert.ProjGate.Plain

open Idealize.ShloMosaic Idealize.ShloMosaic.TcCoe Idealize.SL Idealize.SL.Sem Cert.Reference11Ideal Cert.Reference11Ideal.Gen

section Generic

variable {F : FTy → Type} [FloatOps F] (x : Vec F S4096x1024 .f32) (g : Vec F S1x1024 .f32) (w : Vec F S1024x6920 .f32)

/-- The normed rows. -/
def normed : Vec F S4096x1024 .f32 :=
  mulf (mulf x (broadcastInDim S4096x1024 ![0, 1] bcast_S4096x1_S4096x1024_0_1 (Host.rsqrt (addf (Host.divf
    (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))))))
    (broadcastInDim S4096x1024 ![0, 1] bcast_S1x1024_S4096x1024_0_1 g)

def kept : Vec F S4096x1024 .bf16 := truncf .bf16 (normed x g) bitsLt_bf16_f32

/-- The product. -/
def res : Vec F S4096x3072 .bf16 :=
  truncf .bf16 (Host.dotGeneral dot_S4096x1024_S1024x3072_S4096x3072_1_0_0_1_n_n none (normed x g)
    (extractStridedSlice S1024x3072 ![0, 3848] w slices_S1024x6920_S1024x3072_0_3848)) bitsLt_bf16_f32

end Generic

variable (x : Vec Ideal S4096x1024 .f32) (g : Vec Ideal S1x1024 .f32) (w : Vec Ideal S1024x6920 .f32) (R : Fin 4096)

theorem normed_apply (d : Fin 1024) : normed x g (ix2 R d) = x (ix2 R d) * Ideal.rsqrt (Norm.spread fun k => x (ix2 R k)) * g (ix2 0 d) := by
  pointwise [normed]
  rfl

theorem kept_apply (d : Fin 1024) : kept x g (ix2 R d) = x (ix2 R d) * Ideal.rsqrt (Norm.spread fun k => x (ix2 R k)) * g (ix2 0 d) :=
  normed_apply x g R d

theorem res_apply (k : Fin 3072) : res x g w (ix2 R k)
    = ∑ d, x (ix2 R d) * Ideal.rsqrt (Norm.spread fun k => x (ix2 R k)) * g (ix2 0 d) * w (ix2 d ⟨3848 + k.val, by omega⟩) := by
  have e : res x g w (ix2 R k) = ∑ d, normed x g (ix2 R d) * w (ix2 d ⟨3848 + k.val, by omega⟩) := by
    pointwise [res]
  rw [e]
  simp only [normed_apply]

end Cert.ProjGate.Plain

namespace Cert.ProjGate

open Idealize.ShloMosaic Idealize.ShloMosaic.TcCoe Idealize.SL Idealize.SL.Sem Cert.Kernel11Ideal Cert.Kernel11Ideal.Gen

/-- The rows of the turned weight that the call takes. -/
def wg (w : FVec Ideal S1024x6920 .f32) : FVec Ideal S3072x1024 .bf16 :=
  extractStridedSlice S3072x1024 ![3848, 0] (truncf .bf16 (transpose S6920x1024 [1, 0] w transposes_S1024x6920_S6920x1024_1_0) bitsLt_bf16_f32)
    slices_S6920x1024_S3072x1024_3848_0

theorem wg_apply (w : FVec Ideal S1024x6920 .f32) (k : Fin 3072) (d : Fin 1024) : wg w (ix2 k d) = w (ix2 d ⟨3848 + k.val, by omega⟩) := by
  pointwise [wg]

theorem pay1_apply (x : Vec Ideal S512x1024 .f32) (g : Vec Ideal S1x1024 .f32) (r : Fin 512) (d : Fin 1024) :
    k0_pay1 x g (ix2 r d) = x (ix2 r d) * Ideal.rsqrt (Norm.spread fun k => x (ix2 r k)) * g (ix2 0 d) := by
  pointwise [k0_pay1]
  rfl

theorem pay2_apply (x : Vec Ideal S512x1024 .f32) (g : Vec Ideal S1x1024 .f32) (w : Vec Ideal S3072x1024 .bf16) (r : Fin 512) (k : Fin 3072) :
    k0_pay2 x g w (ix2 r k) = ∑ d, x (ix2 r d) * Ideal.rsqrt (Norm.spread fun k => x (ix2 r k)) * g (ix2 0 d) * w (ix2 k d) := by
  have e : k0_pay2 x g w (ix2 r k) = ∑ d, k0_pay1 x g (ix2 r d) * w (ix2 k d) := by
    pointwise [k0_pay2]
  rw [e]
  simp only [pay1_apply]

variable (m : (ℓ : Loc nD τ sig) → Buf (Elt Ideal) ℓ) (c : Dev nD) (t : Fin cfg0.N)

/-- The arguments. -/
abbrev argX : Vec Ideal S4096x1024 .f32 := m ((c : Thread nD τ).loc main_arg0)
abbrev argN : Vec Ideal S1x1024 .f32 := m ((c : Thread nD τ).loc main_arg1)
abbrev argW : Vec Ideal S1024x6920 .f32 := m ((c : Thread nD τ).loc main_arg2)

theorem wg_at : V m c main_v14 = wg (argW m c) := by
  unfold V
  after_reads_simp
  rfl

theorem place : ∀ t : Fin cfg0.N,
    win0_0.index t = ![t.val, 0]
    ∧ win0_1.index t = ![0, 0]
    ∧ win0_2.index t = ![0, 0]
    ∧ win0_3.index t = ![t.val, 0]
    ∧ win0_4.index t = ![t.val, 0] :=
  (by decide +kernel : ∀ t : Fin grid0.N,
    win0_0.index t = ![t.val, 0]
    ∧ win0_1.index t = ![0, 0]
    ∧ win0_2.index t = ![0, 0]
    ∧ win0_3.index t = ![t.val, 0]
    ∧ win0_4.index t = ![t.val, 0])

/-- The row of the arrays that a row of a point's block is. -/
def rowOf (r : Fin 512) : Fin 4096 := ⟨t.val * 512 + r.val, by have := lt_of_lt_of_eq t.isLt N_0; omega⟩

theorem x_read (r : Fin 512) (d : Fin 1024) : (iblk m c 0 t : Vec Ideal S512x1024 .f32) (ix2 r d) = argX m c (ix2 (rowOf t r) d) := by
  blk_ext [iblk, V, place t, rowOf]

theorem n_read (d : Fin 1024) : (iblk m c 1 t : Vec Ideal S1x1024 .f32) (ix2 0 d) = argN m c (ix2 0 d) := by
  blk_ext [iblk, V, place t]

theorem w_read (k : Fin 3072) (d : Fin 1024) : (iblk m c 2 t : Vec Ideal S3072x1024 .bf16) (ix2 k d) = argW m c (ix2 d ⟨3848 + k.val, by omega⟩) := by
  rw [← wg_apply (argW m c) k d, ← wg_at]
  blk_ext [iblk, place t]

theorem emb_3 (r : Fin 512) (k : Fin 3072) : (win0_3.blk t).view.emb (ix2 r k) = ix2 (rowOf t r) k := by
  blk_ext [place t, rowOf]

theorem emb_4 (r : Fin 512) (d : Fin 1024) : (win0_4.blk t).view.emb (ix2 r d) = ix2 (rowOf t r) d := by
  blk_ext [place t, rowOf]

theorem arr_res : (dats m 0 c).arrAt 3 cfg0.N = Plain.res (argX m c) (argN m c) (argW m c) := by
  refine (dats m 0 c).arrAt_eq_of_covers 3 _ (by decide +kernel) fun t hf y => ?_
  blk_simp
  rw [after0_3]
  change S512x3072.Idx at y
  idx_vars y
  rw [emb_3]
  have e : out0_3 (iblk m c 0 t) (iblk m c 1 t) (iblk m c 2 t) = k0_pay2 (iblk m c 0 t) (iblk m c 1 t) (iblk m c 2 t) := by
    frame_out
  rw [e]
  refine (pay2_apply _ _ _ y0 y1).trans ?_
  rw [Plain.res_apply]
  simp only [x_read, n_read, w_read]

theorem arr_kept : (dats m 0 c).arrAt 4 cfg0.N = Plain.kept (argX m c) (argN m c) := by
  refine (dats m 0 c).arrAt_eq_of_covers 4 _ (by decide +kernel) fun t hf y => ?_
  blk_simp
  rw [after0_4]
  change S512x1024.Idx at y
  idx_vars y
  rw [emb_4]
  have e : out0_4 (iblk m c 0 t) (iblk m c 1 t) (iblk m c 2 t) = k0_pay1 (iblk m c 0 t) (iblk m c 1 t) := by
    frame_out
  rw [e]
  refine (pay1_apply _ _ y0 y1).trans ?_
  rw [Plain.kept_apply]
  simp only [x_read, n_read]

end Cert.ProjGate

end
-- ==== Proof.FfnOut.lean ====
/-
  The feed-forward layer's gated half and the product after it.
-/
module

public import proofs.«01_k».proof.Proof.Norm
public import proofs.«01_k».proof.Proof.Gen.Kernel12Ideal.Value
public import proofs.«01_k».proof.Proof.Gen.Reference12Ideal.Run
public import proofs.«01_k».proof.Proof.DownPlain

@[expose] public section

set_option maxRecDepth 16384

noncomputable section

namespace Cert.FfnOut.Plain

open Idealize.ShloMosaic Idealize.ShloMosaic.TcCoe Idealize.SL Idealize.SL.Sem Cert.Reference12Ideal Cert.Reference12Ideal.Gen

section Generic

variable {F : FTy → Type} [FloatOps F] (g u : Vec F S4096x2816 .bf16) (w : Vec F S2816x1024 .f32)

def ones : Vec F S4096x2816 .f32 := broadcastInDim S4096x2816 ![] bcast_S_S4096x2816 (constant S_ .f32 0x3F800000#32)

/-- The gated half. -/
def mid : Vec F S4096x2816 .f32 :=
  mulf (mulf (extf .f32 g bitsLt_bf16_f32) (Host.divf ones (addf ones (Host.exp (Host.negf (extf .f32 g bitsLt_bf16_f32)))))) (extf .f32 u bitsLt_bf16_f32)

def kept : Vec F S4096x2816 .bf16 := truncf .bf16 (mid g u) bitsLt_bf16_f32

/-- The layer's result. -/
def res : Vec F S4096x1024 .f32 := Host.dotGeneral dot_S4096x2816_S2816x1024_S4096x1024_1_0_0_1_n_n none (mid g u) w

end Generic

theorem kept_apply (g u : Vec Ideal S4096x2816 .bf16) (R : Fin 4096) (l : Fin 2816) :
    kept g u (ix2 R l) = g (ix2 R l) * DownPlain.sgm (g (ix2 R l)) * u (ix2 R l) := by
  pointwise [kept, mid, ones]
  rfl

theorem res_apply (g u : Vec Ideal S4096x2816 .bf16) (w : Vec Ideal S2816x1024 .f32) (R : Fin 4096) (x : Fin 1024) :
    res g u w (ix2 R x) = ∑ l, g (ix2 R l) * DownPlain.sgm (g (ix2 R l)) * u (ix2 R l) * w (ix2 l x) := by
  pointwise [res, mid, ones]
  rfl

end Cert.FfnOut.Plain

namespace Cert.FfnOut

open Idealize.ShloMosaic Idealize.ShloMosaic.TcCoe Idealize.SL Idealize.SL.Sem Cert.Kernel12Ideal Cert.Kernel12Ideal.Gen

theorem pay1_apply (g u : Vec Ideal S512x2816 .bf16) (r : Fin 512) (l : Fin 2816) :
    k0_pay1 g u (ix2 r l) = g (ix2 r l) * DownPlain.sgm (g (ix2 r l)) * u (ix2 r l) := by
  pointwise [k0_pay1]
  rw [zero_sub]
  rfl

theorem pay2_apply (g u : Vec Ideal S512x2816 .bf16) (w : Vec Ideal S2816x1024 .bf16) (r : Fin 512) (x : Fin 1024) :
    k0_pay2 g u w (ix2 r x) = ∑ l, g (ix2 r l) * DownPlain.sgm (g (ix2 r l)) * u (ix2 r l) * w (ix2 l x) := by
  have e : k0_pay2 g u w (ix2 r x) = ∑ l, k0_pay1 g u (ix2 r l) * w (ix2 l x) := by
    pointwise [k0_pay2]
  rw [e]
  simp only [pay1_apply]

variable (m : (ℓ : Loc nD τ sig) → Buf (Elt Ideal) ℓ) (c : Dev nD) (t : Fin cfg0.N)

/-- The arguments. -/
abbrev argG : Vec Ideal S4096x2816 .bf16 := m ((c : Thread nD τ).loc main_arg0)
abbrev argU : Vec Ideal S4096x2816 .bf16 := m ((c : Thread nD τ).loc main_arg1)
abbrev argW : Vec Ideal S2816x1024 .f32 := m ((c : Thread nD τ).loc main_arg2)

theorem w_at : (V m c main_v0 : Vec Ideal S2816x1024 .bf16) = argW m c := by
  unfold V
  after_reads_simp
  rfl

theorem place : ∀ t : Fin cfg0.N,
    win0_0.index t = ![t.val, 0]
    ∧ win0_1.index t = ![t.val, 0]
    ∧ win0_2.index t = ![0, 0]
    ∧ win0_3.index t = ![t.val, 0]
    ∧ win0_4.index t = ![t.val, 0] :=
  (by decide +kernel : ∀ t : Fin grid0.N,
    win0_0.index t = ![t.val, 0]
    ∧ win0_1.index t = ![t.val, 0]
    ∧ win0_2.index t = ![0, 0]
    ∧ win0_3.index t = ![t.val, 0]
    ∧ win0_4.index t = ![t.val, 0])

/-- The row of the arrays that a row of a point's block is. -/
def rowOf (r : Fin 512) : Fin 4096 := ⟨t.val * 512 + r.val, by have := lt_of_lt_of_eq t.isLt N_0; omega⟩

theorem g_read (r : Fin 512) (l : Fin 2816) : (iblk m c 0 t : Vec Ideal S512x2816 .bf16) (ix2 r l) = argG m c (ix2 (rowOf t r) l) := by
  blk_ext [iblk, V, place t, rowOf]

theorem u_read (r : Fin 512) (l : Fin 2816) : (iblk m c 1 t : Vec Ideal S512x2816 .bf16) (ix2 r l) = argU m c (ix2 (rowOf t r) l) := by
  blk_ext [iblk, V, place t, rowOf]

theorem w_read (l : Fin 2816) (x : Fin 1024) : (iblk m c 2 t : Vec Ideal S2816x1024 .bf16) (ix2 l x) = argW m c (ix2 l x) := by
  rw [← w_at]
  blk_ext [iblk, place t]

theorem emb_3 (r : Fin 512) (x : Fin 1024) : (win0_3.blk t).view.emb (ix2 r x) = ix2 (rowOf t r) x := by
  blk_ext [place t, rowOf]

theorem emb_4 (r : Fin 512) (l : Fin 2816) : (win0_4.blk t).view.emb (ix2 r l) = ix2 (rowOf t r) l := by
  blk_ext [place t, rowOf]

theorem arr_res : (dats m 0 c).arrAt 3 cfg0.N = Plain.res (argG m c) (argU m c) (argW m c) := by
  refine (dats m 0 c).arrAt_eq_of_covers 3 _ (by decide +kernel) fun t hf y => ?_
  blk_simp
  rw [after0_3]
  change S512x1024.Idx at y
  idx_vars y
  rw [emb_3]
  have e : out0_3 (iblk m c 0 t) (iblk m c 1 t) (iblk m c 2 t) = k0_pay2 (iblk m c 0 t) (iblk m c 1 t) (iblk m c 2 t) := by
    frame_out
  rw [e]
  refine (pay2_apply _ _ _ y0 y1).trans ?_
  rw [Plain.res_apply]
  simp only [g_read, u_read, w_read]

theorem arr_kept : (dats m 0 c).arrAt 4 cfg0.N = Plain.kept (argG m c) (argU m c) := by
  refine (dats m 0 c).arrAt_eq_of_covers 4 _ (by decide +kernel) fun t hf y => ?_
  blk_simp
  rw [after0_4]
  change S512x2816.Idx at y
  idx_vars y
  rw [emb_4]
  have e : out0_4 (iblk m c 0 t) (iblk m c 1 t) (iblk m c 2 t) = k0_pay1 (iblk m c 0 t) (iblk m c 1 t) := by
    frame_out
  rw [e]
  refine (pay1_apply _ _ y0 y1).trans ?_
  rw [Plain.kept_apply]
  simp only [g_read, u_read]

end Cert.FfnOut

end
-- ==== Proof.Adam.lean ====
/-
  One step of the AdamW rule, shared by every parameter whatever its size: the reference's operations on whole arrays, the kernel's on its
  tiles, and what an element of either is.
-/
module

public import proofs.«01_k».proof.Proof.Norm

@[expose] public section

set_option maxRecDepth 16384

noncomputable section

namespace Cert.Adam

open Idealize.ShloMosaic Idealize.ShloMosaic.TcCoe Idealize.SL Idealize.SL.Sem

/-- The shapes of a number, of a tile and of a tile of one part. -/
abbrev P0 : Shape := ⟨0, ![]⟩
abbrev P2 (a b : Nat) : Shape := ⟨2, ![a, b]⟩
abbrev P3 (n a b : Nat) : Shape := ⟨3, ![n, a, b]⟩

/-- The new first moment, the new second moment and the step of one element, of its gradient. -/
def mean (m g : EReal) : EReal := Ideal.ofBits .f32 0x3F666666#32 * m + Ideal.ofBits .f32 0x3DCCCCCD#32 * g
def square (v g : EReal) : EReal := Ideal.ofBits .f32 0x3F7FBE77#32 * v + Ideal.ofBits .f32 0x3A83126F#32 * (g * g)
def delta (w m v g : EReal) : EReal :=
  Ideal.ofBits .f32 0xBA83126F#32 * (Ideal.div (Ideal.div (mean m g) (Ideal.ofBits .f32 0x3F26BD02#32))
    (Ideal.sqrt (Ideal.div (square v g) (Ideal.ofBits .f32 0x3C231ACC#32)) + Ideal.ofBits .f32 0x322BCC77#32)
    + Ideal.ofBits .f32 0x3C23D70A#32 * w)

section Reference

variable {F : FTy → Type} [FloatOps F] {s : Shape} (hb : P0.BroadcastsInDim s (![] : Fin 0 → Fin s.rank))

/-- The reference's rule on whole arrays. -/
def refMean (m g : FVec F s .f32) : FVec F s .f32 :=
  addf (mulf (broadcastInDim s ![] hb (constant P0 .f32 0x3F666666#32)) m) (mulf (broadcastInDim s ![] hb (constant P0 .f32 0x3DCCCCCD#32)) g)

def refSquare (v g : FVec F s .f32) : FVec F s .f32 :=
  addf (mulf (broadcastInDim s ![] hb (constant P0 .f32 0x3F7FBE77#32)) v) (mulf (broadcastInDim s ![] hb (constant P0 .f32 0x3A83126F#32)) (mulf g g))

def refDelta (w m v g : FVec F s .f32) : FVec F s .f32 :=
  mulf (broadcastInDim s ![] hb (constant P0 .f32 0xBA83126F#32))
    (addf (Host.divf (Host.divf (refMean hb m g) (broadcastInDim s ![] hb (constant P0 .f32 0x3F26BD02#32)))
      (addf (Host.sqrt (Host.divf (refSquare hb v g) (broadcastInDim s ![] hb (constant P0 .f32 0x3C231ACC#32))))
        (broadcastInDim s ![] hb (constant P0 .f32 0x322BCC77#32))))
      (mulf (broadcastInDim s ![] hb (constant P0 .f32 0x3C23D70A#32)) w))

end Reference

section Kernel

variable {F : FTy → Type} [FloatOps F] {a b : Nat} (h : (P3 1 a b).ShapeCasts (P2 a b)) (h' : (P2 a b).ShapeCasts (P3 1 a b))

/-- The kernel's sum of a tile's eight received parts. -/
def kerSum (hb : FTy.bf16.bits < FTy.f32.bits) (x0 x1 x2 x3 x4 x5 x6 x7 : Vec F (P3 1 a b) .bf16) : FVec F (P2 a b) .f32 :=
  addf (addf (addf (addf (addf (addf (addf (extf .f32 (shapeCast (P2 a b) x0 h) hb) (extf .f32 (shapeCast (P2 a b) x1 h) hb))
    (extf .f32 (shapeCast (P2 a b) x2 h) hb)) (extf .f32 (shapeCast (P2 a b) x3 h) hb)) (extf .f32 (shapeCast (P2 a b) x4 h) hb))
    (extf .f32 (shapeCast (P2 a b) x5 h) hb)) (extf .f32 (shapeCast (P2 a b) x6 h) hb)) (extf .f32 (shapeCast (P2 a b) x7 h) hb)

/-- The kernel's rule on a tile. -/
def kerMean (g : FVec F (P2 a b) .f32) (m : Vec F (P3 1 a b) .f32) : FVec F (P2 a b) .f32 :=
  addf (mulf (broadcast (P2 a b) (Scalar.ofBits .f32 0x3F666666#32)) (shapeCast (P2 a b) m h)) (mulf (broadcast (P2 a b) (Scalar.ofBits .f32 0x3DCCCCCD#32)) g)

def kerSquare (g : FVec F (P2 a b) .f32) (v : Vec F (P3 1 a b) .f32) : FVec F (P2 a b) .f32 :=
  addf (mulf (broadcast (P2 a b) (Scalar.ofBits .f32 0x3F7FBE77#32)) (shapeCast (P2 a b) v h))
    (mulf (broadcast (P2 a b) (Scalar.ofBits .f32 0x3A83126F#32)) (mulf g g))

def kerDelta (g : FVec F (P2 a b) .f32) (m v w : Vec F (P3 1 a b) .f32) : FVec F (P3 1 a b) .f32 :=
  shapeCast (P3 1 a b) (mulf (broadcast (P2 a b) (Scalar.ofBits .f32 0xBA83126F#32))
    (addf (divf (divf (kerMean h g m) (broadcast (P2 a b) (Scalar.ofBits .f32 0x3F26BD02#32)))
      (addf (sqrt (divf (kerSquare h g v) (broadcast (P2 a b) (Scalar.ofBits .f32 0x3C231ACC#32)))) (broadcast (P2 a b) (Scalar.ofBits .f32 0x322BCC77#32))))
      (mulf (broadcast (P2 a b) (Scalar.ofBits .f32 0x3C23D70A#32)) (shapeCast (P2 a b) w h)))) h'

end Kernel

section

variable {a b : Nat} (h : (P3 1 a b).ShapeCasts (P2 a b)) (h' : (P2 a b).ShapeCasts (P3 1 a b)) (r : Fin a) (k : Fin b)

/-- A tile of one part read as a matrix, and a matrix stored as a tile of one part. -/
theorem drop_apply {α : Type} (x : (P3 1 a b).Idx → α) : shapeCast (P2 a b) x h (ix2 r k) = x (ix3 0 r k) :=
  (shapeCast_dropUnit_apply ![a, b] x h (ix2 r k)).trans (congrArg x (funext fun i => by fin_cases i <;> rfl))

theorem add_apply {α : Type} (x : (P2 a b).Idx → α) : shapeCast (P3 1 a b) x h' (ix3 0 r k) = x (ix2 r k) :=
  (shapeCast_addUnit_apply ![a, b] x h' (ix3 0 r k)).trans (congrArg x (funext fun i => by fin_cases i <;> rfl))

/-- What holds at every row and column of a tile of one part holds at every index of it. -/
theorem forall_tile {α : Type} (x : (P3 1 a b).Idx → α) (y : (P3 1 a b).Idx → α) (e : ∀ (r : Fin a) (k : Fin b), x (ix3 0 r k) = y (ix3 0 r k))
    (i : (P3 1 a b).Idx) : x i = y i := by
  have h : i = ix3 0 (i 1) (i 2) := by
    funext j
    fin_cases j
    · exact Subsingleton.elim (α := Fin 1) _ _
    · rfl
    · rfl
  rw [h]
  exact e _ _

/-- One part of a tile of eight. -/
theorem ld_apply (d : Fin 8) (x : Vec Ideal (P3 8 a b) .bf16) (hi : ∀ i, (![d.val, 0, 0] : Fin 3 → Nat) i + (P3 1 a b).size i ≤ (P3 8 a b).size i) :
    View.ld x (Rect.unit (s := P3 8 a b) ![d.val, 0, 0] (P3 1 a b).size hi) (ix3 0 r k) = x (ix3 d r k) := by
  show x ((Rect.unit (s := P3 8 a b) ![d.val, 0, 0] (P3 1 a b).size hi).emb (ix3 0 r k)) = _
  refine congrArg x (funext fun i => Fin.ext (match i with
    | 0 => (by show d.val + 1 * 0 = d.val; omega)
    | 1 => (by show 0 + 1 * r.val = r.val; omega)
    | 2 => (by show 0 + 1 * k.val = k.val; omega)))

/-- The kernel's stored gradient, moments and step at an element, from the tile's eight parts. -/
theorem kerSum_apply (hb : FTy.bf16.bits < FTy.f32.bits) (x : Fin 8 → Vec Ideal (P3 1 a b) .bf16) :
    kerSum h hb (x 0) (x 1) (x 2) (x 3) (x 4) (x 5) (x 6) (x 7) (ix2 r k) = ∑ d, x d (ix3 0 r k) := by
  rw [Fin.sum_univ_eight]
  rw [← drop_apply h r k (x 0), ← drop_apply h r k (x 1), ← drop_apply h r k (x 2), ← drop_apply h r k (x 3), ← drop_apply h r k (x 4),
    ← drop_apply h r k (x 5), ← drop_apply h r k (x 6), ← drop_apply h r k (x 7)]
  rfl

variable (g : FVec Ideal (P2 a b) .f32) (m v w : Vec Ideal (P3 1 a b) .f32)

theorem kerMean_apply : kerMean h g m (ix2 r k) = mean (m (ix3 0 r k)) (g (ix2 r k)) :=
  congrArg (mean · (g (ix2 r k))) (drop_apply h r k m)

theorem kerSquare_apply : kerSquare h g v (ix2 r k) = square (v (ix3 0 r k)) (g (ix2 r k)) :=
  congrArg (square · (g (ix2 r k))) (drop_apply h r k v)

theorem kerDelta_apply : kerDelta h h' g m v w (ix3 0 r k) = delta (w (ix3 0 r k)) (m (ix3 0 r k)) (v (ix3 0 r k)) (g (ix2 r k)) := by
  refine (add_apply h' r k _).trans ?_
  rw [← drop_apply h r k m, ← drop_apply h r k v, ← drop_apply h r k w]
  rfl

end

end Cert.Adam

end
-- ==== Proof.AdamSmall.lean ====
/-
  The step of the parameters held whole on every device: the received parts of its gradient added, its moments and its step by the AdamW rule.
-/
module

public import proofs.«01_k».proof.Proof.Adam
public import proofs.«01_k».proof.Proof.Gen.Kernel13Ideal.Value
public import proofs.«01_k».proof.Proof.Gen.Reference13Ideal.Run

@[expose] public section

set_option maxRecDepth 16384

noncomputable section

namespace Cert.AdamSmall.Plain

open Idealize.ShloMosaic Idealize.ShloMosaic.TcCoe Idealize.SL Idealize.SL.Sem Cert.Reference13Ideal Cert.Reference13Ideal.Gen

variable {F : FTy → Type} [FloatOps F] (x : Vec F S8x16x1024 .bf16)

/-- The sum of the received parts of the gradient. -/
def total : Vec F S1x16x1024 .f32 :=
  broadcastInDim S1x16x1024 ![1, 2] bcast_S16x1024_S1x16x1024_1_2 (Host.reduceAdd (extf .f32 x bitsLt_bf16_f32)
    (constant S_ .f32 0x00000000#32) reducesTo_S8x16x1024_S16x1024_d0 h_S_)

/-- The new moments and the step. -/
def moment (m : Vec F S1x16x1024 .f32) : Vec F S1x16x1024 .f32 :=
  Adam.refMean bcast_S_S1x16x1024 m (total x)

def square (v : Vec F S1x16x1024 .f32) : Vec F S1x16x1024 .f32 :=
  Adam.refSquare bcast_S_S1x16x1024 v (total x)

def delta (w m v : Vec F S1x16x1024 .f32) : Vec F S1x16x1024 .f32 :=
  Adam.refDelta bcast_S_S1x16x1024 w m v (total x)

theorem total_apply (x : Vec Ideal S8x16x1024 .bf16) (r : Fin 16) (k : Fin 1024) : total x (ix3 0 r k) = ∑ d, x (ix3 d r k) := by
  pointwise [total]

end Cert.AdamSmall.Plain

namespace Cert.AdamSmall

open Idealize.ShloMosaic Idealize.ShloMosaic.TcCoe Idealize.SL Idealize.SL.Sem Cert.Kernel13Ideal Cert.Kernel13Ideal.Gen

variable (m : (ℓ : Loc nD τ sig) → Buf (Elt Ideal) ℓ) (c : Dev nD) (t : Fin cfg0.N)

/-- The arguments: the received parts of the gradient, the weight and its moments. -/
abbrev argX : Vec Ideal S8x16x1024 .bf16 := m ((c : Thread nD τ).loc main_arg0)
abbrev argW : Vec Ideal S1x16x1024 .f32 := m ((c : Thread nD τ).loc main_arg1)
abbrev argM : Vec Ideal S1x16x1024 .f32 := m ((c : Thread nD τ).loc main_arg2)
abbrev argV : Vec Ideal S1x16x1024 .f32 := m ((c : Thread nD τ).loc main_arg3)

theorem place : ∀ t : Fin cfg0.N,
    win0_0.index t = ![0, 0, 0]
    ∧ win0_4.index t = ![0, 0, 0] := by
  show ∀ t : Fin grid0.N, _
  decide +kernel

theorem x_read (d : Fin 8) (r : Fin 16) (k : Fin 1024) :
    (iblk m c 0 t : Vec Ideal S8x16x1024 .bf16) (ix3 d r k) = argX m c (ix3 d r k) := by
  blk_ext [iblk, V, place t]

theorem emb (r : Fin 16) (k : Fin 1024) : (win0_4.blk t).view.emb (ix3 0 r k) = ix3 0 r k := by
  blk_ext [place t]

theorem w_read (r : Fin 16) (k : Fin 1024) : (iblk m c 1 t : Vec Ideal S1x16x1024 .f32) (ix3 0 r k) = argW m c (ix3 0 r k) :=
  congrArg (argW m c) (emb t r k)

theorem m_read (r : Fin 16) (k : Fin 1024) : (iblk m c 2 t : Vec Ideal S1x16x1024 .f32) (ix3 0 r k) = argM m c (ix3 0 r k) :=
  congrArg (argM m c) (emb t r k)

theorem v_read (r : Fin 16) (k : Fin 1024) : (iblk m c 3 t : Vec Ideal S1x16x1024 .f32) (ix3 0 r k) = argV m c (ix3 0 r k) :=
  congrArg (argV m c) (emb t r k)

/-- A point's gradient, the reference's at its elements. -/
abbrev grad : FVec Ideal S16x1024 .f32 := k0_pay8 (iblk m c 0 t) (iblk m c 1 t) (iblk m c 2 t) (iblk m c 3 t)

theorem grad_point (r : Fin 16) (k : Fin 1024) : grad m c t (ix2 r k) = Plain.total (argX m c) (ix3 0 r k) := by
  have s := Adam.kerSum_apply shapeCasts_S1x16x1024_S16x1024 r k bitsLt_bf16_f32 fun d => View.ld (iblk m c 0 t : Vec Ideal S8x16x1024 .bf16)
    (Rect.unit (s := S8x16x1024) ![d.val, 0, 0] S1x16x1024.size (by fin_cases d <;> decide))
  refine Eq.trans ?_ (s.trans ?_)
  · rfl
  · rw [Plain.total_apply]
    exact Finset.sum_congr rfl fun d _ => (Adam.ld_apply r k d _ _).trans (x_read m c t d r k)

theorem arr_total : (dats m 0 c).arrAt 4 cfg0.N = Plain.total (argX m c) := by
  refine (dats m 0 c).arrAt_eq_of_covers 4 _ (by decide +kernel) fun t hf y => ?_
  blk_simp
  rw [after0_4]
  refine Adam.forall_tile _ (fun i => Plain.total (argX m c) ((win0_4.blk t).view.emb i)) (fun r k => ?_) y
  rw [show (win0_4.blk t).view.emb (ix3 0 r k) = _ from emb t r k,
    show out0_4 (iblk m c 0 t) (iblk m c 1 t) (iblk m c 2 t) (iblk m c 3 t) = k0_pay6 (grad m c t) by frame_out]
  exact (Adam.add_apply shapeCasts_S16x1024_S1x16x1024 r k _).trans (grad_point m c t r k)

theorem arr_delta : (dats m 0 c).arrAt 5 cfg0.N = Plain.delta (argX m c) (argW m c) (argM m c) (argV m c) := by
  refine (dats m 0 c).arrAt_eq_of_covers 5 _ (by decide +kernel) fun t hf y => ?_
  blk_simp
  rw [after0_5]
  refine Adam.forall_tile _ (fun i => Plain.delta (argX m c) (argW m c) (argM m c) (argV m c) ((win0_5.blk t).view.emb i)) (fun r k => ?_) y
  rw [show (win0_5.blk t).view.emb (ix3 0 r k) = _ from emb t r k,
    show out0_5 (iblk m c 0 t) (iblk m c 1 t) (iblk m c 2 t) (iblk m c 3 t) = k0_pay7 (grad m c t) (iblk m c 2 t) (iblk m c 3 t) (iblk m c 1 t) by frame_out]
  exact (Adam.kerDelta_apply shapeCasts_S1x16x1024_S16x1024 shapeCasts_S16x1024_S1x16x1024 r k _ _ _ _).trans (by rw [grad_point, w_read, m_read, v_read]; rfl)

theorem arr_moment : (dats m 0 c).arrAt 6 cfg0.N = Plain.moment (argX m c) (argM m c) := by
  refine (dats m 0 c).arrAt_eq_of_covers 6 _ (by decide +kernel) fun t hf y => ?_
  blk_simp
  rw [after0_6]
  refine Adam.forall_tile _ (fun i => Plain.moment (argX m c) (argM m c) ((win0_6.blk t).view.emb i)) (fun r k => ?_) y
  rw [show (win0_6.blk t).view.emb (ix3 0 r k) = _ from emb t r k,
    show out0_6 (iblk m c 0 t) (iblk m c 1 t) (iblk m c 2 t) (iblk m c 3 t) = k0_pay1 (k0_pay4 (grad m c t) (iblk m c 2 t)) by frame_out]
  exact (Adam.add_apply shapeCasts_S16x1024_S1x16x1024 r k _).trans ((Adam.kerMean_apply shapeCasts_S1x16x1024_S16x1024 r k _ _).trans (by rw [grad_point, m_read]; rfl))

theorem arr_square : (dats m 0 c).arrAt 7 cfg0.N = Plain.square (argX m c) (argV m c) := by
  refine (dats m 0 c).arrAt_eq_of_covers 7 _ (by decide +kernel) fun t hf y => ?_
  blk_simp
  rw [after0_7]
  refine Adam.forall_tile _ (fun i => Plain.square (argX m c) (argV m c) ((win0_7.blk t).view.emb i)) (fun r k => ?_) y
  rw [show (win0_7.blk t).view.emb (ix3 0 r k) = _ from emb t r k,
    show out0_7 (iblk m c 0 t) (iblk m c 1 t) (iblk m c 2 t) (iblk m c 3 t) = k0_pay2 (k0_pay5 (grad m c t) (iblk m c 3 t)) by frame_out]
  exact (Adam.add_apply shapeCasts_S16x1024_S1x16x1024 r k _).trans ((Adam.kerSquare_apply shapeCasts_S1x16x1024_S16x1024 r k _ _).trans (by rw [grad_point, v_read]; rfl))

end Cert.AdamSmall

end
-- ==== Proof.AdamIn.lean ====
/-
  The step of the mixers' input projection: the received parts of its gradient added, its moments and its step by the AdamW rule.
-/
module

public import proofs.«01_k».proof.Proof.Adam
public import proofs.«01_k».proof.Proof.Gen.Kernel14Ideal.Value
public import proofs.«01_k».proof.Proof.Gen.Reference14Ideal.Run

@[expose] public section

set_option maxRecDepth 16384

noncomputable section

namespace Cert.AdamIn.Plain

open Idealize.ShloMosaic Idealize.ShloMosaic.TcCoe Idealize.SL Idealize.SL.Sem Cert.Reference14Ideal Cert.Reference14Ideal.Gen

variable {F : FTy → Type} [FloatOps F] (x : Vec F S8x865x1024 .bf16)

/-- The sum of the received parts of the gradient. -/
def total : Vec F S1x865x1024 .f32 :=
  broadcastInDim S1x865x1024 ![1, 2] bcast_S865x1024_S1x865x1024_1_2 (Host.reduceAdd (extf .f32 x bitsLt_bf16_f32)
    (constant S_ .f32 0x00000000#32) reducesTo_S8x865x1024_S865x1024_d0 h_S_)

/-- The new moments and the step. -/
def moment (m : Vec F S1x865x1024 .f32) : Vec F S1x865x1024 .f32 :=
  Adam.refMean bcast_S_S1x865x1024 m (total x)

def square (v : Vec F S1x865x1024 .f32) : Vec F S1x865x1024 .f32 :=
  Adam.refSquare bcast_S_S1x865x1024 v (total x)

def delta (w m v : Vec F S1x865x1024 .f32) : Vec F S1x865x1024 .f32 :=
  Adam.refDelta bcast_S_S1x865x1024 w m v (total x)

theorem total_apply (x : Vec Ideal S8x865x1024 .bf16) (r : Fin 865) (k : Fin 1024) : total x (ix3 0 r k) = ∑ d, x (ix3 d r k) := by
  pointwise [total]

end Cert.AdamIn.Plain

namespace Cert.AdamIn

open Idealize.ShloMosaic Idealize.ShloMosaic.TcCoe Idealize.SL Idealize.SL.Sem Cert.Kernel14Ideal Cert.Kernel14Ideal.Gen

variable (m : (ℓ : Loc nD τ sig) → Buf (Elt Ideal) ℓ) (c : Dev nD) (t : Fin cfg0.N)

/-- The arguments: the received parts of the gradient, the weight and its moments. -/
abbrev argX : Vec Ideal S8x865x1024 .bf16 := m ((c : Thread nD τ).loc main_arg0)
abbrev argW : Vec Ideal S1x865x1024 .f32 := m ((c : Thread nD τ).loc main_arg1)
abbrev argM : Vec Ideal S1x865x1024 .f32 := m ((c : Thread nD τ).loc main_arg2)
abbrev argV : Vec Ideal S1x865x1024 .f32 := m ((c : Thread nD τ).loc main_arg3)

theorem place : ∀ t : Fin cfg0.N,
    win0_0.index t = ![0, 0, t.val]
    ∧ win0_4.index t = ![0, 0, t.val] := by
  show ∀ t : Fin grid0.N, _
  decide +kernel

/-- The column of the arrays that one of a point's blocks is. -/
def colOf (k : Fin 128) : Fin 1024 := ⟨t.val * 128 + k.val, by have := lt_of_lt_of_eq t.isLt N_0; omega⟩

theorem x_read (d : Fin 8) (r : Fin 865) (k : Fin 128) :
    (iblk m c 0 t : Vec Ideal S8x865x128 .bf16) (ix3 d r k) = argX m c (ix3 d r (colOf t k)) := by
  blk_ext [iblk, V, place t, colOf]

theorem emb (r : Fin 865) (k : Fin 128) : (win0_4.blk t).view.emb (ix3 0 r k) = ix3 0 r (colOf t k) := by
  blk_ext [place t, colOf]

theorem w_read (r : Fin 865) (k : Fin 128) : (iblk m c 1 t : Vec Ideal S1x865x128 .f32) (ix3 0 r k) = argW m c (ix3 0 r (colOf t k)) :=
  congrArg (argW m c) (emb t r k)

theorem m_read (r : Fin 865) (k : Fin 128) : (iblk m c 2 t : Vec Ideal S1x865x128 .f32) (ix3 0 r k) = argM m c (ix3 0 r (colOf t k)) :=
  congrArg (argM m c) (emb t r k)

theorem v_read (r : Fin 865) (k : Fin 128) : (iblk m c 3 t : Vec Ideal S1x865x128 .f32) (ix3 0 r k) = argV m c (ix3 0 r (colOf t k)) :=
  congrArg (argV m c) (emb t r k)

/-- A point's gradient, the reference's at its elements. -/
abbrev grad : FVec Ideal S865x128 .f32 := k0_pay8 (iblk m c 0 t) (iblk m c 1 t) (iblk m c 2 t) (iblk m c 3 t)

theorem grad_point (r : Fin 865) (k : Fin 128) : grad m c t (ix2 r k) = Plain.total (argX m c) (ix3 0 r (colOf t k)) := by
  have s := Adam.kerSum_apply shapeCasts_S1x865x128_S865x128 r k bitsLt_bf16_f32 fun d => View.ld (iblk m c 0 t : Vec Ideal S8x865x128 .bf16)
    (Rect.unit (s := S8x865x128) ![d.val, 0, 0] S1x865x128.size (by fin_cases d <;> decide))
  refine Eq.trans ?_ (s.trans ?_)
  · rfl
  · rw [Plain.total_apply]
    exact Finset.sum_congr rfl fun d _ => (Adam.ld_apply r k d _ _).trans (x_read m c t d r k)

theorem arr_total : (dats m 0 c).arrAt 4 cfg0.N = Plain.total (argX m c) := by
  refine (dats m 0 c).arrAt_eq_of_covers 4 _ (by decide +kernel) fun t hf y => ?_
  blk_simp
  rw [after0_4]
  refine Adam.forall_tile _ (fun i => Plain.total (argX m c) ((win0_4.blk t).view.emb i)) (fun r k => ?_) y
  rw [show (win0_4.blk t).view.emb (ix3 0 r k) = _ from emb t r k,
    show out0_4 (iblk m c 0 t) (iblk m c 1 t) (iblk m c 2 t) (iblk m c 3 t) = k0_pay6 (grad m c t) by frame_out]
  exact (Adam.add_apply shapeCasts_S865x128_S1x865x128 r k _).trans (grad_point m c t r k)

theorem arr_delta : (dats m 0 c).arrAt 5 cfg0.N = Plain.delta (argX m c) (argW m c) (argM m c) (argV m c) := by
  refine (dats m 0 c).arrAt_eq_of_covers 5 _ (by decide +kernel) fun t hf y => ?_
  blk_simp
  rw [after0_5]
  refine Adam.forall_tile _ (fun i => Plain.delta (argX m c) (argW m c) (argM m c) (argV m c) ((win0_5.blk t).view.emb i)) (fun r k => ?_) y
  rw [show (win0_5.blk t).view.emb (ix3 0 r k) = _ from emb t r k,
    show out0_5 (iblk m c 0 t) (iblk m c 1 t) (iblk m c 2 t) (iblk m c 3 t) = k0_pay7 (grad m c t) (iblk m c 2 t) (iblk m c 3 t) (iblk m c 1 t) by frame_out]
  exact (Adam.kerDelta_apply shapeCasts_S1x865x128_S865x128 shapeCasts_S865x128_S1x865x128 r k _ _ _ _).trans (by rw [grad_point, w_read, m_read, v_read]; rfl)

theorem arr_moment : (dats m 0 c).arrAt 6 cfg0.N = Plain.moment (argX m c) (argM m c) := by
  refine (dats m 0 c).arrAt_eq_of_covers 6 _ (by decide +kernel) fun t hf y => ?_
  blk_simp
  rw [after0_6]
  refine Adam.forall_tile _ (fun i => Plain.moment (argX m c) (argM m c) ((win0_6.blk t).view.emb i)) (fun r k => ?_) y
  rw [show (win0_6.blk t).view.emb (ix3 0 r k) = _ from emb t r k,
    show out0_6 (iblk m c 0 t) (iblk m c 1 t) (iblk m c 2 t) (iblk m c 3 t) = k0_pay1 (k0_pay4 (grad m c t) (iblk m c 2 t)) by frame_out]
  exact (Adam.add_apply shapeCasts_S865x128_S1x865x128 r k _).trans ((Adam.kerMean_apply shapeCasts_S1x865x128_S865x128 r k _ _).trans (by rw [grad_point, m_read]; rfl))

theorem arr_square : (dats m 0 c).arrAt 7 cfg0.N = Plain.square (argX m c) (argV m c) := by
  refine (dats m 0 c).arrAt_eq_of_covers 7 _ (by decide +kernel) fun t hf y => ?_
  blk_simp
  rw [after0_7]
  refine Adam.forall_tile _ (fun i => Plain.square (argX m c) (argV m c) ((win0_7.blk t).view.emb i)) (fun r k => ?_) y
  rw [show (win0_7.blk t).view.emb (ix3 0 r k) = _ from emb t r k,
    show out0_7 (iblk m c 0 t) (iblk m c 1 t) (iblk m c 2 t) (iblk m c 3 t) = k0_pay2 (k0_pay5 (grad m c t) (iblk m c 3 t)) by frame_out]
  exact (Adam.add_apply shapeCasts_S865x128_S1x865x128 r k _).trans ((Adam.kerSquare_apply shapeCasts_S1x865x128_S865x128 r k _ _).trans (by rw [grad_point, v_read]; rfl))

end Cert.AdamIn

end
-- ==== Proof.AdamMemKv.lean ====
/-
  The step of the memory's key and value projection: the received parts of its gradient added, its moments and its step by the AdamW rule.
-/
module

public import proofs.«01_k».proof.Proof.Adam
public import proofs.«01_k».proof.Proof.Gen.Kernel15Ideal.Value
public import proofs.«01_k».proof.Proof.Gen.Reference15Ideal.Run

@[expose] public section

set_option maxRecDepth 16384

noncomputable section

namespace Cert.AdamMemKv.Plain

open Idealize.ShloMosaic Idealize.ShloMosaic.TcCoe Idealize.SL Idealize.SL.Sem Cert.Reference15Ideal Cert.Reference15Ideal.Gen

variable {F : FTy → Type} [FloatOps F] (x : Vec F S8x128x1024 .bf16)

/-- The sum of the received parts of the gradient. -/
def total : Vec F S1x128x1024 .f32 :=
  broadcastInDim S1x128x1024 ![1, 2] bcast_S128x1024_S1x128x1024_1_2 (Host.reduceAdd (extf .f32 x bitsLt_bf16_f32)
    (constant S_ .f32 0x00000000#32) reducesTo_S8x128x1024_S128x1024_d0 h_S_)

/-- The new moments and the step. -/
def moment (m : Vec F S1x128x1024 .f32) : Vec F S1x128x1024 .f32 :=
  Adam.refMean bcast_S_S1x128x1024 m (total x)

def square (v : Vec F S1x128x1024 .f32) : Vec F S1x128x1024 .f32 :=
  Adam.refSquare bcast_S_S1x128x1024 v (total x)

def delta (w m v : Vec F S1x128x1024 .f32) : Vec F S1x128x1024 .f32 :=
  Adam.refDelta bcast_S_S1x128x1024 w m v (total x)

theorem total_apply (x : Vec Ideal S8x128x1024 .bf16) (r : Fin 128) (k : Fin 1024) : total x (ix3 0 r k) = ∑ d, x (ix3 d r k) := by
  pointwise [total]

end Cert.AdamMemKv.Plain

namespace Cert.AdamMemKv

open Idealize.ShloMosaic Idealize.ShloMosaic.TcCoe Idealize.SL Idealize.SL.Sem Cert.Kernel15Ideal Cert.Kernel15Ideal.Gen

variable (m : (ℓ : Loc nD τ sig) → Buf (Elt Ideal) ℓ) (c : Dev nD) (t : Fin cfg0.N)

/-- The arguments: the received parts of the gradient, the weight and its moments. -/
abbrev argX : Vec Ideal S8x128x1024 .bf16 := m ((c : Thread nD τ).loc main_arg0)
abbrev argW : Vec Ideal S1x128x1024 .f32 := m ((c : Thread nD τ).loc main_arg1)
abbrev argM : Vec Ideal S1x128x1024 .f32 := m ((c : Thread nD τ).loc main_arg2)
abbrev argV : Vec Ideal S1x128x1024 .f32 := m ((c : Thread nD τ).loc main_arg3)

theorem place : ∀ t : Fin cfg0.N,
    win0_0.index t = ![0, 0, 0]
    ∧ win0_4.index t = ![0, 0, 0] := by
  show ∀ t : Fin grid0.N, _
  decide +kernel

theorem x_read (d : Fin 8) (r : Fin 128) (k : Fin 1024) :
    (iblk m c 0 t : Vec Ideal S8x128x1024 .bf16) (ix3 d r k) = argX m c (ix3 d r k) := by
  blk_ext [iblk, V, place t]

theorem emb (r : Fin 128) (k : Fin 1024) : (win0_4.blk t).view.emb (ix3 0 r k) = ix3 0 r k := by
  blk_ext [place t]

theorem w_read (r : Fin 128) (k : Fin 1024) : (iblk m c 1 t : Vec Ideal S1x128x1024 .f32) (ix3 0 r k) = argW m c (ix3 0 r k) :=
  congrArg (argW m c) (emb t r k)

theorem m_read (r : Fin 128) (k : Fin 1024) : (iblk m c 2 t : Vec Ideal S1x128x1024 .f32) (ix3 0 r k) = argM m c (ix3 0 r k) :=
  congrArg (argM m c) (emb t r k)

theorem v_read (r : Fin 128) (k : Fin 1024) : (iblk m c 3 t : Vec Ideal S1x128x1024 .f32) (ix3 0 r k) = argV m c (ix3 0 r k) :=
  congrArg (argV m c) (emb t r k)

/-- A point's gradient, the reference's at its elements. -/
abbrev grad : FVec Ideal S128x1024 .f32 := k0_pay8 (iblk m c 0 t) (iblk m c 1 t) (iblk m c 2 t) (iblk m c 3 t)

theorem grad_point (r : Fin 128) (k : Fin 1024) : grad m c t (ix2 r k) = Plain.total (argX m c) (ix3 0 r k) := by
  have s := Adam.kerSum_apply shapeCasts_S1x128x1024_S128x1024 r k bitsLt_bf16_f32 fun d => View.ld (iblk m c 0 t : Vec Ideal S8x128x1024 .bf16)
    (Rect.unit (s := S8x128x1024) ![d.val, 0, 0] S1x128x1024.size (by fin_cases d <;> decide))
  refine Eq.trans ?_ (s.trans ?_)
  · rfl
  · rw [Plain.total_apply]
    exact Finset.sum_congr rfl fun d _ => (Adam.ld_apply r k d _ _).trans (x_read m c t d r k)

theorem arr_total : (dats m 0 c).arrAt 4 cfg0.N = Plain.total (argX m c) := by
  refine (dats m 0 c).arrAt_eq_of_covers 4 _ (by decide +kernel) fun t hf y => ?_
  blk_simp
  rw [after0_4]
  refine Adam.forall_tile _ (fun i => Plain.total (argX m c) ((win0_4.blk t).view.emb i)) (fun r k => ?_) y
  rw [show (win0_4.blk t).view.emb (ix3 0 r k) = _ from emb t r k,
    show out0_4 (iblk m c 0 t) (iblk m c 1 t) (iblk m c 2 t) (iblk m c 3 t) = k0_pay6 (grad m c t) by frame_out]
  exact (Adam.add_apply shapeCasts_S128x1024_S1x128x1024 r k _).trans (grad_point m c t r k)

theorem arr_delta : (dats m 0 c).arrAt 5 cfg0.N = Plain.delta (argX m c) (argW m c) (argM m c) (argV m c) := by
  refine (dats m 0 c).arrAt_eq_of_covers 5 _ (by decide +kernel) fun t hf y => ?_
  blk_simp
  rw [after0_5]
  refine Adam.forall_tile _ (fun i => Plain.delta (argX m c) (argW m c) (argM m c) (argV m c) ((win0_5.blk t).view.emb i)) (fun r k => ?_) y
  rw [show (win0_5.blk t).view.emb (ix3 0 r k) = _ from emb t r k,
    show out0_5 (iblk m c 0 t) (iblk m c 1 t) (iblk m c 2 t) (iblk m c 3 t) = k0_pay7 (grad m c t) (iblk m c 2 t) (iblk m c 3 t) (iblk m c 1 t) by frame_out]
  exact (Adam.kerDelta_apply shapeCasts_S1x128x1024_S128x1024 shapeCasts_S128x1024_S1x128x1024 r k _ _ _ _).trans (by rw [grad_point, w_read, m_read, v_read]; rfl)

theorem arr_moment : (dats m 0 c).arrAt 6 cfg0.N = Plain.moment (argX m c) (argM m c) := by
  refine (dats m 0 c).arrAt_eq_of_covers 6 _ (by decide +kernel) fun t hf y => ?_
  blk_simp
  rw [after0_6]
  refine Adam.forall_tile _ (fun i => Plain.moment (argX m c) (argM m c) ((win0_6.blk t).view.emb i)) (fun r k => ?_) y
  rw [show (win0_6.blk t).view.emb (ix3 0 r k) = _ from emb t r k,
    show out0_6 (iblk m c 0 t) (iblk m c 1 t) (iblk m c 2 t) (iblk m c 3 t) = k0_pay1 (k0_pay4 (grad m c t) (iblk m c 2 t)) by frame_out]
  exact (Adam.add_apply shapeCasts_S128x1024_S1x128x1024 r k _).trans ((Adam.kerMean_apply shapeCasts_S1x128x1024_S128x1024 r k _ _).trans (by rw [grad_point, m_read]; rfl))

theorem arr_square : (dats m 0 c).arrAt 7 cfg0.N = Plain.square (argX m c) (argV m c) := by
  refine (dats m 0 c).arrAt_eq_of_covers 7 _ (by decide +kernel) fun t hf y => ?_
  blk_simp
  rw [after0_7]
  refine Adam.forall_tile _ (fun i => Plain.square (argX m c) (argV m c) ((win0_7.blk t).view.emb i)) (fun r k => ?_) y
  rw [show (win0_7.blk t).view.emb (ix3 0 r k) = _ from emb t r k,
    show out0_7 (iblk m c 0 t) (iblk m c 1 t) (iblk m c 2 t) (iblk m c 3 t) = k0_pay2 (k0_pay5 (grad m c t) (iblk m c 3 t)) by frame_out]
  exact (Adam.add_apply shapeCasts_S128x1024_S1x128x1024 r k _).trans ((Adam.kerSquare_apply shapeCasts_S1x128x1024_S128x1024 r k _ _).trans (by rw [grad_point, v_read]; rfl))

end Cert.AdamMemKv

end
-- ==== Proof.AdamFfnGate.lean ====
/-
  The step of the feed-forward layer's gate weight: the received parts of its gradient added, its moments and its step by the AdamW rule.
-/
module

public import proofs.«01_k».proof.Proof.Adam
public import proofs.«01_k».proof.Proof.Gen.Kernel16Ideal.Value
public import proofs.«01_k».proof.Proof.Gen.Reference16Ideal.Run

@[expose] public section

set_option maxRecDepth 16384

noncomputable section

namespace Cert.AdamFfnGate.Plain

open Idealize.ShloMosaic Idealize.ShloMosaic.TcCoe Idealize.SL Idealize.SL.Sem Cert.Reference16Ideal Cert.Reference16Ideal.Gen

variable {F : FTy → Type} [FloatOps F] (x : Vec F S8x704x1024 .bf16)

/-- The sum of the received parts of the gradient. -/
def total : Vec F S1x352x1024 .f32 :=
  broadcastInDim S1x352x1024 ![1, 2] bcast_S352x1024_S1x352x1024_1_2 (Host.reduceAdd (extf .f32 (extractStridedSlice S8x352x1024 ![0, 0, 0] x slices_S8x704x1024_S8x352x1024_0_0_0) bitsLt_bf16_f32)
    (constant S_ .f32 0x00000000#32) reducesTo_S8x352x1024_S352x1024_d0 h_S_)

/-- The new moments and the step. -/
def moment (m : Vec F S1x352x1024 .f32) : Vec F S1x352x1024 .f32 :=
  Adam.refMean bcast_S_S1x352x1024 m (total x)

def square (v : Vec F S1x352x1024 .f32) : Vec F S1x352x1024 .f32 :=
  Adam.refSquare bcast_S_S1x352x1024 v (total x)

def delta (w m v : Vec F S1x352x1024 .f32) : Vec F S1x352x1024 .f32 :=
  Adam.refDelta bcast_S_S1x352x1024 w m v (total x)

theorem total_apply (x : Vec Ideal S8x704x1024 .bf16) (r : Fin 352) (k : Fin 1024) : total x (ix3 0 r k) = ∑ d, x (ix3 d ⟨0 + r.val, by omega⟩ k) := by
  pointwise [total]

end Cert.AdamFfnGate.Plain

namespace Cert.AdamFfnGate

open Idealize.ShloMosaic Idealize.ShloMosaic.TcCoe Idealize.SL Idealize.SL.Sem Cert.Kernel16Ideal Cert.Kernel16Ideal.Gen

variable (m : (ℓ : Loc nD τ sig) → Buf (Elt Ideal) ℓ) (c : Dev nD) (t : Fin cfg0.N)

/-- The arguments: the received parts of the gradient, the weight and its moments. -/
abbrev argX : Vec Ideal S8x704x1024 .bf16 := m ((c : Thread nD τ).loc main_arg0)
abbrev argW : Vec Ideal S1x352x1024 .f32 := m ((c : Thread nD τ).loc main_arg1)
abbrev argM : Vec Ideal S1x352x1024 .f32 := m ((c : Thread nD τ).loc main_arg2)
abbrev argV : Vec Ideal S1x352x1024 .f32 := m ((c : Thread nD τ).loc main_arg3)

theorem place : ∀ t : Fin cfg0.N,
    win0_0.index t = ![0, t.val, 0]
    ∧ win0_4.index t = ![0, t.val, 0] := by
  show ∀ t : Fin grid0.N, _
  decide +kernel

/-- The row of the arrays that one of a point's blocks is. -/
def rowOf (r : Fin 32) : Fin 352 := ⟨t.val * 32 + r.val, by have := lt_of_lt_of_eq t.isLt N_0; omega⟩

theorem x_read (d : Fin 8) (r : Fin 32) (k : Fin 1024) :
    (iblk m c 0 t : Vec Ideal S8x32x1024 .bf16) (ix3 d r k) = argX m c (ix3 d ⟨0 + (rowOf t r).val, by omega⟩ k) := by
  blk_ext [iblk, V, place t, rowOf]

theorem emb (r : Fin 32) (k : Fin 1024) : (win0_4.blk t).view.emb (ix3 0 r k) = ix3 0 (rowOf t r) k := by
  blk_ext [place t, rowOf]

theorem w_read (r : Fin 32) (k : Fin 1024) : (iblk m c 1 t : Vec Ideal S1x32x1024 .f32) (ix3 0 r k) = argW m c (ix3 0 (rowOf t r) k) :=
  congrArg (argW m c) (emb t r k)

theorem m_read (r : Fin 32) (k : Fin 1024) : (iblk m c 2 t : Vec Ideal S1x32x1024 .f32) (ix3 0 r k) = argM m c (ix3 0 (rowOf t r) k) :=
  congrArg (argM m c) (emb t r k)

theorem v_read (r : Fin 32) (k : Fin 1024) : (iblk m c 3 t : Vec Ideal S1x32x1024 .f32) (ix3 0 r k) = argV m c (ix3 0 (rowOf t r) k) :=
  congrArg (argV m c) (emb t r k)

/-- A point's gradient, the reference's at its elements. -/
abbrev grad : FVec Ideal S32x1024 .f32 := k0_pay8 (iblk m c 0 t) (iblk m c 1 t) (iblk m c 2 t) (iblk m c 3 t)

theorem grad_point (r : Fin 32) (k : Fin 1024) : grad m c t (ix2 r k) = Plain.total (argX m c) (ix3 0 (rowOf t r) k) := by
  have s := Adam.kerSum_apply shapeCasts_S1x32x1024_S32x1024 r k bitsLt_bf16_f32 fun d => View.ld (iblk m c 0 t : Vec Ideal S8x32x1024 .bf16)
    (Rect.unit (s := S8x32x1024) ![d.val, 0, 0] S1x32x1024.size (by fin_cases d <;> decide))
  refine Eq.trans ?_ (s.trans ?_)
  · rfl
  · rw [Plain.total_apply]
    exact Finset.sum_congr rfl fun d _ => (Adam.ld_apply r k d _ _).trans (x_read m c t d r k)

theorem arr_total : (dats m 0 c).arrAt 4 cfg0.N = Plain.total (argX m c) := by
  refine (dats m 0 c).arrAt_eq_of_covers 4 _ (by decide +kernel) fun t hf y => ?_
  blk_simp
  rw [after0_4]
  refine Adam.forall_tile _ (fun i => Plain.total (argX m c) ((win0_4.blk t).view.emb i)) (fun r k => ?_) y
  rw [show (win0_4.blk t).view.emb (ix3 0 r k) = _ from emb t r k,
    show out0_4 (iblk m c 0 t) (iblk m c 1 t) (iblk m c 2 t) (iblk m c 3 t) = k0_pay6 (grad m c t) by frame_out]
  exact (Adam.add_apply shapeCasts_S32x1024_S1x32x1024 r k _).trans (grad_point m c t r k)

theorem arr_delta : (dats m 0 c).arrAt 5 cfg0.N = Plain.delta (argX m c) (argW m c) (argM m c) (argV m c) := by
  refine (dats m 0 c).arrAt_eq_of_covers 5 _ (by decide +kernel) fun t hf y => ?_
  blk_simp
  rw [after0_5]
  refine Adam.forall_tile _ (fun i => Plain.delta (argX m c) (argW m c) (argM m c) (argV m c) ((win0_5.blk t).view.emb i)) (fun r k => ?_) y
  rw [show (win0_5.blk t).view.emb (ix3 0 r k) = _ from emb t r k,
    show out0_5 (iblk m c 0 t) (iblk m c 1 t) (iblk m c 2 t) (iblk m c 3 t) = k0_pay7 (grad m c t) (iblk m c 2 t) (iblk m c 3 t) (iblk m c 1 t) by frame_out]
  exact (Adam.kerDelta_apply shapeCasts_S1x32x1024_S32x1024 shapeCasts_S32x1024_S1x32x1024 r k _ _ _ _).trans (by rw [grad_point, w_read, m_read, v_read]; rfl)

theorem arr_moment : (dats m 0 c).arrAt 6 cfg0.N = Plain.moment (argX m c) (argM m c) := by
  refine (dats m 0 c).arrAt_eq_of_covers 6 _ (by decide +kernel) fun t hf y => ?_
  blk_simp
  rw [after0_6]
  refine Adam.forall_tile _ (fun i => Plain.moment (argX m c) (argM m c) ((win0_6.blk t).view.emb i)) (fun r k => ?_) y
  rw [show (win0_6.blk t).view.emb (ix3 0 r k) = _ from emb t r k,
    show out0_6 (iblk m c 0 t) (iblk m c 1 t) (iblk m c 2 t) (iblk m c 3 t) = k0_pay1 (k0_pay4 (grad m c t) (iblk m c 2 t)) by frame_out]
  exact (Adam.add_apply shapeCasts_S32x1024_S1x32x1024 r k _).trans ((Adam.kerMean_apply shapeCasts_S1x32x1024_S32x1024 r k _ _).trans (by rw [grad_point, m_read]; rfl))

theorem arr_square : (dats m 0 c).arrAt 7 cfg0.N = Plain.square (argX m c) (argV m c) := by
  refine (dats m 0 c).arrAt_eq_of_covers 7 _ (by decide +kernel) fun t hf y => ?_
  blk_simp
  rw [after0_7]
  refine Adam.forall_tile _ (fun i => Plain.square (argX m c) (argV m c) ((win0_7.blk t).view.emb i)) (fun r k => ?_) y
  rw [show (win0_7.blk t).view.emb (ix3 0 r k) = _ from emb t r k,
    show out0_7 (iblk m c 0 t) (iblk m c 1 t) (iblk m c 2 t) (iblk m c 3 t) = k0_pay2 (k0_pay5 (grad m c t) (iblk m c 3 t)) by frame_out]
  exact (Adam.add_apply shapeCasts_S32x1024_S1x32x1024 r k _).trans ((Adam.kerSquare_apply shapeCasts_S1x32x1024_S32x1024 r k _ _).trans (by rw [grad_point, v_read]; rfl))

end Cert.AdamFfnGate

end
-- ==== Proof.AdamFfnUp.lean ====
/-
  The step of the feed-forward layer's up weight: the received parts of its gradient added, its moments and its step by the AdamW rule.
-/
module

public import proofs.«01_k».proof.Proof.Adam
public import proofs.«01_k».proof.Proof.Gen.Kernel17Ideal.Value
public import proofs.«01_k».proof.Proof.Gen.Reference17Ideal.Run

@[expose] public section

set_option maxRecDepth 16384

noncomputable section

namespace Cert.AdamFfnUp.Plain

open Idealize.ShloMosaic Idealize.ShloMosaic.TcCoe Idealize.SL Idealize.SL.Sem Cert.Reference17Ideal Cert.Reference17Ideal.Gen

variable {F : FTy → Type} [FloatOps F] (x : Vec F S8x704x1024 .bf16)

/-- The sum of the received parts of the gradient. -/
def total : Vec F S1x352x1024 .f32 :=
  broadcastInDim S1x352x1024 ![1, 2] bcast_S352x1024_S1x352x1024_1_2 (Host.reduceAdd (extf .f32 (extractStridedSlice S8x352x1024 ![0, 352, 0] x slices_S8x704x1024_S8x352x1024_0_352_0) bitsLt_bf16_f32)
    (constant S_ .f32 0x00000000#32) reducesTo_S8x352x1024_S352x1024_d0 h_S_)

/-- The new moments and the step. -/
def moment (m : Vec F S1x352x1024 .f32) : Vec F S1x352x1024 .f32 :=
  Adam.refMean bcast_S_S1x352x1024 m (total x)

def square (v : Vec F S1x352x1024 .f32) : Vec F S1x352x1024 .f32 :=
  Adam.refSquare bcast_S_S1x352x1024 v (total x)

def delta (w m v : Vec F S1x352x1024 .f32) : Vec F S1x352x1024 .f32 :=
  Adam.refDelta bcast_S_S1x352x1024 w m v (total x)

theorem total_apply (x : Vec Ideal S8x704x1024 .bf16) (r : Fin 352) (k : Fin 1024) : total x (ix3 0 r k) = ∑ d, x (ix3 d ⟨352 + r.val, by omega⟩ k) := by
  pointwise [total]

end Cert.AdamFfnUp.Plain

namespace Cert.AdamFfnUp

open Idealize.ShloMosaic Idealize.ShloMosaic.TcCoe Idealize.SL Idealize.SL.Sem Cert.Kernel17Ideal Cert.Kernel17Ideal.Gen

variable (m : (ℓ : Loc nD τ sig) → Buf (Elt Ideal) ℓ) (c : Dev nD) (t : Fin cfg0.N)

/-- The arguments: the received parts of the gradient, the weight and its moments. -/
abbrev argX : Vec Ideal S8x704x1024 .bf16 := m ((c : Thread nD τ).loc main_arg0)
abbrev argW : Vec Ideal S1x352x1024 .f32 := m ((c : Thread nD τ).loc main_arg1)
abbrev argM : Vec Ideal S1x352x1024 .f32 := m ((c : Thread nD τ).loc main_arg2)
abbrev argV : Vec Ideal S1x352x1024 .f32 := m ((c : Thread nD τ).loc main_arg3)

theorem place : ∀ t : Fin cfg0.N,
    win0_0.index t = ![0, t.val + 11, 0]
    ∧ win0_4.index t = ![0, t.val, 0] := by
  show ∀ t : Fin grid0.N, _
  decide +kernel

/-- The row of the arrays that one of a point's blocks is. -/
def rowOf (r : Fin 32) : Fin 352 := ⟨t.val * 32 + r.val, by have := lt_of_lt_of_eq t.isLt N_0; omega⟩

theorem x_read (d : Fin 8) (r : Fin 32) (k : Fin 1024) :
    (iblk m c 0 t : Vec Ideal S8x32x1024 .bf16) (ix3 d r k) = argX m c (ix3 d ⟨352 + (rowOf t r).val, by omega⟩ k) := by
  blk_ext [iblk, V, place t, rowOf]

theorem emb (r : Fin 32) (k : Fin 1024) : (win0_4.blk t).view.emb (ix3 0 r k) = ix3 0 (rowOf t r) k := by
  blk_ext [place t, rowOf]

theorem w_read (r : Fin 32) (k : Fin 1024) : (iblk m c 1 t : Vec Ideal S1x32x1024 .f32) (ix3 0 r k) = argW m c (ix3 0 (rowOf t r) k) :=
  congrArg (argW m c) (emb t r k)

theorem m_read (r : Fin 32) (k : Fin 1024) : (iblk m c 2 t : Vec Ideal S1x32x1024 .f32) (ix3 0 r k) = argM m c (ix3 0 (rowOf t r) k) :=
  congrArg (argM m c) (emb t r k)

theorem v_read (r : Fin 32) (k : Fin 1024) : (iblk m c 3 t : Vec Ideal S1x32x1024 .f32) (ix3 0 r k) = argV m c (ix3 0 (rowOf t r) k) :=
  congrArg (argV m c) (emb t r k)

/-- A point's gradient, the reference's at its elements. -/
abbrev grad : FVec Ideal S32x1024 .f32 := k0_pay8 (iblk m c 0 t) (iblk m c 1 t) (iblk m c 2 t) (iblk m c 3 t)

theorem grad_point (r : Fin 32) (k : Fin 1024) : grad m c t (ix2 r k) = Plain.total (argX m c) (ix3 0 (rowOf t r) k) := by
  have s := Adam.kerSum_apply shapeCasts_S1x32x1024_S32x1024 r k bitsLt_bf16_f32 fun d => View.ld (iblk m c 0 t : Vec Ideal S8x32x1024 .bf16)
    (Rect.unit (s := S8x32x1024) ![d.val, 0, 0] S1x32x1024.size (by fin_cases d <;> decide))
  refine Eq.trans ?_ (s.trans ?_)
  · rfl
  · rw [Plain.total_apply]
    exact Finset.sum_congr rfl fun d _ => (Adam.ld_apply r k d _ _).trans (x_read m c t d r k)

theorem arr_total : (dats m 0 c).arrAt 4 cfg0.N = Plain.total (argX m c) := by
  refine (dats m 0 c).arrAt_eq_of_covers 4 _ (by decide +kernel) fun t hf y => ?_
  blk_simp
  rw [after0_4]
  refine Adam.forall_tile _ (fun i => Plain.total (argX m c) ((win0_4.blk t).view.emb i)) (fun r k => ?_) y
  rw [show (win0_4.blk t).view.emb (ix3 0 r k) = _ from emb t r k,
    show out0_4 (iblk m c 0 t) (iblk m c 1 t) (iblk m c 2 t) (iblk m c 3 t) = k0_pay6 (grad m c t) by frame_out]
  exact (Adam.add_apply shapeCasts_S32x1024_S1x32x1024 r k _).trans (grad_point m c t r k)

theorem arr_delta : (dats m 0 c).arrAt 5 cfg0.N = Plain.delta (argX m c) (argW m c) (argM m c) (argV m c) := by
  refine (dats m 0 c).arrAt_eq_of_covers 5 _ (by decide +kernel) fun t hf y => ?_
  blk_simp
  rw [after0_5]
  refine Adam.forall_tile _ (fun i => Plain.delta (argX m c) (argW m c) (argM m c) (argV m c) ((win0_5.blk t).view.emb i)) (fun r k => ?_) y
  rw [show (win0_5.blk t).view.emb (ix3 0 r k) = _ from emb t r k,
    show out0_5 (iblk m c 0 t) (iblk m c 1 t) (iblk m c 2 t) (iblk m c 3 t) = k0_pay7 (grad m c t) (iblk m c 2 t) (iblk m c 3 t) (iblk m c 1 t) by frame_out]
  exact (Adam.kerDelta_apply shapeCasts_S1x32x1024_S32x1024 shapeCasts_S32x1024_S1x32x1024 r k _ _ _ _).trans (by rw [grad_point, w_read, m_read, v_read]; rfl)

theorem arr_moment : (dats m 0 c).arrAt 6 cfg0.N = Plain.moment (argX m c) (argM m c) := by
  refine (dats m 0 c).arrAt_eq_of_covers 6 _ (by decide +kernel) fun t hf y => ?_
  blk_simp
  rw [after0_6]
  refine Adam.forall_tile _ (fun i => Plain.moment (argX m c) (argM m c) ((win0_6.blk t).view.emb i)) (fun r k => ?_) y
  rw [show (win0_6.blk t).view.emb (ix3 0 r k) = _ from emb t r k,
    show out0_6 (iblk m c 0 t) (iblk m c 1 t) (iblk m c 2 t) (iblk m c 3 t) = k0_pay1 (k0_pay4 (grad m c t) (iblk m c 2 t)) by frame_out]
  exact (Adam.add_apply shapeCasts_S32x1024_S1x32x1024 r k _).trans ((Adam.kerMean_apply shapeCasts_S1x32x1024_S32x1024 r k _ _).trans (by rw [grad_point, m_read]; rfl))

theorem arr_square : (dats m 0 c).arrAt 7 cfg0.N = Plain.square (argX m c) (argV m c) := by
  refine (dats m 0 c).arrAt_eq_of_covers 7 _ (by decide +kernel) fun t hf y => ?_
  blk_simp
  rw [after0_7]
  refine Adam.forall_tile _ (fun i => Plain.square (argX m c) (argV m c) ((win0_7.blk t).view.emb i)) (fun r k => ?_) y
  rw [show (win0_7.blk t).view.emb (ix3 0 r k) = _ from emb t r k,
    show out0_7 (iblk m c 0 t) (iblk m c 1 t) (iblk m c 2 t) (iblk m c 3 t) = k0_pay2 (k0_pay5 (grad m c t) (iblk m c 3 t)) by frame_out]
  exact (Adam.add_apply shapeCasts_S32x1024_S1x32x1024 r k _).trans ((Adam.kerSquare_apply shapeCasts_S1x32x1024_S32x1024 r k _ _).trans (by rw [grad_point, v_read]; rfl))

end Cert.AdamFfnUp

end
-- ==== Proof.AdamFfnDown.lean ====
/-
  The step of the feed-forward layer's down weight: the received parts of its gradient added, its moments and its step by the AdamW rule.
-/
module

public import proofs.«01_k».proof.Proof.Adam
public import proofs.«01_k».proof.Proof.Gen.Kernel18Ideal.Value
public import proofs.«01_k».proof.Proof.Gen.Reference18Ideal.Run

@[expose] public section

set_option maxRecDepth 16384

noncomputable section

namespace Cert.AdamFfnDown.Plain

open Idealize.ShloMosaic Idealize.ShloMosaic.TcCoe Idealize.SL Idealize.SL.Sem Cert.Reference18Ideal Cert.Reference18Ideal.Gen

variable {F : FTy → Type} [FloatOps F] (x : Vec F S8x480x1024 .bf16)

/-- The sum of the received parts of the gradient. -/
def total : Vec F S1x352x1024 .f32 :=
  broadcastInDim S1x352x1024 ![1, 2] bcast_S352x1024_S1x352x1024_1_2 (Host.reduceAdd (extf .f32 (extractStridedSlice S8x352x1024 ![0, 0, 0] x slices_S8x480x1024_S8x352x1024_0_0_0) bitsLt_bf16_f32)
    (constant S_ .f32 0x00000000#32) reducesTo_S8x352x1024_S352x1024_d0 h_S_)

/-- The new moments and the step. -/
def moment (m : Vec F S1x352x1024 .f32) : Vec F S1x352x1024 .f32 :=
  Adam.refMean bcast_S_S1x352x1024 m (total x)

def square (v : Vec F S1x352x1024 .f32) : Vec F S1x352x1024 .f32 :=
  Adam.refSquare bcast_S_S1x352x1024 v (total x)

def delta (w m v : Vec F S1x352x1024 .f32) : Vec F S1x352x1024 .f32 :=
  Adam.refDelta bcast_S_S1x352x1024 w m v (total x)

theorem total_apply (x : Vec Ideal S8x480x1024 .bf16) (r : Fin 352) (k : Fin 1024) : total x (ix3 0 r k) = ∑ d, x (ix3 d ⟨0 + r.val, by omega⟩ k) := by
  pointwise [total]

end Cert.AdamFfnDown.Plain

namespace Cert.AdamFfnDown

open Idealize.ShloMosaic Idealize.ShloMosaic.TcCoe Idealize.SL Idealize.SL.Sem Cert.Kernel18Ideal Cert.Kernel18Ideal.Gen

variable (m : (ℓ : Loc nD τ sig) → Buf (Elt Ideal) ℓ) (c : Dev nD) (t : Fin cfg0.N)

/-- The arguments: the received parts of the gradient, the weight and its moments. -/
abbrev argX : Vec Ideal S8x480x1024 .bf16 := m ((c : Thread nD τ).loc main_arg0)
abbrev argW : Vec Ideal S1x352x1024 .f32 := m ((c : Thread nD τ).loc main_arg1)
abbrev argM : Vec Ideal S1x352x1024 .f32 := m ((c : Thread nD τ).loc main_arg2)
abbrev argV : Vec Ideal S1x352x1024 .f32 := m ((c : Thread nD τ).loc main_arg3)

theorem place : ∀ t : Fin cfg0.N,
    win0_0.index t = ![0, t.val, 0]
    ∧ win0_4.index t = ![0, t.val, 0] := by
  show ∀ t : Fin grid0.N, _
  decide +kernel

/-- The row of the arrays that one of a point's blocks is. -/
def rowOf (r : Fin 32) : Fin 352 := ⟨t.val * 32 + r.val, by have := lt_of_lt_of_eq t.isLt N_0; omega⟩

theorem x_read (d : Fin 8) (r : Fin 32) (k : Fin 1024) :
    (iblk m c 0 t : Vec Ideal S8x32x1024 .bf16) (ix3 d r k) = argX m c (ix3 d ⟨0 + (rowOf t r).val, by omega⟩ k) := by
  blk_ext [iblk, V, place t, rowOf]

theorem emb (r : Fin 32) (k : Fin 1024) : (win0_4.blk t).view.emb (ix3 0 r k) = ix3 0 (rowOf t r) k := by
  blk_ext [place t, rowOf]

theorem w_read (r : Fin 32) (k : Fin 1024) : (iblk m c 1 t : Vec Ideal S1x32x1024 .f32) (ix3 0 r k) = argW m c (ix3 0 (rowOf t r) k) :=
  congrArg (argW m c) (emb t r k)

theorem m_read (r : Fin 32) (k : Fin 1024) : (iblk m c 2 t : Vec Ideal S1x32x1024 .f32) (ix3 0 r k) = argM m c (ix3 0 (rowOf t r) k) :=
  congrArg (argM m c) (emb t r k)

theorem v_read (r : Fin 32) (k : Fin 1024) : (iblk m c 3 t : Vec Ideal S1x32x1024 .f32) (ix3 0 r k) = argV m c (ix3 0 (rowOf t r) k) :=
  congrArg (argV m c) (emb t r k)

/-- A point's gradient, the reference's at its elements. -/
abbrev grad : FVec Ideal S32x1024 .f32 := k0_pay8 (iblk m c 0 t) (iblk m c 1 t) (iblk m c 2 t) (iblk m c 3 t)

theorem grad_point (r : Fin 32) (k : Fin 1024) : grad m c t (ix2 r k) = Plain.total (argX m c) (ix3 0 (rowOf t r) k) := by
  have s := Adam.kerSum_apply shapeCasts_S1x32x1024_S32x1024 r k bitsLt_bf16_f32 fun d => View.ld (iblk m c 0 t : Vec Ideal S8x32x1024 .bf16)
    (Rect.unit (s := S8x32x1024) ![d.val, 0, 0] S1x32x1024.size (by fin_cases d <;> decide))
  refine Eq.trans ?_ (s.trans ?_)
  · rfl
  · rw [Plain.total_apply]
    exact Finset.sum_congr rfl fun d _ => (Adam.ld_apply r k d _ _).trans (x_read m c t d r k)

theorem arr_total : (dats m 0 c).arrAt 4 cfg0.N = Plain.total (argX m c) := by
  refine (dats m 0 c).arrAt_eq_of_covers 4 _ (by decide +kernel) fun t hf y => ?_
  blk_simp
  rw [after0_4]
  refine Adam.forall_tile _ (fun i => Plain.total (argX m c) ((win0_4.blk t).view.emb i)) (fun r k => ?_) y
  rw [show (win0_4.blk t).view.emb (ix3 0 r k) = _ from emb t r k,
    show out0_4 (iblk m c 0 t) (iblk m c 1 t) (iblk m c 2 t) (iblk m c 3 t) = k0_pay6 (grad m c t) by frame_out]
  exact (Adam.add_apply shapeCasts_S32x1024_S1x32x1024 r k _).trans (grad_point m c t r k)

theorem arr_delta : (dats m 0 c).arrAt 5 cfg0.N = Plain.delta (argX m c) (argW m c) (argM m c) (argV m c) := by
  refine (dats m 0 c).arrAt_eq_of_covers 5 _ (by decide +kernel) fun t hf y => ?_
  blk_simp
  rw [after0_5]
  refine Adam.forall_tile _ (fun i => Plain.delta (argX m c) (argW m c) (argM m c) (argV m c) ((win0_5.blk t).view.emb i)) (fun r k => ?_) y
  rw [show (win0_5.blk t).view.emb (ix3 0 r k) = _ from emb t r k,
    show out0_5 (iblk m c 0 t) (iblk m c 1 t) (iblk m c 2 t) (iblk m c 3 t) = k0_pay7 (grad m c t) (iblk m c 2 t) (iblk m c 3 t) (iblk m c 1 t) by frame_out]
  exact (Adam.kerDelta_apply shapeCasts_S1x32x1024_S32x1024 shapeCasts_S32x1024_S1x32x1024 r k _ _ _ _).trans (by rw [grad_point, w_read, m_read, v_read]; rfl)

theorem arr_moment : (dats m 0 c).arrAt 6 cfg0.N = Plain.moment (argX m c) (argM m c) := by
  refine (dats m 0 c).arrAt_eq_of_covers 6 _ (by decide +kernel) fun t hf y => ?_
  blk_simp
  rw [after0_6]
  refine Adam.forall_tile _ (fun i => Plain.moment (argX m c) (argM m c) ((win0_6.blk t).view.emb i)) (fun r k => ?_) y
  rw [show (win0_6.blk t).view.emb (ix3 0 r k) = _ from emb t r k,
    show out0_6 (iblk m c 0 t) (iblk m c 1 t) (iblk m c 2 t) (iblk m c 3 t) = k0_pay1 (k0_pay4 (grad m c t) (iblk m c 2 t)) by frame_out]
  exact (Adam.add_apply shapeCasts_S32x1024_S1x32x1024 r k _).trans ((Adam.kerMean_apply shapeCasts_S1x32x1024_S32x1024 r k _ _).trans (by rw [grad_point, m_read]; rfl))

theorem arr_square : (dats m 0 c).arrAt 7 cfg0.N = Plain.square (argX m c) (argV m c) := by
  refine (dats m 0 c).arrAt_eq_of_covers 7 _ (by decide +kernel) fun t hf y => ?_
  blk_simp
  rw [after0_7]
  refine Adam.forall_tile _ (fun i => Plain.square (argX m c) (argV m c) ((win0_7.blk t).view.emb i)) (fun r k => ?_) y
  rw [show (win0_7.blk t).view.emb (ix3 0 r k) = _ from emb t r k,
    show out0_7 (iblk m c 0 t) (iblk m c 1 t) (iblk m c 2 t) (iblk m c 3 t) = k0_pay2 (k0_pay5 (grad m c t) (iblk m c 3 t)) by frame_out]
  exact (Adam.add_apply shapeCasts_S32x1024_S1x32x1024 r k _).trans ((Adam.kerSquare_apply shapeCasts_S1x32x1024_S32x1024 r k _ _).trans (by rw [grad_point, v_read]; rfl))

end Cert.AdamFfnDown

end
-- ==== Proof.AdamO.lean ====
/-
  The step of the mixers' output weight: the received parts of its gradient added, its moments and its step by the AdamW rule.
-/
module

public import proofs.«01_k».proof.Proof.Adam
public import proofs.«01_k».proof.Proof.Gen.Kernel19Ideal.Value
public import proofs.«01_k».proof.Proof.Gen.Reference19Ideal.Run

@[expose] public section

set_option maxRecDepth 16384

noncomputable section

namespace Cert.AdamO.Plain

open Idealize.ShloMosaic Idealize.ShloMosaic.TcCoe Idealize.SL Idealize.SL.Sem Cert.Reference19Ideal Cert.Reference19Ideal.Gen

variable {F : FTy → Type} [FloatOps F] (x : Vec F S8x480x1024 .bf16)

/-- The sum of the received parts of the gradient. -/
def total : Vec F S1x128x1024 .f32 :=
  broadcastInDim S1x128x1024 ![1, 2] bcast_S128x1024_S1x128x1024_1_2 (Host.reduceAdd (extf .f32 (extractStridedSlice S8x128x1024 ![0, 352, 0] x slices_S8x480x1024_S8x128x1024_0_352_0) bitsLt_bf16_f32)
    (constant S_ .f32 0x00000000#32) reducesTo_S8x128x1024_S128x1024_d0 h_S_)

/-- The new moments and the step. -/
def moment (m : Vec F S1x128x1024 .f32) : Vec F S1x128x1024 .f32 :=
  Adam.refMean bcast_S_S1x128x1024 m (total x)

def square (v : Vec F S1x128x1024 .f32) : Vec F S1x128x1024 .f32 :=
  Adam.refSquare bcast_S_S1x128x1024 v (total x)

def delta (w m v : Vec F S1x128x1024 .f32) : Vec F S1x128x1024 .f32 :=
  Adam.refDelta bcast_S_S1x128x1024 w m v (total x)

theorem total_apply (x : Vec Ideal S8x480x1024 .bf16) (r : Fin 128) (k : Fin 1024) : total x (ix3 0 r k) = ∑ d, x (ix3 d ⟨352 + r.val, by omega⟩ k) := by
  pointwise [total]

end Cert.AdamO.Plain

namespace Cert.AdamO

open Idealize.ShloMosaic Idealize.ShloMosaic.TcCoe Idealize.SL Idealize.SL.Sem Cert.Kernel19Ideal Cert.Kernel19Ideal.Gen

variable (m : (ℓ : Loc nD τ sig) → Buf (Elt Ideal) ℓ) (c : Dev nD) (t : Fin cfg0.N)

/-- The arguments: the received parts of the gradient, the weight and its moments. -/
abbrev argX : Vec Ideal S8x480x1024 .bf16 := m ((c : Thread nD τ).loc main_arg0)
abbrev argW : Vec Ideal S1x128x1024 .f32 := m ((c : Thread nD τ).loc main_arg1)
abbrev argM : Vec Ideal S1x128x1024 .f32 := m ((c : Thread nD τ).loc main_arg2)
abbrev argV : Vec Ideal S1x128x1024 .f32 := m ((c : Thread nD τ).loc main_arg3)

theorem place : ∀ t : Fin cfg0.N,
    win0_0.index t = ![0, t.val + 11, 0]
    ∧ win0_4.index t = ![0, t.val, 0] := by
  show ∀ t : Fin grid0.N, _
  decide +kernel

/-- The row of the arrays that one of a point's blocks is. -/
def rowOf (r : Fin 32) : Fin 128 := ⟨t.val * 32 + r.val, by have := lt_of_lt_of_eq t.isLt N_0; omega⟩

theorem x_read (d : Fin 8) (r : Fin 32) (k : Fin 1024) :
    (iblk m c 0 t : Vec Ideal S8x32x1024 .bf16) (ix3 d r k) = argX m c (ix3 d ⟨352 + (rowOf t r).val, by omega⟩ k) := by
  blk_ext [iblk, V, place t, rowOf]

theorem emb (r : Fin 32) (k : Fin 1024) : (win0_4.blk t).view.emb (ix3 0 r k) = ix3 0 (rowOf t r) k := by
  blk_ext [place t, rowOf]

theorem w_read (r : Fin 32) (k : Fin 1024) : (iblk m c 1 t : Vec Ideal S1x32x1024 .f32) (ix3 0 r k) = argW m c (ix3 0 (rowOf t r) k) :=
  congrArg (argW m c) (emb t r k)

theorem m_read (r : Fin 32) (k : Fin 1024) : (iblk m c 2 t : Vec Ideal S1x32x1024 .f32) (ix3 0 r k) = argM m c (ix3 0 (rowOf t r) k) :=
  congrArg (argM m c) (emb t r k)

theorem v_read (r : Fin 32) (k : Fin 1024) : (iblk m c 3 t : Vec Ideal S1x32x1024 .f32) (ix3 0 r k) = argV m c (ix3 0 (rowOf t r) k) :=
  congrArg (argV m c) (emb t r k)

/-- A point's gradient, the reference's at its elements. -/
abbrev grad : FVec Ideal S32x1024 .f32 := k0_pay8 (iblk m c 0 t) (iblk m c 1 t) (iblk m c 2 t) (iblk m c 3 t)

theorem grad_point (r : Fin 32) (k : Fin 1024) : grad m c t (ix2 r k) = Plain.total (argX m c) (ix3 0 (rowOf t r) k) := by
  have s := Adam.kerSum_apply shapeCasts_S1x32x1024_S32x1024 r k bitsLt_bf16_f32 fun d => View.ld (iblk m c 0 t : Vec Ideal S8x32x1024 .bf16)
    (Rect.unit (s := S8x32x1024) ![d.val, 0, 0] S1x32x1024.size (by fin_cases d <;> decide))
  refine Eq.trans ?_ (s.trans ?_)
  · rfl
  · rw [Plain.total_apply]
    exact Finset.sum_congr rfl fun d _ => (Adam.ld_apply r k d _ _).trans (x_read m c t d r k)

theorem arr_total : (dats m 0 c).arrAt 4 cfg0.N = Plain.total (argX m c) := by
  refine (dats m 0 c).arrAt_eq_of_covers 4 _ (by decide +kernel) fun t hf y => ?_
  blk_simp
  rw [after0_4]
  refine Adam.forall_tile _ (fun i => Plain.total (argX m c) ((win0_4.blk t).view.emb i)) (fun r k => ?_) y
  rw [show (win0_4.blk t).view.emb (ix3 0 r k) = _ from emb t r k,
    show out0_4 (iblk m c 0 t) (iblk m c 1 t) (iblk m c 2 t) (iblk m c 3 t) = k0_pay6 (grad m c t) by frame_out]
  exact (Adam.add_apply shapeCasts_S32x1024_S1x32x1024 r k _).trans (grad_point m c t r k)

theorem arr_delta : (dats m 0 c).arrAt 5 cfg0.N = Plain.delta (argX m c) (argW m c) (argM m c) (argV m c) := by
  refine (dats m 0 c).arrAt_eq_of_covers 5 _ (by decide +kernel) fun t hf y => ?_
  blk_simp
  rw [after0_5]
  refine Adam.forall_tile _ (fun i => Plain.delta (argX m c) (argW m c) (argM m c) (argV m c) ((win0_5.blk t).view.emb i)) (fun r k => ?_) y
  rw [show (win0_5.blk t).view.emb (ix3 0 r k) = _ from emb t r k,
    show out0_5 (iblk m c 0 t) (iblk m c 1 t) (iblk m c 2 t) (iblk m c 3 t) = k0_pay7 (grad m c t) (iblk m c 2 t) (iblk m c 3 t) (iblk m c 1 t) by frame_out]
  exact (Adam.kerDelta_apply shapeCasts_S1x32x1024_S32x1024 shapeCasts_S32x1024_S1x32x1024 r k _ _ _ _).trans (by rw [grad_point, w_read, m_read, v_read]; rfl)

theorem arr_moment : (dats m 0 c).arrAt 6 cfg0.N = Plain.moment (argX m c) (argM m c) := by
  refine (dats m 0 c).arrAt_eq_of_covers 6 _ (by decide +kernel) fun t hf y => ?_
  blk_simp
  rw [after0_6]
  refine Adam.forall_tile _ (fun i => Plain.moment (argX m c) (argM m c) ((win0_6.blk t).view.emb i)) (fun r k => ?_) y
  rw [show (win0_6.blk t).view.emb (ix3 0 r k) = _ from emb t r k,
    show out0_6 (iblk m c 0 t) (iblk m c 1 t) (iblk m c 2 t) (iblk m c 3 t) = k0_pay1 (k0_pay4 (grad m c t) (iblk m c 2 t)) by frame_out]
  exact (Adam.add_apply shapeCasts_S32x1024_S1x32x1024 r k _).trans ((Adam.kerMean_apply shapeCasts_S1x32x1024_S32x1024 r k _ _).trans (by rw [grad_point, m_read]; rfl))

theorem arr_square : (dats m 0 c).arrAt 7 cfg0.N = Plain.square (argX m c) (argV m c) := by
  refine (dats m 0 c).arrAt_eq_of_covers 7 _ (by decide +kernel) fun t hf y => ?_
  blk_simp
  rw [after0_7]
  refine Adam.forall_tile _ (fun i => Plain.square (argX m c) (argV m c) ((win0_7.blk t).view.emb i)) (fun r k => ?_) y
  rw [show (win0_7.blk t).view.emb (ix3 0 r k) = _ from emb t r k,
    show out0_7 (iblk m c 0 t) (iblk m c 1 t) (iblk m c 2 t) (iblk m c 3 t) = k0_pay2 (k0_pay5 (grad m c t) (iblk m c 3 t)) by frame_out]
  exact (Adam.add_apply shapeCasts_S32x1024_S1x32x1024 r k _).trans ((Adam.kerSquare_apply shapeCasts_S1x32x1024_S32x1024 r k _ _).trans (by rw [grad_point, v_read]; rfl))

end Cert.AdamO

end
-- ==== Proof.AdamFoxOut.lean ====
/-
  The step of the forgetting attention's output weight: the received parts of its gradient added, its moments and its step by the AdamW rule.
-/
module

public import proofs.«01_k».proof.Proof.Adam
public import proofs.«01_k».proof.Proof.Gen.Kernel20Ideal.Value
public import proofs.«01_k».proof.Proof.Gen.Reference20Ideal.Run

@[expose] public section

set_option maxRecDepth 16384

noncomputable section

namespace Cert.AdamFoxOut.Plain

open Idealize.ShloMosaic Idealize.ShloMosaic.TcCoe Idealize.SL Idealize.SL.Sem Cert.Reference20Ideal Cert.Reference20Ideal.Gen

variable {F : FTy → Type} [FloatOps F] (x : Vec F S8x1536x128 .bf16)

/-- The sum of the received parts of the gradient. -/
def total : Vec F S1x512x128 .f32 :=
  broadcastInDim S1x512x128 ![1, 2] bcast_S512x128_S1x512x128_1_2 (Host.reduceAdd (extf .f32 (extractStridedSlice S8x512x128 ![0, 0, 0] x slices_S8x1536x128_S8x512x128_0_0_0) bitsLt_bf16_f32)
    (constant S_ .f32 0x00000000#32) reducesTo_S8x512x128_S512x128_d0 h_S_)

/-- The new moments and the step. -/
def moment (m : Vec F S1x512x128 .f32) : Vec F S1x512x128 .f32 :=
  Adam.refMean bcast_S_S1x512x128 m (total x)

def square (v : Vec F S1x512x128 .f32) : Vec F S1x512x128 .f32 :=
  Adam.refSquare bcast_S_S1x512x128 v (total x)

def delta (w m v : Vec F S1x512x128 .f32) : Vec F S1x512x128 .f32 :=
  Adam.refDelta bcast_S_S1x512x128 w m v (total x)

theorem total_apply (x : Vec Ideal S8x1536x128 .bf16) (r : Fin 512) (k : Fin 128) : total x (ix3 0 r k) = ∑ d, x (ix3 d ⟨0 + r.val, by omega⟩ k) := by
  pointwise [total]

end Cert.AdamFoxOut.Plain

namespace Cert.AdamFoxOut

open Idealize.ShloMosaic Idealize.ShloMosaic.TcCoe Idealize.SL Idealize.SL.Sem Cert.Kernel20Ideal Cert.Kernel20Ideal.Gen

variable (m : (ℓ : Loc nD τ sig) → Buf (Elt Ideal) ℓ) (c : Dev nD) (t : Fin cfg0.N)

/-- The arguments: the received parts of the gradient, the weight and its moments. -/
abbrev argX : Vec Ideal S8x1536x128 .bf16 := m ((c : Thread nD τ).loc main_arg0)
abbrev argW : Vec Ideal S1x512x128 .f32 := m ((c : Thread nD τ).loc main_arg1)
abbrev argM : Vec Ideal S1x512x128 .f32 := m ((c : Thread nD τ).loc main_arg2)
abbrev argV : Vec Ideal S1x512x128 .f32 := m ((c : Thread nD τ).loc main_arg3)

theorem place : ∀ t : Fin cfg0.N,
    win0_0.index t = ![0, t.val, 0]
    ∧ win0_4.index t = ![0, t.val, 0] := by
  show ∀ t : Fin grid0.N, _
  decide +kernel

/-- The row of the arrays that one of a point's blocks is. -/
def rowOf (r : Fin 128) : Fin 512 := ⟨t.val * 128 + r.val, by have := lt_of_lt_of_eq t.isLt N_0; omega⟩

theorem x_read (d : Fin 8) (r : Fin 128) (k : Fin 128) :
    (iblk m c 0 t : Vec Ideal S8x128x128 .bf16) (ix3 d r k) = argX m c (ix3 d ⟨0 + (rowOf t r).val, by omega⟩ k) := by
  blk_ext [iblk, V, place t, rowOf]

variable (r : Fin 128) (k : Fin 128)

theorem emb : (win0_4.blk t).view.emb (ix3 0 r k) = ix3 0 (rowOf t r) k := by
  blk_ext [place t, rowOf]

theorem w_read : (iblk m c 1 t : Vec Ideal S1x128x128 .f32) (ix3 0 r k) = argW m c (ix3 0 (rowOf t r) k) :=
  congrArg (argW m c) (emb t r k)

theorem m_read : (iblk m c 2 t : Vec Ideal S1x128x128 .f32) (ix3 0 r k) = argM m c (ix3 0 (rowOf t r) k) :=
  congrArg (argM m c) (emb t r k)

theorem v_read : (iblk m c 3 t : Vec Ideal S1x128x128 .f32) (ix3 0 r k) = argV m c (ix3 0 (rowOf t r) k) :=
  congrArg (argV m c) (emb t r k)

/-- A point's gradient, the reference's at its elements. -/
abbrev grad : FVec Ideal S128x128 .f32 := k0_pay8 (iblk m c 0 t) (iblk m c 1 t) (iblk m c 2 t) (iblk m c 3 t)

theorem grad_point : grad m c t (ix2 r k) = Plain.total (argX m c) (ix3 0 (rowOf t r) k) := by
  have s := Adam.kerSum_apply shapeCasts_S1x128x128_S128x128 r k bitsLt_bf16_f32 fun d => View.ld (iblk m c 0 t : Vec Ideal S8x128x128 .bf16)
    (Rect.unit (s := S8x128x128) ![d.val, 0, 0] S1x128x128.size (by fin_cases d <;> decide))
  refine Eq.trans ?_ (s.trans ?_)
  · rfl
  · rw [Plain.total_apply]
    exact Finset.sum_congr rfl fun d _ => (Adam.ld_apply r k d _ _).trans (x_read m c t d r k)

theorem arr_total : (dats m 0 c).arrAt 4 cfg0.N = Plain.total (argX m c) := by
  refine (dats m 0 c).arrAt_eq_of_covers 4 _ (by decide +kernel) fun t hf y => ?_
  blk_simp
  rw [after0_4]
  refine Adam.forall_tile _ (fun i => Plain.total (argX m c) ((win0_4.blk t).view.emb i)) (fun r k => ?_) y
  rw [show (win0_4.blk t).view.emb (ix3 0 r k) = _ from emb t r k,
    show out0_4 (iblk m c 0 t) (iblk m c 1 t) (iblk m c 2 t) (iblk m c 3 t) = k0_pay6 (grad m c t) by frame_out]
  exact (Adam.add_apply shapeCasts_S128x128_S1x128x128 r k _).trans (grad_point m c t r k)

theorem arr_delta : (dats m 0 c).arrAt 5 cfg0.N = Plain.delta (argX m c) (argW m c) (argM m c) (argV m c) := by
  refine (dats m 0 c).arrAt_eq_of_covers 5 _ (by decide +kernel) fun t hf y => ?_
  blk_simp
  rw [after0_5]
  refine Adam.forall_tile _ (fun i => Plain.delta (argX m c) (argW m c) (argM m c) (argV m c) ((win0_5.blk t).view.emb i)) (fun r k => ?_) y
  rw [show (win0_5.blk t).view.emb (ix3 0 r k) = _ from emb t r k,
    show out0_5 (iblk m c 0 t) (iblk m c 1 t) (iblk m c 2 t) (iblk m c 3 t) = k0_pay7 (grad m c t) (iblk m c 2 t) (iblk m c 3 t) (iblk m c 1 t) by frame_out]
  exact (Adam.kerDelta_apply shapeCasts_S1x128x128_S128x128 shapeCasts_S128x128_S1x128x128 r k _ _ _ _).trans (by rw [grad_point, w_read, m_read, v_read]; rfl)

theorem arr_moment : (dats m 0 c).arrAt 6 cfg0.N = Plain.moment (argX m c) (argM m c) := by
  refine (dats m 0 c).arrAt_eq_of_covers 6 _ (by decide +kernel) fun t hf y => ?_
  blk_simp
  rw [after0_6]
  refine Adam.forall_tile _ (fun i => Plain.moment (argX m c) (argM m c) ((win0_6.blk t).view.emb i)) (fun r k => ?_) y
  rw [show (win0_6.blk t).view.emb (ix3 0 r k) = _ from emb t r k,
    show out0_6 (iblk m c 0 t) (iblk m c 1 t) (iblk m c 2 t) (iblk m c 3 t) = k0_pay1 (k0_pay4 (grad m c t) (iblk m c 2 t)) by frame_out]
  exact (Adam.add_apply shapeCasts_S128x128_S1x128x128 r k _).trans ((Adam.kerMean_apply shapeCasts_S1x128x128_S128x128 r k _ _).trans (by rw [grad_point, m_read]; rfl))

theorem arr_square : (dats m 0 c).arrAt 7 cfg0.N = Plain.square (argX m c) (argV m c) := by
  refine (dats m 0 c).arrAt_eq_of_covers 7 _ (by decide +kernel) fun t hf y => ?_
  blk_simp
  rw [after0_7]
  refine Adam.forall_tile _ (fun i => Plain.square (argX m c) (argV m c) ((win0_7.blk t).view.emb i)) (fun r k => ?_) y
  rw [show (win0_7.blk t).view.emb (ix3 0 r k) = _ from emb t r k,
    show out0_7 (iblk m c 0 t) (iblk m c 1 t) (iblk m c 2 t) (iblk m c 3 t) = k0_pay2 (k0_pay5 (grad m c t) (iblk m c 3 t)) by frame_out]
  exact (Adam.add_apply shapeCasts_S128x128_S1x128x128 r k _).trans ((Adam.kerSquare_apply shapeCasts_S1x128x128_S128x128 r k _ _).trans (by rw [grad_point, v_read]; rfl))

end Cert.AdamFoxOut

end
-- ==== Proof.AdamRwkvOut.lean ====
/-
  The step of the recurrent mixer's output weight: the received parts of its gradient added, its moments and its step by the AdamW rule.
-/
module

public import proofs.«01_k».proof.Proof.Adam
public import proofs.«01_k».proof.Proof.Gen.Kernel21Ideal.Value
public import proofs.«01_k».proof.Proof.Gen.Reference21Ideal.Run

@[expose] public section

set_option maxRecDepth 16384

noncomputable section

namespace Cert.AdamRwkvOut.Plain

open Idealize.ShloMosaic Idealize.ShloMosaic.TcCoe Idealize.SL Idealize.SL.Sem Cert.Reference21Ideal Cert.Reference21Ideal.Gen

variable {F : FTy → Type} [FloatOps F] (x : Vec F S8x1536x128 .bf16)

/-- The sum of the received parts of the gradient. -/
def total : Vec F S1x512x128 .f32 :=
  broadcastInDim S1x512x128 ![1, 2] bcast_S512x128_S1x512x128_1_2 (Host.reduceAdd (extf .f32 (extractStridedSlice S8x512x128 ![0, 512, 0] x slices_S8x1536x128_S8x512x128_0_512_0) bitsLt_bf16_f32)
    (constant S_ .f32 0x00000000#32) reducesTo_S8x512x128_S512x128_d0 h_S_)

/-- The new moments and the step. -/
def moment (m : Vec F S1x512x128 .f32) : Vec F S1x512x128 .f32 :=
  Adam.refMean bcast_S_S1x512x128 m (total x)

def square (v : Vec F S1x512x128 .f32) : Vec F S1x512x128 .f32 :=
  Adam.refSquare bcast_S_S1x512x128 v (total x)

def delta (w m v : Vec F S1x512x128 .f32) : Vec F S1x512x128 .f32 :=
  Adam.refDelta bcast_S_S1x512x128 w m v (total x)

theorem total_apply (x : Vec Ideal S8x1536x128 .bf16) (r : Fin 512) (k : Fin 128) : total x (ix3 0 r k) = ∑ d, x (ix3 d ⟨512 + r.val, by omega⟩ k) := by
  pointwise [total]

end Cert.AdamRwkvOut.Plain

namespace Cert.AdamRwkvOut

open Idealize.ShloMosaic Idealize.ShloMosaic.TcCoe Idealize.SL Idealize.SL.Sem Cert.Kernel21Ideal Cert.Kernel21Ideal.Gen

variable (m : (ℓ : Loc nD τ sig) → Buf (Elt Ideal) ℓ) (c : Dev nD) (t : Fin cfg0.N)

/-- The arguments: the received parts of the gradient, the weight and its moments. -/
abbrev argX : Vec Ideal S8x1536x128 .bf16 := m ((c : Thread nD τ).loc main_arg0)
abbrev argW : Vec Ideal S1x512x128 .f32 := m ((c : Thread nD τ).loc main_arg1)
abbrev argM : Vec Ideal S1x512x128 .f32 := m ((c : Thread nD τ).loc main_arg2)
abbrev argV : Vec Ideal S1x512x128 .f32 := m ((c : Thread nD τ).loc main_arg3)

theorem place : ∀ t : Fin cfg0.N,
    win0_0.index t = ![0, t.val + 4, 0]
    ∧ win0_4.index t = ![0, t.val, 0] := by
  show ∀ t : Fin grid0.N, _
  decide +kernel

/-- The row of the arrays that one of a point's blocks is. -/
def rowOf (r : Fin 128) : Fin 512 := ⟨t.val * 128 + r.val, by have := lt_of_lt_of_eq t.isLt N_0; omega⟩

theorem x_read (d : Fin 8) (r : Fin 128) (k : Fin 128) :
    (iblk m c 0 t : Vec Ideal S8x128x128 .bf16) (ix3 d r k) = argX m c (ix3 d ⟨512 + (rowOf t r).val, by omega⟩ k) := by
  blk_ext [iblk, V, place t, rowOf]

variable (r : Fin 128) (k : Fin 128)

theorem emb : (win0_4.blk t).view.emb (ix3 0 r k) = ix3 0 (rowOf t r) k := by
  blk_ext [place t, rowOf]

theorem w_read : (iblk m c 1 t : Vec Ideal S1x128x128 .f32) (ix3 0 r k) = argW m c (ix3 0 (rowOf t r) k) :=
  congrArg (argW m c) (emb t r k)

theorem m_read : (iblk m c 2 t : Vec Ideal S1x128x128 .f32) (ix3 0 r k) = argM m c (ix3 0 (rowOf t r) k) :=
  congrArg (argM m c) (emb t r k)

theorem v_read : (iblk m c 3 t : Vec Ideal S1x128x128 .f32) (ix3 0 r k) = argV m c (ix3 0 (rowOf t r) k) :=
  congrArg (argV m c) (emb t r k)

/-- A point's gradient, the reference's at its elements. -/
abbrev grad : FVec Ideal S128x128 .f32 := k0_pay8 (iblk m c 0 t) (iblk m c 1 t) (iblk m c 2 t) (iblk m c 3 t)

theorem grad_point : grad m c t (ix2 r k) = Plain.total (argX m c) (ix3 0 (rowOf t r) k) := by
  have s := Adam.kerSum_apply shapeCasts_S1x128x128_S128x128 r k bitsLt_bf16_f32 fun d => View.ld (iblk m c 0 t : Vec Ideal S8x128x128 .bf16)
    (Rect.unit (s := S8x128x128) ![d.val, 0, 0] S1x128x128.size (by fin_cases d <;> decide))
  refine Eq.trans ?_ (s.trans ?_)
  · rfl
  · rw [Plain.total_apply]
    exact Finset.sum_congr rfl fun d _ => (Adam.ld_apply r k d _ _).trans (x_read m c t d r k)

theorem arr_total : (dats m 0 c).arrAt 4 cfg0.N = Plain.total (argX m c) := by
  refine (dats m 0 c).arrAt_eq_of_covers 4 _ (by decide +kernel) fun t hf y => ?_
  blk_simp
  rw [after0_4]
  refine Adam.forall_tile _ (fun i => Plain.total (argX m c) ((win0_4.blk t).view.emb i)) (fun r k => ?_) y
  rw [show (win0_4.blk t).view.emb (ix3 0 r k) = _ from emb t r k,
    show out0_4 (iblk m c 0 t) (iblk m c 1 t) (iblk m c 2 t) (iblk m c 3 t) = k0_pay6 (grad m c t) by frame_out]
  exact (Adam.add_apply shapeCasts_S128x128_S1x128x128 r k _).trans (grad_point m c t r k)

theorem arr_delta : (dats m 0 c).arrAt 5 cfg0.N = Plain.delta (argX m c) (argW m c) (argM m c) (argV m c) := by
  refine (dats m 0 c).arrAt_eq_of_covers 5 _ (by decide +kernel) fun t hf y => ?_
  blk_simp
  rw [after0_5]
  refine Adam.forall_tile _ (fun i => Plain.delta (argX m c) (argW m c) (argM m c) (argV m c) ((win0_5.blk t).view.emb i)) (fun r k => ?_) y
  rw [show (win0_5.blk t).view.emb (ix3 0 r k) = _ from emb t r k,
    show out0_5 (iblk m c 0 t) (iblk m c 1 t) (iblk m c 2 t) (iblk m c 3 t) = k0_pay7 (grad m c t) (iblk m c 2 t) (iblk m c 3 t) (iblk m c 1 t) by frame_out]
  exact (Adam.kerDelta_apply shapeCasts_S1x128x128_S128x128 shapeCasts_S128x128_S1x128x128 r k _ _ _ _).trans (by rw [grad_point, w_read, m_read, v_read]; rfl)

theorem arr_moment : (dats m 0 c).arrAt 6 cfg0.N = Plain.moment (argX m c) (argM m c) := by
  refine (dats m 0 c).arrAt_eq_of_covers 6 _ (by decide +kernel) fun t hf y => ?_
  blk_simp
  rw [after0_6]
  refine Adam.forall_tile _ (fun i => Plain.moment (argX m c) (argM m c) ((win0_6.blk t).view.emb i)) (fun r k => ?_) y
  rw [show (win0_6.blk t).view.emb (ix3 0 r k) = _ from emb t r k,
    show out0_6 (iblk m c 0 t) (iblk m c 1 t) (iblk m c 2 t) (iblk m c 3 t) = k0_pay1 (k0_pay4 (grad m c t) (iblk m c 2 t)) by frame_out]
  exact (Adam.add_apply shapeCasts_S128x128_S1x128x128 r k _).trans ((Adam.kerMean_apply shapeCasts_S1x128x128_S128x128 r k _ _).trans (by rw [grad_point, m_read]; rfl))

theorem arr_square : (dats m 0 c).arrAt 7 cfg0.N = Plain.square (argX m c) (argV m c) := by
  refine (dats m 0 c).arrAt_eq_of_covers 7 _ (by decide +kernel) fun t hf y => ?_
  blk_simp
  rw [after0_7]
  refine Adam.forall_tile _ (fun i => Plain.square (argX m c) (argV m c) ((win0_7.blk t).view.emb i)) (fun r k => ?_) y
  rw [show (win0_7.blk t).view.emb (ix3 0 r k) = _ from emb t r k,
    show out0_7 (iblk m c 0 t) (iblk m c 1 t) (iblk m c 2 t) (iblk m c 3 t) = k0_pay2 (k0_pay5 (grad m c t) (iblk m c 3 t)) by frame_out]
  exact (Adam.add_apply shapeCasts_S128x128_S1x128x128 r k _).trans ((Adam.kerSquare_apply shapeCasts_S1x128x128_S128x128 r k _ _).trans (by rw [grad_point, v_read]; rfl))

end Cert.AdamRwkvOut

end
-- ==== Proof.AdamMemOut.lean ====
/-
  The step of the memory attention's output weight: the received parts of its gradient added, its moments and its step by the AdamW rule.
-/
module

public import proofs.«01_k».proof.Proof.Adam
public import proofs.«01_k».proof.Proof.Gen.Kernel22Ideal.Value
public import proofs.«01_k».proof.Proof.Gen.Reference22Ideal.Run

@[expose] public section

set_option maxRecDepth 16384

noncomputable section

namespace Cert.AdamMemOut.Plain

open Idealize.ShloMosaic Idealize.ShloMosaic.TcCoe Idealize.SL Idealize.SL.Sem Cert.Reference22Ideal Cert.Reference22Ideal.Gen

variable {F : FTy → Type} [FloatOps F] (x : Vec F S8x1536x128 .bf16)

/-- The sum of the received parts of the gradient. -/
def total : Vec F S1x512x128 .f32 :=
  broadcastInDim S1x512x128 ![1, 2] bcast_S512x128_S1x512x128_1_2 (Host.reduceAdd (extf .f32 (extractStridedSlice S8x512x128 ![0, 1024, 0] x slices_S8x1536x128_S8x512x128_0_1024_0) bitsLt_bf16_f32)
    (constant S_ .f32 0x00000000#32) reducesTo_S8x512x128_S512x128_d0 h_S_)

/-- The new moments and the step. -/
def moment (m : Vec F S1x512x128 .f32) : Vec F S1x512x128 .f32 :=
  Adam.refMean bcast_S_S1x512x128 m (total x)

def square (v : Vec F S1x512x128 .f32) : Vec F S1x512x128 .f32 :=
  Adam.refSquare bcast_S_S1x512x128 v (total x)

def delta (w m v : Vec F S1x512x128 .f32) : Vec F S1x512x128 .f32 :=
  Adam.refDelta bcast_S_S1x512x128 w m v (total x)

theorem total_apply (x : Vec Ideal S8x1536x128 .bf16) (r : Fin 512) (k : Fin 128) : total x (ix3 0 r k) = ∑ d, x (ix3 d ⟨1024 + r.val, by omega⟩ k) := by
  pointwise [total]

end Cert.AdamMemOut.Plain

namespace Cert.AdamMemOut

open Idealize.ShloMosaic Idealize.ShloMosaic.TcCoe Idealize.SL Idealize.SL.Sem Cert.Kernel22Ideal Cert.Kernel22Ideal.Gen

variable (m : (ℓ : Loc nD τ sig) → Buf (Elt Ideal) ℓ) (c : Dev nD) (t : Fin cfg0.N)

/-- The arguments: the received parts of the gradient, the weight and its moments. -/
abbrev argX : Vec Ideal S8x1536x128 .bf16 := m ((c : Thread nD τ).loc main_arg0)
abbrev argW : Vec Ideal S1x512x128 .f32 := m ((c : Thread nD τ).loc main_arg1)
abbrev argM : Vec Ideal S1x512x128 .f32 := m ((c : Thread nD τ).loc main_arg2)
abbrev argV : Vec Ideal S1x512x128 .f32 := m ((c : Thread nD τ).loc main_arg3)

theorem place : ∀ t : Fin cfg0.N,
    win0_0.index t = ![0, t.val + 8, 0]
    ∧ win0_4.index t = ![0, t.val, 0] := by
  show ∀ t : Fin grid0.N, _
  decide +kernel

/-- The row of the arrays that one of a point's blocks is. -/
def rowOf (r : Fin 128) : Fin 512 := ⟨t.val * 128 + r.val, by have := lt_of_lt_of_eq t.isLt N_0; omega⟩

theorem x_read (d : Fin 8) (r : Fin 128) (k : Fin 128) :
    (iblk m c 0 t : Vec Ideal S8x128x128 .bf16) (ix3 d r k) = argX m c (ix3 d ⟨1024 + (rowOf t r).val, by omega⟩ k) := by
  blk_ext [iblk, V, place t, rowOf]

variable (r : Fin 128) (k : Fin 128)

theorem emb : (win0_4.blk t).view.emb (ix3 0 r k) = ix3 0 (rowOf t r) k := by
  blk_ext [place t, rowOf]

theorem w_read : (iblk m c 1 t : Vec Ideal S1x128x128 .f32) (ix3 0 r k) = argW m c (ix3 0 (rowOf t r) k) :=
  congrArg (argW m c) (emb t r k)

theorem m_read : (iblk m c 2 t : Vec Ideal S1x128x128 .f32) (ix3 0 r k) = argM m c (ix3 0 (rowOf t r) k) :=
  congrArg (argM m c) (emb t r k)

theorem v_read : (iblk m c 3 t : Vec Ideal S1x128x128 .f32) (ix3 0 r k) = argV m c (ix3 0 (rowOf t r) k) :=
  congrArg (argV m c) (emb t r k)

/-- A point's gradient, the reference's at its elements. -/
abbrev grad : FVec Ideal S128x128 .f32 := k0_pay8 (iblk m c 0 t) (iblk m c 1 t) (iblk m c 2 t) (iblk m c 3 t)

theorem grad_point : grad m c t (ix2 r k) = Plain.total (argX m c) (ix3 0 (rowOf t r) k) := by
  have s := Adam.kerSum_apply shapeCasts_S1x128x128_S128x128 r k bitsLt_bf16_f32 fun d => View.ld (iblk m c 0 t : Vec Ideal S8x128x128 .bf16)
    (Rect.unit (s := S8x128x128) ![d.val, 0, 0] S1x128x128.size (by fin_cases d <;> decide))
  refine Eq.trans ?_ (s.trans ?_)
  · rfl
  · rw [Plain.total_apply]
    exact Finset.sum_congr rfl fun d _ => (Adam.ld_apply r k d _ _).trans (x_read m c t d r k)

theorem arr_total : (dats m 0 c).arrAt 4 cfg0.N = Plain.total (argX m c) := by
  refine (dats m 0 c).arrAt_eq_of_covers 4 _ (by decide +kernel) fun t hf y => ?_
  blk_simp
  rw [after0_4]
  refine Adam.forall_tile _ (fun i => Plain.total (argX m c) ((win0_4.blk t).view.emb i)) (fun r k => ?_) y
  rw [show (win0_4.blk t).view.emb (ix3 0 r k) = _ from emb t r k,
    show out0_4 (iblk m c 0 t) (iblk m c 1 t) (iblk m c 2 t) (iblk m c 3 t) = k0_pay6 (grad m c t) by frame_out]
  exact (Adam.add_apply shapeCasts_S128x128_S1x128x128 r k _).trans (grad_point m c t r k)

theorem arr_delta : (dats m 0 c).arrAt 5 cfg0.N = Plain.delta (argX m c) (argW m c) (argM m c) (argV m c) := by
  refine (dats m 0 c).arrAt_eq_of_covers 5 _ (by decide +kernel) fun t hf y => ?_
  blk_simp
  rw [after0_5]
  refine Adam.forall_tile _ (fun i => Plain.delta (argX m c) (argW m c) (argM m c) (argV m c) ((win0_5.blk t).view.emb i)) (fun r k => ?_) y
  rw [show (win0_5.blk t).view.emb (ix3 0 r k) = _ from emb t r k,
    show out0_5 (iblk m c 0 t) (iblk m c 1 t) (iblk m c 2 t) (iblk m c 3 t) = k0_pay7 (grad m c t) (iblk m c 2 t) (iblk m c 3 t) (iblk m c 1 t) by frame_out]
  exact (Adam.kerDelta_apply shapeCasts_S1x128x128_S128x128 shapeCasts_S128x128_S1x128x128 r k _ _ _ _).trans (by rw [grad_point, w_read, m_read, v_read]; rfl)

theorem arr_moment : (dats m 0 c).arrAt 6 cfg0.N = Plain.moment (argX m c) (argM m c) := by
  refine (dats m 0 c).arrAt_eq_of_covers 6 _ (by decide +kernel) fun t hf y => ?_
  blk_simp
  rw [after0_6]
  refine Adam.forall_tile _ (fun i => Plain.moment (argX m c) (argM m c) ((win0_6.blk t).view.emb i)) (fun r k => ?_) y
  rw [show (win0_6.blk t).view.emb (ix3 0 r k) = _ from emb t r k,
    show out0_6 (iblk m c 0 t) (iblk m c 1 t) (iblk m c 2 t) (iblk m c 3 t) = k0_pay1 (k0_pay4 (grad m c t) (iblk m c 2 t)) by frame_out]
  exact (Adam.add_apply shapeCasts_S128x128_S1x128x128 r k _).trans ((Adam.kerMean_apply shapeCasts_S1x128x128_S128x128 r k _ _).trans (by rw [grad_point, m_read]; rfl))

theorem arr_square : (dats m 0 c).arrAt 7 cfg0.N = Plain.square (argX m c) (argV m c) := by
  refine (dats m 0 c).arrAt_eq_of_covers 7 _ (by decide +kernel) fun t hf y => ?_
  blk_simp
  rw [after0_7]
  refine Adam.forall_tile _ (fun i => Plain.square (argX m c) (argV m c) ((win0_7.blk t).view.emb i)) (fun r k => ?_) y
  rw [show (win0_7.blk t).view.emb (ix3 0 r k) = _ from emb t r k,
    show out0_7 (iblk m c 0 t) (iblk m c 1 t) (iblk m c 2 t) (iblk m c 3 t) = k0_pay2 (k0_pay5 (grad m c t) (iblk m c 3 t)) by frame_out]
  exact (Adam.add_apply shapeCasts_S128x128_S1x128x128 r k _).trans ((Adam.kerSquare_apply shapeCasts_S1x128x128_S128x128 r k _ _).trans (by rw [grad_point, v_read]; rfl))

end Cert.AdamMemOut

end
-- ==== Proof.AdamWUp.lean ====
/-
  The step of the weight that lifts the decays: the received parts of its gradient added, its moments and its step by the AdamW rule.
-/
module

public import proofs.«01_k».proof.Proof.Adam
public import proofs.«01_k».proof.Proof.Gen.Kernel23Ideal.Value
public import proofs.«01_k».proof.Proof.Gen.Reference23Ideal.Run

@[expose] public section

set_option maxRecDepth 16384

noncomputable section

namespace Cert.AdamWUp.Plain

open Idealize.ShloMosaic Idealize.ShloMosaic.TcCoe Idealize.SL Idealize.SL.Sem Cert.Reference23Ideal Cert.Reference23Ideal.Gen

variable {F : FTy → Type} [FloatOps F] (x : Vec F S8x256x64 .bf16)

/-- The sum of the received parts of the gradient. -/
def total : Vec F S1x64x64 .f32 :=
  broadcastInDim S1x64x64 ![1, 2] bcast_S64x64_S1x64x64_1_2 (Host.reduceAdd (extf .f32 (extractStridedSlice S8x64x64 ![0, 0, 0] x slices_S8x256x64_S8x64x64_0_0_0) bitsLt_bf16_f32)
    (constant S_ .f32 0x00000000#32) reducesTo_S8x64x64_S64x64_d0 h_S_)

/-- The new moments and the step. -/
def moment (m : Vec F S1x64x64 .f32) : Vec F S1x64x64 .f32 :=
  Adam.refMean bcast_S_S1x64x64 m (total x)

def square (v : Vec F S1x64x64 .f32) : Vec F S1x64x64 .f32 :=
  Adam.refSquare bcast_S_S1x64x64 v (total x)

def delta (w m v : Vec F S1x64x64 .f32) : Vec F S1x64x64 .f32 :=
  Adam.refDelta bcast_S_S1x64x64 w m v (total x)

theorem total_apply (x : Vec Ideal S8x256x64 .bf16) (r : Fin 64) (k : Fin 64) : total x (ix3 0 r k) = ∑ d, x (ix3 d ⟨0 + r.val, by omega⟩ k) := by
  pointwise [total]

end Cert.AdamWUp.Plain

namespace Cert.AdamWUp

open Idealize.ShloMosaic Idealize.ShloMosaic.TcCoe Idealize.SL Idealize.SL.Sem Cert.Kernel23Ideal Cert.Kernel23Ideal.Gen

variable (m : (ℓ : Loc nD τ sig) → Buf (Elt Ideal) ℓ) (c : Dev nD) (t : Fin cfg0.N)

/-- The arguments: the received parts of the gradient, the weight and its moments. -/
abbrev argX : Vec Ideal S8x256x64 .bf16 := m ((c : Thread nD τ).loc main_arg0)
abbrev argW : Vec Ideal S1x64x64 .f32 := m ((c : Thread nD τ).loc main_arg1)
abbrev argM : Vec Ideal S1x64x64 .f32 := m ((c : Thread nD τ).loc main_arg2)
abbrev argV : Vec Ideal S1x64x64 .f32 := m ((c : Thread nD τ).loc main_arg3)

theorem place : ∀ t : Fin cfg0.N,
    win0_0.index t = ![0, 0, 0]
    ∧ win0_4.index t = ![0, 0, 0] := by
  show ∀ t : Fin grid0.N, _
  decide +kernel

theorem x_read (d : Fin 8) (r : Fin 64) (k : Fin 64) :
    (iblk m c 0 t : Vec Ideal S8x64x64 .bf16) (ix3 d r k) = argX m c (ix3 d ⟨0 + r.val, by omega⟩ k) := by
  blk_ext [iblk, V, place t]

theorem emb (r : Fin 64) (k : Fin 64) : (win0_4.blk t).view.emb (ix3 0 r k) = ix3 0 r k := by
  blk_ext [place t]

theorem w_read (r : Fin 64) (k : Fin 64) : (iblk m c 1 t : Vec Ideal S1x64x64 .f32) (ix3 0 r k) = argW m c (ix3 0 r k) :=
  congrArg (argW m c) (emb t r k)

theorem m_read (r : Fin 64) (k : Fin 64) : (iblk m c 2 t : Vec Ideal S1x64x64 .f32) (ix3 0 r k) = argM m c (ix3 0 r k) :=
  congrArg (argM m c) (emb t r k)

theorem v_read (r : Fin 64) (k : Fin 64) : (iblk m c 3 t : Vec Ideal S1x64x64 .f32) (ix3 0 r k) = argV m c (ix3 0 r k) :=
  congrArg (argV m c) (emb t r k)

/-- A point's gradient, the reference's at its elements. -/
abbrev grad : FVec Ideal S64x64 .f32 := k0_pay8 (iblk m c 0 t) (iblk m c 1 t) (iblk m c 2 t) (iblk m c 3 t)

theorem grad_point (r : Fin 64) (k : Fin 64) : grad m c t (ix2 r k) = Plain.total (argX m c) (ix3 0 r k) := by
  have s := Adam.kerSum_apply shapeCasts_S1x64x64_S64x64 r k bitsLt_bf16_f32 fun d => View.ld (iblk m c 0 t : Vec Ideal S8x64x64 .bf16)
    (Rect.unit (s := S8x64x64) ![d.val, 0, 0] S1x64x64.size (by fin_cases d <;> decide))
  refine Eq.trans ?_ (s.trans ?_)
  · rfl
  · rw [Plain.total_apply]
    exact Finset.sum_congr rfl fun d _ => (Adam.ld_apply r k d _ _).trans (x_read m c t d r k)

theorem arr_total : (dats m 0 c).arrAt 4 cfg0.N = Plain.total (argX m c) := by
  refine (dats m 0 c).arrAt_eq_of_covers 4 _ (by decide +kernel) fun t hf y => ?_
  blk_simp
  rw [after0_4]
  refine Adam.forall_tile _ (fun i => Plain.total (argX m c) ((win0_4.blk t).view.emb i)) (fun r k => ?_) y
  rw [show (win0_4.blk t).view.emb (ix3 0 r k) = _ from emb t r k,
    show out0_4 (iblk m c 0 t) (iblk m c 1 t) (iblk m c 2 t) (iblk m c 3 t) = k0_pay6 (grad m c t) by frame_out]
  exact (Adam.add_apply shapeCasts_S64x64_S1x64x64 r k _).trans (grad_point m c t r k)

theorem arr_delta : (dats m 0 c).arrAt 5 cfg0.N = Plain.delta (argX m c) (argW m c) (argM m c) (argV m c) := by
  refine (dats m 0 c).arrAt_eq_of_covers 5 _ (by decide +kernel) fun t hf y => ?_
  blk_simp
  rw [after0_5]
  refine Adam.forall_tile _ (fun i => Plain.delta (argX m c) (argW m c) (argM m c) (argV m c) ((win0_5.blk t).view.emb i)) (fun r k => ?_) y
  rw [show (win0_5.blk t).view.emb (ix3 0 r k) = _ from emb t r k,
    show out0_5 (iblk m c 0 t) (iblk m c 1 t) (iblk m c 2 t) (iblk m c 3 t) = k0_pay7 (grad m c t) (iblk m c 2 t) (iblk m c 3 t) (iblk m c 1 t) by frame_out]
  exact (Adam.kerDelta_apply shapeCasts_S1x64x64_S64x64 shapeCasts_S64x64_S1x64x64 r k _ _ _ _).trans (by rw [grad_point, w_read, m_read, v_read]; rfl)

theorem arr_moment : (dats m 0 c).arrAt 6 cfg0.N = Plain.moment (argX m c) (argM m c) := by
  refine (dats m 0 c).arrAt_eq_of_covers 6 _ (by decide +kernel) fun t hf y => ?_
  blk_simp
  rw [after0_6]
  refine Adam.forall_tile _ (fun i => Plain.moment (argX m c) (argM m c) ((win0_6.blk t).view.emb i)) (fun r k => ?_) y
  rw [show (win0_6.blk t).view.emb (ix3 0 r k) = _ from emb t r k,
    show out0_6 (iblk m c 0 t) (iblk m c 1 t) (iblk m c 2 t) (iblk m c 3 t) = k0_pay1 (k0_pay4 (grad m c t) (iblk m c 2 t)) by frame_out]
  exact (Adam.add_apply shapeCasts_S64x64_S1x64x64 r k _).trans ((Adam.kerMean_apply shapeCasts_S1x64x64_S64x64 r k _ _).trans (by rw [grad_point, m_read]; rfl))

theorem arr_square : (dats m 0 c).arrAt 7 cfg0.N = Plain.square (argX m c) (argV m c) := by
  refine (dats m 0 c).arrAt_eq_of_covers 7 _ (by decide +kernel) fun t hf y => ?_
  blk_simp
  rw [after0_7]
  refine Adam.forall_tile _ (fun i => Plain.square (argX m c) (argV m c) ((win0_7.blk t).view.emb i)) (fun r k => ?_) y
  rw [show (win0_7.blk t).view.emb (ix3 0 r k) = _ from emb t r k,
    show out0_7 (iblk m c 0 t) (iblk m c 1 t) (iblk m c 2 t) (iblk m c 3 t) = k0_pay2 (k0_pay5 (grad m c t) (iblk m c 3 t)) by frame_out]
  exact (Adam.add_apply shapeCasts_S64x64_S1x64x64 r k _).trans ((Adam.kerSquare_apply shapeCasts_S1x64x64_S64x64 r k _ _).trans (by rw [grad_point, v_read]; rfl))

end Cert.AdamWUp

end
-- ==== Proof.AdamAUp.lean ====
/-
  The step of the weight that lifts the rates: the received parts of its gradient added, its moments and its step by the AdamW rule.
-/
module

public import proofs.«01_k».proof.Proof.Adam
public import proofs.«01_k».proof.Proof.Gen.Kernel24Ideal.Value
public import proofs.«01_k».proof.Proof.Gen.Reference24Ideal.Run

@[expose] public section

set_option maxRecDepth 16384

noncomputable section

namespace Cert.AdamAUp.Plain

open Idealize.ShloMosaic Idealize.ShloMosaic.TcCoe Idealize.SL Idealize.SL.Sem Cert.Reference24Ideal Cert.Reference24Ideal.Gen

variable {F : FTy → Type} [FloatOps F] (x : Vec F S8x256x64 .bf16)

/-- The sum of the received parts of the gradient. -/
def total : Vec F S1x64x64 .f32 :=
  broadcastInDim S1x64x64 ![1, 2] bcast_S64x64_S1x64x64_1_2 (Host.reduceAdd (extf .f32 (extractStridedSlice S8x64x64 ![0, 64, 0] x slices_S8x256x64_S8x64x64_0_64_0) bitsLt_bf16_f32)
    (constant S_ .f32 0x00000000#32) reducesTo_S8x64x64_S64x64_d0 h_S_)

/-- The new moments and the step. -/
def moment (m : Vec F S1x64x64 .f32) : Vec F S1x64x64 .f32 :=
  Adam.refMean bcast_S_S1x64x64 m (total x)

def square (v : Vec F S1x64x64 .f32) : Vec F S1x64x64 .f32 :=
  Adam.refSquare bcast_S_S1x64x64 v (total x)

def delta (w m v : Vec F S1x64x64 .f32) : Vec F S1x64x64 .f32 :=
  Adam.refDelta bcast_S_S1x64x64 w m v (total x)

theorem total_apply (x : Vec Ideal S8x256x64 .bf16) (r : Fin 64) (k : Fin 64) : total x (ix3 0 r k) = ∑ d, x (ix3 d ⟨64 + r.val, by omega⟩ k) := by
  pointwise [total]

end Cert.AdamAUp.Plain

namespace Cert.AdamAUp

open Idealize.ShloMosaic Idealize.ShloMosaic.TcCoe Idealize.SL Idealize.SL.Sem Cert.Kernel24Ideal Cert.Kernel24Ideal.Gen

variable (m : (ℓ : Loc nD τ sig) → Buf (Elt Ideal) ℓ) (c : Dev nD) (t : Fin cfg0.N)

/-- The arguments: the received parts of the gradient, the weight and its moments. -/
abbrev argX : Vec Ideal S8x256x64 .bf16 := m ((c : Thread nD τ).loc main_arg0)
abbrev argW : Vec Ideal S1x64x64 .f32 := m ((c : Thread nD τ).loc main_arg1)
abbrev argM : Vec Ideal S1x64x64 .f32 := m ((c : Thread nD τ).loc main_arg2)
abbrev argV : Vec Ideal S1x64x64 .f32 := m ((c : Thread nD τ).loc main_arg3)

theorem place : ∀ t : Fin cfg0.N,
    win0_0.index t = ![0, 1, 0]
    ∧ win0_4.index t = ![0, 0, 0] := by
  show ∀ t : Fin grid0.N, _
  decide +kernel

theorem x_read (d : Fin 8) (r : Fin 64) (k : Fin 64) :
    (iblk m c 0 t : Vec Ideal S8x64x64 .bf16) (ix3 d r k) = argX m c (ix3 d ⟨64 + r.val, by omega⟩ k) := by
  blk_ext [iblk, V, place t]

theorem emb (r : Fin 64) (k : Fin 64) : (win0_4.blk t).view.emb (ix3 0 r k) = ix3 0 r k := by
  blk_ext [place t]

theorem w_read (r : Fin 64) (k : Fin 64) : (iblk m c 1 t : Vec Ideal S1x64x64 .f32) (ix3 0 r k) = argW m c (ix3 0 r k) :=
  congrArg (argW m c) (emb t r k)

theorem m_read (r : Fin 64) (k : Fin 64) : (iblk m c 2 t : Vec Ideal S1x64x64 .f32) (ix3 0 r k) = argM m c (ix3 0 r k) :=
  congrArg (argM m c) (emb t r k)

theorem v_read (r : Fin 64) (k : Fin 64) : (iblk m c 3 t : Vec Ideal S1x64x64 .f32) (ix3 0 r k) = argV m c (ix3 0 r k) :=
  congrArg (argV m c) (emb t r k)

/-- A point's gradient, the reference's at its elements. -/
abbrev grad : FVec Ideal S64x64 .f32 := k0_pay8 (iblk m c 0 t) (iblk m c 1 t) (iblk m c 2 t) (iblk m c 3 t)

theorem grad_point (r : Fin 64) (k : Fin 64) : grad m c t (ix2 r k) = Plain.total (argX m c) (ix3 0 r k) := by
  have s := Adam.kerSum_apply shapeCasts_S1x64x64_S64x64 r k bitsLt_bf16_f32 fun d => View.ld (iblk m c 0 t : Vec Ideal S8x64x64 .bf16)
    (Rect.unit (s := S8x64x64) ![d.val, 0, 0] S1x64x64.size (by fin_cases d <;> decide))
  refine Eq.trans ?_ (s.trans ?_)
  · rfl
  · rw [Plain.total_apply]
    exact Finset.sum_congr rfl fun d _ => (Adam.ld_apply r k d _ _).trans (x_read m c t d r k)

theorem arr_total : (dats m 0 c).arrAt 4 cfg0.N = Plain.total (argX m c) := by
  refine (dats m 0 c).arrAt_eq_of_covers 4 _ (by decide +kernel) fun t hf y => ?_
  blk_simp
  rw [after0_4]
  refine Adam.forall_tile _ (fun i => Plain.total (argX m c) ((win0_4.blk t).view.emb i)) (fun r k => ?_) y
  rw [show (win0_4.blk t).view.emb (ix3 0 r k) = _ from emb t r k,
    show out0_4 (iblk m c 0 t) (iblk m c 1 t) (iblk m c 2 t) (iblk m c 3 t) = k0_pay6 (grad m c t) by frame_out]
  exact (Adam.add_apply shapeCasts_S64x64_S1x64x64 r k _).trans (grad_point m c t r k)

theorem arr_delta : (dats m 0 c).arrAt 5 cfg0.N = Plain.delta (argX m c) (argW m c) (argM m c) (argV m c) := by
  refine (dats m 0 c).arrAt_eq_of_covers 5 _ (by decide +kernel) fun t hf y => ?_
  blk_simp
  rw [after0_5]
  refine Adam.forall_tile _ (fun i => Plain.delta (argX m c) (argW m c) (argM m c) (argV m c) ((win0_5.blk t).view.emb i)) (fun r k => ?_) y
  rw [show (win0_5.blk t).view.emb (ix3 0 r k) = _ from emb t r k,
    show out0_5 (iblk m c 0 t) (iblk m c 1 t) (iblk m c 2 t) (iblk m c 3 t) = k0_pay7 (grad m c t) (iblk m c 2 t) (iblk m c 3 t) (iblk m c 1 t) by frame_out]
  exact (Adam.kerDelta_apply shapeCasts_S1x64x64_S64x64 shapeCasts_S64x64_S1x64x64 r k _ _ _ _).trans (by rw [grad_point, w_read, m_read, v_read]; rfl)

theorem arr_moment : (dats m 0 c).arrAt 6 cfg0.N = Plain.moment (argX m c) (argM m c) := by
  refine (dats m 0 c).arrAt_eq_of_covers 6 _ (by decide +kernel) fun t hf y => ?_
  blk_simp
  rw [after0_6]
  refine Adam.forall_tile _ (fun i => Plain.moment (argX m c) (argM m c) ((win0_6.blk t).view.emb i)) (fun r k => ?_) y
  rw [show (win0_6.blk t).view.emb (ix3 0 r k) = _ from emb t r k,
    show out0_6 (iblk m c 0 t) (iblk m c 1 t) (iblk m c 2 t) (iblk m c 3 t) = k0_pay1 (k0_pay4 (grad m c t) (iblk m c 2 t)) by frame_out]
  exact (Adam.add_apply shapeCasts_S64x64_S1x64x64 r k _).trans ((Adam.kerMean_apply shapeCasts_S1x64x64_S64x64 r k _ _).trans (by rw [grad_point, m_read]; rfl))

theorem arr_square : (dats m 0 c).arrAt 7 cfg0.N = Plain.square (argX m c) (argV m c) := by
  refine (dats m 0 c).arrAt_eq_of_covers 7 _ (by decide +kernel) fun t hf y => ?_
  blk_simp
  rw [after0_7]
  refine Adam.forall_tile _ (fun i => Plain.square (argX m c) (argV m c) ((win0_7.blk t).view.emb i)) (fun r k => ?_) y
  rw [show (win0_7.blk t).view.emb (ix3 0 r k) = _ from emb t r k,
    show out0_7 (iblk m c 0 t) (iblk m c 1 t) (iblk m c 2 t) (iblk m c 3 t) = k0_pay2 (k0_pay5 (grad m c t) (iblk m c 3 t)) by frame_out]
  exact (Adam.add_apply shapeCasts_S64x64_S1x64x64 r k _).trans ((Adam.kerSquare_apply shapeCasts_S1x64x64_S64x64 r k _ _).trans (by rw [grad_point, v_read]; rfl))

end Cert.AdamAUp

end
-- ==== Proof.AdamGUp.lean ====
/-
  The step of the weight that lifts the gates: the received parts of its gradient added, its moments and its step by the AdamW rule.
-/
module

public import proofs.«01_k».proof.Proof.Adam
public import proofs.«01_k».proof.Proof.Gen.Kernel25Ideal.Value
public import proofs.«01_k».proof.Proof.Gen.Reference25Ideal.Run

@[expose] public section

set_option maxRecDepth 16384

noncomputable section

namespace Cert.AdamGUp.Plain

open Idealize.ShloMosaic Idealize.ShloMosaic.TcCoe Idealize.SL Idealize.SL.Sem Cert.Reference25Ideal Cert.Reference25Ideal.Gen

variable {F : FTy → Type} [FloatOps F] (x : Vec F S8x256x64 .bf16)

/-- The sum of the received parts of the gradient. -/
def total : Vec F S1x128x64 .f32 :=
  broadcastInDim S1x128x64 ![1, 2] bcast_S128x64_S1x128x64_1_2 (Host.reduceAdd (extf .f32 (extractStridedSlice S8x128x64 ![0, 128, 0] x slices_S8x256x64_S8x128x64_0_128_0) bitsLt_bf16_f32)
    (constant S_ .f32 0x00000000#32) reducesTo_S8x128x64_S128x64_d0 h_S_)

/-- The new moments and the step. -/
def moment (m : Vec F S1x128x64 .f32) : Vec F S1x128x64 .f32 :=
  Adam.refMean bcast_S_S1x128x64 m (total x)

def square (v : Vec F S1x128x64 .f32) : Vec F S1x128x64 .f32 :=
  Adam.refSquare bcast_S_S1x128x64 v (total x)

def delta (w m v : Vec F S1x128x64 .f32) : Vec F S1x128x64 .f32 :=
  Adam.refDelta bcast_S_S1x128x64 w m v (total x)

theorem total_apply (x : Vec Ideal S8x256x64 .bf16) (r : Fin 128) (k : Fin 64) : total x (ix3 0 r k) = ∑ d, x (ix3 d ⟨128 + r.val, by omega⟩ k) := by
  pointwise [total]

end Cert.AdamGUp.Plain

namespace Cert.AdamGUp

open Idealize.ShloMosaic Idealize.ShloMosaic.TcCoe Idealize.SL Idealize.SL.Sem Cert.Kernel25Ideal Cert.Kernel25Ideal.Gen

variable (m : (ℓ : Loc nD τ sig) → Buf (Elt Ideal) ℓ) (c : Dev nD) (t : Fin cfg0.N)

/-- The arguments: the received parts of the gradient, the weight and its moments. -/
abbrev argX : Vec Ideal S8x256x64 .bf16 := m ((c : Thread nD τ).loc main_arg0)
abbrev argW : Vec Ideal S1x128x64 .f32 := m ((c : Thread nD τ).loc main_arg1)
abbrev argM : Vec Ideal S1x128x64 .f32 := m ((c : Thread nD τ).loc main_arg2)
abbrev argV : Vec Ideal S1x128x64 .f32 := m ((c : Thread nD τ).loc main_arg3)

theorem place : ∀ t : Fin cfg0.N,
    win0_0.index t = ![0, 1, 0]
    ∧ win0_4.index t = ![0, 0, 0] := by
  show ∀ t : Fin grid0.N, _
  decide +kernel

theorem x_read (d : Fin 8) (r : Fin 128) (k : Fin 64) :
    (iblk m c 0 t : Vec Ideal S8x128x64 .bf16) (ix3 d r k) = argX m c (ix3 d ⟨128 + r.val, by omega⟩ k) := by
  blk_ext [iblk, V, place t]

theorem emb (r : Fin 128) (k : Fin 64) : (win0_4.blk t).view.emb (ix3 0 r k) = ix3 0 r k := by
  blk_ext [place t]

theorem w_read (r : Fin 128) (k : Fin 64) : (iblk m c 1 t : Vec Ideal S1x128x64 .f32) (ix3 0 r k) = argW m c (ix3 0 r k) :=
  congrArg (argW m c) (emb t r k)

theorem m_read (r : Fin 128) (k : Fin 64) : (iblk m c 2 t : Vec Ideal S1x128x64 .f32) (ix3 0 r k) = argM m c (ix3 0 r k) :=
  congrArg (argM m c) (emb t r k)

theorem v_read (r : Fin 128) (k : Fin 64) : (iblk m c 3 t : Vec Ideal S1x128x64 .f32) (ix3 0 r k) = argV m c (ix3 0 r k) :=
  congrArg (argV m c) (emb t r k)

/-- A point's gradient, the reference's at its elements. -/
abbrev grad : FVec Ideal S128x64 .f32 := k0_pay8 (iblk m c 0 t) (iblk m c 1 t) (iblk m c 2 t) (iblk m c 3 t)

theorem grad_point (r : Fin 128) (k : Fin 64) : grad m c t (ix2 r k) = Plain.total (argX m c) (ix3 0 r k) := by
  have s := Adam.kerSum_apply shapeCasts_S1x128x64_S128x64 r k bitsLt_bf16_f32 fun d => View.ld (iblk m c 0 t : Vec Ideal S8x128x64 .bf16)
    (Rect.unit (s := S8x128x64) ![d.val, 0, 0] S1x128x64.size (by fin_cases d <;> decide))
  refine Eq.trans ?_ (s.trans ?_)
  · rfl
  · rw [Plain.total_apply]
    exact Finset.sum_congr rfl fun d _ => (Adam.ld_apply r k d _ _).trans (x_read m c t d r k)

theorem arr_total : (dats m 0 c).arrAt 4 cfg0.N = Plain.total (argX m c) := by
  refine (dats m 0 c).arrAt_eq_of_covers 4 _ (by decide +kernel) fun t hf y => ?_
  blk_simp
  rw [after0_4]
  refine Adam.forall_tile _ (fun i => Plain.total (argX m c) ((win0_4.blk t).view.emb i)) (fun r k => ?_) y
  rw [show (win0_4.blk t).view.emb (ix3 0 r k) = _ from emb t r k,
    show out0_4 (iblk m c 0 t) (iblk m c 1 t) (iblk m c 2 t) (iblk m c 3 t) = k0_pay6 (grad m c t) by frame_out]
  exact (Adam.add_apply shapeCasts_S128x64_S1x128x64 r k _).trans (grad_point m c t r k)

theorem arr_delta : (dats m 0 c).arrAt 5 cfg0.N = Plain.delta (argX m c) (argW m c) (argM m c) (argV m c) := by
  refine (dats m 0 c).arrAt_eq_of_covers 5 _ (by decide +kernel) fun t hf y => ?_
  blk_simp
  rw [after0_5]
  refine Adam.forall_tile _ (fun i => Plain.delta (argX m c) (argW m c) (argM m c) (argV m c) ((win0_5.blk t).view.emb i)) (fun r k => ?_) y
  rw [show (win0_5.blk t).view.emb (ix3 0 r k) = _ from emb t r k,
    show out0_5 (iblk m c 0 t) (iblk m c 1 t) (iblk m c 2 t) (iblk m c 3 t) = k0_pay7 (grad m c t) (iblk m c 2 t) (iblk m c 3 t) (iblk m c 1 t) by frame_out]
  exact (Adam.kerDelta_apply shapeCasts_S1x128x64_S128x64 shapeCasts_S128x64_S1x128x64 r k _ _ _ _).trans (by rw [grad_point, w_read, m_read, v_read]; rfl)

theorem arr_moment : (dats m 0 c).arrAt 6 cfg0.N = Plain.moment (argX m c) (argM m c) := by
  refine (dats m 0 c).arrAt_eq_of_covers 6 _ (by decide +kernel) fun t hf y => ?_
  blk_simp
  rw [after0_6]
  refine Adam.forall_tile _ (fun i => Plain.moment (argX m c) (argM m c) ((win0_6.blk t).view.emb i)) (fun r k => ?_) y
  rw [show (win0_6.blk t).view.emb (ix3 0 r k) = _ from emb t r k,
    show out0_6 (iblk m c 0 t) (iblk m c 1 t) (iblk m c 2 t) (iblk m c 3 t) = k0_pay1 (k0_pay4 (grad m c t) (iblk m c 2 t)) by frame_out]
  exact (Adam.add_apply shapeCasts_S128x64_S1x128x64 r k _).trans ((Adam.kerMean_apply shapeCasts_S1x128x64_S128x64 r k _ _).trans (by rw [grad_point, m_read]; rfl))

theorem arr_square : (dats m 0 c).arrAt 7 cfg0.N = Plain.square (argX m c) (argV m c) := by
  refine (dats m 0 c).arrAt_eq_of_covers 7 _ (by decide +kernel) fun t hf y => ?_
  blk_simp
  rw [after0_7]
  refine Adam.forall_tile _ (fun i => Plain.square (argX m c) (argV m c) ((win0_7.blk t).view.emb i)) (fun r k => ?_) y
  rw [show (win0_7.blk t).view.emb (ix3 0 r k) = _ from emb t r k,
    show out0_7 (iblk m c 0 t) (iblk m c 1 t) (iblk m c 2 t) (iblk m c 3 t) = k0_pay2 (k0_pay5 (grad m c t) (iblk m c 3 t)) by frame_out]
  exact (Adam.add_apply shapeCasts_S128x64_S1x128x64 r k _).trans ((Adam.kerSquare_apply shapeCasts_S1x128x64_S128x64 r k _ _).trans (by rw [grad_point, v_read]; rfl))

end Cert.AdamGUp

end
-- ==== Proof.QkvDw.lean ====
/-
  The gradient of the projections to queries, keys and values: the transposed gradient at their result times the normed rows.
-/
module

public import proofs.«01_k».proof.Proof.Norm
public import proofs.«01_k».proof.Proof.Gen.Kernel26Ideal.Value
public import proofs.«01_k».proof.Proof.Gen.Reference26Ideal.Run

@[expose] public section

set_option maxRecDepth 16384

noncomputable section

namespace Cert.QkvDw.Plain

open Idealize.ShloMosaic Idealize.ShloMosaic.TcCoe Idealize.SL Idealize.SL.Sem Cert.Reference26Ideal Cert.Reference26Ideal.Gen

/-- The weight's gradient, its columns turned into rows. -/
def dw {F : FTy → Type} [FloatOps F] (h : Vec F S4096x1536 .bf16) (d : Vec F S4096x1024 .bf16) : Vec F S1536x1024 .bf16 :=
  truncf .bf16 (transpose S1536x1024 [1, 0] (transpose S1024x1536 [1, 0] (Host.dotGeneral dot_S4096x1536_S4096x1024_S1536x1024_0_0_1_1_n_n none
    (extf .f32 h bitsLt_bf16_f32) (extf .f32 d bitsLt_bf16_f32)) transposes_S1536x1024_S1024x1536_1_0) transposes_S1024x1536_S1536x1024_1_0) bitsLt_bf16_f32

theorem dw_apply (h : Vec Ideal S4096x1536 .bf16) (d : Vec Ideal S4096x1024 .bf16) (l : Fin 1536) (k : Fin 1024) :
    dw h d (ix2 l k) = ∑ R, h (ix2 R l) * d (ix2 R k) := by
  pointwise [dw]

end Cert.QkvDw.Plain

namespace Cert.QkvDw

open Idealize.ShloMosaic Idealize.ShloMosaic.TcCoe Idealize.SL Idealize.SL.Sem Cert.Kernel26Ideal Cert.Kernel26Ideal.Gen

theorem pay1_apply (l : Fin 1536) (k : Fin 1024) : (k0_pay1 : FVec Ideal S1536x1024 .f32) (ix2 l k) = 0 := by
  pointwise [k0_pay1]

theorem pay2_apply (a : Vec Ideal S1536x1024 .f32) (h : Vec Ideal S2048x1536 .bf16) (d : Vec Ideal S2048x1024 .bf16) (l : Fin 1536) (k : Fin 1024) :
    k0_pay2 a h d (ix2 l k) = a (ix2 l k) + ∑ r, h (ix2 r l) * d (ix2 r k) := by
  pointwise [k0_pay2]

theorem pay3_apply (a : Vec Ideal S1536x1024 .f32) (l : Fin 1536) (k : Fin 1024) : k0_pay3 a (ix2 l k) = a (ix2 l k) := by
  pointwise [k0_pay3]

variable (m : (ℓ : Loc nD τ sig) → Buf (Elt Ideal) ℓ) (c : Dev nD) (t : Fin cfg0.N)

/-- The arguments. -/
abbrev argH : Vec Ideal S4096x1536 .bf16 := m ((c : Thread nD τ).loc main_arg0)
abbrev argD : Vec Ideal S4096x1024 .bf16 := m ((c : Thread nD τ).loc main_arg1)

theorem place : ∀ t : Fin cfg0.N,
    win0_0.index t = ![t.val, 0]
    ∧ win0_1.index t = ![t.val, 0]
    ∧ win0_2.index t = ![0, 0] := by
  show ∀ t : Fin grid0.N, _
  decide +kernel

/-- The row of the arrays that one of a point's blocks is. -/
def rowOf (r : Fin 2048) : Fin 4096 := ⟨t.val * 2048 + r.val, by have := lt_of_lt_of_eq t.isLt N_0; omega⟩

theorem h_read (r : Fin 2048) (l : Fin 1536) : (iblk m c 0 t : Vec Ideal S2048x1536 .bf16) (ix2 r l) = argH m c (ix2 (rowOf t r) l) := by
  blk_ext [iblk, V, place t, rowOf]

theorem d_read (r : Fin 2048) (k : Fin 1024) : (iblk m c 1 t : Vec Ideal S2048x1024 .bf16) (ix2 r k) = argD m c (ix2 (rowOf t r) k) := by
  blk_ext [iblk, V, place t, rowOf]

theorem emb_2 (l : Fin 1536) (k : Fin 1024) : (win0_2.blk t).view.emb (ix2 l k) = ix2 l k := by
  blk_ext [place t]

/-- A point's part of the sum over the rows. -/
def part (l : Fin 1536) (k : Fin 1024) : EReal := ∑ r, argH m c (ix2 (rowOf t r) l) * argD m c (ix2 (rowOf t r) k)

theorem step_point (a : Vec Ideal S1536x1024 .f32) (l : Fin 1536) (k : Fin 1024) :
    k0_pay2 a (iblk m c 0 t) (iblk m c 1 t) (ix2 l k) = a (ix2 l k) + part m c t l k := by
  refine (pay2_apply _ _ _ l k).trans ?_
  simp only [h_read, d_read]
  rfl

/-- The first point leaves its part, -/
theorem first (h : t.val % 2 = 0) (l : Fin 1536) (k : Fin 1024) : (outsAt0 m c t.val t.isLt).2 (ix2 l k) = part m c t l k := by
  rw [outsAt0_A m c t h (by omega)]
  frame_out
  exact (step_point m c t _ l k).trans (by rw [pay1_apply, zero_add])

/-- the second stores the sum. -/
theorem last (h : t.val % 2 = 1) (l : Fin 1536) (k : Fin 1024) :
    (outsAt0 m c t.val t.isLt).1 (ix2 l k) = Plain.dw (argH m c) (argD m c) (ix2 l k) := by
  have N := lt_of_lt_of_eq t.isLt N_0
  have f := first m c ⟨t.val - 1, lt_of_le_of_lt (Nat.sub_le _ _) t.isLt⟩ (by dsimp only; omega) l k
  rw [outsAt0_B m c t (by omega) h]
  frame_out
  refine (pay3_apply _ l k).trans ((step_point m c t _ l k).trans ((congrArg (· + part m c t l k) ((congrFun (Memref.IsWhole.read_unread _ _) _).trans f)).trans ?_))
  rw [Plain.dw_apply, Norm.sum_two 2048 2048 rfl]
  refine congrArg₂ _ (Finset.sum_congr rfl fun r _ => ?_) (Finset.sum_congr rfl fun r _ => ?_)
  all_goals
    refine congrArg (fun i => argH m c (ix2 i l) * argD m c (ix2 i k)) (Fin.ext ?_)
    simp only [rowOf]
    omega

theorem arr_dw : (dats m 0 c).arrAt 2 cfg0.N = Plain.dw (argH m c) (argD m c) := by
  refine (dats m 0 c).arrAt_eq_of_covers 2 _ (by decide +kernel) fun t hf y => ?_
  blk_simp
  rw [after0_2]
  change S1536x1024.Idx at y
  idx_vars y
  rw [emb_2]
  exact last m c t (flush0_2 t |>.1 hf) y0 y1

end Cert.QkvDw

end
-- ==== Proof.RwkvDw.lean ====
/-
  The gradient of the recurrent mixer's projection: the transposed gradient at its result times the normed rows.
-/
module

public import proofs.«01_k».proof.Proof.Norm
public import proofs.«01_k».proof.Proof.Gen.Kernel27Ideal.Value
public import proofs.«01_k».proof.Proof.Gen.Reference27Ideal.Run

@[expose] public section

set_option maxRecDepth 16384

noncomputable section

namespace Cert.RwkvDw.Plain

open Idealize.ShloMosaic Idealize.ShloMosaic.TcCoe Idealize.SL Idealize.SL.Sem Cert.Reference27Ideal Cert.Reference27Ideal.Gen

/-- The weight's gradient, its columns turned into rows. -/
def dw {F : FTy → Type} [FloatOps F] (h : Vec F S4096x1920 .bf16) (d : Vec F S4096x1024 .bf16) : Vec F S1920x1024 .bf16 :=
  truncf .bf16 (transpose S1920x1024 [1, 0] (transpose S1024x1920 [1, 0] (Host.dotGeneral dot_S4096x1920_S4096x1024_S1920x1024_0_0_1_1_n_n none
    (extf .f32 h bitsLt_bf16_f32) (extf .f32 d bitsLt_bf16_f32)) transposes_S1920x1024_S1024x1920_1_0) transposes_S1024x1920_S1920x1024_1_0) bitsLt_bf16_f32

theorem dw_apply (h : Vec Ideal S4096x1920 .bf16) (d : Vec Ideal S4096x1024 .bf16) (l : Fin 1920) (k : Fin 1024) :
    dw h d (ix2 l k) = ∑ R, h (ix2 R l) * d (ix2 R k) := by
  pointwise [dw]

end Cert.RwkvDw.Plain

namespace Cert.RwkvDw

open Idealize.ShloMosaic Idealize.ShloMosaic.TcCoe Idealize.SL Idealize.SL.Sem Cert.Kernel27Ideal Cert.Kernel27Ideal.Gen

theorem pay1_apply (l : Fin 1920) (k : Fin 1024) : (k0_pay1 : FVec Ideal S1920x1024 .f32) (ix2 l k) = 0 := by
  pointwise [k0_pay1]

theorem pay2_apply (a : Vec Ideal S1920x1024 .f32) (h : Vec Ideal S2048x1920 .bf16) (d : Vec Ideal S2048x1024 .bf16) (l : Fin 1920) (k : Fin 1024) :
    k0_pay2 a h d (ix2 l k) = a (ix2 l k) + ∑ r, h (ix2 r l) * d (ix2 r k) := by
  pointwise [k0_pay2]

theorem pay3_apply (a : Vec Ideal S1920x1024 .f32) (l : Fin 1920) (k : Fin 1024) : k0_pay3 a (ix2 l k) = a (ix2 l k) := by
  pointwise [k0_pay3]

variable (m : (ℓ : Loc nD τ sig) → Buf (Elt Ideal) ℓ) (c : Dev nD) (t : Fin cfg0.N)

/-- The arguments. -/
abbrev argH : Vec Ideal S4096x1920 .bf16 := m ((c : Thread nD τ).loc main_arg0)
abbrev argD : Vec Ideal S4096x1024 .bf16 := m ((c : Thread nD τ).loc main_arg1)

theorem place : ∀ t : Fin cfg0.N,
    win0_0.index t = ![t.val, 0]
    ∧ win0_1.index t = ![t.val, 0]
    ∧ win0_2.index t = ![0, 0] := by
  show ∀ t : Fin grid0.N, _
  decide +kernel

/-- The row of the arrays that one of a point's blocks is. -/
def rowOf (r : Fin 2048) : Fin 4096 := ⟨t.val * 2048 + r.val, by have := lt_of_lt_of_eq t.isLt N_0; omega⟩

theorem h_read (r : Fin 2048) (l : Fin 1920) : (iblk m c 0 t : Vec Ideal S2048x1920 .bf16) (ix2 r l) = argH m c (ix2 (rowOf t r) l) := by
  blk_ext [iblk, V, place t, rowOf]

theorem d_read (r : Fin 2048) (k : Fin 1024) : (iblk m c 1 t : Vec Ideal S2048x1024 .bf16) (ix2 r k) = argD m c (ix2 (rowOf t r) k) := by
  blk_ext [iblk, V, place t, rowOf]

theorem emb_2 (l : Fin 1920) (k : Fin 1024) : (win0_2.blk t).view.emb (ix2 l k) = ix2 l k := by
  blk_ext [place t]

/-- A point's part of the sum over the rows. -/
def part (l : Fin 1920) (k : Fin 1024) : EReal := ∑ r, argH m c (ix2 (rowOf t r) l) * argD m c (ix2 (rowOf t r) k)

theorem step_point (a : Vec Ideal S1920x1024 .f32) (l : Fin 1920) (k : Fin 1024) :
    k0_pay2 a (iblk m c 0 t) (iblk m c 1 t) (ix2 l k) = a (ix2 l k) + part m c t l k := by
  refine (pay2_apply _ _ _ l k).trans ?_
  simp only [h_read, d_read]
  rfl

/-- The first point leaves its part, -/
theorem first (h : t.val % 2 = 0) (l : Fin 1920) (k : Fin 1024) : (outsAt0 m c t.val t.isLt).2 (ix2 l k) = part m c t l k := by
  rw [outsAt0_A m c t h (by omega)]
  frame_out
  exact (step_point m c t _ l k).trans (by rw [pay1_apply, zero_add])

/-- the second stores the sum. -/
theorem last (h : t.val % 2 = 1) (l : Fin 1920) (k : Fin 1024) :
    (outsAt0 m c t.val t.isLt).1 (ix2 l k) = Plain.dw (argH m c) (argD m c) (ix2 l k) := by
  have N := lt_of_lt_of_eq t.isLt N_0
  have f := first m c ⟨t.val - 1, lt_of_le_of_lt (Nat.sub_le _ _) t.isLt⟩ (by dsimp only; omega) l k
  rw [outsAt0_B m c t (by omega) h]
  frame_out
  refine (pay3_apply _ l k).trans ((step_point m c t _ l k).trans ((congrArg (· + part m c t l k) ((congrFun (Memref.IsWhole.read_unread _ _) _).trans f)).trans ?_))
  rw [Plain.dw_apply, Norm.sum_two 2048 2048 rfl]
  refine congrArg₂ _ (Finset.sum_congr rfl fun r _ => ?_) (Finset.sum_congr rfl fun r _ => ?_)
  all_goals
    refine congrArg (fun i => argH m c (ix2 i l) * argD m c (ix2 i k)) (Fin.ext ?_)
    simp only [rowOf]
    omega

theorem arr_dw : (dats m 0 c).arrAt 2 cfg0.N = Plain.dw (argH m c) (argD m c) := by
  refine (dats m 0 c).arrAt_eq_of_covers 2 _ (by decide +kernel) fun t hf y => ?_
  blk_simp
  rw [after0_2]
  change S1920x1024.Idx at y
  idx_vars y
  rw [emb_2]
  exact last m c t (flush0_2 t |>.1 hf) y0 y1

end Cert.RwkvDw

end
-- ==== Proof.MixDw.lean ====
/-
  The gradient of a mixer's output weight: its transposed result times the gradient after the weight.
-/
module

public import proofs.«01_k».proof.Proof.Norm
public import proofs.«01_k».proof.Proof.Gen.Kernel28Ideal.Value
public import proofs.«01_k».proof.Proof.Gen.Reference28Ideal.Run

@[expose] public section

set_option maxRecDepth 16384

noncomputable section

namespace Cert.MixDw.Plain

open Idealize.ShloMosaic Idealize.ShloMosaic.TcCoe Idealize.SL Idealize.SL.Sem Cert.Reference28Ideal Cert.Reference28Ideal.Gen

/-- The weight's gradient. -/
def dw {F : FTy → Type} [FloatOps F] (h : Vec F S4096x512 .bf16) (d : Vec F S4096x1024 .bf16) : Vec F S512x1024 .bf16 :=
  truncf .bf16 (transpose S512x1024 [1, 0] (Host.dotGeneral dot_S4096x1024_S4096x512_S1024x512_0_0_1_1_n_n none (extf .f32 d bitsLt_bf16_f32)
    (extf .f32 h bitsLt_bf16_f32)) transposes_S1024x512_S512x1024_1_0) bitsLt_bf16_f32

theorem dw_apply (h : Vec Ideal S4096x512 .bf16) (d : Vec Ideal S4096x1024 .bf16) (l : Fin 512) (k : Fin 1024) :
    dw h d (ix2 l k) = ∑ R, h (ix2 R l) * d (ix2 R k) := by
  simp only [mul_comm (h _)]
  pointwise [dw]

end Cert.MixDw.Plain

namespace Cert.MixDw

open Idealize.ShloMosaic Idealize.ShloMosaic.TcCoe Idealize.SL Idealize.SL.Sem Cert.Kernel28Ideal Cert.Kernel28Ideal.Gen

theorem pay1_apply (l : Fin 512) (k : Fin 1024) : (k0_pay1 : FVec Ideal S512x1024 .f32) (ix2 l k) = 0 := by
  pointwise [k0_pay1]

theorem pay2_apply (a : Vec Ideal S512x1024 .f32) (h : Vec Ideal S2048x512 .bf16) (d : Vec Ideal S2048x1024 .bf16) (l : Fin 512) (k : Fin 1024) :
    k0_pay2 a h d (ix2 l k) = a (ix2 l k) + ∑ r, h (ix2 r l) * d (ix2 r k) := by
  pointwise [k0_pay2]

theorem pay3_apply (a : Vec Ideal S512x1024 .f32) (l : Fin 512) (k : Fin 1024) : k0_pay3 a (ix2 l k) = a (ix2 l k) := by
  pointwise [k0_pay3]

variable (m : (ℓ : Loc nD τ sig) → Buf (Elt Ideal) ℓ) (c : Dev nD) (t : Fin cfg0.N)

/-- The arguments. -/
abbrev argH : Vec Ideal S4096x512 .bf16 := m ((c : Thread nD τ).loc main_arg0)
abbrev argD : Vec Ideal S4096x1024 .bf16 := m ((c : Thread nD τ).loc main_arg1)

theorem place : ∀ t : Fin cfg0.N,
    win0_0.index t = ![t.val, 0]
    ∧ win0_1.index t = ![t.val, 0]
    ∧ win0_2.index t = ![0, 0] := by
  show ∀ t : Fin grid0.N, _
  decide +kernel

/-- The row of the arrays that one of a point's blocks is. -/
def rowOf (r : Fin 2048) : Fin 4096 := ⟨t.val * 2048 + r.val, by have := lt_of_lt_of_eq t.isLt N_0; omega⟩

theorem h_read (r : Fin 2048) (l : Fin 512) : (iblk m c 0 t : Vec Ideal S2048x512 .bf16) (ix2 r l) = argH m c (ix2 (rowOf t r) l) := by
  blk_ext [iblk, V, place t, rowOf]

theorem d_read (r : Fin 2048) (k : Fin 1024) : (iblk m c 1 t : Vec Ideal S2048x1024 .bf16) (ix2 r k) = argD m c (ix2 (rowOf t r) k) := by
  blk_ext [iblk, V, place t, rowOf]

theorem emb_2 (l : Fin 512) (k : Fin 1024) : (win0_2.blk t).view.emb (ix2 l k) = ix2 l k := by
  blk_ext [place t]

/-- A point's part of the sum over the rows. -/
def part (l : Fin 512) (k : Fin 1024) : EReal := ∑ r, argH m c (ix2 (rowOf t r) l) * argD m c (ix2 (rowOf t r) k)

theorem step_point (a : Vec Ideal S512x1024 .f32) (l : Fin 512) (k : Fin 1024) :
    k0_pay2 a (iblk m c 0 t) (iblk m c 1 t) (ix2 l k) = a (ix2 l k) + part m c t l k := by
  refine (pay2_apply _ _ _ l k).trans ?_
  simp only [h_read, d_read]
  rfl

/-- The first point leaves its part, -/
theorem first (h : t.val % 2 = 0) (l : Fin 512) (k : Fin 1024) : (outsAt0 m c t.val t.isLt).2 (ix2 l k) = part m c t l k := by
  rw [outsAt0_A m c t h (by omega)]
  frame_out
  exact (step_point m c t _ l k).trans (by rw [pay1_apply, zero_add])

/-- the second stores the sum. -/
theorem last (h : t.val % 2 = 1) (l : Fin 512) (k : Fin 1024) :
    (outsAt0 m c t.val t.isLt).1 (ix2 l k) = Plain.dw (argH m c) (argD m c) (ix2 l k) := by
  have N := lt_of_lt_of_eq t.isLt N_0
  have f := first m c ⟨t.val - 1, lt_of_le_of_lt (Nat.sub_le _ _) t.isLt⟩ (by dsimp only; omega) l k
  rw [outsAt0_B m c t (by omega) h]
  frame_out
  refine (pay3_apply _ l k).trans ((step_point m c t _ l k).trans ((congrArg (· + part m c t l k) ((congrFun (Memref.IsWhole.read_unread _ _) _).trans f)).trans ?_))
  rw [Plain.dw_apply, Norm.sum_two 2048 2048 rfl]
  refine congrArg₂ _ (Finset.sum_congr rfl fun r _ => ?_) (Finset.sum_congr rfl fun r _ => ?_)
  all_goals
    refine congrArg (fun i => argH m c (ix2 i l) * argD m c (ix2 i k)) (Fin.ext ?_)
    simp only [rowOf]
    omega

theorem arr_dw : (dats m 0 c).arrAt 2 cfg0.N = Plain.dw (argH m c) (argD m c) := by
  refine (dats m 0 c).arrAt_eq_of_covers 2 _ (by decide +kernel) fun t hf y => ?_
  blk_simp
  rw [after0_2]
  change S512x1024.Idx at y
  idx_vars y
  rw [emb_2]
  exact last m c t (flush0_2 t |>.1 hf) y0 y1

end Cert.MixDw

end
-- ==== Proof.ODw.lean ====
/-
  The gradient of the output weight: the transposed merged rows times the gradient after the weight.
-/
module

public import proofs.«01_k».proof.Proof.Norm
public import proofs.«01_k».proof.Proof.Gen.Kernel29Ideal.Value
public import proofs.«01_k».proof.Proof.Gen.Reference29Ideal.Run

@[expose] public section

set_option maxRecDepth 16384

noncomputable section

namespace Cert.ODw.Plain

open Idealize.ShloMosaic Idealize.ShloMosaic.TcCoe Idealize.SL Idealize.SL.Sem Cert.Reference29Ideal Cert.Reference29Ideal.Gen

/-- The weight's gradient. -/
def dw {F : FTy → Type} [FloatOps F] (h : Vec F S4096x1024 .bf16) (d : Vec F S4096x1024 .bf16) : Vec F S1024x1024 .bf16 :=
  truncf .bf16 (transpose S1024x1024 [1, 0] (Host.dotGeneral dot_S4096x1024_S4096x1024_S1024x1024_0_0_1_1_n_n none (extf .f32 d bitsLt_bf16_f32)
    (extf .f32 h bitsLt_bf16_f32)) transposes_S1024x1024_S1024x1024_1_0) bitsLt_bf16_f32

theorem dw_apply (h : Vec Ideal S4096x1024 .bf16) (d : Vec Ideal S4096x1024 .bf16) (l : Fin 1024) (k : Fin 1024) :
    dw h d (ix2 l k) = ∑ R, h (ix2 R l) * d (ix2 R k) := by
  simp only [mul_comm (h _)]
  pointwise [dw]

end Cert.ODw.Plain

namespace Cert.ODw

open Idealize.ShloMosaic Idealize.ShloMosaic.TcCoe Idealize.SL Idealize.SL.Sem Cert.Kernel29Ideal Cert.Kernel29Ideal.Gen

theorem pay1_apply (l : Fin 1024) (k : Fin 1024) : (k0_pay1 : FVec Ideal S1024x1024 .f32) (ix2 l k) = 0 := by
  pointwise [k0_pay1]

theorem pay2_apply (a : Vec Ideal S1024x1024 .f32) (h : Vec Ideal S2048x1024 .bf16) (d : Vec Ideal S2048x1024 .bf16) (l : Fin 1024) (k : Fin 1024) :
    k0_pay2 a h d (ix2 l k) = a (ix2 l k) + ∑ r, h (ix2 r l) * d (ix2 r k) := by
  pointwise [k0_pay2]

theorem pay3_apply (a : Vec Ideal S1024x1024 .f32) (l : Fin 1024) (k : Fin 1024) : k0_pay3 a (ix2 l k) = a (ix2 l k) := by
  pointwise [k0_pay3]

variable (m : (ℓ : Loc nD τ sig) → Buf (Elt Ideal) ℓ) (c : Dev nD) (t : Fin cfg0.N)

/-- The arguments. -/
abbrev argH : Vec Ideal S4096x1024 .bf16 := m ((c : Thread nD τ).loc main_arg0)
abbrev argD : Vec Ideal S4096x1024 .bf16 := m ((c : Thread nD τ).loc main_arg1)

theorem place : ∀ t : Fin cfg0.N,
    win0_0.index t = ![t.val, 0]
    ∧ win0_1.index t = ![t.val, 0]
    ∧ win0_2.index t = ![0, 0] := by
  show ∀ t : Fin grid0.N, _
  decide +kernel

/-- The row of the arrays that one of a point's blocks is. -/
def rowOf (r : Fin 2048) : Fin 4096 := ⟨t.val * 2048 + r.val, by have := lt_of_lt_of_eq t.isLt N_0; omega⟩

theorem h_read (r : Fin 2048) (l : Fin 1024) : (iblk m c 0 t : Vec Ideal S2048x1024 .bf16) (ix2 r l) = argH m c (ix2 (rowOf t r) l) := by
  blk_ext [iblk, V, place t, rowOf]

theorem d_read (r : Fin 2048) (k : Fin 1024) : (iblk m c 1 t : Vec Ideal S2048x1024 .bf16) (ix2 r k) = argD m c (ix2 (rowOf t r) k) := by
  blk_ext [iblk, V, place t, rowOf]

theorem emb_2 (l : Fin 1024) (k : Fin 1024) : (win0_2.blk t).view.emb (ix2 l k) = ix2 l k := by
  blk_ext [place t]

/-- A point's part of the sum over the rows. -/
def part (l : Fin 1024) (k : Fin 1024) : EReal := ∑ r, argH m c (ix2 (rowOf t r) l) * argD m c (ix2 (rowOf t r) k)

theorem step_point (a : Vec Ideal S1024x1024 .f32) (l : Fin 1024) (k : Fin 1024) :
    k0_pay2 a (iblk m c 0 t) (iblk m c 1 t) (ix2 l k) = a (ix2 l k) + part m c t l k := by
  refine (pay2_apply _ _ _ l k).trans ?_
  simp only [h_read, d_read]
  rfl

/-- The first point leaves its part, -/
theorem first (h : t.val % 2 = 0) (l : Fin 1024) (k : Fin 1024) : (outsAt0 m c t.val t.isLt).2 (ix2 l k) = part m c t l k := by
  rw [outsAt0_A m c t h (by omega)]
  frame_out
  exact (step_point m c t _ l k).trans (by rw [pay1_apply, zero_add])

/-- the second stores the sum. -/
theorem last (h : t.val % 2 = 1) (l : Fin 1024) (k : Fin 1024) :
    (outsAt0 m c t.val t.isLt).1 (ix2 l k) = Plain.dw (argH m c) (argD m c) (ix2 l k) := by
  have N := lt_of_lt_of_eq t.isLt N_0
  have f := first m c ⟨t.val - 1, lt_of_le_of_lt (Nat.sub_le _ _) t.isLt⟩ (by dsimp only; omega) l k
  rw [outsAt0_B m c t (by omega) h]
  frame_out
  refine (pay3_apply _ l k).trans ((step_point m c t _ l k).trans ((congrArg (· + part m c t l k) ((congrFun (Memref.IsWhole.read_unread _ _) _).trans f)).trans ?_))
  rw [Plain.dw_apply, Norm.sum_two 2048 2048 rfl]
  refine congrArg₂ _ (Finset.sum_congr rfl fun r _ => ?_) (Finset.sum_congr rfl fun r _ => ?_)
  all_goals
    refine congrArg (fun i => argH m c (ix2 i l) * argD m c (ix2 i k)) (Fin.ext ?_)
    simp only [rowOf]
    omega

theorem arr_dw : (dats m 0 c).arrAt 2 cfg0.N = Plain.dw (argH m c) (argD m c) := by
  refine (dats m 0 c).arrAt_eq_of_covers 2 _ (by decide +kernel) fun t hf y => ?_
  blk_simp
  rw [after0_2]
  change S1024x1024.Idx at y
  idx_vars y
  rw [emb_2]
  exact last m c t (flush0_2 t |>.1 hf) y0 y1

end Cert.ODw

end
-- ==== Proof.ProjQkv.lean ====
/-
  The projections of the normed rows to queries, keys and values.
-/
module

public import proofs.«01_k».proof.Proof.Norm
public import proofs.«01_k».proof.Proof.Gen.Kernel30Ideal.Value
public import proofs.«01_k».proof.Proof.Gen.Reference30Ideal.Run

@[expose] public section

set_option maxRecDepth 16384

noncomputable section

namespace Cert.ProjQkv.Plain

open Idealize.ShloMosaic Idealize.ShloMosaic.TcCoe Idealize.SL Idealize.SL.Sem Cert.Reference30Ideal Cert.Reference30Ideal.Gen

/-- The product. -/
def prod {F : FTy → Type} [FloatOps F] (a : Vec F S4096x1024 .bf16) (w : Vec F S1024x6920 .f32) : Vec F S4096x1536 .bf16 :=
  truncf .bf16 (Host.dotGeneral dot_S4096x1024_S1024x1536_S4096x1536_1_0_0_1_n_n none (extf .f32 a bitsLt_bf16_f32) (extractStridedSlice S1024x1536 ![0, 0] w slices_S1024x6920_S1024x1536_0_0)) bitsLt_bf16_f32

theorem prod_apply (a : Vec Ideal S4096x1024 .bf16) (w : Vec Ideal S1024x6920 .f32) (R : Fin 4096) (l : Fin 1536) :
    prod a w (ix2 R l) = ∑ x, a (ix2 R x) * w (ix2 x ⟨l.val, by omega⟩) := by
  pointwise [prod]

end Cert.ProjQkv.Plain

namespace Cert.ProjQkv

open Idealize.ShloMosaic Idealize.ShloMosaic.TcCoe Idealize.SL Idealize.SL.Sem Cert.Kernel30Ideal Cert.Kernel30Ideal.Gen

/-- The weight as the call takes it. -/
def wt (w : FVec Ideal S1024x6920 .f32) : FVec Ideal S1536x1024 .bf16 :=
  extractStridedSlice S1536x1024 ![0, 0] (truncf .bf16 (transpose S6920x1024 [1, 0] w transposes_S1024x6920_S6920x1024_1_0) bitsLt_bf16_f32)
    slices_S6920x1024_S1536x1024_0_0

theorem wt_apply (w : FVec Ideal S1024x6920 .f32) (l : Fin 1536) (x : Fin 1024) : wt w (ix2 l x) = w (ix2 x ⟨l.val, by omega⟩) := by
  pointwise [wt]

theorem pay1_apply (a : Vec Ideal S1024x1024 .bf16) (w : Vec Ideal S1536x1024 .bf16) (r : Fin 1024) (l : Fin 1536) :
    k0_pay1 a w (ix2 r l) = ∑ x, a (ix2 r x) * w (ix2 l x) := by
  pointwise [k0_pay1]

variable (m : (ℓ : Loc nD τ sig) → Buf (Elt Ideal) ℓ) (c : Dev nD) (t : Fin cfg0.N)

/-- The arguments. -/
abbrev argA : Vec Ideal S4096x1024 .bf16 := m ((c : Thread nD τ).loc main_arg0)
abbrev argW : Vec Ideal S1024x6920 .f32 := m ((c : Thread nD τ).loc main_arg1)

theorem w_at : V m c main_v9 = wt (argW m c) := by
  unfold V
  after_reads_simp
  rfl

theorem place : ∀ t : Fin cfg0.N,
    win0_0.index t = ![t.val, 0]
    ∧ win0_1.index t = ![0, 0]
    ∧ win0_2.index t = ![t.val, 0] := by
  show ∀ t : Fin grid0.N, _
  decide +kernel

/-- The row of the arrays that a row of a point's block is. -/
def rowOf (r : Fin 1024) : Fin 4096 := ⟨t.val * 1024 + r.val, by have := lt_of_lt_of_eq t.isLt N_0; omega⟩

theorem a_read (r : Fin 1024) (x : Fin 1024) : (iblk m c 0 t : Vec Ideal S1024x1024 .bf16) (ix2 r x) = argA m c (ix2 (rowOf t r) x) := by
  blk_ext [iblk, V, place t, rowOf]

theorem w_read (l : Fin 1536) (x : Fin 1024) : (iblk m c 1 t : Vec Ideal S1536x1024 .bf16) (ix2 l x) = argW m c (ix2 x ⟨l.val, by omega⟩) := by
  rw [← wt_apply (argW m c) l x, ← w_at]
  blk_ext [iblk, place t]

theorem emb_2 (r : Fin 1024) (l : Fin 1536) : (win0_2.blk t).view.emb (ix2 r l) = ix2 (rowOf t r) l := by
  blk_ext [place t, rowOf]

theorem arr_prod : (dats m 0 c).arrAt 2 cfg0.N = Plain.prod (argA m c) (argW m c) := by
  refine (dats m 0 c).arrAt_eq_of_covers 2 _ (by decide +kernel) fun t hf y => ?_
  blk_simp
  rw [after0_2]
  change S1024x1536.Idx at y
  idx_vars y
  rw [emb_2]
  have e : out0_2 (iblk m c 0 t) (iblk m c 1 t) = k0_pay1 (iblk m c 0 t) (iblk m c 1 t) := by
    frame_out
  rw [e]
  refine (pay1_apply _ _ y0 y1).trans ?_
  rw [Plain.prod_apply]
  simp only [a_read, w_read]

end Cert.ProjQkv

end
-- ==== Proof.ProjMem.lean ====
/-
  The projection of the normed rows to the memory attention's queries.
-/
module

public import proofs.«01_k».proof.Proof.Norm
public import proofs.«01_k».proof.Proof.Gen.Kernel31Ideal.Value
public import proofs.«01_k».proof.Proof.Gen.Reference31Ideal.Run

@[expose] public section

set_option maxRecDepth 16384

noncomputable section

namespace Cert.ProjMem.Plain

open Idealize.ShloMosaic Idealize.ShloMosaic.TcCoe Idealize.SL Idealize.SL.Sem Cert.Reference31Ideal Cert.Reference31Ideal.Gen

/-- The product. -/
def prod {F : FTy → Type} [FloatOps F] (a : Vec F S4096x1024 .bf16) (w : Vec F S1024x6920 .f32) : Vec F S4096x512 .bf16 :=
  truncf .bf16 (Host.dotGeneral dot_S4096x1024_S1024x512_S4096x512_1_0_0_1_n_n none (extf .f32 a bitsLt_bf16_f32) (extractStridedSlice S1024x512 ![0, 3336] w slices_S1024x6920_S1024x512_0_3336)) bitsLt_bf16_f32

theorem prod_apply (a : Vec Ideal S4096x1024 .bf16) (w : Vec Ideal S1024x6920 .f32) (R : Fin 4096) (l : Fin 512) :
    prod a w (ix2 R l) = ∑ x, a (ix2 R x) * w (ix2 x ⟨3336 + l.val, by omega⟩) := by
  pointwise [prod]

end Cert.ProjMem.Plain

namespace Cert.ProjMem

open Idealize.ShloMosaic Idealize.ShloMosaic.TcCoe Idealize.SL Idealize.SL.Sem Cert.Kernel31Ideal Cert.Kernel31Ideal.Gen

/-- The weight as the call takes it. -/
def wt (w : FVec Ideal S1024x6920 .f32) : FVec Ideal S512x1024 .bf16 :=
  extractStridedSlice S512x1024 ![3336, 0] (truncf .bf16 (transpose S6920x1024 [1, 0] w transposes_S1024x6920_S6920x1024_1_0) bitsLt_bf16_f32)
    slices_S6920x1024_S512x1024_3336_0

theorem wt_apply (w : FVec Ideal S1024x6920 .f32) (l : Fin 512) (x : Fin 1024) : wt w (ix2 l x) = w (ix2 x ⟨3336 + l.val, by omega⟩) := by
  pointwise [wt]

theorem pay1_apply (a : Vec Ideal S1024x1024 .bf16) (w : Vec Ideal S512x1024 .bf16) (r : Fin 1024) (l : Fin 512) :
    k0_pay1 a w (ix2 r l) = ∑ x, a (ix2 r x) * w (ix2 l x) := by
  pointwise [k0_pay1]

variable (m : (ℓ : Loc nD τ sig) → Buf (Elt Ideal) ℓ) (c : Dev nD) (t : Fin cfg0.N)

/-- The arguments. -/
abbrev argA : Vec Ideal S4096x1024 .bf16 := m ((c : Thread nD τ).loc main_arg0)
abbrev argW : Vec Ideal S1024x6920 .f32 := m ((c : Thread nD τ).loc main_arg1)

theorem w_at : V m c main_v13 = wt (argW m c) := by
  unfold V
  after_reads_simp
  rfl

theorem place : ∀ t : Fin cfg0.N,
    win0_0.index t = ![t.val, 0]
    ∧ win0_1.index t = ![0, 0]
    ∧ win0_2.index t = ![t.val, 0] := by
  show ∀ t : Fin grid0.N, _
  decide +kernel

/-- The row of the arrays that a row of a point's block is. -/
def rowOf (r : Fin 1024) : Fin 4096 := ⟨t.val * 1024 + r.val, by have := lt_of_lt_of_eq t.isLt N_0; omega⟩

theorem a_read (r : Fin 1024) (x : Fin 1024) : (iblk m c 0 t : Vec Ideal S1024x1024 .bf16) (ix2 r x) = argA m c (ix2 (rowOf t r) x) := by
  blk_ext [iblk, V, place t, rowOf]

theorem w_read (l : Fin 512) (x : Fin 1024) : (iblk m c 1 t : Vec Ideal S512x1024 .bf16) (ix2 l x) = argW m c (ix2 x ⟨3336 + l.val, by omega⟩) := by
  rw [← wt_apply (argW m c) l x, ← w_at]
  blk_ext [iblk, place t]

theorem emb_2 (r : Fin 1024) (l : Fin 512) : (win0_2.blk t).view.emb (ix2 r l) = ix2 (rowOf t r) l := by
  blk_ext [place t, rowOf]

theorem arr_prod : (dats m 0 c).arrAt 2 cfg0.N = Plain.prod (argA m c) (argW m c) := by
  refine (dats m 0 c).arrAt_eq_of_covers 2 _ (by decide +kernel) fun t hf y => ?_
  blk_simp
  rw [after0_2]
  change S1024x512.Idx at y
  idx_vars y
  rw [emb_2]
  have e : out0_2 (iblk m c 0 t) (iblk m c 1 t) = k0_pay1 (iblk m c 0 t) (iblk m c 1 t) := by
    frame_out
  rw [e]
  refine (pay1_apply _ _ y0 y1).trans ?_
  rw [Plain.prod_apply]
  simp only [a_read, w_read]

end Cert.ProjMem

end
-- ==== Proof.MixOut.lean ====
/-
  The product of a mixer's result with its output weight.
-/
module

public import proofs.«01_k».proof.Proof.Norm
public import proofs.«01_k».proof.Proof.Gen.Kernel32Ideal.Value
public import proofs.«01_k».proof.Proof.Gen.Reference32Ideal.Run

@[expose] public section

set_option maxRecDepth 16384

noncomputable section

namespace Cert.MixOut.Plain

open Idealize.ShloMosaic Idealize.ShloMosaic.TcCoe Idealize.SL Idealize.SL.Sem Cert.Reference32Ideal Cert.Reference32Ideal.Gen

/-- The product. -/
def prod {F : FTy → Type} [FloatOps F] (a : Vec F S4096x512 .bf16) (w : Vec F S512x1024 .f32) : Vec F S4096x1024 .bf16 :=
  truncf .bf16 (Host.dotGeneral dot_S4096x512_S512x1024_S4096x1024_1_0_0_1_n_n none (extf .f32 a bitsLt_bf16_f32) w) bitsLt_bf16_f32

theorem prod_apply (a : Vec Ideal S4096x512 .bf16) (w : Vec Ideal S512x1024 .f32) (R : Fin 4096) (l : Fin 1024) :
    prod a w (ix2 R l) = ∑ x, a (ix2 R x) * w (ix2 x l) := by
  pointwise [prod]

end Cert.MixOut.Plain

namespace Cert.MixOut

open Idealize.ShloMosaic Idealize.ShloMosaic.TcCoe Idealize.SL Idealize.SL.Sem Cert.Kernel32Ideal Cert.Kernel32Ideal.Gen

/-- The weight as the call takes it. -/
def wt (w : FVec Ideal S512x1024 .f32) : FVec Ideal S512x1024 .bf16 :=
  truncf .bf16 w bitsLt_bf16_f32

theorem wt_apply (w : FVec Ideal S512x1024 .f32) (l : Fin 1024) (x : Fin 512) : wt w (ix2 x l) = w (ix2 x l) := by
  pointwise [wt]

theorem pay1_apply (a : Vec Ideal S1024x512 .bf16) (w : Vec Ideal S512x1024 .bf16) (r : Fin 1024) (l : Fin 1024) :
    k0_pay1 a w (ix2 r l) = ∑ x, a (ix2 r x) * w (ix2 x l) := by
  pointwise [k0_pay1]

variable (m : (ℓ : Loc nD τ sig) → Buf (Elt Ideal) ℓ) (c : Dev nD) (t : Fin cfg0.N)

/-- The arguments. -/
abbrev argA : Vec Ideal S4096x512 .bf16 := m ((c : Thread nD τ).loc main_arg0)
abbrev argW : Vec Ideal S512x1024 .f32 := m ((c : Thread nD τ).loc main_arg1)

theorem w_at : V m c main_v0 = wt (argW m c) := by
  unfold V
  after_reads_simp
  rfl

theorem place : ∀ t : Fin cfg0.N,
    win0_0.index t = ![t.val, 0]
    ∧ win0_1.index t = ![0, 0]
    ∧ win0_2.index t = ![t.val, 0] := by
  show ∀ t : Fin grid0.N, _
  decide +kernel

/-- The row of the arrays that a row of a point's block is. -/
def rowOf (r : Fin 1024) : Fin 4096 := ⟨t.val * 1024 + r.val, by have := lt_of_lt_of_eq t.isLt N_0; omega⟩

theorem a_read (r : Fin 1024) (x : Fin 512) : (iblk m c 0 t : Vec Ideal S1024x512 .bf16) (ix2 r x) = argA m c (ix2 (rowOf t r) x) := by
  blk_ext [iblk, V, place t, rowOf]

theorem w_read (l : Fin 1024) (x : Fin 512) : (iblk m c 1 t : Vec Ideal S512x1024 .bf16) (ix2 x l) = argW m c (ix2 x l) := by
  rw [← wt_apply (argW m c) l x, ← w_at]
  blk_ext [iblk, place t]

theorem emb_2 (r : Fin 1024) (l : Fin 1024) : (win0_2.blk t).view.emb (ix2 r l) = ix2 (rowOf t r) l := by
  blk_ext [place t, rowOf]

theorem arr_prod : (dats m 0 c).arrAt 2 cfg0.N = Plain.prod (argA m c) (argW m c) := by
  refine (dats m 0 c).arrAt_eq_of_covers 2 _ (by decide +kernel) fun t hf y => ?_
  blk_simp
  rw [after0_2]
  change S1024x1024.Idx at y
  idx_vars y
  rw [emb_2]
  have e : out0_2 (iblk m c 0 t) (iblk m c 1 t) = k0_pay1 (iblk m c 0 t) (iblk m c 1 t) := by
    frame_out
  rw [e]
  refine (pay1_apply _ _ y0 y1).trans ?_
  rw [Plain.prod_apply]
  simp only [a_read, w_read]

end Cert.MixOut

end
-- ==== Proof.MixBack.lean ====
/-
  The gradient at a mixer's result: the gradient after its output weight times the weight turned.
-/
module

public import proofs.«01_k».proof.Proof.Norm
public import proofs.«01_k».proof.Proof.Gen.Kernel33Ideal.Value
public import proofs.«01_k».proof.Proof.Gen.Reference33Ideal.Run

@[expose] public section

set_option maxRecDepth 16384

noncomputable section

namespace Cert.MixBack.Plain

open Idealize.ShloMosaic Idealize.ShloMosaic.TcCoe Idealize.SL Idealize.SL.Sem Cert.Reference33Ideal Cert.Reference33Ideal.Gen

/-- The product. -/
def prod {F : FTy → Type} [FloatOps F] (a : Vec F S4096x1024 .bf16) (w : Vec F S512x1024 .f32) : Vec F S4096x512 .f32 :=
  Host.dotGeneral dot_S4096x1024_S512x1024_S4096x512_1_1_0_0_n_n none (extf .f32 a bitsLt_bf16_f32) w

theorem prod_apply (a : Vec Ideal S4096x1024 .bf16) (w : Vec Ideal S512x1024 .f32) (R : Fin 4096) (l : Fin 512) :
    prod a w (ix2 R l) = ∑ x, a (ix2 R x) * w (ix2 l x) := by
  pointwise [prod]

end Cert.MixBack.Plain

namespace Cert.MixBack

open Idealize.ShloMosaic Idealize.ShloMosaic.TcCoe Idealize.SL Idealize.SL.Sem Cert.Kernel33Ideal Cert.Kernel33Ideal.Gen

/-- The weight as the call takes it. -/
def wt (w : FVec Ideal S512x1024 .f32) : FVec Ideal S512x1024 .bf16 :=
  truncf .bf16 w bitsLt_bf16_f32

theorem wt_apply (w : FVec Ideal S512x1024 .f32) (l : Fin 512) (x : Fin 1024) : wt w (ix2 l x) = w (ix2 l x) := by
  pointwise [wt]

theorem pay1_apply (a : Vec Ideal S1024x1024 .bf16) (w : Vec Ideal S512x1024 .bf16) (r : Fin 1024) (l : Fin 512) :
    k0_pay1 a w (ix2 r l) = ∑ x, a (ix2 r x) * w (ix2 l x) := by
  pointwise [k0_pay1]

variable (m : (ℓ : Loc nD τ sig) → Buf (Elt Ideal) ℓ) (c : Dev nD) (t : Fin cfg0.N)

/-- The arguments. -/
abbrev argA : Vec Ideal S4096x1024 .bf16 := m ((c : Thread nD τ).loc main_arg0)
abbrev argW : Vec Ideal S512x1024 .f32 := m ((c : Thread nD τ).loc main_arg1)

theorem w_at : V m c main_v0 = wt (argW m c) := by
  unfold V
  after_reads_simp
  rfl

theorem place : ∀ t : Fin cfg0.N,
    win0_0.index t = ![t.val, 0]
    ∧ win0_1.index t = ![0, 0]
    ∧ win0_2.index t = ![t.val, 0] := by
  show ∀ t : Fin grid0.N, _
  decide +kernel

/-- The row of the arrays that a row of a point's block is. -/
def rowOf (r : Fin 1024) : Fin 4096 := ⟨t.val * 1024 + r.val, by have := lt_of_lt_of_eq t.isLt N_0; omega⟩

theorem a_read (r : Fin 1024) (x : Fin 1024) : (iblk m c 0 t : Vec Ideal S1024x1024 .bf16) (ix2 r x) = argA m c (ix2 (rowOf t r) x) := by
  blk_ext [iblk, V, place t, rowOf]

theorem w_read (l : Fin 512) (x : Fin 1024) : (iblk m c 1 t : Vec Ideal S512x1024 .bf16) (ix2 l x) = argW m c (ix2 l x) := by
  rw [← wt_apply (argW m c) l x, ← w_at]
  blk_ext [iblk, place t]

theorem emb_2 (r : Fin 1024) (l : Fin 512) : (win0_2.blk t).view.emb (ix2 r l) = ix2 (rowOf t r) l := by
  blk_ext [place t, rowOf]

theorem arr_prod : (dats m 0 c).arrAt 2 cfg0.N = Plain.prod (argA m c) (argW m c) := by
  refine (dats m 0 c).arrAt_eq_of_covers 2 _ (by decide +kernel) fun t hf y => ?_
  blk_simp
  rw [after0_2]
  change S1024x512.Idx at y
  idx_vars y
  rw [emb_2]
  have e : out0_2 (iblk m c 0 t) (iblk m c 1 t) = k0_pay1 (iblk m c 0 t) (iblk m c 1 t) := by
    frame_out
  rw [e]
  refine (pay1_apply _ _ y0 y1).trans ?_
  rw [Plain.prod_apply]
  simp only [a_read, w_read]

end Cert.MixBack

end
-- ==== Proof.OutO.lean ====
/-
  The mixers' gated sum and the output projection after it.
-/
module

public import proofs.«01_k».proof.Proof.Norm
public import proofs.«01_k».proof.Proof.Gen.Kernel34Ideal.Value
public import proofs.«01_k».proof.Proof.Gen.Reference34Ideal.Run
public import proofs.«01_k».proof.Proof.DownPlain

@[expose] public section

set_option maxRecDepth 16384

noncomputable section

namespace Cert.OutO.Plain

open Idealize.ShloMosaic Idealize.ShloMosaic.TcCoe Idealize.SL Idealize.SL.Sem Cert.DownPlain Cert.Reference34Ideal Cert.Reference34Ideal.Gen

section Generic

variable {F : FTy → Type} [FloatOps F]
variable (a b e : Vec F S4096x1024 .bf16) (g : Vec F S4096x3072 .bf16) (w : Vec F S1024x1024 .f32)

def ones : Vec F S4096x3072 .f32 := broadcastInDim S4096x3072 ![] bcast_S_S4096x3072 (constant S_ .f32 0x3F800000#32)

/-- The logistic function of the three gates. -/
def sigs : Vec F S4096x3072 .f32 := Host.divf ones (addf ones (Host.exp (Host.negf (extf .f32 g bitsLt_bf16_f32))))

/-- The gated sum. -/
def mid : Vec F S4096x1024 .f32 :=
  addf (addf (mulf (extractStridedSlice S4096x1024 ![0, 0] (sigs g) slices_S4096x3072_S4096x1024_0_0) (extf .f32 a bitsLt_bf16_f32))
    (mulf (extractStridedSlice S4096x1024 ![0, 1024] (sigs g) slices_S4096x3072_S4096x1024_0_1024) (extf .f32 b bitsLt_bf16_f32)))
    (mulf (extractStridedSlice S4096x1024 ![0, 2048] (sigs g) slices_S4096x3072_S4096x1024_0_2048) (extf .f32 e bitsLt_bf16_f32))

def kept : Vec F S4096x1024 .bf16 := truncf .bf16 (mid a b e g) bitsLt_bf16_f32

/-- The output projection of it. -/
def res : Vec F S4096x1024 .f32 := Host.dotGeneral dot_S4096x1024_S1024x1024_S4096x1024_1_0_0_1_n_n none (mid a b e g) w

end Generic

/-- The columns of the three gates. -/
def col0 (k : Fin 1024) : Fin 3072 := ⟨k.val, by omega⟩
def col1 (k : Fin 1024) : Fin 3072 := ⟨1024 + k.val, by omega⟩
def col2 (k : Fin 1024) : Fin 3072 := ⟨2048 + k.val, by omega⟩

variable (a b e : Vec Ideal S4096x1024 .bf16) (g : Vec Ideal S4096x3072 .bf16) (w : Vec Ideal S1024x1024 .f32)
variable (R : Fin 4096) (k x : Fin 1024)

/-- An element of the gated sum. -/
def sum3 (p q r u v w : EReal) : EReal := sgm u * p + sgm v * q + sgm w * r

theorem mid_apply : mid a b e g (ix2 R k)
    = sum3 (a (ix2 R k)) (b (ix2 R k)) (e (ix2 R k)) (g (ix2 R (col0 k))) (g (ix2 R (col1 k))) (g (ix2 R (col2 k))) := by
  pointwise [mid, sigs, ones]
  rfl

theorem res_apply : res a b e g w (ix2 R x) = ∑ k, mid a b e g (ix2 R k) * w (ix2 k x) := by
  pointwise [res]

end Cert.OutO.Plain

namespace Cert.OutO

open Idealize.ShloMosaic Idealize.ShloMosaic.TcCoe Idealize.SL Idealize.SL.Sem Cert.DownPlain Cert.Kernel34Ideal Cert.Kernel34Ideal.Gen

section Block

variable (a b e f g h : Vec Ideal S512x1024 .bf16) (w : Vec Ideal S1024x1024 .bf16) (r : Fin 512) (k x : Fin 1024)

theorem pay3_apply : k0_pay3 a b f g (ix2 r k) = sgm (f (ix2 r k)) * a (ix2 r k) + sgm (g (ix2 r k)) * b (ix2 r k) := by
  pointwise [k0_pay3]
  rw [zero_sub, zero_sub]
  rfl

theorem pay4_apply : k0_pay4 e h (ix2 r k) = sgm (h (ix2 r k)) * e (ix2 r k) := by
  pointwise [k0_pay4]
  rw [zero_sub]
  rfl

theorem pay1_apply (p q : FVec Ideal S512x1024 .f32) : k0_pay1 p q (ix2 r k) = p (ix2 r k) + q (ix2 r k) := by
  pointwise [k0_pay1]

theorem pay2_apply (p q : FVec Ideal S512x1024 .f32) : k0_pay2 p q w (ix2 r x) = ∑ k, k0_pay1 p q (ix2 r k) * w (ix2 k x) := by
  pointwise [k0_pay2]

/-- The columns of a block of gates that a point reads. -/
def gates0 (x : Vec Ideal S512x3072 .bf16) : Vec Ideal S512x1024 .bf16 := View.ld x r0_1
def gates1 (x : Vec Ideal S512x3072 .bf16) : Vec Ideal S512x1024 .bf16 := View.ld x r0_2
def gates2 (x : Vec Ideal S512x3072 .bf16) : Vec Ideal S512x1024 .bf16 := View.ld x r0_3

theorem at0 : (r0_1.emb (ix2 r k) : S512x3072.Idx) = ix2 r (Plain.col0 k) :=
  funext fun a => Fin.ext (match a with
    | 0 => (by show 0 + 1 * r.val = r.val; omega)
    | 1 => (by show 0 + 1 * k.val = k.val; omega))

theorem at1 : (r0_2.emb (ix2 r k) : S512x3072.Idx) = ix2 r (Plain.col1 k) :=
  funext fun a => Fin.ext (match a with
    | 0 => (by show 0 + 1 * r.val = r.val; omega)
    | 1 => (by show 1024 + 1 * k.val = 1024 + k.val; omega))

theorem at2 : (r0_3.emb (ix2 r k) : S512x3072.Idx) = ix2 r (Plain.col2 k) :=
  funext fun a => Fin.ext (match a with
    | 0 => (by show 0 + 1 * r.val = r.val; omega)
    | 1 => (by show 2048 + 1 * k.val = 2048 + k.val; omega))

theorem whole : View.ld a r0_0 = a := View.ld_unit_zero (funext fun a => by fin_cases a <;> rfl) _ a

/-- The gated sum of a point's blocks. -/
theorem sum_apply (x : Vec Ideal S512x3072 .bf16) : k0_pay1 (k0_pay5 a b e x w) (k0_pay6 a b e x w) (ix2 r k)
    = Plain.sum3 (a (ix2 r k)) (b (ix2 r k)) (e (ix2 r k)) (x (ix2 r (Plain.col0 k))) (x (ix2 r (Plain.col1 k))) (x (ix2 r (Plain.col2 k))) := by
  have e5 : k0_pay5 a b e x w = k0_pay3 a b (gates0 x) (gates1 x) := congrArg₂ (fun p q => k0_pay3 p q (gates0 x) (gates1 x)) (whole a) (whole b)
  have e6 : k0_pay6 a b e x w = k0_pay4 e (gates2 x) := congrArg (fun p => k0_pay4 p (gates2 x)) (whole e)
  rw [pay1_apply, e5, e6, pay3_apply, pay4_apply]
  refine congrArg₂ (· + ·) (congrArg₂ (· + ·) ?_ ?_) ?_
  · exact congrArg (fun i => sgm (x i) * a (ix2 r k)) (at0 r k)
  · exact congrArg (fun i => sgm (x i) * b (ix2 r k)) (at1 r k)
  · exact congrArg (fun i => sgm (x i) * e (ix2 r k)) (at2 r k)

end Block

variable (m : (ℓ : Loc nD τ sig) → Buf (Elt Ideal) ℓ) (c : Dev nD) (t : Fin cfg0.N)

/-- The arguments. -/
abbrev argA : Vec Ideal S4096x1024 .bf16 := m ((c : Thread nD τ).loc main_arg0)
abbrev argB : Vec Ideal S4096x1024 .bf16 := m ((c : Thread nD τ).loc main_arg1)
abbrev argC : Vec Ideal S4096x1024 .bf16 := m ((c : Thread nD τ).loc main_arg2)
abbrev argP : Vec Ideal S4096x3072 .bf16 := m ((c : Thread nD τ).loc main_arg3)
abbrev argW : Vec Ideal S1024x1024 .f32 := m ((c : Thread nD τ).loc main_arg4)

theorem w_at : (V m c main_v0 : Vec Ideal S1024x1024 .bf16) = argW m c := by
  unfold V
  after_reads_simp
  rfl

theorem place : ∀ t : Fin cfg0.N,
    win0_0.index t = ![t.val, 0]
    ∧ win0_1.index t = ![t.val, 0]
    ∧ win0_2.index t = ![t.val, 0]
    ∧ win0_3.index t = ![t.val, 0]
    ∧ win0_4.index t = ![0, 0]
    ∧ win0_5.index t = ![t.val, 0]
    ∧ win0_6.index t = ![t.val, 0] := by
  show ∀ t : Fin grid0.N, _
  decide +kernel

/-- The row of the arrays that a row of a point's block is. -/
def rowOf (r : Fin 512) : Fin 4096 := ⟨t.val * 512 + r.val, by have := lt_of_lt_of_eq t.isLt N_0; omega⟩

section Reads

variable (r : Fin 512) (k x : Fin 1024)

theorem a_read : (iblk m c 0 t : Vec Ideal S512x1024 .bf16) (ix2 r k) = argA m c (ix2 (rowOf t r) k) := by
  blk_ext [iblk, V, place t, rowOf]

theorem b_read : (iblk m c 1 t : Vec Ideal S512x1024 .bf16) (ix2 r k) = argB m c (ix2 (rowOf t r) k) := by
  blk_ext [iblk, V, place t, rowOf]

theorem e_read : (iblk m c 2 t : Vec Ideal S512x1024 .bf16) (ix2 r k) = argC m c (ix2 (rowOf t r) k) := by
  blk_ext [iblk, V, place t, rowOf]

theorem g_read (l : Fin 3072) : (iblk m c 3 t : Vec Ideal S512x3072 .bf16) (ix2 r l) = argP m c (ix2 (rowOf t r) l) := by
  blk_ext [iblk, V, place t, rowOf]

theorem w_read : (iblk m c 4 t : Vec Ideal S1024x1024 .bf16) (ix2 k x) = argW m c (ix2 k x) := by
  rw [← w_at]
  blk_ext [iblk, place t]

theorem emb_5 : (win0_5.blk t).view.emb (ix2 r x) = ix2 (rowOf t r) x := by
  blk_ext [place t, rowOf]

theorem emb_6 : (win0_6.blk t).view.emb (ix2 r x) = ix2 (rowOf t r) x := by
  blk_ext [place t, rowOf]

/-- The gated sum that a point makes is the reference's, at the point's rows. -/
theorem sum_read : k0_pay1 (k0_pay5 (iblk m c 0 t) (iblk m c 1 t) (iblk m c 2 t) (iblk m c 3 t) (iblk m c 4 t))
      (k0_pay6 (iblk m c 0 t) (iblk m c 1 t) (iblk m c 2 t) (iblk m c 3 t) (iblk m c 4 t)) (ix2 r k)
    = Plain.mid (argA m c) (argB m c) (argC m c) (argP m c) (ix2 (rowOf t r) k) := by
  refine (sum_apply _ _ _ _ r k _).trans ?_
  rw [Plain.mid_apply, a_read, b_read, e_read, g_read, g_read, g_read]

end Reads

theorem arr_res : (dats m 0 c).arrAt 5 cfg0.N = Plain.res (argA m c) (argB m c) (argC m c) (argP m c) (argW m c) := by
  refine (dats m 0 c).arrAt_eq_of_covers 5 _ (by decide +kernel) fun t hf y => ?_
  blk_simp
  rw [after0_5]
  change S512x1024.Idx at y
  idx_vars y
  rw [emb_5]
  have e : out0_5 (iblk m c 0 t) (iblk m c 1 t) (iblk m c 2 t) (iblk m c 3 t) (iblk m c 4 t)
      = k0_pay2 (k0_pay5 (iblk m c 0 t) (iblk m c 1 t) (iblk m c 2 t) (iblk m c 3 t) (iblk m c 4 t))
        (k0_pay6 (iblk m c 0 t) (iblk m c 1 t) (iblk m c 2 t) (iblk m c 3 t) (iblk m c 4 t)) (iblk m c 4 t) := by
    frame_out
  rw [e]
  refine (pay2_apply _ y0 y1 _ _).trans ?_
  rw [Plain.res_apply]
  simp only [sum_read, w_read]

theorem arr_kept : (dats m 0 c).arrAt 6 cfg0.N = Plain.kept (argA m c) (argB m c) (argC m c) (argP m c) := by
  refine (dats m 0 c).arrAt_eq_of_covers 6 _ (by decide +kernel) fun t hf y => ?_
  blk_simp
  rw [after0_6]
  change S512x1024.Idx at y
  idx_vars y
  rw [emb_6]
  have e : out0_6 (iblk m c 0 t) (iblk m c 1 t) (iblk m c 2 t) (iblk m c 3 t) (iblk m c 4 t)
      = k0_pay1 (k0_pay5 (iblk m c 0 t) (iblk m c 1 t) (iblk m c 2 t) (iblk m c 3 t) (iblk m c 4 t))
        (k0_pay6 (iblk m c 0 t) (iblk m c 1 t) (iblk m c 2 t) (iblk m c 3 t) (iblk m c 4 t)) := by
    frame_out
  rw [e]
  exact sum_read m c t y0 y1

end Cert.OutO

end
-- ==== Proof.ProjRwkv.lean ====
/-
  The projection to the recurrence's arguments, with its padding.
-/
module

public import proofs.«01_k».proof.Proof.Dx
public import proofs.«01_k».proof.Proof.Gen.Kernel35Ideal.Value
public import proofs.«01_k».proof.Proof.Gen.Reference35Ideal.Run

@[expose] public section

set_option maxRecDepth 16384

noncomputable section

namespace Cert.ProjRwkv.Plain

open Idealize.ShloMosaic Idealize.ShloMosaic.TcCoe Idealize.SL Idealize.SL.Sem Cert.Reference35Ideal Cert.Reference35Ideal.Gen

section Generic

variable {F : FTy → Type} [FloatOps F] (a : Vec F S4096x1024 .bf16) (w : Vec F S1024x6920 .f32)

/-- The product, without padding. -/
def tight : Vec F S4096x1792 .f32 :=
  Host.dotGeneral dot_S4096x1024_S1024x1792_S4096x1792_1_0_0_1_n_n none (extf .f32 a bitsLt_bf16_f32)
    (extractStridedSlice S1024x1792 ![0, 1544] w slices_S1024x6920_S1024x1792_0_1544)

/-- Zeros. -/
def zeros : Vec F S4096x64 .f32 := broadcastInDim S4096x64 ![] bcast_S_S4096x64 (constant S_ .f32 0x00000000#32)

/-- Rows of the product with zeros between their pieces. -/
def padded (p : Vec F S4096x1792 .f32) : Vec F S4096x1920 .f32 :=
  concatenate S4096x1920 1 [⟨S4096x1600, extractStridedSlice S4096x1600 ![0, 0] p slices_S4096x1792_S4096x1600_0_0⟩, ⟨S4096x64, zeros⟩,
    ⟨S4096x64, extractStridedSlice S4096x64 ![0, 1600] p slices_S4096x1792_S4096x64_0_1600⟩, ⟨S4096x64, zeros⟩,
    ⟨S4096x128, extractStridedSlice S4096x128 ![0, 1664] p slices_S4096x1792_S4096x128_0_1664⟩]
    concatenates_S4096x1600_S4096x64_S4096x64_S4096x64_S4096x128_S4096x1920_d1

/-- The padded product. -/
def prod : Vec F S4096x1920 .bf16 := truncf .bf16 (padded (tight a w)) bitsLt_bf16_f32

end Generic

variable (a : Vec Ideal S4096x1024 .bf16) (w : Vec Ideal S1024x6920 .f32) (R : Fin 4096)

theorem tight_apply (l : Fin 1792) : tight a w (ix2 R l) = ∑ x, a (ix2 R x) * w (ix2 x ⟨1544 + l.val, by omega⟩) := by
  pointwise [tight]

variable (p : Vec Ideal S4096x1792 .f32)

theorem padded_0 (l : Fin 1600) : padded p (ix2 R ⟨l.val, by omega⟩) = p (ix2 R ⟨l.val, by omega⟩) := by
  pointwise [padded]

theorem padded_1 (l : Fin 64) : padded p (ix2 R ⟨1600 + l.val, by omega⟩) = 0 := by
  pointwise [padded, zeros]

theorem padded_2 (l : Fin 64) : padded p (ix2 R ⟨1664 + l.val, by omega⟩) = p (ix2 R ⟨1600 + l.val, by omega⟩) := by
  pointwise [padded]
  rw [dif_neg (by omega), dif_neg (by omega), dif_pos (by omega)]
  exact congrArg (fun i => p (ix2 R i)) (Fin.ext (by dsimp only; omega))

theorem padded_3 (l : Fin 64) : padded p (ix2 R ⟨1728 + l.val, by omega⟩) = 0 := by
  pointwise [padded, zeros]
  rw [dif_neg (by omega), dif_neg (by omega), dif_neg (by omega), dif_pos (by omega)]

theorem padded_4 (l : Fin 128) : padded p (ix2 R ⟨1792 + l.val, by omega⟩) = p (ix2 R ⟨1664 + l.val, by omega⟩) := by
  pointwise [padded]
  rw [dif_neg (by omega), dif_neg (by omega), dif_neg (by omega), dif_neg (by omega)]
  exact congrArg (fun i => p (ix2 R i)) (Fin.ext (by dsimp only; omega))

/-- What holds on a stretch of positions, position by position of the stretch. -/
theorem stretch {N : ℕ} {P : Fin N → Prop} (b n : ℕ) (h : b + n ≤ N) (hP : ∀ k : Fin n, P ⟨b + k.val, by omega⟩) (l : Fin N)
    (h0 : b ≤ l.val) (h1 : l.val < b + n) : P l := by
  have e : (⟨b + (l.val - b), by omega⟩ : Fin N) = l := Fin.ext (by dsimp only; omega)
  exact e ▸ hP ⟨l.val - b, by omega⟩

theorem col (i : Fin 1792) (j : Fin 6920) (h : 1544 + i.val = j.val) : tight a w (ix2 R i) = ∑ x, a (ix2 R x) * w (ix2 x j) :=
  (tight_apply a w R i).trans (Finset.sum_congr rfl fun x _ => congrArg (fun j => a (ix2 R x) * w (ix2 x j)) (Fin.ext h))

/-- Each element of the padded product is a sum along the row of the padded weight. -/
theorem prod_apply (l : Fin 1920) : prod a w (ix2 R l) = ∑ x, a (ix2 R x) * Dx.wr w (ix2 l x) := by
  show padded (tight a w) (ix2 R l) = _
  have zero (f : Fin 1024 → EReal) (h : ∀ x, f x = 0) : (0 : EReal) = ∑ x, a (ix2 R x) * f x := by
    simp only [h, mul_zero, Finset.sum_const_zero]
  let P (l : Fin 1920) : Prop := padded (tight a w) (ix2 R l) = ∑ x, a (ix2 R x) * Dx.wr w (ix2 l x)
  have p0 : ∀ k : Fin 1536, P ⟨k.val, by omega⟩ := fun k => by
    refine ((padded_0 R (tight a w) ⟨k.val, by omega⟩).trans (col a w R _ ⟨1544 + k.val, by omega⟩ rfl)).trans ?_
    exact Finset.sum_congr rfl fun x _ => congrArg (a (ix2 R x) * ·) (Dx.wr_rkv w x k).symm
  have p1 : ∀ k : Fin 64, P ⟨1536 + k.val, by omega⟩ := fun k => by
    refine ((padded_0 R (tight a w) ⟨1536 + k.val, by omega⟩).trans (col a w R _ ⟨3080 + k.val, by omega⟩ (by dsimp only; omega))).trans ?_
    exact Finset.sum_congr rfl fun x _ => congrArg (a (ix2 R x) * ·) (Dx.wr_decay w x k).symm
  have p2 : ∀ k : Fin 64, P ⟨1600 + k.val, by omega⟩ := fun k =>
    (padded_1 R (tight a w) k).trans (zero _ fun x => Dx.wr_out1 w x k)
  have p3 : ∀ k : Fin 64, P ⟨1664 + k.val, by omega⟩ := fun k => by
    refine ((padded_2 R (tight a w) k).trans (col a w R _ ⟨3144 + k.val, by omega⟩ (by dsimp only; omega))).trans ?_
    exact Finset.sum_congr rfl fun x _ => congrArg (a (ix2 R x) * ·) (Dx.wr_rate w x k).symm
  have p4 : ∀ k : Fin 64, P ⟨1728 + k.val, by omega⟩ := fun k =>
    (padded_3 R (tight a w) k).trans (zero _ fun x => Dx.wr_out2 w x k)
  have p5 : ∀ k : Fin 128, P ⟨1792 + k.val, by omega⟩ := fun k => by
    refine ((padded_4 R (tight a w) k).trans (col a w R _ ⟨3208 + k.val, by omega⟩ (by dsimp only; omega))).trans ?_
    exact Finset.sum_congr rfl fun x _ => congrArg (a (ix2 R x) * ·) (Dx.wr_gate w x k).symm
  rcases lt_or_ge l.val 1536 with h0 | h0
  · exact p0 ⟨l.val, h0⟩
  rcases lt_or_ge l.val 1600 with h1 | h1
  · exact stretch 1536 64 (by decide) p1 l h0 h1
  rcases lt_or_ge l.val 1664 with h2 | h2
  · exact stretch 1600 64 (by decide) p2 l h1 h2
  rcases lt_or_ge l.val 1728 with h3 | h3
  · exact stretch 1664 64 (by decide) p3 l h2 h3
  rcases lt_or_ge l.val 1792 with h4 | h4
  · exact stretch 1728 64 (by decide) p4 l h3 h4
  · exact stretch 1792 128 (by decide) p5 l h4 l.isLt

end Cert.ProjRwkv.Plain

namespace Cert.ProjRwkv

open Idealize.ShloMosaic Idealize.ShloMosaic.TcCoe Idealize.SL Idealize.SL.Sem Cert.Kernel35Ideal Cert.Kernel35Ideal.Gen

theorem pay1_apply (a : Vec Ideal S1024x1024 .bf16) (w : Vec Ideal S1920x1024 .bf16) (r : Fin 1024) (l : Fin 1920) :
    k0_pay1 a w (ix2 r l) = ∑ x, a (ix2 r x) * w (ix2 l x) := by
  pointwise [k0_pay1]

variable (m : (ℓ : Loc nD τ sig) → Buf (Elt Ideal) ℓ) (c : Dev nD) (t : Fin cfg0.N)

/-- The arguments. -/
abbrev argA : Vec Ideal S4096x1024 .bf16 := m ((c : Thread nD τ).loc main_arg0)
abbrev argW : Vec Ideal S1024x6920 .f32 := m ((c : Thread nD τ).loc main_arg1)

theorem w_at : V m c main_v8 = Dx.wr (argW m c) := by
  unfold V
  after_reads_simp
  show Dx.joined (StableHlo.upto hostOps0 (fun b => m (c, b)) 10 (Proc.tc.devRef main_v2)) (StableHlo.upto hostOps0 (fun b => m (c, b)) 10 (Proc.tc.devRef main_v3)) (StableHlo.upto hostOps0 (fun b => m (c, b)) 10 (Proc.tc.devRef main_v4)) (StableHlo.upto hostOps0 (fun b => m (c, b)) 10 (Proc.tc.devRef main_v5)) (StableHlo.upto hostOps0 (fun b => m (c, b)) 10 (Proc.tc.devRef main_v6)) (StableHlo.upto hostOps0 (fun b => m (c, b)) 10 (Proc.tc.devRef main_v7)) = _
  after_reads_simp
  rfl

theorem place : ∀ t : Fin cfg0.N,
    win0_0.index t = ![t.val, 0]
    ∧ win0_1.index t = ![0, 0]
    ∧ win0_2.index t = ![t.val, 0] := by
  show ∀ t : Fin grid0.N, _
  decide +kernel

/-- The row of the arrays that a row of a point's block is. -/
def rowOf (r : Fin 1024) : Fin 4096 := ⟨t.val * 1024 + r.val, by have := lt_of_lt_of_eq t.isLt N_0; omega⟩

theorem a_read (r : Fin 1024) (x : Fin 1024) : (iblk m c 0 t : Vec Ideal S1024x1024 .bf16) (ix2 r x) = argA m c (ix2 (rowOf t r) x) := by
  blk_ext [iblk, V, place t, rowOf]

theorem w_read (l : Fin 1920) (x : Fin 1024) : (iblk m c 1 t : Vec Ideal S1920x1024 .bf16) (ix2 l x) = Dx.wr (argW m c) (ix2 l x) := by
  rw [← w_at]
  blk_ext [iblk, place t]

theorem emb_2 (r : Fin 1024) (l : Fin 1920) : (win0_2.blk t).view.emb (ix2 r l) = ix2 (rowOf t r) l := by
  blk_ext [place t, rowOf]

theorem arr_prod : (dats m 0 c).arrAt 2 cfg0.N = Plain.prod (argA m c) (argW m c) := by
  refine (dats m 0 c).arrAt_eq_of_covers 2 _ (by decide +kernel) fun t hf y => ?_
  blk_simp
  rw [after0_2]
  change S1024x1920.Idx at y
  idx_vars y
  rw [emb_2]
  have e : out0_2 (iblk m c 0 t) (iblk m c 1 t) = k0_pay1 (iblk m c 0 t) (iblk m c 1 t) := by
    frame_out
  rw [e]
  refine (pay1_apply _ _ y0 y1).trans ?_
  rw [Plain.prod_apply]
  simp only [a_read, w_read]

end Cert.ProjRwkv

end
-- ==== Proof.Final.lean ====
/-
  The end of the forward pass: the loss, and the gradients that the backward pass starts from.
-/
module

public import proofs.«01_k».proof.Proof.Norm
public import proofs.«01_k».proof.Proof.Gen.Kernel36Ideal.Value
public import proofs.«01_k».proof.Proof.Gen.Reference36Ideal.Run

@[expose] public section

set_option maxRecDepth 16384

noncomputable section

namespace Cert.Final.Plain

open Idealize.ShloMosaic Idealize.ShloMosaic.TcCoe Idealize.SL Idealize.SL.Sem Cert.Reference36Ideal Cert.Reference36Ideal.Gen

section Generic

variable {F : FTy → Type} [FloatOps F]

/-- The mean of each row's squares, plus the norm's small constant. -/
def spreads (x : Vec F S4096x1024 .f32) : Vec F S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- A gain in every row. -/
def everyRow (n : Vec F S1x1024 .f32) : Vec F S4096x1024 .f32 := broadcastInDim S4096x1024 ![0, 1] bcast_S1x1024_S4096x1024_0_1 n

/-- A row's number in every column. -/
def everyCol (a : Vec F S4096x1 .f32) : Vec F S4096x1024 .f32 := broadcastInDim S4096x1024 ![0, 1] bcast_S4096x1_S4096x1024_0_1 a

/-- What the mean's derivative puts before each element of a row. -/
def pulls (x u : Vec F S4096x1024 .f32) (n : Vec F S1x1024 .f32) : Vec F S4096x1024 .f32 :=
  broadcastInDim S4096x1024 ![0] bcast_S4096_S4096x1024_0 (Host.reduceAdd (Host.divf (mulf (shapeCast _ (Host.reduceAdd (mulf x (mulf u (everyRow n))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (spreads x)) (spreads x)))) (broadcastInDim S4096x1 ![] bcast_S_S4096x1 (constant S_ .f32 0x44800000#32))) (constant S_ .f32 0x00000000#32) reducesTo_S4096x1_S4096_d1 h_S_)

/-- The error: the last residual step's result less the target. -/
def err (z y h : Vec F S4096x1024 .f32) (p : Vec F S1x1024 .f32) : Vec F S4096x1024 .f32 :=
  subf (addf h (mulf (mulf y (everyCol (Host.rsqrt (spreads y)))) (everyRow p))) z

/-- Its gradient. -/
def derr (z y h : Vec F S4096x1024 .f32) (p : Vec F S1x1024 .f32) : Vec F S4096x1024 .f32 :=
  mulf (broadcastInDim S4096x1024 ![0] bcast_S4096_S4096x1024_0 (Host.divf (broadcastInDim S4096 ![] bcast_S_S4096
    (mulf (constant S_ .f32 0x3F000000#32) (constant S_ .f32 0x3F800000#32))) (broadcastInDim S4096 ![] bcast_S_S4096 (constant S_ .f32 0x44800000#32))))
    (mulf (broadcastInDim S4096x1024 ![] bcast_S_S4096x1024 (constant S_ .f32 0x40000000#32)) (err z y h p))

/-- The gradient of the norm's argument, `v` being that of its result. -/
def back (v y : Vec F S4096x1024 .f32) (p : Vec F S1x1024 .f32) : Vec F S4096x1024 .bf16 :=
  truncf .bf16 (addf (addf (mulf (mulf v (everyRow p)) (everyCol (Host.rsqrt (spreads y)))) (mulf y (pulls y v p))) (mulf (pulls y v p) y)) bitsLt_bf16_f32

/-- The gradient of a gain. -/
def gain (v y : Vec F S4096x1024 .f32) : Vec F S1x1024 .f32 :=
  shapeCast _ (Host.reduceAdd (mulf (mulf y (everyCol (Host.rsqrt (spreads y)))) v) (constant S_ .f32 0x00000000#32) reducesTo_S4096x1024_S1024_d0 h_S_) shapeCasts_S1024_S1x1024

/-- The gradient of the feed-forward layer's result. -/
def dffn (z y h : Vec F S4096x1024 .f32) (p : Vec F S1x1024 .f32) : Vec F S4096x1024 .bf16 := back (derr z y h p) y p

/-- The gradient of the last norm's gain. -/
def dgain (z y h : Vec F S4096x1024 .f32) (p : Vec F S1x1024 .f32) : Vec F S1x1024 .f32 := gain (derr z y h p) y

/-- The loss: half the sum of the rows' mean squared errors. -/
def loss (z y h : Vec F S4096x1024 .f32) (p : Vec F S1x1024 .f32) : Vec F S1x1 .f32 :=
  shapeCast _ (mulf (constant S_ .f32 0x3F000000#32) (Host.reduceAdd (Host.divf (Host.reduceAdd (mulf (err z y h p) (err z y h p))
    (constant S_ .f32 0x00000000#32) reducesTo_S4096x1024_S4096_d1 h_S_) (broadcastInDim S4096 ![] bcast_S_S4096 (constant S_ .f32 0x44800000#32)))
    (constant S_ .f32 0x00000000#32) reducesTo_S4096_S_d0 h_S_)) shapeCasts_S_S1x1

end Generic

variable (z y h : Vec Ideal S4096x1024 .f32) (p : Vec Ideal S1x1024 .f32) (R : Fin 4096) (d : Fin 1024)

theorem err_apply : err z y h p (ix2 R d)
    = h (ix2 R d) + y (ix2 R d) * Ideal.rsqrt (Norm.spread (fun k => y (ix2 R k))) * p (ix2 0 d) - z (ix2 R d) := by
  pointwise [err, everyCol, everyRow, spreads]
  rfl

theorem derr_apply : derr z y h p (ix2 R d)
    = Ideal.div (Ideal.ofBits FTy.f32 0x3F000000#32 * Ideal.ofBits FTy.f32 0x3F800000#32) (Ideal.ofBits FTy.f32 0x44800000#32)
      * (Ideal.ofBits FTy.f32 0x40000000#32 * err z y h p (ix2 R d)) := by
  pointwise [derr]

theorem dffn_apply : dffn z y h p (ix2 R d)
    = Norm.row (fun k => y (ix2 R k)) (fun k => derr z y h p (ix2 R k)) (fun k => p (ix2 0 k)) d := by
  pointwise [dffn, back, pulls, everyCol, everyRow, spreads]
  rfl

theorem dgain_apply : dgain z y h p (ix2 0 d) = ∑ R : Fin 4096, Norm.gain (fun k => y (ix2 R k)) (fun k => derr z y h p (ix2 R k)) d := by
  pointwise [dgain, gain, everyCol, spreads]
  rfl

/-- A row's mean squared error. -/
def meanSq (e : Fin 1024 → EReal) : EReal := Ideal.div (∑ k, e k * e k) (Ideal.ofBits FTy.f32 0x44800000#32)

theorem loss_apply : loss z y h p (ix2 0 0) = Ideal.ofBits FTy.f32 0x3F000000#32 * ∑ R : Fin 4096, meanSq (fun k => err z y h p (ix2 R k)) := by
  pointwise [loss]
  rfl

end Cert.Final.Plain

namespace Cert.Final

open Idealize.ShloMosaic Idealize.ShloMosaic.TcCoe Idealize.SL Idealize.SL.Sem Cert.Kernel36Ideal Cert.Kernel36Ideal.Gen

/-! ### The constants -/

theorem half_eq : Ideal.ofBits FTy.f32 0x3F000000#32 = ((1 / 2 : ℝ) : EReal) := by
  simp [Ideal.ofBits, Ideal.ieee, -EReal.coe_mul]; norm_num

theorem one_eq : Ideal.ofBits FTy.f32 0x3F800000#32 = 1 := by
  simp [Ideal.ofBits, Ideal.ieee, -EReal.coe_mul]; norm_num

theorem two_eq : Ideal.ofBits FTy.f32 0x40000000#32 = 1 + 1 := by
  rw [show (1 + 1 : EReal) = ((2 : ℝ) : EReal) by rw [← EReal.coe_one, ← EReal.coe_add]; norm_num]
  simp [Ideal.ofBits, Ideal.ieee, -EReal.coe_mul]; norm_num

theorem width_eq : Ideal.ofBits FTy.f32 0x44800000#32 = ((1024 : ℝ) : EReal) := by
  simp [Ideal.ofBits, Ideal.ieee, -EReal.coe_mul]; norm_num

/-- Half of one over the width. -/
def share : EReal :=
  Ideal.div (Ideal.ofBits FTy.f32 0x3F000000#32 * Ideal.ofBits FTy.f32 0x3F800000#32) (Ideal.ofBits FTy.f32 0x44800000#32)

theorem share_eq : share = ((1 / 2048 : ℝ) : EReal) := by
  unfold share
  rw [half_eq, one_eq, width_eq, mul_one]
  unfold Ideal.div
  rw [if_neg (EReal.coe_ne_zero.mpr (by norm_num)), ← EReal.coe_inv, ← EReal.coe_mul]
  norm_num

/-- Twice by adding, and twice by the constant. -/
theorem twice (e : EReal) : e * share + share * e = share * (Ideal.ofBits FTy.f32 0x40000000#32 * e) := by
  have h0 : (0 : EReal) ≤ share := by rw [share_eq]; exact EReal.coe_nonneg.mpr (by norm_num)
  have ht : share ≠ ⊤ := by rw [share_eq]; exact EReal.coe_ne_top _
  rw [two_eq, EReal.right_distrib_of_nonneg zero_le_one zero_le_one, one_mul, EReal.left_distrib_of_nonneg_of_ne_top h0 ht, mul_comm e]

/-- Half of a sum. -/
theorem half_sum {n : ℕ} (f : Fin n → EReal) :
    Ideal.ofBits FTy.f32 0x3F000000#32 * ∑ i, f i = ∑ i, Ideal.ofBits FTy.f32 0x3F000000#32 * f i := by
  have h0 : (0 : EReal) ≤ Ideal.ofBits FTy.f32 0x3F000000#32 := by rw [half_eq]; exact EReal.coe_nonneg.mpr (by norm_num)
  have ht : Ideal.ofBits FTy.f32 0x3F000000#32 ≠ ⊤ := by rw [half_eq]; exact EReal.coe_ne_top _
  induction n with
  | zero => simp
  | succ n ih => rw [Fin.sum_univ_castSucc, Fin.sum_univ_castSucc, EReal.left_distrib_of_nonneg_of_ne_top h0 ht, ih]

section Point

variable (z y h : Vec Ideal S512x1024 .f32) (p : Vec Ideal S1x1024 .f32) (r : Fin 512) (d : Fin 1024)

theorem pay6_apply : k0_pay6 z y h p (ix2 r d)
    = h (ix2 r d) + y (ix2 r d) * Ideal.rsqrt (Norm.spread (fun k => y (ix2 r k))) * p (ix2 0 d) - z (ix2 r d) := by
  pointwise [k0_pay6, k0_pay5, k0_pay3, k0_pay2]
  rfl

theorem pay7_apply : k0_pay7 z y h p (ix2 0 0)
    = Ideal.ofBits FTy.f32 0x3F000000#32 * ∑ r : Fin 512, Plain.meanSq (fun k => k0_pay6 z y h p (ix2 r k)) := by
  pointwise [k0_pay7]
  rfl

theorem pay8_apply : (k0_pay8 : FVec Ideal S512x1 .f32) (ix2 r 0)
    = Ideal.ofBits FTy.f32 0x3F000000#32 * Ideal.ofBits FTy.f32 0x3F800000#32 := by
  pointwise [k0_pay8]
  simp

theorem pay9_apply (e : FVec Ideal S512x1024 .f32) : k0_pay9 e k0_pay8 (ix2 r d) = share * (Ideal.ofBits FTy.f32 0x40000000#32 * e (ix2 r d)) := by
  rw [← twice]
  pointwise [k0_pay9]
  have h : ∑ x, Ideal.div ((k0_pay8 : FVec Ideal S512x1 .f32) (ix2 r x)) (Ideal.ofBits FTy.f32 0x44800000#32) = share :=
    (Fin.sum_univ_one _).trans (congrArg (Ideal.div · _) (pay8_apply r))
  rw [h]

theorem pay10_apply (e : FVec Ideal S512x1024 .f32) : k0_pay10 y p (k0_pay3 y) (k0_pay4 y) e k0_pay8 (ix2 r d)
    = Norm.row (fun k => y (ix2 r k)) (fun k => k0_pay9 e k0_pay8 (ix2 r k)) (fun k => p (ix2 0 k)) d := by
  pointwise [k0_pay10, k0_pay4, k0_pay3, k0_pay2]
  rfl

theorem pay11_apply : (k0_pay11 : FVec Ideal S1x1024 .f32) (ix2 0 d) = 0 := by
  pointwise [k0_pay11]

theorem pay12_apply (i : Fin 1) : (k0_pay12 : FVec Ideal S1x1 .f32) (ix2 0 i) = 0 := by
  pointwise [k0_pay12]

theorem pay13_apply (e : FVec Ideal S512x1024 .f32) (a : Vec Ideal S1x1024 .f32) : k0_pay13 (k0_pay5 y) e k0_pay8 a (ix2 0 d)
    = a (ix2 0 d) + ∑ r : Fin 512, Norm.gain (fun k => y (ix2 r k)) (fun k => k0_pay9 e k0_pay8 (ix2 r k)) d := by
  pointwise [k0_pay13, k0_pay5, k0_pay3, k0_pay2]
  rfl

theorem pay1_apply (v : FVec Ideal S1x1 .f32) (a : Vec Ideal S1x1 .f32) (i : Fin 1) : k0_pay1 v a (ix2 0 i) = a (ix2 0 i) + v (ix2 0 i) := by
  pointwise [k0_pay1]

end Point

variable (m : (ℓ : Loc nD τ sig) → Buf (Elt Ideal) ℓ) (c : Dev nD) (t : Fin cfg0.N)

/-- The arguments. -/
abbrev argZ : Vec Ideal S4096x1024 .f32 := m ((c : Thread nD τ).loc main_arg0)
abbrev argY : Vec Ideal S4096x1024 .f32 := m ((c : Thread nD τ).loc main_arg1)
abbrev argH : Vec Ideal S4096x1024 .f32 := m ((c : Thread nD τ).loc main_arg2)
abbrev argP : Vec Ideal S1x1024 .f32 := m ((c : Thread nD τ).loc main_arg3)

theorem place : ∀ t : Fin cfg0.N,
    win0_0.index t = ![t.val, 0] ∧ win0_1.index t = ![t.val, 0] ∧ win0_2.index t = ![t.val, 0] ∧ win0_3.index t = ![0, 0]
    ∧ win0_4.index t = ![t.val, 0] ∧ win0_5.index t = ![t.val, 0] ∧ win0_6.index t = ![0, 0] ∧ win0_7.index t = ![0, 0] := by
  show ∀ t : Fin grid0.N, _
  decide +kernel

/-- The row of the arrays that a row of a point's block is. -/
def rowOf (r : Fin 512) : Fin 4096 := ⟨t.val * 512 + r.val, by have := lt_of_lt_of_eq t.isLt N_0; omega⟩

section Reads

variable (r : Fin 512) (d : Fin 1024)

theorem z_read : (iblk m c 0 t : Vec Ideal S512x1024 .f32) (ix2 r d) = argZ m c (ix2 (rowOf t r) d) := by
  blk_ext [iblk, V, place t, rowOf]

theorem y_read : (iblk m c 1 t : Vec Ideal S512x1024 .f32) (ix2 r d) = argY m c (ix2 (rowOf t r) d) := by
  blk_ext [iblk, V, place t, rowOf]

theorem h_read : (iblk m c 2 t : Vec Ideal S512x1024 .f32) (ix2 r d) = argH m c (ix2 (rowOf t r) d) := by
  blk_ext [iblk, V, place t, rowOf]

theorem p_read : (iblk m c 3 t : Vec Ideal S1x1024 .f32) (ix2 0 d) = argP m c (ix2 0 d) := by
  blk_ext [iblk, V, place t]

theorem emb_4 : (win0_4.blk t).view.emb (ix2 r d) = ix2 (rowOf t r) d := by
  blk_ext [place t, rowOf]

theorem emb_5 : (win0_5.blk t).view.emb (ix2 r d) = ix2 (rowOf t r) d := by
  blk_ext [place t, rowOf]

theorem emb_6 : (win0_6.blk t).view.emb (ix2 0 d) = ix2 0 d := by
  blk_ext [place t]

theorem emb_7 : (win0_7.blk t).view.emb (ix2 0 0) = ix2 0 0 := by
  blk_ext [place t]

end Reads

/-! ### One point -/

/-- A point's errors. -/
def errBlk : Vec Ideal S512x1024 .f32 := k0_pay6 (iblk m c 0 t) (iblk m c 1 t) (iblk m c 2 t) (iblk m c 3 t)

/-- The plain errors and their gradient, of the kernel's arguments. -/
def errAll : Vec Ideal S4096x1024 .f32 := Plain.err (argZ m c) (argY m c) (argH m c) (argP m c)
def derrAll : Vec Ideal S4096x1024 .f32 := Plain.derr (argZ m c) (argY m c) (argH m c) (argP m c)

theorem err_read (r : Fin 512) (d : Fin 1024) : errBlk m c t (ix2 r d) = errAll m c (ix2 (rowOf t r) d) := by
  unfold errAll
  rw [Plain.err_apply]
  refine (pay6_apply _ _ _ _ r d).trans ?_
  simp only [z_read, y_read, h_read, p_read]

theorem derr_read (r : Fin 512) (d : Fin 1024) : (k0_pay9 (errBlk m c t) k0_pay8 : FVec Ideal S512x1024 .f32) (ix2 r d) = derrAll m c (ix2 (rowOf t r) d) := by
  refine (pay9_apply r d _).trans ?_
  rw [err_read]
  exact (Plain.derr_apply _ _ _ _ _ d).symm

/-- A point's parts of the gain's gradient and of the loss. -/
def gainPart (d : Fin 1024) : EReal :=
  ∑ r : Fin 512, Norm.gain (fun k => argY m c (ix2 (rowOf t r) k)) (fun k => derrAll m c (ix2 (rowOf t r) k)) d
def lossPart (_i : Fin 1) : EReal :=
  Ideal.ofBits FTy.f32 0x3F000000#32 * ∑ r : Fin 512, Plain.meanSq (fun k => errAll m c (ix2 (rowOf t r) k))

theorem gain_point (a : Vec Ideal S1x1024 .f32) (d : Fin 1024) :
    k0_pay13 (k0_pay5 (iblk m c 1 t)) (errBlk m c t) k0_pay8 a (ix2 0 d) = a (ix2 0 d) + gainPart m c t d := by
  refine (pay13_apply _ d _ a).trans ?_
  simp only [derr_read, y_read]
  rfl

theorem loss_point (a : Vec Ideal S1x1 .f32) (i : Fin 1) :
    k0_pay1 (k0_pay7 (iblk m c 0 t) (iblk m c 1 t) (iblk m c 2 t) (iblk m c 3 t)) a (ix2 0 i) = a (ix2 0 i) + lossPart m c t i := by
  refine (pay1_apply _ a i).trans (congrArg _ ?_)
  obtain rfl : i = 0 := Subsingleton.elim _ _
  refine (pay7_apply _ _ _ _).trans ?_
  have e : ∀ r k, k0_pay6 (iblk m c 0 t) (iblk m c 1 t) (iblk m c 2 t) (iblk m c 3 t) (ix2 r k) = errAll m c (ix2 (rowOf t r) k) := err_read m c t
  simp only [e]
  rfl

/-! ### The result arrays -/

theorem dffn_point (r : Fin 512) (d : Fin 1024) : (outsAt0 m c t.val t.isLt).1 (ix2 r d)
    = Plain.dffn (argZ m c) (argY m c) (argH m c) (argP m c) (ix2 (rowOf t r) d) := by
  have e : (outsAt0 m c t.val t.isLt).1 (ix2 r d)
      = k0_pay10 (iblk m c 1 t) (iblk m c 3 t) (k0_pay3 (iblk m c 1 t)) (k0_pay4 (iblk m c 1 t)) (errBlk m c t) k0_pay8 (ix2 r d) := by
    by_cases h : t.val % 8 = 0
    · rw [outsAt0_A m c t h]
      frame_out
      rfl
    · rw [outsAt0_B m c t h]
      frame_out
      rfl
  rw [e, Plain.dffn_apply]
  refine (pay10_apply _ _ r d _).trans ?_
  simp only [derr_read, y_read, p_read]
  rfl

theorem derr_point (r : Fin 512) (d : Fin 1024) : (outsAt0 m c t.val t.isLt).2.1 (ix2 r d) = derrAll m c (ix2 (rowOf t r) d) := by
  rw [← derr_read]
  by_cases h : t.val % 8 = 0
  · rw [outsAt0_A m c t h]
    frame_out
    rfl
  · rw [outsAt0_B m c t h]
    frame_out
    rfl

theorem gain_last (h : t.val + 1 = cfg0.N) (d : Fin 1024) : (outsAt0 m c t.val t.isLt).2.2.1 (ix2 0 d)
    = Plain.dgain (argZ m c) (argY m c) (argH m c) (argP m c) (ix2 0 d) := by
  rw [Pipeline.eq_sum_fin_of_reset_step_apply_last (fun n h d => (outsAt0 m c n h).2.2.1 (ix2 0 d)) 8 (fun _ => 0) (gainPart m c)
    (fun t h d => by rw [outsAt0_A m c t h]; frame_out; exact (gain_point m c t _ d).trans (by rw [pay11_apply]))
    (fun t h d => by rw [outsAt0_B m c t h]; frame_out; exact gain_point m c t _ d) (le_of_eq N_0) t h d, zero_add, Plain.dgain_apply]
  exact Fin.sum_mul_add_congr fun t r hl => rfl

theorem loss_last (h : t.val + 1 = cfg0.N) : (outsAt0 m c t.val t.isLt).2.2.2 (ix2 0 0)
    = Plain.loss (argZ m c) (argY m c) (argH m c) (argP m c) (ix2 0 0) := by
  rw [Pipeline.eq_sum_fin_of_reset_step_apply_last (fun n h i => (outsAt0 m c n h).2.2.2 (ix2 0 i)) 8 (fun _ => 0) (lossPart m c)
    (fun t h d => by rw [outsAt0_A m c t h]; frame_out; exact (loss_point m c t _ d).trans (by rw [pay12_apply]))
    (fun t h d => by rw [outsAt0_B m c t h]; frame_out; exact loss_point m c t _ d) (le_of_eq N_0) t h 0, zero_add, Plain.loss_apply]
  unfold lossPart
  rw [← half_sum]
  exact congrArg _ (Fin.sum_mul_add_congr fun t r hl => rfl)

theorem arr_dffn : (dats m 0 c).arrAt 4 cfg0.N = Plain.dffn (argZ m c) (argY m c) (argH m c) (argP m c) := by
  refine (dats m 0 c).arrAt_eq_of_covers 4 _ (by decide +kernel) fun t hf y => ?_
  blk_simp
  rw [after0_4]
  change S512x1024.Idx at y
  idx_vars y
  rw [emb_4]
  exact dffn_point m c t y0 y1

theorem arr_derr : (dats m 0 c).arrAt 5 cfg0.N = Plain.derr (argZ m c) (argY m c) (argH m c) (argP m c) := by
  refine (dats m 0 c).arrAt_eq_of_covers 5 _ (by decide +kernel) fun t hf y => ?_
  blk_simp
  rw [after0_5]
  change S512x1024.Idx at y
  idx_vars y
  rw [emb_5]
  exact derr_point m c t y0 y1

theorem arr_dgain : (dats m 0 c).arrAt 6 cfg0.N = Plain.dgain (argZ m c) (argY m c) (argH m c) (argP m c) := by
  refine (dats m 0 c).arrAt_eq_of_covers 6 _ (by decide +kernel) fun t hf y => ?_
  blk_simp
  rw [after0_6]
  change S1x1024.Idx at y
  idx_vars y
  obtain rfl : y0 = 0 := Subsingleton.elim _ _
  rw [emb_6]
  have ht := flush0_6 t |>.1 hf
  exact gain_last m c t (by have e : cfg0.N = 8 := N_0; have := lt_of_lt_of_eq t.isLt e; omega) y1

theorem arr_loss : (dats m 0 c).arrAt 7 cfg0.N = Plain.loss (argZ m c) (argY m c) (argH m c) (argP m c) := by
  refine (dats m 0 c).arrAt_eq_of_covers 7 _ (by decide +kernel) fun t hf y => ?_
  blk_simp
  rw [after0_7]
  change S1x1.Idx at y
  idx_vars y
  obtain rfl : y0 = 0 := Subsingleton.elim _ _
  obtain rfl : y1 = 0 := Subsingleton.elim _ _
  rw [emb_7]
  have ht := flush0_7 t |>.1 hf
  exact loss_last m c t (by have e : cfg0.N = 8 := N_0; have := lt_of_lt_of_eq t.isLt e; omega)

end Cert.Final

end
-- ==== Proof.MemKv.lean ====
/-
  The memory's keys and values: the norm and the product after it.
-/
module

public import proofs.«01_k».proof.Proof.Norm
public import proofs.«01_k».proof.Proof.Gen.Kernel37Ideal.Value
public import proofs.«01_k».proof.Proof.Gen.Reference37Ideal.Run

@[expose] public section

set_option maxRecDepth 16384

noncomputable section

namespace Cert.MemKv.Plain

open Idealize.ShloMosaic Idealize.ShloMosaic.TcCoe Idealize.SL Idealize.SL.Sem Cert.Reference37Ideal Cert.Reference37Ideal.Gen

section Generic

variable {F : FTy → Type} [FloatOps F] (x : Vec F S512x1024 .f32) (g : Vec F S1x1024 .f32) (w : Vec F S1024x1024 .f32)

/-- The normed rows. -/
def normed : Vec F S512x1024 .f32 :=
  mulf (mulf x (broadcastInDim S512x1024 ![0, 1] bcast_S512x1_S512x1024_0_1 (Host.rsqrt (addf (Host.divf
    (broadcastInDim S512x1 ![0] bcast_S512_S512x1_0 (Host.reduceAdd (mulf x x) (constant S_ .f32 0x00000000#32) reducesTo_S512x1024_S512_d1 h_S_))
    (broadcastInDim S512x1 ![] bcast_S_S512x1 (constant S_ .f32 0x44800000#32)))
    (broadcastInDim S512x1 ![] bcast_S_S512x1 (constant S_ .f32 0x358637BD#32))))))
    (broadcastInDim S512x1024 ![0, 1] bcast_S1x1024_S512x1024_0_1 g)

def kept : Vec F S512x1024 .bf16 := truncf .bf16 (normed x g) bitsLt_bf16_f32

/-- The product. -/
def res : Vec F S512x1024 .f32 := Host.dotGeneral dot_S512x1024_S1024x1024_S512x1024_1_0_0_1_n_n none (normed x g) w

end Generic

variable (x : Vec Ideal S512x1024 .f32) (g : Vec Ideal S1x1024 .f32) (w : Vec Ideal S1024x1024 .f32) (R : Fin 512)

theorem normed_apply (d : Fin 1024) : normed x g (ix2 R d) = x (ix2 R d) * Ideal.rsqrt (Norm.spread fun k => x (ix2 R k)) * g (ix2 0 d) := by
  pointwise [normed]
  rfl

theorem kept_apply (d : Fin 1024) : kept x g (ix2 R d) = x (ix2 R d) * Ideal.rsqrt (Norm.spread fun k => x (ix2 R k)) * g (ix2 0 d) :=
  normed_apply x g R d

theorem res_apply (k : Fin 1024) : res x g w (ix2 R k)
    = ∑ d, x (ix2 R d) * Ideal.rsqrt (Norm.spread fun k => x (ix2 R k)) * g (ix2 0 d) * w (ix2 d k) := by
  have e : res x g w (ix2 R k) = ∑ d, normed x g (ix2 R d) * w (ix2 d k) := by
    pointwise [res]
  rw [e]
  simp only [normed_apply]

end Cert.MemKv.Plain

namespace Cert.MemKv

open Idealize.ShloMosaic Idealize.ShloMosaic.TcCoe Idealize.SL Idealize.SL.Sem Cert.Kernel37Ideal Cert.Kernel37Ideal.Gen

theorem pay1_apply (x : Vec Ideal S512x1024 .f32) (g : Vec Ideal S1x1024 .f32) (r : Fin 512) (d : Fin 1024) :
    k0_pay1 x g (ix2 r d) = x (ix2 r d) * Ideal.rsqrt (Norm.spread fun k => x (ix2 r k)) * g (ix2 0 d) := by
  pointwise [k0_pay1]
  rfl

theorem pay2_apply (x : Vec Ideal S512x1024 .f32) (g : Vec Ideal S1x1024 .f32) (w : Vec Ideal S1024x1024 .bf16) (r : Fin 512) (k : Fin 1024) :
    k0_pay2 x g w (ix2 r k) = ∑ d, x (ix2 r d) * Ideal.rsqrt (Norm.spread fun k => x (ix2 r k)) * g (ix2 0 d) * w (ix2 d k) := by
  have e : k0_pay2 x g w (ix2 r k) = ∑ d, k0_pay1 x g (ix2 r d) * w (ix2 d k) := by
    pointwise [k0_pay2]
  rw [e]
  simp only [pay1_apply]

variable (m : (ℓ : Loc nD τ sig) → Buf (Elt Ideal) ℓ) (c : Dev nD) (t : Fin cfg0.N)

/-- The arguments. -/
abbrev argX : Vec Ideal S512x1024 .f32 := m ((c : Thread nD τ).loc main_arg0)
abbrev argN : Vec Ideal S1x1024 .f32 := m ((c : Thread nD τ).loc main_arg1)
abbrev argW : Vec Ideal S1024x1024 .f32 := m ((c : Thread nD τ).loc main_arg2)

theorem w_at : (V m c main_v0 : Vec Ideal S1024x1024 .bf16) = argW m c := by
  unfold V
  after_reads_simp
  rfl

theorem place : ∀ t : Fin cfg0.N,
    win0_0.index t = ![t.val, 0]
    ∧ win0_1.index t = ![0, 0]
    ∧ win0_2.index t = ![0, 0]
    ∧ win0_3.index t = ![t.val, 0]
    ∧ win0_4.index t = ![t.val, 0] := by
  show ∀ t : Fin grid0.N, _
  decide +kernel

/-- The row of the arrays that a row of a point's block is. -/
def rowOf (r : Fin 512) : Fin 512 := ⟨t.val * 512 + r.val, by have := lt_of_lt_of_eq t.isLt N_0; omega⟩

theorem x_read (r : Fin 512) (d : Fin 1024) : (iblk m c 0 t : Vec Ideal S512x1024 .f32) (ix2 r d) = argX m c (ix2 (rowOf t r) d) := by
  blk_ext [iblk, V, place t, rowOf]

theorem n_read (d : Fin 1024) : (iblk m c 1 t : Vec Ideal S1x1024 .f32) (ix2 0 d) = argN m c (ix2 0 d) := by
  blk_ext [iblk, V, place t]

theorem w_read (k : Fin 1024) (d : Fin 1024) : (iblk m c 2 t : Vec Ideal S1024x1024 .bf16) (ix2 d k) = argW m c (ix2 d k) := by
  rw [← w_at]
  blk_ext [iblk, place t]

theorem emb_3 (r : Fin 512) (k : Fin 1024) : (win0_3.blk t).view.emb (ix2 r k) = ix2 (rowOf t r) k := by
  blk_ext [place t, rowOf]

theorem emb_4 (r : Fin 512) (d : Fin 1024) : (win0_4.blk t).view.emb (ix2 r d) = ix2 (rowOf t r) d := by
  blk_ext [place t, rowOf]

theorem arr_res : (dats m 0 c).arrAt 3 cfg0.N = Plain.res (argX m c) (argN m c) (argW m c) := by
  refine (dats m 0 c).arrAt_eq_of_covers 3 _ (by decide +kernel) fun t hf y => ?_
  blk_simp
  rw [after0_3]
  change S512x1024.Idx at y
  idx_vars y
  rw [emb_3]
  have e : out0_3 (iblk m c 0 t) (iblk m c 1 t) (iblk m c 2 t) = k0_pay2 (iblk m c 0 t) (iblk m c 1 t) (iblk m c 2 t) := by
    frame_out
  rw [e]
  refine (pay2_apply _ _ _ y0 y1).trans ?_
  rw [Plain.res_apply]
  simp only [x_read, n_read, w_read]

theorem arr_kept : (dats m 0 c).arrAt 4 cfg0.N = Plain.kept (argX m c) (argN m c) := by
  refine (dats m 0 c).arrAt_eq_of_covers 4 _ (by decide +kernel) fun t hf y => ?_
  blk_simp
  rw [after0_4]
  change S512x1024.Idx at y
  idx_vars y
  rw [emb_4]
  have e : out0_4 (iblk m c 0 t) (iblk m c 1 t) (iblk m c 2 t) = k0_pay1 (iblk m c 0 t) (iblk m c 1 t) := by
    frame_out
  rw [e]
  refine (pay1_apply _ _ y0 y1).trans ?_
  rw [Plain.kept_apply]
  simp only [x_read, n_read]

end Cert.MemKv

end
-- ==== Proof.MemDw.lean ====
/-
  The gradient of the memory's weight.
-/
module

public import proofs.«01_k».proof.Proof.Norm
public import proofs.«01_k».proof.Proof.Gen.Kernel38Ideal.Value
public import proofs.«01_k».proof.Proof.Gen.Reference38Ideal.Run

@[expose] public section

set_option maxRecDepth 16384

noncomputable section

namespace Cert.MemDw.Plain

open Idealize.ShloMosaic Idealize.ShloMosaic.TcCoe Idealize.SL Idealize.SL.Sem Cert.Reference38Ideal Cert.Reference38Ideal.Gen

/-- The weight's gradient. -/
def dw {F : FTy → Type} [FloatOps F] (h : Vec F S512x1024 .bf16) (d : Vec F S512x1024 .bf16) : Vec F S1024x1024 .bf16 :=
  truncf .bf16 (transpose S1024x1024 [1, 0] (Host.dotGeneral dot_S512x1024_S512x1024_S1024x1024_0_0_1_1_n_n none (extf .f32 d bitsLt_bf16_f32)
    (extf .f32 h bitsLt_bf16_f32)) transposes_S1024x1024_S1024x1024_1_0) bitsLt_bf16_f32

theorem dw_apply (h : Vec Ideal S512x1024 .bf16) (d : Vec Ideal S512x1024 .bf16) (l : Fin 1024) (k : Fin 1024) :
    dw h d (ix2 l k) = ∑ R, h (ix2 R l) * d (ix2 R k) := by
  simp only [mul_comm (h _)]
  pointwise [dw]

end Cert.MemDw.Plain

namespace Cert.MemDw

open Idealize.ShloMosaic Idealize.ShloMosaic.TcCoe Idealize.SL Idealize.SL.Sem Cert.Kernel38Ideal Cert.Kernel38Ideal.Gen

theorem pay1_apply (l : Fin 1024) (k : Fin 1024) : (k0_pay1 : FVec Ideal S1024x1024 .f32) (ix2 l k) = 0 := by
  pointwise [k0_pay1]

theorem pay2_apply (a : Vec Ideal S1024x1024 .f32) (h : Vec Ideal S512x1024 .bf16) (d : Vec Ideal S512x1024 .bf16) (l : Fin 1024) (k : Fin 1024) :
    k0_pay2 a h d (ix2 l k) = a (ix2 l k) + ∑ r, h (ix2 r l) * d (ix2 r k) := by
  pointwise [k0_pay2]

theorem pay3_apply (a : Vec Ideal S1024x1024 .f32) (l : Fin 1024) (k : Fin 1024) : k0_pay3 a (ix2 l k) = a (ix2 l k) := by
  pointwise [k0_pay3]

variable (m : (ℓ : Loc nD τ sig) → Buf (Elt Ideal) ℓ) (c : Dev nD) (t : Fin cfg0.N)

/-- The arguments. -/
abbrev argH : Vec Ideal S512x1024 .bf16 := m ((c : Thread nD τ).loc main_arg0)
abbrev argD : Vec Ideal S512x1024 .bf16 := m ((c : Thread nD τ).loc main_arg1)

theorem place : ∀ t : Fin cfg0.N,
    win0_0.index t = ![t.val, 0]
    ∧ win0_1.index t = ![t.val, 0]
    ∧ win0_2.index t = ![0, 0] := by
  show ∀ t : Fin grid0.N, _
  decide +kernel

/-- The row of the arrays that one of a point's blocks is. -/
def rowOf (r : Fin 512) : Fin 512 := ⟨t.val * 512 + r.val, by have := lt_of_lt_of_eq t.isLt N_0; omega⟩

theorem h_read (r : Fin 512) (l : Fin 1024) : (iblk m c 0 t : Vec Ideal S512x1024 .bf16) (ix2 r l) = argH m c (ix2 (rowOf t r) l) := by
  blk_ext [iblk, V, place t, rowOf]

theorem d_read (r : Fin 512) (k : Fin 1024) : (iblk m c 1 t : Vec Ideal S512x1024 .bf16) (ix2 r k) = argD m c (ix2 (rowOf t r) k) := by
  blk_ext [iblk, V, place t, rowOf]

theorem emb_2 (l : Fin 1024) (k : Fin 1024) : (win0_2.blk t).view.emb (ix2 l k) = ix2 l k := by
  blk_ext [place t]

/-- A point's part of the sum over the rows. -/
def part (l : Fin 1024) (k : Fin 1024) : EReal := ∑ r, argH m c (ix2 (rowOf t r) l) * argD m c (ix2 (rowOf t r) k)

theorem step_point (a : Vec Ideal S1024x1024 .f32) (l : Fin 1024) (k : Fin 1024) :
    k0_pay2 a (iblk m c 0 t) (iblk m c 1 t) (ix2 l k) = a (ix2 l k) + part m c t l k := by
  refine (pay2_apply _ _ _ l k).trans ?_
  simp only [h_read, d_read]
  rfl

theorem last (l : Fin 1024) (k : Fin 1024) : outsAt0 m c t (ix2 l k) = Plain.dw (argH m c) (argD m c) (ix2 l k) := by
  unfold outsAt0
  frame_out
  refine (pay3_apply _ l k).trans ((step_point m c t _ l k).trans ?_)
  rw [pay1_apply, zero_add, Plain.dw_apply]
  refine Finset.sum_congr rfl fun r _ => congrArg (fun i => argH m c (ix2 i l) * argD m c (ix2 i k)) (Fin.ext ?_)
  have := lt_of_lt_of_eq t.isLt N_0
  simp only [rowOf]
  omega

theorem arr_dw : (dats m 0 c).arrAt 2 cfg0.N = Plain.dw (argH m c) (argD m c) := by
  refine (dats m 0 c).arrAt_eq_of_covers 2 _ (by decide +kernel) fun t hf y => ?_
  blk_simp
  rw [after0_2]
  change S1024x1024.Idx at y
  idx_vars y
  rw [emb_2]
  exact last m c t y0 y1

end Cert.MemDw

end
-- ==== Proof.MemBack.lean ====
/-
  The gradient of the memory, through its keys' and values' weight.
-/
module

public import proofs.«01_k».proof.Proof.Norm
public import proofs.«01_k».proof.Proof.Gen.Kernel39Ideal.Value
public import proofs.«01_k».proof.Proof.Gen.Reference39Ideal.Run

@[expose] public section

set_option maxRecDepth 16384

noncomputable section

namespace Cert.MemBack.Plain

open Idealize.ShloMosaic Idealize.ShloMosaic.TcCoe Idealize.SL Idealize.SL.Sem Cert.Reference39Ideal Cert.Reference39Ideal.Gen

/-- The product. -/
def prod {F : FTy → Type} [FloatOps F] (a : Vec F S512x1024 .bf16) (w : Vec F S1024x1024 .f32) : Vec F S512x1024 .f32 :=
  Host.dotGeneral dot_S512x1024_S1024x1024_S512x1024_1_1_0_0_n_n none (extf .f32 a bitsLt_bf16_f32) w

theorem prod_apply (a : Vec Ideal S512x1024 .bf16) (w : Vec Ideal S1024x1024 .f32) (R : Fin 512) (l : Fin 1024) :
    prod a w (ix2 R l) = ∑ x, a (ix2 R x) * w (ix2 l x) := by
  pointwise [prod]

end Cert.MemBack.Plain

namespace Cert.MemBack

open Idealize.ShloMosaic Idealize.ShloMosaic.TcCoe Idealize.SL Idealize.SL.Sem Cert.Kernel39Ideal Cert.Kernel39Ideal.Gen

/-- The weight as the call takes it. -/
def wt (w : FVec Ideal S1024x1024 .f32) : FVec Ideal S1024x1024 .bf16 :=
  truncf .bf16 w bitsLt_bf16_f32

theorem wt_apply (w : FVec Ideal S1024x1024 .f32) (l : Fin 1024) (x : Fin 1024) : wt w (ix2 l x) = w (ix2 l x) := by
  pointwise [wt]

theorem pay1_apply (a : Vec Ideal S512x1024 .bf16) (w : Vec Ideal S1024x1024 .bf16) (r : Fin 512) (l : Fin 1024) :
    k0_pay1 a w (ix2 r l) = ∑ x, a (ix2 r x) * w (ix2 l x) := by
  pointwise [k0_pay1]

variable (m : (ℓ : Loc nD τ sig) → Buf (Elt Ideal) ℓ) (c : Dev nD) (t : Fin cfg0.N)

/-- The arguments. -/
abbrev argA : Vec Ideal S512x1024 .bf16 := m ((c : Thread nD τ).loc main_arg0)
abbrev argW : Vec Ideal S1024x1024 .f32 := m ((c : Thread nD τ).loc main_arg1)

theorem w_at : V m c main_v0 = wt (argW m c) := by
  unfold V
  after_reads_simp
  rfl

theorem place : ∀ t : Fin cfg0.N,
    win0_0.index t = ![t.val, 0]
    ∧ win0_1.index t = ![0, 0]
    ∧ win0_2.index t = ![t.val, 0] := by
  show ∀ t : Fin grid0.N, _
  decide +kernel

/-- The row of the arrays that a row of a point's block is. -/
def rowOf (r : Fin 512) : Fin 512 := ⟨t.val * 512 + r.val, by have := lt_of_lt_of_eq t.isLt N_0; omega⟩

theorem a_read (r : Fin 512) (x : Fin 1024) : (iblk m c 0 t : Vec Ideal S512x1024 .bf16) (ix2 r x) = argA m c (ix2 (rowOf t r) x) := by
  blk_ext [iblk, V, place t, rowOf]

theorem w_read (l : Fin 1024) (x : Fin 1024) : (iblk m c 1 t : Vec Ideal S1024x1024 .bf16) (ix2 l x) = argW m c (ix2 l x) := by
  rw [← wt_apply (argW m c) l x, ← w_at]
  blk_ext [iblk, place t]

theorem emb_2 (r : Fin 512) (l : Fin 1024) : (win0_2.blk t).view.emb (ix2 r l) = ix2 (rowOf t r) l := by
  blk_ext [place t, rowOf]

theorem arr_prod : (dats m 0 c).arrAt 2 cfg0.N = Plain.prod (argA m c) (argW m c) := by
  refine (dats m 0 c).arrAt_eq_of_covers 2 _ (by decide +kernel) fun t hf y => ?_
  blk_simp
  rw [after0_2]
  change S512x1024.Idx at y
  idx_vars y
  rw [emb_2]
  have e : out0_2 (iblk m c 0 t) (iblk m c 1 t) = k0_pay1 (iblk m c 0 t) (iblk m c 1 t) := by
    frame_out
  rw [e]
  refine (pay1_apply _ _ y0 y1).trans ?_
  rw [Plain.prod_apply]
  simp only [a_read, w_read]

end Cert.MemBack

end
-- ==== Proof.ProjForget.lean ====
/-
  The projection to the forgetting gates, with its padding.
-/
module

public import proofs.«01_k».proof.Proof.Dx
public import proofs.«01_k».proof.Proof.Gen.Kernel40Ideal.Value
public import proofs.«01_k».proof.Proof.Gen.Reference40Ideal.Run

@[expose] public section

set_option maxRecDepth 16384

noncomputable section

namespace Cert.ProjForget.Plain

open Idealize.ShloMosaic Idealize.ShloMosaic.TcCoe Idealize.SL Idealize.SL.Sem Cert.Reference40Ideal Cert.Reference40Ideal.Gen

section Generic

variable {F : FTy → Type} [FloatOps F] (a : Vec F S4096x1024 .bf16) (w : Vec F S1024x6920 .f32)

/-- The product, without padding. -/
def tight : Vec F S4096x8 .f32 :=
  Host.dotGeneral dot_S4096x1024_S1024x8_S4096x8_1_0_0_1_n_n none (extf .f32 a bitsLt_bf16_f32) (extractStridedSlice S1024x8 ![0, 1536] w slices_S1024x6920_S1024x8_0_1536)

/-- The product with zeros after its columns. -/
def prod : Vec F S4096x128 .f32 :=
  concatenate S4096x128 1 [⟨S4096x8, tight a w⟩, ⟨S4096x120, broadcastInDim S4096x120 ![] bcast_S_S4096x120 (constant S_ .f32 0x00000000#32)⟩]
    concatenates_S4096x8_S4096x120_S4096x128_d1

end Generic

variable (a : Vec Ideal S4096x1024 .bf16) (w : Vec Ideal S1024x6920 .f32) (R : Fin 4096)

theorem tight_apply (l : Fin 8) : tight a w (ix2 R l) = ∑ x, a (ix2 R x) * w (ix2 x ⟨1536 + l.val, by omega⟩) := by
  pointwise [tight]

theorem prod_in (l : Fin 8) : prod a w (ix2 R ⟨l.val, by omega⟩) = tight a w (ix2 R l) := by
  pointwise [prod]

theorem prod_out (l : Fin 120) : prod a w (ix2 R ⟨8 + l.val, by omega⟩) = 0 := by
  pointwise [prod]

/-- Each element of the padded product is a sum along the row of the padded weight. -/
theorem prod_apply (l : Fin 128) : prod a w (ix2 R l) = ∑ x, a (ix2 R x) * Dx.wf w (ix2 l x) := by
  rcases lt_or_ge l.val 8 with h | h
  · refine ((prod_in a w R ⟨l.val, h⟩).trans (tight_apply a w R _)).trans ?_
    exact Finset.sum_congr rfl fun x _ => congrArg (a (ix2 R x) * ·) (Dx.wf_in w x ⟨l.val, h⟩).symm
  · have e : (⟨8 + (l.val - 8), by omega⟩ : Fin 128) = l := Fin.ext (by dsimp only; omega)
    rw [← e]
    refine (prod_out a w R ⟨l.val - 8, by omega⟩).trans ?_
    have z : ∀ x, Dx.wf w (ix2 ⟨8 + (l.val - 8), by omega⟩ x) = 0 := fun x => Dx.wf_out w x ⟨l.val - 8, by omega⟩
    simp only [z, mul_zero, Finset.sum_const_zero]

end Cert.ProjForget.Plain

namespace Cert.ProjForget

open Idealize.ShloMosaic Idealize.ShloMosaic.TcCoe Idealize.SL Idealize.SL.Sem Cert.Kernel40Ideal Cert.Kernel40Ideal.Gen

theorem pay1_apply (a : Vec Ideal S1024x1024 .bf16) (w : Vec Ideal S128x1024 .bf16) (r : Fin 1024) (l : Fin 128) :
    k0_pay1 a w (ix2 r l) = ∑ x, a (ix2 r x) * w (ix2 l x) := by
  pointwise [k0_pay1]

variable (m : (ℓ : Loc nD τ sig) → Buf (Elt Ideal) ℓ) (c : Dev nD) (t : Fin cfg0.N)

/-- The arguments. -/
abbrev argA : Vec Ideal S4096x1024 .bf16 := m ((c : Thread nD τ).loc main_arg0)
abbrev argW : Vec Ideal S1024x6920 .f32 := m ((c : Thread nD τ).loc main_arg1)

theorem w_at : V m c main_v12 = Dx.wf (argW m c) := by
  unfold V
  after_reads_simp
  rfl

theorem place : ∀ t : Fin cfg0.N,
    win0_0.index t = ![t.val, 0]
    ∧ win0_1.index t = ![0, 0]
    ∧ win0_2.index t = ![t.val, 0] := by
  show ∀ t : Fin grid0.N, _
  decide +kernel

/-- The row of the arrays that a row of a point's block is. -/
def rowOf (r : Fin 1024) : Fin 4096 := ⟨t.val * 1024 + r.val, by have := lt_of_lt_of_eq t.isLt N_0; omega⟩

theorem a_read (r : Fin 1024) (x : Fin 1024) : (iblk m c 0 t : Vec Ideal S1024x1024 .bf16) (ix2 r x) = argA m c (ix2 (rowOf t r) x) := by
  blk_ext [iblk, V, place t, rowOf]

theorem w_read (l : Fin 128) (x : Fin 1024) : (iblk m c 1 t : Vec Ideal S128x1024 .bf16) (ix2 l x) = Dx.wf (argW m c) (ix2 l x) := by
  rw [← w_at]
  blk_ext [iblk, place t]

theorem emb_2 (r : Fin 1024) (l : Fin 128) : (win0_2.blk t).view.emb (ix2 r l) = ix2 (rowOf t r) l := by
  blk_ext [place t, rowOf]

theorem arr_prod : (dats m 0 c).arrAt 2 cfg0.N = Plain.prod (argA m c) (argW m c) := by
  refine (dats m 0 c).arrAt_eq_of_covers 2 _ (by decide +kernel) fun t hf y => ?_
  blk_simp
  rw [after0_2]
  change S1024x128.Idx at y
  idx_vars y
  rw [emb_2]
  have e : out0_2 (iblk m c 0 t) (iblk m c 1 t) = k0_pay1 (iblk m c 0 t) (iblk m c 1 t) := by
    frame_out
  rw [e]
  refine (pay1_apply _ _ y0 y1).trans ?_
  rw [Plain.prod_apply]
  simp only [a_read, w_read]

end Cert.ProjForget

end
-- ==== Proof.ForgetDw.lean ====
/-
  The gradient of the forgetting gates' columns of the input projection.
-/
module

public import proofs.«01_k».proof.Proof.Norm
public import proofs.«01_k».proof.Proof.Gen.Kernel41Ideal.Value
public import proofs.«01_k».proof.Proof.Gen.Reference41Ideal.Run

@[expose] public section

set_option maxRecDepth 16384

noncomputable section

namespace Cert.ForgetDw.Plain

open Idealize.ShloMosaic Idealize.ShloMosaic.TcCoe Idealize.SL Idealize.SL.Sem Cert.Reference41Ideal Cert.Reference41Ideal.Gen

/-- The weight's gradient, its columns turned into rows. -/
def dw {F : FTy → Type} [FloatOps F] (h : Vec F S4096x128 .bf16) (d : Vec F S4096x1024 .bf16) : Vec F S128x1024 .bf16 :=
  truncf .bf16 (transpose S128x1024 [1, 0] (transpose S1024x128 [1, 0] (Host.dotGeneral dot_S4096x128_S4096x1024_S128x1024_0_0_1_1_n_n none
    (extf .f32 h bitsLt_bf16_f32) (extf .f32 d bitsLt_bf16_f32)) transposes_S128x1024_S1024x128_1_0) transposes_S1024x128_S128x1024_1_0) bitsLt_bf16_f32

theorem dw_apply (h : Vec Ideal S4096x128 .bf16) (d : Vec Ideal S4096x1024 .bf16) (l : Fin 128) (k : Fin 1024) :
    dw h d (ix2 l k) = ∑ R, h (ix2 R l) * d (ix2 R k) := by
  pointwise [dw]

end Cert.ForgetDw.Plain

namespace Cert.ForgetDw

open Idealize.ShloMosaic Idealize.ShloMosaic.TcCoe Idealize.SL Idealize.SL.Sem Cert.Kernel41Ideal Cert.Kernel41Ideal.Gen

theorem pay1_apply (l : Fin 128) (k : Fin 1024) : (k0_pay1 : FVec Ideal S128x1024 .f32) (ix2 l k) = 0 := by
  pointwise [k0_pay1]

theorem pay2_apply (a : Vec Ideal S128x1024 .f32) (h : Vec Ideal S2048x128 .bf16) (d : Vec Ideal S2048x1024 .bf16) (l : Fin 128) (k : Fin 1024) :
    k0_pay2 a h d (ix2 l k) = a (ix2 l k) + ∑ r, h (ix2 r l) * d (ix2 r k) := by
  pointwise [k0_pay2]

theorem pay3_apply (a : Vec Ideal S128x1024 .f32) (l : Fin 128) (k : Fin 1024) : k0_pay3 a (ix2 l k) = a (ix2 l k) := by
  pointwise [k0_pay3]

variable (m : (ℓ : Loc nD τ sig) → Buf (Elt Ideal) ℓ) (c : Dev nD) (t : Fin cfg0.N)

/-- The arguments. -/
abbrev argH : Vec Ideal S4096x128 .bf16 := m ((c : Thread nD τ).loc main_arg0)
abbrev argD : Vec Ideal S4096x1024 .bf16 := m ((c : Thread nD τ).loc main_arg1)

theorem place : ∀ t : Fin cfg0.N,
    win0_0.index t = ![t.val, 0]
    ∧ win0_1.index t = ![t.val, 0]
    ∧ win0_2.index t = ![0, 0] := by
  show ∀ t : Fin grid0.N, _
  decide +kernel

/-- The row of the arrays that one of a point's blocks is. -/
def rowOf (r : Fin 2048) : Fin 4096 := ⟨t.val * 2048 + r.val, by have := lt_of_lt_of_eq t.isLt N_0; omega⟩

theorem h_read (r : Fin 2048) (l : Fin 128) : (iblk m c 0 t : Vec Ideal S2048x128 .bf16) (ix2 r l) = argH m c (ix2 (rowOf t r) l) := by
  blk_ext [iblk, V, place t, rowOf]

theorem d_read (r : Fin 2048) (k : Fin 1024) : (iblk m c 1 t : Vec Ideal S2048x1024 .bf16) (ix2 r k) = argD m c (ix2 (rowOf t r) k) := by
  blk_ext [iblk, V, place t, rowOf]

theorem emb_2 (l : Fin 128) (k : Fin 1024) : (win0_2.blk t).view.emb (ix2 l k) = ix2 l k := by
  blk_ext [place t]

/-- A point's part of the sum over the rows. -/
def part (l : Fin 128) (k : Fin 1024) : EReal := ∑ r, argH m c (ix2 (rowOf t r) l) * argD m c (ix2 (rowOf t r) k)

theorem step_point (a : Vec Ideal S128x1024 .f32) (l : Fin 128) (k : Fin 1024) :
    k0_pay2 a (iblk m c 0 t) (iblk m c 1 t) (ix2 l k) = a (ix2 l k) + part m c t l k := by
  refine (pay2_apply _ _ _ l k).trans ?_
  simp only [h_read, d_read]
  rfl

/-- The first point leaves its part, -/
theorem first (h : t.val % 2 = 0) (l : Fin 128) (k : Fin 1024) : (outsAt0 m c t.val t.isLt).2 (ix2 l k) = part m c t l k := by
  rw [outsAt0_A m c t h (by omega)]
  frame_out
  exact (step_point m c t _ l k).trans (by rw [pay1_apply, zero_add])

/-- the second stores the sum. -/
theorem last (h : t.val % 2 = 1) (l : Fin 128) (k : Fin 1024) :
    (outsAt0 m c t.val t.isLt).1 (ix2 l k) = Plain.dw (argH m c) (argD m c) (ix2 l k) := by
  have N := lt_of_lt_of_eq t.isLt N_0
  have f := first m c ⟨t.val - 1, lt_of_le_of_lt (Nat.sub_le _ _) t.isLt⟩ (by dsimp only; omega) l k
  rw [outsAt0_B m c t (by omega) h]
  frame_out
  refine (pay3_apply _ l k).trans ((step_point m c t _ l k).trans ((congrArg (· + part m c t l k) ((congrFun (Memref.IsWhole.read_unread _ _) _).trans f)).trans ?_))
  rw [Plain.dw_apply, Norm.sum_two 2048 2048 rfl]
  refine congrArg₂ _ (Finset.sum_congr rfl fun r _ => ?_) (Finset.sum_congr rfl fun r _ => ?_)
  all_goals
    refine congrArg (fun i => argH m c (ix2 i l) * argD m c (ix2 i k)) (Fin.ext ?_)
    simp only [rowOf]
    omega

theorem arr_dw : (dats m 0 c).arrAt 2 cfg0.N = Plain.dw (argH m c) (argD m c) := by
  refine (dats m 0 c).arrAt_eq_of_covers 2 _ (by decide +kernel) fun t hf y => ?_
  blk_simp
  rw [after0_2]
  change S128x1024.Idx at y
  idx_vars y
  rw [emb_2]
  exact last m c t (flush0_2 t |>.1 hf) y0 y1

end Cert.ForgetDw

end
-- ==== Proof.MemNorm.lean ====
/-
  The gradient of the memory norm's gain.
-/
module

public import proofs.«01_k».proof.Proof.Norm
public import proofs.«01_k».proof.Proof.Gen.Kernel42Ideal.Value
public import proofs.«01_k».proof.Proof.Gen.Reference42Ideal.Run

@[expose] public section

set_option maxRecDepth 16384

noncomputable section

namespace Cert.MemNorm.Plain

open Idealize.ShloMosaic Idealize.ShloMosaic.TcCoe Idealize.SL Idealize.SL.Sem Cert.Reference42Ideal Cert.Reference42Ideal.Gen

section Generic

variable {F : FTy → Type} [FloatOps F]

/-- The mean of each row's squares, plus the norm's small constant. -/
def spreads (x : Vec F S512x1024 .f32) : Vec F S512x1 .f32 :=
  addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32))

/-- A row's number in every column. -/
def everyCol (a : Vec F S512x1 .f32) : Vec F S512x1024 .f32 := broadcastInDim S512x1024 ![0, 1] bcast_S512x1_S512x1024_0_1 a

/-- The gradient of the gain, `v` being that of the norm's result. -/
def dgain (x v : Vec F S512x1024 .f32) : Vec F S1x1024 .f32 :=
  shapeCast _ (Host.reduceAdd (mulf (mulf x (everyCol (Host.rsqrt (spreads x)))) v) (constant S_ .f32 0x00000000#32) reducesTo_S512x1024_S1024_d0 h_S_) shapeCasts_S1024_S1x1024

end Generic

theorem dgain_apply (x v : Vec Ideal S512x1024 .f32) (d : Fin 1024) : dgain x v (ix2 0 d)
    = ∑ R : Fin 512, Norm.gain (fun k => x (ix2 R k)) (fun k => v (ix2 R k)) d := by
  pointwise [dgain, everyCol, spreads]
  rfl

end Cert.MemNorm.Plain

namespace Cert.MemNorm

open Idealize.ShloMosaic Idealize.ShloMosaic.TcCoe Idealize.SL Idealize.SL.Sem Cert.Kernel42Ideal Cert.Kernel42Ideal.Gen

theorem pay1_apply (d : Fin 1024) : (k0_pay1 : FVec Ideal S1x1024 .f32) (ix2 0 d) = 0 := by
  pointwise [k0_pay1]

theorem pay2_apply (v : FVec Ideal S1x1024 .f32) (a : Vec Ideal S1x1024 .f32) (d : Fin 1024) : k0_pay2 v a (ix2 0 d) = a (ix2 0 d) + v (ix2 0 d) := by
  pointwise [k0_pay2]

theorem pay5_apply (x v : Vec Ideal S512x1024 .f32) (d : Fin 1024) : k0_pay5 x v (ix2 0 d)
    = ∑ r : Fin 512, Norm.gain (fun k => x (ix2 r k)) (fun k => v (ix2 r k)) d := by
  pointwise [k0_pay5, k0_pay4, k0_pay3]
  rfl

variable (m : (ℓ : Loc nD τ sig) → Buf (Elt Ideal) ℓ) (c : Dev nD) (t : Fin cfg0.N)

/-- The arguments that the result depends on. -/
abbrev argX : Vec Ideal S512x1024 .f32 := m ((c : Thread nD τ).loc main_arg0)
abbrev argV : Vec Ideal S512x1024 .f32 := m ((c : Thread nD τ).loc main_arg2)

theorem place : ∀ t : Fin cfg0.N, win0_0.index t = ![t.val, 0] ∧ win0_2.index t = ![t.val, 0] ∧ win0_4.index t = ![0, 0] := by
  show ∀ t : Fin grid0.N, _
  decide +kernel

/-- The row of the arrays that a row of a point's block is. -/
def rowOf (r : Fin 512) : Fin 512 := ⟨t.val * 512 + r.val, by have := lt_of_lt_of_eq t.isLt N_0; omega⟩

theorem x_read (r : Fin 512) (d : Fin 1024) : (iblk m c 0 t : Vec Ideal S512x1024 .f32) (ix2 r d) = argX m c (ix2 (rowOf t r) d) := by
  blk_ext [iblk, V, place t, rowOf]

theorem v_read (r : Fin 512) (d : Fin 1024) : (iblk m c 2 t : Vec Ideal S512x1024 .f32) (ix2 r d) = argV m c (ix2 (rowOf t r) d) := by
  blk_ext [iblk, V, place t, rowOf]

theorem emb_4 (d : Fin 1024) : (win0_4.blk t).view.emb (ix2 0 d) = ix2 0 d := by
  blk_ext [place t]

theorem only (d : Fin 1024) : (outsAt0 m c t).2 (ix2 0 d) = Plain.dgain (argX m c) (argV m c) (ix2 0 d) := by
  unfold outsAt0
  frame_out
  refine (pay2_apply _ _ d).trans ?_
  rw [pay1_apply, zero_add, Plain.dgain_apply]
  refine (pay5_apply _ _ d).trans ?_
  simp only [x_read, v_read]
  have e : ∀ r : Fin 512, rowOf t r = r := fun r => Fin.ext (by
    have := lt_of_lt_of_eq t.isLt N_0
    simp only [rowOf]
    omega)
  simp only [e]

theorem arr_dgain : (dats m 0 c).arrAt 4 cfg0.N = Plain.dgain (argX m c) (argV m c) := by
  refine (dats m 0 c).arrAt_eq_of_covers 4 _ (by decide +kernel) fun t hf y => ?_
  blk_simp
  rw [after0_4]
  change S1x1024.Idx at y
  idx_vars y
  obtain rfl : y0 = 0 := Subsingleton.elim _ _
  rw [emb_4]
  exact only m c t y1

end Cert.MemNorm

end
-- ==== Proof.Post.lean ====
/-
  The residual step after the attention, and the norm before the feed-forward layer.
-/
module

public import proofs.«01_k».proof.Proof.Norm
public import proofs.«01_k».proof.Proof.Gen.Kernel43Ideal.Value
public import proofs.«01_k».proof.Proof.Gen.Reference43Ideal.Run

@[expose] public section

set_option maxRecDepth 16384

noncomputable section

namespace Cert.Post.Plain

open Idealize.ShloMosaic Idealize.ShloMosaic.TcCoe Idealize.SL Idealize.SL.Sem Cert.Reference43Ideal Cert.Reference43Ideal.Gen

section Generic

variable {F : FTy → Type} [FloatOps F]

/-- The mean of each row's squares, plus the norm's small constant. -/
def spreads (x : Vec F S4096x1024 .f32) : Vec F S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- A gain in every row. -/
def everyRow (n : Vec F S1x1024 .f32) : Vec F S4096x1024 .f32 := broadcastInDim S4096x1024 ![0, 1] bcast_S1x1024_S4096x1024_0_1 n

/-- A row's number in every column. -/
def everyCol (a : Vec F S4096x1 .f32) : Vec F S4096x1024 .f32 := broadcastInDim S4096x1024 ![0, 1] bcast_S4096x1_S4096x1024_0_1 a

/-- The residual stream after the attention: the input plus the norm of the attention's result. -/
def hidden (y x : Vec F S4096x1024 .f32) (p : Vec F S1x1024 .f32) : Vec F S4096x1024 .f32 :=
  addf x (mulf (mulf y (everyCol (Host.rsqrt (spreads y)))) (everyRow p))

/-- The norm of it. -/
def next (y x : Vec F S4096x1024 .f32) (p n : Vec F S1x1024 .f32) : Vec F S4096x1024 .bf16 :=
  truncf .bf16 (mulf (mulf (hidden y x p) (everyCol (Host.rsqrt (spreads (hidden y x p))))) (everyRow n)) bitsLt_bf16_f32

end Generic

variable (x y : Vec Ideal S4096x1024 .f32) (n p : Vec Ideal S1x1024 .f32) (R : Fin 4096) (d : Fin 1024)

theorem hidden_apply : hidden y x p (ix2 R d)
    = x (ix2 R d) + y (ix2 R d) * Ideal.rsqrt (Norm.spread (fun k => y (ix2 R k))) * p (ix2 0 d) := by
  pointwise [hidden, everyCol, everyRow, spreads]
  rfl

theorem next_apply : next y x p n (ix2 R d)
    = hidden y x p (ix2 R d) * Ideal.rsqrt (Norm.spread (fun k => hidden y x p (ix2 R k))) * n (ix2 0 d) := by
  pointwise [next, everyCol, everyRow, spreads]
  rfl

end Cert.Post.Plain

namespace Cert.Post

open Idealize.ShloMosaic Idealize.ShloMosaic.TcCoe Idealize.SL Idealize.SL.Sem Cert.Kernel43Ideal Cert.Kernel43Ideal.Gen

section Point

variable (x y : Vec Ideal S512x1024 .f32) (n p : Vec Ideal S1x1024 .f32) (r : Fin 512) (d : Fin 1024)

theorem pay1_apply : k0_pay1 y x p (ix2 r d)
    = x (ix2 r d) + y (ix2 r d) * Ideal.rsqrt (Norm.spread (fun k => y (ix2 r k))) * p (ix2 0 d) := by
  pointwise [k0_pay1]
  rfl

theorem pay2_apply : k0_pay2 y x p n (ix2 r d)
    = k0_pay1 y x p (ix2 r d) * Ideal.rsqrt (Norm.spread (fun k => k0_pay1 y x p (ix2 r k))) * n (ix2 0 d) := by
  pointwise [k0_pay2]
  rfl

end Point

variable (m : (ℓ : Loc nD τ sig) → Buf (Elt Ideal) ℓ) (c : Dev nD) (t : Fin cfg0.N)

/-- The arguments. -/
abbrev argY : Vec Ideal S4096x1024 .f32 := m ((c : Thread nD τ).loc main_arg0)
abbrev argX : Vec Ideal S4096x1024 .f32 := m ((c : Thread nD τ).loc main_arg1)
abbrev argP : Vec Ideal S1x1024 .f32 := m ((c : Thread nD τ).loc main_arg2)
abbrev argN : Vec Ideal S1x1024 .f32 := m ((c : Thread nD τ).loc main_arg3)

theorem place : ∀ t : Fin cfg0.N,
    win0_0.index t = ![t.val, 0] ∧ win0_1.index t = ![t.val, 0] ∧ win0_2.index t = ![0, 0] ∧ win0_3.index t = ![0, 0]
    ∧ win0_4.index t = ![t.val, 0] ∧ win0_5.index t = ![t.val, 0] := by
  show ∀ t : Fin grid0.N, _
  decide +kernel

/-- The row of the arrays that a row of a point's block is. -/
def rowOf (r : Fin 512) : Fin 4096 := ⟨t.val * 512 + r.val, by have := lt_of_lt_of_eq t.isLt N_0; omega⟩

section Reads

variable (r : Fin 512) (d : Fin 1024)

theorem y_read : (iblk m c 0 t : Vec Ideal S512x1024 .f32) (ix2 r d) = argY m c (ix2 (rowOf t r) d) := by
  blk_ext [iblk, V, place t, rowOf]

theorem x_read : (iblk m c 1 t : Vec Ideal S512x1024 .f32) (ix2 r d) = argX m c (ix2 (rowOf t r) d) := by
  blk_ext [iblk, V, place t, rowOf]

theorem p_read : (iblk m c 2 t : Vec Ideal S1x1024 .f32) (ix2 0 d) = argP m c (ix2 0 d) := by
  blk_ext [iblk, V, place t]

theorem n_read : (iblk m c 3 t : Vec Ideal S1x1024 .f32) (ix2 0 d) = argN m c (ix2 0 d) := by
  blk_ext [iblk, V, place t]

theorem hidden_read : k0_pay1 (iblk m c 0 t) (iblk m c 1 t) (iblk m c 2 t) (ix2 r d)
    = Plain.hidden (argY m c) (argX m c) (argP m c) (ix2 (rowOf t r) d) := by
  refine (pay1_apply _ _ _ r d).trans ?_
  rw [Plain.hidden_apply]
  simp only [y_read, x_read, p_read]

theorem emb_4 : (win0_4.blk t).view.emb (ix2 r d) = ix2 (rowOf t r) d := by
  blk_ext [place t, rowOf]

theorem emb_5 : (win0_5.blk t).view.emb (ix2 r d) = ix2 (rowOf t r) d := by
  blk_ext [place t, rowOf]

end Reads

theorem arr_hidden : (dats m 0 c).arrAt 4 cfg0.N = Plain.hidden (argY m c) (argX m c) (argP m c) := by
  refine (dats m 0 c).arrAt_eq_of_covers 4 _ (by decide +kernel) fun t hf y => ?_
  blk_simp
  rw [after0_4]
  change S512x1024.Idx at y
  idx_vars y
  rw [emb_4]
  have e : out0_4 (iblk m c 0 t) (iblk m c 1 t) (iblk m c 2 t) (iblk m c 3 t) = k0_pay1 (iblk m c 0 t) (iblk m c 1 t) (iblk m c 2 t) := by
    frame_out
  rw [e]
  exact hidden_read m c t y0 y1

theorem arr_next : (dats m 0 c).arrAt 5 cfg0.N = Plain.next (argY m c) (argX m c) (argP m c) (argN m c) := by
  refine (dats m 0 c).arrAt_eq_of_covers 5 _ (by decide +kernel) fun t hf y => ?_
  blk_simp
  rw [after0_5]
  change S512x1024.Idx at y
  idx_vars y
  rw [emb_5]
  have e : out0_5 (iblk m c 0 t) (iblk m c 1 t) (iblk m c 2 t) (iblk m c 3 t)
      = k0_pay2 (iblk m c 0 t) (iblk m c 1 t) (iblk m c 2 t) (iblk m c 3 t) := by
    frame_out
  rw [e]
  refine (pay2_apply _ _ _ _ y0 y1).trans ?_
  rw [Plain.next_apply]
  simp only [hidden_read, n_read]

end Cert.Post

end
-- ==== Proof.MemAttn.lean ====
/-
  The attention to the memory: the softmax of the scores of a query over the 256 keys of its head, times the values.
-/
module

public import proofs.«01_k».proof.Proof.Norm
public import proofs.«01_k».proof.Proof.Gen.Kernel44Ideal.Value
public import proofs.«01_k».proof.Proof.Gen.Reference44Ideal.Run

@[expose] public section

set_option maxRecDepth 16384

noncomputable section

/-! ### One query, its keys and its values -/

namespace Cert.MemRow

open Idealize.ShloMosaic

variable (q : Fin 128 → EReal) (k v : Fin 256 → Fin 128 → EReal) (C : Fin 256) (d : Fin 128)

def score : EReal := (∑ d, q d * k C d) * Ideal.ofBits .f32 0x3DB504F3#32

/-- The exponential of a score over the query's largest. -/
def weight : EReal := Ideal.exp (score q k C - Finset.univ.fold max ⊥ fun C' => score q k C')

def mass : EReal := ∑ C, weight q k C

def prob : EReal := Ideal.div (weight q k C) (mass q k)

def out : EReal := ∑ C, v C d * prob q k C

end Cert.MemRow

namespace Cert.MemAttn.Plain

open Idealize.ShloMosaic Idealize.ShloMosaic.TcCoe Idealize.SL Idealize.SL.Sem Cert.Reference44Ideal Cert.Reference44Ideal.Gen

section Generic

variable {F : FTy → Type} [FloatOps F] (q : Vec F S4096x512 .bf16) (kv : Vec F S512x1024 .f32)

/-- The queries, the keys and the values by heads. -/
def queries : Vec F S2x2048x4x128 .f32 := shapeCast _ (extf .f32 q bitsLt_bf16_f32) shapeCasts_S4096x512_S2x2048x4x128

def keys : Vec F S2x256x4x128 .f32 := shapeCast _ (extractStridedSlice S512x512 ![0, 0] kv slices_S512x1024_S512x512_0_0) shapeCasts_S512x512_S2x256x4x128

def vals : Vec F S2x256x4x128 .f32 := shapeCast _ (extractStridedSlice S512x512 ![0, 512] kv slices_S512x1024_S512x512_0_512) shapeCasts_S512x512_S2x256x4x128

def score : Vec F S2x4x2048x256 .f32 :=
  mulf (Host.dotGeneral dot_S2x2048x4x128_S2x256x4x128_S2x4x2048x256_3_3_1_1_02_02 none (queries q) (keys kv))
    (broadcastInDim S2x4x2048x256 ![] bcast_S_S2x4x2048x256 (constant S_ .f32 0x3DB504F3#32))

/-- An array of one element a query, for every key. -/
def overKeys (x : Vec F S2x4x2048 .f32) : Vec F S2x4x2048x256 .f32 :=
  broadcastInDim S2x4x2048x256 ![0, 1, 2, 3] bcast_S2x4x2048x1_S2x4x2048x256_0_1_2_3 (broadcastInDim S2x4x2048x1 ![0, 1, 2] bcast_S2x4x2048_S2x4x2048x1_0_1_2 x)

def most : Vec F S2x4x2048 .f32 := Host.reduce FloatOps.maximumf (score q kv) (constant S_ .f32 0xFF800000#32) reducesTo_S2x4x2048x256_S2x4x2048_d3 h_S_

def guarded (x : Vec F S2x4x2048 .f32) : Vec F S2x4x2048 .f32 := maximumf (broadcastInDim S2x4x2048 ![] bcast_S_S2x4x2048 (constant S_ .f32 0xFF800000#32)) x

def weight : Vec F S2x4x2048x256 .f32 := Host.exp (subf (score q kv) (overKeys (guarded (most q kv))))

def mass : Vec F S2x4x2048 .f32 := Host.reduceAdd (weight q kv) (constant S_ .f32 0x00000000#32) reducesTo_S2x4x2048x256_S2x4x2048_d3 h_S_

def prob : Vec F S2x4x2048x256 .f32 := Host.divf (weight q kv) (overKeys (mass q kv))

def out : Vec F S4096x512 .bf16 :=
  truncf .bf16 (shapeCast _ (transpose S2x2048x4x128 [0, 3, 1, 2] (Host.dotGeneral dot_S2x256x4x128_S2x4x2048x256_S2x4x128x2048_1_3_3_2_02_01 none (vals kv) (prob q kv))
    transposes_S2x4x128x2048_S2x2048x4x128_0_3_1_2) shapeCasts_S2x2048x4x128_S4096x512) bitsLt_bf16_f32

end Generic

/-- The row of a query and of a key, the column of a head's dimension, and those of the keys and the values. -/
def rowAt (b : Fin 2) (R : Fin 2048) : Fin 4096 := ⟨b.val * 2048 + R.val, by omega⟩
def keyAt (b : Fin 2) (C : Fin 256) : Fin 512 := ⟨b.val * 256 + C.val, by omega⟩
def colAt (h : Fin 4) (d : Fin 128) : Fin 512 := ⟨h.val * 128 + d.val, by omega⟩
def kCol (h : Fin 4) (d : Fin 128) : Fin 1024 := ⟨h.val * 128 + d.val, by omega⟩
def vCol (h : Fin 4) (d : Fin 128) : Fin 1024 := ⟨512 + h.val * 128 + d.val, by omega⟩

variable (q : Vec Ideal S4096x512 .bf16) (kv : Vec Ideal S512x1024 .f32) (b : Fin 2) (h : Fin 4) (R : Fin 2048) (C : Fin 256) (d : Fin 128)

/-- A query, and the keys and the values of its head. -/
abbrev qRow : Fin 128 → EReal := fun d => q (ix2 (rowAt b R) (colAt h d))
abbrev kRows : Fin 256 → Fin 128 → EReal := fun C d => kv (ix2 (keyAt b C) (kCol h d))
abbrev vRows : Fin 256 → Fin 128 → EReal := fun C d => kv (ix2 (keyAt b C) (vCol h d))

theorem queries_apply : queries q (ix4 b R h d) = qRow q b h R d := by
  pointwise [queries]
  refine congrArg q ?_
  blk_ext [rowAt, colAt]

theorem keys_apply : keys kv (ix4 b C h d) = kRows kv b h C d := by
  pointwise [keys]
  refine congrArg kv ?_
  blk_ext [keyAt, kCol]

theorem vals_apply : vals kv (ix4 b C h d) = vRows kv b h C d := by
  pointwise [vals]
  refine congrArg kv ?_
  blk_ext [keyAt, vCol]

theorem score_apply : score q kv (ix4 b h R C) = MemRow.score (qRow q b h R) (kRows kv b h) C := by
  pointwise [score]
  simp only [queries_apply, keys_apply]
  rfl

theorem overKeys_apply (x : Vec Ideal S2x4x2048 .f32) : overKeys x (ix4 b h R C) = x (ix3 b h R) := by
  pointwise [overKeys]

theorem ofBits_least : Ideal.ofBits FTy.f32 0xFF800000#32 = ⊥ := by simp [Ideal.ofBits, Ideal.ieee]

theorem most_apply : most q kv (ix3 b h R) = Finset.univ.fold max ⊥ fun C => score q kv (ix4 b h R C) := by
  pointwise [most]
  rw [ofBits_least]

theorem guarded_apply (x : Vec Ideal S2x4x2048 .f32) : guarded x (ix3 b h R) = x (ix3 b h R) := by
  pointwise [guarded]
  rw [ofBits_least, max_eq_right bot_le]

theorem weight_apply : weight q kv (ix4 b h R C) = MemRow.weight (qRow q b h R) (kRows kv b h) C := by
  pointwise [weight, overKeys_apply]
  rw [guarded_apply, most_apply]
  simp only [score_apply]
  rfl

theorem mass_apply : mass q kv (ix3 b h R) = MemRow.mass (qRow q b h R) (kRows kv b h) := by
  pointwise [mass]
  simp only [weight_apply]
  rfl

theorem prob_apply : prob q kv (ix4 b h R C) = MemRow.prob (qRow q b h R) (kRows kv b h) C := by
  pointwise [prob, overKeys_apply]
  rw [weight_apply, mass_apply]
  rfl

theorem out_apply : out q kv (ix2 (rowAt b R) (colAt h d)) = MemRow.out (qRow q b h R) (kRows kv b h) (vRows kv b h) d := by
  pointwise [out]
  refine Finset.sum_congr rfl fun C _ => congrArg₂ (· * ·) (Eq.trans (congrArg (vals kv) ?_) (vals_apply kv b h C d))
    (Eq.trans (congrArg (prob q kv) ?_) (prob_apply q kv b h R C))
  all_goals blk_ext [rowAt, colAt]

end Cert.MemAttn.Plain

namespace Cert.MemAttn

open Idealize.ShloMosaic Idealize.ShloMosaic.TcCoe Idealize.SL Idealize.SL.Sem Cert.Kernel44Ideal Cert.Kernel44Ideal.Gen

theorem pay1_apply (q : Vec Ideal S1024x128 .bf16) (k v : Vec Ideal S256x128 .f32) (r : Fin 1024) (d : Fin 128) :
    k0_pay1 q k v (ix2 r d) = MemRow.out (fun d => q (ix2 r d)) (fun C d => k (ix2 C d)) (fun C d => v (ix2 C d)) d := by
  pointwise [k0_pay1]
  refine Finset.sum_congr rfl fun C _ => (mul_comm _ _).trans ?_
  simp only [Plain.ofBits_least]
  rfl

variable (m : (ℓ : Loc nD τ sig) → Buf (Elt Ideal) ℓ) (c : Dev nD) (t : Fin cfg0.N)

/-- The arguments: the queries, and the keys and values of the memory. -/
abbrev argQ : Vec Ideal S4096x512 .bf16 := m ((c : Thread nD τ).loc main_arg0)
abbrev argK : Vec Ideal S512x1024 .f32 := m ((c : Thread nD τ).loc main_arg1)

theorem place : ∀ t : Fin cfg0.N,
    win0_0.index t = ![t.val / 8 * 2 + t.val % 2, t.val / 2 % 4] ∧ win0_1.index t = ![t.val / 8, t.val / 2 % 4]
    ∧ win0_2.index t = ![t.val / 8, 4 + t.val / 2 % 4] ∧ win0_3.index t = ![t.val / 8 * 2 + t.val % 2, t.val / 2 % 4] := by
  show ∀ t : Fin grid0.N, _
  decide +kernel

/-- A point's batch and head, and the query that a row of its block is. -/
def batch : Fin 2 := ⟨t.val / 8, by have := lt_of_lt_of_eq t.isLt N_0; omega⟩
def head : Fin 4 := ⟨t.val / 2 % 4, by omega⟩
def query (r : Fin 1024) : Fin 2048 := ⟨t.val % 2 * 1024 + r.val, by omega⟩

theorem q_read (r : Fin 1024) (d : Fin 128) : (iblk m c 0 t : Vec Ideal S1024x128 .bf16) (ix2 r d) = Plain.qRow (argQ m c) (batch t) (head t) (query t r) d := by
  blk_ext [iblk, V, place t, batch, head, query, Plain.rowAt, Plain.colAt]

theorem k_read (C : Fin 256) (d : Fin 128) : (iblk m c 1 t : Vec Ideal S256x128 .f32) (ix2 C d) = Plain.kRows (argK m c) (batch t) (head t) C d := by
  blk_ext [iblk, V, place t, batch, head, Plain.keyAt, Plain.kCol]

theorem v_read (C : Fin 256) (d : Fin 128) : (iblk m c 2 t : Vec Ideal S256x128 .f32) (ix2 C d) = Plain.vRows (argK m c) (batch t) (head t) C d := by
  blk_ext [iblk, V, place t, batch, head, Plain.keyAt, Plain.vCol]

theorem emb_3 (r : Fin 1024) (d : Fin 128) : (win0_3.blk t).view.emb (ix2 r d) = ix2 (Plain.rowAt (batch t) (query t r)) (Plain.colAt (head t) d) := by
  blk_ext [place t, batch, head, query, Plain.rowAt, Plain.colAt]

theorem arr_out : (dats m 0 c).arrAt 3 cfg0.N = Plain.out (argQ m c) (argK m c) := by
  refine (dats m 0 c).arrAt_eq_of_covers 3 _ (by decide +kernel) fun t hf y => ?_
  blk_simp
  rw [after0_3]
  change S1024x128.Idx at y
  idx_vars y
  rw [emb_3, Plain.out_apply]
  have e : out0_3 (iblk m c 0 t) (iblk m c 1 t) (iblk m c 2 t) = k0_pay1 (iblk m c 0 t) (iblk m c 1 t) (iblk m c 2 t) := by
    frame_out
  rw [e]
  refine (pay1_apply _ _ _ y0 y1).trans ?_
  simp only [q_read, k_read, v_read]

end Cert.MemAttn

end
-- ==== Proof.Shift.lean ====
/-
  The token shift of the RWKV-7 arguments: every row moved towards the one before it, by a share of each column's own.
-/
module

public import proofs.«01_k».proof.Proof.Scalars
public import proofs.«01_k».proof.Proof.Gen.Kernel45Ideal.Value
public import proofs.«01_k».proof.Proof.Gen.Reference45Ideal.Run
public import Idealize.ShloMosaic.Lib.Claim
public import Idealize.ShloMosaic.Lib.Pipeline.ValueKit

@[expose] public section

set_option maxRecDepth 16384

noncomputable section

namespace Cert.Shift.Plain

open Idealize.ShloMosaic Idealize.ShloMosaic.TcCoe Idealize.SL Idealize.SL.Sem Cert.Reference45Ideal Cert.Reference45Ideal.Gen

section Generic

variable {F : FTy → Type} [FloatOps F]

/-- The rows. -/
def rows (p : Vec F S4096x1920 .bf16) : Vec F S4096x1920 .f32 := extf .f32 p bitsLt_bf16_f32

/-- The row before each row, zeros before a sequence's first. -/
def before (p : Vec F S4096x1920 .bf16) : Vec F S4096x1920 .f32 :=
  shapeCast S4096x1920 (concatenate S2x2048x1920 1 [⟨S2x1x1920, (broadcastInDim S2x1x1920 ![] bcast_S_S2x1x1920 (constant S_ .f32 0x00000000#32))⟩,
    ⟨S2x2047x1920, (extractStridedSlice S2x2047x1920 ![0, 0, 0] (shapeCast S2x2048x1920 (rows p) shapeCasts_S4096x1920_S2x2048x1920) slices_S2x2048x1920_S2x2047x1920_0_0_0)⟩]
    concatenates_S2x1x1920_S2x2047x1920_S2x2048x1920_d1) shapeCasts_S2x2048x1920_S4096x1920

/-- The columns' shares, for every row. -/
def everyRow (u : Vec F S1x1920 .f32) : Vec F S4096x1920 .f32 := broadcastInDim S4096x1920 ![0, 1] bcast_S1x1920_S4096x1920_0_1 u

def out (p : Vec F S4096x1920 .bf16) (u : Vec F S1x1920 .f32) : Vec F S4096x1920 .bf16 :=
  truncf .bf16 (addf (rows p) (mulf (subf (before p) (rows p)) (everyRow u))) bitsLt_bf16_f32

end Generic

/-- The row of the array that a row of a sequence is. -/
def rowAt (b : Fin 2) (R : Fin 2048) : Fin 4096 := ⟨b.val * 2048 + R.val, by omega⟩

variable (p : Vec Ideal S4096x1920 .bf16) (u : Vec Ideal S1x1920 .f32) (b : Fin 2) (R : Fin 2048) (l : Fin 1920)

theorem before_apply : before p (ix2 (rowAt b R) l) = if R.val = 0 then 0 else p (ix2 (rowAt b ⟨R.val - 1, by omega⟩) l) := by
  pointwise [before, rows]
  by_cases e : R.val = 0
  · rw [dif_pos (by simp only [rowAt]; omega), if_pos e]
  · rw [dif_neg (by simp only [rowAt]; omega), if_neg e]
    refine congrArg p ?_
    blk_ext [rowAt]

theorem everyRow_apply (X : Fin 4096) : everyRow u (ix2 X l) = u (ix2 0 l) := by
  pointwise [everyRow]

theorem out_apply : out p u (ix2 (rowAt b R) l) = p (ix2 (rowAt b R) l)
    + ((if R.val = 0 then 0 else p (ix2 (rowAt b ⟨R.val - 1, by omega⟩) l)) - p (ix2 (rowAt b R) l)) * u (ix2 0 l) := by
  rw [← before_apply, ← everyRow_apply u l (rowAt b R)]
  rfl

end Cert.Shift.Plain

namespace Cert.Shift

open Idealize.ShloMosaic Idealize.ShloMosaic.TcCoe Idealize.SL Idealize.SL.Sem Cert.Kernel45Ideal Cert.Kernel45Ideal.Gen

theorem pay1_apply (p : Vec Ideal S2048x384 .bf16) (u : Vec Ideal S1x384 .f32) (r : Fin 2048) (k : Fin 384) :
    k0_pay1 p u (ix2 r k) = p (ix2 r k) + ((if r.val = 0 then 0 else p (ix2 ⟨r.val - 1, by omega⟩ k)) - p (ix2 r k)) * u (ix2 0 k) := by
  pointwise [k0_pay1]
  refine congrArg (fun x : EReal => p (ix2 r k) + (x - p (ix2 r k)) * u (ix2 0 k)) ?_
  rw [Fox.cmpi_eq_nat _ 0 (by omega) (by omega), Fox.select_one_if]
  by_cases e : r.val = 0
  · rw [if_pos e, if_pos e]
  · rw [if_neg e, if_neg e]
    refine congrArg (fun i => p (ix2 i k)) (Fin.ext ?_)
    dsimp only
    omega

variable (m : (ℓ : Loc nD τ sig) → Buf (Elt Ideal) ℓ) (c : Dev nD) (t : Fin cfg0.N)

/-- The arguments: the rows and the columns' shares. -/
abbrev argP : Vec Ideal S4096x1920 .bf16 := m ((c : Thread nD τ).loc main_arg0)
abbrev argU : Vec Ideal S1x1920 .f32 := m ((c : Thread nD τ).loc main_arg1)

theorem place : ∀ t : Fin cfg0.N,
    win0_0.index t = ![t.val % 2, t.val / 2] ∧ win0_1.index t = ![0, t.val / 2] ∧ win0_2.index t = ![t.val % 2, t.val / 2] := by
  show ∀ t : Fin grid0.N, _
  decide +kernel

/-- A point's sequence, and the column of the arrays that one of its blocks is. -/
def seq (t : Fin cfg0.N) : Fin 2 := ⟨t.val % 2, by omega⟩
def colOf (k : Fin 384) : Fin 1920 := ⟨t.val / 2 * 384 + k.val, by have := lt_of_lt_of_eq t.isLt N_0; omega⟩

theorem p_read (r : Fin 2048) (k : Fin 384) : (iblk m c 0 t : Vec Ideal S2048x384 .bf16) (ix2 r k) = argP m c (ix2 (Plain.rowAt (seq t) r) (colOf t k)) := by
  blk_ext [iblk, V, place t, seq, colOf, Plain.rowAt]

theorem u_read (k : Fin 384) : (iblk m c 1 t : Vec Ideal S1x384 .f32) (ix2 0 k) = argU m c (ix2 0 (colOf t k)) := by
  blk_ext [iblk, V, place t, colOf]

theorem emb_2 (r : Fin 2048) (k : Fin 384) : (win0_2.blk t).view.emb (ix2 r k) = ix2 (Plain.rowAt (seq t) r) (colOf t k) := by
  blk_ext [place t, seq, colOf, Plain.rowAt]

theorem arr_out : (dats m 0 c).arrAt 2 cfg0.N = Plain.out (argP m c) (argU m c) := by
  refine (dats m 0 c).arrAt_eq_of_covers 2 _ (by decide +kernel) fun t hf y => ?_
  blk_simp
  rw [after0_2]
  change S2048x384.Idx at y
  idx_vars y
  rw [emb_2, Plain.out_apply]
  have e : out0_2 (iblk m c 0 t) (iblk m c 1 t) = k0_pay1 (iblk m c 0 t) (iblk m c 1 t) := by
    frame_out
  rw [e]
  refine (pay1_apply _ _ y0 y1).trans ?_
  simp only [p_read, u_read]

end Cert.Shift

end
-- ==== Proof.ShiftBack.lean ====
/-
  The gradients of the token shift: of its rows and of the columns' shares.
-/
module

public import proofs.«01_k».proof.Proof.Shift
public import proofs.«01_k».proof.Proof.Norm
public import proofs.«01_k».proof.Proof.Gen.Pre_finite46
public import proofs.«01_k».proof.Proof.Whole
public import proofs.«01_k».proof.Proof.Gen.Kernel46Ideal.Value
public import proofs.«01_k».proof.Proof.Gen.Reference46Ideal.Run

@[expose] public section

set_option maxRecDepth 16384

noncomputable section

namespace Cert.ShiftBack.Plain

open Idealize.ShloMosaic Idealize.ShloMosaic.TcCoe Idealize.SL Idealize.SL.Sem Cert.Reference46Ideal Cert.Reference46Ideal.Gen
open Cert.Shift.Plain (rows before everyRow rowAt before_apply everyRow_apply)

section Generic

variable {F : FTy → Type} [FloatOps F] (p d : Vec F S4096x1920 .bf16) (u : Vec F S1x1920 .f32)

/-- The part of the gradient that goes to the row before. -/
def moved : Vec F S4096x1920 .f32 := mulf (rows d) (everyRow u)

def dp : Vec F S4096x1920 .bf16 :=
  truncf .bf16 (addf (addf (rows d) (Host.negf (moved d u))) (shapeCast S4096x1920 (pad S2x2048x1920 ![0, 0, 0] ![0, 1, 0] ![0, 0, 0]
    (extractStridedSlice S2x2047x1920 ![0, 1, 0] (shapeCast S2x2048x1920 (moved d u) shapeCasts_S4096x1920_S2x2048x1920) slices_S2x2048x1920_S2x2047x1920_0_1_0)
    (constant S_ .f32 0x00000000#32) pads_S2x2047x1920_S2x2048x1920_000_010_000 h_S_) shapeCasts_S2x2048x1920_S4096x1920)) bitsLt_bf16_f32

def du : Vec F S1x1920 .f32 :=
  shapeCast S1x1920 (Host.reduceAdd (mulf (subf (before p) (rows p)) (rows d)) (constant S_ .f32 0x00000000#32) reducesTo_S4096x1920_S1920_d0 h_S_) shapeCasts_S1920_S1x1920

end Generic

variable (p d : Vec Ideal S4096x1920 .bf16) (u : Vec Ideal S1x1920 .f32) (b : Fin 2) (R : Fin 2048) (l : Fin 1920)

theorem moved_apply (X : Fin 4096) : moved d u (ix2 X l) = d (ix2 X l) * u (ix2 0 l) := by
  rw [← everyRow_apply u l X]
  rfl

theorem dp_apply : dp d u (ix2 (rowAt b R) l) = d (ix2 (rowAt b R) l) + -(d (ix2 (rowAt b R) l) * u (ix2 0 l))
    + if h : R.val = 2047 then 0 else d (ix2 (rowAt b ⟨R.val + 1, by omega⟩) l) * u (ix2 0 l) := by
  pointwise [dp, rows, moved_apply]
  refine congrArg₂ (· + ·) rfl ?_
  by_cases e : R.val = 2047
  · rw [dif_neg (by simp only [rowAt]; omega), dif_pos e]
  · rw [dif_pos (by simp only [rowAt]; omega), dif_neg e]
    refine congrArg (fun i => d i * u (ix2 0 l)) ?_
    blk_ext [rowAt]

theorem du_apply : du p d (ix2 0 l) = ∑ b : Fin 2, ∑ R : Fin 2048,
    ((if R.val = 0 then 0 else p (ix2 (rowAt b ⟨R.val - 1, by omega⟩) l)) - p (ix2 (rowAt b R) l)) * d (ix2 (rowAt b R) l) := by
  pointwise [du]
  rw [Norm.sum_two 2048 2048 rfl, Fin.sum_univ_two]
  refine congrArg₂ _ (Finset.sum_congr rfl fun r _ => ?_) (Finset.sum_congr rfl fun r _ => ?_)
  all_goals
    rw [← before_apply]
    refine congrArg (fun i => (before p (ix2 i l) - p (ix2 i l)) * d (ix2 i l)) (Fin.ext ?_)
    simp only [rowAt]
    norm_num

end Cert.ShiftBack.Plain

namespace Cert.ShiftBack

open Idealize.ShloMosaic Idealize.ShloMosaic.TcCoe Idealize.SL Idealize.SL.Sem Cert.Kernel46Ideal Cert.Kernel46Ideal.Gen
open Cert.Shift.Plain (rowAt)

/-- What a real number keeps of itself, whatever the share. -/
theorem kept (r : ℝ) (u : EReal) : (r : EReal) * (1 - u) = r + -(r * u) := by
  induction u with
  | bot =>
    have e : (1 : EReal) - ⊥ = ⊤ := EReal.coe_sub_bot 1
    rw [e]
    rcases lt_trichotomy r 0 with h | h | h
    · simp [EReal.coe_mul_bot_of_neg h, EReal.coe_mul_top_of_neg h]
    · simp [h]
    · simp [EReal.coe_mul_bot_of_pos h, EReal.coe_mul_top_of_pos h]
  | top =>
    rcases lt_trichotomy r 0 with h | h | h
    · simp [EReal.coe_mul_bot_of_neg h, EReal.coe_mul_top_of_neg h]
    · simp [h]
    · simp [EReal.coe_mul_bot_of_pos h, EReal.coe_mul_top_of_pos h]
  | coe x =>
    norm_cast
    ring

theorem pay2_apply (u : Vec Ideal S1x384 .f32) (d : Vec Ideal S2048x384 .bf16) (r : Fin 2048) (k : Fin 384) :
    k0_pay2 u d (ix2 r k) = d (ix2 r k) * (1 - u (ix2 0 k)) + if h : r.val = 2047 then 0 else d (ix2 ⟨r.val + 1, by omega⟩ k) * u (ix2 0 k) := by
  pointwise [k0_pay2, k0_pay1]
  refine congrArg₂ (· + ·) rfl ?_
  rw [Fox.cmpi_eq_nat _ 2047 (by omega) (by omega), Fox.select_one_if]
  by_cases e : r.val = 2047
  · rw [if_pos e, dif_pos e]
  · rw [if_neg e, dif_neg e]
    refine congrArg (fun i => d (ix2 i k) * u (ix2 0 k)) (Fin.ext ?_)
    dsimp only
    omega

theorem pay3_apply (k : Fin 384) : (k0_pay3 : FVec Ideal S1x384 .f32) (ix2 0 k) = 0 := by
  pointwise [k0_pay3]

theorem pay4_apply (p d : Vec Ideal S2048x384 .bf16) (a : Vec Ideal S1x384 .f32) (k : Fin 384) : k0_pay4 p d a (ix2 0 k)
    = a (ix2 0 k) + ∑ r : Fin 2048, ((if r.val = 0 then 0 else p (ix2 ⟨r.val - 1, by omega⟩ k)) - p (ix2 r k)) * d (ix2 r k) := by
  pointwise [k0_pay4, k0_pay1]
  refine congrArg₂ (· + ·) rfl (Finset.sum_congr rfl fun r _ => (mul_comm _ _).trans ?_)
  refine congrArg (fun x : EReal => (x - p (ix2 r k)) * d (ix2 r k)) ?_
  rw [Fox.cmpi_eq_nat _ 0 (by omega) (by omega), Fox.select_one_if]
  by_cases e : r.val = 0
  · rw [if_pos e, if_pos e]
  · rw [if_neg e, if_neg e]
    refine congrArg (fun i => p (ix2 i k)) (Fin.ext ?_)
    dsimp only
    omega

variable (m : (ℓ : Loc nD τ sig) → Buf (Elt Ideal) ℓ) (c : Dev nD) (t : Fin cfg0.N)

/-- The arguments: the rows, the columns' shares, and the gradients of the shifted rows. -/
abbrev argP : Vec Ideal S4096x1920 .bf16 := m ((c : Thread nD τ).loc main_arg0)
abbrev argU : Vec Ideal S1x1920 .f32 := m ((c : Thread nD τ).loc main_arg1)
abbrev argD : Vec Ideal S4096x1920 .bf16 := m ((c : Thread nD τ).loc main_arg2)

theorem place : ∀ t : Fin cfg0.N,
    win0_0.index t = ![t.val % 2, t.val / 2] ∧ win0_1.index t = ![0, t.val / 2] ∧ win0_2.index t = ![t.val % 2, t.val / 2]
    ∧ win0_3.index t = ![t.val % 2, t.val / 2] ∧ win0_4.index t = ![0, t.val / 2] := by
  show ∀ t : Fin grid0.N, _
  decide +kernel

/-- A point's sequence, and the column of the arrays that one of its blocks is. -/
def seq (t : Fin cfg0.N) : Fin 2 := ⟨t.val % 2, by omega⟩
def colOf (k : Fin 384) : Fin 1920 := ⟨t.val / 2 * 384 + k.val, by have := lt_of_lt_of_eq t.isLt N_0; omega⟩

theorem p_read (r : Fin 2048) (k : Fin 384) : (iblk m c 0 t : Vec Ideal S2048x384 .bf16) (ix2 r k) = argP m c (ix2 (rowAt (seq t) r) (colOf t k)) := by
  blk_ext [iblk, V, place t, seq, colOf, rowAt]

theorem u_read (k : Fin 384) : (iblk m c 1 t : Vec Ideal S1x384 .f32) (ix2 0 k) = argU m c (ix2 0 (colOf t k)) := by
  blk_ext [iblk, V, place t, colOf]

theorem d_read (r : Fin 2048) (k : Fin 384) : (iblk m c 2 t : Vec Ideal S2048x384 .bf16) (ix2 r k) = argD m c (ix2 (rowAt (seq t) r) (colOf t k)) := by
  blk_ext [iblk, V, place t, seq, colOf, rowAt]

theorem emb_3 (r : Fin 2048) (k : Fin 384) : (win0_3.blk t).view.emb (ix2 r k) = ix2 (rowAt (seq t) r) (colOf t k) := by
  blk_ext [place t, seq, colOf, rowAt]

theorem emb_4 (k : Fin 384) : (win0_4.blk t).view.emb (ix2 0 k) = ix2 0 (colOf t k) := by
  blk_ext [place t, colOf]

/-- The gradients of the shifted rows are numbers. -/
def Real : Prop := ∀ i, ∃ r : ℝ, argD m c i = r

instance : Subsingleton Cert.Pre_finite46.S_.Idx := ⟨fun x y => funext fun a => a.elim0⟩

theorem reals_of (h : Cert.Pre_finite46.fn (F := Ideal) (argP m c) (argU m c) (argD m c) = fun _ => 1#1) : Real m c := by
  have h' := congrFun h ix0
  dsimp only [Cert.Pre_finite46.fn] at h'
  have e (i) := Host.reduce_andi_all _ _ _ _ _ h' i
  exact fun i => Fox.real_of_lt _ (by rw [← Fox.ofBits_greatest]; exact e i)

theorem dp_point (H : Real m c) (r : Fin 2048) (k : Fin 384) :
    k0_pay2 (iblk m c 1 t) (iblk m c 2 t) (ix2 r k) = Plain.dp (argD m c) (argU m c) (ix2 (rowAt (seq t) r) (colOf t k)) := by
  refine (pay2_apply _ _ r k).trans ?_
  rw [Plain.dp_apply]
  simp only [u_read, d_read]
  obtain ⟨x, hx⟩ := H (ix2 (rowAt (seq t) r) (colOf t k))
  rw [hx, kept]

theorem dp_each (H : Real m c) (r : Fin 2048) (k : Fin 384) :
    (outsAt0 m c t.val t.isLt).1 (ix2 r k) = Plain.dp (argD m c) (argU m c) (ix2 (rowAt (seq t) r) (colOf t k)) := by
  by_cases h : t.val % 2 = 0
  · rw [outsAt0_A m c t h]
    frame_out
    exact dp_point m c t H r k
  · rw [outsAt0_B m c t h]
    frame_out
    exact dp_point m c t H r k

theorem arr_dp (H : Real m c) : (dats m 0 c).arrAt 3 cfg0.N = Plain.dp (argD m c) (argU m c) := by
  refine (dats m 0 c).arrAt_eq_of_covers 3 _ (by decide +kernel) fun t hf y => ?_
  blk_simp
  rw [after0_3]
  change S2048x384.Idx at y
  idx_vars y
  rw [emb_3]
  exact dp_each m c t H y0 y1

/-- A point's part of the sum over the rows. -/
def part (k : Fin 384) : EReal := ∑ R : Fin 2048,
  ((if R.val = 0 then 0 else argP m c (ix2 (rowAt (seq t) ⟨R.val - 1, by omega⟩) (colOf t k))) - argP m c (ix2 (rowAt (seq t) R) (colOf t k))) * argD m c (ix2 (rowAt (seq t) R) (colOf t k))

theorem du_point (a : Vec Ideal S1x384 .f32) (k : Fin 384) : k0_pay4 (iblk m c 0 t) (iblk m c 2 t) a (ix2 0 k) = a (ix2 0 k) + part m c t k := by
  refine (pay4_apply _ _ a k).trans ?_
  simp only [p_read, d_read]
  rfl

/-- The first sequence leaves its part, -/
theorem first (h : t.val % 2 = 0) (k : Fin 384) : (outsAt0 m c t.val t.isLt).2 (ix2 0 k) = part m c t k := by
  rw [outsAt0_A m c t h]
  frame_out
  exact (du_point m c t _ k).trans (by rw [pay3_apply, zero_add])

/-- the second the sum. -/
theorem last (h : t.val % 2 = 1) (k : Fin 384) : (outsAt0 m c t.val t.isLt).2 (ix2 0 k) = Plain.du (argP m c) (argD m c) (ix2 0 (colOf t k)) := by
  have N := lt_of_lt_of_eq t.isLt N_0
  have f := first m c ⟨t.val - 1, lt_of_le_of_lt (Nat.sub_le _ _) t.isLt⟩ (by dsimp only; omega) k
  have e0 : seq ⟨t.val - 1, lt_of_le_of_lt (Nat.sub_le _ _) t.isLt⟩ = 0 := Fin.ext (by simp only [seq]; omega)
  have e1 : seq t = 1 := Fin.ext (by simp only [seq]; omega)
  have ec : colOf ⟨t.val - 1, lt_of_le_of_lt (Nat.sub_le _ _) t.isLt⟩ k = colOf t k := Fin.ext (by simp only [colOf]; omega)
  simp only [part, e0, ec] at f
  rw [outsAt0_B m c t (by omega), Plain.du_apply, Fin.sum_univ_two]
  frame_out
  refine (du_point m c t _ k).trans ((congrArg (· + part m c t k) f).trans ?_)
  simp only [part, e1]

theorem arr_du : (dats m 0 c).arrAt 4 cfg0.N = Plain.du (argP m c) (argD m c) := by
  refine (dats m 0 c).arrAt_eq_of_covers 4 _ (by decide +kernel) fun t hf y => ?_
  blk_simp
  rw [after0_4]
  change S1x384.Idx at y
  idx_vars y
  obtain rfl := Fin.eq_zero y0
  rw [emb_4]
  exact last m c t (flush0_4 t |>.1 hf) y1

end Cert.ShiftBack

end
-- ==== Proof.MemGrad.lean ====
/-
  The gradients of the attention to the memory: of its queries, its keys and its values.
-/
module

public import proofs.«01_k».proof.Proof.MemAttn
public import proofs.«01_k».proof.Proof.Gen.Kernel47Ideal.Value
public import proofs.«01_k».proof.Proof.Gen.Reference47Ideal.Run

@[expose] public section

set_option maxRecDepth 16384

noncomputable section

/-! ### One query's part in the gradients -/

namespace Cert.MemRow

open Idealize.ShloMosaic

variable (q g : Fin 128 → EReal) (k v : Fin 256 → Fin 128 → EReal) (C : Fin 256) (d : Fin 128)

/-- The gradient of a probability, `g` that of the query's output, -/
def dprob : EReal := ∑ d, g d * v C d

/-- what a query's weights all lose for their sum's part in the probabilities, -/
def drop : EReal := -∑ C, dprob g v C * Ideal.div 1 (mass q k * mass q k) * weight q k C

/-- the gradient of a scalar product of the query with a key. -/
def dscore : EReal := (Ideal.div (dprob g v C) (mass q k) + drop q g k v) * weight q k C * Ideal.ofBits .f32 0x3DB504F3#32

end Cert.MemRow

namespace Cert.MemGrad.Plain

open Idealize.ShloMosaic Idealize.ShloMosaic.TcCoe Idealize.SL Idealize.SL.Sem Cert.Reference47Ideal Cert.Reference47Ideal.Gen
open Cert.MemAttn.Plain (queries keys vals weight mass prob rowAt keyAt colAt kCol vCol qRow kRows vRows queries_apply keys_apply vals_apply weight_apply mass_apply prob_apply)

section Generic

variable {F : FTy → Type} [FloatOps F] (q : Vec F S4096x512 .bf16) (kv : Vec F S512x1024 .f32) (g : Vec F S4096x512 .f32)

/-- The gradients of the outputs by heads, and of the probabilities. -/
def dout : Vec F S2x4x128x2048 .f32 := transpose S2x4x128x2048 [0, 2, 3, 1] (shapeCast S2x2048x4x128 g shapeCasts_S4096x512_S2x2048x4x128) transposes_S2x2048x4x128_S2x4x128x2048_0_2_3_1

def dprob : Vec F S2x4x2048x256 .f32 := Host.dotGeneral dot_S2x4x128x2048_S2x256x4x128_S2x4x2048x256_2_3_3_1_01_02 none (dout g) (vals kv)

def massCol : Vec F S2x4x2048x1 .f32 := broadcastInDim S2x4x2048x1 ![0, 1, 2] bcast_S2x4x2048_S2x4x2048x1_0_1_2 (mass q kv)

/-- A column of one element a query, for every key. -/
def wide (x : Vec F S2x4x2048x1 .f32) : Vec F S2x4x2048x256 .f32 := broadcastInDim S2x4x2048x256 ![0, 1, 2, 3] bcast_S2x4x2048x1_S2x4x2048x256_0_1_2_3 x

def inner : Vec F S2x4x2048 .f32 :=
  Host.reduceAdd (mulf (mulf (dprob kv g) (wide (Host.divf (broadcastInDim S2x4x2048x1 ![] bcast_S_S2x4x2048x1 (constant S_ .f32 0x3F800000#32)) (mulf (massCol q kv) (massCol q kv)))))
    (weight q kv)) (constant S_ .f32 0x00000000#32) reducesTo_S2x4x2048x256_S2x4x2048_d3 h_S_

def drop : Vec F S2x4x2048 .f32 :=
  Host.reduceAdd (Host.negf (shapeCast S2x4x2048x1 (inner q kv g) shapeCasts_S2x4x2048_S2x4x2048x1)) (constant S_ .f32 0x00000000#32) reducesTo_S2x4x2048x1_S2x4x2048_d3 h_S_

def dscore : Vec F S2x4x2048x256 .f32 :=
  mulf (mulf (addf (Host.divf (dprob kv g) (wide (massCol q kv))) (broadcastInDim S2x4x2048x256 ![0, 1, 2] bcast_S2x4x2048_S2x4x2048x256_0_1_2 (drop q kv g))) (weight q kv))
    (broadcastInDim S2x4x2048x256 ![] bcast_S_S2x4x2048x256 (constant S_ .f32 0x3DB504F3#32))

def dq : Vec F S4096x512 .bf16 :=
  truncf .bf16 (shapeCast S4096x512 (transpose S2x2048x4x128 [0, 2, 1, 3] (Host.dotGeneral dot_S2x4x2048x256_S2x256x4x128_S2x4x2048x128_3_1_2_3_01_02 none (dscore q kv g) (keys kv))
    transposes_S2x4x2048x128_S2x2048x4x128_0_2_1_3) shapeCasts_S2x2048x4x128_S4096x512) bitsLt_bf16_f32

/-- The gradients of the keys and of the values, each in its half of the columns. -/
def dkv : Vec F S512x1024 .f32 :=
  addf (pad S512x1024 ![0, 512] ![0, 0] ![0, 0] (shapeCast S512x512 (transpose S2x256x4x128 [0, 3, 1, 2] (Host.dotGeneral dot_S2x4x128x2048_S2x4x2048x256_S2x4x128x256_3_2_2_3_01_01 none
      (dout g) (prob q kv)) transposes_S2x4x128x256_S2x256x4x128_0_3_1_2) shapeCasts_S2x256x4x128_S512x512) (constant S_ .f32 0x00000000#32) pads_S512x512_S512x1024_000_51200 h_S_)
    (pad S512x1024 ![0, 0] ![0, 512] ![0, 0] (shapeCast S512x512 (transpose S2x256x4x128 [0, 2, 1, 3] (Host.dotGeneral dot_S2x4x2048x256_S2x2048x4x128_S2x4x256x128_2_1_3_3_01_02 none
      (dscore q kv g) (queries q)) transposes_S2x4x256x128_S2x256x4x128_0_2_1_3) shapeCasts_S2x256x4x128_S512x512) (constant S_ .f32 0x00000000#32) pads_S512x512_S512x1024_000_05120 h_S_)

def dk : Vec F S512x512 .f32 := extractStridedSlice S512x512 ![0, 0] (dkv q kv g) slices_S512x1024_S512x512_0_0

def dv : Vec F S512x512 .f32 := extractStridedSlice S512x512 ![0, 512] (dkv q kv g) slices_S512x1024_S512x512_0_512

end Generic

variable (q : Vec Ideal S4096x512 .bf16) (kv : Vec Ideal S512x1024 .f32) (g : Vec Ideal S4096x512 .f32)
  (b : Fin 2) (h : Fin 4) (R : Fin 2048) (C : Fin 256) (d : Fin 128)

/-- The gradient of a query's output. -/
abbrev gRow : Fin 128 → EReal := fun d => g (ix2 (rowAt b R) (colAt h d))

theorem dout_apply : dout g (ix4 b h d R) = gRow g b h R d := by
  pointwise [dout]
  refine congrArg g ?_
  blk_ext [rowAt, colAt]

theorem dprob_apply : dprob kv g (ix4 b h R C) = MemRow.dprob (gRow g b h R) (vRows kv b h) C := by
  pointwise [dprob]
  simp only [dout_apply, vals_apply]
  rfl

theorem inner_apply : inner q kv g (ix3 b h R) = ∑ C, MemRow.dprob (gRow g b h R) (vRows kv b h) C
    * Ideal.div 1 (MemRow.mass (qRow q b h R) (kRows kv b h) * MemRow.mass (qRow q b h R) (kRows kv b h)) * MemRow.weight (qRow q b h R) (kRows kv b h) C := by
  pointwise [inner, wide, massCol]
  simp only [dprob_apply, mass_apply, weight_apply]

theorem drop_apply : drop q kv g (ix3 b h R) = MemRow.drop (qRow q b h R) (gRow g b h R) (kRows kv b h) (vRows kv b h) := by
  pointwise [drop]
  refine (Fin.sum_univ_one _).trans (congrArg Neg.neg (Eq.trans (congrArg (inner q kv g) ?_) (inner_apply q kv g b h R)))
  blk_ext []

theorem dscore_apply : dscore q kv g (ix4 b h R C) = MemRow.dscore (qRow q b h R) (gRow g b h R) (kRows kv b h) (vRows kv b h) C := by
  pointwise [dscore, wide, massCol]
  rw [dprob_apply, mass_apply, drop_apply, weight_apply]
  rfl

theorem dq_apply : dq q kv g (ix2 (rowAt b R) (colAt h d)) = ∑ C, MemRow.dscore (qRow q b h R) (gRow g b h R) (kRows kv b h) (vRows kv b h) C * kRows kv b h C d := by
  pointwise [dq]
  refine Finset.sum_congr rfl fun C _ => congrArg₂ (· * ·) (Eq.trans (congrArg (dscore q kv g) ?_) (dscore_apply q kv g b h R C))
    (Eq.trans (congrArg (keys kv) ?_) (keys_apply kv b h C d))
  all_goals blk_ext [rowAt, colAt]

theorem dk_apply : dk q kv g (ix2 (keyAt b C) (colAt h d)) = ∑ R, MemRow.dscore (qRow q b h R) (gRow g b h R) (kRows kv b h) (vRows kv b h) C * qRow q b h R d := by
  pointwise [dk, dkv]
  rw [dif_neg fun e => e.1, zero_add]
  refine Finset.sum_congr rfl fun R _ => congrArg₂ (· * ·) (Eq.trans (congrArg (dscore q kv g) ?_) (dscore_apply q kv g b h R C))
    (Eq.trans (congrArg (queries q) ?_) (queries_apply q b h R d))
  all_goals blk_ext [keyAt, colAt]

theorem dv_apply : dv q kv g (ix2 (keyAt b C) (colAt h d)) = ∑ R, gRow g b h R d * MemRow.prob (qRow q b h R) (kRows kv b h) C := by
  pointwise [dv, dkv]
  refine Finset.sum_congr rfl fun R _ => congrArg₂ (· * ·) (Eq.trans (congrArg (dout g) ?_) (dout_apply g b h R d))
    (Eq.trans (congrArg (prob q kv) ?_) (prob_apply q kv b h R C))
  all_goals blk_ext [keyAt, colAt]

end Cert.MemGrad.Plain

namespace Cert.MemGrad

open Idealize.ShloMosaic Idealize.ShloMosaic.TcCoe Idealize.SL Idealize.SL.Sem Cert.Kernel47Ideal Cert.Kernel47Ideal.Gen
open Cert.MemAttn.Plain (rowAt keyAt colAt kCol vCol qRow kRows vRows ofBits_least)
open Plain (gRow)

section Payloads

variable (q : Vec Ideal S1024x128 .bf16) (k v : Vec Ideal S256x128 .f32) (g : Vec Ideal S1024x128 .f32) (r : Fin 1024) (C : Fin 256) (d : Fin 128)

theorem pay8_apply : k0_pay8 q k (ix2 r C) = MemRow.weight (fun d => q (ix2 r d)) (fun C d => k (ix2 C d)) C := by
  pointwise [k0_pay8, k0_pay7]
  simp only [ofBits_least]
  rfl

theorem pay9_apply : k0_pay9 q k (ix2 r 0) = MemRow.mass (fun d => q (ix2 r d)) (fun C d => k (ix2 C d)) := by
  pointwise [k0_pay9]
  simp only [pay8_apply]
  rfl

theorem pay10_apply : k0_pay10 v g (ix2 r C) = MemRow.dprob (fun d => g (ix2 r d)) (fun C d => v (ix2 C d)) C := by
  pointwise [k0_pay10]
  rfl

theorem pay11_apply : k0_pay11 q k g (ix2 C d) = ∑ r, g (ix2 r d) * MemRow.prob (fun d => q (ix2 r d)) (fun C d => k (ix2 C d)) C := by
  pointwise [k0_pay11]
  simp only [pay8_apply, pay9_apply]
  exact Finset.sum_congr rfl fun r _ => mul_comm _ _

theorem pay12_apply : k0_pay12 q k v g (ix2 r C) = Ideal.div (MemRow.dprob (fun d => g (ix2 r d)) (fun C d => v (ix2 C d)) C) (MemRow.mass (fun d => q (ix2 r d)) (fun C d => k (ix2 C d))) := by
  pointwise [k0_pay12]
  rw [pay9_apply, pay10_apply]

theorem pay13_apply : k0_pay13 q k v g (ix2 r 0) = MemRow.drop (fun d => q (ix2 r d)) (fun d => g (ix2 r d)) (fun C d => k (ix2 C d)) (fun C d => v (ix2 C d)) := by
  pointwise [k0_pay13]
  simp only [pay8_apply, pay9_apply, pay10_apply]
  exact (Fin.sum_univ_one _).trans (zero_sub _)

theorem pay1_apply : k0_pay1 (k0_pay8 q k) (k0_pay12 q k v g) (k0_pay13 q k v g) (ix2 r C)
    = MemRow.dscore (fun d => q (ix2 r d)) (fun d => g (ix2 r d)) (fun C d => k (ix2 C d)) (fun C d => v (ix2 C d)) C := by
  pointwise [k0_pay1]
  rw [pay8_apply, pay12_apply, pay13_apply]
  rfl

theorem pay2_apply : k0_pay2 k (k0_pay8 q k) (k0_pay12 q k v g) (k0_pay13 q k v g) (ix2 r d)
    = ∑ C, MemRow.dscore (fun d => q (ix2 r d)) (fun d => g (ix2 r d)) (fun C d => k (ix2 C d)) (fun C d => v (ix2 C d)) C * k (ix2 C d) := by
  pointwise [k0_pay2]
  simp only [pay1_apply]

theorem pay3_apply : (k0_pay3 : FVec Ideal S256x128 .f32) (ix2 C d) = 0 := by
  pointwise [k0_pay3]

theorem pay4_apply : (k0_pay4 : FVec Ideal S256x128 .f32) (ix2 C d) = 0 := by
  pointwise [k0_pay4]

theorem pay5_apply (a : Vec Ideal S256x128 .f32) : k0_pay5 (k0_pay7 q) (k0_pay8 q k) (k0_pay12 q k v g) (k0_pay13 q k v g) a (ix2 C d)
    = a (ix2 C d) + ∑ r, MemRow.dscore (fun d => q (ix2 r d)) (fun d => g (ix2 r d)) (fun C d => k (ix2 C d)) (fun C d => v (ix2 C d)) C * q (ix2 r d) := by
  pointwise [k0_pay5]
  simp only [pay1_apply]
  pointwise [k0_pay7]

theorem pay6_apply (x a : Vec Ideal S256x128 .f32) : k0_pay6 x a (ix2 C d) = a (ix2 C d) + x (ix2 C d) := by
  pointwise [k0_pay6]

end Payloads

variable (m : (ℓ : Loc nD τ sig) → Buf (Elt Ideal) ℓ) (c : Dev nD) (t : Fin cfg0.N)

/-- The arguments: the queries, the keys and values of the memory, and the gradients of the outputs. -/
abbrev argQ : Vec Ideal S4096x512 .bf16 := m ((c : Thread nD τ).loc main_arg0)
abbrev argK : Vec Ideal S512x1024 .f32 := m ((c : Thread nD τ).loc main_arg1)
abbrev argG : Vec Ideal S4096x512 .f32 := m ((c : Thread nD τ).loc main_arg2)

theorem place : ∀ t : Fin cfg0.N,
    win0_0.index t = ![t.val / 8 * 2 + t.val % 2, t.val / 2 % 4] ∧ win0_1.index t = ![t.val / 8, t.val / 2 % 4]
    ∧ win0_2.index t = ![t.val / 8, 4 + t.val / 2 % 4] ∧ win0_3.index t = ![t.val / 8 * 2 + t.val % 2, t.val / 2 % 4]
    ∧ win0_4.index t = ![t.val / 8 * 2 + t.val % 2, t.val / 2 % 4] ∧ win0_5.index t = ![t.val / 8, t.val / 2 % 4]
    ∧ win0_6.index t = ![t.val / 8, t.val / 2 % 4] := by
  show ∀ t : Fin grid0.N, _
  decide +kernel

/-- A point's batch and head, and the query that a row of its block is. -/
def batch : Fin 2 := ⟨t.val / 8, by have := lt_of_lt_of_eq t.isLt N_0; omega⟩
def head : Fin 4 := ⟨t.val / 2 % 4, by omega⟩
def query (r : Fin 1024) : Fin 2048 := ⟨t.val % 2 * 1024 + r.val, by omega⟩

theorem q_read (r : Fin 1024) (d : Fin 128) : (iblk m c 0 t : Vec Ideal S1024x128 .bf16) (ix2 r d) = qRow (argQ m c) (batch t) (head t) (query t r) d := by
  blk_ext [iblk, V, place t, batch, head, query, rowAt, colAt]

theorem k_read (C : Fin 256) (d : Fin 128) : (iblk m c 1 t : Vec Ideal S256x128 .f32) (ix2 C d) = kRows (argK m c) (batch t) (head t) C d := by
  blk_ext [iblk, V, place t, batch, head, keyAt, kCol]

theorem v_read (C : Fin 256) (d : Fin 128) : (iblk m c 2 t : Vec Ideal S256x128 .f32) (ix2 C d) = vRows (argK m c) (batch t) (head t) C d := by
  blk_ext [iblk, V, place t, batch, head, keyAt, vCol]

theorem g_read (r : Fin 1024) (d : Fin 128) : (iblk m c 3 t : Vec Ideal S1024x128 .f32) (ix2 r d) = gRow (argG m c) (batch t) (head t) (query t r) d := by
  blk_ext [iblk, V, place t, batch, head, query, rowAt, colAt]

theorem emb_4 (r : Fin 1024) (d : Fin 128) : (win0_4.blk t).view.emb (ix2 r d) = ix2 (rowAt (batch t) (query t r)) (colAt (head t) d) := by
  blk_ext [place t, batch, head, query, rowAt, colAt]

theorem emb_5 (C : Fin 256) (d : Fin 128) : (win0_5.blk t).view.emb (ix2 C d) = ix2 (keyAt (batch t) C) (colAt (head t) d) := by
  blk_ext [place t, batch, head, keyAt, colAt]

theorem emb_6 (C : Fin 256) (d : Fin 128) : (win0_6.blk t).view.emb (ix2 C d) = ix2 (keyAt (batch t) C) (colAt (head t) d) := by
  blk_ext [place t, batch, head, keyAt, colAt]

/-- The gradient of a scalar product of a query of a point's head with a key. -/
def ds (R : Fin 2048) (C : Fin 256) : EReal :=
  MemRow.dscore (qRow (argQ m c) (batch t) (head t) R) (gRow (argG m c) (batch t) (head t) R) (kRows (argK m c) (batch t) (head t)) (vRows (argK m c) (batch t) (head t)) C

theorem dq_point (r : Fin 1024) (d : Fin 128) : k0_pay2 (iblk m c 1 t) (k0_pay8 (iblk m c 0 t) (iblk m c 1 t)) (k0_pay12 (iblk m c 0 t) (iblk m c 1 t) (iblk m c 2 t) (iblk m c 3 t))
    (k0_pay13 (iblk m c 0 t) (iblk m c 1 t) (iblk m c 2 t) (iblk m c 3 t)) (ix2 r d) = Plain.dq (argQ m c) (argK m c) (argG m c) (ix2 (rowAt (batch t) (query t r)) (colAt (head t) d)) := by
  refine (pay2_apply _ _ _ _ r d).trans ?_
  rw [Plain.dq_apply]
  simp only [q_read, k_read, v_read, g_read]

theorem dq_each : ∀ (r : Fin 1024) (d : Fin 128), (outsAt0 m c t.val t.isLt).1 (ix2 r d) = Plain.dq (argQ m c) (argK m c) (argG m c) (ix2 (rowAt (batch t) (query t r)) (colAt (head t) d)) := by
  intro r d
  by_cases h : t.val % 2 = 0
  · rw [outsAt0_A m c t h]
    frame_out
    exact dq_point m c t r d
  · rw [outsAt0_B m c t h]
    frame_out
    exact dq_point m c t r d

theorem arr_dq : (dats m 0 c).arrAt 4 cfg0.N = Plain.dq (argQ m c) (argK m c) (argG m c) := by
  refine (dats m 0 c).arrAt_eq_of_covers 4 _ (by decide +kernel) fun t hf y => ?_
  blk_simp
  rw [after0_4]
  change S1024x128.Idx at y
  idx_vars y
  rw [emb_4]
  exact dq_each m c t y0 y1

/-- A point's parts of the sums over the queries. -/
def partK (C : Fin 256) (d : Fin 128) : EReal := ∑ r, ds m c t (query t r) C * qRow (argQ m c) (batch t) (head t) (query t r) d

def partV (C : Fin 256) (d : Fin 128) : EReal := ∑ r, gRow (argG m c) (batch t) (head t) (query t r) d
  * MemRow.prob (qRow (argQ m c) (batch t) (head t) (query t r)) (kRows (argK m c) (batch t) (head t)) C

theorem dk_point (a : Vec Ideal S256x128 .f32) (C : Fin 256) (d : Fin 128) : k0_pay5 (k0_pay7 (iblk m c 0 t)) (k0_pay8 (iblk m c 0 t) (iblk m c 1 t))
    (k0_pay12 (iblk m c 0 t) (iblk m c 1 t) (iblk m c 2 t) (iblk m c 3 t)) (k0_pay13 (iblk m c 0 t) (iblk m c 1 t) (iblk m c 2 t) (iblk m c 3 t)) a (ix2 C d) = a (ix2 C d) + partK m c t C d := by
  refine (pay5_apply _ _ _ _ C d a).trans ?_
  simp only [q_read, k_read, v_read, g_read]
  rfl

theorem dv_point (a : Vec Ideal S256x128 .f32) (C : Fin 256) (d : Fin 128) : k0_pay6 (k0_pay11 (iblk m c 0 t) (iblk m c 1 t) (iblk m c 3 t)) a (ix2 C d) = a (ix2 C d) + partV m c t C d := by
  refine (pay6_apply C d _ a).trans (congrArg _ ((pay11_apply _ _ _ C d).trans ?_))
  simp only [q_read, k_read, g_read]
  rfl

/-- The first point of a head leaves its parts, -/
theorem first (h : t.val % 2 = 0) (C : Fin 256) (d : Fin 128) :
    (outsAt0 m c t.val t.isLt).2.1 (ix2 C d) = partK m c t C d ∧ (outsAt0 m c t.val t.isLt).2.2 (ix2 C d) = partV m c t C d := by
  rw [outsAt0_A m c t h]
  constructor
  · frame_out
    exact (dk_point m c t _ C d).trans (by rw [pay3_apply, zero_add])
  · frame_out
    exact (dv_point m c t _ C d).trans (by rw [pay4_apply, zero_add])

/-- the second the sums. -/
theorem last (h : t.val % 2 = 1) (C : Fin 256) (d : Fin 128) :
    (outsAt0 m c t.val t.isLt).2.1 (ix2 C d) = Plain.dk (argQ m c) (argK m c) (argG m c) (ix2 (keyAt (batch t) C) (colAt (head t) d))
    ∧ (outsAt0 m c t.val t.isLt).2.2 (ix2 C d) = Plain.dv (argQ m c) (argK m c) (argG m c) (ix2 (keyAt (batch t) C) (colAt (head t) d)) := by
  have N := lt_of_lt_of_eq t.isLt N_0
  have f := first m c ⟨t.val - 1, lt_of_le_of_lt (Nat.sub_le _ _) t.isLt⟩ (by dsimp only; omega) C d
  have eb : batch ⟨t.val - 1, lt_of_le_of_lt (Nat.sub_le _ _) t.isLt⟩ = batch t := Fin.ext (by simp only [batch]; omega)
  have eh : head ⟨t.val - 1, lt_of_le_of_lt (Nat.sub_le _ _) t.isLt⟩ = head t := Fin.ext (by simp only [head]; omega)
  have e0 (r : Fin 1024) : query ⟨t.val - 1, lt_of_le_of_lt (Nat.sub_le _ _) t.isLt⟩ r = ⟨r.val, by omega⟩ := Fin.ext (by simp only [query]; omega)
  have e1 (r : Fin 1024) : query t r = ⟨1024 + r.val, by omega⟩ := Fin.ext (by simp only [query]; omega)
  simp only [partK, partV, ds, eb, eh, e0] at f
  rw [outsAt0_B m c t (by omega), Plain.dk_apply, Plain.dv_apply, Norm.sum_two 1024 1024 rfl, Norm.sum_two 1024 1024 rfl]
  constructor
  · frame_out
    refine (dk_point m c t _ C d).trans ((congrArg (· + partK m c t C d) f.1).trans ?_)
    simp only [partK, ds, e1]
  · frame_out
    refine (dv_point m c t _ C d).trans ((congrArg (· + partV m c t C d) f.2).trans ?_)
    simp only [partV, e1]

theorem arr_dk : (dats m 0 c).arrAt 5 cfg0.N = Plain.dk (argQ m c) (argK m c) (argG m c) := by
  refine (dats m 0 c).arrAt_eq_of_covers 5 _ (by decide +kernel) fun t hf y => ?_
  blk_simp
  rw [after0_5]
  change S256x128.Idx at y
  idx_vars y
  rw [emb_5]
  exact (last m c t (flush0_5 t |>.1 hf) y0 y1).1

theorem arr_dv : (dats m 0 c).arrAt 6 cfg0.N = Plain.dv (argQ m c) (argK m c) (argG m c) := by
  refine (dats m 0 c).arrAt_eq_of_covers 6 _ (by decide +kernel) fun t hf y => ?_
  blk_simp
  rw [after0_6]
  change S256x128.Idx at y
  idx_vars y
  rw [emb_6]
  exact (last m c t (flush0_6 t |>.1 hf) y0 y1).2

end Cert.MemGrad

end
-- ==== Proof.lean ====
/-
  The claims: of each call of the block named in Defs, that its kernel and the plain reference return the same values from equal
  arguments.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_finite
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel6.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Gen.Kernel31.Frame
public import proofs.«01_k».proof.Proof.Gen.Kernel32.Frame
public import proofs.«01_k».proof.Proof.Gen.Kernel33.Frame
public import proofs.«01_k».proof.Proof.Gen.Kernel34.Frame
public import proofs.«01_k».proof.Proof.Gen.Kernel35.Frame
public import proofs.«01_k».proof.Proof.Gen.Kernel36.Frame
public import proofs.«01_k».proof.Proof.Gen.Kernel37.Frame
public import proofs.«01_k».proof.Proof.Gen.Kernel38.Frame
public import proofs.«01_k».proof.Proof.Gen.Kernel39.Frame
public import proofs.«01_k».proof.Proof.Gen.Kernel40.Frame
public import proofs.«01_k».proof.Proof.Gen.Kernel41.Frame
public import proofs.«01_k».proof.Proof.Gen.Kernel42.Frame
public import proofs.«01_k».proof.Proof.Gen.Kernel43.Frame
public import proofs.«01_k».proof.Proof.Gen.Kernel44.Frame
public import proofs.«01_k».proof.Proof.Gen.Kernel45.Frame
public import proofs.«01_k».proof.Proof.Gen.Kernel46.Frame
public import proofs.«01_k».proof.Proof.Gen.Kernel47.Frame
public import proofs.«01_k».proof.Proof.Plain
public import proofs.«01_k».proof.Proof.Whole
public import proofs.«01_k».proof.Proof.DxWhole
public import proofs.«01_k».proof.Proof.Down
public import proofs.«01_k».proof.Proof.UpWhole
public import proofs.«01_k».proof.Proof.FfnDw
public import proofs.«01_k».proof.Proof.Merge
public import proofs.«01_k».proof.Proof.FfnIn
public import proofs.«01_k».proof.Proof.FfnBack
public import proofs.«01_k».proof.Proof.GateDw
public import proofs.«01_k».proof.Proof.ProjGate
public import proofs.«01_k».proof.Proof.FfnOut
public import proofs.«01_k».proof.Proof.AdamSmall
public import proofs.«01_k».proof.Proof.AdamIn
public import proofs.«01_k».proof.Proof.AdamMemKv
public import proofs.«01_k».proof.Proof.AdamFfnGate
public import proofs.«01_k».proof.Proof.AdamFfnUp
public import proofs.«01_k».proof.Proof.AdamFfnDown
public import proofs.«01_k».proof.Proof.AdamO
public import proofs.«01_k».proof.Proof.AdamFoxOut
public import proofs.«01_k».proof.Proof.AdamRwkvOut
public import proofs.«01_k».proof.Proof.AdamMemOut
public import proofs.«01_k».proof.Proof.AdamWUp
public import proofs.«01_k».proof.Proof.AdamAUp
public import proofs.«01_k».proof.Proof.AdamGUp
public import proofs.«01_k».proof.Proof.QkvDw
public import proofs.«01_k».proof.Proof.RwkvDw
public import proofs.«01_k».proof.Proof.MixDw
public import proofs.«01_k».proof.Proof.ODw
public import proofs.«01_k».proof.Proof.ProjQkv
public import proofs.«01_k».proof.Proof.ProjMem
public import proofs.«01_k».proof.Proof.MixOut
public import proofs.«01_k».proof.Proof.MixBack
public import proofs.«01_k».proof.Proof.OutO
public import proofs.«01_k».proof.Proof.ProjRwkv
public import proofs.«01_k».proof.Proof.Final
public import proofs.«01_k».proof.Proof.MemKv
public import proofs.«01_k».proof.Proof.MemDw
public import proofs.«01_k».proof.Proof.MemBack
public import proofs.«01_k».proof.Proof.ProjForget
public import proofs.«01_k».proof.Proof.ForgetDw
public import proofs.«01_k».proof.Proof.MemNorm
public import proofs.«01_k».proof.Proof.Post
public import proofs.«01_k».proof.Proof.MemAttn
public import proofs.«01_k».proof.Proof.Shift
public import proofs.«01_k».proof.Proof.ShiftBack
public import proofs.«01_k».proof.Proof.MemGrad
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference ends with its arguments as they were; it has no semaphore. -/
theorem reference_frame : Cert.quiescent_ReferenceIdeal := fun m ρ _ =>
  (θ_run _ _ _).mono (fun r h => ⟨fun c => (h c).2.2.2.2.2, sem_eq_zero_of_no_sems rfl r.2⟩) (ReferenceIdeal.Value.run m ρ)

/-! The same of the other references. -/

theorem reference2_frame : Cert.quiescent_Reference2Ideal := fun m ρ _ =>
  (θ_run _ _ _).mono (fun r h => ⟨fun c => (h c).2.2, sem_eq_zero_of_no_sems rfl r.2⟩) (Reference2Ideal.Value.run m ρ)

theorem reference3_frame : Cert.quiescent_Reference3Ideal := fun m ρ _ =>
  (θ_run _ _ _).mono (fun r h => ⟨fun c => (h c).2.2, sem_eq_zero_of_no_sems rfl r.2⟩) (Reference3Ideal.Value.run m ρ)

theorem reference4_frame : Cert.quiescent_Reference4Ideal := fun m ρ _ =>
  (θ_run _ _ _).mono (fun r h => ⟨fun c => (h c).2.2.2.2, sem_eq_zero_of_no_sems rfl r.2⟩) (Reference4Ideal.Value.run m ρ)

/-- From equal real arguments the kernel and the reference return the same five gradients. -/
theorem equal : Cert.algebraic_KernelIdeal_ReferenceIdeal_pre_finite := by
  intro m ρ m' ρ' hpre hargs
  refine ⟨fun c => Fox.Plain.dq (Fox.argA m c) (Fox.argB m c) (Fox.argD m c), fun c => Fox.Plain.dk (Fox.argA m c) (Fox.argB m c) (Fox.argD m c),
    fun c => Fox.Plain.dv (Fox.argA m c) (Fox.argB m c) (Fox.argD m c), fun c => Fox.Plain.dcq (Fox.argA m c) (Fox.argB m c) (Fox.argD m c),
    fun c => Fox.Plain.dck (Fox.argA m c) (Fox.argB m c) (Fox.argD m c), ?_, ?_⟩
  · refine (θ_run _ _ _).mono (fun r h c => ?_) (KernelIdeal.Value.run_blocks m ρ)
    obtain ⟨h0, h1, h2, h3, h4, ha⟩ := h c
    obtain ⟨a, g, o, H⟩ := Fox.reals_of (A := Fox.argA m c) (B := Fox.argB m c) (D := Fox.argD m c) (hpre c)
    exact ⟨h0.trans ((Fox.arr_dq m c).trans (Fox.dq_whole H)), h1.trans ((Fox.arr_dk m c).trans (Fox.dk_whole H)),
      h2.trans ((Fox.arr_dv m c).trans (Fox.dv_whole H)), h3.trans ((Fox.arr_dcq m c).trans (Fox.dcq_whole H)),
      h4.trans ((Fox.arr_dck m c).trans (Fox.dck_whole H)), ha⟩
  · refine (θ_run _ _ _).mono (fun r h c => ?_) (ReferenceIdeal.Value.run m' ρ')
    obtain ⟨h0, h1, h2, h3, h4, ha⟩ := h c
    obtain ⟨e0, e1, e2⟩ := hargs c
    refine ⟨h0.trans ((Fox.Plain.out_dq m' c).trans ?_), h1.trans ((Fox.Plain.out_dk m' c).trans ?_), h2.trans ((Fox.Plain.out_dv m' c).trans ?_),
      h3.trans ((Fox.Plain.out_dcq m' c).trans ?_), h4.trans ((Fox.Plain.out_dck m' c).trans ?_), ha⟩ <;> rw [e0, e1, e2]

theorem reference5_frame : Cert.quiescent_Reference5Ideal := fun m ρ _ =>
  (θ_run _ _ _).mono (fun r h => ⟨fun c => (h c).2, sem_eq_zero_of_no_sems rfl r.2⟩) (Reference5Ideal.Value.run m ρ)

theorem reference6_frame : Cert.quiescent_Reference6Ideal := fun m ρ _ =>
  (θ_run _ _ _).mono (fun r h => ⟨fun c => (h c).2.2.2.2, sem_eq_zero_of_no_sems rfl r.2⟩) (Reference6Ideal.Value.run m ρ)

theorem reference8_frame : Cert.quiescent_Reference8Ideal := fun m ρ _ =>
  (θ_run _ _ _).mono (fun r h => ⟨fun c => (h c).2, sem_eq_zero_of_no_sems rfl r.2⟩) (Reference8Ideal.Value.run m ρ)

theorem reference9_frame : Cert.quiescent_Reference9Ideal := fun m ρ _ =>
  (θ_run _ _ _).mono (fun r h => ⟨fun c => (h c).2, sem_eq_zero_of_no_sems rfl r.2⟩) (Reference9Ideal.Value.run m ρ)

theorem reference10_frame : Cert.quiescent_Reference10Ideal := fun m ρ _ =>
  (θ_run _ _ _).mono (fun r h => ⟨fun c => (h c).2, sem_eq_zero_of_no_sems rfl r.2⟩) (Reference10Ideal.Value.run m ρ)

theorem reference11_frame : Cert.quiescent_Reference11Ideal := fun m ρ _ =>
  (θ_run _ _ _).mono (fun r h => ⟨fun c => (h c).2.2, sem_eq_zero_of_no_sems rfl r.2⟩) (Reference11Ideal.Value.run m ρ)

theorem reference12_frame : Cert.quiescent_Reference12Ideal := fun m ρ _ =>
  (θ_run _ _ _).mono (fun r h => ⟨fun c => (h c).2.2, sem_eq_zero_of_no_sems rfl r.2⟩) (Reference12Ideal.Value.run m ρ)

theorem reference13_frame : Cert.quiescent_Reference13Ideal := fun m ρ _ =>
  (θ_run _ _ _).mono (fun r h => ⟨fun c => (h c).2.2.2.2, sem_eq_zero_of_no_sems rfl r.2⟩) (Reference13Ideal.Value.run m ρ)

theorem reference14_frame : Cert.quiescent_Reference14Ideal := fun m ρ _ =>
  (θ_run _ _ _).mono (fun r h => ⟨fun c => (h c).2.2.2.2, sem_eq_zero_of_no_sems rfl r.2⟩) (Reference14Ideal.Value.run m ρ)

theorem reference15_frame : Cert.quiescent_Reference15Ideal := fun m ρ _ =>
  (θ_run _ _ _).mono (fun r h => ⟨fun c => (h c).2.2.2.2, sem_eq_zero_of_no_sems rfl r.2⟩) (Reference15Ideal.Value.run m ρ)

theorem reference16_frame : Cert.quiescent_Reference16Ideal := fun m ρ _ =>
  (θ_run _ _ _).mono (fun r h => ⟨fun c => (h c).2.2.2.2, sem_eq_zero_of_no_sems rfl r.2⟩) (Reference16Ideal.Value.run m ρ)

theorem reference17_frame : Cert.quiescent_Reference17Ideal := fun m ρ _ =>
  (θ_run _ _ _).mono (fun r h => ⟨fun c => (h c).2.2.2.2, sem_eq_zero_of_no_sems rfl r.2⟩) (Reference17Ideal.Value.run m ρ)

theorem reference18_frame : Cert.quiescent_Reference18Ideal := fun m ρ _ =>
  (θ_run _ _ _).mono (fun r h => ⟨fun c => (h c).2.2.2.2, sem_eq_zero_of_no_sems rfl r.2⟩) (Reference18Ideal.Value.run m ρ)

theorem reference19_frame : Cert.quiescent_Reference19Ideal := fun m ρ _ =>
  (θ_run _ _ _).mono (fun r h => ⟨fun c => (h c).2.2.2.2, sem_eq_zero_of_no_sems rfl r.2⟩) (Reference19Ideal.Value.run m ρ)

theorem reference20_frame : Cert.quiescent_Reference20Ideal := fun m ρ _ =>
  (θ_run _ _ _).mono (fun r h => ⟨fun c => (h c).2.2.2.2, sem_eq_zero_of_no_sems rfl r.2⟩) (Reference20Ideal.Value.run m ρ)

theorem reference21_frame : Cert.quiescent_Reference21Ideal := fun m ρ _ =>
  (θ_run _ _ _).mono (fun r h => ⟨fun c => (h c).2.2.2.2, sem_eq_zero_of_no_sems rfl r.2⟩) (Reference21Ideal.Value.run m ρ)

theorem reference22_frame : Cert.quiescent_Reference22Ideal := fun m ρ _ =>
  (θ_run _ _ _).mono (fun r h => ⟨fun c => (h c).2.2.2.2, sem_eq_zero_of_no_sems rfl r.2⟩) (Reference22Ideal.Value.run m ρ)

theorem reference23_frame : Cert.quiescent_Reference23Ideal := fun m ρ _ =>
  (θ_run _ _ _).mono (fun r h => ⟨fun c => (h c).2.2.2.2, sem_eq_zero_of_no_sems rfl r.2⟩) (Reference23Ideal.Value.run m ρ)

theorem reference24_frame : Cert.quiescent_Reference24Ideal := fun m ρ _ =>
  (θ_run _ _ _).mono (fun r h => ⟨fun c => (h c).2.2.2.2, sem_eq_zero_of_no_sems rfl r.2⟩) (Reference24Ideal.Value.run m ρ)

theorem reference25_frame : Cert.quiescent_Reference25Ideal := fun m ρ _ =>
  (θ_run _ _ _).mono (fun r h => ⟨fun c => (h c).2.2.2.2, sem_eq_zero_of_no_sems rfl r.2⟩) (Reference25Ideal.Value.run m ρ)

theorem reference26_frame : Cert.quiescent_Reference26Ideal := fun m ρ _ =>
  (θ_run _ _ _).mono (fun r h => ⟨fun c => (h c).2, sem_eq_zero_of_no_sems rfl r.2⟩) (Reference26Ideal.Value.run m ρ)

theorem reference27_frame : Cert.quiescent_Reference27Ideal := fun m ρ _ =>
  (θ_run _ _ _).mono (fun r h => ⟨fun c => (h c).2, sem_eq_zero_of_no_sems rfl r.2⟩) (Reference27Ideal.Value.run m ρ)

theorem reference28_frame : Cert.quiescent_Reference28Ideal := fun m ρ _ =>
  (θ_run _ _ _).mono (fun r h => ⟨fun c => (h c).2, sem_eq_zero_of_no_sems rfl r.2⟩) (Reference28Ideal.Value.run m ρ)

theorem reference29_frame : Cert.quiescent_Reference29Ideal := fun m ρ _ =>
  (θ_run _ _ _).mono (fun r h => ⟨fun c => (h c).2, sem_eq_zero_of_no_sems rfl r.2⟩) (Reference29Ideal.Value.run m ρ)

theorem reference30_frame : Cert.quiescent_Reference30Ideal := fun m ρ _ =>
  (θ_run _ _ _).mono (fun r h => ⟨fun c => (h c).2, sem_eq_zero_of_no_sems rfl r.2⟩) (Reference30Ideal.Value.run m ρ)

theorem reference31_frame : Cert.quiescent_Reference31Ideal := fun m ρ _ =>
  (θ_run _ _ _).mono (fun r h => ⟨fun c => (h c).2, sem_eq_zero_of_no_sems rfl r.2⟩) (Reference31Ideal.Value.run m ρ)

theorem reference32_frame : Cert.quiescent_Reference32Ideal := fun m ρ _ =>
  (θ_run _ _ _).mono (fun r h => ⟨fun c => (h c).2, sem_eq_zero_of_no_sems rfl r.2⟩) (Reference32Ideal.Value.run m ρ)

theorem reference33_frame : Cert.quiescent_Reference33Ideal := fun m ρ _ =>
  (θ_run _ _ _).mono (fun r h => ⟨fun c => (h c).2, sem_eq_zero_of_no_sems rfl r.2⟩) (Reference33Ideal.Value.run m ρ)

theorem reference34_frame : Cert.quiescent_Reference34Ideal := fun m ρ _ =>
  (θ_run _ _ _).mono (fun r h => ⟨fun c => (h c).2.2, sem_eq_zero_of_no_sems rfl r.2⟩) (Reference34Ideal.Value.run m ρ)

theorem reference35_frame : Cert.quiescent_Reference35Ideal := fun m ρ _ =>
  (θ_run _ _ _).mono (fun r h => ⟨fun c => (h c).2, sem_eq_zero_of_no_sems rfl r.2⟩) (Reference35Ideal.Value.run m ρ)

theorem reference36_frame : Cert.quiescent_Reference36Ideal := fun m ρ _ =>
  (θ_run _ _ _).mono (fun r h => ⟨fun c => (h c).2.2.2.2, sem_eq_zero_of_no_sems rfl r.2⟩) (Reference36Ideal.Value.run m ρ)

theorem reference37_frame : Cert.quiescent_Reference37Ideal := fun m ρ _ =>
  (θ_run _ _ _).mono (fun r h => ⟨fun c => (h c).2.2, sem_eq_zero_of_no_sems rfl r.2⟩) (Reference37Ideal.Value.run m ρ)

theorem reference38_frame : Cert.quiescent_Reference38Ideal := fun m ρ _ =>
  (θ_run _ _ _).mono (fun r h => ⟨fun c => (h c).2, sem_eq_zero_of_no_sems rfl r.2⟩) (Reference38Ideal.Value.run m ρ)

theorem reference39_frame : Cert.quiescent_Reference39Ideal := fun m ρ _ =>
  (θ_run _ _ _).mono (fun r h => ⟨fun c => (h c).2, sem_eq_zero_of_no_sems rfl r.2⟩) (Reference39Ideal.Value.run m ρ)

theorem reference40_frame : Cert.quiescent_Reference40Ideal := fun m ρ _ =>
  (θ_run _ _ _).mono (fun r h => ⟨fun c => (h c).2, sem_eq_zero_of_no_sems rfl r.2⟩) (Reference40Ideal.Value.run m ρ)

theorem reference41_frame : Cert.quiescent_Reference41Ideal := fun m ρ _ =>
  (θ_run _ _ _).mono (fun r h => ⟨fun c => (h c).2, sem_eq_zero_of_no_sems rfl r.2⟩) (Reference41Ideal.Value.run m ρ)

theorem reference42_frame : Cert.quiescent_Reference42Ideal := fun m ρ _ =>
  (θ_run _ _ _).mono (fun r h => ⟨fun c => (h c).2, sem_eq_zero_of_no_sems rfl r.2⟩) (Reference42Ideal.Value.run m ρ)

theorem reference43_frame : Cert.quiescent_Reference43Ideal := fun m ρ _ =>
  (θ_run _ _ _).mono (fun r h => ⟨fun c => (h c).2.2, sem_eq_zero_of_no_sems rfl r.2⟩) (Reference43Ideal.Value.run m ρ)

theorem reference44_frame : Cert.quiescent_Reference44Ideal := fun m ρ _ =>
  (θ_run _ _ _).mono (fun r h => ⟨fun c => (h c).2, sem_eq_zero_of_no_sems rfl r.2⟩) (Reference44Ideal.Value.run m ρ)

theorem reference45_frame : Cert.quiescent_Reference45Ideal := fun m ρ _ =>
  (θ_run _ _ _).mono (fun r h => ⟨fun c => (h c).2, sem_eq_zero_of_no_sems rfl r.2⟩) (Reference45Ideal.Value.run m ρ)

theorem reference46_frame : Cert.quiescent_Reference46Ideal := fun m ρ _ =>
  (θ_run _ _ _).mono (fun r h => ⟨fun c => (h c).2.2, sem_eq_zero_of_no_sems rfl r.2⟩) (Reference46Ideal.Value.run m ρ)

theorem reference47_frame : Cert.quiescent_Reference47Ideal := fun m ρ _ =>
  (θ_run _ _ _).mono (fun r h => ⟨fun c => (h c).2.2.2, sem_eq_zero_of_no_sems rfl r.2⟩) (Reference47Ideal.Value.run m ρ)

/-- From equal arguments the kernel and the reference return the same gradients through the projections and the norm before the attention. -/
theorem equal2 : Cert.algebraic_Kernel2Ideal_Reference2Ideal := by
  intro m ρ m' ρ' _ hargs
  refine ⟨fun c => DxPlain.dx (Dx.innerAll m c) (Dx.argX m c) (Dx.argN m c) (Dx.argZ m c), fun c => DxPlain.dgain (Dx.innerAll m c) (Dx.argX m c), ?_, ?_⟩
  · refine (θ_run _ _ _).mono (fun r h c => ?_) (Kernel2Ideal.Value.run_blocks m ρ)
    obtain ⟨h0, h1, ha⟩ := h c
    exact ⟨h0.trans (Dx.arr_dx m c), h1.trans (Dx.arr_gain m c), ha⟩
  · refine (θ_run _ _ _).mono (fun r h c => ?_) (Reference2Ideal.Value.run m' ρ')
    obtain ⟨h0, h1, ha⟩ := h c
    obtain ⟨e0, e1, e2, e3, e4, e5, e6, e7, e8⟩ := hargs c
    have i : DxPlain.innerAt m' c = Dx.innerAll m c := by
      unfold DxPlain.innerAt Dx.innerAll
      rw [e0, e1, e2, e3, e4, e5]
    exact ⟨h0.trans ((DxPlain.out_dx m' c).trans (by rw [i, e6, e7, e8])), h1.trans ((rfl : _ = DxPlain.dgain (DxPlain.innerAt m' c) (m' ((c.tc : Thread Reference2Ideal.nD Reference2Ideal.τ).loc Reference2Ideal.main_arg6))).trans (by rw [i, e6])), ha⟩

/-- From equal arguments the kernel and the reference return the same gradients at the two halves of the feed-forward layer's activation. -/
theorem equal3 : Cert.algebraic_Kernel3Ideal_Reference3Ideal := by
  intro m ρ m' ρ' _ hargs
  refine ⟨fun c => DownPlain.dgate (Down.argD m c) (Down.argW m c) (Down.argG m c) (Down.argU m c), fun c => DownPlain.dup (Down.argD m c) (Down.argW m c) (Down.argG m c), ?_, ?_⟩
  · refine (θ_run _ _ _).mono (fun r h c => ?_) (Kernel3Ideal.Value.run_blocks m ρ)
    obtain ⟨h0, h1, ha⟩ := h c
    exact ⟨h0.trans (Down.arr_dgate m c), h1.trans (Down.arr_dup m c), ha⟩
  · refine (θ_run _ _ _).mono (fun r h c => ?_) (Reference3Ideal.Value.run m' ρ')
    obtain ⟨h0, h1, ha⟩ := h c
    obtain ⟨e0, e1, e2, e3⟩ := hargs c
    rw [e0, e1, e2] at h1
    rw [e0, e1, e2, e3] at h0
    exact ⟨h0.trans (rfl), h1.trans (rfl), ha⟩

/-- From equal arguments the kernel and the reference return the same gradients through the feed-forward layer's first product, the norms and the residual step. -/
theorem equal4 : Cert.algebraic_Kernel4Ideal_Reference4Ideal := by
  intro m ρ m' ρ' _ hargs
  refine ⟨fun c => UpPlain.dy (Up.dhidAll m c) (Up.argY m c) (Up.argP m c), fun c => Up.dhidAll m c, fun c => UpPlain.dgain (Up.dhidAll m c) (Up.argY m c), fun c => UpPlain.dgain (Up.innerAll m c) (Up.hiddenAll m c), ?_, ?_⟩
  · refine (θ_run _ _ _).mono (fun r h c => ?_) (Kernel4Ideal.Value.run_blocks m ρ)
    obtain ⟨h0, h1, h2, h3, ha⟩ := h c
    exact ⟨h0.trans (Up.arr_dy m c), h1.trans (Up.arr_dx m c), h2.trans (Up.arr_post m c), h3.trans (Up.arr_pre m c), ha⟩
  · refine (θ_run _ _ _).mono (fun r h c => ?_) (Reference4Ideal.Value.run m' ρ')
    obtain ⟨h0, h1, h2, h3, ha⟩ := h c
    obtain ⟨e0, e1, e2, e3, e4, e5, e6, e7⟩ := hargs c
    have i : UpPlain.innerAt m' c = Up.innerAll m c := by
      unfold UpPlain.innerAt Up.innerAll
      rw [e0, e1, e7]
    have j : UpPlain.hiddenAt m' c = Up.hiddenAll m c := by
      unfold UpPlain.hiddenAt Up.hiddenAll
      rw [e2, e3, e4]
    have k : UpPlain.dhidAt m' c = Up.dhidAll m c := by
      unfold UpPlain.dhidAt Up.dhidAll
      rw [i, j, e5, e6]
    exact ⟨h0.trans ((UpPlain.out_dy m' c).trans (by rw [UpPlain.same, k, e2, e4])), h1.trans ((UpPlain.out_dhid m' c).trans k), h2.trans ((UpPlain.out_dpost m' c).trans (by rw [UpPlain.same, k, e2])), h3.trans ((rfl : _ = UpPlain.dgain (UpPlain.innerAt m' c) (UpPlain.hiddenAt m' c)).trans (by rw [i, j])), ha⟩

/-- From equal arguments the kernel and the reference return the same gradient of a weight of the feed-forward layer. -/
theorem equal5 : Cert.algebraic_Kernel5Ideal_Reference5Ideal := by
  intro m ρ m' ρ' _ hargs
  refine ⟨fun c => FfnDw.Plain.dw (FfnDw.argH m c) (FfnDw.argD m c), ?_, ?_⟩
  · refine (θ_run _ _ _).mono (fun r h c => ?_) (Kernel5Ideal.Value.run_blocks m ρ)
    obtain ⟨h0, ha⟩ := h c
    exact ⟨h0.trans (FfnDw.arr_dw m c), ha⟩
  · refine (θ_run _ _ _).mono (fun r h c => ?_) (Reference5Ideal.Value.run m' ρ')
    obtain ⟨h0, ha⟩ := h c
    obtain ⟨e0, e1⟩ := hargs c
    rw [e0, e1] at h0
    exact ⟨h0, ha⟩

/-- From equal arguments the kernel and the reference return the same gradients at the mixers' results and at their gates. -/
theorem equal6 : Cert.algebraic_Kernel6Ideal_Reference6Ideal := by
  intro m ρ m' ρ' _ hargs
  refine ⟨fun c => Merge.Plain.dFox (Merge.argD m c) (Merge.argW m c) (Merge.argP m c), fun c => Merge.Plain.dRwkv (Merge.argD m c) (Merge.argW m c) (Merge.argP m c), fun c => Merge.Plain.dMem (Merge.argD m c) (Merge.argW m c) (Merge.argP m c), fun c => Merge.Plain.dGate (Merge.argD m c) (Merge.argW m c) (Merge.argA m c) (Merge.argB m c) (Merge.argC m c) (Merge.argP m c), ?_, ?_⟩
  · refine (θ_run _ _ _).mono (fun r h c => ?_) (Kernel6Ideal.Value.run_blocks m ρ)
    obtain ⟨h0, h1, h2, h3, ha⟩ := h c
    exact ⟨h0.trans (Merge.arr_fox m c), h1.trans (Merge.arr_rwkv m c), h2.trans (Merge.arr_mem m c), h3.trans (Merge.arr_gate m c), ha⟩
  · refine (θ_run _ _ _).mono (fun r h c => ?_) (Reference6Ideal.Value.run m' ρ')
    obtain ⟨h0, h1, h2, h3, ha⟩ := h c
    obtain ⟨e0, e1, e2, e3, e4, e5⟩ := hargs c
    rw [e0, e1, e5] at h0
    rw [e0, e1, e5] at h1
    rw [e0, e1, e5] at h2
    rw [e0, e1, e2, e3, e4, e5] at h3
    exact ⟨h0, h1, h2, h3, ha⟩

/-- From equal arguments the kernel and the reference return the same product with a weight of the feed-forward layer. -/
theorem equal8 : Cert.algebraic_Kernel8Ideal_Reference8Ideal := by
  intro m ρ m' ρ' _ hargs
  refine ⟨fun c => FfnIn.Plain.prod (FfnIn.argU m c) (FfnIn.argW m c), ?_, ?_⟩
  · refine (θ_run _ _ _).mono (fun r h c => ?_) (Kernel8Ideal.Value.run_blocks m ρ)
    obtain ⟨h0, ha⟩ := h c
    exact ⟨h0.trans (FfnIn.arr_prod m c), ha⟩
  · refine (θ_run _ _ _).mono (fun r h c => ?_) (Reference8Ideal.Value.run m' ρ')
    obtain ⟨h0, ha⟩ := h c
    obtain ⟨e0, e1⟩ := hargs c
    rw [e0, e1] at h0
    exact ⟨h0, ha⟩

/-- From equal arguments the kernel and the reference return the same gradient through the feed-forward layer's gate product. -/
theorem equal9 : Cert.algebraic_Kernel9Ideal_Reference9Ideal := by
  intro m ρ m' ρ' _ hargs
  refine ⟨fun c => FfnBack.Plain.back (FfnBack.argD m c) (FfnBack.argW m c), ?_, ?_⟩
  · refine (θ_run _ _ _).mono (fun r h c => ?_) (Kernel9Ideal.Value.run_blocks m ρ)
    obtain ⟨h0, ha⟩ := h c
    exact ⟨h0.trans (FfnBack.arr_back m c), ha⟩
  · refine (θ_run _ _ _).mono (fun r h c => ?_) (Reference9Ideal.Value.run m' ρ')
    obtain ⟨h0, ha⟩ := h c
    obtain ⟨e0, e1⟩ := hargs c
    rw [e0, e1] at h0
    exact ⟨h0, ha⟩

/-- From equal arguments the kernel and the reference return the same gradient of the gate projection. -/
theorem equal10 : Cert.algebraic_Kernel10Ideal_Reference10Ideal := by
  intro m ρ m' ρ' _ hargs
  refine ⟨fun c => GateDw.Plain.dw (GateDw.argH m c) (GateDw.argD m c), ?_, ?_⟩
  · refine (θ_run _ _ _).mono (fun r h c => ?_) (Kernel10Ideal.Value.run_blocks m ρ)
    obtain ⟨h0, ha⟩ := h c
    exact ⟨h0.trans (GateDw.arr_dw m c), ha⟩
  · refine (θ_run _ _ _).mono (fun r h c => ?_) (Reference10Ideal.Value.run m' ρ')
    obtain ⟨h0, ha⟩ := h c
    obtain ⟨e0, e1⟩ := hargs c
    rw [e0, e1] at h0
    exact ⟨h0, ha⟩

/-- From equal arguments the kernel and the reference return the same gate projection and the same normed rows. -/
theorem equal11 : Cert.algebraic_Kernel11Ideal_Reference11Ideal := by
  intro m ρ m' ρ' _ hargs
  refine ⟨fun c => ProjGate.Plain.res (ProjGate.argX m c) (ProjGate.argN m c) (ProjGate.argW m c), fun c => ProjGate.Plain.kept (ProjGate.argX m c) (ProjGate.argN m c), ?_, ?_⟩
  · refine (θ_run _ _ _).mono (fun r h c => ?_) (Kernel11Ideal.Value.run_blocks m ρ)
    obtain ⟨h0, h1, ha⟩ := h c
    exact ⟨h0.trans (ProjGate.arr_res m c), h1.trans (ProjGate.arr_kept m c), ha⟩
  · refine (θ_run _ _ _).mono (fun r h c => ?_) (Reference11Ideal.Value.run m' ρ')
    obtain ⟨h0, h1, ha⟩ := h c
    obtain ⟨e0, e1, e2⟩ := hargs c
    rw [e0, e1, e2] at h0
    rw [e0, e1] at h1
    exact ⟨h0.trans rfl, h1.trans rfl, ha⟩

/-- From equal arguments the kernel and the reference return the same result of the feed-forward layer and the same gated half. -/
theorem equal12 : Cert.algebraic_Kernel12Ideal_Reference12Ideal := by
  intro m ρ m' ρ' _ hargs
  refine ⟨fun c => FfnOut.Plain.res (FfnOut.argG m c) (FfnOut.argU m c) (FfnOut.argW m c), fun c => FfnOut.Plain.kept (FfnOut.argG m c) (FfnOut.argU m c), ?_, ?_⟩
  · refine (θ_run _ _ _).mono (fun r h c => ?_) (Kernel12Ideal.Value.run_blocks m ρ)
    obtain ⟨h0, h1, ha⟩ := h c
    exact ⟨h0.trans (FfnOut.arr_res m c), h1.trans (FfnOut.arr_kept m c), ha⟩
  · refine (θ_run _ _ _).mono (fun r h c => ?_) (Reference12Ideal.Value.run m' ρ')
    obtain ⟨h0, h1, ha⟩ := h c
    obtain ⟨e0, e1, e2⟩ := hargs c
    rw [e0, e1, e2] at h0
    rw [e0, e1] at h1
    exact ⟨h0.trans rfl, h1.trans rfl, ha⟩

open AdamSmall in
/-- From equal arguments the kernel and the reference return the same gradient, step and moments of the parameters held whole on every device. -/
theorem equal13 : Cert.algebraic_Kernel13Ideal_Reference13Ideal := by
  intro m ρ m' ρ' _ hargs
  refine ⟨fun c => Plain.total (argX m c), fun c => Plain.delta (argX m c) (argW m c) (argM m c) (argV m c), fun c => Plain.moment (argX m c) (argM m c), fun c => Plain.square (argX m c) (argV m c), ?_, ?_⟩
  · refine (θ_run _ _ _).mono (fun r h c => ?_) (Kernel13Ideal.Value.run_blocks m ρ)
    obtain ⟨h0, h1, h2, h3, ha⟩ := h c
    exact ⟨h0.trans (arr_total m c), h1.trans (arr_delta m c), h2.trans (arr_moment m c), h3.trans (arr_square m c), ha⟩
  · refine (θ_run _ _ _).mono (fun r h c => ?_) (Reference13Ideal.Value.run m' ρ')
    obtain ⟨h0, h1, h2, h3, ha⟩ := h c
    obtain ⟨e0, e1, e2, e3⟩ := hargs c
    rw [e0] at h0
    rw [e0, e1, e2, e3] at h1
    rw [e0, e2] at h2
    rw [e0, e3] at h3
    exact ⟨h0, h1, h2, h3, ha⟩

open AdamIn in
/-- From equal arguments the kernel and the reference return the same gradient, step and moments of the mixers' input projection. -/
theorem equal14 : Cert.algebraic_Kernel14Ideal_Reference14Ideal := by
  intro m ρ m' ρ' _ hargs
  refine ⟨fun c => Plain.total (argX m c), fun c => Plain.delta (argX m c) (argW m c) (argM m c) (argV m c), fun c => Plain.moment (argX m c) (argM m c), fun c => Plain.square (argX m c) (argV m c), ?_, ?_⟩
  · refine (θ_run _ _ _).mono (fun r h c => ?_) (Kernel14Ideal.Value.run_blocks m ρ)
    obtain ⟨h0, h1, h2, h3, ha⟩ := h c
    exact ⟨h0.trans (arr_total m c), h1.trans (arr_delta m c), h2.trans (arr_moment m c), h3.trans (arr_square m c), ha⟩
  · refine (θ_run _ _ _).mono (fun r h c => ?_) (Reference14Ideal.Value.run m' ρ')
    obtain ⟨h0, h1, h2, h3, ha⟩ := h c
    obtain ⟨e0, e1, e2, e3⟩ := hargs c
    rw [e0] at h0
    rw [e0, e1, e2, e3] at h1
    rw [e0, e2] at h2
    rw [e0, e3] at h3
    exact ⟨h0, h1, h2, h3, ha⟩

open AdamMemKv in
/-- From equal arguments the kernel and the reference return the same gradient, step and moments of the memory's key and value projection. -/
theorem equal15 : Cert.algebraic_Kernel15Ideal_Reference15Ideal := by
  intro m ρ m' ρ' _ hargs
  refine ⟨fun c => Plain.total (argX m c), fun c => Plain.delta (argX m c) (argW m c) (argM m c) (argV m c), fun c => Plain.moment (argX m c) (argM m c), fun c => Plain.square (argX m c) (argV m c), ?_, ?_⟩
  · refine (θ_run _ _ _).mono (fun r h c => ?_) (Kernel15Ideal.Value.run_blocks m ρ)
    obtain ⟨h0, h1, h2, h3, ha⟩ := h c
    exact ⟨h0.trans (arr_total m c), h1.trans (arr_delta m c), h2.trans (arr_moment m c), h3.trans (arr_square m c), ha⟩
  · refine (θ_run _ _ _).mono (fun r h c => ?_) (Reference15Ideal.Value.run m' ρ')
    obtain ⟨h0, h1, h2, h3, ha⟩ := h c
    obtain ⟨e0, e1, e2, e3⟩ := hargs c
    rw [e0] at h0
    rw [e0, e1, e2, e3] at h1
    rw [e0, e2] at h2
    rw [e0, e3] at h3
    exact ⟨h0, h1, h2, h3, ha⟩

open AdamFfnGate in
/-- From equal arguments the kernel and the reference return the same gradient, step and moments of the feed-forward layer's gate weight. -/
theorem equal16 : Cert.algebraic_Kernel16Ideal_Reference16Ideal := by
  intro m ρ m' ρ' _ hargs
  refine ⟨fun c => Plain.total (argX m c), fun c => Plain.delta (argX m c) (argW m c) (argM m c) (argV m c), fun c => Plain.moment (argX m c) (argM m c), fun c => Plain.square (argX m c) (argV m c), ?_, ?_⟩
  · refine (θ_run _ _ _).mono (fun r h c => ?_) (Kernel16Ideal.Value.run_blocks m ρ)
    obtain ⟨h0, h1, h2, h3, ha⟩ := h c
    exact ⟨h0.trans (arr_total m c), h1.trans (arr_delta m c), h2.trans (arr_moment m c), h3.trans (arr_square m c), ha⟩
  · refine (θ_run _ _ _).mono (fun r h c => ?_) (Reference16Ideal.Value.run m' ρ')
    obtain ⟨h0, h1, h2, h3, ha⟩ := h c
    obtain ⟨e0, e1, e2, e3⟩ := hargs c
    rw [e0] at h0
    rw [e0, e1, e2, e3] at h1
    rw [e0, e2] at h2
    rw [e0, e3] at h3
    exact ⟨h0, h1, h2, h3, ha⟩

open AdamFfnUp in
/-- From equal arguments the kernel and the reference return the same gradient, step and moments of the feed-forward layer's up weight. -/
theorem equal17 : Cert.algebraic_Kernel17Ideal_Reference17Ideal := by
  intro m ρ m' ρ' _ hargs
  refine ⟨fun c => Plain.total (argX m c), fun c => Plain.delta (argX m c) (argW m c) (argM m c) (argV m c), fun c => Plain.moment (argX m c) (argM m c), fun c => Plain.square (argX m c) (argV m c), ?_, ?_⟩
  · refine (θ_run _ _ _).mono (fun r h c => ?_) (Kernel17Ideal.Value.run_blocks m ρ)
    obtain ⟨h0, h1, h2, h3, ha⟩ := h c
    exact ⟨h0.trans (arr_total m c), h1.trans (arr_delta m c), h2.trans (arr_moment m c), h3.trans (arr_square m c), ha⟩
  · refine (θ_run _ _ _).mono (fun r h c => ?_) (Reference17Ideal.Value.run m' ρ')
    obtain ⟨h0, h1, h2, h3, ha⟩ := h c
    obtain ⟨e0, e1, e2, e3⟩ := hargs c
    rw [e0] at h0
    rw [e0, e1, e2, e3] at h1
    rw [e0, e2] at h2
    rw [e0, e3] at h3
    exact ⟨h0, h1, h2, h3, ha⟩

open AdamFfnDown in
/-- From equal arguments the kernel and the reference return the same gradient, step and moments of the feed-forward layer's down weight. -/
theorem equal18 : Cert.algebraic_Kernel18Ideal_Reference18Ideal := by
  intro m ρ m' ρ' _ hargs
  refine ⟨fun c => Plain.total (argX m c), fun c => Plain.delta (argX m c) (argW m c) (argM m c) (argV m c), fun c => Plain.moment (argX m c) (argM m c), fun c => Plain.square (argX m c) (argV m c), ?_, ?_⟩
  · refine (θ_run _ _ _).mono (fun r h c => ?_) (Kernel18Ideal.Value.run_blocks m ρ)
    obtain ⟨h0, h1, h2, h3, ha⟩ := h c
    exact ⟨h0.trans (arr_total m c), h1.trans (arr_delta m c), h2.trans (arr_moment m c), h3.trans (arr_square m c), ha⟩
  · refine (θ_run _ _ _).mono (fun r h c => ?_) (Reference18Ideal.Value.run m' ρ')
    obtain ⟨h0, h1, h2, h3, ha⟩ := h c
    obtain ⟨e0, e1, e2, e3⟩ := hargs c
    rw [e0] at h0
    rw [e0, e1, e2, e3] at h1
    rw [e0, e2] at h2
    rw [e0, e3] at h3
    exact ⟨h0, h1, h2, h3, ha⟩

/-- From equal arguments the kernel and the reference return the same gradient, step and moments of the mixers' output weight. -/
theorem equal19 : Cert.algebraic_Kernel19Ideal_Reference19Ideal := by
  intro m ρ m' ρ' _ hargs
  refine ⟨fun c => AdamO.Plain.total (AdamO.argX m c), fun c => AdamO.Plain.delta (AdamO.argX m c) (AdamO.argW m c) (AdamO.argM m c) (AdamO.argV m c), fun c => AdamO.Plain.moment (AdamO.argX m c) (AdamO.argM m c), fun c => AdamO.Plain.square (AdamO.argX m c) (AdamO.argV m c), ?_, ?_⟩
  · refine (θ_run _ _ _).mono (fun r h c => ?_) (Kernel19Ideal.Value.run_blocks m ρ)
    obtain ⟨h0, h1, h2, h3, ha⟩ := h c
    exact ⟨h0.trans (AdamO.arr_total m c), h1.trans (AdamO.arr_delta m c), h2.trans (AdamO.arr_moment m c), h3.trans (AdamO.arr_square m c), ha⟩
  · refine (θ_run _ _ _).mono (fun r h c => ?_) (Reference19Ideal.Value.run m' ρ')
    obtain ⟨h0, h1, h2, h3, ha⟩ := h c
    obtain ⟨e0, e1, e2, e3⟩ := hargs c
    rw [e0] at h0
    rw [e0, e1, e2, e3] at h1
    rw [e0, e2] at h2
    rw [e0, e3] at h3
    exact ⟨h0, h1, h2, h3, ha⟩

open AdamFoxOut in
/-- From equal arguments the kernel and the reference return the same gradient, step and moments of the forgetting attention's output weight. -/
theorem equal20 : Cert.algebraic_Kernel20Ideal_Reference20Ideal := by
  intro m ρ m' ρ' _ hargs
  refine ⟨fun c => Plain.total (argX m c), fun c => Plain.delta (argX m c) (argW m c) (argM m c) (argV m c), fun c => Plain.moment (argX m c) (argM m c), fun c => Plain.square (argX m c) (argV m c), ?_, ?_⟩
  · refine (θ_run _ _ _).mono (fun r h c => ?_) (Kernel20Ideal.Value.run_blocks m ρ)
    obtain ⟨h0, h1, h2, h3, ha⟩ := h c
    exact ⟨h0.trans (arr_total m c), h1.trans (arr_delta m c), h2.trans (arr_moment m c), h3.trans (arr_square m c), ha⟩
  · refine (θ_run _ _ _).mono (fun r h c => ?_) (Reference20Ideal.Value.run m' ρ')
    obtain ⟨h0, h1, h2, h3, ha⟩ := h c
    obtain ⟨e0, e1, e2, e3⟩ := hargs c
    rw [e0] at h0
    rw [e0, e1, e2, e3] at h1
    rw [e0, e2] at h2
    rw [e0, e3] at h3
    exact ⟨h0, h1, h2, h3, ha⟩

open AdamRwkvOut in
/-- From equal arguments the kernel and the reference return the same gradient, step and moments of the recurrent mixer's output weight. -/
theorem equal21 : Cert.algebraic_Kernel21Ideal_Reference21Ideal := by
  intro m ρ m' ρ' _ hargs
  refine ⟨fun c => Plain.total (argX m c), fun c => Plain.delta (argX m c) (argW m c) (argM m c) (argV m c), fun c => Plain.moment (argX m c) (argM m c), fun c => Plain.square (argX m c) (argV m c), ?_, ?_⟩
  · refine (θ_run _ _ _).mono (fun r h c => ?_) (Kernel21Ideal.Value.run_blocks m ρ)
    obtain ⟨h0, h1, h2, h3, ha⟩ := h c
    exact ⟨h0.trans (arr_total m c), h1.trans (arr_delta m c), h2.trans (arr_moment m c), h3.trans (arr_square m c), ha⟩
  · refine (θ_run _ _ _).mono (fun r h c => ?_) (Reference21Ideal.Value.run m' ρ')
    obtain ⟨h0, h1, h2, h3, ha⟩ := h c
    obtain ⟨e0, e1, e2, e3⟩ := hargs c
    rw [e0] at h0
    rw [e0, e1, e2, e3] at h1
    rw [e0, e2] at h2
    rw [e0, e3] at h3
    exact ⟨h0, h1, h2, h3, ha⟩

open AdamMemOut in
/-- From equal arguments the kernel and the reference return the same gradient, step and moments of the memory attention's output weight. -/
theorem equal22 : Cert.algebraic_Kernel22Ideal_Reference22Ideal := by
  intro m ρ m' ρ' _ hargs
  refine ⟨fun c => Plain.total (argX m c), fun c => Plain.delta (argX m c) (argW m c) (argM m c) (argV m c), fun c => Plain.moment (argX m c) (argM m c), fun c => Plain.square (argX m c) (argV m c), ?_, ?_⟩
  · refine (θ_run _ _ _).mono (fun r h c => ?_) (Kernel22Ideal.Value.run_blocks m ρ)
    obtain ⟨h0, h1, h2, h3, ha⟩ := h c
    exact ⟨h0.trans (arr_total m c), h1.trans (arr_delta m c), h2.trans (arr_moment m c), h3.trans (arr_square m c), ha⟩
  · refine (θ_run _ _ _).mono (fun r h c => ?_) (Reference22Ideal.Value.run m' ρ')
    obtain ⟨h0, h1, h2, h3, ha⟩ := h c
    obtain ⟨e0, e1, e2, e3⟩ := hargs c
    rw [e0] at h0
    rw [e0, e1, e2, e3] at h1
    rw [e0, e2] at h2
    rw [e0, e3] at h3
    exact ⟨h0, h1, h2, h3, ha⟩

open AdamWUp in
/-- From equal arguments the kernel and the reference return the same gradient, step and moments of the weight that lifts the decays. -/
theorem equal23 : Cert.algebraic_Kernel23Ideal_Reference23Ideal := by
  intro m ρ m' ρ' _ hargs
  refine ⟨fun c => Plain.total (argX m c), fun c => Plain.delta (argX m c) (argW m c) (argM m c) (argV m c), fun c => Plain.moment (argX m c) (argM m c), fun c => Plain.square (argX m c) (argV m c), ?_, ?_⟩
  · refine (θ_run _ _ _).mono (fun r h c => ?_) (Kernel23Ideal.Value.run_blocks m ρ)
    obtain ⟨h0, h1, h2, h3, ha⟩ := h c
    exact ⟨h0.trans (arr_total m c), h1.trans (arr_delta m c), h2.trans (arr_moment m c), h3.trans (arr_square m c), ha⟩
  · refine (θ_run _ _ _).mono (fun r h c => ?_) (Reference23Ideal.Value.run m' ρ')
    obtain ⟨h0, h1, h2, h3, ha⟩ := h c
    obtain ⟨e0, e1, e2, e3⟩ := hargs c
    rw [e0] at h0
    rw [e0, e1, e2, e3] at h1
    rw [e0, e2] at h2
    rw [e0, e3] at h3
    exact ⟨h0, h1, h2, h3, ha⟩

open AdamAUp in
/-- From equal arguments the kernel and the reference return the same gradient, step and moments of the weight that lifts the rates. -/
theorem equal24 : Cert.algebraic_Kernel24Ideal_Reference24Ideal := by
  intro m ρ m' ρ' _ hargs
  refine ⟨fun c => Plain.total (argX m c), fun c => Plain.delta (argX m c) (argW m c) (argM m c) (argV m c), fun c => Plain.moment (argX m c) (argM m c), fun c => Plain.square (argX m c) (argV m c), ?_, ?_⟩
  · refine (θ_run _ _ _).mono (fun r h c => ?_) (Kernel24Ideal.Value.run_blocks m ρ)
    obtain ⟨h0, h1, h2, h3, ha⟩ := h c
    exact ⟨h0.trans (arr_total m c), h1.trans (arr_delta m c), h2.trans (arr_moment m c), h3.trans (arr_square m c), ha⟩
  · refine (θ_run _ _ _).mono (fun r h c => ?_) (Reference24Ideal.Value.run m' ρ')
    obtain ⟨h0, h1, h2, h3, ha⟩ := h c
    obtain ⟨e0, e1, e2, e3⟩ := hargs c
    rw [e0] at h0
    rw [e0, e1, e2, e3] at h1
    rw [e0, e2] at h2
    rw [e0, e3] at h3
    exact ⟨h0, h1, h2, h3, ha⟩

open AdamGUp in
/-- From equal arguments the kernel and the reference return the same gradient, step and moments of the weight that lifts the gates. -/
theorem equal25 : Cert.algebraic_Kernel25Ideal_Reference25Ideal := by
  intro m ρ m' ρ' _ hargs
  refine ⟨fun c => Plain.total (argX m c), fun c => Plain.delta (argX m c) (argW m c) (argM m c) (argV m c), fun c => Plain.moment (argX m c) (argM m c), fun c => Plain.square (argX m c) (argV m c), ?_, ?_⟩
  · refine (θ_run _ _ _).mono (fun r h c => ?_) (Kernel25Ideal.Value.run_blocks m ρ)
    obtain ⟨h0, h1, h2, h3, ha⟩ := h c
    exact ⟨h0.trans (arr_total m c), h1.trans (arr_delta m c), h2.trans (arr_moment m c), h3.trans (arr_square m c), ha⟩
  · refine (θ_run _ _ _).mono (fun r h c => ?_) (Reference25Ideal.Value.run m' ρ')
    obtain ⟨h0, h1, h2, h3, ha⟩ := h c
    obtain ⟨e0, e1, e2, e3⟩ := hargs c
    rw [e0] at h0
    rw [e0, e1, e2, e3] at h1
    rw [e0, e2] at h2
    rw [e0, e3] at h3
    exact ⟨h0, h1, h2, h3, ha⟩

/-- From equal arguments the kernel and the reference return the same gradient of the attention's columns of the input projection. -/
theorem equal26 : Cert.algebraic_Kernel26Ideal_Reference26Ideal := by
  intro m ρ m' ρ' _ hargs
  refine ⟨fun c => QkvDw.Plain.dw (QkvDw.argH m c) (QkvDw.argD m c), ?_, ?_⟩
  · refine (θ_run _ _ _).mono (fun r h c => ?_) (Kernel26Ideal.Value.run_blocks m ρ)
    obtain ⟨h0, ha⟩ := h c
    exact ⟨h0.trans (QkvDw.arr_dw m c), ha⟩
  · refine (θ_run _ _ _).mono (fun r h c => ?_) (Reference26Ideal.Value.run m' ρ')
    obtain ⟨h0, ha⟩ := h c
    obtain ⟨e0, e1⟩ := hargs c
    rw [e0, e1] at h0
    exact ⟨h0, ha⟩

/-- From equal arguments the kernel and the reference return the same gradient of the recurrence's columns of the input projection. -/
theorem equal27 : Cert.algebraic_Kernel27Ideal_Reference27Ideal := by
  intro m ρ m' ρ' _ hargs
  refine ⟨fun c => RwkvDw.Plain.dw (RwkvDw.argH m c) (RwkvDw.argD m c), ?_, ?_⟩
  · refine (θ_run _ _ _).mono (fun r h c => ?_) (Kernel27Ideal.Value.run_blocks m ρ)
    obtain ⟨h0, ha⟩ := h c
    exact ⟨h0.trans (RwkvDw.arr_dw m c), ha⟩
  · refine (θ_run _ _ _).mono (fun r h c => ?_) (Reference27Ideal.Value.run m' ρ')
    obtain ⟨h0, ha⟩ := h c
    obtain ⟨e0, e1⟩ := hargs c
    rw [e0, e1] at h0
    exact ⟨h0, ha⟩

/-- From equal arguments the kernel and the reference return the same gradient of the weight behind a mixer. -/
theorem equal28 : Cert.algebraic_Kernel28Ideal_Reference28Ideal := by
  intro m ρ m' ρ' _ hargs
  refine ⟨fun c => MixDw.Plain.dw (MixDw.argH m c) (MixDw.argD m c), ?_, ?_⟩
  · refine (θ_run _ _ _).mono (fun r h c => ?_) (Kernel28Ideal.Value.run_blocks m ρ)
    obtain ⟨h0, ha⟩ := h c
    exact ⟨h0.trans (MixDw.arr_dw m c), ha⟩
  · refine (θ_run _ _ _).mono (fun r h c => ?_) (Reference28Ideal.Value.run m' ρ')
    obtain ⟨h0, ha⟩ := h c
    obtain ⟨e0, e1⟩ := hargs c
    rw [e0, e1] at h0
    exact ⟨h0, ha⟩

/-- From equal arguments the kernel and the reference return the same gradient of the output projection. -/
theorem equal29 : Cert.algebraic_Kernel29Ideal_Reference29Ideal := by
  intro m ρ m' ρ' _ hargs
  refine ⟨fun c => ODw.Plain.dw (ODw.argH m c) (ODw.argD m c), ?_, ?_⟩
  · refine (θ_run _ _ _).mono (fun r h c => ?_) (Kernel29Ideal.Value.run_blocks m ρ)
    obtain ⟨h0, ha⟩ := h c
    exact ⟨h0.trans (ODw.arr_dw m c), ha⟩
  · refine (θ_run _ _ _).mono (fun r h c => ?_) (Reference29Ideal.Value.run m' ρ')
    obtain ⟨h0, ha⟩ := h c
    obtain ⟨e0, e1⟩ := hargs c
    rw [e0, e1] at h0
    exact ⟨h0, ha⟩

/-- From equal arguments the kernel and the reference return the same projection to queries, keys and values. -/
theorem equal30 : Cert.algebraic_Kernel30Ideal_Reference30Ideal := by
  intro m ρ m' ρ' _ hargs
  refine ⟨fun c => ProjQkv.Plain.prod (ProjQkv.argA m c) (ProjQkv.argW m c), ?_, ?_⟩
  · refine (θ_run _ _ _).mono (fun r h c => ?_) (Kernel30Ideal.Value.run_blocks m ρ)
    obtain ⟨h0, ha⟩ := h c
    exact ⟨h0.trans (ProjQkv.arr_prod m c), ha⟩
  · refine (θ_run _ _ _).mono (fun r h c => ?_) (Reference30Ideal.Value.run m' ρ')
    obtain ⟨h0, ha⟩ := h c
    obtain ⟨e0, e1⟩ := hargs c
    rw [e0, e1] at h0
    exact ⟨h0, ha⟩

/-- From equal arguments the kernel and the reference return the same projection to the memory's queries. -/
theorem equal31 : Cert.algebraic_Kernel31Ideal_Reference31Ideal := by
  intro m ρ m' ρ' _ hargs
  refine ⟨fun c => ProjMem.Plain.prod (ProjMem.argA m c) (ProjMem.argW m c), ?_, ?_⟩
  · refine (θ_run _ _ _).mono (fun r h c => ?_) (Kernel31Ideal.Value.run_blocks m ρ)
    obtain ⟨h0, ha⟩ := h c
    exact ⟨h0.trans (ProjMem.arr_prod m c), ha⟩
  · refine (θ_run _ _ _).mono (fun r h c => ?_) (Reference31Ideal.Value.run m' ρ')
    obtain ⟨h0, ha⟩ := h c
    obtain ⟨e0, e1⟩ := hargs c
    rw [e0, e1] at h0
    exact ⟨h0, ha⟩

/-- From equal arguments the kernel and the reference return the same product of a mixer's result with its weight. -/
theorem equal32 : Cert.algebraic_Kernel32Ideal_Reference32Ideal := by
  intro m ρ m' ρ' _ hargs
  refine ⟨fun c => MixOut.Plain.prod (MixOut.argA m c) (MixOut.argW m c), ?_, ?_⟩
  · refine (θ_run _ _ _).mono (fun r h c => ?_) (Kernel32Ideal.Value.run_blocks m ρ)
    obtain ⟨h0, ha⟩ := h c
    exact ⟨h0.trans (MixOut.arr_prod m c), ha⟩
  · refine (θ_run _ _ _).mono (fun r h c => ?_) (Reference32Ideal.Value.run m' ρ')
    obtain ⟨h0, ha⟩ := h c
    obtain ⟨e0, e1⟩ := hargs c
    rw [e0, e1] at h0
    exact ⟨h0, ha⟩

/-- From equal arguments the kernel and the reference return the same gradient at a mixer's result. -/
theorem equal33 : Cert.algebraic_Kernel33Ideal_Reference33Ideal := by
  intro m ρ m' ρ' _ hargs
  refine ⟨fun c => MixBack.Plain.prod (MixBack.argA m c) (MixBack.argW m c), ?_, ?_⟩
  · refine (θ_run _ _ _).mono (fun r h c => ?_) (Kernel33Ideal.Value.run_blocks m ρ)
    obtain ⟨h0, ha⟩ := h c
    exact ⟨h0.trans (MixBack.arr_prod m c), ha⟩
  · refine (θ_run _ _ _).mono (fun r h c => ?_) (Reference33Ideal.Value.run m' ρ')
    obtain ⟨h0, ha⟩ := h c
    obtain ⟨e0, e1⟩ := hargs c
    rw [e0, e1] at h0
    exact ⟨h0, ha⟩

/-- From equal arguments the kernel and the reference return the same merged rows and the same product of them with the output projection. -/
theorem equal34 : Cert.algebraic_Kernel34Ideal_Reference34Ideal := by
  intro m ρ m' ρ' _ hargs
  refine ⟨fun c => OutO.Plain.res (OutO.argA m c) (OutO.argB m c) (OutO.argC m c) (OutO.argP m c) (OutO.argW m c), fun c => OutO.Plain.kept (OutO.argA m c) (OutO.argB m c) (OutO.argC m c) (OutO.argP m c), ?_, ?_⟩
  · refine (θ_run _ _ _).mono (fun r h c => ?_) (Kernel34Ideal.Value.run_blocks m ρ)
    obtain ⟨h0, h1, ha⟩ := h c
    exact ⟨h0.trans (OutO.arr_res m c), h1.trans (OutO.arr_kept m c), ha⟩
  · refine (θ_run _ _ _).mono (fun r h c => ?_) (Reference34Ideal.Value.run m' ρ')
    obtain ⟨h0, h1, ha⟩ := h c
    obtain ⟨e0, e1, e2, e3, e4⟩ := hargs c
    rw [e0, e1, e2, e3, e4] at h0
    rw [e0, e1, e2, e3] at h1
    exact ⟨h0.trans rfl, h1.trans rfl, ha⟩

/-- From equal arguments the kernel and the reference return the same projection to the recurrence's arguments. -/
theorem equal35 : Cert.algebraic_Kernel35Ideal_Reference35Ideal := by
  intro m ρ m' ρ' _ hargs
  refine ⟨fun c => ProjRwkv.Plain.prod (ProjRwkv.argA m c) (ProjRwkv.argW m c), ?_, ?_⟩
  · refine (θ_run _ _ _).mono (fun r h c => ?_) (Kernel35Ideal.Value.run_blocks m ρ)
    obtain ⟨h0, ha⟩ := h c
    exact ⟨h0.trans (ProjRwkv.arr_prod m c), ha⟩
  · refine (θ_run _ _ _).mono (fun r h c => ?_) (Reference35Ideal.Value.run m' ρ')
    obtain ⟨h0, ha⟩ := h c
    obtain ⟨e0, e1⟩ := hargs c
    rw [e0, e1] at h0
    exact ⟨h0, ha⟩

/-- From equal arguments the kernel and the reference return the same loss and the same gradients of it. -/
theorem equal36 : Cert.algebraic_Kernel36Ideal_Reference36Ideal := by
  intro m ρ m' ρ' _ hargs
  refine ⟨fun c => Final.Plain.dffn (Final.argZ m c) (Final.argY m c) (Final.argH m c) (Final.argP m c), fun c => Final.Plain.derr (Final.argZ m c) (Final.argY m c) (Final.argH m c) (Final.argP m c), fun c => Final.Plain.dgain (Final.argZ m c) (Final.argY m c) (Final.argH m c) (Final.argP m c), fun c => Final.Plain.loss (Final.argZ m c) (Final.argY m c) (Final.argH m c) (Final.argP m c), ?_, ?_⟩
  · refine (θ_run _ _ _).mono (fun r h c => ?_) (Kernel36Ideal.Value.run_blocks m ρ)
    obtain ⟨h0, h1, h2, h3, ha⟩ := h c
    exact ⟨h0.trans (Final.arr_dffn m c), h1.trans (Final.arr_derr m c), h2.trans (Final.arr_dgain m c), h3.trans (Final.arr_loss m c), ha⟩
  · refine (θ_run _ _ _).mono (fun r h c => ?_) (Reference36Ideal.Value.run m' ρ')
    obtain ⟨h0, h1, h2, h3, ha⟩ := h c
    obtain ⟨e0, e1, e2, e3⟩ := hargs c
    rw [Reference36Ideal.Value.res_main_v50, e0, e1, e2, e3] at h0
    rw [e0, e1, e2, e3] at h1
    rw [e0, e1, e2, e3] at h2
    rw [e0, e1, e2, e3] at h3
    exact ⟨h0, h1, h2, h3, ha⟩

/-- From equal arguments the kernel and the reference return the same keys and values of the memory and the same normed rows. -/
theorem equal37 : Cert.algebraic_Kernel37Ideal_Reference37Ideal := by
  intro m ρ m' ρ' _ hargs
  refine ⟨fun c => MemKv.Plain.res (MemKv.argX m c) (MemKv.argN m c) (MemKv.argW m c), fun c => MemKv.Plain.kept (MemKv.argX m c) (MemKv.argN m c), ?_, ?_⟩
  · refine (θ_run _ _ _).mono (fun r h c => ?_) (Kernel37Ideal.Value.run_blocks m ρ)
    obtain ⟨h0, h1, ha⟩ := h c
    exact ⟨h0.trans (MemKv.arr_res m c), h1.trans (MemKv.arr_kept m c), ha⟩
  · refine (θ_run _ _ _).mono (fun r h c => ?_) (Reference37Ideal.Value.run m' ρ')
    obtain ⟨h0, h1, ha⟩ := h c
    obtain ⟨e0, e1, e2⟩ := hargs c
    rw [e0, e1, e2] at h0
    rw [e0, e1] at h1
    exact ⟨h0.trans rfl, h1.trans rfl, ha⟩

/-- From equal arguments the kernel and the reference return the same gradient of the memory's weight. -/
theorem equal38 : Cert.algebraic_Kernel38Ideal_Reference38Ideal := by
  intro m ρ m' ρ' _ hargs
  refine ⟨fun c => MemDw.Plain.dw (MemDw.argH m c) (MemDw.argD m c), ?_, ?_⟩
  · refine (θ_run _ _ _).mono (fun r h c => ?_) (Kernel38Ideal.Value.run_blocks m ρ)
    obtain ⟨h0, ha⟩ := h c
    exact ⟨h0.trans (MemDw.arr_dw m c), ha⟩
  · refine (θ_run _ _ _).mono (fun r h c => ?_) (Reference38Ideal.Value.run m' ρ')
    obtain ⟨h0, ha⟩ := h c
    obtain ⟨e0, e1⟩ := hargs c
    rw [e0, e1] at h0
    exact ⟨h0, ha⟩

/-- From equal arguments the kernel and the reference return the same gradient through the memory's weight. -/
theorem equal39 : Cert.algebraic_Kernel39Ideal_Reference39Ideal := by
  intro m ρ m' ρ' _ hargs
  refine ⟨fun c => MemBack.Plain.prod (MemBack.argA m c) (MemBack.argW m c), ?_, ?_⟩
  · refine (θ_run _ _ _).mono (fun r h c => ?_) (Kernel39Ideal.Value.run_blocks m ρ)
    obtain ⟨h0, ha⟩ := h c
    exact ⟨h0.trans (MemBack.arr_prod m c), ha⟩
  · refine (θ_run _ _ _).mono (fun r h c => ?_) (Reference39Ideal.Value.run m' ρ')
    obtain ⟨h0, ha⟩ := h c
    obtain ⟨e0, e1⟩ := hargs c
    rw [e0, e1] at h0
    exact ⟨h0, ha⟩

/-- From equal arguments the kernel and the reference return the same projection to the forgetting gates. -/
theorem equal40 : Cert.algebraic_Kernel40Ideal_Reference40Ideal := by
  intro m ρ m' ρ' _ hargs
  refine ⟨fun c => ProjForget.Plain.prod (ProjForget.argA m c) (ProjForget.argW m c), ?_, ?_⟩
  · refine (θ_run _ _ _).mono (fun r h c => ?_) (Kernel40Ideal.Value.run_blocks m ρ)
    obtain ⟨h0, ha⟩ := h c
    exact ⟨h0.trans (ProjForget.arr_prod m c), ha⟩
  · refine (θ_run _ _ _).mono (fun r h c => ?_) (Reference40Ideal.Value.run m' ρ')
    obtain ⟨h0, ha⟩ := h c
    obtain ⟨e0, e1⟩ := hargs c
    rw [e0, e1] at h0
    exact ⟨h0, ha⟩

/-- From equal arguments the kernel and the reference return the same gradient of the forgetting gates' projection. -/
theorem equal41 : Cert.algebraic_Kernel41Ideal_Reference41Ideal := by
  intro m ρ m' ρ' _ hargs
  refine ⟨fun c => ForgetDw.Plain.dw (ForgetDw.argH m c) (ForgetDw.argD m c), ?_, ?_⟩
  · refine (θ_run _ _ _).mono (fun r h c => ?_) (Kernel41Ideal.Value.run_blocks m ρ)
    obtain ⟨h0, ha⟩ := h c
    exact ⟨h0.trans (ForgetDw.arr_dw m c), ha⟩
  · refine (θ_run _ _ _).mono (fun r h c => ?_) (Reference41Ideal.Value.run m' ρ')
    obtain ⟨h0, ha⟩ := h c
    obtain ⟨e0, e1⟩ := hargs c
    rw [e0, e1] at h0
    exact ⟨h0, ha⟩

/-- From equal arguments the kernel and the reference return the same gradient of the memory norm's gain. -/
theorem equal42 : Cert.algebraic_Kernel42Ideal_Reference42Ideal := by
  intro m ρ m' ρ' _ hargs
  refine ⟨fun c => MemNorm.Plain.dgain (MemNorm.argX m c) (MemNorm.argV m c), ?_, ?_⟩
  · refine (θ_run _ _ _).mono (fun r h c => ?_) (Kernel42Ideal.Value.run_blocks m ρ)
    obtain ⟨_, h0, ha⟩ := h c
    exact ⟨h0.trans (MemNorm.arr_dgain m c), ha⟩
  · refine (θ_run _ _ _).mono (fun r h c => ?_) (Reference42Ideal.Value.run m' ρ')
    obtain ⟨h0, ha⟩ := h c
    obtain ⟨e0, e1, e2⟩ := hargs c
    rw [e0, e2] at h0
    exact ⟨h0, ha⟩

/-- From equal arguments the kernel and the reference return the same residual stream and the same norm of it. -/
theorem equal43 : Cert.algebraic_Kernel43Ideal_Reference43Ideal := by
  intro m ρ m' ρ' _ hargs
  refine ⟨fun c => Post.Plain.hidden (Post.argY m c) (Post.argX m c) (Post.argP m c), fun c => Post.Plain.next (Post.argY m c) (Post.argX m c) (Post.argP m c) (Post.argN m c), ?_, ?_⟩
  · refine (θ_run _ _ _).mono (fun r h c => ?_) (Kernel43Ideal.Value.run_blocks m ρ)
    obtain ⟨h0, h1, ha⟩ := h c
    exact ⟨h0.trans (Post.arr_hidden m c), h1.trans (Post.arr_next m c), ha⟩
  · refine (θ_run _ _ _).mono (fun r h c => ?_) (Reference43Ideal.Value.run m' ρ')
    obtain ⟨h0, h1, ha⟩ := h c
    obtain ⟨e0, e1, e2, e3⟩ := hargs c
    rw [e0, e1, e2] at h0
    rw [e0, e1, e2, e3] at h1
    exact ⟨h0.trans rfl, h1.trans rfl, ha⟩

/-- From equal arguments the kernel and the reference return the same result of the attention to the memory. -/
theorem equal44 : Cert.algebraic_Kernel44Ideal_Reference44Ideal := by
  intro m ρ m' ρ' _ hargs
  refine ⟨fun c => MemAttn.Plain.out (MemAttn.argQ m c) (MemAttn.argK m c), ?_, ?_⟩
  · refine (θ_run _ _ _).mono (fun r h c => ?_) (Kernel44Ideal.Value.run_blocks m ρ)
    obtain ⟨h0, ha⟩ := h c
    exact ⟨h0.trans (MemAttn.arr_out m c), ha⟩
  · refine (θ_run _ _ _).mono (fun r h c => ?_) (Reference44Ideal.Value.run m' ρ')
    obtain ⟨h0, ha⟩ := h c
    obtain ⟨e0, e1⟩ := hargs c
    rw [e0, e1] at h0
    exact ⟨h0, ha⟩

/-- From equal arguments the kernel and the reference return the same shifted rows. -/
theorem equal45 : Cert.algebraic_Kernel45Ideal_Reference45Ideal := by
  intro m ρ m' ρ' _ hargs
  refine ⟨fun c => Shift.Plain.out (Shift.argP m c) (Shift.argU m c), ?_, ?_⟩
  · refine (θ_run _ _ _).mono (fun r h c => ?_) (Kernel45Ideal.Value.run_blocks m ρ)
    obtain ⟨h0, ha⟩ := h c
    exact ⟨h0.trans (Shift.arr_out m c), ha⟩
  · refine (θ_run _ _ _).mono (fun r h c => ?_) (Reference45Ideal.Value.run m' ρ')
    obtain ⟨h0, ha⟩ := h c
    obtain ⟨e0, e1⟩ := hargs c
    rw [e0, e1] at h0
    exact ⟨h0, ha⟩

/-- From equal arguments, the gradients of the shifted rows numbers, the kernel and the reference return the same gradients of the token shift. -/
theorem equal46 : Cert.algebraic_Kernel46Ideal_Reference46Ideal_pre_finite46 := by
  intro m ρ m' ρ' hpre hargs
  refine ⟨fun c => ShiftBack.Plain.dp (ShiftBack.argD m c) (ShiftBack.argU m c), fun c => ShiftBack.Plain.du (ShiftBack.argP m c) (ShiftBack.argD m c), ?_, ?_⟩
  · refine (θ_run _ _ _).mono (fun r h c => ?_) (Kernel46Ideal.Value.run_blocks m ρ)
    obtain ⟨h0, h1, ha⟩ := h c
    exact ⟨h0.trans (ShiftBack.arr_dp m c (ShiftBack.reals_of m c (hpre c))), h1.trans (ShiftBack.arr_du m c), ha⟩
  · refine (θ_run _ _ _).mono (fun r h c => ?_) (Reference46Ideal.Value.run m' ρ')
    obtain ⟨h0, h1, ha⟩ := h c
    obtain ⟨e0, e1, e2⟩ := hargs c
    rw [e1, e2] at h0
    rw [e0, e2] at h1
    exact ⟨h0.trans rfl, h1.trans rfl, ha⟩

/-- From equal arguments the kernel and the reference return the same gradients of the attention to the memory. -/
theorem equal47 : Cert.algebraic_Kernel47Ideal_Reference47Ideal := by
  intro m ρ m' ρ' _ hargs
  refine ⟨fun c => MemGrad.Plain.dq (MemGrad.argQ m c) (MemGrad.argK m c) (MemGrad.argG m c), fun c => MemGrad.Plain.dk (MemGrad.argQ m c) (MemGrad.argK m c) (MemGrad.argG m c), fun c => MemGrad.Plain.dv (MemGrad.argQ m c) (MemGrad.argK m c) (MemGrad.argG m c), ?_, ?_⟩
  · refine (θ_run _ _ _).mono (fun r h c => ?_) (Kernel47Ideal.Value.run_blocks m ρ)
    obtain ⟨h0, h1, h2, ha⟩ := h c
    exact ⟨h0.trans (MemGrad.arr_dq m c), h1.trans (MemGrad.arr_dk m c), h2.trans (MemGrad.arr_dv m c), ha⟩
  · refine (θ_run _ _ _).mono (fun r h c => ?_) (Reference47Ideal.Value.run m' ρ')
    obtain ⟨h0, h1, h2, ha⟩ := h c
    obtain ⟨e0, e1, e2⟩ := hargs c
    rw [Reference47Ideal.Value.res_main_v69, e0, e1, e2] at h0
    rw [Reference47Ideal.Value.res_main_v70, e0, e1, e2] at h1
    rw [Reference47Ideal.Value.res_main_v71, e0, e1, e2] at h2
    exact ⟨h0.trans rfl, h1.trans rfl, h2.trans rfl, ha⟩

theorem claim : Cert.Claim := ⟨inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance,
  fun m ρ _ => Kernel.Gen.frame m ρ,
  fun m ρ _ => KernelIdeal.Gen.frame m ρ,
  fun m ρ _ => KernelIdeal.Gen.frame m ρ,
  fun m ρ _ => reference_frame m ρ trivial,
  fun m ρ _ => reference_frame m ρ trivial,
  fun m ρ _ => Kernel2.Gen.frame m ρ,
  fun m ρ _ => Kernel2Ideal.Gen.frame m ρ,
  reference2_frame,
  fun m ρ _ => Kernel3.Gen.frame m ρ,
  fun m ρ _ => Kernel3Ideal.Gen.frame m ρ,
  reference3_frame,
  fun m ρ _ => Kernel4.Gen.frame m ρ,
  fun m ρ _ => Kernel4Ideal.Gen.frame m ρ,
  reference4_frame,
  fun m ρ _ => Kernel5.Gen.frame m ρ,
  fun m ρ _ => Kernel5Ideal.Gen.frame m ρ,
  reference5_frame,
  fun m ρ _ => Kernel6.Gen.frame m ρ,
  fun m ρ _ => Kernel6Ideal.Gen.frame m ρ,
  reference6_frame,
  fun m ρ _ => Kernel8.Gen.frame m ρ,
  fun m ρ _ => Kernel8Ideal.Gen.frame m ρ,
  reference8_frame,
  fun m ρ _ => Kernel9.Gen.frame m ρ,
  fun m ρ _ => Kernel9Ideal.Gen.frame m ρ,
  reference9_frame,
  fun m ρ _ => Kernel10.Gen.frame m ρ,
  fun m ρ _ => Kernel10Ideal.Gen.frame m ρ,
  reference10_frame,
  fun m ρ _ => Kernel11.Gen.frame m ρ,
  fun m ρ _ => Kernel11Ideal.Gen.frame m ρ,
  reference11_frame,
  fun m ρ _ => Kernel12.Gen.frame m ρ,
  fun m ρ _ => Kernel12Ideal.Gen.frame m ρ,
  reference12_frame,
  fun m ρ _ => Kernel13.Gen.frame m ρ,
  fun m ρ _ => Kernel13Ideal.Gen.frame m ρ,
  reference13_frame,
  fun m ρ _ => Kernel14.Gen.frame m ρ,
  fun m ρ _ => Kernel14Ideal.Gen.frame m ρ,
  reference14_frame,
  fun m ρ _ => Kernel15.Gen.frame m ρ,
  fun m ρ _ => Kernel15Ideal.Gen.frame m ρ,
  reference15_frame,
  fun m ρ _ => Kernel16.Gen.frame m ρ,
  fun m ρ _ => Kernel16Ideal.Gen.frame m ρ,
  reference16_frame,
  fun m ρ _ => Kernel17.Gen.frame m ρ,
  fun m ρ _ => Kernel17Ideal.Gen.frame m ρ,
  reference17_frame,
  fun m ρ _ => Kernel18.Gen.frame m ρ,
  fun m ρ _ => Kernel18Ideal.Gen.frame m ρ,
  reference18_frame,
  fun m ρ _ => Kernel19.Gen.frame m ρ,
  fun m ρ _ => Kernel19Ideal.Gen.frame m ρ,
  reference19_frame,
  fun m ρ _ => Kernel20.Gen.frame m ρ,
  fun m ρ _ => Kernel20Ideal.Gen.frame m ρ,
  reference20_frame,
  fun m ρ _ => Kernel21.Gen.frame m ρ,
  fun m ρ _ => Kernel21Ideal.Gen.frame m ρ,
  reference21_frame,
  fun m ρ _ => Kernel22.Gen.frame m ρ,
  fun m ρ _ => Kernel22Ideal.Gen.frame m ρ,
  reference22_frame,
  fun m ρ _ => Kernel23.Gen.frame m ρ,
  fun m ρ _ => Kernel23Ideal.Gen.frame m ρ,
  reference23_frame,
  fun m ρ _ => Kernel24.Gen.frame m ρ,
  fun m ρ _ => Kernel24Ideal.Gen.frame m ρ,
  reference24_frame,
  fun m ρ _ => Kernel25.Gen.frame m ρ,
  fun m ρ _ => Kernel25Ideal.Gen.frame m ρ,
  reference25_frame,
  fun m ρ _ => Kernel26.Gen.frame m ρ,
  fun m ρ _ => Kernel26Ideal.Gen.frame m ρ,
  reference26_frame,
  fun m ρ _ => Kernel27.Gen.frame m ρ,
  fun m ρ _ => Kernel27Ideal.Gen.frame m ρ,
  reference27_frame,
  fun m ρ _ => Kernel28.Gen.frame m ρ,
  fun m ρ _ => Kernel28Ideal.Gen.frame m ρ,
  reference28_frame,
  fun m ρ _ => Kernel29.Gen.frame m ρ,
  fun m ρ _ => Kernel29Ideal.Gen.frame m ρ,
  reference29_frame,
  fun m ρ _ => Kernel30.Gen.frame m ρ,
  fun m ρ _ => Kernel30Ideal.Gen.frame m ρ,
  reference30_frame,
  fun m ρ _ => Kernel31.Gen.frame m ρ,
  fun m ρ _ => Kernel31Ideal.Gen.frame m ρ,
  reference31_frame,
  fun m ρ _ => Kernel32.Gen.frame m ρ,
  fun m ρ _ => Kernel32Ideal.Gen.frame m ρ,
  reference32_frame,
  fun m ρ _ => Kernel33.Gen.frame m ρ,
  fun m ρ _ => Kernel33Ideal.Gen.frame m ρ,
  reference33_frame,
  fun m ρ _ => Kernel34.Gen.frame m ρ,
  fun m ρ _ => Kernel34Ideal.Gen.frame m ρ,
  reference34_frame,
  fun m ρ _ => Kernel35.Gen.frame m ρ,
  fun m ρ _ => Kernel35Ideal.Gen.frame m ρ,
  reference35_frame,
  fun m ρ _ => Kernel36.Gen.frame m ρ,
  fun m ρ _ => Kernel36Ideal.Gen.frame m ρ,
  reference36_frame,
  fun m ρ _ => Kernel37.Gen.frame m ρ,
  fun m ρ _ => Kernel37Ideal.Gen.frame m ρ,
  reference37_frame,
  fun m ρ _ => Kernel38.Gen.frame m ρ,
  fun m ρ _ => Kernel38Ideal.Gen.frame m ρ,
  reference38_frame,
  fun m ρ _ => Kernel39.Gen.frame m ρ,
  fun m ρ _ => Kernel39Ideal.Gen.frame m ρ,
  reference39_frame,
  fun m ρ _ => Kernel40.Gen.frame m ρ,
  fun m ρ _ => Kernel40Ideal.Gen.frame m ρ,
  reference40_frame,
  fun m ρ _ => Kernel41.Gen.frame m ρ,
  fun m ρ _ => Kernel41Ideal.Gen.frame m ρ,
  reference41_frame,
  fun m ρ _ => Kernel42.Gen.frame m ρ,
  fun m ρ _ => Kernel42Ideal.Gen.frame m ρ,
  reference42_frame,
  fun m ρ _ => Kernel43.Gen.frame m ρ,
  fun m ρ _ => Kernel43Ideal.Gen.frame m ρ,
  reference43_frame,
  fun m ρ _ => Kernel44.Gen.frame m ρ,
  fun m ρ _ => Kernel44Ideal.Gen.frame m ρ,
  reference44_frame,
  fun m ρ _ => Kernel45.Gen.frame m ρ,
  fun m ρ _ => Kernel45Ideal.Gen.frame m ρ,
  reference45_frame,
  fun m ρ _ => Kernel46.Gen.frame m ρ,
  fun m ρ _ => Kernel46Ideal.Gen.frame m ρ,
  fun m ρ _ => Kernel46Ideal.Gen.frame m ρ,
  fun m ρ _ => reference46_frame m ρ trivial,
  fun m ρ _ => reference46_frame m ρ trivial,
  fun m ρ _ => Kernel47.Gen.frame m ρ,
  fun m ρ _ => Kernel47Ideal.Gen.frame m ρ,
  reference47_frame,
  IdealRules.named_const.statement _ _ _ _ _ rfl, equal,
  trivial, equal2, trivial, equal3, trivial, equal4, trivial, equal5, trivial, equal6, trivial, equal8, trivial, equal9, trivial, equal10, trivial, equal11, trivial, equal12, trivial, equal13, trivial, equal14, trivial, equal15, trivial, equal16, trivial, equal17, trivial, equal18, trivial, equal19, trivial, equal20, trivial, equal21, trivial, equal22, trivial, equal23, trivial, equal24, trivial, equal25, trivial, equal26, trivial, equal27, trivial, equal28, trivial, equal29, trivial, equal30, trivial, equal31, trivial, equal32, trivial, equal33, trivial, equal34, trivial, equal35, trivial, equal36, trivial, equal37, trivial, equal38, trivial, equal39, trivial, equal40, trivial, equal41, trivial, equal42, trivial, equal43, trivial, equal44, trivial, equal45, trivial, equal46, trivial, equal47⟩

end Cert.Proof

end
